-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v55_0)) (v1 : (c : Dev Cert.KernelIdeal.nD) → Buf (Elt Ideal) ((c.tc : Thread Cert.KernelIdeal.nD Cert.KernelIdeal.τ).loc Cert.KernelIdeal.main_v55_1)) (v2 : (c : Dev Cert.KernelIdeal.nD) → Buf (Elt Ideal) ((c.tc : Thread Cert.KernelIdeal.nD Cert.KernelIdeal.τ).loc Cert.KernelIdeal.main_v55_2)) (v3 : (c : Dev Cert.KernelIdeal.nD) → Buf (Elt Ideal) ((c.tc : Thread Cert.KernelIdeal.nD Cert.KernelIdeal.τ).loc Cert.KernelIdeal.main_v55_3)) (v4 : (c : Dev Cert.KernelIdeal.nD) → Buf (Elt Ideal) ((c.tc : Thread Cert.KernelIdeal.nD Cert.KernelIdeal.τ).loc Cert.KernelIdeal.main_v55_4)) (v5 : (c : Dev Cert.KernelIdeal.nD) → Buf (Elt Ideal) ((c.tc : Thread Cert.KernelIdeal.nD Cert.KernelIdeal.τ).loc Cert.KernelIdeal.main_v55_5)) (v6 : (c : Dev Cert.KernelIdeal.nD) → Buf (Elt Ideal) ((c.tc : Thread Cert.KernelIdeal.nD Cert.KernelIdeal.τ).loc Cert.KernelIdeal.main_v55_6)) (v7 : (c : Dev Cert.KernelIdeal.nD) → Buf (Elt Ideal) ((c.tc : Thread Cert.KernelIdeal.nD Cert.KernelIdeal.τ).loc Cert.KernelIdeal.main_v55_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55_0) = v0 c
          ∧ r.2.mem ((c.tc : Thread Cert.KernelIdeal.nD Cert.KernelIdeal.τ).loc Cert.KernelIdeal.main_v55_1) = v1 c
          ∧ r.2.mem ((c.tc : Thread Cert.KernelIdeal.nD Cert.KernelIdeal.τ).loc Cert.KernelIdeal.main_v55_2) = v2 c
          ∧ r.2.mem ((c.tc : Thread Cert.KernelIdeal.nD Cert.KernelIdeal.τ).loc Cert.KernelIdeal.main_v55_3) = v3 c
          ∧ r.2.mem ((c.tc : Thread Cert.KernelIdeal.nD Cert.KernelIdeal.τ).loc Cert.KernelIdeal.main_v55_4) = v4 c
          ∧ r.2.mem ((c.tc : Thread Cert.KernelIdeal.nD Cert.KernelIdeal.τ).loc Cert.KernelIdeal.main_v55_5) = v5 c
          ∧ r.2.mem ((c.tc : Thread Cert.KernelIdeal.nD Cert.KernelIdeal.τ).loc Cert.KernelIdeal.main_v55_6) = v6 c
          ∧ r.2.mem ((c.tc : Thread Cert.KernelIdeal.nD Cert.KernelIdeal.τ).loc Cert.KernelIdeal.main_v55_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_v147) = v1 c
          ∧ r.2.mem ((c.tc : Thread Cert.ReferenceIdeal.nD Cert.ReferenceIdeal.τ).loc Cert.ReferenceIdeal.main_v148) = v2 c
          ∧ r.2.mem ((c.tc : Thread Cert.ReferenceIdeal.nD Cert.ReferenceIdeal.τ).loc Cert.ReferenceIdeal.main_v149) = v3 c
          ∧ r.2.mem ((c.tc : Thread Cert.ReferenceIdeal.nD Cert.ReferenceIdeal.τ).loc Cert.ReferenceIdeal.main_v151) = v4 c
          ∧ r.2.mem ((c.tc : Thread Cert.ReferenceIdeal.nD Cert.ReferenceIdeal.τ).loc Cert.ReferenceIdeal.main_v152) = v5 c
          ∧ r.2.mem ((c.tc : Thread Cert.ReferenceIdeal.nD Cert.ReferenceIdeal.τ).loc Cert.ReferenceIdeal.main_v153) = v6 c
          ∧ r.2.mem ((c.tc : Thread Cert.ReferenceIdeal.nD Cert.ReferenceIdeal.τ).loc Cert.ReferenceIdeal.main_v154) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v18)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v13) = v0 c
          ∧ r.2.mem ((c.tc : Thread Cert.Reference11Ideal.nD Cert.Reference11Ideal.τ).loc Cert.Reference11Ideal.main_v27) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)) (v2 : (c : Dev Cert.Kernel12Ideal.nD) → Buf (Elt Ideal) ((c.tc : Thread Cert.Kernel12Ideal.nD Cert.Kernel12Ideal.τ).loc Cert.Kernel12Ideal.main_v4_2)) (v3 : (c : Dev Cert.Kernel12Ideal.nD) → Buf (Elt Ideal) ((c.tc : Thread Cert.Kernel12Ideal.nD Cert.Kernel12Ideal.τ).loc Cert.Kernel12Ideal.main_v4_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_v4_2) = v2 c
          ∧ r.2.mem ((c.tc : Thread Cert.Kernel12Ideal.nD Cert.Kernel12Ideal.τ).loc Cert.Kernel12Ideal.main_v4_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v8) = v0 c
          ∧ r.2.mem ((c.tc : Thread Cert.Reference12Ideal.nD Cert.Reference12Ideal.τ).loc Cert.Reference12Ideal.main_v32) = v1 c
          ∧ r.2.mem ((c.tc : Thread Cert.Reference12Ideal.nD Cert.Reference12Ideal.τ).loc Cert.Reference12Ideal.main_v13) = v2 c
          ∧ r.2.mem ((c.tc : Thread Cert.Reference12Ideal.nD Cert.Reference12Ideal.τ).loc Cert.Reference12Ideal.main_v19) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v28) = v0 c
          ∧ r.2.mem ((c.tc : Thread Cert.Reference13Ideal.nD Cert.Reference13Ideal.τ).loc Cert.Reference13Ideal.main_v32) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v36) = v0 c
          ∧ r.2.mem ((c.tc : Thread Cert.Reference14Ideal.nD Cert.Reference14Ideal.τ).loc Cert.Reference14Ideal.main_v37) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S2048x7184 : Shape := ⟨2, ![2048, 7184]⟩
abbrev S16x512 : Shape := ⟨2, ![16, 512]⟩
abbrev S512 : Shape := ⟨1, ![512]⟩
abbrev S1024 : Shape := ⟨1, ![1024]⟩
abbrev S2048x2048 : Shape := ⟨2, ![2048, 2048]⟩
abbrev S_ : Shape := ⟨0, ![]⟩

class Facts : Prop where
  bcast_S_S2048x7184 : S_.BroadcastsInDim S2048x7184 (![] : Fin 0 → Fin S2048x7184.rank)
  bcast_S_S16x512 : S_.BroadcastsInDim S16x512 (![] : Fin 0 → Fin S16x512.rank)
  bcast_S_S512 : S_.BroadcastsInDim S512 (![] : Fin 0 → Fin S512.rank)
  bcast_S_S1024 : S_.BroadcastsInDim S1024 (![] : Fin 0 → Fin S1024.rank)
  bcast_S_S2048x2048 : S_.BroadcastsInDim S2048x2048 (![] : Fin 0 → Fin S2048x2048.rank)

variable [Facts]

def fn {F : FTy → Type} [FloatOps F] (main_arg0 : FVec F S2048x7184 .f32) (main_arg1 : FVec F S16x512 .f32) (main_arg2 : FVec F S512 .f32) (main_arg3 : FVec F S1024 .f32) (main_arg4 : FVec F S2048x2048 .f32) : IVec S2048x7184 1 × IVec S16x512 1 × IVec S512 1 × IVec S1024 1 × IVec S2048x2048 1 :=
  let main_v0 : FVec F S2048x7184 .f32 := Host.absf main_arg0
  let main_cst : FVec F S_ .f32 := constant S_ .f32 0x7F800000#32
  let main_v1 : FVec F S2048x7184 .f32 := broadcastInDim S2048x7184 ![] bcast_S_S2048x7184 main_cst
  let main_v2 : IVec S2048x7184 1 := cmpf .olt main_v0 main_v1
  let main_v3 : FVec F S16x512 .f32 := Host.absf main_arg1
  let main_cst_0 : FVec F S_ .f32 := constant S_ .f32 0x7F800000#32
  let main_v4 : FVec F S16x512 .f32 := broadcastInDim S16x512 ![] bcast_S_S16x512 main_cst_0
  let main_v5 : IVec S16x512 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S2048x2048 .f32 := Host.absf main_arg4
  let main_cst_3 : FVec F S_ .f32 := constant S_ .f32 0x7F800000#32
  let main_v13 : FVec F S2048x2048 .f32 := broadcastInDim S2048x2048 ![] bcast_S_S2048x2048 main_cst_3
  let main_v14 : IVec S2048x2048 1 := cmpf .olt main_v12 main_v13
  (main_v2, main_v5, main_v8, main_v11, main_v14)
-- ==== Kernel.lean ====
abbrev S2048x7184 : Shape := ⟨2, ![2048, 7184]⟩
abbrev S16x512 : Shape := ⟨2, ![16, 512]⟩
abbrev S512 : Shape := ⟨1, ![512]⟩
abbrev S1024 : Shape := ⟨1, ![1024]⟩
abbrev S2048x2048 : Shape := ⟨2, ![2048, 2048]⟩
abbrev S2048x512 : Shape := ⟨2, ![2048, 512]⟩
abbrev S2048x1024 : Shape := ⟨2, ![2048, 1024]⟩
abbrev S2048x16 : Shape := ⟨2, ![2048, 16]⟩
abbrev S1x512 : Shape := ⟨2, ![1, 512]⟩
abbrev S_ : Shape := ⟨0, ![]⟩
abbrev S32x64x4x128 : Shape := ⟨4, ![32, 64, 4, 128]⟩
abbrev S32x1x4x128 : Shape := ⟨4, ![32, 1, 4, 128]⟩
abbrev S32x4x128 : Shape := ⟨3, ![32, 4, 128]⟩
abbrev S32x64x4x256 : Shape := ⟨4, ![32, 64, 4, 256]⟩
abbrev S32x4x128x256 : Shape := ⟨4, ![32, 4, 128, 256]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S32x32x1x1 : Shape := ⟨4, ![32, 32, 1, 1]⟩
abbrev S1x32x4x128 : Shape := ⟨4, ![1, 32, 4, 128]⟩
abbrev S32x32x4x128 : Shape := ⟨4, ![32, 32, 4, 128]⟩
abbrev S4x128x256x32 : Shape := ⟨4, ![4, 128, 256, 32]⟩
abbrev S32x4x256x64 : Shape := ⟨4, ![32, 4, 256, 64]⟩
abbrev S2048x3072 : Shape := ⟨2, ![2048, 3072]⟩
abbrev S2048x4096 : Shape := ⟨2, ![2048, 4096]⟩
abbrev S2048x112 : Shape := ⟨2, ![2048, 112]⟩
abbrev S2048x7296 : Shape := ⟨2, ![2048, 7296]⟩
abbrev S128x512 : Shape := ⟨2, ![128, 512]⟩
abbrev S1x1024 : Shape := ⟨2, ![1, 1024]⟩
abbrev S32x4x256x128 : Shape := ⟨4, ![32, 4, 256, 128]⟩
abbrev S2048x128 : Shape := ⟨2, ![2048, 128]⟩
abbrev S256x1024 : Shape := ⟨2, ![256, 1024]⟩
abbrev S256x512 : Shape := ⟨2, ![256, 512]⟩
abbrev S256x128 : Shape := ⟨2, ![256, 128]⟩
abbrev S4x4x256x128 : Shape := ⟨4, ![4, 4, 256, 128]⟩
abbrev S1x4x256x128 : Shape := ⟨4, ![1, 4, 256, 128]⟩
abbrev S4x256x128 : Shape := ⟨3, ![4, 256, 128]⟩
abbrev S256x256 : Shape := ⟨2, ![256, 256]⟩
abbrev S1x256 : Shape := ⟨2, ![1, 256]⟩
abbrev S256 : Shape := ⟨1, ![256]⟩
abbrev S256x1 : Shape := ⟨2, ![256, 1]⟩
abbrev S64x256 : Shape := ⟨2, ![64, 256]⟩
abbrev S1x1x256x128 : Shape := ⟨4, ![1, 1, 256, 128]⟩
abbrev S64x128 : Shape := ⟨2, ![64, 128]⟩
abbrev S1x256x128 : Shape := ⟨3, ![1, 256, 128]⟩
abbrev S1x128 : Shape := ⟨2, ![1, 128]⟩
abbrev S64x512 : Shape := ⟨2, ![64, 512]⟩
abbrev S128 : Shape := ⟨1, ![128]⟩

abbrev nBuf : Space → Nat
  | .hbm => 96
  | .vmem => 38
  | .smem => 0
  | _ => 0

abbrev bufTy : (tb : Table) → Fin (tcTables nBuf tb) → BufTy
  | .hbm, ⟨0, _⟩ => ⟨S2048x7184, .f32⟩
  | .hbm, ⟨1, _⟩ => ⟨S16x512, .f32⟩
  | .hbm, ⟨2, _⟩ => ⟨S512, .f32⟩
  | .hbm, ⟨3, _⟩ => ⟨S1024, .f32⟩
  | .hbm, ⟨4, _⟩ => ⟨S2048x2048, .f32⟩
  | .hbm, ⟨5, _⟩ => ⟨S2048x512, .f32⟩
  | .hbm, ⟨6, _⟩ => ⟨S2048x512, .f32⟩
  | .hbm, ⟨7, _⟩ => ⟨S2048x1024, .f32⟩
  | .hbm, ⟨8, _⟩ => ⟨S2048x1024, .f32⟩
  | .hbm, ⟨9, _⟩ => ⟨S2048x16, .f32⟩
  | .hbm, ⟨10, _⟩ => ⟨S2048x512, .f32⟩
  | .hbm, ⟨11, _⟩ => ⟨S1x512, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S2048x512, .i1⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S32x64x4x128, .f32⟩
  | .hbm, ⟨34, _⟩ => ⟨S_, .f32⟩
  | .hbm, ⟨35, _⟩ => ⟨S_, .f32⟩
  | .hbm, ⟨36, _⟩ => ⟨S32x64x4x128, .f32⟩
  | .hbm, ⟨37, _⟩ => ⟨S32x1x4x128, .f32⟩
  | .hbm, ⟨38, _⟩ => ⟨S32x4x128, .f32⟩
  | .hbm, ⟨39, _⟩ => ⟨S32x64x4x128, .f32⟩
  | .hbm, ⟨40, _⟩ => ⟨S32x1x4x128, .f32⟩
  | .hbm, ⟨41, _⟩ => ⟨S32x64x4x128, .f32⟩
  | .hbm, ⟨42, _⟩ => ⟨S32x64x4x128, .f32⟩
  | .hbm, ⟨43, _⟩ => ⟨S32x64x4x128, .f32⟩
  | .hbm, ⟨44, _⟩ => ⟨S32x64x4x128, .f32⟩
  | .hbm, ⟨45, _⟩ => ⟨S32x64x4x256, .f32⟩
  | .hbm, ⟨46, _⟩ => ⟨S32x4x128x256, .f32⟩
  | .hbm, ⟨47, _⟩ => ⟨S_, .f32⟩
  | .hbm, ⟨48, _⟩ => ⟨S_, .f32⟩
  | .hbm, ⟨49, _⟩ => ⟨S32x4x128, .f32⟩
  | .hbm, ⟨50, _⟩ => ⟨S32, .i32⟩
  | .hbm, ⟨51, _⟩ => ⟨S32x1, .i32⟩
  | .hbm, ⟨52, _⟩ => ⟨S1x32, .i32⟩
  | .hbm, ⟨53, _⟩ => ⟨S32x32, .i32⟩
  | .hbm, ⟨54, _⟩ => ⟨S32x32, .i32⟩
  | .hbm, ⟨55, _⟩ => ⟨S32x32, .i1⟩
  | .hbm, ⟨56, _⟩ => ⟨S32x32x1x1, .i1⟩
  | .hbm, ⟨57, _⟩ => ⟨S32x1x4x128, .f32⟩
  | .hbm, ⟨58, _⟩ => ⟨S1x32x4x128, .f32⟩
  | .hbm, ⟨59, _⟩ => ⟨S32x32x4x128, .f32⟩
  | .hbm, ⟨60, _⟩ => ⟨S32x32x4x128, .f32⟩
  | .hbm, ⟨61, _⟩ => ⟨S32x32x4x128, .f32⟩
  | .hbm, ⟨62, _⟩ => ⟨S32x32x4x128, .f32⟩
  | .hbm, ⟨63, _⟩ => ⟨S_, .f32⟩
  | .hbm, ⟨64, _⟩ => ⟨S_, .f32⟩
  | .hbm, ⟨65, _⟩ => ⟨S32x32x4x128, .i1⟩
  | .hbm, ⟨66, _⟩ => ⟨S32x32x4x128, .f32⟩
  | .hbm, ⟨67, _⟩ => ⟨S32x32x4x128, .f32⟩
  | .hbm, ⟨68, _⟩ => ⟨S4x128x256x32, .f32⟩
  | .hbm, ⟨69, _⟩ => ⟨S32x4x128x256, .f32⟩
  | .hbm, ⟨70, _⟩ => ⟨S32x64x4x128, .f32⟩
  | .hbm, ⟨71, _⟩ => ⟨S_, .f32⟩
  | .hbm, ⟨72, _⟩ => ⟨S32x64x4x128, .f32⟩
  | .hbm, ⟨73, _⟩ => ⟨S32x64x4x128, .f32⟩
  | .hbm, ⟨74, _⟩ => ⟨S32x4x256x64, .f32⟩
  | .hbm, ⟨75, _⟩ => ⟨S32x64x4x256, .f32⟩
  | .hbm, ⟨76, _⟩ => ⟨S2048x3072, .f32⟩
  | .hbm, ⟨77, _⟩ => ⟨S2048x4096, .f32⟩
  | .hbm, ⟨78, _⟩ => ⟨S_, .f32⟩
  | .hbm, ⟨79, _⟩ => ⟨S2048x112, .f32⟩
  | .hbm, ⟨80, _⟩ => ⟨S2048x7296, .f32⟩
  | .hbm, ⟨81, _⟩ => ⟨S_, .i32⟩
  | .hbm, ⟨82, _⟩ => ⟨S_, .f32⟩
  | .hbm, ⟨83, _⟩ => ⟨S128x512, .f32⟩
  | .hbm, ⟨84, _⟩ => ⟨S2048x1024, .f32⟩
  | .hbm, ⟨85, _⟩ => ⟨S1x1024, .f32⟩
  | .hbm, ⟨86, _⟩ => ⟨S32x4x256x128, .f32⟩
  | .hbm, ⟨87, _⟩ => ⟨S2048x512, .f32⟩
  | .hbm, ⟨88, _⟩ => ⟨S2048x512, .bf16⟩
  | .hbm, ⟨89, _⟩ => ⟨S2048x512, .bf16⟩
  | .hbm, ⟨90, _⟩ => ⟨S2048x1024, .bf16⟩
  | .hbm, ⟨91, _⟩ => ⟨S2048x1024, .bf16⟩
  | .hbm, ⟨92, _⟩ => ⟨S2048x128, .bf16⟩
  | .hbm, ⟨93, _⟩ => ⟨S128x512, .f32⟩
  | .hbm, ⟨94, _⟩ => ⟨S1x512, .f32⟩
  | .hbm, ⟨95, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x128, .f32⟩
  | .local _ .vmem, ⟨13, _⟩ => ⟨S256x128, .f32⟩
  | .local _ .vmem, ⟨14, _⟩ => ⟨S128x512, .f32⟩
  | .local _ .vmem, ⟨15, _⟩ => ⟨S1x1024, .f32⟩
  | .local _ .vmem, ⟨16, _⟩ => ⟨S4x4x256x128, .f32⟩
  | .local _ .vmem, ⟨17, _⟩ => ⟨S4x4x256x128, .f32⟩
  | .local _ .vmem, ⟨18, _⟩ => ⟨S1x4x256x128, .f32⟩
  | .local _ .vmem, ⟨19, _⟩ => ⟨S1x4x256x128, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x128, .bf16⟩
  | .local _ .vmem, ⟨33, _⟩ => ⟨S256x128, .bf16⟩
  | .local _ .vmem, ⟨34, _⟩ => ⟨S128x512, .f32⟩
  | .local _ .vmem, ⟨35, _⟩ => ⟨S1x512, .f32⟩
  | .local _ .vmem, ⟨36, _⟩ => ⟨S1x1024, .f32⟩
  | .local _ .vmem, ⟨37, _⟩ => ⟨S4x256x128, .f32⟩
  | _, _ => ⟨S2048x7184, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_call1_call0_cst : Ref sig .tc := ⟨.hbm, 34, rfl⟩
abbrev main_call1_call0_v0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call2_call0_cst : Ref sig .tc := ⟨.hbm, 47, rfl⟩
abbrev main_call2_call0_v0 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_0 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_1 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_2 : Ref sig .tc := ⟨.hbm, 78, rfl⟩
abbrev main_v48 : Ref sig .tc := ⟨.hbm, 79, rfl⟩
abbrev main_v49 : Ref sig .tc := ⟨.hbm, 80, rfl⟩
abbrev main_c : Ref sig .tc := ⟨.hbm, 81, rfl⟩
abbrev main_call4_v0 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55_0 : Ref sig .tc := ⟨.hbm, 88, rfl⟩
abbrev main_v55_1 : Ref sig .tc := ⟨.hbm, 89, rfl⟩
abbrev main_v55_2 : Ref sig .tc := ⟨.hbm, 90, rfl⟩
abbrev main_v55_3 : Ref sig .tc := ⟨.hbm, 91, rfl⟩
abbrev main_v55_4 : Ref sig .tc := ⟨.hbm, 92, rfl⟩
abbrev main_v55_5 : Ref sig .tc := ⟨.hbm, 93, rfl⟩
abbrev main_v55_6 : Ref sig .tc := ⟨.hbm, 94, rfl⟩
abbrev main_v55_7 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg19_0 : Ref sig .tc := ⟨.vmem, 35, rfl⟩
abbrev cc0_stg20_0 : Ref sig .tc := ⟨.vmem, 36, rfl⟩
abbrev cc0_scratch0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem19_0 : DmaSem sig := 35
abbrev cc0_sem20_0 : DmaSem sig := 36

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c2_i32 : BitVec 32 := 2#32
  let c0_i32 : BitVec 32 := 0#32
  ![v0.toNat, c2_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c56_i32 : BitVec 32 := 56#32
  let c0_i32 : BitVec 32 := 0#32
  ![v0.toNat, c56_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_10 (i : grid0.Coords) : Fin 4 → Nat :=
  let arg0 : BitVec 32 := BitVec.ofNat 32 (i 0).val
  let c7_i32 : BitVec 32 := 7#32
  let v0 : BitVec 32 := Scalar.subi c7_i32 arg0
  let c4_i32 : BitVec 32 := 4#32
  let v1 : BitVec 32 := Scalar.muli c4_i32 v0
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  let c0_i32_3 : BitVec 32 := 0#32
  ![v3.toNat, c0_i32_0.toNat, c0_i32_1.toNat, c0_i32_2.toNat]

def cc0_transform_11 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x4x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S128x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== ReferenceIdeal.lean ====
abbrev S2048x7184 : Shape := ⟨2, ![2048, 7184]⟩
abbrev S16x512 : Shape := ⟨2, ![16, 512]⟩
abbrev S512 : Shape := ⟨1, ![512]⟩
abbrev S1024 : Shape := ⟨1, ![1024]⟩
abbrev S2048x2048 : Shape := ⟨2, ![2048, 2048]⟩
abbrev S2048x512 : Shape := ⟨2, ![2048, 512]⟩
abbrev S2048x1024 : Shape := ⟨2, ![2048, 1024]⟩
abbrev S2048x16 : Shape := ⟨2, ![2048, 16]⟩
abbrev S1x512 : Shape := ⟨2, ![1, 512]⟩
abbrev S_ : Shape := ⟨0, ![]⟩
abbrev S32x64x4x128 : Shape := ⟨4, ![32, 64, 4, 128]⟩
abbrev S32x64x4x256 : Shape := ⟨4, ![32, 64, 4, 256]⟩
abbrev S32x1x4x128 : Shape := ⟨4, ![32, 1, 4, 128]⟩
abbrev S32x4x128 : Shape := ⟨3, ![32, 4, 128]⟩
abbrev S32x4x128x256 : Shape := ⟨4, ![32, 4, 128, 256]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S32x32x1x1 : Shape := ⟨4, ![32, 32, 1, 1]⟩
abbrev S1x32x4x128 : Shape := ⟨4, ![1, 32, 4, 128]⟩
abbrev S32x32x4x128 : Shape := ⟨4, ![32, 32, 4, 128]⟩
abbrev S4x128x256x32 : Shape := ⟨4, ![4, 128, 256, 32]⟩
abbrev S32x4x256x64 : Shape := ⟨4, ![32, 4, 256, 64]⟩
abbrev S2048x4x256 : Shape := ⟨3, ![2048, 4, 256]⟩
abbrev S2048x4 : Shape := ⟨2, ![2048, 4]⟩
abbrev S2048x4x1 : Shape := ⟨3, ![2048, 4, 1]⟩
abbrev S4x256 : Shape := ⟨2, ![4, 256]⟩
abbrev S1x4x256 : Shape := ⟨3, ![1, 4, 256]⟩
abbrev S32x4x64x128 : Shape := ⟨4, ![32, 4, 64, 128]⟩
abbrev S32x4x256x128 : Shape := ⟨4, ![32, 4, 256, 128]⟩
abbrev S4x128x32x32 : Shape := ⟨4, ![4, 128, 32, 32]⟩
abbrev S32x4x128x64 : Shape := ⟨4, ![32, 4, 128, 64]⟩
abbrev S512x16 : Shape := ⟨2, ![512, 16]⟩
abbrev S2048x128 : Shape := ⟨2, ![2048, 128]⟩
abbrev S128x512 : Shape := ⟨2, ![128, 512]⟩
abbrev S1x1024 : Shape := ⟨2, ![1, 1024]⟩

abbrev nBuf : Space → Nat
  | .hbm => 266
  | .vmem => 0
  | .smem => 0
  | _ => 0

abbrev hbmTy0_0 (i : Nat) : BufTy := match i % 128 with
  | 0 => ⟨S2048x7184, .f32⟩
  | 1 => ⟨S16x512, .f32⟩
  | 2 => ⟨S512, .f32⟩
  | 3 => ⟨S1024, .f32⟩
  | 4 => ⟨S2048x2048, .f32⟩
  | 5 => ⟨S2048x512, .f32⟩
  | 6 => ⟨S2048x512, .f32⟩
  | 7 => ⟨S2048x1024, .f32⟩
  | 8 => ⟨S2048x1024, .f32⟩
  | 9 => ⟨S2048x16, .f32⟩
  | 10 => ⟨S2048x512, .f32⟩
  | 11 => ⟨S1x512, .f32⟩
  | 12 => ⟨S2048x512, .f32⟩
  | 13 => ⟨S2048x512, .f32⟩
  | 14 => ⟨S2048x512, .f32⟩
  | 15 => ⟨S_, .f32⟩
  | 16 => ⟨S2048x512, .f32⟩
  | 17 => ⟨S2048x512, .f32⟩
  | 18 => ⟨S2048x512, .f32⟩
  | 19 => ⟨S2048x512, .f32⟩
  | 20 => ⟨S2048x512, .i1⟩
  | 21 => ⟨S2048x512, .f32⟩
  | 22 => ⟨S2048x512, .f32⟩
  | 23 => ⟨S2048x512, .f32⟩
  | 24 => ⟨S2048x512, .f32⟩
  | 25 => ⟨S2048x512, .f32⟩
  | 26 => ⟨S2048x512, .f32⟩
  | 27 => ⟨S2048x512, .f32⟩
  | 28 => ⟨S2048x512, .f32⟩
  | 29 => ⟨S_, .f32⟩
  | 30 => ⟨S2048x512, .f32⟩
  | 31 => ⟨S2048x512, .i1⟩
  | 32 => ⟨S_, .f32⟩
  | 33 => ⟨S2048x512, .f32⟩
  | 34 => ⟨S2048x512, .f32⟩
  | 35 => ⟨S_, .f32⟩
  | 36 => ⟨S2048x512, .f32⟩
  | 37 => ⟨S2048x512, .i1⟩
  | 38 => ⟨S_, .f32⟩
  | 39 => ⟨S2048x512, .f32⟩
  | 40 => ⟨S2048x512, .f32⟩
  | 41 => ⟨S2048x512, .f32⟩
  | 42 => ⟨S2048x512, .f32⟩
  | 43 => ⟨S_, .f32⟩
  | 44 => ⟨S_, .f32⟩
  | 45 => ⟨S_, .i1⟩
  | 46 => ⟨S_, .f32⟩
  | 47 => ⟨S_, .f32⟩
  | 48 => ⟨S_, .f32⟩
  | 49 => ⟨S_, .f32⟩
  | 50 => ⟨S2048x512, .f32⟩
  | 51 => ⟨S2048x512, .i1⟩
  | 52 => ⟨S_, .f32⟩
  | 53 => ⟨S2048x512, .f32⟩
  | 54 => ⟨S2048x512, .f32⟩
  | 55 => ⟨S2048x512, .f32⟩
  | 56 => ⟨S2048x512, .f32⟩
  | 57 => ⟨S2048x512, .f32⟩
  | 58 => ⟨S_, .f32⟩
  | 59 => ⟨S2048x512, .f32⟩
  | 60 => ⟨S2048x512, .f32⟩
  | 61 => ⟨S2048x512, .f32⟩
  | 62 => ⟨S_, .f32⟩
  | 63 => ⟨S2048x512, .f32⟩
  | 64 => ⟨S2048x512, .f32⟩
  | 65 => ⟨S32x64x4x128, .f32⟩
  | 66 => ⟨S_, .f32⟩
  | 67 => ⟨S32x64x4x128, .f32⟩
  | 68 => ⟨S32x64x4x128, .f32⟩
  | 69 => ⟨S32x64x4x128, .f32⟩
  | 70 => ⟨S32x64x4x256, .f32⟩
  | 71 => ⟨S32x64x4x128, .f32⟩
  | 72 => ⟨S_, .f32⟩
  | 73 => ⟨S_, .f32⟩
  | 74 => ⟨S32x64x4x128, .f32⟩
  | 75 => ⟨S32x1x4x128, .f32⟩
  | 76 => ⟨S32x4x128, .f32⟩
  | 77 => ⟨S32x1x4x128, .f32⟩
  | 78 => ⟨S32x64x4x128, .f32⟩
  | 79 => ⟨S32x64x4x128, .f32⟩
  | 80 => ⟨S32x64x4x128, .f32⟩
  | 81 => ⟨S32x64x4x128, .f32⟩
  | 82 => ⟨S32x4x128x256, .f32⟩
  | 83 => ⟨S_, .f32⟩
  | 84 => ⟨S_, .f32⟩
  | 85 => ⟨S32x4x128, .f32⟩
  | 86 => ⟨S32, .i32⟩
  | 87 => ⟨S32x1, .i32⟩
  | 88 => ⟨S1x32, .i32⟩
  | 89 => ⟨S32x32, .i32⟩
  | 90 => ⟨S32x32, .i32⟩
  | 91 => ⟨S32x32, .i1⟩
  | 92 => ⟨S32x32x1x1, .i1⟩
  | 93 => ⟨S32x1x4x128, .f32⟩
  | 94 => ⟨S1x32x4x128, .f32⟩
  | 95 => ⟨S32x32x4x128, .f32⟩
  | 96 => ⟨S32x32x4x128, .f32⟩
  | 97 => ⟨S32x32x4x128, .f32⟩
  | 98 => ⟨S32x32x4x128, .f32⟩
  | 99 => ⟨S_, .f32⟩
  | 100 => ⟨S_, .f32⟩
  | 101 => ⟨S32x32x4x128, .i1⟩
  | 102 => ⟨S32x32x4x128, .f32⟩
  | 103 => ⟨S32x32x4x128, .f32⟩
  | 104 => ⟨S_, .f32⟩
  | 105 => ⟨S32x32x4x128, .f32⟩
  | 106 => ⟨S4x128x256x32, .f32⟩
  | 107 => ⟨S32x4x128x256, .f32⟩
  | 108 => ⟨S32x4x256x64, .f32⟩
  | 109 => ⟨S32x64x4x256, .f32⟩
  | 110 => ⟨S2048x4x256, .f32⟩
  | 111 => ⟨S2048x4x256, .f32⟩
  | 112 => ⟨S_, .f32⟩
  | 113 => ⟨S2048x4, .f32⟩
  | 114 => ⟨S2048x4x1, .f32⟩
  | 115 => ⟨S_, .f32⟩
  | 116 => ⟨S2048x4x1, .f32⟩
  | 117 => ⟨S2048x4x1, .f32⟩
  | 118 => ⟨S_, .f32⟩
  | 119 => ⟨S2048x4x1, .f32⟩
  | 120 => ⟨S2048x4x1, .f32⟩
  | 121 => ⟨S2048x4x1, .f32⟩
  | 122 => ⟨S2048x4x1, .f32⟩
  | 123 => ⟨S_, .f32⟩
  | 124 => ⟨S2048x4x1, .f32⟩
  | 125 => ⟨S2048x4x1, .f32⟩
  | 126 => ⟨S2048x4x256, .f32⟩
  | 127 => ⟨S2048x4x256, .f32⟩
  | _ => ⟨S2048x7184, .f32⟩

abbrev hbmTy0_1 (i : Nat) : BufTy := match i % 128 with
  | 0 => ⟨S4x256, .f32⟩
  | 1 => ⟨S1x4x256, .f32⟩
  | 2 => ⟨S2048x4x256, .f32⟩
  | 3 => ⟨S2048x4x256, .f32⟩
  | 4 => ⟨S2048x1024, .f32⟩
  | 5 => ⟨S2048x1024, .f32⟩
  | 6 => ⟨S2048x1024, .f32⟩
  | 7 => ⟨S_, .f32⟩
  | 8 => ⟨S2048x1024, .f32⟩
  | 9 => ⟨S2048x1024, .f32⟩
  | 10 => ⟨S_, .f32⟩
  | 11 => ⟨S2048x1024, .f32⟩
  | 12 => ⟨S2048x1024, .f32⟩
  | 13 => ⟨S_, .f32⟩
  | 14 => ⟨S2048x1024, .f32⟩
  | 15 => ⟨S2048x1024, .f32⟩
  | 16 => ⟨S2048x1024, .f32⟩
  | 17 => ⟨S2048x1024, .f32⟩
  | 18 => ⟨S2048x1024, .f32⟩
  | 19 => ⟨S2048x1024, .f32⟩
  | 20 => ⟨S2048x1024, .f32⟩
  | 21 => ⟨S2048x1024, .f32⟩
  | 22 => ⟨S2048x1024, .f32⟩
  | 23 => ⟨S2048x1024, .f32⟩
  | 24 => ⟨S2048x1024, .f32⟩
  | 25 => ⟨S2048x1024, .f32⟩
  | 26 => ⟨S2048x4x256, .f32⟩
  | 27 => ⟨S2048x4x256, .f32⟩
  | 28 => ⟨S_, .f32⟩
  | 29 => ⟨S4x256, .f32⟩
  | 30 => ⟨S1x4x256, .f32⟩
  | 31 => ⟨S2048x4x256, .f32⟩
  | 32 => ⟨S2048x4x256, .f32⟩
  | 33 => ⟨S_, .f32⟩
  | 34 => ⟨S4x256, .f32⟩
  | 35 => ⟨S1024, .f32⟩
  | 36 => ⟨S2048x4x256, .f32⟩
  | 37 => ⟨S_, .f32⟩
  | 38 => ⟨S2048x4, .f32⟩
  | 39 => ⟨S2048x4x1, .f32⟩
  | 40 => ⟨S2048x4x256, .f32⟩
  | 41 => ⟨S2048x4x256, .f32⟩
  | 42 => ⟨S2048x4x1, .f32⟩
  | 43 => ⟨S_, .f32⟩
  | 44 => ⟨S2048x4x1, .f32⟩
  | 45 => ⟨S2048x4x1, .f32⟩
  | 46 => ⟨S_, .f32⟩
  | 47 => ⟨S2048x4, .f32⟩
  | 48 => ⟨S2048x4x256, .f32⟩
  | 49 => ⟨S2048x4x256, .f32⟩
  | 50 => ⟨S2048x4x256, .f32⟩
  | 51 => ⟨S2048x4x256, .f32⟩
  | 52 => ⟨S2048x4x256, .f32⟩
  | 53 => ⟨S32x64x4x256, .f32⟩
  | 54 => ⟨S32x4x256x64, .f32⟩
  | 55 => ⟨S32x4x64x128, .f32⟩
  | 56 => ⟨S32x64x4x128, .f32⟩
  | 57 => ⟨S32x4x256x128, .f32⟩
  | 58 => ⟨S32x4x128x256, .f32⟩
  | 59 => ⟨S4x128x256x32, .f32⟩
  | 60 => ⟨S4x128x32x32, .f32⟩
  | 61 => ⟨S32x32x4x128, .f32⟩
  | 62 => ⟨S4x128x256x32, .f32⟩
  | 63 => ⟨S32x4x128x256, .f32⟩
  | 64 => ⟨S_, .f32⟩
  | 65 => ⟨S32x32x4x128, .f32⟩
  | 66 => ⟨S32x32x4x128, .f32⟩
  | 67 => ⟨S32x32x4x128, .f32⟩
  | 68 => ⟨S_, .f32⟩
  | 69 => ⟨S32x4x128, .f32⟩
  | 70 => ⟨S32x1x4x128, .f32⟩
  | 71 => ⟨S32x32x4x128, .f32⟩
  | 72 => ⟨S_, .f32⟩
  | 73 => ⟨S32x4x128, .f32⟩
  | 74 => ⟨S1x32x4x128, .f32⟩
  | 75 => ⟨S_, .f32⟩
  | 76 => ⟨S32x4x128, .f32⟩
  | 77 => ⟨S_, .f32⟩
  | 78 => ⟨S32x4x128, .f32⟩
  | 79 => ⟨S32x4x128, .f32⟩
  | 80 => ⟨S_, .f32⟩
  | 81 => ⟨S_, .f32⟩
  | 82 => ⟨S32x4x128, .f32⟩
  | 83 => ⟨S32x4x256x64, .f32⟩
  | 84 => ⟨S32x64x4x256, .f32⟩
  | 85 => ⟨S32x4x128x64, .f32⟩
  | 86 => ⟨S32x64x4x128, .f32⟩
  | 87 => ⟨S32x64x4x128, .f32⟩
  | 88 => ⟨S32x64x4x128, .f32⟩
  | 89 => ⟨S32x64x4x128, .f32⟩
  | 90 => ⟨S_, .f32⟩
  | 91 => ⟨S32x4x128, .f32⟩
  | 92 => ⟨S32x1x4x128, .f32⟩
  | 93 => ⟨S32x64x4x128, .f32⟩
  | 94 => ⟨S_, .f32⟩
  | 95 => ⟨S32x4x128, .f32⟩
  | 96 => ⟨S32x4x128, .f32⟩
  | 97 => ⟨S32x1x4x128, .f32⟩
  | 98 => ⟨S_, .f32⟩
  | 99 => ⟨S32x64x4x128, .f32⟩
  | 100 => ⟨S32x64x4x128, .f32⟩
  | 101 => ⟨S_, .f32⟩
  | 102 => ⟨S_, .f32⟩
  | 103 => ⟨S32x64x4x128, .f32⟩
  | 104 => ⟨S2048x512, .f32⟩
  | 105 => ⟨S2048x1024, .f32⟩
  | 106 => ⟨S2048x512, .f32⟩
  | 107 => ⟨S_, .f32⟩
  | 108 => ⟨S32x64x4x128, .f32⟩
  | 109 => ⟨S32x64x4x128, .f32⟩
  | 110 => ⟨S2048x512, .f32⟩
  | 111 => ⟨S_, .f32⟩
  | 112 => ⟨S2048x512, .f32⟩
  | 113 => ⟨S2048x512, .f32⟩
  | 114 => ⟨S2048x512, .f32⟩
  | 115 => ⟨S2048x512, .f32⟩
  | 116 => ⟨S2048x512, .f32⟩
  | 117 => ⟨S_, .f32⟩
  | 118 => ⟨S512, .f32⟩
  | 119 => ⟨S1x512, .f32⟩
  | 120 => ⟨S_, .f32⟩
  | 121 => ⟨S512, .f32⟩
  | 122 => ⟨S512x16, .f32⟩
  | 123 => ⟨S16x512, .f32⟩
  | 124 => ⟨S2048x16, .f32⟩
  | 125 => ⟨S2048x512, .bf16⟩
  | 126 => ⟨S2048x512, .bf16⟩
  | 127 => ⟨S2048x1024, .bf16⟩
  | _ => ⟨S2048x7184, .f32⟩

abbrev hbmTy0_2 (i : Nat) : BufTy := match i % 128 with
  | 0 => ⟨S2048x1024, .bf16⟩
  | 1 => ⟨S_, .i32⟩
  | 2 => ⟨S_, .f32⟩
  | 3 => ⟨S2048x128, .f32⟩
  | 4 => ⟨S2048x128, .bf16⟩
  | 5 => ⟨S_, .i32⟩
  | 6 => ⟨S_, .f32⟩
  | 7 => ⟨S128x512, .f32⟩
  | 8 => ⟨S1x512, .f32⟩
  | 9 => ⟨S1x1024, .f32⟩
  | _ => ⟨S2048x7184, .f32⟩

abbrev hbmTy (i : Nat) : BufTy := match i / 128 with
  | 0 => hbmTy0_0 i
  | 1 => hbmTy0_1 i
  | 2 => hbmTy0_2 i
  | _ => ⟨S2048x7184, .f32⟩

abbrev bufTy : (tb : Table) → Fin (tcTables nBuf tb) → BufTy
  | .hbm, ⟨i, _⟩ => hbmTy i
  | _, _ => ⟨S2048x7184, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1_0 : Ref sig .tc := ⟨.hbm, 28, rfl⟩
abbrev main_call0_call0_cst_0 : Ref sig .tc := ⟨.hbm, 29, rfl⟩
abbrev main_call0_call0_v13 : Ref sig .tc := ⟨.hbm, 30, rfl⟩
abbrev main_call0_call0_v14 : Ref sig .tc := ⟨.hbm, 31, rfl⟩
abbrev main_call0_call0_cst_1 : Ref sig .tc := ⟨.hbm, 32, rfl⟩
abbrev main_call0_call0_v15 : Ref sig .tc := ⟨.hbm, 33, rfl⟩
abbrev main_call0_call0_v16 : Ref sig .tc := ⟨.hbm, 34, rfl⟩
abbrev main_call0_call0_cst_2 : Ref sig .tc := ⟨.hbm, 35, rfl⟩
abbrev main_call0_call0_v17 : Ref sig .tc := ⟨.hbm, 36, rfl⟩
abbrev main_call0_call0_v18 : Ref sig .tc := ⟨.hbm, 37, rfl⟩
abbrev main_call0_call0_cst_3 : Ref sig .tc := ⟨.hbm, 38, rfl⟩
abbrev main_call0_call0_v19 : Ref sig .tc := ⟨.hbm, 39, rfl⟩
abbrev main_call0_call0_v20 : Ref sig .tc := ⟨.hbm, 40, rfl⟩
abbrev main_call0_call0_v21 : Ref sig .tc := ⟨.hbm, 41, rfl⟩
abbrev main_v9_1 : Ref sig .tc := ⟨.hbm, 42, rfl⟩
abbrev main_call0_call0_cst_4 : Ref sig .tc := ⟨.hbm, 43, rfl⟩
abbrev main_call0_call0_cst_5 : Ref sig .tc := ⟨.hbm, 44, rfl⟩
abbrev main_call0_call0_v23 : Ref sig .tc := ⟨.hbm, 45, rfl⟩
abbrev main_call0_call0_cst_6 : Ref sig .tc := ⟨.hbm, 46, rfl⟩
abbrev main_call0_call0_cst_7 : Ref sig .tc := ⟨.hbm, 47, rfl⟩
abbrev main_call0_call0_v24 : Ref sig .tc := ⟨.hbm, 48, rfl⟩
abbrev main_call0_call0_cst_8 : Ref sig .tc := ⟨.hbm, 49, rfl⟩
abbrev main_call0_call0_v25 : Ref sig .tc := ⟨.hbm, 50, rfl⟩
abbrev main_call0_call0_v26 : Ref sig .tc := ⟨.hbm, 51, rfl⟩
abbrev main_call0_call0_cst_9 : Ref sig .tc := ⟨.hbm, 52, rfl⟩
abbrev main_call0_call0_v27 : Ref sig .tc := ⟨.hbm, 53, rfl⟩
abbrev main_call0_call0_v28 : Ref sig .tc := ⟨.hbm, 54, rfl⟩
abbrev main_call0_call0_v29 : Ref sig .tc := ⟨.hbm, 55, rfl⟩
abbrev main_call0_call0_v30 : Ref sig .tc := ⟨.hbm, 56, rfl⟩
abbrev main_call0_call0_v31 : Ref sig .tc := ⟨.hbm, 57, rfl⟩
abbrev main_call0_call0_cst_10 : Ref sig .tc := ⟨.hbm, 58, rfl⟩
abbrev main_call0_call0_v32 : Ref sig .tc := ⟨.hbm, 59, rfl⟩
abbrev main_v9_2 : Ref sig .tc := ⟨.hbm, 60, rfl⟩
abbrev main_v9_0 : Ref sig .tc := ⟨.hbm, 61, rfl⟩
abbrev main_cst : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_cst_0 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_call1_call0_cst : Ref sig .tc := ⟨.hbm, 72, rfl⟩
abbrev main_call1_call0_v0 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_call2_call0_cst : Ref sig .tc := ⟨.hbm, 83, rfl⟩
abbrev main_call2_call0_v0 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_cst_1 : Ref sig .tc := ⟨.hbm, 99, rfl⟩
abbrev main_call3_v0 : Ref sig .tc := ⟨.hbm, 100, rfl⟩
abbrev main_v41_1 : Ref sig .tc := ⟨.hbm, 101, rfl⟩
abbrev main_call3_v2 : Ref sig .tc := ⟨.hbm, 102, rfl⟩
abbrev main_v41_0 : Ref sig .tc := ⟨.hbm, 103, rfl⟩
abbrev main_call3_cst : Ref sig .tc := ⟨.hbm, 104, rfl⟩
abbrev main_v41_2 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_cst_2 : Ref sig .tc := ⟨.hbm, 112, rfl⟩
abbrev main_v48 : Ref sig .tc := ⟨.hbm, 113, rfl⟩
abbrev main_v49 : Ref sig .tc := ⟨.hbm, 114, rfl⟩
abbrev main_cst_3 : Ref sig .tc := ⟨.hbm, 115, rfl⟩
abbrev main_v50 : Ref sig .tc := ⟨.hbm, 116, rfl⟩
abbrev main_v51 : Ref sig .tc := ⟨.hbm, 117, rfl⟩
abbrev main_cst_4 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_cst_5 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_call4_v0 : Ref sig .tc := ⟨.hbm, 133, rfl⟩
abbrev main_call4_v1 : Ref sig .tc := ⟨.hbm, 134, rfl⟩
abbrev main_call4_cst : Ref sig .tc := ⟨.hbm, 135, rfl⟩
abbrev main_call4_v2 : Ref sig .tc := ⟨.hbm, 136, rfl⟩
abbrev main_call4_v3 : Ref sig .tc := ⟨.hbm, 137, rfl⟩
abbrev main_call4_cst_0 : Ref sig .tc := ⟨.hbm, 138, rfl⟩
abbrev main_call4_v4 : Ref sig .tc := ⟨.hbm, 139, rfl⟩
abbrev main_v65_2 : Ref sig .tc := ⟨.hbm, 140, rfl⟩
abbrev main_call4_cst_1 : Ref sig .tc := ⟨.hbm, 141, rfl⟩
abbrev main_call4_v6 : Ref sig .tc := ⟨.hbm, 142, rfl⟩
abbrev main_call4_v7 : Ref sig .tc := ⟨.hbm, 143, rfl⟩
abbrev main_v65_1 : Ref sig .tc := ⟨.hbm, 144, rfl⟩
abbrev main_v65_0 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_call5_v0 : Ref sig .tc := ⟨.hbm, 150, rfl⟩
abbrev main_call5_v1 : Ref sig .tc := ⟨.hbm, 151, rfl⟩
abbrev main_call5_v2 : Ref sig .tc := ⟨.hbm, 152, rfl⟩
abbrev main_v70 : Ref sig .tc := ⟨.hbm, 153, rfl⟩
abbrev main_v71 : Ref sig .tc := ⟨.hbm, 154, rfl⟩
abbrev main_v72 : Ref sig .tc := ⟨.hbm, 155, rfl⟩
abbrev main_cst_6 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_cst_7 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_cst_8 : Ref sig .tc := ⟨.hbm, 165, rfl⟩
abbrev main_v80 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_cst_9 : Ref sig .tc := ⟨.hbm, 171, rfl⟩
abbrev main_v85 : Ref sig .tc := ⟨.hbm, 172, rfl⟩
abbrev main_v86 : Ref sig .tc := ⟨.hbm, 173, rfl⟩
abbrev main_cst_10 : Ref sig .tc := ⟨.hbm, 174, rfl⟩
abbrev main_v87 : Ref sig .tc := ⟨.hbm, 175, rfl⟩
abbrev main_v88 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_call6_cst : Ref sig .tc := ⟨.hbm, 192, rfl⟩
abbrev main_call6_v0 : Ref sig .tc := ⟨.hbm, 193, rfl⟩
abbrev main_v104 : Ref sig .tc := ⟨.hbm, 194, rfl⟩
abbrev main_v105 : Ref sig .tc := ⟨.hbm, 195, rfl⟩
abbrev main_cst_11 : Ref sig .tc := ⟨.hbm, 196, rfl⟩
abbrev main_v106 : Ref sig .tc := ⟨.hbm, 197, rfl⟩
abbrev main_v107 : Ref sig .tc := ⟨.hbm, 198, rfl⟩
abbrev main_v108 : Ref sig .tc := ⟨.hbm, 199, rfl⟩
abbrev main_cst_12 : Ref sig .tc := ⟨.hbm, 200, rfl⟩
abbrev main_v109 : Ref sig .tc := ⟨.hbm, 201, rfl⟩
abbrev main_v110 : Ref sig .tc := ⟨.hbm, 202, rfl⟩
abbrev main_cst_13 : Ref sig .tc := ⟨.hbm, 203, rfl⟩
abbrev main_v111 : Ref sig .tc := ⟨.hbm, 204, rfl⟩
abbrev main_cst_14 : Ref sig .tc := ⟨.hbm, 205, rfl⟩
abbrev main_v112 : Ref sig .tc := ⟨.hbm, 206, rfl⟩
abbrev main_v113 : Ref sig .tc := ⟨.hbm, 207, rfl⟩
abbrev main_call7_call0_cst : Ref sig .tc := ⟨.hbm, 208, rfl⟩
abbrev main_call7_call0_v0 : Ref sig .tc := ⟨.hbm, 209, rfl⟩
abbrev main_v114 : Ref sig .tc := ⟨.hbm, 210, rfl⟩
abbrev main_v115 : Ref sig .tc := ⟨.hbm, 211, rfl⟩
abbrev main_v116 : Ref sig .tc := ⟨.hbm, 212, rfl⟩
abbrev main_v117 : Ref sig .tc := ⟨.hbm, 213, rfl⟩
abbrev main_v118 : Ref sig .tc := ⟨.hbm, 214, rfl⟩
abbrev main_v119 : Ref sig .tc := ⟨.hbm, 215, rfl⟩
abbrev main_v120 : Ref sig .tc := ⟨.hbm, 216, rfl⟩
abbrev main_v121 : Ref sig .tc := ⟨.hbm, 217, rfl⟩
abbrev main_cst_15 : Ref sig .tc := ⟨.hbm, 218, rfl⟩
abbrev main_v122 : Ref sig .tc := ⟨.hbm, 219, rfl⟩
abbrev main_v123 : Ref sig .tc := ⟨.hbm, 220, rfl⟩
abbrev main_v124 : Ref sig .tc := ⟨.hbm, 221, rfl⟩
abbrev main_cst_16 : Ref sig .tc := ⟨.hbm, 222, rfl⟩
abbrev main_v125 : Ref sig .tc := ⟨.hbm, 223, rfl⟩
abbrev main_v126 : Ref sig .tc := ⟨.hbm, 224, rfl⟩
abbrev main_v127 : Ref sig .tc := ⟨.hbm, 225, rfl⟩
abbrev main_cst_17 : Ref sig .tc := ⟨.hbm, 226, rfl⟩
abbrev main_v128 : Ref sig .tc := ⟨.hbm, 227, rfl⟩
abbrev main_v129 : Ref sig .tc := ⟨.hbm, 228, rfl⟩
abbrev main_call8_call0_cst : Ref sig .tc := ⟨.hbm, 229, rfl⟩
abbrev main_call8_call0_v0 : Ref sig .tc := ⟨.hbm, 230, rfl⟩
abbrev main_v130 : Ref sig .tc := ⟨.hbm, 231, rfl⟩
abbrev main_v131 : Ref sig .tc := ⟨.hbm, 232, rfl⟩
abbrev main_v132 : Ref sig .tc := ⟨.hbm, 233, rfl⟩
abbrev main_v133 : Ref sig .tc := ⟨.hbm, 234, rfl⟩
abbrev main_cst_18 : Ref sig .tc := ⟨.hbm, 235, rfl⟩
abbrev main_v134 : Ref sig .tc := ⟨.hbm, 236, rfl⟩
abbrev main_v135 : Ref sig .tc := ⟨.hbm, 237, rfl⟩
abbrev main_v136 : Ref sig .tc := ⟨.hbm, 238, rfl⟩
abbrev main_cst_19 : Ref sig .tc := ⟨.hbm, 239, rfl⟩
abbrev main_v137 : Ref sig .tc := ⟨.hbm, 240, rfl⟩
abbrev main_v138 : Ref sig .tc := ⟨.hbm, 241, rfl⟩
abbrev main_call9_v0 : Ref sig .tc := ⟨.hbm, 242, rfl⟩
abbrev main_call9_v1 : Ref sig .tc := ⟨.hbm, 243, rfl⟩
abbrev main_v139 : Ref sig .tc := ⟨.hbm, 244, rfl⟩
abbrev main_cst_20 : Ref sig .tc := ⟨.hbm, 245, rfl⟩
abbrev main_v140 : Ref sig .tc := ⟨.hbm, 246, rfl⟩
abbrev main_v141 : Ref sig .tc := ⟨.hbm, 247, rfl⟩
abbrev main_cst_21 : Ref sig .tc := ⟨.hbm, 248, rfl⟩
abbrev main_v142 : Ref sig .tc := ⟨.hbm, 249, rfl⟩
abbrev main_v143 : Ref sig .tc := ⟨.hbm, 250, rfl⟩
abbrev main_v144 : Ref sig .tc := ⟨.hbm, 251, rfl⟩
abbrev main_v145 : Ref sig .tc := ⟨.hbm, 252, rfl⟩
abbrev main_v146 : Ref sig .tc := ⟨.hbm, 253, rfl⟩
abbrev main_v147 : Ref sig .tc := ⟨.hbm, 254, rfl⟩
abbrev main_v148 : Ref sig .tc := ⟨.hbm, 255, rfl⟩
abbrev main_v149 : Ref sig .tc := ⟨.hbm, 256, rfl⟩
abbrev main_c : Ref sig .tc := ⟨.hbm, 257, rfl⟩
abbrev main_call10_v0 : Ref sig .tc := ⟨.hbm, 258, rfl⟩
abbrev main_v150 : Ref sig .tc := ⟨.hbm, 259, rfl⟩
abbrev main_v151 : Ref sig .tc := ⟨.hbm, 260, rfl⟩
abbrev main_c_22 : Ref sig .tc := ⟨.hbm, 261, rfl⟩
abbrev main_call11_v0 : Ref sig .tc := ⟨.hbm, 262, rfl⟩
abbrev main_v152 : Ref sig .tc := ⟨.hbm, 263, rfl⟩
abbrev main_v153 : Ref sig .tc := ⟨.hbm, 264, rfl⟩
abbrev main_v154 : Ref sig .tc := ⟨.hbm, 265, rfl⟩

abbrev nD : Nat := 1
abbrev τ : Topo := Topo.v7x

variable {F : FTy → Type} [FloatOps F]
-- ==== Kernel2.lean ====
abbrev S2048x7184 : Shape := ⟨2, ![2048, 7184]⟩
abbrev S2048x512 : Shape := ⟨2, ![2048, 512]⟩
abbrev S2048x1024 : Shape := ⟨2, ![2048, 1024]⟩
abbrev S2048x16 : Shape := ⟨2, ![2048, 16]⟩
abbrev S_ : Shape := ⟨0, ![]⟩
abbrev S2048x128 : Shape := ⟨2, ![2048, 128]⟩
abbrev S7184x2048 : Shape := ⟨2, ![7184, 2048]⟩
abbrev S3072x2048 : Shape := ⟨2, ![3072, 2048]⟩
abbrev S4096x2048 : Shape := ⟨2, ![4096, 2048]⟩
abbrev S16x2048 : Shape := ⟨2, ![16, 2048]⟩
abbrev S112x2048 : Shape := ⟨2, ![112, 2048]⟩
abbrev S7296x2048 : Shape := ⟨2, ![7296, 2048]⟩
abbrev S2048x2048 : Shape := ⟨2, ![2048, 2048]⟩
abbrev S512x512 : Shape := ⟨2, ![512, 512]⟩
abbrev S512x1024 : Shape := ⟨2, ![512, 1024]⟩
abbrev S512x128 : Shape := ⟨2, ![512, 128]⟩
abbrev S7296x512 : Shape := ⟨2, ![7296, 512]⟩
abbrev S1024x512 : Shape := ⟨2, ![1024, 512]⟩
abbrev S128x512 : Shape := ⟨2, ![128, 512]⟩

abbrev nBuf : Space → Nat
  | .hbm => 24
  | .vmem => 22
  | .smem => 0
  | _ => 0

abbrev bufTy : (tb : Table) → Fin (tcTables nBuf tb) → BufTy
  | .hbm, ⟨0, _⟩ => ⟨S2048x7184, .f32⟩
  | .hbm, ⟨1, _⟩ => ⟨S2048x7184, .f32⟩
  | .hbm, ⟨2, _⟩ => ⟨S2048x7184, .bf16⟩
  | .hbm, ⟨3, _⟩ => ⟨S2048x512, .bf16⟩
  | .hbm, ⟨4, _⟩ => ⟨S2048x512, .bf16⟩
  | .hbm, ⟨5, _⟩ => ⟨S2048x1024, .bf16⟩
  | .hbm, ⟨6, _⟩ => ⟨S2048x1024, .bf16⟩
  | .hbm, ⟨7, _⟩ => ⟨S2048x16, .bf16⟩
  | .hbm, ⟨8, _⟩ => ⟨S_, .i32⟩
  | .hbm, ⟨9, _⟩ => ⟨S_, .bf16⟩
  | .hbm, ⟨10, _⟩ => ⟨S2048x128, .bf16⟩
  | .hbm, ⟨11, _⟩ => ⟨S2048x1024, .bf16⟩
  | .hbm, ⟨12, _⟩ => ⟨S2048x1024, .bf16⟩
  | .hbm, ⟨13, _⟩ => ⟨S2048x1024, .bf16⟩
  | .hbm, ⟨14, _⟩ => ⟨S2048x1024, .bf16⟩
  | .hbm, ⟨15, _⟩ => ⟨S7184x2048, .f32⟩
  | .hbm, ⟨16, _⟩ => ⟨S7184x2048, .bf16⟩
  | .hbm, ⟨17, _⟩ => ⟨S3072x2048, .bf16⟩
  | .hbm, ⟨18, _⟩ => ⟨S4096x2048, .bf16⟩
  | .hbm, ⟨19, _⟩ => ⟨S16x2048, .bf16⟩
  | .hbm, ⟨20, _⟩ => ⟨S_, .bf16⟩
  | .hbm, ⟨21, _⟩ => ⟨S112x2048, .bf16⟩
  | .hbm, ⟨22, _⟩ => ⟨S7296x2048, .bf16⟩
  | .hbm, ⟨23, _⟩ => ⟨S2048x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x128, .bf16⟩
  | .local _ .vmem, ⟨17, _⟩ => ⟨S512x128, .bf16⟩
  | .local _ .vmem, ⟨18, _⟩ => ⟨S7296x512, .bf16⟩
  | .local _ .vmem, ⟨19, _⟩ => ⟨S7296x512, .bf16⟩
  | .local _ .vmem, ⟨20, _⟩ => ⟨S512x512, .f32⟩
  | .local _ .vmem, ⟨21, _⟩ => ⟨S512x512, .f32⟩
  | _, _ => ⟨S2048x7184, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S7296x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S2048x7184 : Shape := ⟨2, ![2048, 7184]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x7184, .f32⟩
  | .hbm, ⟨1, _⟩ => ⟨S2048x7184, .f32⟩
  | .hbm, ⟨2, _⟩ => ⟨S_, .f32⟩
  | .hbm, ⟨3, _⟩ => ⟨S2048x2048, .f32⟩
  | .hbm, ⟨4, _⟩ => ⟨S2048x7184, .f32⟩
  | .hbm, ⟨5, _⟩ => ⟨S2048x2048, .f32⟩
  | _, _ => ⟨S2048x7184, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel3.lean ====
abbrev S2048x2048 : Shape := ⟨2, ![2048, 2048]⟩
abbrev S2048x3072 : Shape := ⟨2, ![2048, 3072]⟩
abbrev S2048x512 : Shape := ⟨2, ![2048, 512]⟩
abbrev S2048x1024 : Shape := ⟨2, ![2048, 1024]⟩
abbrev S3072x2048 : Shape := ⟨2, ![3072, 2048]⟩
abbrev S512x2048 : Shape := ⟨2, ![512, 2048]⟩

abbrev nBuf : Space → Nat
  | .hbm => 9
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048x3072, .f32⟩
  | .hbm, ⟨2, _⟩ => ⟨S2048x3072, .bf16⟩
  | .hbm, ⟨3, _⟩ => ⟨S2048x512, .bf16⟩
  | .hbm, ⟨4, _⟩ => ⟨S2048x512, .bf16⟩
  | .hbm, ⟨5, _⟩ => ⟨S2048x1024, .bf16⟩
  | .hbm, ⟨6, _⟩ => ⟨S2048x1024, .bf16⟩
  | .hbm, ⟨7, _⟩ => ⟨S2048x2048, .bf16⟩
  | .hbm, ⟨8, _⟩ => ⟨S3072x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x2048, .bf16⟩
  | .local _ .vmem, ⟨9, _⟩ => ⟨S512x2048, .bf16⟩
  | .local _ .vmem, ⟨10, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![6, 1], ![false, false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c1_i32 : BitVec 32 := 1#32
  let v1 : BitVec 1 := Scalar.cmpi .slt arg0 c1_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c1_i32_1 : BitVec 32 := 1#32
  let v5 : BitVec 1 := Scalar.cmpi .sge arg0 c1_i32_1
  let c2_i32 : BitVec 32 := 2#32
  let v6 : BitVec 1 := Scalar.cmpi .slt arg0 c2_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c2_i32_3 : BitVec 32 := 2#32
  let v10 : BitVec 1 := Scalar.cmpi .sge arg0 c2_i32_3
  let c4_i32 : BitVec 32 := 4#32
  let v11 : BitVec 1 := Scalar.cmpi .slt arg0 c4_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg0 : BitVec 32 := BitVec.ofNat 32 (i 0).val
  let c4_i32_5 : BitVec 32 := 4#32
  let v15 : BitVec 1 := Scalar.cmpi .sge arg0 c4_i32_5
  let c6_i32 : BitVec 32 := 6#32
  let v16 : BitVec 1 := Scalar.cmpi .slt arg0 c6_i32
  let v17 : BitVec 1 := Scalar.andi v15 v16
  let v18 : BitVec 32 := Scalar.extui v17
  let c0_i32_6 : BitVec 32 := 0#32
  let v19 : BitVec 1 := Scalar.cmpi .ne v18 c0_i32_6
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![c0_i32_2.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S2048x2048 : Shape := ⟨2, ![2048, 2048]⟩
abbrev S2048x3072 : Shape := ⟨2, ![2048, 3072]⟩
abbrev S_ : Shape := ⟨0, ![]⟩
abbrev S3072x2048 : Shape := ⟨2, ![3072, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x3072, .f32⟩
  | .hbm, ⟨2, _⟩ => ⟨S_, .f32⟩
  | .hbm, ⟨3, _⟩ => ⟨S3072x2048, .f32⟩
  | .hbm, ⟨4, _⟩ => ⟨S2048x3072, .f32⟩
  | .hbm, ⟨5, _⟩ => ⟨S2048x3072, .f32⟩
  | .hbm, ⟨6, _⟩ => ⟨S3072x2048, .f32⟩
  | .hbm, ⟨7, _⟩ => ⟨S2048x3072, .f32⟩
  | .hbm, ⟨8, _⟩ => ⟨S3072x2048, .f32⟩
  | .hbm, ⟨9, _⟩ => ⟨S3072x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S2048x2048 : Shape := ⟨2, ![2048, 2048]⟩
abbrev S2048x4096 : Shape := ⟨2, ![2048, 4096]⟩
abbrev S2048x1024 : Shape := ⟨2, ![2048, 1024]⟩
abbrev S4096x2048 : Shape := ⟨2, ![4096, 2048]⟩
abbrev S2048x512 : Shape := ⟨2, ![2048, 512]⟩
abbrev S512x2048 : Shape := ⟨2, ![512, 2048]⟩

abbrev nBuf : Space → Nat
  | .hbm => 9
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048x4096, .f32⟩
  | .hbm, ⟨2, _⟩ => ⟨S2048x4096, .bf16⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S2048x1024, .bf16⟩
  | .hbm, ⟨7, _⟩ => ⟨S2048x2048, .bf16⟩
  | .hbm, ⟨8, _⟩ => ⟨S4096x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x2048, .bf16⟩
  | .local _ .vmem, ⟨9, _⟩ => ⟨S512x2048, .bf16⟩
  | .local _ .vmem, ⟨10, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c2_i32_1 : BitVec 32 := 2#32
  let v5 : BitVec 1 := Scalar.cmpi .sge arg0 c2_i32_1
  let c4_i32 : BitVec 32 := 4#32
  let v6 : BitVec 1 := Scalar.cmpi .slt arg0 c4_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c4_i32_3 : BitVec 32 := 4#32
  let v10 : BitVec 1 := Scalar.cmpi .sge arg0 c4_i32_3
  let c6_i32 : BitVec 32 := 6#32
  let v11 : BitVec 1 := Scalar.cmpi .slt arg0 c6_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg0 : BitVec 32 := BitVec.ofNat 32 (i 0).val
  let c6_i32_5 : BitVec 32 := 6#32
  let v15 : BitVec 1 := Scalar.cmpi .sge arg0 c6_i32_5
  let c8_i32 : BitVec 32 := 8#32
  let v16 : BitVec 1 := Scalar.cmpi .slt arg0 c8_i32
  let v17 : BitVec 1 := Scalar.andi v15 v16
  let v18 : BitVec 32 := Scalar.extui v17
  let c0_i32_6 : BitVec 32 := 0#32
  let v19 : BitVec 1 := Scalar.cmpi .ne v18 c0_i32_6
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg0 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S2048x2048 : Shape := ⟨2, ![2048, 2048]⟩
abbrev S2048x4096 : Shape := ⟨2, ![2048, 4096]⟩
abbrev S_ : Shape := ⟨0, ![]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4096, .f32⟩
  | .hbm, ⟨2, _⟩ => ⟨S_, .f32⟩
  | .hbm, ⟨3, _⟩ => ⟨S4096x2048, .f32⟩
  | .hbm, ⟨4, _⟩ => ⟨S2048x4096, .f32⟩
  | .hbm, ⟨5, _⟩ => ⟨S2048x4096, .f32⟩
  | .hbm, ⟨6, _⟩ => ⟨S4096x2048, .f32⟩
  | .hbm, ⟨7, _⟩ => ⟨S2048x4096, .f32⟩
  | .hbm, ⟨8, _⟩ => ⟨S4096x2048, .f32⟩
  | .hbm, ⟨9, _⟩ => ⟨S4096x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x1024, .bf16⟩
  | .hbm, ⟨4, _⟩ => ⟨S2048x1024, .bf16⟩
  | .hbm, ⟨5, _⟩ => ⟨S2048x2048, .bf16⟩
  | .hbm, ⟨6, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .bf16⟩
  | .local _ .vmem, ⟨7, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c1_i32 : BitVec 32 := 1#32
  let v1 : BitVec 1 := Scalar.cmpi .slt arg0 c1_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c1_i32_1 : BitVec 32 := 1#32
  let v5 : BitVec 1 := Scalar.cmpi .sge arg0 c1_i32_1
  let c2_i32 : BitVec 32 := 2#32
  let v6 : BitVec 1 := Scalar.cmpi .slt arg0 c2_i32
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![c0_i32_2.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S2048x2048 : Shape := ⟨2, ![2048, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S2048x7184 : Shape := ⟨2, ![2048, 7184]⟩
abbrev S2048x2048 : Shape := ⟨2, ![2048, 2048]⟩
abbrev S7184x2048 : Shape := ⟨2, ![7184, 2048]⟩
abbrev S3072x2048 : Shape := ⟨2, ![3072, 2048]⟩
abbrev S4096x2048 : Shape := ⟨2, ![4096, 2048]⟩
abbrev S16x2048 : Shape := ⟨2, ![16, 2048]⟩
abbrev S_ : Shape := ⟨0, ![]⟩
abbrev S112x2048 : Shape := ⟨2, ![112, 2048]⟩
abbrev S7296x2048 : Shape := ⟨2, ![7296, 2048]⟩
abbrev S2048x7296 : Shape := ⟨2, ![2048, 7296]⟩
abbrev S512x2048 : Shape := ⟨2, ![512, 2048]⟩
abbrev S2432x2048 : Shape := ⟨2, ![2432, 2048]⟩
abbrev S512x2432 : Shape := ⟨2, ![512, 2432]⟩

abbrev nBuf : Space → Nat
  | .hbm => 12
  | .vmem => 6
  | .smem => 0
  | _ => 0

abbrev bufTy : (tb : Table) → Fin (tcTables nBuf tb) → BufTy
  | .hbm, ⟨0, _⟩ => ⟨S2048x7184, .f32⟩
  | .hbm, ⟨1, _⟩ => ⟨S2048x2048, .f32⟩
  | .hbm, ⟨2, _⟩ => ⟨S2048x2048, .bf16⟩
  | .hbm, ⟨3, _⟩ => ⟨S7184x2048, .f32⟩
  | .hbm, ⟨4, _⟩ => ⟨S7184x2048, .bf16⟩
  | .hbm, ⟨5, _⟩ => ⟨S3072x2048, .bf16⟩
  | .hbm, ⟨6, _⟩ => ⟨S4096x2048, .bf16⟩
  | .hbm, ⟨7, _⟩ => ⟨S16x2048, .bf16⟩
  | .hbm, ⟨8, _⟩ => ⟨S_, .bf16⟩
  | .hbm, ⟨9, _⟩ => ⟨S112x2048, .bf16⟩
  | .hbm, ⟨10, _⟩ => ⟨S7296x2048, .bf16⟩
  | .hbm, ⟨11, _⟩ => ⟨S2048x7296, .f32⟩
  | .local _ .vmem, ⟨0, _⟩ => ⟨S512x2048, .bf16⟩
  | .local _ .vmem, ⟨1, _⟩ => ⟨S512x2048, .bf16⟩
  | .local _ .vmem, ⟨2, _⟩ => ⟨S2432x2048, .bf16⟩
  | .local _ .vmem, ⟨3, _⟩ => ⟨S2432x2048, .bf16⟩
  | .local _ .vmem, ⟨4, _⟩ => ⟨S512x2432, .f32⟩
  | .local _ .vmem, ⟨5, _⟩ => ⟨S512x2432, .f32⟩
  | _, _ => ⟨S2048x7184, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2432x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x7184 : Shape := ⟨2, ![2048, 7184]⟩
abbrev S2048x2048 : Shape := ⟨2, ![2048, 2048]⟩
abbrev S2048x3072 : Shape := ⟨2, ![2048, 3072]⟩
abbrev S2048x4096 : Shape := ⟨2, ![2048, 4096]⟩
abbrev S2048x16 : Shape := ⟨2, ![2048, 16]⟩
abbrev S_ : Shape := ⟨0, ![]⟩
abbrev S2048x112 : Shape := ⟨2, ![2048, 112]⟩
abbrev S2048x7296 : Shape := ⟨2, ![2048, 7296]⟩

abbrev nBuf : Space → Nat
  | .hbm => 9
  | .vmem => 0
  | .smem => 0
  | _ => 0

abbrev bufTy : (tb : Table) → Fin (tcTables nBuf tb) → BufTy
  | .hbm, ⟨0, _⟩ => ⟨S2048x7184, .f32⟩
  | .hbm, ⟨1, _⟩ => ⟨S2048x2048, .f32⟩
  | .hbm, ⟨2, _⟩ => ⟨S2048x7184, .f32⟩
  | .hbm, ⟨3, _⟩ => ⟨S2048x3072, .f32⟩
  | .hbm, ⟨4, _⟩ => ⟨S2048x4096, .f32⟩
  | .hbm, ⟨5, _⟩ => ⟨S2048x16, .f32⟩
  | .hbm, ⟨6, _⟩ => ⟨S_, .f32⟩
  | .hbm, ⟨7, _⟩ => ⟨S2048x112, .f32⟩
  | .hbm, ⟨8, _⟩ => ⟨S2048x7296, .f32⟩
  | _, _ => ⟨S2048x7184, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S2048x2048 : Shape := ⟨2, ![2048, 2048]⟩
abbrev S2048x1024 : Shape := ⟨2, ![2048, 1024]⟩
abbrev S512x1024 : Shape := ⟨2, ![512, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x1024, .bf16⟩
  | .hbm, ⟨4, _⟩ => ⟨S2048x1024, .bf16⟩
  | .hbm, ⟨5, _⟩ => ⟨S2048x2048, .bf16⟩
  | .hbm, ⟨6, _⟩ => ⟨S2048x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .bf16⟩
  | .local _ .vmem, ⟨5, _⟩ => ⟨S2048x1024, .bf16⟩
  | .local _ .vmem, ⟨6, _⟩ => ⟨S512x1024, .f32⟩
  | .local _ .vmem, ⟨7, _⟩ => ⟨S512x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S2048x2048 : Shape := ⟨2, ![2048, 2048]⟩
abbrev S2048x16 : Shape := ⟨2, ![2048, 16]⟩
abbrev S_ : Shape := ⟨0, ![]⟩
abbrev S2048x128 : Shape := ⟨2, ![2048, 128]⟩
abbrev S128x2048 : Shape := ⟨2, ![128, 2048]⟩

abbrev nBuf : Space → Nat
  | .hbm => 8
  | .vmem => 3
  | .smem => 0
  | _ => 0

abbrev bufTy : (tb : Table) → Fin (tcTables nBuf tb) → BufTy
  | .hbm, ⟨0, _⟩ => ⟨S2048x2048, .f32⟩
  | .hbm, ⟨1, _⟩ => ⟨S2048x16, .f32⟩
  | .hbm, ⟨2, _⟩ => ⟨S2048x16, .bf16⟩
  | .hbm, ⟨3, _⟩ => ⟨S_, .i32⟩
  | .hbm, ⟨4, _⟩ => ⟨S_, .bf16⟩
  | .hbm, ⟨5, _⟩ => ⟨S2048x128, .bf16⟩
  | .hbm, ⟨6, _⟩ => ⟨S2048x2048, .bf16⟩
  | .hbm, ⟨7, _⟩ => ⟨S128x2048, .bf16⟩
  | .local _ .vmem, ⟨0, _⟩ => ⟨S2048x128, .bf16⟩
  | .local _ .vmem, ⟨1, _⟩ => ⟨S2048x2048, .bf16⟩
  | .local _ .vmem, ⟨2, _⟩ => ⟨S128x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c1_i32 : BitVec 32 := 1#32
  let v1 : BitVec 1 := Scalar.cmpi .slt arg0 c1_i32
  let v2 : BitVec 1 := Scalar.andi v0 v1
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![c0_i32_2.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference9Ideal.lean ====
abbrev S2048x2048 : Shape := ⟨2, ![2048, 2048]⟩
abbrev S2048x16 : Shape := ⟨2, ![2048, 16]⟩
abbrev S_ : Shape := ⟨0, ![]⟩
abbrev S16x2048 : Shape := ⟨2, ![16, 2048]⟩
abbrev S112x2048 : Shape := ⟨2, ![112, 2048]⟩
abbrev S128x2048 : Shape := ⟨2, ![128, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x16, .f32⟩
  | .hbm, ⟨2, _⟩ => ⟨S_, .f32⟩
  | .hbm, ⟨3, _⟩ => ⟨S16x2048, .f32⟩
  | .hbm, ⟨4, _⟩ => ⟨S2048x16, .f32⟩
  | .hbm, ⟨5, _⟩ => ⟨S2048x16, .f32⟩
  | .hbm, ⟨6, _⟩ => ⟨S16x2048, .f32⟩
  | .hbm, ⟨7, _⟩ => ⟨S2048x16, .f32⟩
  | .hbm, ⟨8, _⟩ => ⟨S16x2048, .f32⟩
  | .hbm, ⟨9, _⟩ => ⟨S16x2048, .bf16⟩
  | .hbm, ⟨10, _⟩ => ⟨S_, .bf16⟩
  | .hbm, ⟨11, _⟩ => ⟨S112x2048, .bf16⟩
  | .hbm, ⟨12, _⟩ => ⟨S128x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel10.lean ====
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel11.lean ====
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S1x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S2048x2048, .f32⟩
  | .hbm, ⟨33, _⟩ => ⟨S2048x2048, .f32⟩
  | .hbm, ⟨34, _⟩ => ⟨S1x2048, .f32⟩
  | .hbm, ⟨35, _⟩ => ⟨S2048x2048, .f32⟩
  | .hbm, ⟨36, _⟩ => ⟨S2048x2048, .f32⟩
  | .hbm, ⟨37, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel12.lean ====
abbrev S8x256x2048 : Shape := ⟨3, ![8, 256, 2048]⟩
abbrev S4x256x2048 : Shape := ⟨3, ![4, 256, 2048]⟩
abbrev S8x64x2048 : Shape := ⟨3, ![8, 64, 2048]⟩
abbrev S1x64x2048 : Shape := ⟨3, ![1, 64, 2048]⟩
abbrev S64x2048 : Shape := ⟨2, ![64, 2048]⟩

abbrev nBuf : Space → Nat
  | .hbm => 15
  | .vmem => 22
  | .smem => 0
  | _ => 0

abbrev bufTy : (tb : Table) → Fin (tcTables nBuf tb) → BufTy
  | .hbm, ⟨0, _⟩ => ⟨S8x256x2048, .f32⟩
  | .hbm, ⟨1, _⟩ => ⟨S8x256x2048, .f32⟩
  | .hbm, ⟨2, _⟩ => ⟨S8x256x2048, .f32⟩
  | .hbm, ⟨3, _⟩ => ⟨S8x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S8x256x2048, .bf16⟩
  | .hbm, ⟨8, _⟩ => ⟨S8x256x2048, .bf16⟩
  | .hbm, ⟨9, _⟩ => ⟨S8x256x2048, .bf16⟩
  | .hbm, ⟨10, _⟩ => ⟨S8x256x2048, .bf16⟩
  | .hbm, ⟨11, _⟩ => ⟨S4x256x2048, .f32⟩
  | .hbm, ⟨12, _⟩ => ⟨S4x256x2048, .f32⟩
  | .hbm, ⟨13, _⟩ => ⟨S4x256x2048, .f32⟩
  | .hbm, ⟨14, _⟩ => ⟨S4x256x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S8x64x2048, .bf16⟩
  | .local _ .vmem, ⟨3, _⟩ => ⟨S8x64x2048, .bf16⟩
  | .local _ .vmem, ⟨4, _⟩ => ⟨S8x64x2048, .bf16⟩
  | .local _ .vmem, ⟨5, _⟩ => ⟨S8x64x2048, .bf16⟩
  | .local _ .vmem, ⟨6, _⟩ => ⟨S8x64x2048, .bf16⟩
  | .local _ .vmem, ⟨7, _⟩ => ⟨S8x64x2048, .bf16⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .vmem, ⟨18, _⟩ => ⟨S1x64x2048, .f32⟩
  | .local _ .vmem, ⟨19, _⟩ => ⟨S1x64x2048, .f32⟩
  | .local _ .vmem, ⟨20, _⟩ => ⟨S1x64x2048, .f32⟩
  | .local _ .vmem, ⟨21, _⟩ => ⟨S1x64x2048, .f32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let v2 : BitVec 32 := Scalar.addi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let v2 : BitVec 32 := Scalar.addi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let v2 : BitVec 32 := Scalar.addi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let v2 : BitVec 32 := Scalar.addi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference12Ideal.lean ====
abbrev S8x256x2048 : Shape := ⟨3, ![8, 256, 2048]⟩
abbrev S4x256x2048 : Shape := ⟨3, ![4, 256, 2048]⟩
abbrev S_ : Shape := ⟨0, ![]⟩
abbrev S256x2048 : Shape := ⟨2, ![256, 2048]⟩
abbrev S1x256x2048 : Shape := ⟨3, ![1, 256, 2048]⟩

abbrev nBuf : Space → Nat
  | .hbm => 53
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S8x256x2048, .f32⟩
  | .hbm, ⟨2, _⟩ => ⟨S8x256x2048, .f32⟩
  | .hbm, ⟨3, _⟩ => ⟨S8x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S_, .f32⟩
  | .hbm, ⟨8, _⟩ => ⟨S256x2048, .f32⟩
  | .hbm, ⟨9, _⟩ => ⟨S_, .f32⟩
  | .hbm, ⟨10, _⟩ => ⟨S256x2048, .f32⟩
  | .hbm, ⟨11, _⟩ => ⟨S_, .f32⟩
  | .hbm, ⟨12, _⟩ => ⟨S256x2048, .f32⟩
  | .hbm, ⟨13, _⟩ => ⟨S_, .f32⟩
  | .hbm, ⟨14, _⟩ => ⟨S256x2048, .f32⟩
  | .hbm, ⟨15, _⟩ => ⟨S1x256x2048, .f32⟩
  | .hbm, ⟨16, _⟩ => ⟨S1x256x2048, .f32⟩
  | .hbm, ⟨17, _⟩ => ⟨S1x256x2048, .f32⟩
  | .hbm, ⟨18, _⟩ => ⟨S1x256x2048, .f32⟩
  | .hbm, ⟨19, _⟩ => ⟨S4x256x2048, .f32⟩
  | .hbm, ⟨20, _⟩ => ⟨S_, .f32⟩
  | .hbm, ⟨21, _⟩ => ⟨S4x256x2048, .f32⟩
  | .hbm, ⟨22, _⟩ => ⟨S4x256x2048, .f32⟩
  | .hbm, ⟨23, _⟩ => ⟨S_, .f32⟩
  | .hbm, ⟨24, _⟩ => ⟨S4x256x2048, .f32⟩
  | .hbm, ⟨25, _⟩ => ⟨S4x256x2048, .f32⟩
  | .hbm, ⟨26, _⟩ => ⟨S4x256x2048, .f32⟩
  | .hbm, ⟨27, _⟩ => ⟨S_, .f32⟩
  | .hbm, ⟨28, _⟩ => ⟨S4x256x2048, .f32⟩
  | .hbm, ⟨29, _⟩ => ⟨S4x256x2048, .f32⟩
  | .hbm, ⟨30, _⟩ => ⟨S4x256x2048, .f32⟩
  | .hbm, ⟨31, _⟩ => ⟨S_, .f32⟩
  | .hbm, ⟨32, _⟩ => ⟨S4x256x2048, .f32⟩
  | .hbm, ⟨33, _⟩ => ⟨S4x256x2048, .f32⟩
  | .hbm, ⟨34, _⟩ => ⟨S4x256x2048, .f32⟩
  | .hbm, ⟨35, _⟩ => ⟨S_, .f32⟩
  | .hbm, ⟨36, _⟩ => ⟨S4x256x2048, .f32⟩
  | .hbm, ⟨37, _⟩ => ⟨S4x256x2048, .f32⟩
  | .hbm, ⟨38, _⟩ => ⟨S_, .f32⟩
  | .hbm, ⟨39, _⟩ => ⟨S4x256x2048, .f32⟩
  | .hbm, ⟨40, _⟩ => ⟨S4x256x2048, .f32⟩
  | .hbm, ⟨41, _⟩ => ⟨S4x256x2048, .f32⟩
  | .hbm, ⟨42, _⟩ => ⟨S_, .f32⟩
  | .hbm, ⟨43, _⟩ => ⟨S4x256x2048, .f32⟩
  | .hbm, ⟨44, _⟩ => ⟨S4x256x2048, .f32⟩
  | .hbm, ⟨45, _⟩ => ⟨S4x256x2048, .f32⟩
  | .hbm, ⟨46, _⟩ => ⟨S_, .f32⟩
  | .hbm, ⟨47, _⟩ => ⟨S4x256x2048, .f32⟩
  | .hbm, ⟨48, _⟩ => ⟨S4x256x2048, .f32⟩
  | .hbm, ⟨49, _⟩ => ⟨S4x256x2048, .f32⟩
  | .hbm, ⟨50, _⟩ => ⟨S_, .f32⟩
  | .hbm, ⟨51, _⟩ => ⟨S4x256x2048, .f32⟩
  | .hbm, ⟨52, _⟩ => ⟨S4x256x2048, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel13.lean ====
abbrev S2048x2048 : Shape := ⟨2, ![2048, 2048]⟩
abbrev S2048 : Shape := ⟨1, ![2048]⟩
abbrev S1x2048 : Shape := ⟨2, ![1, 2048]⟩
abbrev S1x1 : Shape := ⟨2, ![1, 1]⟩
abbrev S512x2048 : Shape := ⟨2, ![512, 2048]⟩
abbrev S512 : Shape := ⟨1, ![512]⟩
abbrev S512x1 : Shape := ⟨2, ![512, 1]⟩
abbrev S1 : Shape := ⟨1, ![1]⟩

abbrev nBuf : Space → Nat
  | .hbm => 7
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S1x1, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference13Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S1x1 : Shape := ⟨2, ![1, 1]⟩

abbrev nBuf : Space → Nat
  | .hbm => 49
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S1x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S_, .f32⟩
  | .hbm, ⟨29, _⟩ => ⟨S2048, .f32⟩
  | .hbm, ⟨30, _⟩ => ⟨S2048, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S2048, .f32⟩
  | .hbm, ⟨39, _⟩ => ⟨S_, .f32⟩
  | .hbm, ⟨40, _⟩ => ⟨S2048, .f32⟩
  | .hbm, ⟨41, _⟩ => ⟨S2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S_, .f32⟩
  | .hbm, ⟨48, _⟩ => ⟨S1x1, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_10 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Kernel14.lean ====
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S1x2048, .f32⟩
  | .hbm, ⟨4, _⟩ => ⟨S2048x2048, .bf16⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference14Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S1x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S2048x2048, .f32⟩
  | .hbm, ⟨36, _⟩ => ⟨S2048x2048, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .bf16⟩
  | .hbm, ⟨49, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Proof.Mine.RunA.lean ====
/- The kernel body at the first grid point: it runs on whole staging buffers and leaves in each output the pieces the run finds. -/
module

public import proofs.«01_k».proof.Proof.Gen.KernelIdeal.Frame.Runs

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run records many stores; the default budget is too small
set_option maxHeartbeats 8000000 in
/-- The body where the accumulators are zeroed: the pieces each output ends with, and the triple. -/
noncomputable def bodyRunA (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x128 .f32) (harg7 : arg7.IsWhole) (arg8 : Memref sig .tc .vmem S128x512 .f32) (harg8 : arg8.IsWhole) (arg9 : Memref sig .tc .vmem S1x1024 .f32) (harg9 : arg9.IsWhole) (arg10 : Memref sig .tc .vmem S4x4x256x128 .f32) (harg10 : arg10.IsWhole) (arg11 : Memref sig .tc .vmem S1x4x256x128 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x128 .bf16) (harg18 : arg18.IsWhole) (arg19 : Memref sig .tc .vmem S128x512 .f32) (harg19 : arg19.IsWhole) (arg20 : Memref sig .tc .vmem S1x512 .f32) (harg20 : arg20.IsWhole) (arg21 : Memref sig .tc .vmem S1x1024 .f32) (harg21 : arg21.IsWhole) (arg22 : Memref sig .tc .vmem S4x256x128 .f32) (harg22 : arg22.IsWhole) (hc0 : cond0_0 i)
    (x0 : Vec F S256x1024 .f32) (x1 : Vec F S256x1024 .f32) (x2 : Vec F S256x512 .f32) (x3 : Vec F S256x512 .f32) (x4 : Vec F S256x1024 .f32) (x5 : Vec F S256x1024 .f32) (x6 : Vec F S256x128 .f32) (x7 : Vec F S128x512 .f32) (x8 : Vec F S1x1024 .f32) (x9 : Vec F S4x4x256x128 .f32) (x10 : Vec F S1x4x256x128 .f32) (x11 : Vec F S256x512 .f32) (x12 : Vec F S256x512 .f32) :
    Σ' (L13 : List (View.Piece (Elt F) S256x512 .bf16)), Σ' (L14 : List (View.Piece (Elt F) S256x512 .bf16)), Σ' (L15 : List (View.Piece (Elt F) S256x1024 .bf16)), Σ' (L16 : List (View.Piece (Elt F) S256x1024 .bf16)), Σ' (L17 : List (View.Piece (Elt F) S256x128 .bf16)), Σ' (L18 : List (View.Piece (Elt F) S128x512 .f32)), Σ' (L19 : List (View.Piece (Elt F) S1x512 .f32)), Σ' (L20 : List (View.Piece (Elt F) S1x1024 .f32)), { LS0 : List (View.Piece (Elt F) S4x256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f LS0)) -∗ K ⟨⟩))
          ⊢ wp frame (wpE (defs₀ (F := F)) Variants.none c none) E (cc0_gla_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, fun E K => ?run⟩
  case run =>
    simp only [cc0_gla_bwd_eq_skeleton]; unfold cc0_gla_bwd_skel
    simp only [k0_part23_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | sl_exact hc0)
    sl_step
    iapply Hk
    isplitl [H0]; · iexists _; isplitr; (· ipureintro; exact harg1.read_unread _); iexact H0
    isplitl [H1]; · iexists _; isplitr; (· ipureintro; exact harg2.read_unread _); iexact H1
    isplitl [H2]; · iexists _; isplitr; (· ipureintro; exact harg3.read_unread _); iexact H2
    isplitl [H3]; · iexists _; isplitr; (· ipureintro; exact harg4.read_unread _); iexact H3
    isplitl [H4]; · iexists _; isplitr; (· ipureintro; exact harg5.read_unread _); iexact H4
    isplitl [H5]; · iexists _; isplitr; (· ipureintro; exact harg6.read_unread _); iexact H5
    isplitl [H6]; · iexists _; isplitr; (· ipureintro; exact harg7.read_unread _); iexact H6
    isplitl [H7]; · iexists _; isplitr; (· ipureintro; exact harg8.read_unread _); iexact H7
    isplitl [H8]; · iexists _; isplitr; (· ipureintro; exact harg9.read_unread _); iexact H8
    isplitl [H9]; · iexists _; isplitr; (· ipureintro; exact harg10.read_unread _); iexact H9
    isplitl [H10]; · iexists _; isplitr; (· ipureintro; exact harg11.read_unread _); iexact H10
    isplitl [H11]; · iexists _; isplitr; (· ipureintro; exact harg12.read_unread _); iexact H11
    isplitl [H12]; · iexists _; isplitr; (· ipureintro; exact harg13.read_unread _); iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact HS0

end Cert.KernelIdeal.Own

end
-- ==== Proof.Mine.RunB.lean ====
/- The kernel body at a later grid point, where the accumulators and the carried scratch hold what the point before left. -/
module

public import proofs.«01_k».proof.Proof.Mine.RunA

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run records many stores; the default budget is too small
set_option maxHeartbeats 8000000 in
/-- The body where the accumulators carry on: the pieces each output ends with, and the triple. -/
noncomputable def bodyRunB (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x128 .f32) (harg7 : arg7.IsWhole) (arg8 : Memref sig .tc .vmem S128x512 .f32) (harg8 : arg8.IsWhole) (arg9 : Memref sig .tc .vmem S1x1024 .f32) (harg9 : arg9.IsWhole) (arg10 : Memref sig .tc .vmem S4x4x256x128 .f32) (harg10 : arg10.IsWhole) (arg11 : Memref sig .tc .vmem S1x4x256x128 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x128 .bf16) (harg18 : arg18.IsWhole) (arg19 : Memref sig .tc .vmem S128x512 .f32) (harg19 : arg19.IsWhole) (arg20 : Memref sig .tc .vmem S1x512 .f32) (harg20 : arg20.IsWhole) (arg21 : Memref sig .tc .vmem S1x1024 .f32) (harg21 : arg21.IsWhole) (arg22 : Memref sig .tc .vmem S4x256x128 .f32) (harg22 : arg22.IsWhole) (hc0 : ¬cond0_0 i)
    (x0 : Vec F S256x1024 .f32) (x1 : Vec F S256x1024 .f32) (x2 : Vec F S256x512 .f32) (x3 : Vec F S256x512 .f32) (x4 : Vec F S256x1024 .f32) (x5 : Vec F S256x1024 .f32) (x6 : Vec F S256x128 .f32) (x7 : Vec F S128x512 .f32) (x8 : Vec F S1x1024 .f32) (x9 : Vec F S4x4x256x128 .f32) (x10 : Vec F S1x4x256x128 .f32) (x11 : Vec F S256x512 .f32) (x12 : Vec F S256x512 .f32) (xo18 : Vec F S128x512 .f32) (xo19 : Vec F S1x512 .f32) (xo20 : Vec F S1x1024 .f32) (xs0 : Vec F S4x256x128 .f32) :
    Σ' (L13 : List (View.Piece (Elt F) S256x512 .bf16)), Σ' (L14 : List (View.Piece (Elt F) S256x512 .bf16)), Σ' (L15 : List (View.Piece (Elt F) S256x1024 .bf16)), Σ' (L16 : List (View.Piece (Elt F) S256x1024 .bf16)), Σ' (L17 : List (View.Piece (Elt F) S256x128 .bf16)), Σ' (L18 : List (View.Piece (Elt F) S128x512 .f32)), Σ' (L19 : List (View.Piece (Elt F) S1x512 .f32)), Σ' (L20 : List (View.Piece (Elt F) S1x1024 .f32)), { LS0 : List (View.Piece (Elt F) S4x256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xo18 ∗ owns (c : Thread nD τ) arg20 fullShare xo19 ∗ owns (c : Thread nD τ) arg21 fullShare xo20 ∗ owns (c : Thread nD τ) arg22 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f LS0)) -∗ K ⟨⟩))
          ⊢ wp frame (wpE (defs₀ (F := F)) Variants.none c none) E (cc0_gla_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, fun E K => ?run⟩
  case run =>
    simp only [cc0_gla_bwd_eq_skeleton]; unfold cc0_gla_bwd_skel
    simp only [k0_part23_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%f18, %hf18, H18⟩, ⟨%f19, %hf19, H19⟩, ⟨%f20, %hf20, H20⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg19.eq_unread hf18; obtain rfl := harg20.eq_unread hf19; obtain rfl := harg21.eq_unread hf20; obtain rfl := harg22.eq_unread hfs0
    sl_exec (disch := first | sl_exact hc0)
    sl_step
    iapply Hk
    isplitl [H0]; · iexists _; isplitr; (· ipureintro; exact harg1.read_unread _); iexact H0
    isplitl [H1]; · iexists _; isplitr; (· ipureintro; exact harg2.read_unread _); iexact H1
    isplitl [H2]; · iexists _; isplitr; (· ipureintro; exact harg3.read_unread _); iexact H2
    isplitl [H3]; · iexists _; isplitr; (· ipureintro; exact harg4.read_unread _); iexact H3
    isplitl [H4]; · iexists _; isplitr; (· ipureintro; exact harg5.read_unread _); iexact H4
    isplitl [H5]; · iexists _; isplitr; (· ipureintro; exact harg6.read_unread _); iexact H5
    isplitl [H6]; · iexists _; isplitr; (· ipureintro; exact harg7.read_unread _); iexact H6
    isplitl [H7]; · iexists _; isplitr; (· ipureintro; exact harg8.read_unread _); iexact H7
    isplitl [H8]; · iexists _; isplitr; (· ipureintro; exact harg9.read_unread _); iexact H8
    isplitl [H9]; · iexists _; isplitr; (· ipureintro; exact harg10.read_unread _); iexact H9
    isplitl [H10]; · iexists _; isplitr; (· ipureintro; exact harg11.read_unread _); iexact H10
    isplitl [H11]; · iexists _; isplitr; (· ipureintro; exact harg12.read_unread _); iexact H11
    isplitl [H12]; · iexists _; isplitr; (· ipureintro; exact harg13.read_unread _); iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact HS0

end Cert.KernelIdeal.Own

end
-- ==== Proof.Mine.Frame.lean ====
/- What the outputs and the carried scratch hold after every grid point, the body obligation, the run of the launch and the frame. -/
module

public import proofs.«01_k».proof.Proof.Mine.RunB
public import Idealize.ShloMosaic.Lib.Claim

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's run at point `t`'s staging buffers and blocks. -/
abbrev runA (c : Dev nD) (t : Fin cfg0.N) (h0 : t.val % 8 = 0) :=
  bodyRunA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) ((hcond0_0 t).mpr h0) (iblk m c 0 t) (iblk m c 1 t) (X0_2 m c t) (X0_3 m c t) (X0_4 m c t) (X0_5 m c t) (iblk m c 6 t) (iblk m c 7 t) (iblk m c 8 t) (iblk m c 9 t) (iblk m c 10 t) (iblk m c 11 t) (iblk m c 12 t)

/-- A later point's run at point `t`'s staging buffers and blocks, over what the point before left. -/
abbrev runB (c : Dev nD) (t : Fin cfg0.N) (h0 : ¬t.val % 8 = 0) (xo18 : Vec F S128x512 .f32) (xo19 : Vec F S1x512 .f32) (xo20 : Vec F S1x1024 .f32) (xs0 : Vec F S4x256x128 .f32) :=
  bodyRunB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (fun h => h0 ((hcond0_0 t).mp h)) (iblk m c 0 t) (iblk m c 1 t) (X0_2 m c t) (X0_3 m c t) (X0_4 m c t) (X0_5 m c t) (iblk m c 6 t) (iblk m c 7 t) (iblk m c 8 t) (iblk m c 9 t) (iblk m c 10 t) (iblk m c 11 t) (iblk m c 12 t) xo18 xo19 xo20 xs0

/-- The pieces stored there cover the whole buffer. -/
theorem coverA_13 (c : Dev nD) (t : Fin cfg0.N) (h0 : t.val % 8 = 0) (y : S256x512.Idx) :
    ∃ pc ∈ (runA m c t h0).1, y ∈ pc.1.set :=
  View.cover_of_tiledL (runA m c t h0).1 S256x512.size (by sl_kernel_rfl) y

/-- What the run leaves there: its pieces read back. -/
def outA_13 (c : Dev nD) (t : Fin cfg0.N) (h0 : t.val % 8 = 0) : Vec F S256x512 .bf16 :=
  VO0_13.read (Elt F) (VO0_13.writes (Elt F) VO0_13.junk (runA m c t h0).1)

/-- The pieces stored there cover the whole buffer. -/
theorem coverA_14 (c : Dev nD) (t : Fin cfg0.N) (h0 : t.val % 8 = 0) (y : S256x512.Idx) :
    ∃ pc ∈ (runA m c t h0).2.1, y ∈ pc.1.set :=
  View.cover_of_tiledL (runA m c t h0).2.1 S256x512.size (by sl_kernel_rfl) y

/-- What the run leaves there: its pieces read back. -/
def outA_14 (c : Dev nD) (t : Fin cfg0.N) (h0 : t.val % 8 = 0) : Vec F S256x512 .bf16 :=
  VO0_14.read (Elt F) (VO0_14.writes (Elt F) VO0_14.junk (runA m c t h0).2.1)

/-- The pieces stored there cover the whole buffer. -/
theorem coverA_15 (c : Dev nD) (t : Fin cfg0.N) (h0 : t.val % 8 = 0) (y : S256x1024.Idx) :
    ∃ pc ∈ (runA m c t h0).2.2.1, y ∈ pc.1.set :=
  View.cover_of_tiledL (runA m c t h0).2.2.1 S256x256.size (by sl_kernel_rfl) y

/-- What the run leaves there: its pieces read back. -/
def outA_15 (c : Dev nD) (t : Fin cfg0.N) (h0 : t.val % 8 = 0) : Vec F S256x1024 .bf16 :=
  VO0_15.read (Elt F) (VO0_15.writes (Elt F) VO0_15.junk (runA m c t h0).2.2.1)

/-- The pieces stored there cover the whole buffer. -/
theorem coverA_16 (c : Dev nD) (t : Fin cfg0.N) (h0 : t.val % 8 = 0) (y : S256x1024.Idx) :
    ∃ pc ∈ (runA m c t h0).2.2.2.1, y ∈ pc.1.set :=
  View.cover_of_tiledL (runA m c t h0).2.2.2.1 S256x256.size (by sl_kernel_rfl) y

/-- What the run leaves there: its pieces read back. -/
def outA_16 (c : Dev nD) (t : Fin cfg0.N) (h0 : t.val % 8 = 0) : Vec F S256x1024 .bf16 :=
  VO0_16.read (Elt F) (VO0_16.writes (Elt F) VO0_16.junk (runA m c t h0).2.2.2.1)

/-- The pieces stored there cover the whole buffer. -/
theorem coverA_17 (c : Dev nD) (t : Fin cfg0.N) (h0 : t.val % 8 = 0) (y : S256x128.Idx) :
    ∃ pc ∈ (runA m c t h0).2.2.2.2.1, y ∈ pc.1.set :=
  View.cover_of_tiledL (runA m c t h0).2.2.2.2.1 S256x128.size (by sl_kernel_rfl) y

/-- What the run leaves there: its pieces read back. -/
def outA_17 (c : Dev nD) (t : Fin cfg0.N) (h0 : t.val % 8 = 0) : Vec F S256x128 .bf16 :=
  VO0_17.read (Elt F) (VO0_17.writes (Elt F) VO0_17.junk (runA m c t h0).2.2.2.2.1)

/-- The pieces stored there cover the whole buffer. -/
theorem coverA_18 (c : Dev nD) (t : Fin cfg0.N) (h0 : t.val % 8 = 0) (y : S128x512.Idx) :
    ∃ pc ∈ (runA m c t h0).2.2.2.2.2.1, y ∈ pc.1.set :=
  View.cover_of_tiledL (runA m c t h0).2.2.2.2.2.1 S128x512.size (by sl_kernel_rfl) y

/-- What the run leaves there: its pieces read back. -/
def outA_18 (c : Dev nD) (t : Fin cfg0.N) (h0 : t.val % 8 = 0) : Vec F S128x512 .f32 :=
  VO0_18.read (Elt F) (VO0_18.writes (Elt F) VO0_18.junk (runA m c t h0).2.2.2.2.2.1)

/-- The pieces stored there cover the whole buffer. -/
theorem coverA_19 (c : Dev nD) (t : Fin cfg0.N) (h0 : t.val % 8 = 0) (y : S1x512.Idx) :
    ∃ pc ∈ (runA m c t h0).2.2.2.2.2.2.1, y ∈ pc.1.set :=
  View.cover_of_tiledL (runA m c t h0).2.2.2.2.2.2.1 S1x512.size (by sl_kernel_rfl) y

/-- What the run leaves there: its pieces read back. -/
def outA_19 (c : Dev nD) (t : Fin cfg0.N) (h0 : t.val % 8 = 0) : Vec F S1x512 .f32 :=
  VO0_19.read (Elt F) (VO0_19.writes (Elt F) VO0_19.junk (runA m c t h0).2.2.2.2.2.2.1)

/-- The pieces stored there cover the whole buffer. -/
theorem coverA_20 (c : Dev nD) (t : Fin cfg0.N) (h0 : t.val % 8 = 0) (y : S1x1024.Idx) :
    ∃ pc ∈ (runA m c t h0).2.2.2.2.2.2.2.1, y ∈ pc.1.set :=
  View.cover_of_tiledBy (runA m c t h0).2.2.2.2.2.2.2.1 ![1, 256] (by sl_kernel_rfl) y

/-- What the run leaves there: its pieces read back. -/
def outA_20 (c : Dev nD) (t : Fin cfg0.N) (h0 : t.val % 8 = 0) : Vec F S1x1024 .f32 :=
  VO0_20.read (Elt F) (VO0_20.writes (Elt F) VO0_20.junk (runA m c t h0).2.2.2.2.2.2.2.1)

/-- The pieces stored there cover the whole buffer. -/
theorem scoverA_0 (c : Dev nD) (t : Fin cfg0.N) (h0 : t.val % 8 = 0) (y : S4x256x128.Idx) :
    ∃ pc ∈ (runA m c t h0).2.2.2.2.2.2.2.2.1, y ∈ pc.1.set :=
  View.cover_of_wholeMem (runA m c t h0).2.2.2.2.2.2.2.2.1 (by sl_whole_mem) y

/-- What the run leaves there: its pieces read back. -/
def soutA_0 (c : Dev nD) (t : Fin cfg0.N) (h0 : t.val % 8 = 0) : Vec F S4x256x128 .f32 :=
  VS0_0.read (Elt F) (VS0_0.writes (Elt F) VS0_0.junk (runA m c t h0).2.2.2.2.2.2.2.2.1)

/-- The pieces stored there cover the whole buffer. -/
theorem coverB_13 (c : Dev nD) (t : Fin cfg0.N) (h0 : ¬t.val % 8 = 0) (xo18 : Vec F S128x512 .f32) (xo19 : Vec F S1x512 .f32) (xo20 : Vec F S1x1024 .f32) (xs0 : Vec F S4x256x128 .f32) (y : S256x512.Idx) :
    ∃ pc ∈ (runB m c t h0 xo18 xo19 xo20 xs0).1, y ∈ pc.1.set :=
  View.cover_of_tiledL (runB m c t h0 xo18 xo19 xo20 xs0).1 S256x512.size (by sl_kernel_rfl) y

/-- What the run leaves there: its pieces read back. -/
def outB_13 (c : Dev nD) (t : Fin cfg0.N) (h0 : ¬t.val % 8 = 0) (xo18 : Vec F S128x512 .f32) (xo19 : Vec F S1x512 .f32) (xo20 : Vec F S1x1024 .f32) (xs0 : Vec F S4x256x128 .f32) : Vec F S256x512 .bf16 :=
  VO0_13.read (Elt F) (VO0_13.writes (Elt F) VO0_13.junk (runB m c t h0 xo18 xo19 xo20 xs0).1)

/-- The pieces stored there cover the whole buffer. -/
theorem coverB_14 (c : Dev nD) (t : Fin cfg0.N) (h0 : ¬t.val % 8 = 0) (xo18 : Vec F S128x512 .f32) (xo19 : Vec F S1x512 .f32) (xo20 : Vec F S1x1024 .f32) (xs0 : Vec F S4x256x128 .f32) (y : S256x512.Idx) :
    ∃ pc ∈ (runB m c t h0 xo18 xo19 xo20 xs0).2.1, y ∈ pc.1.set :=
  View.cover_of_tiledL (runB m c t h0 xo18 xo19 xo20 xs0).2.1 S256x512.size (by sl_kernel_rfl) y

/-- What the run leaves there: its pieces read back. -/
def outB_14 (c : Dev nD) (t : Fin cfg0.N) (h0 : ¬t.val % 8 = 0) (xo18 : Vec F S128x512 .f32) (xo19 : Vec F S1x512 .f32) (xo20 : Vec F S1x1024 .f32) (xs0 : Vec F S4x256x128 .f32) : Vec F S256x512 .bf16 :=
  VO0_14.read (Elt F) (VO0_14.writes (Elt F) VO0_14.junk (runB m c t h0 xo18 xo19 xo20 xs0).2.1)

/-- The pieces stored there cover the whole buffer. -/
theorem coverB_15 (c : Dev nD) (t : Fin cfg0.N) (h0 : ¬t.val % 8 = 0) (xo18 : Vec F S128x512 .f32) (xo19 : Vec F S1x512 .f32) (xo20 : Vec F S1x1024 .f32) (xs0 : Vec F S4x256x128 .f32) (y : S256x1024.Idx) :
    ∃ pc ∈ (runB m c t h0 xo18 xo19 xo20 xs0).2.2.1, y ∈ pc.1.set :=
  View.cover_of_tiledL (runB m c t h0 xo18 xo19 xo20 xs0).2.2.1 S256x256.size (by sl_kernel_rfl) y

/-- What the run leaves there: its pieces read back. -/
def outB_15 (c : Dev nD) (t : Fin cfg0.N) (h0 : ¬t.val % 8 = 0) (xo18 : Vec F S128x512 .f32) (xo19 : Vec F S1x512 .f32) (xo20 : Vec F S1x1024 .f32) (xs0 : Vec F S4x256x128 .f32) : Vec F S256x1024 .bf16 :=
  VO0_15.read (Elt F) (VO0_15.writes (Elt F) VO0_15.junk (runB m c t h0 xo18 xo19 xo20 xs0).2.2.1)

/-- The pieces stored there cover the whole buffer. -/
theorem coverB_16 (c : Dev nD) (t : Fin cfg0.N) (h0 : ¬t.val % 8 = 0) (xo18 : Vec F S128x512 .f32) (xo19 : Vec F S1x512 .f32) (xo20 : Vec F S1x1024 .f32) (xs0 : Vec F S4x256x128 .f32) (y : S256x1024.Idx) :
    ∃ pc ∈ (runB m c t h0 xo18 xo19 xo20 xs0).2.2.2.1, y ∈ pc.1.set :=
  View.cover_of_tiledL (runB m c t h0 xo18 xo19 xo20 xs0).2.2.2.1 S256x256.size (by sl_kernel_rfl) y

/-- What the run leaves there: its pieces read back. -/
def outB_16 (c : Dev nD) (t : Fin cfg0.N) (h0 : ¬t.val % 8 = 0) (xo18 : Vec F S128x512 .f32) (xo19 : Vec F S1x512 .f32) (xo20 : Vec F S1x1024 .f32) (xs0 : Vec F S4x256x128 .f32) : Vec F S256x1024 .bf16 :=
  VO0_16.read (Elt F) (VO0_16.writes (Elt F) VO0_16.junk (runB m c t h0 xo18 xo19 xo20 xs0).2.2.2.1)

/-- The pieces stored there cover the whole buffer. -/
theorem coverB_17 (c : Dev nD) (t : Fin cfg0.N) (h0 : ¬t.val % 8 = 0) (xo18 : Vec F S128x512 .f32) (xo19 : Vec F S1x512 .f32) (xo20 : Vec F S1x1024 .f32) (xs0 : Vec F S4x256x128 .f32) (y : S256x128.Idx) :
    ∃ pc ∈ (runB m c t h0 xo18 xo19 xo20 xs0).2.2.2.2.1, y ∈ pc.1.set :=
  View.cover_of_tiledL (runB m c t h0 xo18 xo19 xo20 xs0).2.2.2.2.1 S256x128.size (by sl_kernel_rfl) y

/-- What the run leaves there: its pieces read back. -/
def outB_17 (c : Dev nD) (t : Fin cfg0.N) (h0 : ¬t.val % 8 = 0) (xo18 : Vec F S128x512 .f32) (xo19 : Vec F S1x512 .f32) (xo20 : Vec F S1x1024 .f32) (xs0 : Vec F S4x256x128 .f32) : Vec F S256x128 .bf16 :=
  VO0_17.read (Elt F) (VO0_17.writes (Elt F) VO0_17.junk (runB m c t h0 xo18 xo19 xo20 xs0).2.2.2.2.1)

/-- The pieces stored there cover the whole buffer. -/
theorem coverB_18 (c : Dev nD) (t : Fin cfg0.N) (h0 : ¬t.val % 8 = 0) (xo18 : Vec F S128x512 .f32) (xo19 : Vec F S1x512 .f32) (xo20 : Vec F S1x1024 .f32) (xs0 : Vec F S4x256x128 .f32) (y : S128x512.Idx) :
    ∃ pc ∈ (runB m c t h0 xo18 xo19 xo20 xs0).2.2.2.2.2.1, y ∈ pc.1.set :=
  View.cover_of_tiledL (runB m c t h0 xo18 xo19 xo20 xs0).2.2.2.2.2.1 S128x512.size (by sl_kernel_rfl) y

/-- What the run leaves there: its pieces read back. -/
def outB_18 (c : Dev nD) (t : Fin cfg0.N) (h0 : ¬t.val % 8 = 0) (xo18 : Vec F S128x512 .f32) (xo19 : Vec F S1x512 .f32) (xo20 : Vec F S1x1024 .f32) (xs0 : Vec F S4x256x128 .f32) : Vec F S128x512 .f32 :=
  VO0_18.read (Elt F) (VO0_18.writes (Elt F) VO0_18.junk (runB m c t h0 xo18 xo19 xo20 xs0).2.2.2.2.2.1)

/-- The pieces stored there cover the whole buffer. -/
theorem coverB_19 (c : Dev nD) (t : Fin cfg0.N) (h0 : ¬t.val % 8 = 0) (xo18 : Vec F S128x512 .f32) (xo19 : Vec F S1x512 .f32) (xo20 : Vec F S1x1024 .f32) (xs0 : Vec F S4x256x128 .f32) (y : S1x512.Idx) :
    ∃ pc ∈ (runB m c t h0 xo18 xo19 xo20 xs0).2.2.2.2.2.2.1, y ∈ pc.1.set :=
  View.cover_of_tiledL (runB m c t h0 xo18 xo19 xo20 xs0).2.2.2.2.2.2.1 S1x512.size (by sl_kernel_rfl) y

/-- What the run leaves there: its pieces read back. -/
def outB_19 (c : Dev nD) (t : Fin cfg0.N) (h0 : ¬t.val % 8 = 0) (xo18 : Vec F S128x512 .f32) (xo19 : Vec F S1x512 .f32) (xo20 : Vec F S1x1024 .f32) (xs0 : Vec F S4x256x128 .f32) : Vec F S1x512 .f32 :=
  VO0_19.read (Elt F) (VO0_19.writes (Elt F) VO0_19.junk (runB m c t h0 xo18 xo19 xo20 xs0).2.2.2.2.2.2.1)

/-- The pieces stored there cover the whole buffer. -/
theorem coverB_20 (c : Dev nD) (t : Fin cfg0.N) (h0 : ¬t.val % 8 = 0) (xo18 : Vec F S128x512 .f32) (xo19 : Vec F S1x512 .f32) (xo20 : Vec F S1x1024 .f32) (xs0 : Vec F S4x256x128 .f32) (y : S1x1024.Idx) :
    ∃ pc ∈ (runB m c t h0 xo18 xo19 xo20 xs0).2.2.2.2.2.2.2.1, y ∈ pc.1.set :=
  View.cover_of_tiledL (runB m c t h0 xo18 xo19 xo20 xs0).2.2.2.2.2.2.2.1 S1x256.size (by sl_kernel_rfl) y

/-- What the run leaves there: its pieces read back. -/
def outB_20 (c : Dev nD) (t : Fin cfg0.N) (h0 : ¬t.val % 8 = 0) (xo18 : Vec F S128x512 .f32) (xo19 : Vec F S1x512 .f32) (xo20 : Vec F S1x1024 .f32) (xs0 : Vec F S4x256x128 .f32) : Vec F S1x1024 .f32 :=
  VO0_20.read (Elt F) (VO0_20.writes (Elt F) VO0_20.junk (runB m c t h0 xo18 xo19 xo20 xs0).2.2.2.2.2.2.2.1)

/-- The pieces stored there cover the whole buffer. -/
theorem scoverB_0 (c : Dev nD) (t : Fin cfg0.N) (h0 : ¬t.val % 8 = 0) (xo18 : Vec F S128x512 .f32) (xo19 : Vec F S1x512 .f32) (xo20 : Vec F S1x1024 .f32) (xs0 : Vec F S4x256x128 .f32) (y : S4x256x128.Idx) :
    ∃ pc ∈ (runB m c t h0 xo18 xo19 xo20 xs0).2.2.2.2.2.2.2.2.1, y ∈ pc.1.set :=
  View.cover_of_tiledL (runB m c t h0 xo18 xo19 xo20 xs0).2.2.2.2.2.2.2.2.1 S1x256x128.size (by sl_kernel_rfl) y

/-- What the run leaves there: its pieces read back. -/
def soutB_0 (c : Dev nD) (t : Fin cfg0.N) (h0 : ¬t.val % 8 = 0) (xo18 : Vec F S128x512 .f32) (xo19 : Vec F S1x512 .f32) (xo20 : Vec F S1x1024 .f32) (xs0 : Vec F S4x256x128 .f32) : Vec F S4x256x128 .f32 :=
  VS0_0.read (Elt F) (VS0_0.writes (Elt F) VS0_0.junk (runB m c t h0 xo18 xo19 xo20 xs0).2.2.2.2.2.2.2.2.1)

/-- What the outputs' buffers and the carried scratch hold after the body at position `n`, in window order, the scratch last. -/
def outsAt0 (c : Dev nD) : (n : ℕ) → n < cfg0.N → Vec F S256x512 .bf16 × Vec F S256x512 .bf16 × Vec F S256x1024 .bf16 × Vec F S256x1024 .bf16 × Vec F S256x128 .bf16 × Vec F S128x512 .f32 × Vec F S1x512 .f32 × Vec F S1x1024 .f32 × Vec F S4x256x128 .f32
  | 0, hn => (outA_13 m c ⟨0, hn⟩ (Nat.zero_mod _), outA_14 m c ⟨0, hn⟩ (Nat.zero_mod _), outA_15 m c ⟨0, hn⟩ (Nat.zero_mod _), outA_16 m c ⟨0, hn⟩ (Nat.zero_mod _), outA_17 m c ⟨0, hn⟩ (Nat.zero_mod _), outA_18 m c ⟨0, hn⟩ (Nat.zero_mod _), outA_19 m c ⟨0, hn⟩ (Nat.zero_mod _), outA_20 m c ⟨0, hn⟩ (Nat.zero_mod _), soutA_0 m c ⟨0, hn⟩ (Nat.zero_mod _))
  | n + 1, hn =>
    if h0 : (n + 1) % 8 = 0 then (outA_13 m c ⟨n + 1, hn⟩ h0, outA_14 m c ⟨n + 1, hn⟩ h0, outA_15 m c ⟨n + 1, hn⟩ h0, outA_16 m c ⟨n + 1, hn⟩ h0, outA_17 m c ⟨n + 1, hn⟩ h0, outA_18 m c ⟨n + 1, hn⟩ h0, outA_19 m c ⟨n + 1, hn⟩ h0, outA_20 m c ⟨n + 1, hn⟩ h0, soutA_0 m c ⟨n + 1, hn⟩ h0)
    else
      (outB_13 m c ⟨n + 1, hn⟩ h0 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, outB_14 m c ⟨n + 1, hn⟩ h0 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, outB_15 m c ⟨n + 1, hn⟩ h0 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, outB_16 m c ⟨n + 1, hn⟩ h0 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, outB_17 m c ⟨n + 1, hn⟩ h0 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, outB_18 m c ⟨n + 1, hn⟩ h0 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, outB_19 m c ⟨n + 1, hn⟩ h0 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, outB_20 m c ⟨n + 1, hn⟩ h0 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, soutB_0 m c ⟨n + 1, hn⟩ h0 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2)

/-- At the first point: that run's contents. -/
theorem outsAt0_A (c : Dev nD) (t : Fin cfg0.N) (h0 : t.val % 8 = 0) :
    outsAt0 m c t.val t.isLt = (outA_13 m c t h0, outA_14 m c t h0, outA_15 m c t h0, outA_16 m c t h0, outA_17 m c t h0, outA_18 m c t h0, outA_19 m c t h0, outA_20 m c t h0, soutA_0 m c t h0) := by
  obtain ⟨n, hn⟩ := t
  cases n with
  | zero => exact rfl
  | succ n => exact (dif_pos h0).trans rfl

/-- At a later point: that run's contents over what the point before left. -/
theorem outsAt0_B (c : Dev nD) (t : Fin cfg0.N) (h0 : ¬t.val % 8 = 0) :
    outsAt0 m c t.val t.isLt = (outB_13 m c t h0 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, outB_14 m c t h0 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, outB_15 m c t h0 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, outB_16 m c t h0 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, outB_17 m c t h0 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, outB_18 m c t h0 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, outB_19 m c t h0 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, outB_20 m c t h0 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, soutB_0 m c t h0 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  obtain ⟨n, hn⟩ := t
  cases n with
  | zero => exact (by exfalso; (try dsimp only at h0); exact absurd (Nat.zero_mod _) h0)
  | succ n => exact (dif_neg h0).trans rfl

/-- The region invariant before position `n`: the carried scratch at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2)) ∗ (∃ r, prngReg c r)) := by
  cases n with
  | zero => exact absurd rfl hz
  | succ n => rfl

/-- The pipeline's proof data: the arrays as found, and what each window's buffer holds after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => X0_3 m c t
    | ⟨4, _⟩ => X0_4 m c t
    | ⟨5, _⟩ => X0_5 m c t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t.val t.isLt).1
    | ⟨14, _⟩ => (outsAt0 m c t.val t.isLt).2.1
    | ⟨15, _⟩ => (outsAt0 m c t.val t.isLt).2.2.1
    | ⟨16, _⟩ => (outsAt0 m c t.val t.isLt).2.2.2.1
    | ⟨17, _⟩ => (outsAt0 m c t.val t.isLt).2.2.2.2.1
    | ⟨18, _⟩ => (outsAt0 m c t.val t.isLt).2.2.2.2.2.1
    | ⟨19, _⟩ => (outsAt0 m c t.val t.isLt).2.2.2.2.2.2.1
    | ⟨20, _⟩ => (outsAt0 m c t.val t.isLt).2.2.2.2.2.2.2.1
    | ⟨_ + 21, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t.val t.isLt).1 := by dsimp only [dats]
theorem after0_14 (c : Dev nD) (t : Fin cfg0.N) : (dats m 0 c).after 14 t = (outsAt0 m c t.val t.isLt).2.1 := by dsimp only [dats]
theorem after0_15 (c : Dev nD) (t : Fin cfg0.N) : (dats m 0 c).after 15 t = (outsAt0 m c t.val t.isLt).2.2.1 := by dsimp only [dats]
theorem after0_16 (c : Dev nD) (t : Fin cfg0.N) : (dats m 0 c).after 16 t = (outsAt0 m c t.val t.isLt).2.2.2.1 := by dsimp only [dats]
theorem after0_17 (c : Dev nD) (t : Fin cfg0.N) : (dats m 0 c).after 17 t = (outsAt0 m c t.val t.isLt).2.2.2.2.1 := by dsimp only [dats]
theorem after0_18 (c : Dev nD) (t : Fin cfg0.N) : (dats m 0 c).after 18 t = (outsAt0 m c t.val t.isLt).2.2.2.2.2.1 := by dsimp only [dats]
theorem after0_19 (c : Dev nD) (t : Fin cfg0.N) : (dats m 0 c).after 19 t = (outsAt0 m c t.val t.isLt).2.2.2.2.2.2.1 := by dsimp only [dats]
theorem after0_20 (c : Dev nD) (t : Fin cfg0.N) : (dats m 0 c).after 20 t = (outsAt0 m c t.val t.isLt).2.2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_18_B (c : Dev nD) (t : Fin cfg0.N) (h0 : ¬t.val % 8 = 0) (d) :
    (dats m 0 c).before 18 t d = (outsAt0 m c (t.val - 1) (Nat.lt_of_le_of_lt (Nat.sub_le _ _) t.isLt)).2.2.2.2.2.1 := by
  have hN : t.val < 8 := lt_of_lt_of_eq t.isLt (show cfg0.N = 8 from N_0)
  rw [Dat.before_out_kept _ 18 rfl t (by omega) (Bool.eq_false_iff.mpr fun h => by have := (flush0_18 _).mp h; dsimp only at this; omega)
    (fun _ => rfl) (fun _ _ => rfl)]
  dsimp only [dats]
theorem before0_19_B (c : Dev nD) (t : Fin cfg0.N) (h0 : ¬t.val % 8 = 0) (d) :
    (dats m 0 c).before 19 t d = (outsAt0 m c (t.val - 1) (Nat.lt_of_le_of_lt (Nat.sub_le _ _) t.isLt)).2.2.2.2.2.2.1 := by
  have hN : t.val < 8 := lt_of_lt_of_eq t.isLt (show cfg0.N = 8 from N_0)
  rw [Dat.before_out_kept _ 19 rfl t (by omega) (Bool.eq_false_iff.mpr fun h => by have := (flush0_19 _).mp h; dsimp only at this; omega)
    (fun _ => rfl) (fun _ _ => rfl)]
  dsimp only [dats]
theorem before0_20_B (c : Dev nD) (t : Fin cfg0.N) (h0 : ¬t.val % 8 = 0) (d) :
    (dats m 0 c).before 20 t d = (outsAt0 m c (t.val - 1) (Nat.lt_of_le_of_lt (Nat.sub_le _ _) t.isLt)).2.2.2.2.2.2.2.1 := by
  have hN : t.val < 8 := lt_of_lt_of_eq t.isLt (show cfg0.N = 8 from N_0)
  rw [Dat.before_out_kept _ 20 rfl t (by omega) (Bool.eq_false_iff.mpr fun h => by have := (flush0_20 _).mp h; dsimp only at this; omega)
    (fun _ => rfl) (fun _ _ => rfl)]
  dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- What the body gives back at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))

set_option maxHeartbeats 16000000 in
/-- The body at a generic point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  rw [show (dats m 0 c).Φ t.succ = PhiS m c (t.val + 1) t.isLt from rfl, PhiS_succ]
  have hN : t.val < 8 := lt_of_lt_of_eq t.isLt (show cfg0.N = 8 from N_0)
  by_cases h0 : t.val % 8 = 0
  · by_cases hz : t.val = 0
    · rw [PhiS_castSucc m c t, PhiS_zero m c _ _ hz, PhiA0_eq]
      rw [outsAt0_A m c t h0]
      unfold outA_13 outA_14 outA_15 outA_16 outA_17 outA_18 outA_19 outA_20 soutA_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
      iapply ((runA m c t h0).2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [HS0]; · iexact HS0
      iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%es0, HS0⟩⟩
      isplitl [HS0 Hg]
      · isplitl [HS0]
        · unfold owns; iexists _; isplitr
          swap; · iexact HS0
          ipureintro; exact View.read_writes_of_cover _ _ _ _ _ (scoverA_0 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (coverA_13 m c t h0)
      isplitl [H14]
      · unfold owns; iexists _; isplitr
        swap; · iexact H14
        ipureintro; exact View.read_writes_of_cover _ _ _ _ _ (coverA_14 m c t h0)
      isplitl [H15]
      · unfold owns; iexists _; isplitr
        swap; · iexact H15
        ipureintro; exact View.read_writes_of_cover _ _ _ _ _ (coverA_15 m c t h0)
      isplitl [H16]
      · unfold owns; iexists _; isplitr
        swap; · iexact H16
        ipureintro; exact View.read_writes_of_cover _ _ _ _ _ (coverA_16 m c t h0)
      isplitl [H17]
      · unfold owns; iexists _; isplitr
        swap; · iexact H17
        ipureintro; exact View.read_writes_of_cover _ _ _ _ _ (coverA_17 m c t h0)
      isplitl [H18]
      · unfold owns; iexists _; isplitr
        swap; · iexact H18
        ipureintro; exact View.read_writes_of_cover _ _ _ _ _ (coverA_18 m c t h0)
      isplitl [H19]
      · unfold owns; iexists _; isplitr
        swap; · iexact H19
        ipureintro; exact View.read_writes_of_cover _ _ _ _ _ (coverA_19 m c t h0)
      unfold owns; iexists _; isplitr
      swap; · iexact H20
      ipureintro; exact View.read_writes_of_cover _ _ _ _ _ (coverA_20 m c t h0)
    · exfalso; have hN : t.val < 8 := lt_of_lt_of_eq t.isLt (show cfg0.N = 8 from N_0); omega
  · by_cases hz : t.val = 0
    · exfalso; have hN : t.val < 8 := lt_of_lt_of_eq t.isLt (show cfg0.N = 8 from N_0); omega
    · rw [PhiS_castSucc m c t, PhiS_pos m c _ _ hz]
      rw [outsAt0_B m c t h0]
      simp only [before0_18_B m c t h0, before0_19_B m c t h0, before0_20_B m c t h0]
      unfold outB_13 outB_14 outB_15 outB_16 outB_17 outB_18 outB_19 outB_20 soutB_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
      iapply ((runB m c t h0 _ _ _ _).2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexact H18
      isplitl [H19]; · iexact H19
      isplitl [H20]; · iexact H20
      isplitl [HS0]; · iexact HS0
      iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%es0, HS0⟩⟩
      isplitl [HS0 Hg]
      · isplitl [HS0]
        · unfold owns; iexists _; isplitr
          swap; · iexact HS0
          ipureintro; exact View.read_writes_of_cover _ _ _ _ _ (scoverB_0 m c t h0 _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (coverB_13 m c t h0 _ _ _ _)
      isplitl [H14]
      · unfold owns; iexists _; isplitr
        swap; · iexact H14
        ipureintro; exact View.read_writes_of_cover _ _ _ _ _ (coverB_14 m c t h0 _ _ _ _)
      isplitl [H15]
      · unfold owns; iexists _; isplitr
        swap; · iexact H15
        ipureintro; exact View.read_writes_of_cover _ _ _ _ _ (coverB_15 m c t h0 _ _ _ _)
      isplitl [H16]
      · unfold owns; iexists _; isplitr
        swap; · iexact H16
        ipureintro; exact View.read_writes_of_cover _ _ _ _ _ (coverB_16 m c t h0 _ _ _ _)
      isplitl [H17]
      · unfold owns; iexists _; isplitr
        swap; · iexact H17
        ipureintro; exact View.read_writes_of_cover _ _ _ _ _ (coverB_17 m c t h0 _ _ _ _)
      isplitl [H18]
      · unfold owns; iexists _; isplitr
        swap; · iexact H18
        ipureintro; exact View.read_writes_of_cover _ _ _ _ _ (coverB_18 m c t h0 _ _ _ _)
      isplitl [H19]
      · unfold owns; iexists _; isplitr
        swap; · iexact H19
        ipureintro; exact View.read_writes_of_cover _ _ _ _ _ (coverB_19 m c t h0 _ _ _ _)
      unfold owns; iexists _; isplitr
      swap; · iexact H20
      ipureintro; exact View.read_writes_of_cover _ _ _ _ _ (coverB_20 m c t h0 _ _ _ _)

theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 8 := N_0; omega)

-- `θ_run_frame_track_shared`'s implicit arguments are found by unifying its conclusion with this one, which takes unfolding plain
-- definitions in a metavariable's type
set_option backward.isDefEq.respectTransparency.types false in
/-- The same, with every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- Every final state has the arrays at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Own

end
-- ==== Proof.Mine.Same.lean ====
/- The kernel's text and its idealization's are the same program at the machine's floats: the bodies, the tables and @main. -/
module

public import proofs.«01_k».proof.Defs
public import proofs.«01_k».proof.Proof.Gen.Kernel
public import proofs.«01_k».proof.Proof.Mine.Frame

@[expose] public section

set_option maxRecDepth 16384
set_option maxHeartbeats 2000000

namespace Cert.Mine

open Idealize.ShloMosaic Idealize.SL.Sem

/-- The two kernel bodies. -/
theorem body_same : Cert.Kernel.cc0_gla_bwd (F := Bits) = Cert.KernelIdeal.cc0_gla_bwd (F := Bits) := rfl

/-- The two body tables. -/
theorem defs₀_same : Cert.Kernel.defs₀ (F := Bits) = Cert.KernelIdeal.defs₀ (F := Bits) := by
  refine congrArg Defs.onTc (funext fun l => funext fun a => ?_)
  match l, a with
  | 0, (t, s) => exact rfl
  | ⟨n + 1, h⟩, _ => exact absurd h (by omega)

/-- The two tables with the regions and pipelines. -/
theorem defs_same : Cert.Kernel.defs (F := Bits) = Cert.KernelIdeal.defs (F := Bits) :=
  congrArg (Pipeline.defs (Cert.KernelIdeal.pcfgs (F := Bits))) defs₀_same

/-- The two functions @main. -/
theorem main_same : Cert.Kernel.main (F := Bits) = Cert.KernelIdeal.main (F := Bits) := rfl

/-- The kernel's run, which is the idealization's at the machine's floats. -/
theorem frame_kernel : Cert.quiescent_Kernel (hKernel := Cert.Kernel.Gen.facts) := by
  intro m ρ _
  have h := Cert.KernelIdeal.Own.frame (F := Bits) m ρ
  rw [← defs_same, ← main_same] at h
  exact h

end Cert.Mine
-- ==== Proof.Mine.Real.lean ====
/- Real numbers inside the extended reals: an array all of whose elements are real, and the vector operations on such arrays. -/
module

public import Idealize.ShloMosaic.Lib.Pointwise
public import Idealize.ShloMosaic.Lib.IdealHost

@[expose] public section

set_option maxRecDepth 16384

noncomputable section

namespace Cert.Mine

open Idealize.ShloMosaic

/-- A real array of rank 1, written as a function of the position. -/
def R1 {a : ℕ} (f : ℕ → ℝ) : (⟨1, ![a]⟩ : Shape).Idx → EReal := fun i => ((f (i 0).val : ℝ) : EReal)
/-- A real array of rank 2. -/
def R2 {a b : ℕ} (f : ℕ → ℕ → ℝ) : (⟨2, ![a, b]⟩ : Shape).Idx → EReal := fun i => ((f (i 0).val (i 1).val : ℝ) : EReal)
/-- A real array of rank 3. -/
def R3 {a b c : ℕ} (f : ℕ → ℕ → ℕ → ℝ) : (⟨3, ![a, b, c]⟩ : Shape).Idx → EReal :=
  fun i => ((f (i 0).val (i 1).val (i 2).val : ℝ) : EReal)
/-- A real array of rank 4. -/
def R4 {a b c d : ℕ} (f : ℕ → ℕ → ℕ → ℕ → ℝ) : (⟨4, ![a, b, c, d]⟩ : Shape).Idx → EReal :=
  fun i => ((f (i 0).val (i 1).val (i 2).val (i 3).val : ℝ) : EReal)

/-- The real numbers' finite sum, read in the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The quotient of two real numbers, the divisor not zero. -/
theorem div_real (x : ℝ) {y : ℝ} (h : y ≠ 0) : Ideal.div (x : EReal) (y : EReal) = ((x / y : ℝ) : EReal) := by
  rw [Ideal.div_coe h, ← EReal.coe_mul, mul_one_div]

/-- The reciprocal square root of a positive real number. -/
theorem rsqrt_real {x : ℝ} (h : 0 < x) : Ideal.rsqrt (x : EReal) = (((Real.sqrt x)⁻¹ : ℝ) : EReal) := by
  rw [Ideal.rsqrt_coe, if_neg (not_lt.mpr h.le), if_neg h.ne']

end Cert.Mine

end
-- ==== Proof.Mine.Ops.lean ====
/- The vector operations on arrays whose elements are real: each gives the array of the real results. -/
module

public import proofs.«01_k».proof.Proof.Mine.Real
public import proofs.«01_k».proof.Proof.Gen.KernelIdeal.Skeleton

@[expose] public section

set_option maxRecDepth 16384

noncomputable section

namespace Cert.Mine

open Idealize.ShloMosaic Cert.KernelIdeal Cert.KernelIdeal.Gen

/-- Two real arrays are equal when their elements inside the shape are. -/
theorem R2_congr {a b : ℕ} {f g : ℕ → ℕ → ℝ} (h : ∀ i < a, ∀ j < b, f i j = g i j) :
    (R2 f : (⟨2, ![a, b]⟩ : Shape).Idx → EReal) = R2 g := by
  funext x; exact congrArg _ (h _ (x 0).isLt _ (x 1).isLt)

section Elementwise
variable {a b : ℕ} {φ : FTy} (f g : ℕ → ℕ → ℝ)

theorem mulf_R2 : mulf (F := Ideal) (s := ⟨2, ![a, b]⟩) (φ := φ) (R2 f) (R2 g) = R2 (fun i j => f i j * g i j) := by
  funext x; exact (EReal.coe_mul _ _).symm
theorem addf_R2 : addf (F := Ideal) (s := ⟨2, ![a, b]⟩) (φ := φ) (R2 f) (R2 g) = R2 (fun i j => f i j + g i j) := by
  funext x; exact (EReal.coe_add _ _).symm
theorem subf_R2 : subf (F := Ideal) (s := ⟨2, ![a, b]⟩) (φ := φ) (R2 f) (R2 g) = R2 (fun i j => f i j - g i j) := by
  funext x; exact (EReal.coe_sub _ _).symm
theorem exp_R2 : exp (F := Ideal) (s := ⟨2, ![a, b]⟩) (φ := φ) (R2 f) = R2 (fun i j => Real.exp (f i j)) := by
  funext x; exact Ideal.exp_coe _
theorem divf_R2 (h : ∀ i j, g i j ≠ 0) :
    divf (F := Ideal) (s := ⟨2, ![a, b]⟩) (φ := φ) (R2 f) (R2 g) = R2 (fun i j => f i j / g i j) := by
  funext x; exact div_real _ (h _ _)
theorem rsqrt_R2 (h : ∀ i j, 0 < f i j) :
    rsqrt (F := Ideal) (s := ⟨2, ![a, b]⟩) (φ := φ) (R2 f) = R2 (fun i j => (Real.sqrt (f i j))⁻¹) := by
  funext x; exact rsqrt_real (h _ _)
theorem truncf_R2 (h) : truncf (F := Ideal) (s := ⟨2, ![a, b]⟩) (φ := .f32) .bf16 (R2 f) h = R2 f := rfl
theorem extf_R2 (h) : extf (F := Ideal) (s := ⟨2, ![a, b]⟩) (φ := .bf16) .f32 (R2 f) h = R2 f := rfl

theorem bc_0 : broadcast ⟨2, ![a, b]⟩ (Scalar.ofBits (F := Ideal) .f32 0x00000000#32) = R2 (fun _ _ => 0) := by
  funext x; exact Ideal.ofBits_zero_f32
theorem bc_1 : broadcast ⟨2, ![a, b]⟩ (Scalar.ofBits (F := Ideal) .f32 0x3F800000#32) = R2 (fun _ _ => 1) := by
  funext x; exact Ideal.ofBits_one_f32
theorem constant_0 : constant (F := Ideal) ⟨2, ![a, b]⟩ .f32 0x00000000#32 = R2 (fun _ _ => 0) := by
  funext x; exact Ideal.ofBits_zero_f32
theorem ofBits_256 : Ideal.ofBits .f32 0x43800000#32 = ((256 : ℝ) : EReal) := by
  simp [Ideal.ofBits, Ideal.ieee, -EReal.coe_mul]; norm_num
theorem bc_256 : broadcast ⟨2, ![a, b]⟩ (Scalar.ofBits (F := Ideal) .f32 0x43800000#32) = R2 (fun _ _ => 256) := by
  funext x; exact ofBits_256
theorem ofBits_16th : Ideal.ofBits .f32 0x3D800000#32 = ((1 / 16 : ℝ) : EReal) := by
  simp [Ideal.ofBits, Ideal.ieee, -EReal.coe_mul]; norm_num
theorem bc_16th : broadcast ⟨2, ![a, b]⟩ (Scalar.ofBits (F := Ideal) .f32 0x3D800000#32) = R2 (fun _ _ => 1 / 16) := by
  funext x; exact ofBits_16th
end Elementwise

/-- The scale of the queries, the number its word stands for. -/
def kap : ℝ := (Ideal.ofBits .f32 0x3DB504F3#32).toReal
/-- The term added under the root, the number its word stands for. -/
def eps : ℝ := (Ideal.ofBits .f32 0x358637BD#32).toReal

theorem ofBits_kap : Ideal.ofBits .f32 0x3DB504F3#32 = ((kap : ℝ) : EReal) := by
  unfold kap; simp [Ideal.ofBits, Ideal.ieee, -EReal.coe_mul]
theorem ofBits_eps : Ideal.ofBits .f32 0x358637BD#32 = ((eps : ℝ) : EReal) := by
  unfold eps; simp [Ideal.ofBits, Ideal.ieee, -EReal.coe_mul]
theorem eps_pos : 0 < eps := by
  unfold eps; simp [Ideal.ofBits, Ideal.ieee, -EReal.coe_mul]
theorem bc_kap {a b : ℕ} : broadcast ⟨2, ![a, b]⟩ (Scalar.ofBits (F := Ideal) .f32 0x3DB504F3#32) = R2 (fun _ _ => kap) := by
  funext x; exact ofBits_kap
theorem bc_eps {a b : ℕ} : broadcast ⟨2, ![a, b]⟩ (Scalar.ofBits (F := Ideal) .f32 0x358637BD#32) = R2 (fun _ _ => eps) := by
  funext x; exact ofBits_eps

section Layout
variable {a b : ℕ}

theorem shapeCast_R2 (f : ℕ → ℕ → ℝ) (h) : shapeCast (s := ⟨2, ![a, b]⟩) ⟨2, ![a, b]⟩ (R2 f) h = R2 f :=
  shapeCast_id _ _
theorem shapeCast_S256x1 (f : ℕ → ℝ) (h) : shapeCast (s := S256) S256x1 (R1 f) h = R2 (fun i _ => f i) := by
  funext x; idx_vars x; pointwise; rfl
theorem shapeCast_S1x256 (f : ℕ → ℝ) (h) : shapeCast (s := S256) S1x256 (R1 f) h = R2 (fun _ j => f j) := by
  funext x; idx_vars x; pointwise; rfl
theorem shapeCast_S1x512 (f : ℕ → ℝ) (h) : shapeCast (s := S512) S1x512 (R1 f) h = R2 (fun _ j => f j) := by
  funext x; idx_vars x; pointwise; rfl
theorem shapeCast_S1x128 (f : ℕ → ℝ) (h) : shapeCast (s := S128) S1x128 (R1 f) h = R2 (fun _ j => f j) := by
  funext x; idx_vars x; pointwise; rfl
theorem shapeCast_4to2 (f : ℕ → ℕ → ℕ → ℕ → ℝ) (h) :
    shapeCast (s := S1x1x256x128) S256x128 (R4 f) h = R2 (fun i j => f 0 0 i j) := by
  funext x; idx_vars x; pointwise; rfl
theorem shapeCast_3to2 (f : ℕ → ℕ → ℕ → ℝ) (h) :
    shapeCast (s := S1x256x128) S256x128 (R3 f) h = R2 (fun i j => f 0 i j) := by
  funext x; idx_vars x; pointwise; rfl
theorem shapeCast_2to3 (f : ℕ → ℕ → ℝ) (h) :
    shapeCast (s := S256x128) S1x256x128 (R2 f) h = R3 (fun _ i j => f i j) := by
  funext x; idx_vars x; pointwise; rfl

theorem bcTo_row (f : ℕ → ℕ → ℝ) (h) : broadcastTo (s := S1x256) S256x256 (R2 f) h = R2 (fun _ j => f 0 j) := by
  funext x; idx_vars x; pointwise; rfl
theorem bcTo_row512 (f : ℕ → ℕ → ℝ) (h) : broadcastTo (s := S1x512) S256x512 (R2 f) h = R2 (fun _ j => f 0 j) := by
  funext x; idx_vars x; pointwise; rfl
theorem bcTo_row128 (f : ℕ → ℕ → ℝ) (h) : broadcastTo (s := S1x128) S256x128 (R2 f) h = R2 (fun _ j => f 0 j) := by
  funext x; idx_vars x; pointwise; rfl
theorem bcTo_col (f : ℕ → ℕ → ℝ) (h) : broadcastTo (s := S256x1) S256x256 (R2 f) h = R2 (fun i _ => f i 0) := by
  funext x; idx_vars x; pointwise; rfl

theorem slice_R2 {c d o p : ℕ} (f : ℕ → ℕ → ℝ) (h) :
    extractStridedSlice (s := ⟨2, ![a, b]⟩) ⟨2, ![c, d]⟩ ![o, p] (R2 f) h = R2 (fun i j => f (o + i) (p + j)) := by
  funext x; rfl

/-- The sum along axis 0. -/
def sum0_S256_ (x : FVec Ideal S256x256 .f32) : FVec Ideal S256 .f32 := multiReduction .add [0] S256 x 0x00000000#32 reduces_S256x256_S256_2 (.inl rfl) rfl
theorem sum0_S256_of (x : FVec Ideal S256x256 .f32) (h) (h' : FTy.f32 = FTy.f32 ∨ FTy.f32 = FTy.bf16) (h'' : 0#32 = 0#32) :
    multiReduction (F := Ideal) (s := S256x256) (φ := .f32) .add [0] S256 x 0x00000000#32 h h' h'' = sum0_S256_ x := rfl
theorem sum0_S256 (f : ℕ → ℕ → ℝ) : sum0_S256_ (R2 f) = R1 (fun j => ∑ i : Fin 256, f i j) := by
  unfold sum0_S256_
  funext x; idx_vars x; pointwise; exact coe_sum _ _
/-- The sum along axis 1. -/
def sum1_S256_ (x : FVec Ideal S256x256 .f32) : FVec Ideal S256 .f32 := multiReduction .add [1] S256 x 0x00000000#32 reduces_S256x256_S256 (.inl rfl) rfl
theorem sum1_S256_of (x : FVec Ideal S256x256 .f32) (h) (h' : FTy.f32 = FTy.f32 ∨ FTy.f32 = FTy.bf16) (h'' : 0#32 = 0#32) :
    multiReduction (F := Ideal) (s := S256x256) (φ := .f32) .add [1] S256 x 0x00000000#32 h h' h'' = sum1_S256_ x := rfl
theorem sum1_S256 (f : ℕ → ℕ → ℝ) : sum1_S256_ (R2 f) = R1 (fun i => ∑ j : Fin 256, f i j) := by
  unfold sum1_S256_
  funext x; idx_vars x; pointwise; exact coe_sum _ _
/-- The sum along axis 0. -/
def sum0_S512_ (x : FVec Ideal S256x512 .f32) : FVec Ideal S512 .f32 := multiReduction .add [0] S512 x 0x00000000#32 reduces_S256x512_S512 (.inl rfl) rfl
theorem sum0_S512_of (x : FVec Ideal S256x512 .f32) (h) (h' : FTy.f32 = FTy.f32 ∨ FTy.f32 = FTy.bf16) (h'' : 0#32 = 0#32) :
    multiReduction (F := Ideal) (s := S256x512) (φ := .f32) .add [0] S512 x 0x00000000#32 h h' h'' = sum0_S512_ x := rfl
theorem sum0_S512 (f : ℕ → ℕ → ℝ) : sum0_S512_ (R2 f) = R1 (fun j => ∑ i : Fin 256, f i j) := by
  unfold sum0_S512_
  funext x; idx_vars x; pointwise; exact coe_sum _ _
/-- The sum along axis 0. -/
def sum0_S128_ (x : FVec Ideal S256x128 .f32) : FVec Ideal S128 .f32 := multiReduction .add [0] S128 x 0x00000000#32 reduces_S256x128_S128 (.inl rfl) rfl
theorem sum0_S128_of (x : FVec Ideal S256x128 .f32) (h) (h' : FTy.f32 = FTy.f32 ∨ FTy.f32 = FTy.bf16) (h'' : 0#32 = 0#32) :
    multiReduction (F := Ideal) (s := S256x128) (φ := .f32) .add [0] S128 x 0x00000000#32 h h' h'' = sum0_S128_ x := rfl
theorem sum0_S128 (f : ℕ → ℕ → ℝ) : sum0_S128_ (R2 f) = R1 (fun j => ∑ i : Fin 256, f i j) := by
  unfold sum0_S128_
  funext x; idx_vars x; pointwise; exact coe_sum _ _
end Layout

section Products
variable (f g k : ℕ → ℕ → ℝ)

theorem mm_64_256_128 (p) : matmul (F := Ideal) (φ₁ := .bf16) (φ₂ := .bf16) dot_S64x256_S256x128_S64x128_1_0_0_1_n_n p (R2 f) (R2 g) (R2 k)
    = R2 (fun i j => k i j + ∑ x : Fin 256, f i x * g x j) := by
  funext x; idx_vars x; pointwise; simp only [R2, ← EReal.coe_mul, coe_sum, ← EReal.coe_add]; rfl
theorem mm_64_128_256 (p) : matmul (F := Ideal) (φ₁ := .bf16) (φ₂ := .bf16) dot_S64x128_S256x128_S64x256_1_1_0_0_n_n p (R2 f) (R2 g) (R2 k)
    = R2 (fun i j => k i j + ∑ x : Fin 128, f i x * g j x) := by
  funext x; idx_vars x; pointwise; simp only [R2, ← EReal.coe_mul, coe_sum, ← EReal.coe_add]; rfl
theorem mm_own (p) : matmul (F := Ideal) (φ₁ := .bf16) (φ₂ := .bf16) dot_S64x256_S64x128_S256x128_0_0_1_1_n_n p (R2 f) (R2 g) (R2 k)
    = R2 (fun i j => k i j + ∑ x : Fin 64, f x i * g x j) := by
  funext x; idx_vars x; pointwise; simp only [R2, ← EReal.coe_mul, coe_sum, ← EReal.coe_add]; rfl
theorem mm_tri (p) : matmul (F := Ideal) (φ₁ := .bf16) (φ₂ := .bf16) dot_S256x256_S256x512_S256x512_1_0_0_1_n_n p (R2 f) (R2 g) (R2 k)
    = R2 (fun i j => k i j + ∑ x : Fin 256, f i x * g x j) := by
  funext x; idx_vars x; pointwise; simp only [R2, ← EReal.coe_mul, coe_sum, ← EReal.coe_add]; rfl
theorem mm_dga (p) : matmul (F := Ideal) (φ₁ := .bf16) (φ₂ := .bf16) dot_S256x512_S128x512_S256x128_1_1_0_0_n_n p (R2 f) (R2 g) (R2 k)
    = R2 (fun i j => k i j + ∑ x : Fin 512, f i x * g j x) := by
  funext x; idx_vars x; pointwise; simp only [R2, ← EReal.coe_mul, coe_sum, ← EReal.coe_add]; rfl
theorem mm_dwa (p) : matmul (F := Ideal) (φ₁ := .bf16) (φ₂ := .bf16) dot_S256x128_S256x512_S128x512_0_0_1_1_n_n p (R2 f) (R2 g) (R2 k)
    = R2 (fun i j => k i j + ∑ x : Fin 256, f x i * g x j) := by
  funext x; idx_vars x; pointwise; simp only [R2, ← EReal.coe_mul, coe_sum, ← EReal.coe_add]; rfl
end Products

section Pieces
variable (p : ℕ → ℕ → ℕ → ℝ)

theorem cat_S256x128_S64x128 (h) : concatenate S256x128 0 [⟨S64x128, R2 (p 0)⟩, ⟨S64x128, R2 (p 1)⟩, ⟨S64x128, R2 (p 2)⟩, ⟨S64x128, R2 (p 3)⟩] h
    = R2 (fun i j => p (i / 64) (i % 64) j) := by
  funext x; idx_vars x; pointwise
  have hx := x0.isLt
  by_cases h0 : (x0.val) < 64
  · rw [dif_pos h0]
    show ((p 0 (x0.val) x1.val : ℝ) : EReal) = ((p (x0.val / 64) (x0.val % 64) x1.val : ℝ) : EReal)
    rw [show x0.val / 64 = 0 by omega, show x0.val % 64 = (x0.val) by omega]
  rw [dif_neg h0]
  by_cases h1 : (x0.val - 64) < 64
  · rw [dif_pos h1]
    show ((p 1 (x0.val - 64) x1.val : ℝ) : EReal) = ((p (x0.val / 64) (x0.val % 64) x1.val : ℝ) : EReal)
    rw [show x0.val / 64 = 1 by omega, show x0.val % 64 = (x0.val - 64) by omega]
  rw [dif_neg h1]
  by_cases h2 : (x0.val - 64 - 64) < 64
  · rw [dif_pos h2]
    show ((p 2 (x0.val - 64 - 64) x1.val : ℝ) : EReal) = ((p (x0.val / 64) (x0.val % 64) x1.val : ℝ) : EReal)
    rw [show x0.val / 64 = 2 by omega, show x0.val % 64 = (x0.val - 64 - 64) by omega]
  rw [dif_neg h2]
  show ((p 3 (x0.val - 64 - 64 - 64) x1.val : ℝ) : EReal) = ((p (x0.val / 64) (x0.val % 64) x1.val : ℝ) : EReal)
  rw [show x0.val / 64 = 3 by omega, show x0.val % 64 = (x0.val - 64 - 64 - 64) by omega]
theorem cat_S256x512_S64x512 (h) : concatenate S256x512 0 [⟨S64x512, R2 (p 0)⟩, ⟨S64x512, R2 (p 1)⟩, ⟨S64x512, R2 (p 2)⟩, ⟨S64x512, R2 (p 3)⟩] h
    = R2 (fun i j => p (i / 64) (i % 64) j) := by
  funext x; idx_vars x; pointwise
  have hx := x0.isLt
  by_cases h0 : (x0.val) < 64
  · rw [dif_pos h0]
    show ((p 0 (x0.val) x1.val : ℝ) : EReal) = ((p (x0.val / 64) (x0.val % 64) x1.val : ℝ) : EReal)
    rw [show x0.val / 64 = 0 by omega, show x0.val % 64 = (x0.val) by omega]
  rw [dif_neg h0]
  by_cases h1 : (x0.val - 64) < 64
  · rw [dif_pos h1]
    show ((p 1 (x0.val - 64) x1.val : ℝ) : EReal) = ((p (x0.val / 64) (x0.val % 64) x1.val : ℝ) : EReal)
    rw [show x0.val / 64 = 1 by omega, show x0.val % 64 = (x0.val - 64) by omega]
  rw [dif_neg h1]
  by_cases h2 : (x0.val - 64 - 64) < 64
  · rw [dif_pos h2]
    show ((p 2 (x0.val - 64 - 64) x1.val : ℝ) : EReal) = ((p (x0.val / 64) (x0.val % 64) x1.val : ℝ) : EReal)
    rw [show x0.val / 64 = 2 by omega, show x0.val % 64 = (x0.val - 64 - 64) by omega]
  rw [dif_neg h2]
  show ((p 3 (x0.val - 64 - 64 - 64) x1.val : ℝ) : EReal) = ((p (x0.val / 64) (x0.val % 64) x1.val : ℝ) : EReal)
  rw [show x0.val / 64 = 3 by omega, show x0.val % 64 = (x0.val - 64 - 64 - 64) by omega]
theorem cat_S256x256_S64x256 (h) : concatenate S256x256 0 [⟨S64x256, R2 (p 0)⟩, ⟨S64x256, R2 (p 1)⟩, ⟨S64x256, R2 (p 2)⟩, ⟨S64x256, R2 (p 3)⟩] h
    = R2 (fun i j => p (i / 64) (i % 64) j) := by
  funext x; idx_vars x; pointwise
  have hx := x0.isLt
  by_cases h0 : (x0.val) < 64
  · rw [dif_pos h0]
    show ((p 0 (x0.val) x1.val : ℝ) : EReal) = ((p (x0.val / 64) (x0.val % 64) x1.val : ℝ) : EReal)
    rw [show x0.val / 64 = 0 by omega, show x0.val % 64 = (x0.val) by omega]
  rw [dif_neg h0]
  by_cases h1 : (x0.val - 64) < 64
  · rw [dif_pos h1]
    show ((p 1 (x0.val - 64) x1.val : ℝ) : EReal) = ((p (x0.val / 64) (x0.val % 64) x1.val : ℝ) : EReal)
    rw [show x0.val / 64 = 1 by omega, show x0.val % 64 = (x0.val - 64) by omega]
  rw [dif_neg h1]
  by_cases h2 : (x0.val - 64 - 64) < 64
  · rw [dif_pos h2]
    show ((p 2 (x0.val - 64 - 64) x1.val : ℝ) : EReal) = ((p (x0.val / 64) (x0.val % 64) x1.val : ℝ) : EReal)
    rw [show x0.val / 64 = 2 by omega, show x0.val % 64 = (x0.val - 64 - 64) by omega]
  rw [dif_neg h2]
  show ((p 3 (x0.val - 64 - 64 - 64) x1.val : ℝ) : EReal) = ((p (x0.val / 64) (x0.val % 64) x1.val : ℝ) : EReal)
  rw [show x0.val / 64 = 3 by omega, show x0.val % 64 = (x0.val - 64 - 64 - 64) by omega]
theorem cat_S256x512_S256x128 (h) : concatenate S256x512 1 [⟨S256x128, R2 (p 0)⟩, ⟨S256x128, R2 (p 1)⟩, ⟨S256x128, R2 (p 2)⟩, ⟨S256x128, R2 (p 3)⟩] h
    = R2 (fun i j => p (j / 128) i (j % 128)) := by
  funext x; idx_vars x; pointwise
  have hx := x1.isLt
  by_cases h0 : (x1.val) < 128
  · rw [dif_pos h0]
    show ((p 0 x0.val (x1.val) : ℝ) : EReal) = ((p (x1.val / 128) x0.val (x1.val % 128) : ℝ) : EReal)
    rw [show x1.val / 128 = 0 by omega, show x1.val % 128 = (x1.val) by omega]
  rw [dif_neg h0]
  by_cases h1 : (x1.val - 128) < 128
  · rw [dif_pos h1]
    show ((p 1 x0.val (x1.val - 128) : ℝ) : EReal) = ((p (x1.val / 128) x0.val (x1.val % 128) : ℝ) : EReal)
    rw [show x1.val / 128 = 1 by omega, show x1.val % 128 = (x1.val - 128) by omega]
  rw [dif_neg h1]
  by_cases h2 : (x1.val - 128 - 128) < 128
  · rw [dif_pos h2]
    show ((p 2 x0.val (x1.val - 128 - 128) : ℝ) : EReal) = ((p (x1.val / 128) x0.val (x1.val % 128) : ℝ) : EReal)
    rw [show x1.val / 128 = 2 by omega, show x1.val % 128 = (x1.val - 128 - 128) by omega]
  rw [dif_neg h2]
  show ((p 3 x0.val (x1.val - 128 - 128 - 128) : ℝ) : EReal) = ((p (x1.val / 128) x0.val (x1.val % 128) : ℝ) : EReal)
  rw [show x1.val / 128 = 3 by omega, show x1.val % 128 = (x1.val - 128 - 128 - 128) by omega]
theorem cat_S64x512_S64x128 (h) : concatenate S64x512 1 [⟨S64x128, R2 (p 0)⟩, ⟨S64x128, R2 (p 1)⟩, ⟨S64x128, R2 (p 2)⟩, ⟨S64x128, R2 (p 3)⟩] h
    = R2 (fun i j => p (j / 128) i (j % 128)) := by
  funext x; idx_vars x; pointwise
  have hx := x1.isLt
  by_cases h0 : (x1.val) < 128
  · rw [dif_pos h0]
    show ((p 0 x0.val (x1.val) : ℝ) : EReal) = ((p (x1.val / 128) x0.val (x1.val % 128) : ℝ) : EReal)
    rw [show x1.val / 128 = 0 by omega, show x1.val % 128 = (x1.val) by omega]
  rw [dif_neg h0]
  by_cases h1 : (x1.val - 128) < 128
  · rw [dif_pos h1]
    show ((p 1 x0.val (x1.val - 128) : ℝ) : EReal) = ((p (x1.val / 128) x0.val (x1.val % 128) : ℝ) : EReal)
    rw [show x1.val / 128 = 1 by omega, show x1.val % 128 = (x1.val - 128) by omega]
  rw [dif_neg h1]
  by_cases h2 : (x1.val - 128 - 128) < 128
  · rw [dif_pos h2]
    show ((p 2 x0.val (x1.val - 128 - 128) : ℝ) : EReal) = ((p (x1.val / 128) x0.val (x1.val % 128) : ℝ) : EReal)
    rw [show x1.val / 128 = 2 by omega, show x1.val % 128 = (x1.val - 128 - 128) by omega]
  rw [dif_neg h2]
  show ((p 3 x0.val (x1.val - 128 - 128 - 128) : ℝ) : EReal) = ((p (x1.val / 128) x0.val (x1.val % 128) : ℝ) : EReal)
  rw [show x1.val / 128 = 3 by omega, show x1.val % 128 = (x1.val - 128 - 128 - 128) by omega]
theorem cat_S1x512_S1x128 (h) : concatenate S1x512 1 [⟨S1x128, R2 (p 0)⟩, ⟨S1x128, R2 (p 1)⟩, ⟨S1x128, R2 (p 2)⟩, ⟨S1x128, R2 (p 3)⟩] h
    = R2 (fun i j => p (j / 128) i (j % 128)) := by
  funext x; idx_vars x; pointwise
  have hx := x1.isLt
  obtain rfl : x0 = 0 := Subsingleton.elim _ _
  by_cases h0 : (x1.val) < 128
  · rw [dif_pos h0]
    show ((p 0 0 (x1.val) : ℝ) : EReal) = ((p (x1.val / 128) 0 (x1.val % 128) : ℝ) : EReal)
    rw [show x1.val / 128 = 0 by omega, show x1.val % 128 = (x1.val) by omega]
  rw [dif_neg h0]
  by_cases h1 : (x1.val - 128) < 128
  · rw [dif_pos h1]
    show ((p 1 0 (x1.val - 128) : ℝ) : EReal) = ((p (x1.val / 128) 0 (x1.val % 128) : ℝ) : EReal)
    rw [show x1.val / 128 = 1 by omega, show x1.val % 128 = (x1.val - 128) by omega]
  rw [dif_neg h1]
  by_cases h2 : (x1.val - 128 - 128) < 128
  · rw [dif_pos h2]
    show ((p 2 0 (x1.val - 128 - 128) : ℝ) : EReal) = ((p (x1.val / 128) 0 (x1.val % 128) : ℝ) : EReal)
    rw [show x1.val / 128 = 2 by omega, show x1.val % 128 = (x1.val - 128 - 128) by omega]
  rw [dif_neg h2]
  show ((p 3 0 (x1.val - 128 - 128 - 128) : ℝ) : EReal) = ((p (x1.val / 128) 0 (x1.val % 128) : ℝ) : EReal)
  rw [show x1.val / 128 = 3 by omega, show x1.val % 128 = (x1.val - 128 - 128 - 128) by omega]
end Pieces

section Masks

/-- A mask: the word one where the proposition holds, zero elsewhere. -/
def B2 {a b : ℕ} (p : ℕ → ℕ → Prop) [∀ i j, Decidable (p i j)] : (⟨2, ![a, b]⟩ : Shape).Idx → BitVec 1 :=
  fun i => if p (i 0).val (i 1).val then 1#1 else 0#1

theorem select_B2 {a b : ℕ} (p : ℕ → ℕ → Prop) [∀ i j, Decidable (p i j)] (f g : ℕ → ℕ → ℝ) :
    select (s := ⟨2, ![a, b]⟩) (α := Ideal .f32) (B2 p) (R2 f) (R2 g) = R2 (fun i j => if p i j then f i j else g i j) := by
  funext x
  show Scalar.select (B2 p x) _ _ = _
  unfold B2 Scalar.select R2
  split <;> simp_all

theorem andi_B2 {a b : ℕ} (p q : ℕ → ℕ → Prop) [∀ i j, Decidable (p i j)] [∀ i j, Decidable (q i j)] :
    andi (s := ⟨2, ![a, b]⟩) (B2 p) (B2 q) = B2 (fun i j => p i j ∧ q i j) := by
  funext x
  show (B2 p x) &&& (B2 q x) = _
  unfold B2
  split <;> split <;> simp_all

/-- The row's number. -/
def io512 : IVec S256x512 32 := iota .tc S256x512 32 [0] iota_S256x512_d0_w32
theorem io512_of (h) : iota .tc S256x512 32 [0] h = io512 := rfl

theorem row_eq_63 : cmpi .eq io512 (broadcast S256x512 63#32) = B2 (fun i _ => i = 63) := by
  funext x
  show Scalar.cmpi .eq (BitVec.ofNat 32 (0 * 256 + (x 0).val)) 63#32 = if (x 0).val = 63 then 1#1 else 0#1
  generalize (x 0 : Fin 256) = y
  clear x; revert y; decide +kernel
theorem row_eq_127 : cmpi .eq io512 (broadcast S256x512 127#32) = B2 (fun i _ => i = 127) := by
  funext x
  show Scalar.cmpi .eq (BitVec.ofNat 32 (0 * 256 + (x 0).val)) 127#32 = if (x 0).val = 127 then 1#1 else 0#1
  generalize (x 0 : Fin 256) = y
  clear x; revert y; decide +kernel
theorem row_eq_191 : cmpi .eq io512 (broadcast S256x512 191#32) = B2 (fun i _ => i = 191) := by
  funext x
  show Scalar.cmpi .eq (BitVec.ofNat 32 (0 * 256 + (x 0).val)) 191#32 = if (x 0).val = 191 then 1#1 else 0#1
  generalize (x 0 : Fin 256) = y
  clear x; revert y; decide +kernel
theorem row_eq_255 : cmpi .eq io512 (broadcast S256x512 255#32) = B2 (fun i _ => i = 255) := by
  funext x
  show Scalar.cmpi .eq (BitVec.ofNat 32 (0 * 256 + (x 0).val)) 255#32 = if (x 0).val = 255 then 1#1 else 0#1
  generalize (x 0 : Fin 256) = y
  clear x; revert y; decide +kernel
theorem row_slt_64 : cmpi .slt io512 (broadcast S256x512 64#32) = B2 (fun i _ => i < 64) := by
  funext x
  show Scalar.cmpi .slt (BitVec.ofNat 32 (0 * 256 + (x 0).val)) 64#32 = if (x 0).val < 64 then 1#1 else 0#1
  generalize (x 0 : Fin 256) = y
  clear x; revert y; decide +kernel
theorem row_slt_128 : cmpi .slt io512 (broadcast S256x512 128#32) = B2 (fun i _ => i < 128) := by
  funext x
  show Scalar.cmpi .slt (BitVec.ofNat 32 (0 * 256 + (x 0).val)) 128#32 = if (x 0).val < 128 then 1#1 else 0#1
  generalize (x 0 : Fin 256) = y
  clear x; revert y; decide +kernel
theorem row_slt_192 : cmpi .slt io512 (broadcast S256x512 192#32) = B2 (fun i _ => i < 192) := by
  funext x
  show Scalar.cmpi .slt (BitVec.ofNat 32 (0 * 256 + (x 0).val)) 192#32 = if (x 0).val < 192 then 1#1 else 0#1
  generalize (x 0 : Fin 256) = y
  clear x; revert y; decide +kernel
theorem row_slt_256 : cmpi .slt io512 (broadcast S256x512 256#32) = B2 (fun i _ => i < 256) := by
  funext x
  show Scalar.cmpi .slt (BitVec.ofNat 32 (0 * 256 + (x 0).val)) 256#32 = if (x 0).val < 256 then 1#1 else 0#1
  generalize (x 0 : Fin 256) = y
  clear x; revert y; decide +kernel
theorem row_sge_0 : cmpi .sge io512 (broadcast S256x512 0#32) = B2 (fun i _ => 0 ≤ i) := by
  funext x
  show Scalar.cmpi .sge (BitVec.ofNat 32 (0 * 256 + (x 0).val)) 0#32 = if 0 ≤ (x 0).val then 1#1 else 0#1
  generalize (x 0 : Fin 256) = y
  clear x; revert y; decide +kernel
theorem row_sge_64 : cmpi .sge io512 (broadcast S256x512 64#32) = B2 (fun i _ => 64 ≤ i) := by
  funext x
  show Scalar.cmpi .sge (BitVec.ofNat 32 (0 * 256 + (x 0).val)) 64#32 = if 64 ≤ (x 0).val then 1#1 else 0#1
  generalize (x 0 : Fin 256) = y
  clear x; revert y; decide +kernel
theorem row_sge_128 : cmpi .sge io512 (broadcast S256x512 128#32) = B2 (fun i _ => 128 ≤ i) := by
  funext x
  show Scalar.cmpi .sge (BitVec.ofNat 32 (0 * 256 + (x 0).val)) 128#32 = if 128 ≤ (x 0).val then 1#1 else 0#1
  generalize (x 0 : Fin 256) = y
  clear x; revert y; decide +kernel
theorem row_sge_192 : cmpi .sge io512 (broadcast S256x512 192#32) = B2 (fun i _ => 192 ≤ i) := by
  funext x
  show Scalar.cmpi .sge (BitVec.ofNat 32 (0 * 256 + (x 0).val)) 192#32 = if 192 ≤ (x 0).val then 1#1 else 0#1
  generalize (x 0 : Fin 256) = y
  clear x; revert y; decide +kernel

end Masks

end Cert.Mine

end
-- ==== Proof.Mine.Block.lean ====
/- One block of the kernel over the real numbers: what each step of its body gives. -/
module

public import proofs.«01_k».proof.Proof.Mine.Ops

@[expose] public section

set_option pp.maxSteps 600
set_option maxRecDepth 16384

noncomputable section

namespace Cert.Mine

open Idealize.ShloMosaic Cert.KernelIdeal Cert.KernelIdeal.Gen

/-- The inputs of one block of the kernel, as real numbers. -/
structure Blk where
  O : ℕ → ℕ → ℝ
  G : ℕ → ℕ → ℝ
  K : ℕ → ℕ → ℝ
  V : ℕ → ℕ → ℝ
  Q : ℕ → ℕ → ℝ
  GA : ℕ → ℕ → ℝ
  WA : ℕ → ℕ → ℝ
  GN : ℕ → ℕ → ℝ
  P : ℕ → ℕ → ℝ
  C : ℕ → ℕ → ℝ
  DY : ℕ → ℕ → ℝ
  ST : ℕ → ℕ → ℕ → ℕ → ℝ
  STP : ℕ → ℕ → ℕ → ℝ
  CAR : ℕ → ℕ → ℕ → ℝ
  hp : ℝ

namespace Blk
variable (I : Blk)

/-- Head `h` of the output. -/
def Oh (h i x : ℕ) : ℝ := I.O i (256 * h + x)
/-- Head `h` of the gate. -/
def Gh (h i x : ℕ) : ℝ := I.G i (256 * h + x)
/-- Head `h` of the incoming gradient. -/
def Dh (h i x : ℕ) : ℝ := I.DY i (256 * h + x)
/-- Head `h` of the norm's weight. -/
def gn (h i x : ℕ) : ℝ := I.GN i (256 * h + x)
/-- The mean square of head `h`'s row, and the small term. -/
def var (h i _x : ℕ) : ℝ := (∑ x : Fin 256, I.Oh h i x * I.Oh h i x) / 256 + eps
/-- The reciprocal root of it. -/
def rr (h i x : ℕ) : ℝ := (Real.sqrt (I.var h i x))⁻¹
/-- The gate's logistic function. -/
def sg (h i x : ℕ) : ℝ := 1 / (1 + Real.exp (0 - I.Gh h i x))
/-- The gradient past the gate. -/
def dgn (h i x : ℕ) : ℝ := I.Dh h i x * (I.Gh h i x * I.sg h i x)
/-- The gate's gradient. -/
def dgg (h i x : ℕ) : ℝ :=
  I.Dh h i x * (I.Oh h i x * I.rr h i 0 * I.gn h 0 x) * (I.sg h i x * (1 + I.Gh h i x * (1 - I.sg h i x)))
/-- This block's part of the norm weight's gradient. -/
def dgp (h _i x : ℕ) : ℝ := ∑ i : Fin 256, I.dgn h i x * I.Oh h i x * I.rr h i 0
/-- The gradient past the norm's weight. -/
def W (h i x : ℕ) : ℝ := I.dgn h i x * I.gn h 0 x
/-- The output by the square of the reciprocal root. -/
def orr (h i x : ℕ) : ℝ := I.Oh h i x * (I.rr h i 0 * I.rr h i 0)
/-- The row's mean of that gradient by the output. -/
def wom (h i _x : ℕ) : ℝ := (∑ x : Fin 256, I.W h i x * I.Oh h i x) / 256
/-- The output's gradient. -/
def ddo (h i x : ℕ) : ℝ := I.rr h i 0 * (I.W h i x - I.orr h i x * I.wom h i x)
/-- The state of chunk `c`, head `h`. -/
def STc (c h _a _b v k : ℕ) : ℝ := I.ST c h v k
/-- The previous block's last state, head `h`. -/
def STPh (h _a _b v k : ℕ) : ℝ := I.STP h v k
/-- What the following blocks left, head `h`. -/
def car (h _a v k : ℕ) : ℝ := I.CAR h v k
/-- Chunk `c` of the output's gradient. -/
def ddos (c h i v : ℕ) : ℝ := I.ddo h (64 * c + i) v
/-- Chunk `c`, head `h` of the query's gradient before the scale. -/
def dqp (c h i k : ℕ) : ℝ := ∑ v : Fin 256, I.ddo h (64 * c + i) v * I.ST c h v k
/-- Head `h` of it. -/
def dqh (h i k : ℕ) : ℝ := I.dqp (i / 64) h (i % 64) k
/-- The query's gradient. -/
def dq (i j : ℕ) : ℝ := I.dqh (j / 128) i (j % 128) * kap
/-- The scaled query. -/
def qs (i j : ℕ) : ℝ := I.Q i j * kap
/-- Chunk `c`, head `h` of it. -/
def qss (c h i k : ℕ) : ℝ := I.qs (64 * c + i) (128 * h + k)
/-- The state's gradient from its own chunk. -/
def own (c h v k : ℕ) : ℝ := ∑ x : Fin 64, I.ddo h (64 * c + x) v * I.qs (64 * c + x) (128 * h + k)
/-- The decay of the whole chunk, before the exponential. -/
def cend (c _i j : ℕ) : ℝ := I.C (64 * c + 63) j
/-- The decay of the whole chunk. -/
def A (c i j : ℕ) : ℝ := Real.exp (I.cend c i j)
/-- The state's gradient, from the last chunk backwards. -/
def gtr : ℕ → ℕ → ℕ → ℕ → ℝ
  | 0, h, v, k => I.own 3 h v k + I.CAR h v k
  | n + 1, h, v, k => I.own (2 - n) h v k + gtr n h v k * I.A (3 - n) 0 (128 * h + k)
/-- The state's gradient at chunk `c`. -/
def gts (c h v k : ℕ) : ℝ := I.gtr (3 - c) h v k
theorem gts_3 (h v k : ℕ) : I.gts 3 h v k = I.own 3 h v k + I.CAR h v k := rfl
theorem gts_2 (h v k : ℕ) : I.gts 2 h v k = I.own 2 h v k + I.gts 3 h v k * I.A 3 0 (128 * h + k) := rfl
theorem gts_1 (h v k : ℕ) : I.gts 1 h v k = I.own 1 h v k + I.gts 2 h v k * I.A 2 0 (128 * h + k) := rfl
theorem gts_0 (h v k : ℕ) : I.gts 0 h v k = I.own 0 h v k + I.gts 1 h v k * I.A 1 0 (128 * h + k) := rfl
/-- What is left to the preceding block. -/
def ncar (h _a v k : ℕ) : ℝ := I.gts 0 h v k * I.A 0 0 (128 * h + k)
/-- Head `h` of a chunk's decay, on every row. -/
def Ab (c h _v k : ℕ) : ℝ := I.A c 0 (128 * h + k)
/-- The decay from a position to its chunk's end. -/
def E (i j : ℕ) : ℝ := Real.exp (I.cend (i / 64) 0 j - I.C i j)
/-- The decayed key. -/
def kd (i j : ℕ) : ℝ := I.K i j * I.E i j
/-- Chunk `c`, head `h` of the value. -/
def vs (c h i x : ℕ) : ℝ := I.V (64 * c + i) (256 * h + x)
/-- Chunk `c`, head `h` of the decayed key's gradient. -/
def dkdp (c h i k : ℕ) : ℝ := ∑ v : Fin 256, I.V (64 * c + i) (256 * h + v) * I.gts c h v k
/-- Chunk `c` of it. -/
def dkdc (c i j : ℕ) : ℝ := I.dkdp c (j / 128) i (j % 128)
/-- The decayed key's gradient. -/
def dkd (i j : ℕ) : ℝ := I.dkdc (i / 64) (i % 64) j
/-- Chunk `c`, head `h` of the value's gradient. -/
def dvp (c h i v : ℕ) : ℝ := ∑ k : Fin 128, I.kd (64 * c + i) (128 * h + k) * I.gts c h v k
/-- Head `h` of it. -/
def dvh (h i x : ℕ) : ℝ := I.dvp (i / 64) h (i % 64) x
/-- The first chunk's state gradient by the state before it. -/
def gs0 (v k : ℕ) : ℝ := I.gts 0 0 v k * (I.STP 0 v k * I.hp)
/-- The chunk decay's gradient, head `h`. -/
def dap : ℕ → ℕ → ℕ → ℕ → ℝ
  | 0, h, _, k => ∑ v : Fin 256, I.gts 0 h v k * (I.STP h v k * I.hp)
  | c + 1, h, _, k => ∑ v : Fin 256, I.gts (c + 1) h v k * I.ST c h v k
/-- The chunk decay's gradient. -/
def da (c i j : ℕ) : ℝ := I.dap c (j / 128) i (j % 128)
/-- The key's gradient. -/
def dk (i j : ℕ) : ℝ := I.dkd i j * I.E i j
/-- The gradient of the decay to the chunk's end, by the decay. -/
def dd (i j : ℕ) : ℝ := I.dkd i j * I.K i j * I.E i j
/-- Its sum over chunk `c`. -/
def dsum (c _i j : ℕ) : ℝ := ∑ i : Fin 256, if 64 * c ≤ (i : ℕ) ∧ (i : ℕ) < 64 * c + 64 then I.dd i j else 0
/-- The gradient of the chunk's log decay. -/
def dlae (c _i j : ℕ) : ℝ := I.dsum c 0 j + I.da c 0 j * I.A c 0 j
/-- One where `x` is of `i`'s chunk and not before it. -/
def tri (i x : ℕ) : ℝ := if i / 64 = x / 64 ∧ i ≤ x then 1 else 0
/-- The gradient of the log decay, by the temperature. -/
def dla (i j : ℕ) : ℝ := (I.dlae (i / 64) 0 j - ∑ x : Fin 256, tri i x * I.dd x j) * (1 / 16)
/-- The exponential of the negated pre-activation. -/
def eP (i j : ℕ) : ℝ := Real.exp (0 - I.P i j)
/-- The pre-activation's gradient. -/
def dpre (i j : ℕ) : ℝ := I.dla i j * (1 - 1 / (1 + I.eP i j))
/-- The low-rank input's gradient. -/
def dga (i j : ℕ) : ℝ := ∑ x : Fin 512, I.dpre i x * I.WA j x
/-- This block's part of the low-rank weight's gradient. -/
def dwap (i j : ℕ) : ℝ := ∑ x : Fin 256, I.GA x i * I.dpre x j
/-- This block's part of the bias's gradient. -/
def dbp (_i j : ℕ) : ℝ := ∑ i : Fin 256, I.dpre i j

theorem var_pos (h i x : ℕ) : 0 < I.var h i x := by
  have : 0 ≤ ∑ x : Fin 256, I.Oh h i x * I.Oh h i x := Finset.sum_nonneg fun _ _ => mul_self_nonneg _
  have := eps_pos
  unfold var; positivity

end Blk

theorem divf_256 {a b : ℕ} (f : ℕ → ℕ → ℝ) : divf (F := Ideal) (s := ⟨2, ![a, b]⟩) (φ := .f32) (R2 f) (R2 fun _ _ => 256) = R2 (fun i j => f i j / 256) :=
  divf_R2 _ _ fun _ _ => by norm_num
theorem divf_sig {a b : ℕ} (f g : ℕ → ℕ → ℝ) : divf (F := Ideal) (s := ⟨2, ![a, b]⟩) (φ := .f32) (R2 f) (R2 fun i j => 1 + Real.exp (g i j))
    = R2 (fun i j => f i j / (1 + Real.exp (g i j))) :=
  divf_R2 _ _ fun _ _ => by positivity
theorem divf_eP {a b : ℕ} (I : Blk) (f : ℕ → ℕ → ℝ) : divf (F := Ideal) (s := ⟨2, ![a, b]⟩) (φ := .f32) (R2 f) (R2 fun i j => 1 + I.eP i j)
    = R2 (fun i j => f i j / (1 + I.eP i j)) :=
  divf_R2 _ _ fun _ _ => by unfold Blk.eP; positivity
theorem rsqrt_var {a b : ℕ} (I : Blk) (h : ℕ) : rsqrt (F := Ideal) (s := ⟨2, ![a, b]⟩) (φ := .f32) (R2 (I.var h)) = R2 (I.rr h) :=
  rsqrt_R2 _ (I.var_pos h)
theorem rsqrt_var' {a b : ℕ} (I : Blk) (h : ℕ) : rsqrt (F := Ideal) (s := ⟨2, ![a, b]⟩) (φ := .f32)
    (R2 fun i _ => (∑ x : Fin 256, I.Oh h i x * I.Oh h i x) / 256 + eps) = R2 (I.rr h) :=
  rsqrt_var I h
theorem bc_real {a b : ℕ} (r : ℝ) : broadcast (α := Ideal .f32) ⟨2, ![a, b]⟩ (r : EReal) = R2 (fun _ _ => r) := rfl

theorem cat4_S256x128_S64x128 (p : ℕ → ℕ → ℕ → ℝ) (a b c d : Vec Ideal S64x128 .f32) (ha : a = R2 (p 0)) (hb : b = R2 (p 1)) (hc : c = R2 (p 2)) (hd : d = R2 (p 3)) (h) :
    concatenate S256x128 0 [⟨S64x128, a⟩, ⟨S64x128, b⟩, ⟨S64x128, c⟩, ⟨S64x128, d⟩] h = R2 (fun i j => p (i / 64) (i % 64) j) := by
  subst ha hb hc hd; exact cat_S256x128_S64x128 p h
theorem cat4_S256x512_S64x512 (p : ℕ → ℕ → ℕ → ℝ) (a b c d : Vec Ideal S64x512 .f32) (ha : a = R2 (p 0)) (hb : b = R2 (p 1)) (hc : c = R2 (p 2)) (hd : d = R2 (p 3)) (h) :
    concatenate S256x512 0 [⟨S64x512, a⟩, ⟨S64x512, b⟩, ⟨S64x512, c⟩, ⟨S64x512, d⟩] h = R2 (fun i j => p (i / 64) (i % 64) j) := by
  subst ha hb hc hd; exact cat_S256x512_S64x512 p h
theorem cat4_S256x256_S64x256 (p : ℕ → ℕ → ℕ → ℝ) (a b c d : Vec Ideal S64x256 .f32) (ha : a = R2 (p 0)) (hb : b = R2 (p 1)) (hc : c = R2 (p 2)) (hd : d = R2 (p 3)) (h) :
    concatenate S256x256 0 [⟨S64x256, a⟩, ⟨S64x256, b⟩, ⟨S64x256, c⟩, ⟨S64x256, d⟩] h = R2 (fun i j => p (i / 64) (i % 64) j) := by
  subst ha hb hc hd; exact cat_S256x256_S64x256 p h
theorem cat4_S256x512_S256x128 (p : ℕ → ℕ → ℕ → ℝ) (a b c d : Vec Ideal S256x128 .f32) (ha : a = R2 (p 0)) (hb : b = R2 (p 1)) (hc : c = R2 (p 2)) (hd : d = R2 (p 3)) (h) :
    concatenate S256x512 1 [⟨S256x128, a⟩, ⟨S256x128, b⟩, ⟨S256x128, c⟩, ⟨S256x128, d⟩] h = R2 (fun i j => p (j / 128) i (j % 128)) := by
  subst ha hb hc hd; exact cat_S256x512_S256x128 p h
theorem cat4_S64x512_S64x128 (p : ℕ → ℕ → ℕ → ℝ) (a b c d : Vec Ideal S64x128 .f32) (ha : a = R2 (p 0)) (hb : b = R2 (p 1)) (hc : c = R2 (p 2)) (hd : d = R2 (p 3)) (h) :
    concatenate S64x512 1 [⟨S64x128, a⟩, ⟨S64x128, b⟩, ⟨S64x128, c⟩, ⟨S64x128, d⟩] h = R2 (fun i j => p (j / 128) i (j % 128)) := by
  subst ha hb hc hd; exact cat_S64x512_S64x128 p h
theorem cat4_S1x512_S1x128 (p : ℕ → ℕ → ℕ → ℝ) (a b c d : Vec Ideal S1x128 .f32) (ha : a = R2 (p 0)) (hb : b = R2 (p 1)) (hc : c = R2 (p 2)) (hd : d = R2 (p 3)) (h) :
    concatenate S1x512 1 [⟨S1x128, a⟩, ⟨S1x128, b⟩, ⟨S1x128, c⟩, ⟨S1x128, d⟩] h = R2 (fun i j => p (j / 128) i (j % 128)) := by
  subst ha hb hc hd; exact cat_S1x512_S1x128 p h

theorem sum_row {n : ℕ} {a : ℕ} (h : a < n) (f : ℕ → ℝ) : (∑ i : Fin n, if (i : ℕ) = a then f i else 0) = f a := by
  rw [Finset.sum_eq_single ⟨a, h⟩]
  · exact if_pos rfl
  · intro b _ hb; exact if_neg fun e => hb (Fin.ext e)
  · intro hn; exact absurd (Finset.mem_univ _) hn
theorem pick (f : ℕ → ℝ) {i : ℕ} (hi : i < 256) :
    (if i < 64 then f 0 else if i < 128 then f 1 else if i < 192 then f 2 else f 3) = f (i / 64) := by
  split_ifs <;> congr 1 <;> omega

theorem p6 (f : ℕ → ℕ → ℝ) : k0_pay6 (F := Ideal) (R2 f) = R2 f := by
  simp only [k0_pay6, truncf_R2, shapeCast_R2, shapeCast_4to2, shapeCast_3to2]
theorem p12 (f : ℕ → ℕ → ℝ) : k0_pay12 (F := Ideal) (R2 f) = R2 f := by
  simp only [k0_pay12, truncf_R2, shapeCast_R2]
theorem p13 (f : ℕ → ℕ → ℝ) : k0_pay13 (F := Ideal) (R2 f) = R2 f := by
  simp only [k0_pay13, shapeCast_R2]
theorem p14 (f : ℕ → ℕ → ℝ) : k0_pay14 (F := Ideal) (R2 f) = R2 f := by
  simp only [k0_pay14, shapeCast_R2]
theorem p15 (I : Blk) : k0_pay15 (F := Ideal) (R2 I.C) = (R2 (I.cend 0)) := by
  simp only [k0_pay15, ↓ sum0_S512_of, ↓ io512_of, shapeCast_R2, shapeCast_S1x512, bc_0, sum0_S512, select_B2, row_eq_63, p14]
  refine congrArg R2 (funext fun i => funext fun j => ?_)
  exact sum_row (by norm_num : 63 < 256) fun i => I.C i j
theorem p16 (I : Blk) : k0_pay16 (F := Ideal) (R2 I.C) = (R1 (I.cend 1 0)) := by
  simp only [k0_pay16, ↓ sum0_S512_of, ↓ io512_of, bc_0, sum0_S512, select_B2, row_eq_127, p14]
  refine congrArg R1 (funext fun j => ?_)
  exact sum_row (by norm_num : 127 < 256) fun i => I.C i j
theorem p17 (I : Blk) : k0_pay17 (F := Ideal) (R1 (I.cend 1 0)) = (R2 (I.cend 1)) := by
  simp only [k0_pay17, shapeCast_R2, shapeCast_S1x512]
  rfl
theorem p18 (I : Blk) : k0_pay18 (F := Ideal) (R2 I.C) (io512) = (R2 (I.cend 2)) := by
  simp only [k0_pay18, ↓ sum0_S512_of, shapeCast_R2, shapeCast_S1x512, bc_0, sum0_S512, select_B2, row_eq_191]
  refine congrArg R2 (funext fun i => funext fun j => ?_)
  exact sum_row (by norm_num : 191 < 256) fun i => I.C i j
theorem p19 (I : Blk) : k0_pay19 (F := Ideal) (R2 I.C) (io512) = (R2 (I.cend 3)) := by
  simp only [k0_pay19, ↓ sum0_S512_of, shapeCast_R2, shapeCast_S1x512, bc_0, sum0_S512, select_B2, row_eq_255]
  refine congrArg R2 (funext fun i => funext fun j => ?_)
  exact sum_row (by norm_num : 255 < 256) fun i => I.C i j
theorem p20 (I : Blk) : k0_pay20 (F := Ideal) (R2 I.C) (io512) (R2 (I.cend 0)) (R1 (I.cend 1 0)) = (R2 I.E) := by
  simp only [k0_pay20, ↓ io512_of, subf_R2, exp_R2, shapeCast_R2, shapeCast_S1x512, bcTo_row, bcTo_row512, bcTo_row128, bcTo_col, select_B2, row_slt_192, row_slt_128, row_slt_64, p17, p18, p19]
  refine R2_congr fun i hi j _ => ?_
  rw [pick (fun c => I.cend c 0 j) hi, Blk.E]
theorem p21 (I : Blk) : k0_pay21 (F := Ideal) (R2 (I.cend 0)) = (R2 (I.A 0)) := by
  simp only [k0_pay21, exp_R2]
  rfl
theorem p22 (I : Blk) : k0_pay22 (F := Ideal) (R1 (I.cend 1 0)) = (R2 (I.A 1)) := by
  simp only [k0_pay22, exp_R2, p17]
  rfl
theorem p23 (I : Blk) : k0_pay23 (F := Ideal) (R2 I.C) (io512) = (R2 (I.A 2)) := by
  simp only [k0_pay23, exp_R2, p18]
  rfl
theorem p24 (I : Blk) : k0_pay24 (F := Ideal) (R2 I.C) (io512) = (R2 (I.A 3)) := by
  simp only [k0_pay24, exp_R2, p19]
  rfl
theorem p25 (f : ℕ → ℕ → ℝ) : k0_pay25 (F := Ideal) (R2 f) = R2 f := by
  simp only [k0_pay25, shapeCast_R2]
theorem p26 (I : Blk) : k0_pay26 (F := Ideal) (R2 I.C) (io512) (R2 (I.cend 0)) (R1 (I.cend 1 0)) (R2 I.K) = (R2 I.kd) := by
  simp only [k0_pay26, mulf_R2, truncf_R2, p20, p25]
  rfl
theorem p27 (f : ℕ → ℕ → ℝ) : k0_pay27 (F := Ideal) (R2 f) = R2 f := by
  simp only [k0_pay27, truncf_R2, shapeCast_R2]
theorem p28 (I : Blk) : k0_pay28 (F := Ideal) (R2 I.Q) = (R2 I.qs) := by
  simp only [k0_pay28, mulf_R2, truncf_R2, shapeCast_R2, bc_kap]
  rfl
theorem p29 (f : ℕ → ℕ → ℝ) : k0_pay29 (F := Ideal) (R2 f) = R2 f := by
  simp only [k0_pay29, shapeCast_R2]
theorem p30 (f : ℕ → ℕ → ℝ) : k0_pay30 (F := Ideal) (R2 f) = R2 f := by
  simp only [k0_pay30, shapeCast_R2]
theorem p31 (f : ℕ → ℕ → ℝ) : k0_pay31 (F := Ideal) (R2 f) = R2 f := by
  simp only [k0_pay31, shapeCast_R2, shapeCast_S1x256]
theorem p32 (I : Blk) : k0_pay32 (F := Ideal) (R2 (I.Oh 0)) = (R2 (I.rr 0)) := by
  simp only [k0_pay32, ↓ sum1_S256_of, mulf_R2, addf_R2, divf_256, divf_sig, divf_eP, rsqrt_var, rsqrt_var', shapeCast_R2, shapeCast_S256x1, bc_256, bc_eps, sum1_S256, p29]
theorem p33 (I : Blk) : k0_pay33 (F := Ideal) (R2 (I.Gh 0)) = (R2 (I.sg 0)) := by
  simp only [k0_pay33, addf_R2, subf_R2, exp_R2, divf_256, divf_sig, divf_eP, bc_0, bc_1, p30]
  rfl
theorem p34 (I : Blk) : k0_pay34 (F := Ideal) (R2 (I.Gh 0)) (R2 (I.Dh 0)) = (R2 (I.dgn 0)) := by
  simp only [k0_pay34, mulf_R2, p30, p33]
  rfl
theorem p35 (I : Blk) : k0_pay35 (F := Ideal) (R2 (I.Oh 0)) (R2 (I.Gh 0)) (R2 (I.gn 0)) (R2 (I.Dh 0)) = (R2 (I.dgg 0)) := by
  simp only [k0_pay35, mulf_R2, addf_R2, subf_R2, truncf_R2, bc_1, bcTo_row, bcTo_row512, bcTo_row128, bcTo_col, p29, p30, p31, p32, p33]
  rfl
theorem p36 (I : Blk) (f : ℕ → ℕ → ℝ) : k0_pay36 (F := Ideal) (R2 (I.Oh 0)) (R2 (I.rr 0)) (R2 (I.dgn 0)) (R2 f) = R2 (fun i x => f i x + I.dgp 0 i x) := by
  simp only [k0_pay36, ↓ sum0_S256_of, mulf_R2, addf_R2, shapeCast_R2, shapeCast_S1x256, bcTo_row, bcTo_row512, bcTo_row128, bcTo_col, sum0_S256]
  rfl
theorem p37 (I : Blk) : k0_pay37 (F := Ideal) (R2 (I.Oh 0)) (R2 (I.gn 0)) (R2 (I.rr 0)) (R2 (I.dgn 0)) = (R2 (I.ddo 0)) := by
  simp only [k0_pay37, ↓ sum1_S256_of, mulf_R2, subf_R2, divf_256, divf_sig, divf_eP, truncf_R2, shapeCast_R2, shapeCast_S256x1, bc_256, bcTo_row, bcTo_row512, bcTo_row128, bcTo_col, sum1_S256]
  rfl
theorem p38 (f : ℕ → ℕ → ℝ) : k0_pay38 (F := Ideal) (R2 f) = R2 f := by
  simp only [k0_pay38, shapeCast_R2]
theorem p39 (f : ℕ → ℕ → ℝ) : k0_pay39 (F := Ideal) (R2 f) = R2 f := by
  simp only [k0_pay39, shapeCast_R2]
theorem p40 (f : ℕ → ℕ → ℝ) : k0_pay40 (F := Ideal) (R2 f) = R2 f := by
  simp only [k0_pay40, shapeCast_R2, shapeCast_S1x256]
theorem p41 (I : Blk) : k0_pay41 (F := Ideal) (R2 (I.Oh 1)) = (R2 (I.var 1)) := by
  simp only [k0_pay41, ↓ sum1_S256_of, mulf_R2, addf_R2, divf_256, divf_sig, divf_eP, shapeCast_R2, shapeCast_S256x1, bc_256, bc_eps, sum1_S256, p38]
  rfl
theorem p42 (I : Blk) : k0_pay42 (F := Ideal) (R2 (I.var 1)) = (R2 (I.rr 1)) := by
  simp only [k0_pay42, rsqrt_var, rsqrt_var']
theorem p43 (I : Blk) : k0_pay43 (F := Ideal) (R2 (I.Gh 1)) = (R2 (I.sg 1)) := by
  simp only [k0_pay43, addf_R2, subf_R2, exp_R2, divf_256, divf_sig, divf_eP, bc_0, bc_1]
  rfl
theorem p44 (I : Blk) : k0_pay44 (F := Ideal) (R2 (I.Gh 1)) (R2 (I.Dh 1)) = (R2 (I.dgn 1)) := by
  simp only [k0_pay44, mulf_R2, p43]
  rfl
theorem p45 (I : Blk) : k0_pay45 (F := Ideal) (R2 (I.Oh 1)) (R2 (I.Gh 1)) (R2 (I.gn 1)) (R2 (I.Dh 1)) (R2 (I.var 1)) = (R2 (I.dgg 1)) := by
  simp only [k0_pay45, mulf_R2, addf_R2, subf_R2, truncf_R2, bc_1, bcTo_row, bcTo_row512, bcTo_row128, bcTo_col, p42, p43]
  rfl
theorem p46 (I : Blk) (f : ℕ → ℕ → ℝ) : k0_pay46 (F := Ideal) (R2 (I.Oh 1)) (R2 (I.Gh 1)) (R2 (I.Dh 1)) (R2 (I.var 1)) (R2 f) = R2 (fun i x => f i x + I.dgp 1 i x) := by
  simp only [k0_pay46, ↓ sum0_S256_of, mulf_R2, addf_R2, shapeCast_R2, shapeCast_S1x256, bcTo_row, bcTo_row512, bcTo_row128, bcTo_col, sum0_S256, p42, p44]
  rfl
theorem p47 (I : Blk) : k0_pay47 (F := Ideal) (R2 (I.Gh 1)) (R2 (I.gn 1)) (R2 (I.Dh 1)) = (R2 (I.W 1)) := by
  simp only [k0_pay47, mulf_R2, bcTo_row, bcTo_row512, bcTo_row128, bcTo_col, p44]
  rfl
theorem p48 (I : Blk) : k0_pay48 (F := Ideal) (R2 (I.Oh 1)) (R2 (I.var 1)) = (R2 (I.orr 1)) := by
  simp only [k0_pay48, mulf_R2, bcTo_row, bcTo_row512, bcTo_row128, bcTo_col, p42]
  rfl
theorem p49 (I : Blk) : k0_pay49 (F := Ideal) (R2 (I.Oh 1)) (R2 (I.Gh 1)) (R2 (I.gn 1)) (R2 (I.Dh 1)) = (R2 (I.wom 1)) := by
  simp only [k0_pay49, ↓ sum1_S256_of, mulf_R2, divf_256, divf_sig, divf_eP, shapeCast_R2, shapeCast_S256x1, bc_256, bcTo_row, bcTo_row512, bcTo_row128, bcTo_col, sum1_S256, p47]
  rfl
theorem p50 (I : Blk) : k0_pay50 (F := Ideal) (R2 (I.rr 1)) (R2 (I.W 1)) (R2 (I.orr 1)) (R2 (I.wom 1)) = (R2 (I.ddo 1)) := by
  simp only [k0_pay50, mulf_R2, subf_R2, truncf_R2, bcTo_row, bcTo_row512, bcTo_row128, bcTo_col]
  rfl
theorem p51 (f : ℕ → ℕ → ℝ) : k0_pay51 (F := Ideal) (R2 f) = R2 f := by
  simp only [k0_pay51, shapeCast_R2]
theorem p52 (f : ℕ → ℕ → ℝ) : k0_pay52 (F := Ideal) (R2 f) = R2 f := by
  simp only [k0_pay52, shapeCast_R2]
theorem p53 (f : ℕ → ℕ → ℝ) : k0_pay53 (F := Ideal) (R2 f) = R2 f := by
  simp only [k0_pay53, shapeCast_R2, shapeCast_S1x256]
theorem p54 (I : Blk) : k0_pay54 (F := Ideal) (R2 (I.Oh 2)) = (R2 (I.rr 2)) := by
  simp only [k0_pay54, ↓ sum1_S256_of, mulf_R2, addf_R2, divf_256, divf_sig, divf_eP, rsqrt_var, rsqrt_var', shapeCast_R2, shapeCast_S256x1, bc_256, bc_eps, sum1_S256, p51]
theorem p55 (I : Blk) : k0_pay55 (F := Ideal) (R2 (I.Gh 2)) = (R2 (I.sg 2)) := by
  simp only [k0_pay55, addf_R2, subf_R2, exp_R2, divf_256, divf_sig, divf_eP, bc_0, bc_1, p52]
  rfl
theorem p56 (I : Blk) : k0_pay56 (F := Ideal) (R2 (I.Gh 2)) (R2 (I.Dh 2)) = (R2 (I.dgn 2)) := by
  simp only [k0_pay56, mulf_R2, p52, p55]
  rfl
theorem p57 (I : Blk) : k0_pay57 (F := Ideal) (R2 (I.Oh 2)) (R2 (I.Gh 2)) (R2 (I.gn 2)) (R2 (I.Dh 2)) = (R2 (I.dgg 2)) := by
  simp only [k0_pay57, mulf_R2, addf_R2, subf_R2, truncf_R2, bc_1, bcTo_row, bcTo_row512, bcTo_row128, bcTo_col, p51, p52, p53, p54, p55]
  rfl
theorem p58 (I : Blk) (f : ℕ → ℕ → ℝ) : k0_pay58 (F := Ideal) (R2 (I.Oh 2)) (R2 (I.rr 2)) (R2 (I.dgn 2)) (R2 f) = R2 (fun i x => f i x + I.dgp 2 i x) := by
  simp only [k0_pay58, ↓ sum0_S256_of, mulf_R2, addf_R2, shapeCast_R2, shapeCast_S1x256, bcTo_row, bcTo_row512, bcTo_row128, bcTo_col, sum0_S256]
  rfl
theorem p59 (I : Blk) : k0_pay59 (F := Ideal) (R2 (I.Oh 2)) (R2 (I.gn 2)) (R2 (I.rr 2)) (R2 (I.dgn 2)) = (R2 (I.ddo 2)) := by
  simp only [k0_pay59, ↓ sum1_S256_of, mulf_R2, subf_R2, divf_256, divf_sig, divf_eP, truncf_R2, shapeCast_R2, shapeCast_S256x1, bc_256, bcTo_row, bcTo_row512, bcTo_row128, bcTo_col, sum1_S256]
  rfl
theorem p60 (f : ℕ → ℕ → ℝ) : k0_pay60 (F := Ideal) (R2 f) = R2 f := by
  simp only [k0_pay60, shapeCast_R2]
theorem p61 (f : ℕ → ℕ → ℝ) : k0_pay61 (F := Ideal) (R2 f) = R2 f := by
  simp only [k0_pay61, shapeCast_R2]
theorem p62 (f : ℕ → ℕ → ℝ) : k0_pay62 (F := Ideal) (R2 f) = R2 f := by
  simp only [k0_pay62, shapeCast_R2, shapeCast_S1x256]
theorem p63 (I : Blk) : k0_pay63 (F := Ideal) (R2 (I.Oh 3)) = (R2 (I.var 3)) := by
  simp only [k0_pay63, ↓ sum1_S256_of, mulf_R2, addf_R2, divf_256, divf_sig, divf_eP, shapeCast_R2, shapeCast_S256x1, bc_256, bc_eps, sum1_S256, p60]
  rfl
theorem p64 (I : Blk) : k0_pay64 (F := Ideal) (R2 (I.var 3)) = (R2 (I.rr 3)) := by
  simp only [k0_pay64, rsqrt_var, rsqrt_var']
theorem p65 (I : Blk) : k0_pay65 (F := Ideal) (R2 (I.Gh 3)) = (R2 (I.sg 3)) := by
  simp only [k0_pay65, addf_R2, subf_R2, exp_R2, divf_256, divf_sig, divf_eP, bc_0, bc_1]
  rfl
theorem p66 (I : Blk) : k0_pay66 (F := Ideal) (R2 (I.Gh 3)) (R2 (I.Dh 3)) = (R2 (I.dgn 3)) := by
  simp only [k0_pay66, mulf_R2, p65]
  rfl
theorem p67 (I : Blk) : k0_pay67 (F := Ideal) (R2 (I.Oh 3)) (R2 (I.Gh 3)) (R2 (I.gn 3)) (R2 (I.Dh 3)) (R2 (I.var 3)) = (R2 (I.dgg 3)) := by
  simp only [k0_pay67, mulf_R2, addf_R2, subf_R2, truncf_R2, bc_1, bcTo_row, bcTo_row512, bcTo_row128, bcTo_col, p64, p65]
  rfl
theorem p68 (I : Blk) (f : ℕ → ℕ → ℝ) : k0_pay68 (F := Ideal) (R2 (I.Oh 3)) (R2 (I.Gh 3)) (R2 (I.Dh 3)) (R2 (I.var 3)) (R2 f) = R2 (fun i x => f i x + I.dgp 3 i x) := by
  simp only [k0_pay68, ↓ sum0_S256_of, mulf_R2, addf_R2, shapeCast_R2, shapeCast_S1x256, bcTo_row, bcTo_row512, bcTo_row128, bcTo_col, sum0_S256, p64, p66]
  rfl
theorem p69 (I : Blk) : k0_pay69 (F := Ideal) (R2 (I.Gh 3)) (R2 (I.gn 3)) (R2 (I.Dh 3)) = (R2 (I.W 3)) := by
  simp only [k0_pay69, mulf_R2, bcTo_row, bcTo_row512, bcTo_row128, bcTo_col, p66]
  rfl
theorem p70 (I : Blk) : k0_pay70 (F := Ideal) (R2 (I.Oh 3)) (R2 (I.var 3)) = (R2 (I.orr 3)) := by
  simp only [k0_pay70, mulf_R2, bcTo_row, bcTo_row512, bcTo_row128, bcTo_col, p64]
  rfl
theorem p71 (I : Blk) : k0_pay71 (F := Ideal) (R2 (I.Oh 3)) (R2 (I.Gh 3)) (R2 (I.gn 3)) (R2 (I.Dh 3)) = (R2 (I.wom 3)) := by
  simp only [k0_pay71, ↓ sum1_S256_of, mulf_R2, divf_256, divf_sig, divf_eP, shapeCast_R2, shapeCast_S256x1, bc_256, bcTo_row, bcTo_row512, bcTo_row128, bcTo_col, sum1_S256, p69]
  rfl
theorem p72 (I : Blk) : k0_pay72 (F := Ideal) (R2 (I.rr 3)) (R2 (I.W 3)) (R2 (I.orr 3)) (R2 (I.wom 3)) = (R2 (I.ddo 3)) := by
  simp only [k0_pay72, mulf_R2, subf_R2, truncf_R2, bcTo_row, bcTo_row512, bcTo_row128, bcTo_col]
  rfl
theorem p73 (I : Blk) : k0_pay73 (F := Ideal) (R2 (I.ddo 0)) (R4 (I.STc 0 0)) (R4 (I.STc 1 0)) (R4 (I.STc 2 0)) (R4 (I.STc 3 0)) = (R2 (I.dqh 0)) := by
  simp only [k0_pay73, truncf_R2, shapeCast_R2, shapeCast_4to2, shapeCast_3to2, bc_0, constant_0, slice_R2, mm_64_256_128]
  refine (cat4_S256x128_S64x128 (fun c => I.dqp c 0) _ _ _ _ ?_ ?_ ?_ ?_ _).trans rfl <;> first | rfl | (simp only [constant_0, slice_R2, shapeCast_4to2, truncf_R2, mm_64_256_128]; first | rfl | (refine congrArg R2 (funext fun i => funext fun j => ?_); simp only [Blk.dqp, Blk.STc, Blk.ddos, Nat.mul_zero, Nat.zero_add, zero_add, Nat.reduceMul, Nat.reduceAdd]))
theorem p74 (I : Blk) : k0_pay74 (F := Ideal) (R2 (I.ddo 1)) (R4 (I.STc 0 1)) = (R2 (I.dqp 0 1)) := by
  simp only [k0_pay74, truncf_R2, shapeCast_R2, shapeCast_4to2, shapeCast_3to2, bc_0, constant_0, slice_R2, mm_64_256_128]
  refine congrArg R2 (funext fun i => funext fun j => ?_); simp only [Blk.dqp, Blk.ddo, Blk.STc, Nat.mul_zero, Nat.zero_add, zero_add, Nat.reduceMul, Nat.reduceAdd]
theorem p75 (I : Blk) : k0_pay75 (F := Ideal) (R2 (I.ddo 1)) = (R2 (I.ddos 1 1)) := by
  simp only [k0_pay75, slice_R2]
  refine congrArg R2 (funext fun i => funext fun j => ?_); simp only [Blk.ddos, Blk.ddo, Nat.mul_zero, Nat.zero_add, zero_add, Nat.reduceMul, Nat.reduceAdd]
theorem p76 (I : Blk) : k0_pay76 (F := Ideal) (R2 (I.ddo 1)) (R2 (I.dqp 0 1)) (R2 (I.ddos 1 1)) (R4 (I.STc 1 1)) (R4 (I.STc 2 1)) (R4 (I.STc 3 1)) = (R2 (I.dqh 1)) := by
  simp only [k0_pay76, truncf_R2, shapeCast_R2, shapeCast_4to2, shapeCast_3to2, bc_0, constant_0, slice_R2, mm_64_256_128]
  refine (cat4_S256x128_S64x128 (fun c => I.dqp c 1) _ _ _ _ ?_ ?_ ?_ ?_ _).trans rfl <;> first | rfl | (simp only [constant_0, slice_R2, shapeCast_4to2, truncf_R2, mm_64_256_128]; first | rfl | (refine congrArg R2 (funext fun i => funext fun j => ?_); simp only [Blk.dqp, Blk.STc, Blk.ddos, Nat.mul_zero, Nat.zero_add, zero_add, Nat.reduceMul, Nat.reduceAdd]))
theorem p77 (I : Blk) : k0_pay77 (F := Ideal) (R2 (I.ddo 2)) (R4 (I.STc 0 2)) = (R2 (I.dqp 0 2)) := by
  simp only [k0_pay77, truncf_R2, shapeCast_R2, shapeCast_4to2, shapeCast_3to2, bc_0, constant_0, slice_R2, mm_64_256_128]
  refine congrArg R2 (funext fun i => funext fun j => ?_); simp only [Blk.dqp, Blk.ddo, Blk.STc, Nat.mul_zero, Nat.zero_add, zero_add, Nat.reduceMul, Nat.reduceAdd]
theorem p78 (I : Blk) : k0_pay78 (F := Ideal) (R2 (I.ddo 2)) (R4 (I.STc 1 2)) = (R2 (I.dqp 1 2)) := by
  simp only [k0_pay78, truncf_R2, shapeCast_R2, shapeCast_4to2, shapeCast_3to2, bc_0, constant_0, slice_R2, mm_64_256_128]
  refine congrArg R2 (funext fun i => funext fun j => ?_); simp only [Blk.dqp, Blk.ddo, Blk.STc, Nat.mul_zero, Nat.zero_add, zero_add, Nat.reduceMul, Nat.reduceAdd]
theorem p79 (I : Blk) : k0_pay79 (F := Ideal) (R2 (I.ddo 2)) (R4 (I.STc 2 2)) = (R2 (I.dqp 2 2)) := by
  simp only [k0_pay79, truncf_R2, shapeCast_R2, shapeCast_4to2, shapeCast_3to2, bc_0, constant_0, slice_R2, mm_64_256_128]
  refine congrArg R2 (funext fun i => funext fun j => ?_); simp only [Blk.dqp, Blk.ddo, Blk.STc, Nat.mul_zero, Nat.zero_add, zero_add, Nat.reduceMul, Nat.reduceAdd]
theorem p80 (I : Blk) : k0_pay80 (F := Ideal) (R2 (I.ddo 2)) = (R2 (I.ddos 3 2)) := by
  simp only [k0_pay80, slice_R2]
  refine congrArg R2 (funext fun i => funext fun j => ?_); simp only [Blk.ddos, Blk.ddo, Nat.mul_zero, Nat.zero_add, zero_add, Nat.reduceMul, Nat.reduceAdd]
theorem p81 (I : Blk) : k0_pay81 (F := Ideal) (R2 (I.ddo 3)) (R2 (I.dqh 0)) (R2 (I.dqh 1)) (R2 (I.dqp 0 2)) (R2 (I.dqp 1 2)) (R2 (I.dqp 2 2)) (R2 (I.ddos 3 2)) (R4 (I.STc 3 2)) (R4 (I.STc 0 3)) (R4 (I.STc 1 3)) (R4 (I.STc 2 3)) (R4 (I.STc 3 3)) = (R2 I.dq) := by
  simp only [k0_pay81, mulf_R2, truncf_R2, shapeCast_R2, shapeCast_4to2, shapeCast_3to2, bc_0, bc_kap, constant_0, slice_R2, mm_64_256_128]
  refine (congrArg (fun z => truncf (F := Ideal) (φ := .f32) .bf16 (mulf z (R2 fun _ _ => kap)) bitsLt_bf16_f32) (cat4_S256x512_S256x128 I.dqh _ _ _ _ rfl rfl ((cat4_S256x128_S64x128 (fun c => I.dqp c 2) _ _ _ _ rfl rfl rfl ?_ _).trans rfl) ((cat4_S256x128_S64x128 (fun c => I.dqp c 3) _ _ _ _ ?_ ?_ ?_ ?_ _).trans rfl) _)).trans ?_
  iterate 5 (simp only [constant_0, slice_R2, shapeCast_4to2, truncf_R2, mm_64_256_128]; first | rfl | (refine congrArg R2 (funext fun i => funext fun j => ?_); simp only [Blk.dqp, Blk.STc, Blk.ddos, Nat.mul_zero, Nat.zero_add, zero_add, Nat.reduceMul, Nat.reduceAdd]))
  rw [mulf_R2]; rfl
theorem p82 (I : Blk) : k0_pay82 (F := Ideal) (R2 (I.ddo 0)) = (R2 (I.ddos 0 0)) := by
  simp only [k0_pay82, slice_R2]
  refine congrArg R2 (funext fun i => funext fun j => ?_); simp only [Blk.ddos, Blk.ddo, Nat.mul_zero, Nat.zero_add, zero_add, Nat.reduceMul, Nat.reduceAdd]
theorem p83 (I : Blk) : k0_pay83 (F := Ideal) (R2 I.qs) = (R2 (I.qss 0 0)) := by
  simp only [k0_pay83, slice_R2]
  rfl
theorem p84 (I : Blk) : k0_pay84 (F := Ideal) (R2 (I.ddos 0 0)) (R2 (I.qss 0 0)) = (R2 (I.own 0 0)) := by
  simp only [k0_pay84, bc_0, constant_0, mm_own]
  refine congrArg R2 (funext fun i => funext fun j => ?_); simp only [Blk.own, Blk.ddos, Blk.qss, Nat.mul_zero, Nat.zero_add, zero_add, Nat.reduceMul, Nat.reduceAdd]
theorem p85 (I : Blk) : k0_pay85 (F := Ideal) (R2 I.qs) (R2 (I.ddo 1)) = (R2 (I.own 0 1)) := by
  simp only [k0_pay85, bc_0, constant_0, slice_R2, mm_own]
  refine congrArg R2 (funext fun i => funext fun j => ?_); simp only [Blk.own, Blk.qs, Blk.ddo, Nat.mul_zero, Nat.zero_add, zero_add, Nat.reduceMul, Nat.reduceAdd]
theorem p86 (I : Blk) : k0_pay86 (F := Ideal) (R2 I.qs) (R2 (I.ddo 2)) = (R2 (I.own 0 2)) := by
  simp only [k0_pay86, bc_0, constant_0, slice_R2, mm_own]
  refine congrArg R2 (funext fun i => funext fun j => ?_); simp only [Blk.own, Blk.qs, Blk.ddo, Nat.mul_zero, Nat.zero_add, zero_add, Nat.reduceMul, Nat.reduceAdd]
theorem p87 (I : Blk) : k0_pay87 (F := Ideal) (R2 I.qs) (R2 (I.ddo 3)) = (R2 (I.own 0 3)) := by
  simp only [k0_pay87, bc_0, constant_0, slice_R2, mm_own]
  refine congrArg R2 (funext fun i => funext fun j => ?_); simp only [Blk.own, Blk.qs, Blk.ddo, Nat.mul_zero, Nat.zero_add, zero_add, Nat.reduceMul, Nat.reduceAdd]
theorem p88 (I : Blk) : k0_pay88 (F := Ideal) (R2 I.qs) (R2 (I.ddo 0)) = (R2 (I.own 1 0)) := by
  simp only [k0_pay88, bc_0, constant_0, slice_R2, mm_own]
  refine congrArg R2 (funext fun i => funext fun j => ?_); simp only [Blk.own, Blk.qs, Blk.ddo, Nat.mul_zero, Nat.zero_add, zero_add, Nat.reduceMul, Nat.reduceAdd]
theorem p89 (I : Blk) : k0_pay89 (F := Ideal) (R2 I.qs) (R2 (I.ddo 1)) = (R2 (I.own 1 1)) := by
  simp only [k0_pay89, bc_0, constant_0, slice_R2, mm_own]
  refine congrArg R2 (funext fun i => funext fun j => ?_); simp only [Blk.own, Blk.qs, Blk.ddo, Nat.mul_zero, Nat.zero_add, zero_add, Nat.reduceMul, Nat.reduceAdd]
theorem p90 (I : Blk) : k0_pay90 (F := Ideal) (R2 I.qs) (R2 (I.ddo 2)) = (R2 (I.own 1 2)) := by
  simp only [k0_pay90, bc_0, constant_0, slice_R2, mm_own]
  refine congrArg R2 (funext fun i => funext fun j => ?_); simp only [Blk.own, Blk.qs, Blk.ddo, Nat.mul_zero, Nat.zero_add, zero_add, Nat.reduceMul, Nat.reduceAdd]
theorem p91 (I : Blk) : k0_pay91 (F := Ideal) (R2 I.qs) (R2 (I.ddo 3)) = (R2 (I.own 1 3)) := by
  simp only [k0_pay91, bc_0, constant_0, slice_R2, mm_own]
  refine congrArg R2 (funext fun i => funext fun j => ?_); simp only [Blk.own, Blk.qs, Blk.ddo, Nat.mul_zero, Nat.zero_add, zero_add, Nat.reduceMul, Nat.reduceAdd]
theorem p92 (I : Blk) : k0_pay92 (F := Ideal) (R2 I.qs) (R2 (I.ddo 0)) = (R2 (I.own 2 0)) := by
  simp only [k0_pay92, bc_0, constant_0, slice_R2, mm_own]
  refine congrArg R2 (funext fun i => funext fun j => ?_); simp only [Blk.own, Blk.qs, Blk.ddo, Nat.mul_zero, Nat.zero_add, zero_add, Nat.reduceMul, Nat.reduceAdd]
theorem p93 (I : Blk) : k0_pay93 (F := Ideal) (R2 I.qs) (R2 (I.ddo 1)) = (R2 (I.own 2 1)) := by
  simp only [k0_pay93, bc_0, constant_0, slice_R2, mm_own]
  refine congrArg R2 (funext fun i => funext fun j => ?_); simp only [Blk.own, Blk.qs, Blk.ddo, Nat.mul_zero, Nat.zero_add, zero_add, Nat.reduceMul, Nat.reduceAdd]
theorem p94 (I : Blk) : k0_pay94 (F := Ideal) (R2 I.qs) (R2 (I.ddo 2)) = (R2 (I.own 2 2)) := by
  simp only [k0_pay94, bc_0, constant_0, slice_R2, mm_own]
  refine congrArg R2 (funext fun i => funext fun j => ?_); simp only [Blk.own, Blk.qs, Blk.ddo, Nat.mul_zero, Nat.zero_add, zero_add, Nat.reduceMul, Nat.reduceAdd]
theorem p95 (I : Blk) : k0_pay95 (F := Ideal) (R2 I.qs) (R2 (I.ddo 3)) = (R2 (I.own 2 3)) := by
  simp only [k0_pay95, bc_0, constant_0, slice_R2, mm_own]
  refine congrArg R2 (funext fun i => funext fun j => ?_); simp only [Blk.own, Blk.qs, Blk.ddo, Nat.mul_zero, Nat.zero_add, zero_add, Nat.reduceMul, Nat.reduceAdd]
theorem p96 (I : Blk) : k0_pay96 (F := Ideal) (R2 I.qs) (R2 (I.ddo 0)) = (R2 (I.own 3 0)) := by
  simp only [k0_pay96, bc_0, constant_0, slice_R2, mm_own]
  refine congrArg R2 (funext fun i => funext fun j => ?_); simp only [Blk.own, Blk.qs, Blk.ddo, Nat.mul_zero, Nat.zero_add, zero_add, Nat.reduceMul, Nat.reduceAdd]
theorem p97 (I : Blk) : k0_pay97 (F := Ideal) (R2 I.qs) (R2 (I.ddo 1)) = (R2 (I.own 3 1)) := by
  simp only [k0_pay97, bc_0, constant_0, slice_R2, mm_own]
  refine congrArg R2 (funext fun i => funext fun j => ?_); simp only [Blk.own, Blk.qs, Blk.ddo, Nat.mul_zero, Nat.zero_add, zero_add, Nat.reduceMul, Nat.reduceAdd]
theorem p98 (I : Blk) : k0_pay98 (F := Ideal) (R2 I.qs) (R2 (I.ddo 2)) = (R2 (I.own 3 2)) := by
  simp only [k0_pay98, bc_0, constant_0, slice_R2, mm_own]
  refine congrArg R2 (funext fun i => funext fun j => ?_); simp only [Blk.own, Blk.qs, Blk.ddo, Nat.mul_zero, Nat.zero_add, zero_add, Nat.reduceMul, Nat.reduceAdd]
theorem p99 (I : Blk) : k0_pay99 (F := Ideal) (R2 (I.ddo 3)) = (R2 (I.ddos 3 3)) := by
  simp only [k0_pay99, slice_R2]
  refine congrArg R2 (funext fun i => funext fun j => ?_); simp only [Blk.ddos, Blk.ddo, Nat.mul_zero, Nat.zero_add, zero_add, Nat.reduceMul, Nat.reduceAdd]
theorem p100 (I : Blk) : k0_pay100 (F := Ideal) (R2 I.qs) = (R2 (I.qss 3 3)) := by
  simp only [k0_pay100, slice_R2]
  rfl
theorem p101 (I : Blk) : k0_pay101 (F := Ideal) (R2 (I.own 3 0)) (R3 (I.car 0)) = (R2 (I.gts 3 0)) := by
  simp only [k0_pay101, addf_R2, shapeCast_R2, shapeCast_4to2, shapeCast_3to2]
  rfl
theorem p102 (I : Blk) : k0_pay102 (F := Ideal) (R2 (I.own 3 1)) (R3 (I.car 1)) = (R2 (I.gts 3 1)) := by
  simp only [k0_pay102, addf_R2, shapeCast_R2, shapeCast_4to2, shapeCast_3to2]
  rfl
theorem p103 (I : Blk) : k0_pay103 (F := Ideal) (R2 (I.own 3 2)) (R3 (I.car 2)) = (R2 (I.gts 3 2)) := by
  simp only [k0_pay103, addf_R2, shapeCast_R2, shapeCast_4to2, shapeCast_3to2]
  rfl
theorem p104 (I : Blk) : k0_pay104 (F := Ideal) (R2 (I.ddos 3 3)) (R2 (I.qss 3 3)) (R3 (I.car 3)) = (R2 (I.gts 3 3)) := by
  simp only [k0_pay104, addf_R2, shapeCast_R2, shapeCast_4to2, shapeCast_3to2, bc_0, constant_0, mm_own]
  refine congrArg R2 (funext fun i => funext fun j => ?_); simp only [Blk.gts_0, Blk.gts_1, Blk.gts_2, Blk.gts_3, Blk.ddos, Blk.qss, Blk.car, Blk.own, Nat.mul_zero, Nat.zero_add, zero_add, Nat.reduceMul, Nat.reduceAdd]
theorem p105 (I : Blk) : k0_pay105 (F := Ideal) (R2 (I.A 3)) (R2 (I.own 2 0)) (R2 (I.own 3 0)) (R3 (I.car 0)) = (R2 (I.gts 2 0)) := by
  simp only [k0_pay105, mulf_R2, addf_R2, bcTo_row, bcTo_row512, bcTo_row128, bcTo_col, slice_R2, p101]
  rfl
theorem p106 (I : Blk) : k0_pay106 (F := Ideal) (R2 (I.A 3)) (R2 (I.own 2 1)) (R2 (I.own 3 1)) (R3 (I.car 1)) = (R2 (I.gts 2 1)) := by
  simp only [k0_pay106, mulf_R2, addf_R2, bcTo_row, bcTo_row512, bcTo_row128, bcTo_col, slice_R2, p102]
  rfl
theorem p107 (I : Blk) : k0_pay107 (F := Ideal) (R2 (I.A 3)) (R2 (I.own 2 2)) (R2 (I.own 3 2)) (R3 (I.car 2)) = (R2 (I.gts 2 2)) := by
  simp only [k0_pay107, mulf_R2, addf_R2, bcTo_row, bcTo_row512, bcTo_row128, bcTo_col, slice_R2, p103]
  rfl
theorem p108 (I : Blk) : k0_pay108 (F := Ideal) (R2 (I.A 3)) (R2 (I.own 2 3)) (R2 (I.ddos 3 3)) (R2 (I.qss 3 3)) (R3 (I.car 3)) = (R2 (I.gts 2 3)) := by
  simp only [k0_pay108, mulf_R2, addf_R2, bcTo_row, bcTo_row512, bcTo_row128, bcTo_col, slice_R2, p104]
  rfl
theorem p109 (I : Blk) : k0_pay109 (F := Ideal) (R2 (I.A 2)) (R2 (I.A 3)) (R2 (I.own 1 0)) (R2 (I.own 2 0)) (R2 (I.own 3 0)) (R3 (I.car 0)) = (R2 (I.gts 1 0)) := by
  simp only [k0_pay109, mulf_R2, addf_R2, bcTo_row, bcTo_row512, bcTo_row128, bcTo_col, slice_R2, p105]
  rfl
theorem p110 (I : Blk) : k0_pay110 (F := Ideal) (R2 (I.A 2)) (R2 (I.A 3)) (R2 (I.own 1 1)) (R2 (I.own 2 1)) (R2 (I.own 3 1)) (R3 (I.car 1)) = (R2 (I.gts 1 1)) := by
  simp only [k0_pay110, mulf_R2, addf_R2, bcTo_row, bcTo_row512, bcTo_row128, bcTo_col, slice_R2, p106]
  rfl
theorem p111 (I : Blk) : k0_pay111 (F := Ideal) (R2 (I.A 2)) (R2 (I.A 3)) (R2 (I.own 1 2)) (R2 (I.own 2 2)) (R2 (I.own 3 2)) (R3 (I.car 2)) = (R2 (I.gts 1 2)) := by
  simp only [k0_pay111, mulf_R2, addf_R2, bcTo_row, bcTo_row512, bcTo_row128, bcTo_col, slice_R2, p107]
  rfl
theorem p112 (I : Blk) : k0_pay112 (F := Ideal) (R2 (I.A 2)) (R2 (I.A 3)) (R2 (I.own 1 3)) (R2 (I.own 2 3)) (R2 (I.ddos 3 3)) (R2 (I.qss 3 3)) (R3 (I.car 3)) = (R2 (I.gts 1 3)) := by
  simp only [k0_pay112, mulf_R2, addf_R2, bcTo_row, bcTo_row512, bcTo_row128, bcTo_col, slice_R2, p108]
  rfl
theorem p113 (I : Blk) : k0_pay113 (F := Ideal) (R2 (I.A 1)) = (R2 (I.Ab 1 0)) := by
  simp only [k0_pay113, bcTo_row, bcTo_row512, bcTo_row128, bcTo_col, slice_R2]
  rfl
theorem p114 (I : Blk) : k0_pay114 (F := Ideal) (R2 (I.own 0 0)) (R2 (I.gts 1 0)) (R2 (I.Ab 1 0)) = (R2 (I.gts 0 0)) := by
  simp only [k0_pay114, mulf_R2, addf_R2]
  rfl
theorem p115 (I : Blk) : k0_pay115 (F := Ideal) (R2 (I.A 1)) (R2 (I.own 0 1)) (R2 (I.gts 1 1)) = (R2 (I.gts 0 1)) := by
  simp only [k0_pay115, mulf_R2, addf_R2, bcTo_row, bcTo_row512, bcTo_row128, bcTo_col, slice_R2]
  rfl
theorem p116 (I : Blk) : k0_pay116 (F := Ideal) (R2 (I.A 1)) (R2 (I.own 0 2)) (R2 (I.gts 1 2)) = (R2 (I.gts 0 2)) := by
  simp only [k0_pay116, mulf_R2, addf_R2, bcTo_row, bcTo_row512, bcTo_row128, bcTo_col, slice_R2]
  rfl
theorem p117 (I : Blk) : k0_pay117 (F := Ideal) (R2 (I.A 1)) (R2 (I.own 0 3)) (R2 (I.gts 1 3)) = (R2 (I.gts 0 3)) := by
  simp only [k0_pay117, mulf_R2, addf_R2, bcTo_row, bcTo_row512, bcTo_row128, bcTo_col, slice_R2]
  rfl
theorem p118 (I : Blk) : k0_pay118 (F := Ideal) (R2 (I.A 0)) (R2 (I.own 0 0)) (R2 (I.gts 1 0)) (R2 (I.Ab 1 0)) = (R3 (I.ncar 0)) := by
  simp only [k0_pay118, mulf_R2, shapeCast_R2, shapeCast_2to3, bcTo_row, bcTo_row512, bcTo_row128, bcTo_col, slice_R2, p114]
  rfl
theorem p119 (I : Blk) : k0_pay119 (F := Ideal) (R2 (I.A 0)) (R2 (I.A 1)) (R2 (I.own 0 1)) (R2 (I.gts 1 1)) = (R3 (I.ncar 1)) := by
  simp only [k0_pay119, mulf_R2, shapeCast_R2, shapeCast_2to3, bcTo_row, bcTo_row512, bcTo_row128, bcTo_col, slice_R2, p115]
  rfl
theorem p120 (I : Blk) : k0_pay120 (F := Ideal) (R2 (I.A 0)) (R2 (I.A 1)) (R2 (I.own 0 2)) (R2 (I.gts 1 2)) = (R3 (I.ncar 2)) := by
  simp only [k0_pay120, mulf_R2, shapeCast_R2, shapeCast_2to3, bcTo_row, bcTo_row512, bcTo_row128, bcTo_col, slice_R2, p116]
  rfl
theorem p121 (I : Blk) : k0_pay121 (F := Ideal) (R2 (I.A 0)) (R2 (I.A 1)) (R2 (I.own 0 3)) (R2 (I.gts 1 3)) = (R3 (I.ncar 3)) := by
  simp only [k0_pay121, mulf_R2, shapeCast_R2, shapeCast_2to3, bcTo_row, bcTo_row512, bcTo_row128, bcTo_col, slice_R2, p117]
  rfl
theorem p122 (I : Blk) : k0_pay122 (F := Ideal) (R2 (I.own 0 0)) (R2 (I.gts 1 0)) (R2 (I.Ab 1 0)) = (R2 (I.gts 0 0)) := by
  simp only [k0_pay122, truncf_R2, p114]
theorem p123 (I : Blk) : k0_pay123 (F := Ideal) (R2 (I.A 1)) (R2 (I.own 0 1)) (R2 (I.gts 1 1)) = (R2 (I.gts 0 1)) := by
  simp only [k0_pay123, truncf_R2, p115]
theorem p124 (I : Blk) : k0_pay124 (F := Ideal) (R2 (I.A 1)) (R2 (I.own 0 2)) (R2 (I.gts 1 2)) = (R2 (I.gts 0 2)) := by
  simp only [k0_pay124, truncf_R2, p116]
theorem p125 (I : Blk) : k0_pay125 (F := Ideal) (R2 (I.A 1)) (R2 (I.own 0 3)) (R2 (I.gts 1 3)) = (R2 (I.gts 0 3)) := by
  simp only [k0_pay125, truncf_R2, p117]
theorem p126 (f : ℕ → ℕ → ℝ) : k0_pay126 (F := Ideal) (R2 f) = R2 f := by
  simp only [k0_pay126, truncf_R2]
theorem p127 (f : ℕ → ℕ → ℝ) : k0_pay127 (F := Ideal) (R2 f) = R2 f := by
  simp only [k0_pay127, truncf_R2]
theorem p128 (f : ℕ → ℕ → ℝ) : k0_pay128 (F := Ideal) (R2 f) = R2 f := by
  simp only [k0_pay128, truncf_R2]
theorem p129 (f : ℕ → ℕ → ℝ) : k0_pay129 (F := Ideal) (R2 f) = R2 f := by
  simp only [k0_pay129, truncf_R2]
theorem p130 (f : ℕ → ℕ → ℝ) : k0_pay130 (F := Ideal) (R2 f) = R2 f := by
  simp only [k0_pay130, truncf_R2]
theorem p131 (f : ℕ → ℕ → ℝ) : k0_pay131 (F := Ideal) (R2 f) = R2 f := by
  simp only [k0_pay131, truncf_R2]
theorem p132 (f : ℕ → ℕ → ℝ) : k0_pay132 (F := Ideal) (R2 f) = R2 f := by
  simp only [k0_pay132, truncf_R2]
theorem p133 (f : ℕ → ℕ → ℝ) : k0_pay133 (F := Ideal) (R2 f) = R2 f := by
  simp only [k0_pay133, truncf_R2]
theorem p134 (f : ℕ → ℕ → ℝ) : k0_pay134 (F := Ideal) (R2 f) = R2 f := by
  simp only [k0_pay134, truncf_R2]
theorem p135 (f : ℕ → ℕ → ℝ) : k0_pay135 (F := Ideal) (R2 f) = R2 f := by
  simp only [k0_pay135, truncf_R2]
theorem p136 (f : ℕ → ℕ → ℝ) : k0_pay136 (F := Ideal) (R2 f) = R2 f := by
  simp only [k0_pay136, truncf_R2]
theorem p137 (f : ℕ → ℕ → ℝ) : k0_pay137 (F := Ideal) (R2 f) = R2 f := by
  simp only [k0_pay137, truncf_R2]
theorem p138 (I : Blk) : k0_pay138 (F := Ideal) (R2 I.V) (R2 (I.gts 0 0)) (R2 (I.gts 0 1)) (R2 (I.gts 0 2)) (R2 (I.gts 0 3)) = (R2 (I.dkdc 0)) := by
  simp only [k0_pay138, bc_0, constant_0, slice_R2, mm_64_256_128]
  refine (cat4_S64x512_S64x128 (fun h => I.dkdp 0 h) _ _ _ _ ?_ ?_ ?_ ?_ _).trans rfl <;> (simp only [constant_0, slice_R2, mm_64_256_128, p126, p127]; first | rfl | (refine congrArg R2 (funext fun i => funext fun j => ?_); simp only [Blk.dkdp, Nat.mul_zero, Nat.zero_add, zero_add, Nat.reduceMul, Nat.reduceAdd]))
theorem p139 (I : Blk) : k0_pay139 (F := Ideal) (R2 I.V) (R2 (I.gts 1 2)) (R2 (I.gts 1 3)) (R2 (I.gts 1 0)) (R2 (I.gts 1 1)) = (R2 (I.dkdc 1)) := by
  simp only [k0_pay139, bc_0, constant_0, slice_R2, mm_64_256_128, p128, p129]
  refine (cat4_S64x512_S64x128 (fun h => I.dkdp 1 h) _ _ _ _ ?_ ?_ ?_ ?_ _).trans rfl <;> (simp only [constant_0, slice_R2, mm_64_256_128, p128, p129]; first | rfl | (refine congrArg R2 (funext fun i => funext fun j => ?_); simp only [Blk.dkdp, Nat.mul_zero, Nat.zero_add, zero_add, Nat.reduceMul, Nat.reduceAdd]))
theorem p140 (I : Blk) : k0_pay140 (F := Ideal) (R2 I.V) (R2 (I.gts 2 0)) (R2 (I.gts 2 1)) (R2 (I.gts 2 2)) (R2 (I.gts 2 3)) = (R2 (I.dkdc 2)) := by
  simp only [k0_pay140, bc_0, constant_0, slice_R2, mm_64_256_128, p130, p131, p132, p133]
  refine (cat4_S64x512_S64x128 (fun h => I.dkdp 2 h) _ _ _ _ ?_ ?_ ?_ ?_ _).trans rfl <;> (simp only [constant_0, slice_R2, mm_64_256_128, p130, p131, p132, p133]; first | rfl | (refine congrArg R2 (funext fun i => funext fun j => ?_); simp only [Blk.dkdp, Nat.mul_zero, Nat.zero_add, zero_add, Nat.reduceMul, Nat.reduceAdd]))
theorem p141 (I : Blk) : k0_pay141 (F := Ideal) (R2 I.V) (R2 (I.gts 3 0)) = (R2 (I.dkdp 3 0)) := by
  simp only [k0_pay141, bc_0, constant_0, slice_R2, mm_64_256_128, p134]
  refine congrArg R2 (funext fun i => funext fun j => ?_); simp only [Blk.dkdp, Nat.mul_zero, Nat.zero_add, zero_add, Nat.reduceMul, Nat.reduceAdd]
theorem p142 (I : Blk) : k0_pay142 (F := Ideal) (R2 I.V) (R2 (I.gts 3 1)) = (R2 (I.dkdp 3 1)) := by
  simp only [k0_pay142, bc_0, constant_0, slice_R2, mm_64_256_128, p135]
  refine congrArg R2 (funext fun i => funext fun j => ?_); simp only [Blk.dkdp, Nat.mul_zero, Nat.zero_add, zero_add, Nat.reduceMul, Nat.reduceAdd]
theorem p143 (I : Blk) : k0_pay143 (F := Ideal) (R2 I.V) (R2 (I.gts 3 2)) = (R2 (I.dkdp 3 2)) := by
  simp only [k0_pay143, bc_0, constant_0, slice_R2, mm_64_256_128, p136]
  refine congrArg R2 (funext fun i => funext fun j => ?_); simp only [Blk.dkdp, Nat.mul_zero, Nat.zero_add, zero_add, Nat.reduceMul, Nat.reduceAdd]
theorem p144 (I : Blk) : k0_pay144 (F := Ideal) (R2 I.V) = (R2 (I.vs 3 3)) := by
  simp only [k0_pay144, slice_R2]
  rfl
theorem p145 (I : Blk) : k0_pay145 (F := Ideal) (R2 (I.gts 3 3)) (R2 (I.dkdc 0)) (R2 (I.dkdc 1)) (R2 (I.dkdc 2)) (R2 (I.dkdp 3 0)) (R2 (I.dkdp 3 1)) (R2 (I.dkdp 3 2)) (R2 (I.vs 3 3)) (constant (F := Ideal) S64x128 .f32 0x00000000#32) = (R2 I.dkd) := by
  simp only [k0_pay145, constant_0, mm_64_256_128]
  have e3 := cat4_S64x512_S64x128 (fun h => I.dkdp 3 h) (R2 (I.dkdp 3 0)) (R2 (I.dkdp 3 1)) (R2 (I.dkdp 3 2)) (R2 (I.dkdp 3 3)) rfl rfl rfl rfl concatenates_S64x128_S64x128_S64x128_S64x128_S64x512_d1
  refine (cat4_S256x512_S64x512 I.dkdc _ _ _ _ rfl rfl rfl (Eq.trans ?_ e3) _).trans rfl
  refine congrArg (fun z => concatenate S64x512 1 [⟨S64x128, R2 (I.dkdp 3 0)⟩, ⟨S64x128, R2 (I.dkdp 3 1)⟩, ⟨S64x128, R2 (I.dkdp 3 2)⟩, ⟨S64x128, z⟩] concatenates_S64x128_S64x128_S64x128_S64x128_S64x512_d1) (?_ : _ = R2 (I.dkdp 3 3))
  rw [constant_0, mm_64_256_128]
  refine congrArg R2 (funext fun i => funext fun j => ?_); simp only [Blk.dkdp, Blk.vs, Nat.mul_zero, Nat.zero_add, zero_add, Nat.reduceMul, Nat.reduceAdd]
theorem p146 (I : Blk) : k0_pay146 (F := Ideal) (R2 I.kd) (R2 (I.gts 0 0)) = (R2 (I.dvp 0 0)) := by
  simp only [k0_pay146, bc_0, constant_0, slice_R2, mm_64_128_256]
  refine congrArg R2 (funext fun i => funext fun j => ?_); simp only [Blk.dvp, Blk.kd, Nat.mul_zero, Nat.zero_add, zero_add, Nat.reduceMul, Nat.reduceAdd]
theorem p147 (I : Blk) : k0_pay147 (F := Ideal) (R2 I.kd) (R2 (I.gts 0 1)) = (R2 (I.dvp 0 1)) := by
  simp only [k0_pay147, bc_0, constant_0, slice_R2, mm_64_128_256]
  refine congrArg R2 (funext fun i => funext fun j => ?_); simp only [Blk.dvp, Blk.kd, Nat.mul_zero, Nat.zero_add, zero_add, Nat.reduceMul, Nat.reduceAdd]
theorem p148 (I : Blk) : k0_pay148 (F := Ideal) (R2 I.kd) (R2 (I.gts 0 2)) = (R2 (I.dvp 0 2)) := by
  simp only [k0_pay148, bc_0, constant_0, slice_R2, mm_64_128_256]
  refine congrArg R2 (funext fun i => funext fun j => ?_); simp only [Blk.dvp, Blk.kd, Nat.mul_zero, Nat.zero_add, zero_add, Nat.reduceMul, Nat.reduceAdd]
theorem p149 (I : Blk) : k0_pay149 (F := Ideal) (R2 I.kd) (R2 (I.gts 0 3)) = (R2 (I.dvp 0 3)) := by
  simp only [k0_pay149, bc_0, constant_0, slice_R2, mm_64_128_256]
  refine congrArg R2 (funext fun i => funext fun j => ?_); simp only [Blk.dvp, Blk.kd, Nat.mul_zero, Nat.zero_add, zero_add, Nat.reduceMul, Nat.reduceAdd]
theorem p150 (I : Blk) : k0_pay150 (F := Ideal) (R2 I.kd) (R2 (I.gts 1 0)) = (R2 (I.dvp 1 0)) := by
  simp only [k0_pay150, bc_0, constant_0, slice_R2, mm_64_128_256]
  refine congrArg R2 (funext fun i => funext fun j => ?_); simp only [Blk.dvp, Blk.kd, Nat.mul_zero, Nat.zero_add, zero_add, Nat.reduceMul, Nat.reduceAdd]
theorem p151 (I : Blk) : k0_pay151 (F := Ideal) (R2 I.kd) (R2 (I.gts 1 1)) = (R2 (I.dvp 1 1)) := by
  simp only [k0_pay151, bc_0, constant_0, slice_R2, mm_64_128_256]
  refine congrArg R2 (funext fun i => funext fun j => ?_); simp only [Blk.dvp, Blk.kd, Nat.mul_zero, Nat.zero_add, zero_add, Nat.reduceMul, Nat.reduceAdd]
theorem p152 (I : Blk) : k0_pay152 (F := Ideal) (R2 I.kd) (R2 (I.gts 1 2)) = (R2 (I.dvp 1 2)) := by
  simp only [k0_pay152, bc_0, constant_0, slice_R2, mm_64_128_256]
  refine congrArg R2 (funext fun i => funext fun j => ?_); simp only [Blk.dvp, Blk.kd, Nat.mul_zero, Nat.zero_add, zero_add, Nat.reduceMul, Nat.reduceAdd]
theorem p153 (I : Blk) : k0_pay153 (F := Ideal) (R2 I.kd) (R2 (I.gts 1 3)) = (R2 (I.dvp 1 3)) := by
  simp only [k0_pay153, bc_0, constant_0, slice_R2, mm_64_128_256]
  refine congrArg R2 (funext fun i => funext fun j => ?_); simp only [Blk.dvp, Blk.kd, Nat.mul_zero, Nat.zero_add, zero_add, Nat.reduceMul, Nat.reduceAdd]
theorem p154 (I : Blk) : k0_pay154 (F := Ideal) (R2 I.kd) (R2 (I.gts 2 0)) = (R2 (I.dvp 2 0)) := by
  simp only [k0_pay154, bc_0, constant_0, slice_R2, mm_64_128_256]
  refine congrArg R2 (funext fun i => funext fun j => ?_); simp only [Blk.dvp, Blk.kd, Nat.mul_zero, Nat.zero_add, zero_add, Nat.reduceMul, Nat.reduceAdd]
theorem p155 (I : Blk) : k0_pay155 (F := Ideal) (R2 I.kd) (R2 (I.gts 2 1)) = (R2 (I.dvp 2 1)) := by
  simp only [k0_pay155, bc_0, constant_0, slice_R2, mm_64_128_256]
  refine congrArg R2 (funext fun i => funext fun j => ?_); simp only [Blk.dvp, Blk.kd, Nat.mul_zero, Nat.zero_add, zero_add, Nat.reduceMul, Nat.reduceAdd]
theorem p156 (I : Blk) : k0_pay156 (F := Ideal) (R2 I.kd) (R2 (I.gts 2 2)) = (R2 (I.dvp 2 2)) := by
  simp only [k0_pay156, bc_0, constant_0, slice_R2, mm_64_128_256]
  refine congrArg R2 (funext fun i => funext fun j => ?_); simp only [Blk.dvp, Blk.kd, Nat.mul_zero, Nat.zero_add, zero_add, Nat.reduceMul, Nat.reduceAdd]
theorem p157 (I : Blk) : k0_pay157 (F := Ideal) (R2 I.kd) (R2 (I.gts 2 3)) = (R2 (I.dvp 2 3)) := by
  simp only [k0_pay157, bc_0, constant_0, slice_R2, mm_64_128_256]
  refine congrArg R2 (funext fun i => funext fun j => ?_); simp only [Blk.dvp, Blk.kd, Nat.mul_zero, Nat.zero_add, zero_add, Nat.reduceMul, Nat.reduceAdd]
theorem p158 (I : Blk) : k0_pay158 (F := Ideal) (R2 I.kd) (R2 (I.gts 3 0)) = (R2 (I.dvp 3 0)) := by
  simp only [k0_pay158, bc_0, constant_0, slice_R2, mm_64_128_256]
  refine congrArg R2 (funext fun i => funext fun j => ?_); simp only [Blk.dvp, Blk.kd, Nat.mul_zero, Nat.zero_add, zero_add, Nat.reduceMul, Nat.reduceAdd]
theorem p159 (I : Blk) : k0_pay159 (F := Ideal) (R2 I.kd) (R2 (I.gts 3 1)) = (R2 (I.dvp 3 1)) := by
  simp only [k0_pay159, bc_0, constant_0, slice_R2, mm_64_128_256]
  refine congrArg R2 (funext fun i => funext fun j => ?_); simp only [Blk.dvp, Blk.kd, Nat.mul_zero, Nat.zero_add, zero_add, Nat.reduceMul, Nat.reduceAdd]
theorem p160 (I : Blk) : k0_pay160 (F := Ideal) (R2 I.kd) (R2 (I.gts 3 2)) = (R2 (I.dvp 3 2)) := by
  simp only [k0_pay160, bc_0, constant_0, slice_R2, mm_64_128_256]
  refine congrArg R2 (funext fun i => funext fun j => ?_); simp only [Blk.dvp, Blk.kd, Nat.mul_zero, Nat.zero_add, zero_add, Nat.reduceMul, Nat.reduceAdd]
theorem p161 (I : Blk) : k0_pay161 (F := Ideal) (R2 I.kd) (R2 (I.gts 3 3)) = (R2 (I.dvp 3 3)) := by
  simp only [k0_pay161, bc_0, constant_0, slice_R2, mm_64_128_256]
  refine congrArg R2 (funext fun i => funext fun j => ?_); simp only [Blk.dvp, Blk.kd, Nat.mul_zero, Nat.zero_add, zero_add, Nat.reduceMul, Nat.reduceAdd]
theorem p162 (I : Blk) : k0_pay162 (F := Ideal) ((I.hp : EReal)) (R2 (I.gts 0 0)) (R4 (I.STPh 0)) = (R2 I.gs0) := by
  simp only [k0_pay162, mulf_R2, shapeCast_R2, shapeCast_4to2, shapeCast_3to2, bc_real]
  rfl
theorem p163 (I : Blk) : k0_pay163 (F := Ideal) ((I.hp : EReal)) (R2 (I.gts 0 1)) (R2 (I.gts 0 2)) (R2 (I.gts 0 3)) (R2 I.gs0) (R4 (I.STPh 1)) (R4 (I.STPh 2)) (R4 (I.STPh 3)) = (R2 (I.da 0)) := by
  simp only [k0_pay163, ↓ sum0_S128_of, mulf_R2, shapeCast_R2, shapeCast_4to2, shapeCast_3to2, shapeCast_S1x128, sum0_S128, bc_real]
  refine (cat4_S1x512_S1x128 (fun h => I.dap 0 h) _ _ _ _ ?_ ?_ ?_ ?_ _).trans rfl <;> (first | rfl | exact shapeCast_S1x128 _ _ | (repeat first | rw [sum0_S128_of] | rw [shapeCast_4to2] | rw [bc_real] | rw [mulf_R2] | rw [sum0_S128] | rw [shapeCast_S1x128]) <;> (first | rfl | (refine congrArg R2 (funext fun i => funext fun j => ?_); simp only [Blk.dap, Blk.STc, Blk.STPh, Blk.gs0, Nat.mul_zero, Nat.zero_add, zero_add, Nat.reduceMul, Nat.reduceAdd])))
theorem p164 (I : Blk) : k0_pay164 (F := Ideal) (R2 (I.gts 1 0)) (R4 (I.STc 0 0)) = (R2 (I.dap 1 0)) := by
  simp only [k0_pay164, ↓ sum0_S128_of, mulf_R2, shapeCast_R2, shapeCast_4to2, shapeCast_3to2, shapeCast_S1x128, sum0_S128]
  rfl
theorem p165 (I : Blk) : k0_pay165 (F := Ideal) (R2 (I.gts 1 1)) (R4 (I.STc 0 1)) = (R2 (I.dap 1 1)) := by
  simp only [k0_pay165, ↓ sum0_S128_of, mulf_R2, shapeCast_R2, shapeCast_4to2, shapeCast_3to2, shapeCast_S1x128, sum0_S128]
  rfl
theorem p166 (I : Blk) : k0_pay166 (F := Ideal) (R2 (I.gts 1 2)) (R2 (I.gts 1 3)) (R2 (I.dap 1 0)) (R2 (I.dap 1 1)) (R4 (I.STc 0 2)) (R4 (I.STc 0 3)) = (R2 (I.da 1)) := by
  simp only [k0_pay166, ↓ sum0_S128_of, mulf_R2, shapeCast_R2, shapeCast_4to2, shapeCast_3to2, shapeCast_S1x128, sum0_S128]
  refine (cat4_S1x512_S1x128 (fun h => I.dap 1 h) _ _ _ _ ?_ ?_ ?_ ?_ _).trans rfl <;> (first | rfl | exact shapeCast_S1x128 _ _ | (repeat first | rw [sum0_S128_of] | rw [shapeCast_4to2] | rw [bc_real] | rw [mulf_R2] | rw [sum0_S128] | rw [shapeCast_S1x128]) <;> (first | rfl | (refine congrArg R2 (funext fun i => funext fun j => ?_); simp only [Blk.dap, Blk.STc, Blk.STPh, Blk.gs0, Nat.mul_zero, Nat.zero_add, zero_add, Nat.reduceMul, Nat.reduceAdd])))
theorem p167 (I : Blk) : k0_pay167 (F := Ideal) (R2 (I.gts 2 0)) (R4 (I.STc 1 0)) = (R2 (I.dap 2 0)) := by
  simp only [k0_pay167, ↓ sum0_S128_of, mulf_R2, shapeCast_R2, shapeCast_4to2, shapeCast_3to2, shapeCast_S1x128, sum0_S128]
  rfl
theorem p168 (I : Blk) : k0_pay168 (F := Ideal) (R2 (I.gts 2 1)) (R4 (I.STc 1 1)) = (R2 (I.dap 2 1)) := by
  simp only [k0_pay168, ↓ sum0_S128_of, mulf_R2, shapeCast_R2, shapeCast_4to2, shapeCast_3to2, shapeCast_S1x128, sum0_S128]
  rfl
theorem p169 (I : Blk) : k0_pay169 (F := Ideal) (R2 (I.gts 2 2)) (R4 (I.STc 1 2)) = (R2 (I.dap 2 2)) := by
  simp only [k0_pay169, ↓ sum0_S128_of, mulf_R2, shapeCast_R2, shapeCast_4to2, shapeCast_3to2, shapeCast_S1x128, sum0_S128]
  rfl
theorem p170 (I : Blk) : k0_pay170 (F := Ideal) (R2 (I.gts 2 3)) (R4 (I.STc 1 3)) = (R1 (I.dap 2 3 0)) := by
  simp only [k0_pay170, ↓ sum0_S128_of, mulf_R2, shapeCast_R2, shapeCast_4to2, shapeCast_3to2, sum0_S128]
  exact congrArg R1 (funext fun j => by simp only [Blk.dap, Blk.STc, Nat.mul_zero, Nat.zero_add, zero_add, Nat.reduceMul, Nat.reduceAdd])
theorem p171 (I : Blk) : k0_pay171 (F := Ideal) (R2 (I.dap 2 0)) (R2 (I.dap 2 1)) (R2 (I.dap 2 2)) (R1 (I.dap 2 3 0)) = (R2 (I.da 2)) := by
  simp only [k0_pay171, shapeCast_R2, shapeCast_S1x128]
  refine (cat4_S1x512_S1x128 (fun h => I.dap 2 h) _ _ _ _ ?_ ?_ ?_ ?_ _).trans rfl <;> (first | rfl | exact shapeCast_S1x128 _ _ | (repeat first | rw [sum0_S128_of] | rw [shapeCast_4to2] | rw [bc_real] | rw [mulf_R2] | rw [sum0_S128] | rw [shapeCast_S1x128]) <;> (first | rfl | (refine congrArg R2 (funext fun i => funext fun j => ?_); simp only [Blk.dap, Blk.STc, Blk.STPh, Blk.gs0, Nat.mul_zero, Nat.zero_add, zero_add, Nat.reduceMul, Nat.reduceAdd])))
theorem p172 (I : Blk) : k0_pay172 (F := Ideal) (R2 (I.gts 3 0)) (R2 (I.gts 3 1)) (R2 (I.gts 3 2)) (R2 (I.gts 3 3)) (R4 (I.STc 2 0)) (R4 (I.STc 2 1)) (R4 (I.STc 2 2)) (R4 (I.STc 2 3)) = (R2 (I.da 3)) := by
  simp only [k0_pay172, ↓ sum0_S128_of, mulf_R2, shapeCast_R2, shapeCast_4to2, shapeCast_3to2, shapeCast_S1x128, sum0_S128]
  refine (cat4_S1x512_S1x128 (fun h => I.dap 3 h) _ _ _ _ ?_ ?_ ?_ ?_ _).trans rfl <;> (first | rfl | exact shapeCast_S1x128 _ _ | (repeat first | rw [sum0_S128_of] | rw [shapeCast_4to2] | rw [bc_real] | rw [mulf_R2] | rw [sum0_S128] | rw [shapeCast_S1x128]) <;> (first | rfl | (refine congrArg R2 (funext fun i => funext fun j => ?_); simp only [Blk.dap, Blk.STc, Blk.STPh, Blk.gs0, Nat.mul_zero, Nat.zero_add, zero_add, Nat.reduceMul, Nat.reduceAdd])))
theorem p173 (I : Blk) : k0_pay173 (F := Ideal) (R2 (I.dvp 0 0)) (R2 (I.dvp 1 0)) (R2 (I.dvp 2 0)) (R2 (I.dvp 3 0)) = (R2 (I.dvh 0)) := by
  simp only [k0_pay173, truncf_R2]
  exact congrArg (fun z => truncf (F := Ideal) (φ := .f32) .bf16 z bitsLt_bf16_f32) ((cat4_S256x256_S64x256 (fun c => I.dvp c 0) _ _ _ _ rfl rfl rfl rfl concatenates_S64x256_S64x256_S64x256_S64x256_S256x256_d0).trans rfl)
theorem p174 (I : Blk) : k0_pay174 (F := Ideal) (R2 (I.dvp 0 1)) (R2 (I.dvp 1 1)) (R2 (I.dvp 2 1)) (R2 (I.dvp 3 1)) = (R2 (I.dvh 1)) := by
  simp only [k0_pay174, truncf_R2]
  exact congrArg (fun z => truncf (F := Ideal) (φ := .f32) .bf16 z bitsLt_bf16_f32) ((cat4_S256x256_S64x256 (fun c => I.dvp c 1) _ _ _ _ rfl rfl rfl rfl concatenates_S64x256_S64x256_S64x256_S64x256_S256x256_d0).trans rfl)
theorem p175 (I : Blk) : k0_pay175 (F := Ideal) (R2 (I.dvp 0 2)) (R2 (I.dvp 1 2)) (R2 (I.dvp 2 2)) (R2 (I.dvp 3 2)) = (R2 (I.dvh 2)) := by
  simp only [k0_pay175, truncf_R2]
  exact congrArg (fun z => truncf (F := Ideal) (φ := .f32) .bf16 z bitsLt_bf16_f32) ((cat4_S256x256_S64x256 (fun c => I.dvp c 2) _ _ _ _ rfl rfl rfl rfl concatenates_S64x256_S64x256_S64x256_S64x256_S256x256_d0).trans rfl)
theorem p176 (I : Blk) : k0_pay176 (F := Ideal) (R2 (I.dvp 0 3)) (R2 (I.dvp 1 3)) (R2 (I.dvp 2 3)) (R2 (I.dvp 3 3)) = (R2 (I.dvh 3)) := by
  simp only [k0_pay176, truncf_R2]
  exact congrArg (fun z => truncf (F := Ideal) (φ := .f32) .bf16 z bitsLt_bf16_f32) ((cat4_S256x256_S64x256 (fun c => I.dvp c 3) _ _ _ _ rfl rfl rfl rfl concatenates_S64x256_S64x256_S64x256_S64x256_S256x256_d0).trans rfl)
theorem p177 (I : Blk) : k0_pay177 (F := Ideal) (R2 I.E) (R2 I.dkd) = (R2 I.dk) := by
  simp only [k0_pay177, mulf_R2, truncf_R2]
  rfl
theorem p178 (I : Blk) : k0_pay178 (F := Ideal) (R2 I.E) (R2 I.K) (R2 I.dkd) = (R2 I.dd) := by
  simp only [k0_pay178, mulf_R2]
  rfl
theorem p179 (I : Blk) : k0_pay179 (F := Ideal) (R2 I.E) (R2 I.K) (R2 I.dkd) = (R2 (I.dsum 0)) := by
  simp only [k0_pay179, ↓ sum0_S512_of, ↓ io512_of, shapeCast_R2, shapeCast_S1x512, bc_0, sum0_S512, select_B2, andi_B2, row_sge_0, row_slt_64, row_sge_64, p178]
  refine congrArg R2 (funext fun i => funext fun j => ?_)
  simp [Blk.dsum]
theorem p180 (I : Blk) : k0_pay180 (F := Ideal) (R2 I.E) (R2 I.K) (R2 I.dkd) = (R2 (I.dsum 1)) := by
  simp only [k0_pay180, ↓ sum0_S512_of, ↓ io512_of, shapeCast_R2, shapeCast_S1x512, bc_0, sum0_S512, select_B2, andi_B2, row_slt_64, row_sge_64, row_slt_128, row_sge_128, p178]
  refine congrArg R2 (funext fun i => funext fun j => ?_)
  simp [Blk.dsum]
theorem p181 (I : Blk) : k0_pay181 (F := Ideal) (R2 I.E) (R2 I.K) (R2 I.dkd) = (R2 (I.dsum 2)) := by
  simp only [k0_pay181, ↓ sum0_S512_of, ↓ io512_of, shapeCast_R2, shapeCast_S1x512, bc_0, sum0_S512, select_B2, andi_B2, row_slt_128, row_sge_128, row_slt_192, row_sge_192, p178]
  refine congrArg R2 (funext fun i => funext fun j => ?_)
  simp [Blk.dsum]
theorem p184 (I : Blk) : k0_pay184 (F := Ideal) (R2 Blk.tri) (R2 (I.A 0)) (R2 (I.A 1)) (R2 (I.A 2)) (R2 (I.A 3)) (R2 (I.da 0)) (R2 (I.da 1)) (R2 (I.da 2)) (R2 (I.da 3)) (R2 I.dd) (io512) (R2 (I.dsum 0)) (R2 (I.dsum 1)) (R2 (I.dsum 2)) (k0_pay182) (k0_pay183) = (R2 I.dla) := by
  simp only [k0_pay184, ↓ sum0_S512_of, k0_pay182, k0_pay183, row_sge_192, row_slt_256, ↓ io512_of, mulf_R2, addf_R2, subf_R2, truncf_R2, extf_R2, shapeCast_R2, shapeCast_S1x512, bc_0, bc_16th, constant_0, bcTo_row, bcTo_row512, bcTo_row128, bcTo_col, sum0_S512, mm_tri, select_B2, andi_B2, row_slt_192, row_slt_128, row_slt_64]
  refine R2_congr fun i hi j _ => ?_
  have e : (∑ x : Fin 256, if 192 ≤ (x : ℕ) ∧ (x : ℕ) < 256 then I.dd x j else 0) = I.dsum 3 0 j := rfl
  simp only [sub_self, mul_zero, Finset.sum_const_zero, add_zero, zero_add, e]
  have q := pick (fun c => I.dlae c 0 j) hi
  simp only [Blk.dlae] at q
  rw [q, Blk.dla, Blk.dlae]
theorem p185 (I : Blk) : k0_pay185 (F := Ideal) (R2 I.P) = (R2 I.eP) := by
  simp only [k0_pay185, subf_R2, exp_R2, bc_0]
  rfl
theorem p186 (I : Blk) : k0_pay186 (F := Ideal) (R2 I.dla) (R2 I.eP) = (R2 I.dpre) := by
  simp only [k0_pay186, mulf_R2, addf_R2, subf_R2, divf_256, divf_sig, divf_eP, bc_1]
  rfl
theorem p187 (I : Blk) : k0_pay187 (F := Ideal) (R2 I.dla) (R2 I.eP) = (R2 I.dpre) := by
  simp only [k0_pay187, truncf_R2, p186]
theorem p188 (I : Blk) : k0_pay188 (F := Ideal) (R2 I.WA) (R2 I.dla) (R2 I.eP) = (R2 I.dga) := by
  simp only [k0_pay188, truncf_R2, bc_0, constant_0, mm_dga, p187]
  refine congrArg R2 (funext fun i => funext fun j => ?_); simp only [Blk.dga, Blk.dla, Blk.eP, Nat.mul_zero, Nat.zero_add, zero_add, Nat.reduceMul, Nat.reduceAdd]
theorem p189 (I : Blk) (f : ℕ → ℕ → ℝ) : k0_pay189 (F := Ideal) (R2 I.GA) (R2 I.dla) (R2 I.eP) (R2 f) = R2 (fun i j => f i j + I.dwap i j) := by
  simp only [k0_pay189, addf_R2, shapeCast_R2, bc_0, constant_0, mm_dwa, p187]
  simp only [Blk.dwap, Blk.dla, Blk.eP, Nat.mul_zero, Nat.zero_add, zero_add, Nat.reduceMul, Nat.reduceAdd]
theorem p190 (I : Blk) (f : ℕ → ℕ → ℝ) : k0_pay190 (F := Ideal) (R2 I.dla) (R2 I.eP) (R2 f) = R2 (fun i j => f i j + I.dbp i j) := by
  simp only [k0_pay190, ↓ sum0_S512_of, addf_R2, shapeCast_R2, shapeCast_S1x512, sum0_S512, p186]
  rfl

end Cert.Mine

end
-- ==== Proof.Mine.Loads.lean ====
/- What the body reads from whole buffers holding real arrays, and the masks and constants it starts from. -/
module

public import proofs.«01_k».proof.Proof.Mine.Block
public import proofs.«01_k».proof.Proof.Gen.KernelIdeal.Frame.Runs
public import Idealize.ShloMosaic.Lib.Pipeline.ValueKit
public import Idealize.ShloMosaic.Lib.Pipeline.ReadBack
public import Idealize.ShloMosaic.Lib.KernelVsHost

@[expose] public section

set_option maxRecDepth 16384

noncomputable section

namespace Cert.Mine

open Idealize.ShloMosaic Cert.KernelIdeal Cert.KernelIdeal.Gen

/-- The real arrays' equality, index by index. -/
theorem R3_congr {a b c : ℕ} {f g : ℕ → ℕ → ℕ → ℝ} (h : ∀ i < a, ∀ j < b, ∀ k < c, f i j k = g i j k) :
    (R3 f : (⟨3, ![a, b, c]⟩ : Shape).Idx → EReal) = R3 g := by
  funext x; exact congrArg _ (h _ (x 0).isLt _ (x 1).isLt _ (x 2).isLt)

section Loads

theorem ld_S256x512 (r : Memref sig .tc .vmem S256x512 .f32) (h : r.IsWhole) (f : ℕ → ℕ → ℝ) (inb) :
    View.readAt (Elt Ideal) r.view (Rect.unit (s := S256x512) ![0, 0] S256x512.size inb).toLoadRect (h.unread (R2 f)) = R2 f := by
  rw [View.readAt_eq_ld, h.read_unread]; exact View.ld_unit_lit (Val := Elt Ideal) (e := .f32) inb (R2 f) (by decide)

theorem ld_S256x1024 (r : Memref sig .tc .vmem S256x1024 .f32) (h : r.IsWhole) (f : ℕ → ℕ → ℝ) (inb) :
    View.readAt (Elt Ideal) r.view (Rect.unit (s := S256x1024) ![0, 0] S256x1024.size inb).toLoadRect (h.unread (R2 f)) = R2 f := by
  rw [View.readAt_eq_ld, h.read_unread]; exact View.ld_unit_lit (Val := Elt Ideal) (e := .f32) inb (R2 f) (by decide)

theorem ld_S256x128 (r : Memref sig .tc .vmem S256x128 .f32) (h : r.IsWhole) (f : ℕ → ℕ → ℝ) (inb) :
    View.readAt (Elt Ideal) r.view (Rect.unit (s := S256x128) ![0, 0] S256x128.size inb).toLoadRect (h.unread (R2 f)) = R2 f := by
  rw [View.readAt_eq_ld, h.read_unread]; exact View.ld_unit_lit (Val := Elt Ideal) (e := .f32) inb (R2 f) (by decide)

theorem ld_S128x512 (r : Memref sig .tc .vmem S128x512 .f32) (h : r.IsWhole) (f : ℕ → ℕ → ℝ) (inb) :
    View.readAt (Elt Ideal) r.view (Rect.unit (s := S128x512) ![0, 0] S128x512.size inb).toLoadRect (h.unread (R2 f)) = R2 f := by
  rw [View.readAt_eq_ld, h.read_unread]; exact View.ld_unit_lit (Val := Elt Ideal) (e := .f32) inb (R2 f) (by decide)

theorem ld_S1x512 (r : Memref sig .tc .vmem S1x512 .f32) (h : r.IsWhole) (f : ℕ → ℕ → ℝ) (inb) :
    View.readAt (Elt Ideal) r.view (Rect.unit (s := S1x512) ![0, 0] S1x512.size inb).toLoadRect (h.unread (R2 f)) = R2 f := by
  rw [View.readAt_eq_ld, h.read_unread]; exact View.ld_unit_lit (Val := Elt Ideal) (e := .f32) inb (R2 f) (by decide)

theorem ld_S256x256_0 (r : Memref sig .tc .vmem S256x1024 .f32) (h : r.IsWhole) (f : ℕ → ℕ → ℝ) (inb) :
    View.readAt (Elt Ideal) r.view (Rect.unit (s := S256x1024) ![0, 0] S256x256.size inb).toLoadRect (h.unread (R2 f)) = R2 (fun i x => f i (256 * 0 + x)) := by
  rw [View.readAt_eq_ld, h.read_unread]; funext x; rw [View.ld_apply]
  show ((f (0 + 1 * (x 0).val) (0 + 1 * (x 1).val) : ℝ) : EReal) = ((f (x 0).val (256 * 0 + (x 1).val) : ℝ) : EReal)
  rw [Nat.zero_add, Nat.one_mul, Nat.one_mul]

theorem ld_S1x256_0 (r : Memref sig .tc .vmem S1x1024 .f32) (h : r.IsWhole) (f : ℕ → ℕ → ℝ) (inb) :
    View.readAt (Elt Ideal) r.view (Rect.unit (s := S1x1024) ![0, 0] S1x256.size inb).toLoadRect (h.unread (R2 f)) = R2 (fun i x => f i (256 * 0 + x)) := by
  rw [View.readAt_eq_ld, h.read_unread]; funext x; rw [View.ld_apply]
  show ((f (0 + 1 * (x 0).val) (0 + 1 * (x 1).val) : ℝ) : EReal) = ((f (x 0).val (256 * 0 + (x 1).val) : ℝ) : EReal)
  rw [Nat.zero_add, Nat.one_mul, Nat.one_mul]

theorem ld_S256x256_1 (r : Memref sig .tc .vmem S256x1024 .f32) (h : r.IsWhole) (f : ℕ → ℕ → ℝ) (inb) :
    View.readAt (Elt Ideal) r.view (Rect.unit (s := S256x1024) ![0, 256] S256x256.size inb).toLoadRect (h.unread (R2 f)) = R2 (fun i x => f i (256 * 1 + x)) := by
  rw [View.readAt_eq_ld, h.read_unread]; funext x; rw [View.ld_apply]
  show ((f (0 + 1 * (x 0).val) (256 + 1 * (x 1).val) : ℝ) : EReal) = ((f (x 0).val (256 * 1 + (x 1).val) : ℝ) : EReal)
  rw [Nat.zero_add, Nat.one_mul, Nat.one_mul]

theorem ld_S1x256_1 (r : Memref sig .tc .vmem S1x1024 .f32) (h : r.IsWhole) (f : ℕ → ℕ → ℝ) (inb) :
    View.readAt (Elt Ideal) r.view (Rect.unit (s := S1x1024) ![0, 256] S1x256.size inb).toLoadRect (h.unread (R2 f)) = R2 (fun i x => f i (256 * 1 + x)) := by
  rw [View.readAt_eq_ld, h.read_unread]; funext x; rw [View.ld_apply]
  show ((f (0 + 1 * (x 0).val) (256 + 1 * (x 1).val) : ℝ) : EReal) = ((f (x 0).val (256 * 1 + (x 1).val) : ℝ) : EReal)
  rw [Nat.zero_add, Nat.one_mul, Nat.one_mul]

theorem ld_S256x256_2 (r : Memref sig .tc .vmem S256x1024 .f32) (h : r.IsWhole) (f : ℕ → ℕ → ℝ) (inb) :
    View.readAt (Elt Ideal) r.view (Rect.unit (s := S256x1024) ![0, 512] S256x256.size inb).toLoadRect (h.unread (R2 f)) = R2 (fun i x => f i (256 * 2 + x)) := by
  rw [View.readAt_eq_ld, h.read_unread]; funext x; rw [View.ld_apply]
  show ((f (0 + 1 * (x 0).val) (512 + 1 * (x 1).val) : ℝ) : EReal) = ((f (x 0).val (256 * 2 + (x 1).val) : ℝ) : EReal)
  rw [Nat.zero_add, Nat.one_mul, Nat.one_mul]

theorem ld_S1x256_2 (r : Memref sig .tc .vmem S1x1024 .f32) (h : r.IsWhole) (f : ℕ → ℕ → ℝ) (inb) :
    View.readAt (Elt Ideal) r.view (Rect.unit (s := S1x1024) ![0, 512] S1x256.size inb).toLoadRect (h.unread (R2 f)) = R2 (fun i x => f i (256 * 2 + x)) := by
  rw [View.readAt_eq_ld, h.read_unread]; funext x; rw [View.ld_apply]
  show ((f (0 + 1 * (x 0).val) (512 + 1 * (x 1).val) : ℝ) : EReal) = ((f (x 0).val (256 * 2 + (x 1).val) : ℝ) : EReal)
  rw [Nat.zero_add, Nat.one_mul, Nat.one_mul]

theorem ld_S256x256_3 (r : Memref sig .tc .vmem S256x1024 .f32) (h : r.IsWhole) (f : ℕ → ℕ → ℝ) (inb) :
    View.readAt (Elt Ideal) r.view (Rect.unit (s := S256x1024) ![0, 768] S256x256.size inb).toLoadRect (h.unread (R2 f)) = R2 (fun i x => f i (256 * 3 + x)) := by
  rw [View.readAt_eq_ld, h.read_unread]; funext x; rw [View.ld_apply]
  show ((f (0 + 1 * (x 0).val) (768 + 1 * (x 1).val) : ℝ) : EReal) = ((f (x 0).val (256 * 3 + (x 1).val) : ℝ) : EReal)
  rw [Nat.zero_add, Nat.one_mul, Nat.one_mul]

theorem ld_S1x256_3 (r : Memref sig .tc .vmem S1x1024 .f32) (h : r.IsWhole) (f : ℕ → ℕ → ℝ) (inb) :
    View.readAt (Elt Ideal) r.view (Rect.unit (s := S1x1024) ![0, 768] S1x256.size inb).toLoadRect (h.unread (R2 f)) = R2 (fun i x => f i (256 * 3 + x)) := by
  rw [View.readAt_eq_ld, h.read_unread]; funext x; rw [View.ld_apply]
  show ((f (0 + 1 * (x 0).val) (768 + 1 * (x 1).val) : ℝ) : EReal) = ((f (x 0).val (256 * 3 + (x 1).val) : ℝ) : EReal)
  rw [Nat.zero_add, Nat.one_mul, Nat.one_mul]

theorem ldST_0_0 (I : Blk) (r : Memref sig .tc .vmem S4x4x256x128 .f32) (h : r.IsWhole) (inb) :
    View.readAt (Elt Ideal) r.view (Rect.unit (s := S4x4x256x128) ![0, 0, 0, 0] S1x1x256x128.size inb).toLoadRect (h.unread (R4 I.ST)) = R4 (I.STc 0 0) := by
  rw [View.readAt_eq_ld, h.read_unread]; funext x; rw [View.ld_apply]
  have h0 := Fin.val_eq_zero (show Fin 1 from x 0); have h1 := Fin.val_eq_zero (show Fin 1 from x 1)
  show ((I.ST (0 + 1 * (x 0).val) (0 + 1 * (x 1).val) (0 + 1 * (x 2).val) (0 + 1 * (x 3).val) : ℝ) : EReal) = ((I.ST 0 0 (x 2).val (x 3).val : ℝ) : EReal)
  rw [h0, h1]; simp only [Nat.zero_add, Nat.one_mul, Nat.mul_zero, Nat.add_zero]

theorem ldST_0_1 (I : Blk) (r : Memref sig .tc .vmem S4x4x256x128 .f32) (h : r.IsWhole) (inb) :
    View.readAt (Elt Ideal) r.view (Rect.unit (s := S4x4x256x128) ![0, 1, 0, 0] S1x1x256x128.size inb).toLoadRect (h.unread (R4 I.ST)) = R4 (I.STc 0 1) := by
  rw [View.readAt_eq_ld, h.read_unread]; funext x; rw [View.ld_apply]
  have h0 := Fin.val_eq_zero (show Fin 1 from x 0); have h1 := Fin.val_eq_zero (show Fin 1 from x 1)
  show ((I.ST (0 + 1 * (x 0).val) (1 + 1 * (x 1).val) (0 + 1 * (x 2).val) (0 + 1 * (x 3).val) : ℝ) : EReal) = ((I.ST 0 1 (x 2).val (x 3).val : ℝ) : EReal)
  rw [h0, h1]; simp only [Nat.zero_add, Nat.one_mul, Nat.mul_zero, Nat.add_zero]

theorem ldST_0_2 (I : Blk) (r : Memref sig .tc .vmem S4x4x256x128 .f32) (h : r.IsWhole) (inb) :
    View.readAt (Elt Ideal) r.view (Rect.unit (s := S4x4x256x128) ![0, 2, 0, 0] S1x1x256x128.size inb).toLoadRect (h.unread (R4 I.ST)) = R4 (I.STc 0 2) := by
  rw [View.readAt_eq_ld, h.read_unread]; funext x; rw [View.ld_apply]
  have h0 := Fin.val_eq_zero (show Fin 1 from x 0); have h1 := Fin.val_eq_zero (show Fin 1 from x 1)
  show ((I.ST (0 + 1 * (x 0).val) (2 + 1 * (x 1).val) (0 + 1 * (x 2).val) (0 + 1 * (x 3).val) : ℝ) : EReal) = ((I.ST 0 2 (x 2).val (x 3).val : ℝ) : EReal)
  rw [h0, h1]; simp only [Nat.zero_add, Nat.one_mul, Nat.mul_zero, Nat.add_zero]

theorem ldST_0_3 (I : Blk) (r : Memref sig .tc .vmem S4x4x256x128 .f32) (h : r.IsWhole) (inb) :
    View.readAt (Elt Ideal) r.view (Rect.unit (s := S4x4x256x128) ![0, 3, 0, 0] S1x1x256x128.size inb).toLoadRect (h.unread (R4 I.ST)) = R4 (I.STc 0 3) := by
  rw [View.readAt_eq_ld, h.read_unread]; funext x; rw [View.ld_apply]
  have h0 := Fin.val_eq_zero (show Fin 1 from x 0); have h1 := Fin.val_eq_zero (show Fin 1 from x 1)
  show ((I.ST (0 + 1 * (x 0).val) (3 + 1 * (x 1).val) (0 + 1 * (x 2).val) (0 + 1 * (x 3).val) : ℝ) : EReal) = ((I.ST 0 3 (x 2).val (x 3).val : ℝ) : EReal)
  rw [h0, h1]; simp only [Nat.zero_add, Nat.one_mul, Nat.mul_zero, Nat.add_zero]

theorem ldST_1_0 (I : Blk) (r : Memref sig .tc .vmem S4x4x256x128 .f32) (h : r.IsWhole) (inb) :
    View.readAt (Elt Ideal) r.view (Rect.unit (s := S4x4x256x128) ![1, 0, 0, 0] S1x1x256x128.size inb).toLoadRect (h.unread (R4 I.ST)) = R4 (I.STc 1 0) := by
  rw [View.readAt_eq_ld, h.read_unread]; funext x; rw [View.ld_apply]
  have h0 := Fin.val_eq_zero (show Fin 1 from x 0); have h1 := Fin.val_eq_zero (show Fin 1 from x 1)
  show ((I.ST (1 + 1 * (x 0).val) (0 + 1 * (x 1).val) (0 + 1 * (x 2).val) (0 + 1 * (x 3).val) : ℝ) : EReal) = ((I.ST 1 0 (x 2).val (x 3).val : ℝ) : EReal)
  rw [h0, h1]; simp only [Nat.zero_add, Nat.one_mul, Nat.mul_zero, Nat.add_zero]

theorem ldST_1_1 (I : Blk) (r : Memref sig .tc .vmem S4x4x256x128 .f32) (h : r.IsWhole) (inb) :
    View.readAt (Elt Ideal) r.view (Rect.unit (s := S4x4x256x128) ![1, 1, 0, 0] S1x1x256x128.size inb).toLoadRect (h.unread (R4 I.ST)) = R4 (I.STc 1 1) := by
  rw [View.readAt_eq_ld, h.read_unread]; funext x; rw [View.ld_apply]
  have h0 := Fin.val_eq_zero (show Fin 1 from x 0); have h1 := Fin.val_eq_zero (show Fin 1 from x 1)
  show ((I.ST (1 + 1 * (x 0).val) (1 + 1 * (x 1).val) (0 + 1 * (x 2).val) (0 + 1 * (x 3).val) : ℝ) : EReal) = ((I.ST 1 1 (x 2).val (x 3).val : ℝ) : EReal)
  rw [h0, h1]; simp only [Nat.zero_add, Nat.one_mul, Nat.mul_zero, Nat.add_zero]

theorem ldST_1_2 (I : Blk) (r : Memref sig .tc .vmem S4x4x256x128 .f32) (h : r.IsWhole) (inb) :
    View.readAt (Elt Ideal) r.view (Rect.unit (s := S4x4x256x128) ![1, 2, 0, 0] S1x1x256x128.size inb).toLoadRect (h.unread (R4 I.ST)) = R4 (I.STc 1 2) := by
  rw [View.readAt_eq_ld, h.read_unread]; funext x; rw [View.ld_apply]
  have h0 := Fin.val_eq_zero (show Fin 1 from x 0); have h1 := Fin.val_eq_zero (show Fin 1 from x 1)
  show ((I.ST (1 + 1 * (x 0).val) (2 + 1 * (x 1).val) (0 + 1 * (x 2).val) (0 + 1 * (x 3).val) : ℝ) : EReal) = ((I.ST 1 2 (x 2).val (x 3).val : ℝ) : EReal)
  rw [h0, h1]; simp only [Nat.zero_add, Nat.one_mul, Nat.mul_zero, Nat.add_zero]

theorem ldST_1_3 (I : Blk) (r : Memref sig .tc .vmem S4x4x256x128 .f32) (h : r.IsWhole) (inb) :
    View.readAt (Elt Ideal) r.view (Rect.unit (s := S4x4x256x128) ![1, 3, 0, 0] S1x1x256x128.size inb).toLoadRect (h.unread (R4 I.ST)) = R4 (I.STc 1 3) := by
  rw [View.readAt_eq_ld, h.read_unread]; funext x; rw [View.ld_apply]
  have h0 := Fin.val_eq_zero (show Fin 1 from x 0); have h1 := Fin.val_eq_zero (show Fin 1 from x 1)
  show ((I.ST (1 + 1 * (x 0).val) (3 + 1 * (x 1).val) (0 + 1 * (x 2).val) (0 + 1 * (x 3).val) : ℝ) : EReal) = ((I.ST 1 3 (x 2).val (x 3).val : ℝ) : EReal)
  rw [h0, h1]; simp only [Nat.zero_add, Nat.one_mul, Nat.mul_zero, Nat.add_zero]

theorem ldST_2_0 (I : Blk) (r : Memref sig .tc .vmem S4x4x256x128 .f32) (h : r.IsWhole) (inb) :
    View.readAt (Elt Ideal) r.view (Rect.unit (s := S4x4x256x128) ![2, 0, 0, 0] S1x1x256x128.size inb).toLoadRect (h.unread (R4 I.ST)) = R4 (I.STc 2 0) := by
  rw [View.readAt_eq_ld, h.read_unread]; funext x; rw [View.ld_apply]
  have h0 := Fin.val_eq_zero (show Fin 1 from x 0); have h1 := Fin.val_eq_zero (show Fin 1 from x 1)
  show ((I.ST (2 + 1 * (x 0).val) (0 + 1 * (x 1).val) (0 + 1 * (x 2).val) (0 + 1 * (x 3).val) : ℝ) : EReal) = ((I.ST 2 0 (x 2).val (x 3).val : ℝ) : EReal)
  rw [h0, h1]; simp only [Nat.zero_add, Nat.one_mul, Nat.mul_zero, Nat.add_zero]

theorem ldST_2_1 (I : Blk) (r : Memref sig .tc .vmem S4x4x256x128 .f32) (h : r.IsWhole) (inb) :
    View.readAt (Elt Ideal) r.view (Rect.unit (s := S4x4x256x128) ![2, 1, 0, 0] S1x1x256x128.size inb).toLoadRect (h.unread (R4 I.ST)) = R4 (I.STc 2 1) := by
  rw [View.readAt_eq_ld, h.read_unread]; funext x; rw [View.ld_apply]
  have h0 := Fin.val_eq_zero (show Fin 1 from x 0); have h1 := Fin.val_eq_zero (show Fin 1 from x 1)
  show ((I.ST (2 + 1 * (x 0).val) (1 + 1 * (x 1).val) (0 + 1 * (x 2).val) (0 + 1 * (x 3).val) : ℝ) : EReal) = ((I.ST 2 1 (x 2).val (x 3).val : ℝ) : EReal)
  rw [h0, h1]; simp only [Nat.zero_add, Nat.one_mul, Nat.mul_zero, Nat.add_zero]

theorem ldST_2_2 (I : Blk) (r : Memref sig .tc .vmem S4x4x256x128 .f32) (h : r.IsWhole) (inb) :
    View.readAt (Elt Ideal) r.view (Rect.unit (s := S4x4x256x128) ![2, 2, 0, 0] S1x1x256x128.size inb).toLoadRect (h.unread (R4 I.ST)) = R4 (I.STc 2 2) := by
  rw [View.readAt_eq_ld, h.read_unread]; funext x; rw [View.ld_apply]
  have h0 := Fin.val_eq_zero (show Fin 1 from x 0); have h1 := Fin.val_eq_zero (show Fin 1 from x 1)
  show ((I.ST (2 + 1 * (x 0).val) (2 + 1 * (x 1).val) (0 + 1 * (x 2).val) (0 + 1 * (x 3).val) : ℝ) : EReal) = ((I.ST 2 2 (x 2).val (x 3).val : ℝ) : EReal)
  rw [h0, h1]; simp only [Nat.zero_add, Nat.one_mul, Nat.mul_zero, Nat.add_zero]

theorem ldST_2_3 (I : Blk) (r : Memref sig .tc .vmem S4x4x256x128 .f32) (h : r.IsWhole) (inb) :
    View.readAt (Elt Ideal) r.view (Rect.unit (s := S4x4x256x128) ![2, 3, 0, 0] S1x1x256x128.size inb).toLoadRect (h.unread (R4 I.ST)) = R4 (I.STc 2 3) := by
  rw [View.readAt_eq_ld, h.read_unread]; funext x; rw [View.ld_apply]
  have h0 := Fin.val_eq_zero (show Fin 1 from x 0); have h1 := Fin.val_eq_zero (show Fin 1 from x 1)
  show ((I.ST (2 + 1 * (x 0).val) (3 + 1 * (x 1).val) (0 + 1 * (x 2).val) (0 + 1 * (x 3).val) : ℝ) : EReal) = ((I.ST 2 3 (x 2).val (x 3).val : ℝ) : EReal)
  rw [h0, h1]; simp only [Nat.zero_add, Nat.one_mul, Nat.mul_zero, Nat.add_zero]

theorem ldST_3_0 (I : Blk) (r : Memref sig .tc .vmem S4x4x256x128 .f32) (h : r.IsWhole) (inb) :
    View.readAt (Elt Ideal) r.view (Rect.unit (s := S4x4x256x128) ![3, 0, 0, 0] S1x1x256x128.size inb).toLoadRect (h.unread (R4 I.ST)) = R4 (I.STc 3 0) := by
  rw [View.readAt_eq_ld, h.read_unread]; funext x; rw [View.ld_apply]
  have h0 := Fin.val_eq_zero (show Fin 1 from x 0); have h1 := Fin.val_eq_zero (show Fin 1 from x 1)
  show ((I.ST (3 + 1 * (x 0).val) (0 + 1 * (x 1).val) (0 + 1 * (x 2).val) (0 + 1 * (x 3).val) : ℝ) : EReal) = ((I.ST 3 0 (x 2).val (x 3).val : ℝ) : EReal)
  rw [h0, h1]; simp only [Nat.zero_add, Nat.one_mul, Nat.mul_zero, Nat.add_zero]

theorem ldST_3_1 (I : Blk) (r : Memref sig .tc .vmem S4x4x256x128 .f32) (h : r.IsWhole) (inb) :
    View.readAt (Elt Ideal) r.view (Rect.unit (s := S4x4x256x128) ![3, 1, 0, 0] S1x1x256x128.size inb).toLoadRect (h.unread (R4 I.ST)) = R4 (I.STc 3 1) := by
  rw [View.readAt_eq_ld, h.read_unread]; funext x; rw [View.ld_apply]
  have h0 := Fin.val_eq_zero (show Fin 1 from x 0); have h1 := Fin.val_eq_zero (show Fin 1 from x 1)
  show ((I.ST (3 + 1 * (x 0).val) (1 + 1 * (x 1).val) (0 + 1 * (x 2).val) (0 + 1 * (x 3).val) : ℝ) : EReal) = ((I.ST 3 1 (x 2).val (x 3).val : ℝ) : EReal)
  rw [h0, h1]; simp only [Nat.zero_add, Nat.one_mul, Nat.mul_zero, Nat.add_zero]

theorem ldST_3_2 (I : Blk) (r : Memref sig .tc .vmem S4x4x256x128 .f32) (h : r.IsWhole) (inb) :
    View.readAt (Elt Ideal) r.view (Rect.unit (s := S4x4x256x128) ![3, 2, 0, 0] S1x1x256x128.size inb).toLoadRect (h.unread (R4 I.ST)) = R4 (I.STc 3 2) := by
  rw [View.readAt_eq_ld, h.read_unread]; funext x; rw [View.ld_apply]
  have h0 := Fin.val_eq_zero (show Fin 1 from x 0); have h1 := Fin.val_eq_zero (show Fin 1 from x 1)
  show ((I.ST (3 + 1 * (x 0).val) (2 + 1 * (x 1).val) (0 + 1 * (x 2).val) (0 + 1 * (x 3).val) : ℝ) : EReal) = ((I.ST 3 2 (x 2).val (x 3).val : ℝ) : EReal)
  rw [h0, h1]; simp only [Nat.zero_add, Nat.one_mul, Nat.mul_zero, Nat.add_zero]

theorem ldST_3_3 (I : Blk) (r : Memref sig .tc .vmem S4x4x256x128 .f32) (h : r.IsWhole) (inb) :
    View.readAt (Elt Ideal) r.view (Rect.unit (s := S4x4x256x128) ![3, 3, 0, 0] S1x1x256x128.size inb).toLoadRect (h.unread (R4 I.ST)) = R4 (I.STc 3 3) := by
  rw [View.readAt_eq_ld, h.read_unread]; funext x; rw [View.ld_apply]
  have h0 := Fin.val_eq_zero (show Fin 1 from x 0); have h1 := Fin.val_eq_zero (show Fin 1 from x 1)
  show ((I.ST (3 + 1 * (x 0).val) (3 + 1 * (x 1).val) (0 + 1 * (x 2).val) (0 + 1 * (x 3).val) : ℝ) : EReal) = ((I.ST 3 3 (x 2).val (x 3).val : ℝ) : EReal)
  rw [h0, h1]; simp only [Nat.zero_add, Nat.one_mul, Nat.mul_zero, Nat.add_zero]

theorem ldSTP_0 (I : Blk) (r : Memref sig .tc .vmem S1x4x256x128 .f32) (h : r.IsWhole) (inb) :
    View.readAt (Elt Ideal) r.view (Rect.unit (s := S1x4x256x128) ![0, 0, 0, 0] S1x1x256x128.size inb).toLoadRect (h.unread (R4 fun _ => I.STP)) = R4 (I.STPh 0) := by
  rw [View.readAt_eq_ld, h.read_unread]; funext x; rw [View.ld_apply]
  have h1 := Fin.val_eq_zero (show Fin 1 from x 1)
  show ((I.STP (0 + 1 * (x 1).val) (0 + 1 * (x 2).val) (0 + 1 * (x 3).val) : ℝ) : EReal) = ((I.STP 0 (x 2).val (x 3).val : ℝ) : EReal)
  rw [h1]; simp only [Nat.zero_add, Nat.one_mul, Nat.mul_zero, Nat.add_zero]
theorem ldCAR_0 (I : Blk) (r : Memref sig .tc .vmem S4x256x128 .f32) (h : r.IsWhole) (inb) :
    View.readAt (Elt Ideal) r.view (Rect.unit (s := S4x256x128) ![0, 0, 0] S1x256x128.size inb).toLoadRect (h.unread (R3 I.CAR)) = R3 (I.car 0) := by
  rw [View.readAt_eq_ld, h.read_unread]; funext x; rw [View.ld_apply]
  have h1 := Fin.val_eq_zero (show Fin 1 from x 0)
  show ((I.CAR (0 + 1 * (x 0).val) (0 + 1 * (x 1).val) (0 + 1 * (x 2).val) : ℝ) : EReal) = ((I.CAR 0 (x 1).val (x 2).val : ℝ) : EReal)
  rw [h1]; simp only [Nat.zero_add, Nat.one_mul, Nat.mul_zero, Nat.add_zero]

theorem ldSTP_1 (I : Blk) (r : Memref sig .tc .vmem S1x4x256x128 .f32) (h : r.IsWhole) (inb) :
    View.readAt (Elt Ideal) r.view (Rect.unit (s := S1x4x256x128) ![0, 1, 0, 0] S1x1x256x128.size inb).toLoadRect (h.unread (R4 fun _ => I.STP)) = R4 (I.STPh 1) := by
  rw [View.readAt_eq_ld, h.read_unread]; funext x; rw [View.ld_apply]
  have h1 := Fin.val_eq_zero (show Fin 1 from x 1)
  show ((I.STP (1 + 1 * (x 1).val) (0 + 1 * (x 2).val) (0 + 1 * (x 3).val) : ℝ) : EReal) = ((I.STP 1 (x 2).val (x 3).val : ℝ) : EReal)
  rw [h1]; simp only [Nat.zero_add, Nat.one_mul, Nat.mul_zero, Nat.add_zero]
theorem ldCAR_1 (I : Blk) (r : Memref sig .tc .vmem S4x256x128 .f32) (h : r.IsWhole) (inb) :
    View.readAt (Elt Ideal) r.view (Rect.unit (s := S4x256x128) ![1, 0, 0] S1x256x128.size inb).toLoadRect (h.unread (R3 I.CAR)) = R3 (I.car 1) := by
  rw [View.readAt_eq_ld, h.read_unread]; funext x; rw [View.ld_apply]
  have h1 := Fin.val_eq_zero (show Fin 1 from x 0)
  show ((I.CAR (1 + 1 * (x 0).val) (0 + 1 * (x 1).val) (0 + 1 * (x 2).val) : ℝ) : EReal) = ((I.CAR 1 (x 1).val (x 2).val : ℝ) : EReal)
  rw [h1]; simp only [Nat.zero_add, Nat.one_mul, Nat.mul_zero, Nat.add_zero]

theorem ldSTP_2 (I : Blk) (r : Memref sig .tc .vmem S1x4x256x128 .f32) (h : r.IsWhole) (inb) :
    View.readAt (Elt Ideal) r.view (Rect.unit (s := S1x4x256x128) ![0, 2, 0, 0] S1x1x256x128.size inb).toLoadRect (h.unread (R4 fun _ => I.STP)) = R4 (I.STPh 2) := by
  rw [View.readAt_eq_ld, h.read_unread]; funext x; rw [View.ld_apply]
  have h1 := Fin.val_eq_zero (show Fin 1 from x 1)
  show ((I.STP (2 + 1 * (x 1).val) (0 + 1 * (x 2).val) (0 + 1 * (x 3).val) : ℝ) : EReal) = ((I.STP 2 (x 2).val (x 3).val : ℝ) : EReal)
  rw [h1]; simp only [Nat.zero_add, Nat.one_mul, Nat.mul_zero, Nat.add_zero]
theorem ldCAR_2 (I : Blk) (r : Memref sig .tc .vmem S4x256x128 .f32) (h : r.IsWhole) (inb) :
    View.readAt (Elt Ideal) r.view (Rect.unit (s := S4x256x128) ![2, 0, 0] S1x256x128.size inb).toLoadRect (h.unread (R3 I.CAR)) = R3 (I.car 2) := by
  rw [View.readAt_eq_ld, h.read_unread]; funext x; rw [View.ld_apply]
  have h1 := Fin.val_eq_zero (show Fin 1 from x 0)
  show ((I.CAR (2 + 1 * (x 0).val) (0 + 1 * (x 1).val) (0 + 1 * (x 2).val) : ℝ) : EReal) = ((I.CAR 2 (x 1).val (x 2).val : ℝ) : EReal)
  rw [h1]; simp only [Nat.zero_add, Nat.one_mul, Nat.mul_zero, Nat.add_zero]

theorem ldSTP_3 (I : Blk) (r : Memref sig .tc .vmem S1x4x256x128 .f32) (h : r.IsWhole) (inb) :
    View.readAt (Elt Ideal) r.view (Rect.unit (s := S1x4x256x128) ![0, 3, 0, 0] S1x1x256x128.size inb).toLoadRect (h.unread (R4 fun _ => I.STP)) = R4 (I.STPh 3) := by
  rw [View.readAt_eq_ld, h.read_unread]; funext x; rw [View.ld_apply]
  have h1 := Fin.val_eq_zero (show Fin 1 from x 1)
  show ((I.STP (3 + 1 * (x 1).val) (0 + 1 * (x 2).val) (0 + 1 * (x 3).val) : ℝ) : EReal) = ((I.STP 3 (x 2).val (x 3).val : ℝ) : EReal)
  rw [h1]; simp only [Nat.zero_add, Nat.one_mul, Nat.mul_zero, Nat.add_zero]
theorem ldCAR_3 (I : Blk) (r : Memref sig .tc .vmem S4x256x128 .f32) (h : r.IsWhole) (inb) :
    View.readAt (Elt Ideal) r.view (Rect.unit (s := S4x256x128) ![3, 0, 0] S1x256x128.size inb).toLoadRect (h.unread (R3 I.CAR)) = R3 (I.car 3) := by
  rw [View.readAt_eq_ld, h.read_unread]; funext x; rw [View.ld_apply]
  have h1 := Fin.val_eq_zero (show Fin 1 from x 0)
  show ((I.CAR (3 + 1 * (x 0).val) (0 + 1 * (x 1).val) (0 + 1 * (x 2).val) : ℝ) : EReal) = ((I.CAR 3 (x 1).val (x 2).val : ℝ) : EReal)
  rw [h1]; simp only [Nat.zero_add, Nat.one_mul, Nat.mul_zero, Nat.add_zero]

end Loads

section Fills

theorem p1 : k0_pay1 (F := Ideal) = R3 (fun _ _ _ => 0) := by
  funext x; show Ideal.ofBits .f32 0x00000000#32 = ((0 : ℝ) : EReal)
  rw [Ideal.ofBits_zero_f32]; rfl
theorem p2 : k0_pay2 (F := Ideal) = R2 (fun _ _ => 0) := by
  funext x; show Ideal.ofBits .f32 0x00000000#32 = ((0 : ℝ) : EReal)
  rw [Ideal.ofBits_zero_f32]; rfl
theorem p3 : k0_pay3 (F := Ideal) = R2 (fun _ _ => 0) := by
  funext x; show Ideal.ofBits .f32 0x00000000#32 = ((0 : ℝ) : EReal)
  rw [Ideal.ofBits_zero_f32]; rfl
theorem p4 : k0_pay4 (F := Ideal) = R2 (fun _ _ => 0) := by
  funext x; show Ideal.ofBits .f32 0x00000000#32 = ((0 : ℝ) : EReal)
  rw [Ideal.ofBits_zero_f32]; rfl

/-- The flag of a block that another block precedes. -/
theorem p5 (i : grid0.Coords) : k0_pay5 (F := Ideal) i = ((if (i 0).val < 7 then 1 else 0 : ℝ) : EReal) := by
  show ((((Scalar.extui (Scalar.cmpi .slt (BitVec.ofNat 32 (i 0).val) 7#32) : BitVec 32).toInt : ℝ)) : EReal) = _
  congr 1
  have key : ∀ y : Fin 8, (Scalar.extui (Scalar.cmpi .slt (BitVec.ofNat 32 y.val) 7#32) : BitVec 32).toInt = if y.val < 7 then 1 else 0 := by
    decide +kernel
  rw [show (i 0).val = (show Fin 8 from i 0).val from rfl, key]
  split <;> simp

/-- The rounded-down quotient by 64, as the body computes it. -/
def fdiv (b : BitVec 32) : BitVec 32 :=
  Scalar.select (Scalar.andi (Scalar.cmpi .ne (Scalar.subi (Scalar.extui (Scalar.cmpi .sgt b 0#32)) (Scalar.extui (Scalar.cmpi .slt b 0#32)))
      (Scalar.subi (Scalar.extui (Scalar.cmpi .sgt 64#32 0#32)) (Scalar.extui (Scalar.cmpi .slt 64#32 0#32))))
    (Scalar.cmpi .ne (Scalar.remsi b 64#32) 0#32)) (Scalar.subi (Scalar.divsi b 64#32) 1#32) (Scalar.divsi b 64#32)

theorem fdiv_eq : ∀ y : Fin 256, fdiv (BitVec.ofNat 32 (0 * 256 + y.val)) = BitVec.ofNat 32 (y.val / 64) := by decide +kernel

theorem sge_eq (a b : ℕ) (ha : a < 256) (hb : b < 256) :
    Scalar.cmpi .sge (BitVec.ofNat 32 (0 * 256 + b)) (BitVec.ofNat 32 (0 * 256 + a)) = if a ≤ b then 1#1 else 0#1 := by
  have ta : (BitVec.ofNat 32 (0 * 256 + a)).toInt = a := by rw [Nat.zero_mul, Nat.zero_add, BitVec.toInt_ofNat']; norm_num [Int.bmod]; omega
  have tb : (BitVec.ofNat 32 (0 * 256 + b)).toInt = b := by rw [Nat.zero_mul, Nat.zero_add, BitVec.toInt_ofNat']; norm_num [Int.bmod]; omega
  show BitVec.ofBool (decide ((BitVec.ofNat 32 (0 * 256 + a)).toInt ≤ (BitVec.ofNat 32 (0 * 256 + b)).toInt)) = _
  rw [ta, tb]
  by_cases h : a ≤ b
  · rw [if_pos h, decide_eq_true (by exact_mod_cast h)]; rfl
  · rw [if_neg h, decide_eq_false (by exact_mod_cast h)]; rfl

theorem eq_eq (a b : ℕ) (ha : a < 256) (hb : b < 256) :
    Scalar.cmpi .eq (BitVec.ofNat 32 (a / 64)) (BitVec.ofNat 32 (b / 64)) = if a / 64 = b / 64 then 1#1 else 0#1 := by
  have key : ∀ x y : Fin 4, Scalar.cmpi .eq (BitVec.ofNat 32 x.val) (BitVec.ofNat 32 y.val) = if x.val = y.val then 1#1 else 0#1 := by decide +kernel
  exact key ⟨a / 64, by omega⟩ ⟨b / 64, by omega⟩

/-- The mask of the positions of the same chunk that do not come before. -/
theorem p11 : k0_pay11 (F := Ideal) (iota .tc S256x256 32 [0] iota_S256x256_d0_w32) (iota .tc S256x256 32 [1] iota_S256x256_d1_w32)
    k0_pay7 64#32 k0_pay8 k0_pay9 k0_pay10 = R2 Blk.tri := by
  funext x
  show Scalar.select (Scalar.andi (Scalar.cmpi .eq (fdiv (BitVec.ofNat 32 (0 * 256 + (x 0).val))) (fdiv (BitVec.ofNat 32 (0 * 256 + (x 1).val))))
      (Scalar.cmpi .sge (BitVec.ofNat 32 (0 * 256 + (x 1).val)) (BitVec.ofNat 32 (0 * 256 + (x 0).val))))
    (Ideal.ofBits .f32 0x3F800000#32) (Ideal.ofBits .f32 0x00000000#32) = ((Blk.tri (x 0).val (x 1).val : ℝ) : EReal)
  have h0 : (x 0).val < 256 := (x 0).isLt
  have h1 : (x 1).val < 256 := (x 1).isLt
  rw [fdiv_eq ⟨_, h0⟩, fdiv_eq ⟨_, h1⟩, eq_eq _ _ h0 h1, sge_eq _ _ h0 h1, Ideal.ofBits_zero_f32, Ideal.ofBits_one_f32]
  unfold Blk.tri
  by_cases ha : (x 0).val / 64 = (x 1).val / 64 <;> by_cases hb : (x 0).val ≤ (x 1).val <;> simp [ha, hb, Scalar.select, Scalar.andi] <;> decide

end Fills

end Cert.Mine

end
-- ==== Proof.Mine.WordsA.lean ====
/- The body's intermediate results at the first grid point, over buffers holding real arrays. -/
module

public import proofs.«01_k».proof.Proof.Mine.Loads
public import proofs.«01_k».proof.Proof.Mine.RunA

@[expose] public section

set_option pp.maxSteps 600
set_option maxRecDepth 16384

noncomputable section

namespace Cert.Mine.WA

open Idealize.ShloMosaic Cert.KernelIdeal Cert.KernelIdeal.Gen Cert.KernelIdeal.Own Cert.Mine

variable (I : Blk) (w18 w19 w20 : ℕ → ℕ → ℝ) (c : Dev nD) (i : grid0.Coords)
variable (a1 : Memref sig .tc .vmem S256x1024 .f32) (h1 : a1.IsWhole)
variable (a2 : Memref sig .tc .vmem S256x1024 .f32) (h2 : a2.IsWhole)
variable (a3 : Memref sig .tc .vmem S256x512 .f32) (h3 : a3.IsWhole)
variable (a4 : Memref sig .tc .vmem S256x512 .f32) (h4 : a4.IsWhole)
variable (a5 : Memref sig .tc .vmem S256x1024 .f32) (h5 : a5.IsWhole)
variable (a6 : Memref sig .tc .vmem S256x1024 .f32) (h6 : a6.IsWhole)
variable (a7 : Memref sig .tc .vmem S256x128 .f32) (h7 : a7.IsWhole)
variable (a8 : Memref sig .tc .vmem S128x512 .f32) (h8 : a8.IsWhole)
variable (a9 : Memref sig .tc .vmem S1x1024 .f32) (h9 : a9.IsWhole)
variable (a10 : Memref sig .tc .vmem S4x4x256x128 .f32) (h10 : a10.IsWhole)
variable (a11 : Memref sig .tc .vmem S1x4x256x128 .f32) (h11 : a11.IsWhole)
variable (a12 : Memref sig .tc .vmem S256x512 .f32) (h12 : a12.IsWhole)
variable (a13 : Memref sig .tc .vmem S256x512 .f32) (h13 : a13.IsWhole)
variable (a14 : Memref sig .tc .vmem S256x512 .bf16) (h14 : a14.IsWhole)
variable (a15 : Memref sig .tc .vmem S256x512 .bf16) (h15 : a15.IsWhole)
variable (a16 : Memref sig .tc .vmem S256x1024 .bf16) (h16 : a16.IsWhole)
variable (a17 : Memref sig .tc .vmem S256x1024 .bf16) (h17 : a17.IsWhole)
variable (a18 : Memref sig .tc .vmem S256x128 .bf16) (h18 : a18.IsWhole)
variable (a19 : Memref sig .tc .vmem S128x512 .f32) (h19 : a19.IsWhole)
variable (a20 : Memref sig .tc .vmem S1x512 .f32) (h20 : a20.IsWhole)
variable (a21 : Memref sig .tc .vmem S1x1024 .f32) (h21 : a21.IsWhole)
variable (a22 : Memref sig .tc .vmem S4x256x128 .f32) (h22 : a22.IsWhole)

theorem r : bodyRunA.sl.r (F := Ideal) c a7 h7 (R2 I.GA) = R2 I.GA :=
  (congrArg (k0_pay6 (F := Ideal)) (ld_S256x128 a7 h7 I.GA _)).trans (p6 I.GA)
theorem r_1 : bodyRunA.sl.r_1 (F := Ideal)  = R2 Blk.tri := p11
theorem r_4 : bodyRunA.sl.r_4 (F := Ideal) c a13 h13 (R2 I.C) = R2 I.C :=
  (congrArg (k0_pay14 (F := Ideal)) (ld_S256x512 a13 h13 I.C _)).trans (p14 I.C)
theorem r_10 : bodyRunA.sl.r_10 (F := Ideal) c a13 h13 (R2 I.C) = R2 (I.A 2) :=
  (congr (congrArg (k0_pay23 (F := Ideal)) (r_4 I c a13 h13)) rfl).trans (p23 I)
theorem r_11 : bodyRunA.sl.r_11 (F := Ideal) c a13 h13 (R2 I.C) = R2 (I.A 3) :=
  (congr (congrArg (k0_pay24 (F := Ideal)) (r_4 I c a13 h13)) rfl).trans (p24 I)
theorem r_15 : bodyRunA.sl.r_15 (F := Ideal) c a3 h3 (R2 I.Q) = R2 I.Q := (ld_S256x512 a3 h3 I.Q _)
theorem r_16 : bodyRunA.sl.r_16 (F := Ideal) c a3 h3 (R2 I.Q) = R2 I.qs :=
  (congrArg (k0_pay28 (F := Ideal)) (r_15 I c a3 h3)).trans (p28 I)
theorem r_43 : bodyRunA.sl.r_43 (F := Ideal) c a2 h2 (R2 I.O) = R2 (I.var 3) :=
  (congrArg (k0_pay63 (F := Ideal)) (ld_S256x256_3 a2 h2 I.O _)).trans (p63 I)
theorem r_44 : bodyRunA.sl.r_44 (F := Ideal) c a2 h2 (R2 I.O) = R2 (I.rr 3) :=
  (congrArg (k0_pay64 (F := Ideal)) (r_43 I c a2 h2)).trans (p64 I)
theorem r_40 : bodyRunA.sl.r_40 (F := Ideal) c a6 h6 (R2 I.G) = R2 (I.Gh 3) :=
  (congrArg (k0_pay61 (F := Ideal)) (ld_S256x256_3 a6 h6 I.G _)).trans (p61 (I.Gh 3))
theorem r_41 : bodyRunA.sl.r_41 (F := Ideal) c a9 h9 (R2 I.GN) = R2 (I.gn 3) :=
  (congrArg (k0_pay62 (F := Ideal)) (ld_S1x256_3 a9 h9 I.GN _)).trans (p62 (I.gn 3))
theorem r_42 : bodyRunA.sl.r_42 (F := Ideal) c a1 h1 (R2 I.DY) = R2 (I.Dh 3) := (ld_S256x256_3 a1 h1 I.DY _)
theorem r_45 : bodyRunA.sl.r_45 (F := Ideal) c a1 h1 a6 h6 a9 h9 (R2 I.DY) (R2 I.G) (R2 I.GN) = R2 (I.W 3) :=
  (congr (congr (congrArg (k0_pay69 (F := Ideal)) (r_40 I c a6 h6)) (r_41 I c a9 h9)) (r_42 I c a1 h1)).trans (p69 I)
theorem r_39 : bodyRunA.sl.r_39 (F := Ideal) c a2 h2 (R2 I.O) = R2 (I.Oh 3) :=
  (congrArg (k0_pay60 (F := Ideal)) (ld_S256x256_3 a2 h2 I.O _)).trans (p60 (I.Oh 3))
theorem r_46 : bodyRunA.sl.r_46 (F := Ideal) c a2 h2 (R2 I.O) = R2 (I.orr 3) :=
  (congr (congrArg (k0_pay70 (F := Ideal)) (r_39 I c a2 h2)) (r_43 I c a2 h2)).trans (p70 I)
theorem r_47 : bodyRunA.sl.r_47 (F := Ideal) c a1 h1 a2 h2 a6 h6 a9 h9 (R2 I.DY) (R2 I.O) (R2 I.G) (R2 I.GN) = R2 (I.wom 3) :=
  (congr (congr (congr (congrArg (k0_pay71 (F := Ideal)) (r_39 I c a2 h2)) (r_40 I c a6 h6)) (r_41 I c a9 h9)) (r_42 I c a1 h1)).trans (p71 I)
theorem r_48 : bodyRunA.sl.r_48 (F := Ideal) c a1 h1 a2 h2 a6 h6 a9 h9 (R2 I.DY) (R2 I.O) (R2 I.G) (R2 I.GN) = R2 (I.ddo 3) :=
  (congr (congr (congr (congrArg (k0_pay72 (F := Ideal)) (r_44 I c a2 h2)) (r_45 I c a1 h1 a6 h6 a9 h9)) (r_46 I c a2 h2)) (r_47 I c a1 h1 a2 h2 a6 h6 a9 h9)).trans (p72 I)
theorem r_66 : bodyRunA.sl.r_66 (F := Ideal) c a1 h1 a2 h2 a3 h3 a6 h6 a9 h9 (R2 I.DY) (R2 I.O) (R2 I.Q) (R2 I.G) (R2 I.GN) = R2 (I.own 1 3) :=
  (congr (congrArg (k0_pay91 (F := Ideal)) (r_16 I c a3 h3)) (r_48 I c a1 h1 a2 h2 a6 h6 a9 h9)).trans (p91 I)
theorem r_70 : bodyRunA.sl.r_70 (F := Ideal) c a1 h1 a2 h2 a3 h3 a6 h6 a9 h9 (R2 I.DY) (R2 I.O) (R2 I.Q) (R2 I.G) (R2 I.GN) = R2 (I.own 2 3) :=
  (congr (congrArg (k0_pay95 (F := Ideal)) (r_16 I c a3 h3)) (r_48 I c a1 h1 a2 h2 a6 h6 a9 h9)).trans (p95 I)
theorem r_74 : bodyRunA.sl.r_74 (F := Ideal) c a1 h1 a2 h2 a6 h6 a9 h9 (R2 I.DY) (R2 I.O) (R2 I.G) (R2 I.GN) = R2 (I.ddos 3 3) :=
  (congrArg (k0_pay99 (F := Ideal)) (r_48 I c a1 h1 a2 h2 a6 h6 a9 h9)).trans (p99 I)
theorem r_75 : bodyRunA.sl.r_75 (F := Ideal) c a3 h3 (R2 I.Q) = R2 (I.qss 3 3) :=
  (congrArg (k0_pay100 (F := Ideal)) (r_16 I c a3 h3)).trans (p100 I)
theorem v529 (hcar : ∀ h v k, I.CAR h v k = 0) : bodyRunA.sl.v529 (F := Ideal) c a22 = R3 (I.car 3) :=
  (View.readCov_fill _ _ _ [] _ (by decide)).trans ((congrArg (fun Z => View.ld Z _) p1).trans
    (funext fun x => congrArg (fun r : ℝ => (r : EReal)) (hcar 3 (x 1).val (x 2).val).symm))
theorem r_87 (hcar : ∀ h v k, I.CAR h v k = 0) : bodyRunA.sl.r_87 (F := Ideal) c a1 h1 a2 h2 a3 h3 a6 h6 a9 h9 a13 h13 a22 (R2 I.DY) (R2 I.O) (R2 I.Q) (R2 I.G) (R2 I.GN) (R2 I.C) = R2 (I.gts 1 3) :=
  (congr (congr (congr (congr (congr (congr (congrArg (k0_pay112 (F := Ideal)) (r_10 I c a13 h13)) (r_11 I c a13 h13)) (r_66 I c a1 h1 a2 h2 a3 h3 a6 h6 a9 h9)) (r_70 I c a1 h1 a2 h2 a3 h3 a6 h6 a9 h9)) (r_74 I c a1 h1 a2 h2 a6 h6 a9 h9)) (r_75 I c a3 h3)) (v529 I c a22 hcar)).trans (p112 I)
theorem r_100 (hcar : ∀ h v k, I.CAR h v k = 0) : bodyRunA.sl.r_100 (F := Ideal) c a1 h1 a2 h2 a3 h3 a6 h6 a9 h9 a13 h13 a22 (R2 I.DY) (R2 I.O) (R2 I.Q) (R2 I.G) (R2 I.GN) (R2 I.C) = R2 (I.gts 1 3) :=
  (congrArg (k0_pay129 (F := Ideal)) (r_87 I c a1 h1 a2 h2 a3 h3 a6 h6 a9 h9 a13 h13 a22 hcar)).trans (p129 (I.gts 1 3))
theorem r_17 : bodyRunA.sl.r_17 (F := Ideal) c a2 h2 (R2 I.O) = R2 (I.Oh 0) :=
  (congrArg (k0_pay29 (F := Ideal)) (ld_S256x256_0 a2 h2 I.O _)).trans (p29 (I.Oh 0))
theorem r_18 : bodyRunA.sl.r_18 (F := Ideal) c a9 h9 (R2 I.GN) = R2 (I.gn 0) :=
  (congrArg (k0_pay31 (F := Ideal)) (ld_S1x256_0 a9 h9 I.GN _)).trans (p31 (I.gn 0))
theorem r_19 : bodyRunA.sl.r_19 (F := Ideal) c a2 h2 (R2 I.O) = R2 (I.rr 0) :=
  (congrArg (k0_pay32 (F := Ideal)) (ld_S256x256_0 a2 h2 I.O _)).trans (p32 I)
theorem r_20 : bodyRunA.sl.r_20 (F := Ideal) c a1 h1 a6 h6 (R2 I.DY) (R2 I.G) = R2 (I.dgn 0) :=
  (congr (congrArg (k0_pay34 (F := Ideal)) (ld_S256x256_0 a6 h6 I.G _)) (ld_S256x256_0 a1 h1 I.DY _)).trans (p34 I)
theorem r_22 : bodyRunA.sl.r_22 (F := Ideal) c a1 h1 a2 h2 a6 h6 a9 h9 (R2 I.DY) (R2 I.O) (R2 I.G) (R2 I.GN) = R2 (I.ddo 0) :=
  (congr (congr (congr (congrArg (k0_pay37 (F := Ideal)) (r_17 I c a2 h2)) (r_18 I c a9 h9)) (r_19 I c a2 h2)) (r_20 I c a1 h1 a6 h6)).trans (p37 I)
theorem r_67 : bodyRunA.sl.r_67 (F := Ideal) c a1 h1 a2 h2 a3 h3 a6 h6 a9 h9 (R2 I.DY) (R2 I.O) (R2 I.Q) (R2 I.G) (R2 I.GN) = R2 (I.own 2 0) :=
  (congr (congrArg (k0_pay92 (F := Ideal)) (r_16 I c a3 h3)) (r_22 I c a1 h1 a2 h2 a6 h6 a9 h9)).trans (p92 I)
theorem r_71 : bodyRunA.sl.r_71 (F := Ideal) c a1 h1 a2 h2 a3 h3 a6 h6 a9 h9 (R2 I.DY) (R2 I.O) (R2 I.Q) (R2 I.G) (R2 I.GN) = R2 (I.own 3 0) :=
  (congr (congrArg (k0_pay96 (F := Ideal)) (r_16 I c a3 h3)) (r_22 I c a1 h1 a2 h2 a6 h6 a9 h9)).trans (p96 I)
theorem v523 (hcar : ∀ h v k, I.CAR h v k = 0) : bodyRunA.sl.v523 (F := Ideal) c a22 = R3 (I.car 0) :=
  (View.readCov_fill _ _ _ [] _ (by decide)).trans ((congrArg (fun Z => View.ld Z _) p1).trans
    (funext fun x => congrArg (fun r : ℝ => (r : EReal)) (hcar 0 (x 1).val (x 2).val).symm))
theorem r_80 (hcar : ∀ h v k, I.CAR h v k = 0) : bodyRunA.sl.r_80 (F := Ideal) c a1 h1 a2 h2 a3 h3 a6 h6 a9 h9 a13 h13 a22 (R2 I.DY) (R2 I.O) (R2 I.Q) (R2 I.G) (R2 I.GN) (R2 I.C) = R2 (I.gts 2 0) :=
  (congr (congr (congr (congrArg (k0_pay105 (F := Ideal)) (r_11 I c a13 h13)) (r_67 I c a1 h1 a2 h2 a3 h3 a6 h6 a9 h9)) (r_71 I c a1 h1 a2 h2 a3 h3 a6 h6 a9 h9)) (v523 I c a22 hcar)).trans (p105 I)
theorem r_101 (hcar : ∀ h v k, I.CAR h v k = 0) : bodyRunA.sl.r_101 (F := Ideal) c a1 h1 a2 h2 a3 h3 a6 h6 a9 h9 a13 h13 a22 (R2 I.DY) (R2 I.O) (R2 I.Q) (R2 I.G) (R2 I.GN) (R2 I.C) = R2 (I.gts 2 0) :=
  (congrArg (k0_pay130 (F := Ideal)) (r_80 I c a1 h1 a2 h2 a3 h3 a6 h6 a9 h9 a13 h13 a22 hcar)).trans (p130 (I.gts 2 0))
theorem r_27 : bodyRunA.sl.r_27 (F := Ideal) c a2 h2 (R2 I.O) = R2 (I.var 1) :=
  (congrArg (k0_pay41 (F := Ideal)) (ld_S256x256_1 a2 h2 I.O _)).trans (p41 I)
theorem r_28 : bodyRunA.sl.r_28 (F := Ideal) c a2 h2 (R2 I.O) = R2 (I.rr 1) :=
  (congrArg (k0_pay42 (F := Ideal)) (r_27 I c a2 h2)).trans (p42 I)
theorem r_24 : bodyRunA.sl.r_24 (F := Ideal) c a6 h6 (R2 I.G) = R2 (I.Gh 1) :=
  (congrArg (k0_pay39 (F := Ideal)) (ld_S256x256_1 a6 h6 I.G _)).trans (p39 (I.Gh 1))
theorem r_25 : bodyRunA.sl.r_25 (F := Ideal) c a9 h9 (R2 I.GN) = R2 (I.gn 1) :=
  (congrArg (k0_pay40 (F := Ideal)) (ld_S1x256_1 a9 h9 I.GN _)).trans (p40 (I.gn 1))
theorem r_26 : bodyRunA.sl.r_26 (F := Ideal) c a1 h1 (R2 I.DY) = R2 (I.Dh 1) := (ld_S256x256_1 a1 h1 I.DY _)
theorem r_29 : bodyRunA.sl.r_29 (F := Ideal) c a1 h1 a6 h6 a9 h9 (R2 I.DY) (R2 I.G) (R2 I.GN) = R2 (I.W 1) :=
  (congr (congr (congrArg (k0_pay47 (F := Ideal)) (r_24 I c a6 h6)) (r_25 I c a9 h9)) (r_26 I c a1 h1)).trans (p47 I)
theorem r_23 : bodyRunA.sl.r_23 (F := Ideal) c a2 h2 (R2 I.O) = R2 (I.Oh 1) :=
  (congrArg (k0_pay38 (F := Ideal)) (ld_S256x256_1 a2 h2 I.O _)).trans (p38 (I.Oh 1))
theorem r_30 : bodyRunA.sl.r_30 (F := Ideal) c a2 h2 (R2 I.O) = R2 (I.orr 1) :=
  (congr (congrArg (k0_pay48 (F := Ideal)) (r_23 I c a2 h2)) (r_27 I c a2 h2)).trans (p48 I)
theorem r_31 : bodyRunA.sl.r_31 (F := Ideal) c a1 h1 a2 h2 a6 h6 a9 h9 (R2 I.DY) (R2 I.O) (R2 I.G) (R2 I.GN) = R2 (I.wom 1) :=
  (congr (congr (congr (congrArg (k0_pay49 (F := Ideal)) (r_23 I c a2 h2)) (r_24 I c a6 h6)) (r_25 I c a9 h9)) (r_26 I c a1 h1)).trans (p49 I)
theorem r_32 : bodyRunA.sl.r_32 (F := Ideal) c a1 h1 a2 h2 a6 h6 a9 h9 (R2 I.DY) (R2 I.O) (R2 I.G) (R2 I.GN) = R2 (I.ddo 1) :=
  (congr (congr (congr (congrArg (k0_pay50 (F := Ideal)) (r_28 I c a2 h2)) (r_29 I c a1 h1 a6 h6 a9 h9)) (r_30 I c a2 h2)) (r_31 I c a1 h1 a2 h2 a6 h6 a9 h9)).trans (p50 I)
theorem r_68 : bodyRunA.sl.r_68 (F := Ideal) c a1 h1 a2 h2 a3 h3 a6 h6 a9 h9 (R2 I.DY) (R2 I.O) (R2 I.Q) (R2 I.G) (R2 I.GN) = R2 (I.own 2 1) :=
  (congr (congrArg (k0_pay93 (F := Ideal)) (r_16 I c a3 h3)) (r_32 I c a1 h1 a2 h2 a6 h6 a9 h9)).trans (p93 I)
theorem r_72 : bodyRunA.sl.r_72 (F := Ideal) c a1 h1 a2 h2 a3 h3 a6 h6 a9 h9 (R2 I.DY) (R2 I.O) (R2 I.Q) (R2 I.G) (R2 I.GN) = R2 (I.own 3 1) :=
  (congr (congrArg (k0_pay97 (F := Ideal)) (r_16 I c a3 h3)) (r_32 I c a1 h1 a2 h2 a6 h6 a9 h9)).trans (p97 I)
theorem v525 (hcar : ∀ h v k, I.CAR h v k = 0) : bodyRunA.sl.v525 (F := Ideal) c a22 = R3 (I.car 1) :=
  (View.readCov_fill _ _ _ [] _ (by decide)).trans ((congrArg (fun Z => View.ld Z _) p1).trans
    (funext fun x => congrArg (fun r : ℝ => (r : EReal)) (hcar 1 (x 1).val (x 2).val).symm))
theorem r_81 (hcar : ∀ h v k, I.CAR h v k = 0) : bodyRunA.sl.r_81 (F := Ideal) c a1 h1 a2 h2 a3 h3 a6 h6 a9 h9 a13 h13 a22 (R2 I.DY) (R2 I.O) (R2 I.Q) (R2 I.G) (R2 I.GN) (R2 I.C) = R2 (I.gts 2 1) :=
  (congr (congr (congr (congrArg (k0_pay106 (F := Ideal)) (r_11 I c a13 h13)) (r_68 I c a1 h1 a2 h2 a3 h3 a6 h6 a9 h9)) (r_72 I c a1 h1 a2 h2 a3 h3 a6 h6 a9 h9)) (v525 I c a22 hcar)).trans (p106 I)
theorem r_102 (hcar : ∀ h v k, I.CAR h v k = 0) : bodyRunA.sl.r_102 (F := Ideal) c a1 h1 a2 h2 a3 h3 a6 h6 a9 h9 a13 h13 a22 (R2 I.DY) (R2 I.O) (R2 I.Q) (R2 I.G) (R2 I.GN) (R2 I.C) = R2 (I.gts 2 1) :=
  (congrArg (k0_pay131 (F := Ideal)) (r_81 I c a1 h1 a2 h2 a3 h3 a6 h6 a9 h9 a13 h13 a22 hcar)).trans (p131 (I.gts 2 1))
theorem r_33 : bodyRunA.sl.r_33 (F := Ideal) c a2 h2 (R2 I.O) = R2 (I.Oh 2) :=
  (congrArg (k0_pay51 (F := Ideal)) (ld_S256x256_2 a2 h2 I.O _)).trans (p51 (I.Oh 2))
theorem r_34 : bodyRunA.sl.r_34 (F := Ideal) c a9 h9 (R2 I.GN) = R2 (I.gn 2) :=
  (congrArg (k0_pay53 (F := Ideal)) (ld_S1x256_2 a9 h9 I.GN _)).trans (p53 (I.gn 2))
theorem r_35 : bodyRunA.sl.r_35 (F := Ideal) c a2 h2 (R2 I.O) = R2 (I.rr 2) :=
  (congrArg (k0_pay54 (F := Ideal)) (ld_S256x256_2 a2 h2 I.O _)).trans (p54 I)
theorem r_36 : bodyRunA.sl.r_36 (F := Ideal) c a1 h1 a6 h6 (R2 I.DY) (R2 I.G) = R2 (I.dgn 2) :=
  (congr (congrArg (k0_pay56 (F := Ideal)) (ld_S256x256_2 a6 h6 I.G _)) (ld_S256x256_2 a1 h1 I.DY _)).trans (p56 I)
theorem r_38 : bodyRunA.sl.r_38 (F := Ideal) c a1 h1 a2 h2 a6 h6 a9 h9 (R2 I.DY) (R2 I.O) (R2 I.G) (R2 I.GN) = R2 (I.ddo 2) :=
  (congr (congr (congr (congrArg (k0_pay59 (F := Ideal)) (r_33 I c a2 h2)) (r_34 I c a9 h9)) (r_35 I c a2 h2)) (r_36 I c a1 h1 a6 h6)).trans (p59 I)
theorem r_69 : bodyRunA.sl.r_69 (F := Ideal) c a1 h1 a2 h2 a3 h3 a6 h6 a9 h9 (R2 I.DY) (R2 I.O) (R2 I.Q) (R2 I.G) (R2 I.GN) = R2 (I.own 2 2) :=
  (congr (congrArg (k0_pay94 (F := Ideal)) (r_16 I c a3 h3)) (r_38 I c a1 h1 a2 h2 a6 h6 a9 h9)).trans (p94 I)
theorem r_73 : bodyRunA.sl.r_73 (F := Ideal) c a1 h1 a2 h2 a3 h3 a6 h6 a9 h9 (R2 I.DY) (R2 I.O) (R2 I.Q) (R2 I.G) (R2 I.GN) = R2 (I.own 3 2) :=
  (congr (congrArg (k0_pay98 (F := Ideal)) (r_16 I c a3 h3)) (r_38 I c a1 h1 a2 h2 a6 h6 a9 h9)).trans (p98 I)
theorem v527 (hcar : ∀ h v k, I.CAR h v k = 0) : bodyRunA.sl.v527 (F := Ideal) c a22 = R3 (I.car 2) :=
  (View.readCov_fill _ _ _ [] _ (by decide)).trans ((congrArg (fun Z => View.ld Z _) p1).trans
    (funext fun x => congrArg (fun r : ℝ => (r : EReal)) (hcar 2 (x 1).val (x 2).val).symm))
theorem r_82 (hcar : ∀ h v k, I.CAR h v k = 0) : bodyRunA.sl.r_82 (F := Ideal) c a1 h1 a2 h2 a3 h3 a6 h6 a9 h9 a13 h13 a22 (R2 I.DY) (R2 I.O) (R2 I.Q) (R2 I.G) (R2 I.GN) (R2 I.C) = R2 (I.gts 2 2) :=
  (congr (congr (congr (congrArg (k0_pay107 (F := Ideal)) (r_11 I c a13 h13)) (r_69 I c a1 h1 a2 h2 a3 h3 a6 h6 a9 h9)) (r_73 I c a1 h1 a2 h2 a3 h3 a6 h6 a9 h9)) (v527 I c a22 hcar)).trans (p107 I)
theorem r_103 (hcar : ∀ h v k, I.CAR h v k = 0) : bodyRunA.sl.r_103 (F := Ideal) c a1 h1 a2 h2 a3 h3 a6 h6 a9 h9 a13 h13 a22 (R2 I.DY) (R2 I.O) (R2 I.Q) (R2 I.G) (R2 I.GN) (R2 I.C) = R2 (I.gts 2 2) :=
  (congrArg (k0_pay132 (F := Ideal)) (r_82 I c a1 h1 a2 h2 a3 h3 a6 h6 a9 h9 a13 h13 a22 hcar)).trans (p132 (I.gts 2 2))
theorem r_83 (hcar : ∀ h v k, I.CAR h v k = 0) : bodyRunA.sl.r_83 (F := Ideal) c a1 h1 a2 h2 a3 h3 a6 h6 a9 h9 a13 h13 a22 (R2 I.DY) (R2 I.O) (R2 I.Q) (R2 I.G) (R2 I.GN) (R2 I.C) = R2 (I.gts 2 3) :=
  (congr (congr (congr (congr (congrArg (k0_pay108 (F := Ideal)) (r_11 I c a13 h13)) (r_70 I c a1 h1 a2 h2 a3 h3 a6 h6 a9 h9)) (r_74 I c a1 h1 a2 h2 a6 h6 a9 h9)) (r_75 I c a3 h3)) (v529 I c a22 hcar)).trans (p108 I)
theorem r_104 (hcar : ∀ h v k, I.CAR h v k = 0) : bodyRunA.sl.r_104 (F := Ideal) c a1 h1 a2 h2 a3 h3 a6 h6 a9 h9 a13 h13 a22 (R2 I.DY) (R2 I.O) (R2 I.Q) (R2 I.G) (R2 I.GN) (R2 I.C) = R2 (I.gts 2 3) :=
  (congrArg (k0_pay133 (F := Ideal)) (r_83 I c a1 h1 a2 h2 a3 h3 a6 h6 a9 h9 a13 h13 a22 hcar)).trans (p133 (I.gts 2 3))
theorem r_76 (hcar : ∀ h v k, I.CAR h v k = 0) : bodyRunA.sl.r_76 (F := Ideal) c a1 h1 a2 h2 a3 h3 a6 h6 a9 h9 a22 (R2 I.DY) (R2 I.O) (R2 I.Q) (R2 I.G) (R2 I.GN) = R2 (I.gts 3 0) :=
  (congr (congrArg (k0_pay101 (F := Ideal)) (r_71 I c a1 h1 a2 h2 a3 h3 a6 h6 a9 h9)) (v523 I c a22 hcar)).trans (p101 I)
theorem r_105 (hcar : ∀ h v k, I.CAR h v k = 0) : bodyRunA.sl.r_105 (F := Ideal) c a1 h1 a2 h2 a3 h3 a6 h6 a9 h9 a22 (R2 I.DY) (R2 I.O) (R2 I.Q) (R2 I.G) (R2 I.GN) = R2 (I.gts 3 0) :=
  (congrArg (k0_pay134 (F := Ideal)) (r_76 I c a1 h1 a2 h2 a3 h3 a6 h6 a9 h9 a22 hcar)).trans (p134 (I.gts 3 0))
theorem r_77 (hcar : ∀ h v k, I.CAR h v k = 0) : bodyRunA.sl.r_77 (F := Ideal) c a1 h1 a2 h2 a3 h3 a6 h6 a9 h9 a22 (R2 I.DY) (R2 I.O) (R2 I.Q) (R2 I.G) (R2 I.GN) = R2 (I.gts 3 1) :=
  (congr (congrArg (k0_pay102 (F := Ideal)) (r_72 I c a1 h1 a2 h2 a3 h3 a6 h6 a9 h9)) (v525 I c a22 hcar)).trans (p102 I)
theorem r_106 (hcar : ∀ h v k, I.CAR h v k = 0) : bodyRunA.sl.r_106 (F := Ideal) c a1 h1 a2 h2 a3 h3 a6 h6 a9 h9 a22 (R2 I.DY) (R2 I.O) (R2 I.Q) (R2 I.G) (R2 I.GN) = R2 (I.gts 3 1) :=
  (congrArg (k0_pay135 (F := Ideal)) (r_77 I c a1 h1 a2 h2 a3 h3 a6 h6 a9 h9 a22 hcar)).trans (p135 (I.gts 3 1))
theorem r_78 (hcar : ∀ h v k, I.CAR h v k = 0) : bodyRunA.sl.r_78 (F := Ideal) c a1 h1 a2 h2 a3 h3 a6 h6 a9 h9 a22 (R2 I.DY) (R2 I.O) (R2 I.Q) (R2 I.G) (R2 I.GN) = R2 (I.gts 3 2) :=
  (congr (congrArg (k0_pay103 (F := Ideal)) (r_73 I c a1 h1 a2 h2 a3 h3 a6 h6 a9 h9)) (v527 I c a22 hcar)).trans (p103 I)
theorem r_107 (hcar : ∀ h v k, I.CAR h v k = 0) : bodyRunA.sl.r_107 (F := Ideal) c a1 h1 a2 h2 a3 h3 a6 h6 a9 h9 a22 (R2 I.DY) (R2 I.O) (R2 I.Q) (R2 I.G) (R2 I.GN) = R2 (I.gts 3 2) :=
  (congrArg (k0_pay136 (F := Ideal)) (r_78 I c a1 h1 a2 h2 a3 h3 a6 h6 a9 h9 a22 hcar)).trans (p136 (I.gts 3 2))
theorem r_79 (hcar : ∀ h v k, I.CAR h v k = 0) : bodyRunA.sl.r_79 (F := Ideal) c a1 h1 a2 h2 a3 h3 a6 h6 a9 h9 a22 (R2 I.DY) (R2 I.O) (R2 I.Q) (R2 I.G) (R2 I.GN) = R2 (I.gts 3 3) :=
  (congr (congr (congrArg (k0_pay104 (F := Ideal)) (r_74 I c a1 h1 a2 h2 a6 h6 a9 h9)) (r_75 I c a3 h3)) (v529 I c a22 hcar)).trans (p104 I)
theorem r_108 (hcar : ∀ h v k, I.CAR h v k = 0) : bodyRunA.sl.r_108 (F := Ideal) c a1 h1 a2 h2 a3 h3 a6 h6 a9 h9 a22 (R2 I.DY) (R2 I.O) (R2 I.Q) (R2 I.G) (R2 I.GN) = R2 (I.gts 3 3) :=
  (congrArg (k0_pay137 (F := Ideal)) (r_79 I c a1 h1 a2 h2 a3 h3 a6 h6 a9 h9 a22 hcar)).trans (p137 (I.gts 3 3))
theorem r_14 : bodyRunA.sl.r_14 (F := Ideal) c a5 h5 (R2 I.V) = R2 I.V :=
  (congrArg (k0_pay27 (F := Ideal)) (ld_S256x1024 a5 h5 I.V _)).trans (p27 I.V)
theorem r_57 : bodyRunA.sl.r_57 (F := Ideal) c a1 h1 a2 h2 a6 h6 a9 h9 (R2 I.DY) (R2 I.O) (R2 I.G) (R2 I.GN) = R2 (I.ddos 0 0) :=
  (congrArg (k0_pay82 (F := Ideal)) (r_22 I c a1 h1 a2 h2 a6 h6 a9 h9)).trans (p82 I)
theorem r_58 : bodyRunA.sl.r_58 (F := Ideal) c a3 h3 (R2 I.Q) = R2 (I.qss 0 0) :=
  (congrArg (k0_pay83 (F := Ideal)) (r_16 I c a3 h3)).trans (p83 I)
theorem r_59 : bodyRunA.sl.r_59 (F := Ideal) c a1 h1 a2 h2 a3 h3 a6 h6 a9 h9 (R2 I.DY) (R2 I.O) (R2 I.Q) (R2 I.G) (R2 I.GN) = R2 (I.own 0 0) :=
  (congr (congrArg (k0_pay84 (F := Ideal)) (r_57 I c a1 h1 a2 h2 a6 h6 a9 h9)) (r_58 I c a3 h3)).trans (p84 I)
theorem r_63 : bodyRunA.sl.r_63 (F := Ideal) c a1 h1 a2 h2 a3 h3 a6 h6 a9 h9 (R2 I.DY) (R2 I.O) (R2 I.Q) (R2 I.G) (R2 I.GN) = R2 (I.own 1 0) :=
  (congr (congrArg (k0_pay88 (F := Ideal)) (r_16 I c a3 h3)) (r_22 I c a1 h1 a2 h2 a6 h6 a9 h9)).trans (p88 I)
theorem r_84 (hcar : ∀ h v k, I.CAR h v k = 0) : bodyRunA.sl.r_84 (F := Ideal) c a1 h1 a2 h2 a3 h3 a6 h6 a9 h9 a13 h13 a22 (R2 I.DY) (R2 I.O) (R2 I.Q) (R2 I.G) (R2 I.GN) (R2 I.C) = R2 (I.gts 1 0) :=
  (congr (congr (congr (congr (congr (congrArg (k0_pay109 (F := Ideal)) (r_10 I c a13 h13)) (r_11 I c a13 h13)) (r_63 I c a1 h1 a2 h2 a3 h3 a6 h6 a9 h9)) (r_67 I c a1 h1 a2 h2 a3 h3 a6 h6 a9 h9)) (r_71 I c a1 h1 a2 h2 a3 h3 a6 h6 a9 h9)) (v523 I c a22 hcar)).trans (p109 I)
theorem r_6 : bodyRunA.sl.r_6 (F := Ideal) c a13 h13 (R2 I.C) = R1 (I.cend 1 0) :=
  (congrArg (k0_pay16 (F := Ideal)) (ld_S256x512 a13 h13 I.C _)).trans (p16 I)
theorem r_9 : bodyRunA.sl.r_9 (F := Ideal) c a13 h13 (R2 I.C) = R2 (I.A 1) :=
  (congrArg (k0_pay22 (F := Ideal)) (r_6 I c a13 h13)).trans (p22 I)
theorem r_88 : bodyRunA.sl.r_88 (F := Ideal) c a13 h13 (R2 I.C) = R2 (I.Ab 1 0) :=
  (congrArg (k0_pay113 (F := Ideal)) (r_9 I c a13 h13)).trans (p113 I)
theorem r_93 (hcar : ∀ h v k, I.CAR h v k = 0) : bodyRunA.sl.r_93 (F := Ideal) c a1 h1 a2 h2 a3 h3 a6 h6 a9 h9 a13 h13 a22 (R2 I.DY) (R2 I.O) (R2 I.Q) (R2 I.G) (R2 I.GN) (R2 I.C) = R2 (I.gts 0 0) :=
  (congr (congr (congrArg (k0_pay122 (F := Ideal)) (r_59 I c a1 h1 a2 h2 a3 h3 a6 h6 a9 h9)) (r_84 I c a1 h1 a2 h2 a3 h3 a6 h6 a9 h9 a13 h13 a22 hcar)) (r_88 I c a13 h13)).trans (p122 I)
theorem r_60 : bodyRunA.sl.r_60 (F := Ideal) c a1 h1 a2 h2 a3 h3 a6 h6 a9 h9 (R2 I.DY) (R2 I.O) (R2 I.Q) (R2 I.G) (R2 I.GN) = R2 (I.own 0 1) :=
  (congr (congrArg (k0_pay85 (F := Ideal)) (r_16 I c a3 h3)) (r_32 I c a1 h1 a2 h2 a6 h6 a9 h9)).trans (p85 I)
theorem r_64 : bodyRunA.sl.r_64 (F := Ideal) c a1 h1 a2 h2 a3 h3 a6 h6 a9 h9 (R2 I.DY) (R2 I.O) (R2 I.Q) (R2 I.G) (R2 I.GN) = R2 (I.own 1 1) :=
  (congr (congrArg (k0_pay89 (F := Ideal)) (r_16 I c a3 h3)) (r_32 I c a1 h1 a2 h2 a6 h6 a9 h9)).trans (p89 I)
theorem r_85 (hcar : ∀ h v k, I.CAR h v k = 0) : bodyRunA.sl.r_85 (F := Ideal) c a1 h1 a2 h2 a3 h3 a6 h6 a9 h9 a13 h13 a22 (R2 I.DY) (R2 I.O) (R2 I.Q) (R2 I.G) (R2 I.GN) (R2 I.C) = R2 (I.gts 1 1) :=
  (congr (congr (congr (congr (congr (congrArg (k0_pay110 (F := Ideal)) (r_10 I c a13 h13)) (r_11 I c a13 h13)) (r_64 I c a1 h1 a2 h2 a3 h3 a6 h6 a9 h9)) (r_68 I c a1 h1 a2 h2 a3 h3 a6 h6 a9 h9)) (r_72 I c a1 h1 a2 h2 a3 h3 a6 h6 a9 h9)) (v525 I c a22 hcar)).trans (p110 I)
theorem r_94 (hcar : ∀ h v k, I.CAR h v k = 0) : bodyRunA.sl.r_94 (F := Ideal) c a1 h1 a2 h2 a3 h3 a6 h6 a9 h9 a13 h13 a22 (R2 I.DY) (R2 I.O) (R2 I.Q) (R2 I.G) (R2 I.GN) (R2 I.C) = R2 (I.gts 0 1) :=
  (congr (congr (congrArg (k0_pay123 (F := Ideal)) (r_9 I c a13 h13)) (r_60 I c a1 h1 a2 h2 a3 h3 a6 h6 a9 h9)) (r_85 I c a1 h1 a2 h2 a3 h3 a6 h6 a9 h9 a13 h13 a22 hcar)).trans (p123 I)
theorem r_61 : bodyRunA.sl.r_61 (F := Ideal) c a1 h1 a2 h2 a3 h3 a6 h6 a9 h9 (R2 I.DY) (R2 I.O) (R2 I.Q) (R2 I.G) (R2 I.GN) = R2 (I.own 0 2) :=
  (congr (congrArg (k0_pay86 (F := Ideal)) (r_16 I c a3 h3)) (r_38 I c a1 h1 a2 h2 a6 h6 a9 h9)).trans (p86 I)
theorem r_65 : bodyRunA.sl.r_65 (F := Ideal) c a1 h1 a2 h2 a3 h3 a6 h6 a9 h9 (R2 I.DY) (R2 I.O) (R2 I.Q) (R2 I.G) (R2 I.GN) = R2 (I.own 1 2) :=
  (congr (congrArg (k0_pay90 (F := Ideal)) (r_16 I c a3 h3)) (r_38 I c a1 h1 a2 h2 a6 h6 a9 h9)).trans (p90 I)
theorem r_86 (hcar : ∀ h v k, I.CAR h v k = 0) : bodyRunA.sl.r_86 (F := Ideal) c a1 h1 a2 h2 a3 h3 a6 h6 a9 h9 a13 h13 a22 (R2 I.DY) (R2 I.O) (R2 I.Q) (R2 I.G) (R2 I.GN) (R2 I.C) = R2 (I.gts 1 2) :=
  (congr (congr (congr (congr (congr (congrArg (k0_pay111 (F := Ideal)) (r_10 I c a13 h13)) (r_11 I c a13 h13)) (r_65 I c a1 h1 a2 h2 a3 h3 a6 h6 a9 h9)) (r_69 I c a1 h1 a2 h2 a3 h3 a6 h6 a9 h9)) (r_73 I c a1 h1 a2 h2 a3 h3 a6 h6 a9 h9)) (v527 I c a22 hcar)).trans (p111 I)
theorem r_95 (hcar : ∀ h v k, I.CAR h v k = 0) : bodyRunA.sl.r_95 (F := Ideal) c a1 h1 a2 h2 a3 h3 a6 h6 a9 h9 a13 h13 a22 (R2 I.DY) (R2 I.O) (R2 I.Q) (R2 I.G) (R2 I.GN) (R2 I.C) = R2 (I.gts 0 2) :=
  (congr (congr (congrArg (k0_pay124 (F := Ideal)) (r_9 I c a13 h13)) (r_61 I c a1 h1 a2 h2 a3 h3 a6 h6 a9 h9)) (r_86 I c a1 h1 a2 h2 a3 h3 a6 h6 a9 h9 a13 h13 a22 hcar)).trans (p124 I)
theorem r_62 : bodyRunA.sl.r_62 (F := Ideal) c a1 h1 a2 h2 a3 h3 a6 h6 a9 h9 (R2 I.DY) (R2 I.O) (R2 I.Q) (R2 I.G) (R2 I.GN) = R2 (I.own 0 3) :=
  (congr (congrArg (k0_pay87 (F := Ideal)) (r_16 I c a3 h3)) (r_48 I c a1 h1 a2 h2 a6 h6 a9 h9)).trans (p87 I)
theorem r_96 (hcar : ∀ h v k, I.CAR h v k = 0) : bodyRunA.sl.r_96 (F := Ideal) c a1 h1 a2 h2 a3 h3 a6 h6 a9 h9 a13 h13 a22 (R2 I.DY) (R2 I.O) (R2 I.Q) (R2 I.G) (R2 I.GN) (R2 I.C) = R2 (I.gts 0 3) :=
  (congr (congr (congrArg (k0_pay125 (F := Ideal)) (r_9 I c a13 h13)) (r_62 I c a1 h1 a2 h2 a3 h3 a6 h6 a9 h9)) (r_87 I c a1 h1 a2 h2 a3 h3 a6 h6 a9 h9 a13 h13 a22 hcar)).trans (p125 I)
theorem r_109 (hcar : ∀ h v k, I.CAR h v k = 0) : bodyRunA.sl.r_109 (F := Ideal) c a1 h1 a2 h2 a3 h3 a5 h5 a6 h6 a9 h9 a13 h13 a22 (R2 I.DY) (R2 I.O) (R2 I.Q) (R2 I.V) (R2 I.G) (R2 I.GN) (R2 I.C) = R2 (I.dkdc 0) :=
  (congr (congr (congr (congr (congrArg (k0_pay138 (F := Ideal)) (r_14 I c a5 h5)) (r_93 I c a1 h1 a2 h2 a3 h3 a6 h6 a9 h9 a13 h13 a22 hcar)) (r_94 I c a1 h1 a2 h2 a3 h3 a6 h6 a9 h9 a13 h13 a22 hcar)) (r_95 I c a1 h1 a2 h2 a3 h3 a6 h6 a9 h9 a13 h13 a22 hcar)) (r_96 I c a1 h1 a2 h2 a3 h3 a6 h6 a9 h9 a13 h13 a22 hcar)).trans (p138 I)
theorem r_97 (hcar : ∀ h v k, I.CAR h v k = 0) : bodyRunA.sl.r_97 (F := Ideal) c a1 h1 a2 h2 a3 h3 a6 h6 a9 h9 a13 h13 a22 (R2 I.DY) (R2 I.O) (R2 I.Q) (R2 I.G) (R2 I.GN) (R2 I.C) = R2 (I.gts 1 0) :=
  (congrArg (k0_pay126 (F := Ideal)) (r_84 I c a1 h1 a2 h2 a3 h3 a6 h6 a9 h9 a13 h13 a22 hcar)).trans (p126 (I.gts 1 0))
theorem r_98 (hcar : ∀ h v k, I.CAR h v k = 0) : bodyRunA.sl.r_98 (F := Ideal) c a1 h1 a2 h2 a3 h3 a6 h6 a9 h9 a13 h13 a22 (R2 I.DY) (R2 I.O) (R2 I.Q) (R2 I.G) (R2 I.GN) (R2 I.C) = R2 (I.gts 1 1) :=
  (congrArg (k0_pay127 (F := Ideal)) (r_85 I c a1 h1 a2 h2 a3 h3 a6 h6 a9 h9 a13 h13 a22 hcar)).trans (p127 (I.gts 1 1))
theorem r_110 (hcar : ∀ h v k, I.CAR h v k = 0) : bodyRunA.sl.r_110 (F := Ideal) c a1 h1 a2 h2 a3 h3 a5 h5 a6 h6 a9 h9 a13 h13 a22 (R2 I.DY) (R2 I.O) (R2 I.Q) (R2 I.V) (R2 I.G) (R2 I.GN) (R2 I.C) = R2 (I.dkdc 1) :=
  (congr (congr (congr (congr (congrArg (k0_pay139 (F := Ideal)) (r_14 I c a5 h5)) (r_86 I c a1 h1 a2 h2 a3 h3 a6 h6 a9 h9 a13 h13 a22 hcar)) (r_87 I c a1 h1 a2 h2 a3 h3 a6 h6 a9 h9 a13 h13 a22 hcar)) (r_97 I c a1 h1 a2 h2 a3 h3 a6 h6 a9 h9 a13 h13 a22 hcar)) (r_98 I c a1 h1 a2 h2 a3 h3 a6 h6 a9 h9 a13 h13 a22 hcar)).trans (p139 I)
theorem r_111 (hcar : ∀ h v k, I.CAR h v k = 0) : bodyRunA.sl.r_111 (F := Ideal) c a1 h1 a2 h2 a3 h3 a5 h5 a6 h6 a9 h9 a13 h13 a22 (R2 I.DY) (R2 I.O) (R2 I.Q) (R2 I.V) (R2 I.G) (R2 I.GN) (R2 I.C) = R2 (I.dkdc 2) :=
  (congr (congr (congr (congr (congrArg (k0_pay140 (F := Ideal)) (r_14 I c a5 h5)) (r_80 I c a1 h1 a2 h2 a3 h3 a6 h6 a9 h9 a13 h13 a22 hcar)) (r_81 I c a1 h1 a2 h2 a3 h3 a6 h6 a9 h9 a13 h13 a22 hcar)) (r_82 I c a1 h1 a2 h2 a3 h3 a6 h6 a9 h9 a13 h13 a22 hcar)) (r_83 I c a1 h1 a2 h2 a3 h3 a6 h6 a9 h9 a13 h13 a22 hcar)).trans (p140 I)
theorem r_112 (hcar : ∀ h v k, I.CAR h v k = 0) : bodyRunA.sl.r_112 (F := Ideal) c a1 h1 a2 h2 a3 h3 a5 h5 a6 h6 a9 h9 a22 (R2 I.DY) (R2 I.O) (R2 I.Q) (R2 I.V) (R2 I.G) (R2 I.GN) = R2 (I.dkdp 3 0) :=
  (congr (congrArg (k0_pay141 (F := Ideal)) (r_14 I c a5 h5)) (r_76 I c a1 h1 a2 h2 a3 h3 a6 h6 a9 h9 a22 hcar)).trans (p141 I)
theorem r_113 (hcar : ∀ h v k, I.CAR h v k = 0) : bodyRunA.sl.r_113 (F := Ideal) c a1 h1 a2 h2 a3 h3 a5 h5 a6 h6 a9 h9 a22 (R2 I.DY) (R2 I.O) (R2 I.Q) (R2 I.V) (R2 I.G) (R2 I.GN) = R2 (I.dkdp 3 1) :=
  (congr (congrArg (k0_pay142 (F := Ideal)) (r_14 I c a5 h5)) (r_77 I c a1 h1 a2 h2 a3 h3 a6 h6 a9 h9 a22 hcar)).trans (p142 I)
theorem r_114 (hcar : ∀ h v k, I.CAR h v k = 0) : bodyRunA.sl.r_114 (F := Ideal) c a1 h1 a2 h2 a3 h3 a5 h5 a6 h6 a9 h9 a22 (R2 I.DY) (R2 I.O) (R2 I.Q) (R2 I.V) (R2 I.G) (R2 I.GN) = R2 (I.dkdp 3 2) :=
  (congr (congrArg (k0_pay143 (F := Ideal)) (r_14 I c a5 h5)) (r_78 I c a1 h1 a2 h2 a3 h3 a6 h6 a9 h9 a22 hcar)).trans (p143 I)
theorem r_115 : bodyRunA.sl.r_115 (F := Ideal) c a5 h5 (R2 I.V) = R2 (I.vs 3 3) :=
  (congrArg (k0_pay144 (F := Ideal)) (r_14 I c a5 h5)).trans (p144 I)
theorem r_116 (hcar : ∀ h v k, I.CAR h v k = 0) : bodyRunA.sl.r_116 (F := Ideal) c a1 h1 a2 h2 a3 h3 a5 h5 a6 h6 a9 h9 a13 h13 a22 (R2 I.DY) (R2 I.O) (R2 I.Q) (R2 I.V) (R2 I.G) (R2 I.GN) (R2 I.C) = R2 I.dkd :=
  (congr (congr (congr (congr (congr (congr (congr (congr (congrArg (k0_pay145 (F := Ideal)) (r_108 I c a1 h1 a2 h2 a3 h3 a6 h6 a9 h9 a22 hcar)) (r_109 I c a1 h1 a2 h2 a3 h3 a5 h5 a6 h6 a9 h9 a13 h13 a22 hcar)) (r_110 I c a1 h1 a2 h2 a3 h3 a5 h5 a6 h6 a9 h9 a13 h13 a22 hcar)) (r_111 I c a1 h1 a2 h2 a3 h3 a5 h5 a6 h6 a9 h9 a13 h13 a22 hcar)) (r_112 I c a1 h1 a2 h2 a3 h3 a5 h5 a6 h6 a9 h9 a22 hcar)) (r_113 I c a1 h1 a2 h2 a3 h3 a5 h5 a6 h6 a9 h9 a22 hcar)) (r_114 I c a1 h1 a2 h2 a3 h3 a5 h5 a6 h6 a9 h9 a22 hcar)) (r_115 I c a5 h5)) rfl).trans (p145 I)
theorem r_5 : bodyRunA.sl.r_5 (F := Ideal) c a13 h13 (R2 I.C) = R2 (I.cend 0) :=
  (congrArg (k0_pay15 (F := Ideal)) (ld_S256x512 a13 h13 I.C _)).trans (p15 I)
theorem r_13 : bodyRunA.sl.r_13 (F := Ideal) c a4 h4 a13 h13 (R2 I.K) (R2 I.C) = R2 I.kd :=
  (congr (congr (congr (congr (congrArg (k0_pay26 (F := Ideal)) (r_4 I c a13 h13)) rfl) (r_5 I c a13 h13)) (r_6 I c a13 h13)) (ld_S256x512 a4 h4 I.K _)).trans (p26 I)
theorem r_117 (hcar : ∀ h v k, I.CAR h v k = 0) : bodyRunA.sl.r_117 (F := Ideal) c a1 h1 a2 h2 a3 h3 a4 h4 a6 h6 a9 h9 a13 h13 a22 (R2 I.DY) (R2 I.O) (R2 I.Q) (R2 I.K) (R2 I.G) (R2 I.GN) (R2 I.C) = R2 (I.dvp 0 0) :=
  (congr (congrArg (k0_pay146 (F := Ideal)) (r_13 I c a4 h4 a13 h13)) (r_93 I c a1 h1 a2 h2 a3 h3 a6 h6 a9 h9 a13 h13 a22 hcar)).trans (p146 I)
theorem r_118 (hcar : ∀ h v k, I.CAR h v k = 0) : bodyRunA.sl.r_118 (F := Ideal) c a1 h1 a2 h2 a3 h3 a4 h4 a6 h6 a9 h9 a13 h13 a22 (R2 I.DY) (R2 I.O) (R2 I.Q) (R2 I.K) (R2 I.G) (R2 I.GN) (R2 I.C) = R2 (I.dvp 0 1) :=
  (congr (congrArg (k0_pay147 (F := Ideal)) (r_13 I c a4 h4 a13 h13)) (r_94 I c a1 h1 a2 h2 a3 h3 a6 h6 a9 h9 a13 h13 a22 hcar)).trans (p147 I)
theorem r_119 (hcar : ∀ h v k, I.CAR h v k = 0) : bodyRunA.sl.r_119 (F := Ideal) c a1 h1 a2 h2 a3 h3 a4 h4 a6 h6 a9 h9 a13 h13 a22 (R2 I.DY) (R2 I.O) (R2 I.Q) (R2 I.K) (R2 I.G) (R2 I.GN) (R2 I.C) = R2 (I.dvp 0 2) :=
  (congr (congrArg (k0_pay148 (F := Ideal)) (r_13 I c a4 h4 a13 h13)) (r_95 I c a1 h1 a2 h2 a3 h3 a6 h6 a9 h9 a13 h13 a22 hcar)).trans (p148 I)
theorem r_12 : bodyRunA.sl.r_12 (F := Ideal) c a4 h4 (R2 I.K) = R2 I.K :=
  (congrArg (k0_pay25 (F := Ideal)) (ld_S256x512 a4 h4 I.K _)).trans (p25 I.K)
theorem r_120 (hcar : ∀ h v k, I.CAR h v k = 0) : bodyRunA.sl.r_120 (F := Ideal) c a1 h1 a2 h2 a3 h3 a4 h4 a6 h6 a9 h9 a13 h13 a22 (R2 I.DY) (R2 I.O) (R2 I.Q) (R2 I.K) (R2 I.G) (R2 I.GN) (R2 I.C) = R2 (I.dvp 0 3) :=
  (congr (congrArg (k0_pay149 (F := Ideal)) (r_13 I c a4 h4 a13 h13)) (r_96 I c a1 h1 a2 h2 a3 h3 a6 h6 a9 h9 a13 h13 a22 hcar)).trans (p149 I)
theorem r_121 (hcar : ∀ h v k, I.CAR h v k = 0) : bodyRunA.sl.r_121 (F := Ideal) c a1 h1 a2 h2 a3 h3 a4 h4 a6 h6 a9 h9 a13 h13 a22 (R2 I.DY) (R2 I.O) (R2 I.Q) (R2 I.K) (R2 I.G) (R2 I.GN) (R2 I.C) = R2 (I.dvp 1 0) :=
  (congr (congrArg (k0_pay150 (F := Ideal)) (r_13 I c a4 h4 a13 h13)) (r_97 I c a1 h1 a2 h2 a3 h3 a6 h6 a9 h9 a13 h13 a22 hcar)).trans (p150 I)
theorem r_122 (hcar : ∀ h v k, I.CAR h v k = 0) : bodyRunA.sl.r_122 (F := Ideal) c a1 h1 a2 h2 a3 h3 a4 h4 a6 h6 a9 h9 a13 h13 a22 (R2 I.DY) (R2 I.O) (R2 I.Q) (R2 I.K) (R2 I.G) (R2 I.GN) (R2 I.C) = R2 (I.dvp 1 1) :=
  (congr (congrArg (k0_pay151 (F := Ideal)) (r_13 I c a4 h4 a13 h13)) (r_98 I c a1 h1 a2 h2 a3 h3 a6 h6 a9 h9 a13 h13 a22 hcar)).trans (p151 I)
theorem r_99 (hcar : ∀ h v k, I.CAR h v k = 0) : bodyRunA.sl.r_99 (F := Ideal) c a1 h1 a2 h2 a3 h3 a6 h6 a9 h9 a13 h13 a22 (R2 I.DY) (R2 I.O) (R2 I.Q) (R2 I.G) (R2 I.GN) (R2 I.C) = R2 (I.gts 1 2) :=
  (congrArg (k0_pay128 (F := Ideal)) (r_86 I c a1 h1 a2 h2 a3 h3 a6 h6 a9 h9 a13 h13 a22 hcar)).trans (p128 (I.gts 1 2))
theorem r_123 (hcar : ∀ h v k, I.CAR h v k = 0) : bodyRunA.sl.r_123 (F := Ideal) c a1 h1 a2 h2 a3 h3 a4 h4 a6 h6 a9 h9 a13 h13 a22 (R2 I.DY) (R2 I.O) (R2 I.Q) (R2 I.K) (R2 I.G) (R2 I.GN) (R2 I.C) = R2 (I.dvp 1 2) :=
  (congr (congrArg (k0_pay152 (F := Ideal)) (r_13 I c a4 h4 a13 h13)) (r_99 I c a1 h1 a2 h2 a3 h3 a6 h6 a9 h9 a13 h13 a22 hcar)).trans (p152 I)
theorem r_124 (hcar : ∀ h v k, I.CAR h v k = 0) : bodyRunA.sl.r_124 (F := Ideal) c a1 h1 a2 h2 a3 h3 a4 h4 a6 h6 a9 h9 a13 h13 a22 (R2 I.DY) (R2 I.O) (R2 I.Q) (R2 I.K) (R2 I.G) (R2 I.GN) (R2 I.C) = R2 (I.dvp 1 3) :=
  (congr (congrArg (k0_pay153 (F := Ideal)) (r_13 I c a4 h4 a13 h13)) (r_100 I c a1 h1 a2 h2 a3 h3 a6 h6 a9 h9 a13 h13 a22 hcar)).trans (p153 I)
theorem r_125 (hcar : ∀ h v k, I.CAR h v k = 0) : bodyRunA.sl.r_125 (F := Ideal) c a1 h1 a2 h2 a3 h3 a4 h4 a6 h6 a9 h9 a13 h13 a22 (R2 I.DY) (R2 I.O) (R2 I.Q) (R2 I.K) (R2 I.G) (R2 I.GN) (R2 I.C) = R2 (I.dvp 2 0) :=
  (congr (congrArg (k0_pay154 (F := Ideal)) (r_13 I c a4 h4 a13 h13)) (r_101 I c a1 h1 a2 h2 a3 h3 a6 h6 a9 h9 a13 h13 a22 hcar)).trans (p154 I)
theorem r_126 (hcar : ∀ h v k, I.CAR h v k = 0) : bodyRunA.sl.r_126 (F := Ideal) c a1 h1 a2 h2 a3 h3 a4 h4 a6 h6 a9 h9 a13 h13 a22 (R2 I.DY) (R2 I.O) (R2 I.Q) (R2 I.K) (R2 I.G) (R2 I.GN) (R2 I.C) = R2 (I.dvp 2 1) :=
  (congr (congrArg (k0_pay155 (F := Ideal)) (r_13 I c a4 h4 a13 h13)) (r_102 I c a1 h1 a2 h2 a3 h3 a6 h6 a9 h9 a13 h13 a22 hcar)).trans (p155 I)
theorem r_127 (hcar : ∀ h v k, I.CAR h v k = 0) : bodyRunA.sl.r_127 (F := Ideal) c a1 h1 a2 h2 a3 h3 a4 h4 a6 h6 a9 h9 a13 h13 a22 (R2 I.DY) (R2 I.O) (R2 I.Q) (R2 I.K) (R2 I.G) (R2 I.GN) (R2 I.C) = R2 (I.dvp 2 2) :=
  (congr (congrArg (k0_pay156 (F := Ideal)) (r_13 I c a4 h4 a13 h13)) (r_103 I c a1 h1 a2 h2 a3 h3 a6 h6 a9 h9 a13 h13 a22 hcar)).trans (p156 I)
theorem r_128 (hcar : ∀ h v k, I.CAR h v k = 0) : bodyRunA.sl.r_128 (F := Ideal) c a1 h1 a2 h2 a3 h3 a4 h4 a6 h6 a9 h9 a13 h13 a22 (R2 I.DY) (R2 I.O) (R2 I.Q) (R2 I.K) (R2 I.G) (R2 I.GN) (R2 I.C) = R2 (I.dvp 2 3) :=
  (congr (congrArg (k0_pay157 (F := Ideal)) (r_13 I c a4 h4 a13 h13)) (r_104 I c a1 h1 a2 h2 a3 h3 a6 h6 a9 h9 a13 h13 a22 hcar)).trans (p157 I)
theorem r_129 (hcar : ∀ h v k, I.CAR h v k = 0) : bodyRunA.sl.r_129 (F := Ideal) c a1 h1 a2 h2 a3 h3 a4 h4 a6 h6 a9 h9 a13 h13 a22 (R2 I.DY) (R2 I.O) (R2 I.Q) (R2 I.K) (R2 I.G) (R2 I.GN) (R2 I.C) = R2 (I.dvp 3 0) :=
  (congr (congrArg (k0_pay158 (F := Ideal)) (r_13 I c a4 h4 a13 h13)) (r_105 I c a1 h1 a2 h2 a3 h3 a6 h6 a9 h9 a22 hcar)).trans (p158 I)
theorem r_130 (hcar : ∀ h v k, I.CAR h v k = 0) : bodyRunA.sl.r_130 (F := Ideal) c a1 h1 a2 h2 a3 h3 a4 h4 a6 h6 a9 h9 a13 h13 a22 (R2 I.DY) (R2 I.O) (R2 I.Q) (R2 I.K) (R2 I.G) (R2 I.GN) (R2 I.C) = R2 (I.dvp 3 1) :=
  (congr (congrArg (k0_pay159 (F := Ideal)) (r_13 I c a4 h4 a13 h13)) (r_106 I c a1 h1 a2 h2 a3 h3 a6 h6 a9 h9 a22 hcar)).trans (p159 I)
theorem r_131 (hcar : ∀ h v k, I.CAR h v k = 0) : bodyRunA.sl.r_131 (F := Ideal) c a1 h1 a2 h2 a3 h3 a4 h4 a6 h6 a9 h9 a13 h13 a22 (R2 I.DY) (R2 I.O) (R2 I.Q) (R2 I.K) (R2 I.G) (R2 I.GN) (R2 I.C) = R2 (I.dvp 3 2) :=
  (congr (congrArg (k0_pay160 (F := Ideal)) (r_13 I c a4 h4 a13 h13)) (r_107 I c a1 h1 a2 h2 a3 h3 a6 h6 a9 h9 a22 hcar)).trans (p160 I)
theorem r_132 (hcar : ∀ h v k, I.CAR h v k = 0) : bodyRunA.sl.r_132 (F := Ideal) c a1 h1 a2 h2 a3 h3 a4 h4 a6 h6 a9 h9 a13 h13 a22 (R2 I.DY) (R2 I.O) (R2 I.Q) (R2 I.K) (R2 I.G) (R2 I.GN) (R2 I.C) = R2 (I.dvp 3 3) :=
  (congr (congrArg (k0_pay161 (F := Ideal)) (r_13 I c a4 h4 a13 h13)) (r_108 I c a1 h1 a2 h2 a3 h3 a6 h6 a9 h9 a22 hcar)).trans (p161 I)
theorem r_89 (hcar : ∀ h v k, I.CAR h v k = 0) : bodyRunA.sl.r_89 (F := Ideal) c a1 h1 a2 h2 a3 h3 a6 h6 a9 h9 a13 h13 a22 (R2 I.DY) (R2 I.O) (R2 I.Q) (R2 I.G) (R2 I.GN) (R2 I.C) = R2 (I.gts 0 0) :=
  (congr (congr (congrArg (k0_pay114 (F := Ideal)) (r_59 I c a1 h1 a2 h2 a3 h3 a6 h6 a9 h9)) (r_84 I c a1 h1 a2 h2 a3 h3 a6 h6 a9 h9 a13 h13 a22 hcar)) (r_88 I c a13 h13)).trans (p114 I)
theorem r_133 (hcar : ∀ h v k, I.CAR h v k = 0) (hi : k0_pay5 (F := Ideal) i = ((I.hp : ℝ) : EReal)) : bodyRunA.sl.r_133 (F := Ideal) c i a1 h1 a2 h2 a3 h3 a6 h6 a9 h9 a11 h11 a13 h13 a22 (R2 I.DY) (R2 I.O) (R2 I.Q) (R2 I.G) (R2 I.GN) (R4 fun _ => I.STP) (R2 I.C) = R2 I.gs0 :=
  (congr (congr (congrArg (k0_pay162 (F := Ideal)) hi) (r_89 I c a1 h1 a2 h2 a3 h3 a6 h6 a9 h9 a13 h13 a22 hcar)) (ldSTP_0 I a11 h11 _)).trans (p162 I)
theorem r_90 (hcar : ∀ h v k, I.CAR h v k = 0) : bodyRunA.sl.r_90 (F := Ideal) c a1 h1 a2 h2 a3 h3 a6 h6 a9 h9 a13 h13 a22 (R2 I.DY) (R2 I.O) (R2 I.Q) (R2 I.G) (R2 I.GN) (R2 I.C) = R2 (I.gts 0 1) :=
  (congr (congr (congrArg (k0_pay115 (F := Ideal)) (r_9 I c a13 h13)) (r_60 I c a1 h1 a2 h2 a3 h3 a6 h6 a9 h9)) (r_85 I c a1 h1 a2 h2 a3 h3 a6 h6 a9 h9 a13 h13 a22 hcar)).trans (p115 I)
theorem r_91 (hcar : ∀ h v k, I.CAR h v k = 0) : bodyRunA.sl.r_91 (F := Ideal) c a1 h1 a2 h2 a3 h3 a6 h6 a9 h9 a13 h13 a22 (R2 I.DY) (R2 I.O) (R2 I.Q) (R2 I.G) (R2 I.GN) (R2 I.C) = R2 (I.gts 0 2) :=
  (congr (congr (congrArg (k0_pay116 (F := Ideal)) (r_9 I c a13 h13)) (r_61 I c a1 h1 a2 h2 a3 h3 a6 h6 a9 h9)) (r_86 I c a1 h1 a2 h2 a3 h3 a6 h6 a9 h9 a13 h13 a22 hcar)).trans (p116 I)
theorem r_92 (hcar : ∀ h v k, I.CAR h v k = 0) : bodyRunA.sl.r_92 (F := Ideal) c a1 h1 a2 h2 a3 h3 a6 h6 a9 h9 a13 h13 a22 (R2 I.DY) (R2 I.O) (R2 I.Q) (R2 I.G) (R2 I.GN) (R2 I.C) = R2 (I.gts 0 3) :=
  (congr (congr (congrArg (k0_pay117 (F := Ideal)) (r_9 I c a13 h13)) (r_62 I c a1 h1 a2 h2 a3 h3 a6 h6 a9 h9)) (r_87 I c a1 h1 a2 h2 a3 h3 a6 h6 a9 h9 a13 h13 a22 hcar)).trans (p117 I)
theorem r_134 (hcar : ∀ h v k, I.CAR h v k = 0) (hi : k0_pay5 (F := Ideal) i = ((I.hp : ℝ) : EReal)) : bodyRunA.sl.r_134 (F := Ideal) c i a1 h1 a2 h2 a3 h3 a6 h6 a9 h9 a11 h11 a13 h13 a22 (R2 I.DY) (R2 I.O) (R2 I.Q) (R2 I.G) (R2 I.GN) (R4 fun _ => I.STP) (R2 I.C) = R2 (I.da 0) :=
  (congr (congr (congr (congr (congr (congr (congr (congrArg (k0_pay163 (F := Ideal)) hi) (r_90 I c a1 h1 a2 h2 a3 h3 a6 h6 a9 h9 a13 h13 a22 hcar)) (r_91 I c a1 h1 a2 h2 a3 h3 a6 h6 a9 h9 a13 h13 a22 hcar)) (r_92 I c a1 h1 a2 h2 a3 h3 a6 h6 a9 h9 a13 h13 a22 hcar)) (r_133 I c i a1 h1 a2 h2 a3 h3 a6 h6 a9 h9 a11 h11 a13 h13 a22 hcar hi)) (ldSTP_1 I a11 h11 _)) (ldSTP_2 I a11 h11 _)) (ldSTP_3 I a11 h11 _)).trans (p163 I)
theorem r_135 (hcar : ∀ h v k, I.CAR h v k = 0) : bodyRunA.sl.r_135 (F := Ideal) c a1 h1 a2 h2 a3 h3 a6 h6 a9 h9 a10 h10 a13 h13 a22 (R2 I.DY) (R2 I.O) (R2 I.Q) (R2 I.G) (R2 I.GN) (R4 I.ST) (R2 I.C) = R2 (I.dap 1 0) :=
  (congr (congrArg (k0_pay164 (F := Ideal)) (r_84 I c a1 h1 a2 h2 a3 h3 a6 h6 a9 h9 a13 h13 a22 hcar)) (ldST_0_0 I a10 h10 _)).trans (p164 I)
theorem r_136 (hcar : ∀ h v k, I.CAR h v k = 0) : bodyRunA.sl.r_136 (F := Ideal) c a1 h1 a2 h2 a3 h3 a6 h6 a9 h9 a10 h10 a13 h13 a22 (R2 I.DY) (R2 I.O) (R2 I.Q) (R2 I.G) (R2 I.GN) (R4 I.ST) (R2 I.C) = R2 (I.dap 1 1) :=
  (congr (congrArg (k0_pay165 (F := Ideal)) (r_85 I c a1 h1 a2 h2 a3 h3 a6 h6 a9 h9 a13 h13 a22 hcar)) (ldST_0_1 I a10 h10 _)).trans (p165 I)
theorem r_137 (hcar : ∀ h v k, I.CAR h v k = 0) : bodyRunA.sl.r_137 (F := Ideal) c a1 h1 a2 h2 a3 h3 a6 h6 a9 h9 a10 h10 a13 h13 a22 (R2 I.DY) (R2 I.O) (R2 I.Q) (R2 I.G) (R2 I.GN) (R4 I.ST) (R2 I.C) = R2 (I.da 1) :=
  (congr (congr (congr (congr (congr (congrArg (k0_pay166 (F := Ideal)) (r_86 I c a1 h1 a2 h2 a3 h3 a6 h6 a9 h9 a13 h13 a22 hcar)) (r_87 I c a1 h1 a2 h2 a3 h3 a6 h6 a9 h9 a13 h13 a22 hcar)) (r_135 I c a1 h1 a2 h2 a3 h3 a6 h6 a9 h9 a10 h10 a13 h13 a22 hcar)) (r_136 I c a1 h1 a2 h2 a3 h3 a6 h6 a9 h9 a10 h10 a13 h13 a22 hcar)) (ldST_0_2 I a10 h10 _)) (ldST_0_3 I a10 h10 _)).trans (p166 I)
theorem r_138 (hcar : ∀ h v k, I.CAR h v k = 0) : bodyRunA.sl.r_138 (F := Ideal) c a1 h1 a2 h2 a3 h3 a6 h6 a9 h9 a10 h10 a13 h13 a22 (R2 I.DY) (R2 I.O) (R2 I.Q) (R2 I.G) (R2 I.GN) (R4 I.ST) (R2 I.C) = R2 (I.dap 2 0) :=
  (congr (congrArg (k0_pay167 (F := Ideal)) (r_80 I c a1 h1 a2 h2 a3 h3 a6 h6 a9 h9 a13 h13 a22 hcar)) (ldST_1_0 I a10 h10 _)).trans (p167 I)
theorem r_139 (hcar : ∀ h v k, I.CAR h v k = 0) : bodyRunA.sl.r_139 (F := Ideal) c a1 h1 a2 h2 a3 h3 a6 h6 a9 h9 a10 h10 a13 h13 a22 (R2 I.DY) (R2 I.O) (R2 I.Q) (R2 I.G) (R2 I.GN) (R4 I.ST) (R2 I.C) = R2 (I.dap 2 1) :=
  (congr (congrArg (k0_pay168 (F := Ideal)) (r_81 I c a1 h1 a2 h2 a3 h3 a6 h6 a9 h9 a13 h13 a22 hcar)) (ldST_1_1 I a10 h10 _)).trans (p168 I)
theorem r_140 (hcar : ∀ h v k, I.CAR h v k = 0) : bodyRunA.sl.r_140 (F := Ideal) c a1 h1 a2 h2 a3 h3 a6 h6 a9 h9 a10 h10 a13 h13 a22 (R2 I.DY) (R2 I.O) (R2 I.Q) (R2 I.G) (R2 I.GN) (R4 I.ST) (R2 I.C) = R2 (I.dap 2 2) :=
  (congr (congrArg (k0_pay169 (F := Ideal)) (r_82 I c a1 h1 a2 h2 a3 h3 a6 h6 a9 h9 a13 h13 a22 hcar)) (ldST_1_2 I a10 h10 _)).trans (p169 I)
theorem r_141 (hcar : ∀ h v k, I.CAR h v k = 0) : bodyRunA.sl.r_141 (F := Ideal) c a1 h1 a2 h2 a3 h3 a6 h6 a9 h9 a10 h10 a13 h13 a22 (R2 I.DY) (R2 I.O) (R2 I.Q) (R2 I.G) (R2 I.GN) (R4 I.ST) (R2 I.C) = R1 (I.dap 2 3 0) :=
  (congr (congrArg (k0_pay170 (F := Ideal)) (r_83 I c a1 h1 a2 h2 a3 h3 a6 h6 a9 h9 a13 h13 a22 hcar)) (ldST_1_3 I a10 h10 _)).trans (p170 I)
theorem r_142 (hcar : ∀ h v k, I.CAR h v k = 0) : bodyRunA.sl.r_142 (F := Ideal) c a1 h1 a2 h2 a3 h3 a6 h6 a9 h9 a10 h10 a13 h13 a22 (R2 I.DY) (R2 I.O) (R2 I.Q) (R2 I.G) (R2 I.GN) (R4 I.ST) (R2 I.C) = R2 (I.da 2) :=
  (congr (congr (congr (congrArg (k0_pay171 (F := Ideal)) (r_138 I c a1 h1 a2 h2 a3 h3 a6 h6 a9 h9 a10 h10 a13 h13 a22 hcar)) (r_139 I c a1 h1 a2 h2 a3 h3 a6 h6 a9 h9 a10 h10 a13 h13 a22 hcar)) (r_140 I c a1 h1 a2 h2 a3 h3 a6 h6 a9 h9 a10 h10 a13 h13 a22 hcar)) (r_141 I c a1 h1 a2 h2 a3 h3 a6 h6 a9 h9 a10 h10 a13 h13 a22 hcar)).trans (p171 I)
theorem r_143 (hcar : ∀ h v k, I.CAR h v k = 0) : bodyRunA.sl.r_143 (F := Ideal) c a1 h1 a2 h2 a3 h3 a6 h6 a9 h9 a10 h10 a22 (R2 I.DY) (R2 I.O) (R2 I.Q) (R2 I.G) (R2 I.GN) (R4 I.ST) = R2 (I.da 3) :=
  (congr (congr (congr (congr (congr (congr (congr (congrArg (k0_pay172 (F := Ideal)) (r_76 I c a1 h1 a2 h2 a3 h3 a6 h6 a9 h9 a22 hcar)) (r_77 I c a1 h1 a2 h2 a3 h3 a6 h6 a9 h9 a22 hcar)) (r_78 I c a1 h1 a2 h2 a3 h3 a6 h6 a9 h9 a22 hcar)) (r_79 I c a1 h1 a2 h2 a3 h3 a6 h6 a9 h9 a22 hcar)) (ldST_2_0 I a10 h10 _)) (ldST_2_1 I a10 h10 _)) (ldST_2_2 I a10 h10 _)) (ldST_2_3 I a10 h10 _)).trans (p172 I)
theorem r_144 (hcar : ∀ h v k, I.CAR h v k = 0) : bodyRunA.sl.r_144 (F := Ideal) c a1 h1 a2 h2 a3 h3 a4 h4 a6 h6 a9 h9 a13 h13 a22 (R2 I.DY) (R2 I.O) (R2 I.Q) (R2 I.K) (R2 I.G) (R2 I.GN) (R2 I.C) = R2 (I.dvh 2) :=
  (congr (congr (congr (congrArg (k0_pay175 (F := Ideal)) (r_119 I c a1 h1 a2 h2 a3 h3 a4 h4 a6 h6 a9 h9 a13 h13 a22 hcar)) (r_123 I c a1 h1 a2 h2 a3 h3 a4 h4 a6 h6 a9 h9 a13 h13 a22 hcar)) (r_127 I c a1 h1 a2 h2 a3 h3 a4 h4 a6 h6 a9 h9 a13 h13 a22 hcar)) (r_131 I c a1 h1 a2 h2 a3 h3 a4 h4 a6 h6 a9 h9 a13 h13 a22 hcar)).trans (p175 I)
theorem r_7 : bodyRunA.sl.r_7 (F := Ideal) c a13 h13 (R2 I.C) = R2 I.E :=
  (congr (congr (congr (congrArg (k0_pay20 (F := Ideal)) (r_4 I c a13 h13)) rfl) (r_5 I c a13 h13)) (r_6 I c a13 h13)).trans (p20 I)
theorem r_145 (hcar : ∀ h v k, I.CAR h v k = 0) : bodyRunA.sl.r_145 (F := Ideal) c a1 h1 a2 h2 a3 h3 a4 h4 a5 h5 a6 h6 a9 h9 a13 h13 a22 (R2 I.DY) (R2 I.O) (R2 I.Q) (R2 I.K) (R2 I.V) (R2 I.G) (R2 I.GN) (R2 I.C) = R2 I.dd :=
  (congr (congr (congrArg (k0_pay178 (F := Ideal)) (r_7 I c a13 h13)) (r_12 I c a4 h4)) (r_116 I c a1 h1 a2 h2 a3 h3 a5 h5 a6 h6 a9 h9 a13 h13 a22 hcar)).trans (p178 I)
theorem r_146 (hcar : ∀ h v k, I.CAR h v k = 0) : bodyRunA.sl.r_146 (F := Ideal) c a1 h1 a2 h2 a3 h3 a4 h4 a5 h5 a6 h6 a9 h9 a13 h13 a22 (R2 I.DY) (R2 I.O) (R2 I.Q) (R2 I.K) (R2 I.V) (R2 I.G) (R2 I.GN) (R2 I.C) = R2 (I.dsum 0) :=
  (congr (congr (congrArg (k0_pay179 (F := Ideal)) (r_7 I c a13 h13)) (r_12 I c a4 h4)) (r_116 I c a1 h1 a2 h2 a3 h3 a5 h5 a6 h6 a9 h9 a13 h13 a22 hcar)).trans (p179 I)
theorem r_147 (hcar : ∀ h v k, I.CAR h v k = 0) : bodyRunA.sl.r_147 (F := Ideal) c a1 h1 a2 h2 a3 h3 a4 h4 a5 h5 a6 h6 a9 h9 a13 h13 a22 (R2 I.DY) (R2 I.O) (R2 I.Q) (R2 I.K) (R2 I.V) (R2 I.G) (R2 I.GN) (R2 I.C) = R2 (I.dsum 1) :=
  (congr (congr (congrArg (k0_pay180 (F := Ideal)) (r_7 I c a13 h13)) (r_12 I c a4 h4)) (r_116 I c a1 h1 a2 h2 a3 h3 a5 h5 a6 h6 a9 h9 a13 h13 a22 hcar)).trans (p180 I)
theorem r_148 (hcar : ∀ h v k, I.CAR h v k = 0) : bodyRunA.sl.r_148 (F := Ideal) c a1 h1 a2 h2 a3 h3 a4 h4 a5 h5 a6 h6 a9 h9 a13 h13 a22 (R2 I.DY) (R2 I.O) (R2 I.Q) (R2 I.K) (R2 I.V) (R2 I.G) (R2 I.GN) (R2 I.C) = R2 (I.dsum 2) :=
  (congr (congr (congrArg (k0_pay181 (F := Ideal)) (r_7 I c a13 h13)) (r_12 I c a4 h4)) (r_116 I c a1 h1 a2 h2 a3 h3 a5 h5 a6 h6 a9 h9 a13 h13 a22 hcar)).trans (p181 I)
theorem r_8 : bodyRunA.sl.r_8 (F := Ideal) c a13 h13 (R2 I.C) = R2 (I.A 0) :=
  (congrArg (k0_pay21 (F := Ideal)) (r_5 I c a13 h13)).trans (p21 I)
theorem r_149 (hcar : ∀ h v k, I.CAR h v k = 0) (hi : k0_pay5 (F := Ideal) i = ((I.hp : ℝ) : EReal)) : bodyRunA.sl.r_149 (F := Ideal) c i a1 h1 a2 h2 a3 h3 a4 h4 a5 h5 a6 h6 a9 h9 a10 h10 a11 h11 a13 h13 a22 (R2 I.DY) (R2 I.O) (R2 I.Q) (R2 I.K) (R2 I.V) (R2 I.G) (R2 I.GN) (R4 I.ST) (R4 fun _ => I.STP) (R2 I.C) = R2 I.dla :=
  (congr (congr (congr (congr (congr (congr (congr (congr (congr (congr (congr (congr (congr (congr (congr (congrArg (k0_pay184 (F := Ideal)) (r_1)) (r_8 I c a13 h13)) (r_9 I c a13 h13)) (r_10 I c a13 h13)) (r_11 I c a13 h13)) (r_134 I c i a1 h1 a2 h2 a3 h3 a6 h6 a9 h9 a11 h11 a13 h13 a22 hcar hi)) (r_137 I c a1 h1 a2 h2 a3 h3 a6 h6 a9 h9 a10 h10 a13 h13 a22 hcar)) (r_142 I c a1 h1 a2 h2 a3 h3 a6 h6 a9 h9 a10 h10 a13 h13 a22 hcar)) (r_143 I c a1 h1 a2 h2 a3 h3 a6 h6 a9 h9 a10 h10 a22 hcar)) (r_145 I c a1 h1 a2 h2 a3 h3 a4 h4 a5 h5 a6 h6 a9 h9 a13 h13 a22 hcar)) rfl) (r_146 I c a1 h1 a2 h2 a3 h3 a4 h4 a5 h5 a6 h6 a9 h9 a13 h13 a22 hcar)) (r_147 I c a1 h1 a2 h2 a3 h3 a4 h4 a5 h5 a6 h6 a9 h9 a13 h13 a22 hcar)) (r_148 I c a1 h1 a2 h2 a3 h3 a4 h4 a5 h5 a6 h6 a9 h9 a13 h13 a22 hcar)) rfl) rfl).trans (p184 I)
theorem r_3 : bodyRunA.sl.r_3 (F := Ideal) c a12 h12 (R2 I.P) = R2 I.P :=
  (congrArg (k0_pay13 (F := Ideal)) (ld_S256x512 a12 h12 I.P _)).trans (p13 I.P)
theorem r_150 : bodyRunA.sl.r_150 (F := Ideal) c a12 h12 (R2 I.P) = R2 I.eP :=
  (congrArg (k0_pay185 (F := Ideal)) (r_3 I c a12 h12)).trans (p185 I)
theorem v898 : bodyRunA.sl.v898 (F := Ideal) c a20 = R2 (fun _ _ => 0) :=
  (View.readCov_fill _ _ _ [] _ (by decide)).trans ((congrArg (fun Z => View.ld Z _) p3).trans rfl)
theorem r_151 (hcar : ∀ h v k, I.CAR h v k = 0) (hi : k0_pay5 (F := Ideal) i = ((I.hp : ℝ) : EReal)) : bodyRunA.sl.r_151 (F := Ideal) c i a1 h1 a2 h2 a3 h3 a4 h4 a5 h5 a6 h6 a9 h9 a10 h10 a11 h11 a12 h12 a13 h13 a20 a22 (R2 I.DY) (R2 I.O) (R2 I.Q) (R2 I.K) (R2 I.V) (R2 I.G) (R2 I.GN) (R4 I.ST) (R4 fun _ => I.STP) (R2 I.P) (R2 I.C) = R2 (fun i j => (fun _ _ => 0) i j + I.dbp i j) :=
  (congr (congr (congrArg (k0_pay190 (F := Ideal)) (r_149 I c i a1 h1 a2 h2 a3 h3 a4 h4 a5 h5 a6 h6 a9 h9 a10 h10 a11 h11 a13 h13 a22 hcar hi)) (r_150 I c a12 h12)) (v898 c a20)).trans (p190 I (fun _ _ => 0))
theorem r_2 : bodyRunA.sl.r_2 (F := Ideal) c a8 h8 (R2 I.WA) = R2 I.WA :=
  (congrArg (k0_pay12 (F := Ideal)) (ld_S128x512 a8 h8 I.WA _)).trans (p12 I.WA)
theorem r_21 : bodyRunA.sl.r_21 (F := Ideal) c a1 h1 a2 h2 a6 h6 a9 h9 (R2 I.DY) (R2 I.O) (R2 I.G) (R2 I.GN) = R2 (I.dgg 0) :=
  (congr (congr (congr (congrArg (k0_pay35 (F := Ideal)) (ld_S256x256_0 a2 h2 I.O _)) (ld_S256x256_0 a6 h6 I.G _)) (ld_S1x256_0 a9 h9 I.GN _)) (ld_S256x256_0 a1 h1 I.DY _)).trans (p35 I)
theorem r_37 : bodyRunA.sl.r_37 (F := Ideal) c a1 h1 a2 h2 a6 h6 a9 h9 (R2 I.DY) (R2 I.O) (R2 I.G) (R2 I.GN) = R2 (I.dgg 2) :=
  (congr (congr (congr (congrArg (k0_pay57 (F := Ideal)) (ld_S256x256_2 a2 h2 I.O _)) (ld_S256x256_2 a6 h6 I.G _)) (ld_S1x256_2 a9 h9 I.GN _)) (ld_S256x256_2 a1 h1 I.DY _)).trans (p57 I)
theorem r_49 : bodyRunA.sl.r_49 (F := Ideal) c a1 h1 a2 h2 a6 h6 a9 h9 a10 h10 (R2 I.DY) (R2 I.O) (R2 I.G) (R2 I.GN) (R4 I.ST) = R2 (I.dqh 0) :=
  (congr (congr (congr (congr (congrArg (k0_pay73 (F := Ideal)) (r_22 I c a1 h1 a2 h2 a6 h6 a9 h9)) (ldST_0_0 I a10 h10 _)) (ldST_1_0 I a10 h10 _)) (ldST_2_0 I a10 h10 _)) (ldST_3_0 I a10 h10 _)).trans (p73 I)
theorem r_50 : bodyRunA.sl.r_50 (F := Ideal) c a1 h1 a2 h2 a6 h6 a9 h9 a10 h10 (R2 I.DY) (R2 I.O) (R2 I.G) (R2 I.GN) (R4 I.ST) = R2 (I.dqp 0 1) :=
  (congr (congrArg (k0_pay74 (F := Ideal)) (r_32 I c a1 h1 a2 h2 a6 h6 a9 h9)) (ldST_0_1 I a10 h10 _)).trans (p74 I)
theorem r_51 : bodyRunA.sl.r_51 (F := Ideal) c a1 h1 a2 h2 a6 h6 a9 h9 (R2 I.DY) (R2 I.O) (R2 I.G) (R2 I.GN) = R2 (I.ddos 1 1) :=
  (congrArg (k0_pay75 (F := Ideal)) (r_32 I c a1 h1 a2 h2 a6 h6 a9 h9)).trans (p75 I)
theorem r_52 : bodyRunA.sl.r_52 (F := Ideal) c a1 h1 a2 h2 a6 h6 a9 h9 a10 h10 (R2 I.DY) (R2 I.O) (R2 I.G) (R2 I.GN) (R4 I.ST) = R2 (I.dqh 1) :=
  (congr (congr (congr (congr (congr (congrArg (k0_pay76 (F := Ideal)) (r_32 I c a1 h1 a2 h2 a6 h6 a9 h9)) (r_50 I c a1 h1 a2 h2 a6 h6 a9 h9 a10 h10)) (r_51 I c a1 h1 a2 h2 a6 h6 a9 h9)) (ldST_1_1 I a10 h10 _)) (ldST_2_1 I a10 h10 _)) (ldST_3_1 I a10 h10 _)).trans (p76 I)
theorem r_53 : bodyRunA.sl.r_53 (F := Ideal) c a1 h1 a2 h2 a6 h6 a9 h9 a10 h10 (R2 I.DY) (R2 I.O) (R2 I.G) (R2 I.GN) (R4 I.ST) = R2 (I.dqp 0 2) :=
  (congr (congrArg (k0_pay77 (F := Ideal)) (r_38 I c a1 h1 a2 h2 a6 h6 a9 h9)) (ldST_0_2 I a10 h10 _)).trans (p77 I)
theorem r_54 : bodyRunA.sl.r_54 (F := Ideal) c a1 h1 a2 h2 a6 h6 a9 h9 a10 h10 (R2 I.DY) (R2 I.O) (R2 I.G) (R2 I.GN) (R4 I.ST) = R2 (I.dqp 1 2) :=
  (congr (congrArg (k0_pay78 (F := Ideal)) (r_38 I c a1 h1 a2 h2 a6 h6 a9 h9)) (ldST_1_2 I a10 h10 _)).trans (p78 I)
theorem r_55 : bodyRunA.sl.r_55 (F := Ideal) c a1 h1 a2 h2 a6 h6 a9 h9 a10 h10 (R2 I.DY) (R2 I.O) (R2 I.G) (R2 I.GN) (R4 I.ST) = R2 (I.dqp 2 2) :=
  (congr (congrArg (k0_pay79 (F := Ideal)) (r_38 I c a1 h1 a2 h2 a6 h6 a9 h9)) (ldST_2_2 I a10 h10 _)).trans (p79 I)
theorem r_56 : bodyRunA.sl.r_56 (F := Ideal) c a1 h1 a2 h2 a6 h6 a9 h9 (R2 I.DY) (R2 I.O) (R2 I.G) (R2 I.GN) = R2 (I.ddos 3 2) :=
  (congrArg (k0_pay80 (F := Ideal)) (r_38 I c a1 h1 a2 h2 a6 h6 a9 h9)).trans (p80 I)
theorem v172 : bodyRunA.sl.v172 (F := Ideal) c a21 = R2 (fun _ _ => 0) :=
  (View.readCov_fill _ _ _ [] _ (by decide)).trans ((congrArg (fun Z => View.ld Z _) p4).trans rfl)
theorem v235 : bodyRunA.sl.v235 (F := Ideal) c a1 h1 a2 h2 a6 h6 a21 (R2 I.DY) (R2 I.O) (R2 I.G) = R2 (fun _ _ => 0) :=
  (View.readCov_skip _ _ _ _ _ (by decide)).trans ((View.readCov_fill _ _ _ [] _ (by decide)).trans ((congrArg (fun Z => View.ld Z _) p4).trans rfl))
theorem v298 : bodyRunA.sl.v298 (F := Ideal) c a1 h1 a2 h2 a6 h6 a21 (R2 I.DY) (R2 I.O) (R2 I.G) = R2 (fun _ _ => 0) :=
  (View.readCov_skip _ _ _ _ _ (by decide)).trans ((View.readCov_skip _ _ _ _ _ (by decide)).trans ((View.readCov_fill _ _ _ [] _ (by decide)).trans ((congrArg (fun Z => View.ld Z _) p4).trans rfl)))
theorem v361 : bodyRunA.sl.v361 (F := Ideal) c a1 h1 a2 h2 a6 h6 a21 (R2 I.DY) (R2 I.O) (R2 I.G) = R2 (fun _ _ => 0) :=
  (View.readCov_skip _ _ _ _ _ (by decide)).trans ((View.readCov_skip _ _ _ _ _ (by decide)).trans ((View.readCov_skip _ _ _ _ _ (by decide)).trans ((View.readCov_fill _ _ _ [] _ (by decide)).trans ((congrArg (fun Z => View.ld Z _) p4).trans rfl))))
theorem v893 : bodyRunA.sl.v893 (F := Ideal) c a19 = R2 (fun _ _ => 0) :=
  (View.readCov_fill _ _ _ [] _ (by decide)).trans ((congrArg (fun Z => View.ld Z _) p2).trans rfl)
end Cert.Mine.WA

end
-- ==== Proof.Mine.WordsB.lean ====
/- The body's intermediate results at a later grid point, over buffers holding real arrays. -/
module

public import proofs.«01_k».proof.Proof.Mine.Loads
public import proofs.«01_k».proof.Proof.Mine.RunB

@[expose] public section

set_option pp.maxSteps 600
set_option maxRecDepth 16384

noncomputable section

namespace Cert.Mine.WB

open Idealize.ShloMosaic Cert.KernelIdeal Cert.KernelIdeal.Gen Cert.KernelIdeal.Own Cert.Mine

variable (I : Blk) (w18 w19 w20 : ℕ → ℕ → ℝ) (c : Dev nD) (i : grid0.Coords)
variable (a1 : Memref sig .tc .vmem S256x1024 .f32) (h1 : a1.IsWhole)
variable (a2 : Memref sig .tc .vmem S256x1024 .f32) (h2 : a2.IsWhole)
variable (a3 : Memref sig .tc .vmem S256x512 .f32) (h3 : a3.IsWhole)
variable (a4 : Memref sig .tc .vmem S256x512 .f32) (h4 : a4.IsWhole)
variable (a5 : Memref sig .tc .vmem S256x1024 .f32) (h5 : a5.IsWhole)
variable (a6 : Memref sig .tc .vmem S256x1024 .f32) (h6 : a6.IsWhole)
variable (a7 : Memref sig .tc .vmem S256x128 .f32) (h7 : a7.IsWhole)
variable (a8 : Memref sig .tc .vmem S128x512 .f32) (h8 : a8.IsWhole)
variable (a9 : Memref sig .tc .vmem S1x1024 .f32) (h9 : a9.IsWhole)
variable (a10 : Memref sig .tc .vmem S4x4x256x128 .f32) (h10 : a10.IsWhole)
variable (a11 : Memref sig .tc .vmem S1x4x256x128 .f32) (h11 : a11.IsWhole)
variable (a12 : Memref sig .tc .vmem S256x512 .f32) (h12 : a12.IsWhole)
variable (a13 : Memref sig .tc .vmem S256x512 .f32) (h13 : a13.IsWhole)
variable (a14 : Memref sig .tc .vmem S256x512 .bf16) (h14 : a14.IsWhole)
variable (a15 : Memref sig .tc .vmem S256x512 .bf16) (h15 : a15.IsWhole)
variable (a16 : Memref sig .tc .vmem S256x1024 .bf16) (h16 : a16.IsWhole)
variable (a17 : Memref sig .tc .vmem S256x1024 .bf16) (h17 : a17.IsWhole)
variable (a18 : Memref sig .tc .vmem S256x128 .bf16) (h18 : a18.IsWhole)
variable (a19 : Memref sig .tc .vmem S128x512 .f32) (h19 : a19.IsWhole)
variable (a20 : Memref sig .tc .vmem S1x512 .f32) (h20 : a20.IsWhole)
variable (a21 : Memref sig .tc .vmem S1x1024 .f32) (h21 : a21.IsWhole)
variable (a22 : Memref sig .tc .vmem S4x256x128 .f32) (h22 : a22.IsWhole)

theorem r : bodyRunB.sl.r (F := Ideal) c a7 h7 (R2 I.GA) = R2 I.GA :=
  (congrArg (k0_pay6 (F := Ideal)) (ld_S256x128 a7 h7 I.GA _)).trans (p6 I.GA)
theorem r_1 : bodyRunB.sl.r_1 (F := Ideal)  = R2 Blk.tri := p11
theorem r_4 : bodyRunB.sl.r_4 (F := Ideal) c a13 h13 (R2 I.C) = R2 I.C :=
  (congrArg (k0_pay14 (F := Ideal)) (ld_S256x512 a13 h13 I.C _)).trans (p14 I.C)
theorem r_10 : bodyRunB.sl.r_10 (F := Ideal) c a13 h13 (R2 I.C) = R2 (I.A 2) :=
  (congr (congrArg (k0_pay23 (F := Ideal)) (r_4 I c a13 h13)) rfl).trans (p23 I)
theorem r_11 : bodyRunB.sl.r_11 (F := Ideal) c a13 h13 (R2 I.C) = R2 (I.A 3) :=
  (congr (congrArg (k0_pay24 (F := Ideal)) (r_4 I c a13 h13)) rfl).trans (p24 I)
theorem r_15 : bodyRunB.sl.r_15 (F := Ideal) c a3 h3 (R2 I.Q) = R2 I.Q := (ld_S256x512 a3 h3 I.Q _)
theorem r_16 : bodyRunB.sl.r_16 (F := Ideal) c a3 h3 (R2 I.Q) = R2 I.qs :=
  (congrArg (k0_pay28 (F := Ideal)) (r_15 I c a3 h3)).trans (p28 I)
theorem r_43 : bodyRunB.sl.r_43 (F := Ideal) c a2 h2 (R2 I.O) = R2 (I.var 3) :=
  (congrArg (k0_pay63 (F := Ideal)) (ld_S256x256_3 a2 h2 I.O _)).trans (p63 I)
theorem r_44 : bodyRunB.sl.r_44 (F := Ideal) c a2 h2 (R2 I.O) = R2 (I.rr 3) :=
  (congrArg (k0_pay64 (F := Ideal)) (r_43 I c a2 h2)).trans (p64 I)
theorem r_40 : bodyRunB.sl.r_40 (F := Ideal) c a6 h6 (R2 I.G) = R2 (I.Gh 3) :=
  (congrArg (k0_pay61 (F := Ideal)) (ld_S256x256_3 a6 h6 I.G _)).trans (p61 (I.Gh 3))
theorem r_41 : bodyRunB.sl.r_41 (F := Ideal) c a9 h9 (R2 I.GN) = R2 (I.gn 3) :=
  (congrArg (k0_pay62 (F := Ideal)) (ld_S1x256_3 a9 h9 I.GN _)).trans (p62 (I.gn 3))
theorem r_42 : bodyRunB.sl.r_42 (F := Ideal) c a1 h1 (R2 I.DY) = R2 (I.Dh 3) := (ld_S256x256_3 a1 h1 I.DY _)
theorem r_45 : bodyRunB.sl.r_45 (F := Ideal) c a1 h1 a6 h6 a9 h9 (R2 I.DY) (R2 I.G) (R2 I.GN) = R2 (I.W 3) :=
  (congr (congr (congrArg (k0_pay69 (F := Ideal)) (r_40 I c a6 h6)) (r_41 I c a9 h9)) (r_42 I c a1 h1)).trans (p69 I)
theorem r_39 : bodyRunB.sl.r_39 (F := Ideal) c a2 h2 (R2 I.O) = R2 (I.Oh 3) :=
  (congrArg (k0_pay60 (F := Ideal)) (ld_S256x256_3 a2 h2 I.O _)).trans (p60 (I.Oh 3))
theorem r_46 : bodyRunB.sl.r_46 (F := Ideal) c a2 h2 (R2 I.O) = R2 (I.orr 3) :=
  (congr (congrArg (k0_pay70 (F := Ideal)) (r_39 I c a2 h2)) (r_43 I c a2 h2)).trans (p70 I)
theorem r_47 : bodyRunB.sl.r_47 (F := Ideal) c a1 h1 a2 h2 a6 h6 a9 h9 (R2 I.DY) (R2 I.O) (R2 I.G) (R2 I.GN) = R2 (I.wom 3) :=
  (congr (congr (congr (congrArg (k0_pay71 (F := Ideal)) (r_39 I c a2 h2)) (r_40 I c a6 h6)) (r_41 I c a9 h9)) (r_42 I c a1 h1)).trans (p71 I)
theorem r_48 : bodyRunB.sl.r_48 (F := Ideal) c a1 h1 a2 h2 a6 h6 a9 h9 (R2 I.DY) (R2 I.O) (R2 I.G) (R2 I.GN) = R2 (I.ddo 3) :=
  (congr (congr (congr (congrArg (k0_pay72 (F := Ideal)) (r_44 I c a2 h2)) (r_45 I c a1 h1 a6 h6 a9 h9)) (r_46 I c a2 h2)) (r_47 I c a1 h1 a2 h2 a6 h6 a9 h9)).trans (p72 I)
theorem r_66 : bodyRunB.sl.r_66 (F := Ideal) c a1 h1 a2 h2 a3 h3 a6 h6 a9 h9 (R2 I.DY) (R2 I.O) (R2 I.Q) (R2 I.G) (R2 I.GN) = R2 (I.own 1 3) :=
  (congr (congrArg (k0_pay91 (F := Ideal)) (r_16 I c a3 h3)) (r_48 I c a1 h1 a2 h2 a6 h6 a9 h9)).trans (p91 I)
theorem r_70 : bodyRunB.sl.r_70 (F := Ideal) c a1 h1 a2 h2 a3 h3 a6 h6 a9 h9 (R2 I.DY) (R2 I.O) (R2 I.Q) (R2 I.G) (R2 I.GN) = R2 (I.own 2 3) :=
  (congr (congrArg (k0_pay95 (F := Ideal)) (r_16 I c a3 h3)) (r_48 I c a1 h1 a2 h2 a6 h6 a9 h9)).trans (p95 I)
theorem r_74 : bodyRunB.sl.r_74 (F := Ideal) c a1 h1 a2 h2 a6 h6 a9 h9 (R2 I.DY) (R2 I.O) (R2 I.G) (R2 I.GN) = R2 (I.ddos 3 3) :=
  (congrArg (k0_pay99 (F := Ideal)) (r_48 I c a1 h1 a2 h2 a6 h6 a9 h9)).trans (p99 I)
theorem r_75 : bodyRunB.sl.r_75 (F := Ideal) c a3 h3 (R2 I.Q) = R2 (I.qss 3 3) :=
  (congrArg (k0_pay100 (F := Ideal)) (r_16 I c a3 h3)).trans (p100 I)
theorem r_87 : bodyRunB.sl.r_87 (F := Ideal) c a1 h1 a2 h2 a3 h3 a6 h6 a9 h9 a13 h13 a22 h22 (R2 I.DY) (R2 I.O) (R2 I.Q) (R2 I.G) (R2 I.GN) (R2 I.C) (R3 I.CAR) = R2 (I.gts 1 3) :=
  (congr (congr (congr (congr (congr (congr (congrArg (k0_pay112 (F := Ideal)) (r_10 I c a13 h13)) (r_11 I c a13 h13)) (r_66 I c a1 h1 a2 h2 a3 h3 a6 h6 a9 h9)) (r_70 I c a1 h1 a2 h2 a3 h3 a6 h6 a9 h9)) (r_74 I c a1 h1 a2 h2 a6 h6 a9 h9)) (r_75 I c a3 h3)) (ldCAR_3 I a22 h22 _)).trans (p112 I)
theorem r_100 : bodyRunB.sl.r_100 (F := Ideal) c a1 h1 a2 h2 a3 h3 a6 h6 a9 h9 a13 h13 a22 h22 (R2 I.DY) (R2 I.O) (R2 I.Q) (R2 I.G) (R2 I.GN) (R2 I.C) (R3 I.CAR) = R2 (I.gts 1 3) :=
  (congrArg (k0_pay129 (F := Ideal)) (r_87 I c a1 h1 a2 h2 a3 h3 a6 h6 a9 h9 a13 h13 a22 h22)).trans (p129 (I.gts 1 3))
theorem r_17 : bodyRunB.sl.r_17 (F := Ideal) c a2 h2 (R2 I.O) = R2 (I.Oh 0) :=
  (congrArg (k0_pay29 (F := Ideal)) (ld_S256x256_0 a2 h2 I.O _)).trans (p29 (I.Oh 0))
theorem r_18 : bodyRunB.sl.r_18 (F := Ideal) c a9 h9 (R2 I.GN) = R2 (I.gn 0) :=
  (congrArg (k0_pay31 (F := Ideal)) (ld_S1x256_0 a9 h9 I.GN _)).trans (p31 (I.gn 0))
theorem r_19 : bodyRunB.sl.r_19 (F := Ideal) c a2 h2 (R2 I.O) = R2 (I.rr 0) :=
  (congrArg (k0_pay32 (F := Ideal)) (ld_S256x256_0 a2 h2 I.O _)).trans (p32 I)
theorem r_20 : bodyRunB.sl.r_20 (F := Ideal) c a1 h1 a6 h6 (R2 I.DY) (R2 I.G) = R2 (I.dgn 0) :=
  (congr (congrArg (k0_pay34 (F := Ideal)) (ld_S256x256_0 a6 h6 I.G _)) (ld_S256x256_0 a1 h1 I.DY _)).trans (p34 I)
theorem r_22 : bodyRunB.sl.r_22 (F := Ideal) c a1 h1 a2 h2 a6 h6 a9 h9 (R2 I.DY) (R2 I.O) (R2 I.G) (R2 I.GN) = R2 (I.ddo 0) :=
  (congr (congr (congr (congrArg (k0_pay37 (F := Ideal)) (r_17 I c a2 h2)) (r_18 I c a9 h9)) (r_19 I c a2 h2)) (r_20 I c a1 h1 a6 h6)).trans (p37 I)
theorem r_67 : bodyRunB.sl.r_67 (F := Ideal) c a1 h1 a2 h2 a3 h3 a6 h6 a9 h9 (R2 I.DY) (R2 I.O) (R2 I.Q) (R2 I.G) (R2 I.GN) = R2 (I.own 2 0) :=
  (congr (congrArg (k0_pay92 (F := Ideal)) (r_16 I c a3 h3)) (r_22 I c a1 h1 a2 h2 a6 h6 a9 h9)).trans (p92 I)
theorem r_71 : bodyRunB.sl.r_71 (F := Ideal) c a1 h1 a2 h2 a3 h3 a6 h6 a9 h9 (R2 I.DY) (R2 I.O) (R2 I.Q) (R2 I.G) (R2 I.GN) = R2 (I.own 3 0) :=
  (congr (congrArg (k0_pay96 (F := Ideal)) (r_16 I c a3 h3)) (r_22 I c a1 h1 a2 h2 a6 h6 a9 h9)).trans (p96 I)
theorem r_80 : bodyRunB.sl.r_80 (F := Ideal) c a1 h1 a2 h2 a3 h3 a6 h6 a9 h9 a13 h13 a22 h22 (R2 I.DY) (R2 I.O) (R2 I.Q) (R2 I.G) (R2 I.GN) (R2 I.C) (R3 I.CAR) = R2 (I.gts 2 0) :=
  (congr (congr (congr (congrArg (k0_pay105 (F := Ideal)) (r_11 I c a13 h13)) (r_67 I c a1 h1 a2 h2 a3 h3 a6 h6 a9 h9)) (r_71 I c a1 h1 a2 h2 a3 h3 a6 h6 a9 h9)) (ldCAR_0 I a22 h22 _)).trans (p105 I)
theorem r_101 : bodyRunB.sl.r_101 (F := Ideal) c a1 h1 a2 h2 a3 h3 a6 h6 a9 h9 a13 h13 a22 h22 (R2 I.DY) (R2 I.O) (R2 I.Q) (R2 I.G) (R2 I.GN) (R2 I.C) (R3 I.CAR) = R2 (I.gts 2 0) :=
  (congrArg (k0_pay130 (F := Ideal)) (r_80 I c a1 h1 a2 h2 a3 h3 a6 h6 a9 h9 a13 h13 a22 h22)).trans (p130 (I.gts 2 0))
theorem r_27 : bodyRunB.sl.r_27 (F := Ideal) c a2 h2 (R2 I.O) = R2 (I.var 1) :=
  (congrArg (k0_pay41 (F := Ideal)) (ld_S256x256_1 a2 h2 I.O _)).trans (p41 I)
theorem r_28 : bodyRunB.sl.r_28 (F := Ideal) c a2 h2 (R2 I.O) = R2 (I.rr 1) :=
  (congrArg (k0_pay42 (F := Ideal)) (r_27 I c a2 h2)).trans (p42 I)
theorem r_24 : bodyRunB.sl.r_24 (F := Ideal) c a6 h6 (R2 I.G) = R2 (I.Gh 1) :=
  (congrArg (k0_pay39 (F := Ideal)) (ld_S256x256_1 a6 h6 I.G _)).trans (p39 (I.Gh 1))
theorem r_25 : bodyRunB.sl.r_25 (F := Ideal) c a9 h9 (R2 I.GN) = R2 (I.gn 1) :=
  (congrArg (k0_pay40 (F := Ideal)) (ld_S1x256_1 a9 h9 I.GN _)).trans (p40 (I.gn 1))
theorem r_26 : bodyRunB.sl.r_26 (F := Ideal) c a1 h1 (R2 I.DY) = R2 (I.Dh 1) := (ld_S256x256_1 a1 h1 I.DY _)
theorem r_29 : bodyRunB.sl.r_29 (F := Ideal) c a1 h1 a6 h6 a9 h9 (R2 I.DY) (R2 I.G) (R2 I.GN) = R2 (I.W 1) :=
  (congr (congr (congrArg (k0_pay47 (F := Ideal)) (r_24 I c a6 h6)) (r_25 I c a9 h9)) (r_26 I c a1 h1)).trans (p47 I)
theorem r_23 : bodyRunB.sl.r_23 (F := Ideal) c a2 h2 (R2 I.O) = R2 (I.Oh 1) :=
  (congrArg (k0_pay38 (F := Ideal)) (ld_S256x256_1 a2 h2 I.O _)).trans (p38 (I.Oh 1))
theorem r_30 : bodyRunB.sl.r_30 (F := Ideal) c a2 h2 (R2 I.O) = R2 (I.orr 1) :=
  (congr (congrArg (k0_pay48 (F := Ideal)) (r_23 I c a2 h2)) (r_27 I c a2 h2)).trans (p48 I)
theorem r_31 : bodyRunB.sl.r_31 (F := Ideal) c a1 h1 a2 h2 a6 h6 a9 h9 (R2 I.DY) (R2 I.O) (R2 I.G) (R2 I.GN) = R2 (I.wom 1) :=
  (congr (congr (congr (congrArg (k0_pay49 (F := Ideal)) (r_23 I c a2 h2)) (r_24 I c a6 h6)) (r_25 I c a9 h9)) (r_26 I c a1 h1)).trans (p49 I)
theorem r_32 : bodyRunB.sl.r_32 (F := Ideal) c a1 h1 a2 h2 a6 h6 a9 h9 (R2 I.DY) (R2 I.O) (R2 I.G) (R2 I.GN) = R2 (I.ddo 1) :=
  (congr (congr (congr (congrArg (k0_pay50 (F := Ideal)) (r_28 I c a2 h2)) (r_29 I c a1 h1 a6 h6 a9 h9)) (r_30 I c a2 h2)) (r_31 I c a1 h1 a2 h2 a6 h6 a9 h9)).trans (p50 I)
theorem r_68 : bodyRunB.sl.r_68 (F := Ideal) c a1 h1 a2 h2 a3 h3 a6 h6 a9 h9 (R2 I.DY) (R2 I.O) (R2 I.Q) (R2 I.G) (R2 I.GN) = R2 (I.own 2 1) :=
  (congr (congrArg (k0_pay93 (F := Ideal)) (r_16 I c a3 h3)) (r_32 I c a1 h1 a2 h2 a6 h6 a9 h9)).trans (p93 I)
theorem r_72 : bodyRunB.sl.r_72 (F := Ideal) c a1 h1 a2 h2 a3 h3 a6 h6 a9 h9 (R2 I.DY) (R2 I.O) (R2 I.Q) (R2 I.G) (R2 I.GN) = R2 (I.own 3 1) :=
  (congr (congrArg (k0_pay97 (F := Ideal)) (r_16 I c a3 h3)) (r_32 I c a1 h1 a2 h2 a6 h6 a9 h9)).trans (p97 I)
theorem r_81 : bodyRunB.sl.r_81 (F := Ideal) c a1 h1 a2 h2 a3 h3 a6 h6 a9 h9 a13 h13 a22 h22 (R2 I.DY) (R2 I.O) (R2 I.Q) (R2 I.G) (R2 I.GN) (R2 I.C) (R3 I.CAR) = R2 (I.gts 2 1) :=
  (congr (congr (congr (congrArg (k0_pay106 (F := Ideal)) (r_11 I c a13 h13)) (r_68 I c a1 h1 a2 h2 a3 h3 a6 h6 a9 h9)) (r_72 I c a1 h1 a2 h2 a3 h3 a6 h6 a9 h9)) (ldCAR_1 I a22 h22 _)).trans (p106 I)
theorem r_102 : bodyRunB.sl.r_102 (F := Ideal) c a1 h1 a2 h2 a3 h3 a6 h6 a9 h9 a13 h13 a22 h22 (R2 I.DY) (R2 I.O) (R2 I.Q) (R2 I.G) (R2 I.GN) (R2 I.C) (R3 I.CAR) = R2 (I.gts 2 1) :=
  (congrArg (k0_pay131 (F := Ideal)) (r_81 I c a1 h1 a2 h2 a3 h3 a6 h6 a9 h9 a13 h13 a22 h22)).trans (p131 (I.gts 2 1))
theorem r_33 : bodyRunB.sl.r_33 (F := Ideal) c a2 h2 (R2 I.O) = R2 (I.Oh 2) :=
  (congrArg (k0_pay51 (F := Ideal)) (ld_S256x256_2 a2 h2 I.O _)).trans (p51 (I.Oh 2))
theorem r_34 : bodyRunB.sl.r_34 (F := Ideal) c a9 h9 (R2 I.GN) = R2 (I.gn 2) :=
  (congrArg (k0_pay53 (F := Ideal)) (ld_S1x256_2 a9 h9 I.GN _)).trans (p53 (I.gn 2))
theorem r_35 : bodyRunB.sl.r_35 (F := Ideal) c a2 h2 (R2 I.O) = R2 (I.rr 2) :=
  (congrArg (k0_pay54 (F := Ideal)) (ld_S256x256_2 a2 h2 I.O _)).trans (p54 I)
theorem r_36 : bodyRunB.sl.r_36 (F := Ideal) c a1 h1 a6 h6 (R2 I.DY) (R2 I.G) = R2 (I.dgn 2) :=
  (congr (congrArg (k0_pay56 (F := Ideal)) (ld_S256x256_2 a6 h6 I.G _)) (ld_S256x256_2 a1 h1 I.DY _)).trans (p56 I)
theorem r_38 : bodyRunB.sl.r_38 (F := Ideal) c a1 h1 a2 h2 a6 h6 a9 h9 (R2 I.DY) (R2 I.O) (R2 I.G) (R2 I.GN) = R2 (I.ddo 2) :=
  (congr (congr (congr (congrArg (k0_pay59 (F := Ideal)) (r_33 I c a2 h2)) (r_34 I c a9 h9)) (r_35 I c a2 h2)) (r_36 I c a1 h1 a6 h6)).trans (p59 I)
theorem r_69 : bodyRunB.sl.r_69 (F := Ideal) c a1 h1 a2 h2 a3 h3 a6 h6 a9 h9 (R2 I.DY) (R2 I.O) (R2 I.Q) (R2 I.G) (R2 I.GN) = R2 (I.own 2 2) :=
  (congr (congrArg (k0_pay94 (F := Ideal)) (r_16 I c a3 h3)) (r_38 I c a1 h1 a2 h2 a6 h6 a9 h9)).trans (p94 I)
theorem r_73 : bodyRunB.sl.r_73 (F := Ideal) c a1 h1 a2 h2 a3 h3 a6 h6 a9 h9 (R2 I.DY) (R2 I.O) (R2 I.Q) (R2 I.G) (R2 I.GN) = R2 (I.own 3 2) :=
  (congr (congrArg (k0_pay98 (F := Ideal)) (r_16 I c a3 h3)) (r_38 I c a1 h1 a2 h2 a6 h6 a9 h9)).trans (p98 I)
theorem r_82 : bodyRunB.sl.r_82 (F := Ideal) c a1 h1 a2 h2 a3 h3 a6 h6 a9 h9 a13 h13 a22 h22 (R2 I.DY) (R2 I.O) (R2 I.Q) (R2 I.G) (R2 I.GN) (R2 I.C) (R3 I.CAR) = R2 (I.gts 2 2) :=
  (congr (congr (congr (congrArg (k0_pay107 (F := Ideal)) (r_11 I c a13 h13)) (r_69 I c a1 h1 a2 h2 a3 h3 a6 h6 a9 h9)) (r_73 I c a1 h1 a2 h2 a3 h3 a6 h6 a9 h9)) (ldCAR_2 I a22 h22 _)).trans (p107 I)
theorem r_103 : bodyRunB.sl.r_103 (F := Ideal) c a1 h1 a2 h2 a3 h3 a6 h6 a9 h9 a13 h13 a22 h22 (R2 I.DY) (R2 I.O) (R2 I.Q) (R2 I.G) (R2 I.GN) (R2 I.C) (R3 I.CAR) = R2 (I.gts 2 2) :=
  (congrArg (k0_pay132 (F := Ideal)) (r_82 I c a1 h1 a2 h2 a3 h3 a6 h6 a9 h9 a13 h13 a22 h22)).trans (p132 (I.gts 2 2))
theorem r_83 : bodyRunB.sl.r_83 (F := Ideal) c a1 h1 a2 h2 a3 h3 a6 h6 a9 h9 a13 h13 a22 h22 (R2 I.DY) (R2 I.O) (R2 I.Q) (R2 I.G) (R2 I.GN) (R2 I.C) (R3 I.CAR) = R2 (I.gts 2 3) :=
  (congr (congr (congr (congr (congrArg (k0_pay108 (F := Ideal)) (r_11 I c a13 h13)) (r_70 I c a1 h1 a2 h2 a3 h3 a6 h6 a9 h9)) (r_74 I c a1 h1 a2 h2 a6 h6 a9 h9)) (r_75 I c a3 h3)) (ldCAR_3 I a22 h22 _)).trans (p108 I)
theorem r_104 : bodyRunB.sl.r_104 (F := Ideal) c a1 h1 a2 h2 a3 h3 a6 h6 a9 h9 a13 h13 a22 h22 (R2 I.DY) (R2 I.O) (R2 I.Q) (R2 I.G) (R2 I.GN) (R2 I.C) (R3 I.CAR) = R2 (I.gts 2 3) :=
  (congrArg (k0_pay133 (F := Ideal)) (r_83 I c a1 h1 a2 h2 a3 h3 a6 h6 a9 h9 a13 h13 a22 h22)).trans (p133 (I.gts 2 3))
theorem r_76 : bodyRunB.sl.r_76 (F := Ideal) c a1 h1 a2 h2 a3 h3 a6 h6 a9 h9 a22 h22 (R2 I.DY) (R2 I.O) (R2 I.Q) (R2 I.G) (R2 I.GN) (R3 I.CAR) = R2 (I.gts 3 0) :=
  (congr (congrArg (k0_pay101 (F := Ideal)) (r_71 I c a1 h1 a2 h2 a3 h3 a6 h6 a9 h9)) (ldCAR_0 I a22 h22 _)).trans (p101 I)
theorem r_105 : bodyRunB.sl.r_105 (F := Ideal) c a1 h1 a2 h2 a3 h3 a6 h6 a9 h9 a22 h22 (R2 I.DY) (R2 I.O) (R2 I.Q) (R2 I.G) (R2 I.GN) (R3 I.CAR) = R2 (I.gts 3 0) :=
  (congrArg (k0_pay134 (F := Ideal)) (r_76 I c a1 h1 a2 h2 a3 h3 a6 h6 a9 h9 a22 h22)).trans (p134 (I.gts 3 0))
theorem r_77 : bodyRunB.sl.r_77 (F := Ideal) c a1 h1 a2 h2 a3 h3 a6 h6 a9 h9 a22 h22 (R2 I.DY) (R2 I.O) (R2 I.Q) (R2 I.G) (R2 I.GN) (R3 I.CAR) = R2 (I.gts 3 1) :=
  (congr (congrArg (k0_pay102 (F := Ideal)) (r_72 I c a1 h1 a2 h2 a3 h3 a6 h6 a9 h9)) (ldCAR_1 I a22 h22 _)).trans (p102 I)
theorem r_106 : bodyRunB.sl.r_106 (F := Ideal) c a1 h1 a2 h2 a3 h3 a6 h6 a9 h9 a22 h22 (R2 I.DY) (R2 I.O) (R2 I.Q) (R2 I.G) (R2 I.GN) (R3 I.CAR) = R2 (I.gts 3 1) :=
  (congrArg (k0_pay135 (F := Ideal)) (r_77 I c a1 h1 a2 h2 a3 h3 a6 h6 a9 h9 a22 h22)).trans (p135 (I.gts 3 1))
theorem r_78 : bodyRunB.sl.r_78 (F := Ideal) c a1 h1 a2 h2 a3 h3 a6 h6 a9 h9 a22 h22 (R2 I.DY) (R2 I.O) (R2 I.Q) (R2 I.G) (R2 I.GN) (R3 I.CAR) = R2 (I.gts 3 2) :=
  (congr (congrArg (k0_pay103 (F := Ideal)) (r_73 I c a1 h1 a2 h2 a3 h3 a6 h6 a9 h9)) (ldCAR_2 I a22 h22 _)).trans (p103 I)
theorem r_107 : bodyRunB.sl.r_107 (F := Ideal) c a1 h1 a2 h2 a3 h3 a6 h6 a9 h9 a22 h22 (R2 I.DY) (R2 I.O) (R2 I.Q) (R2 I.G) (R2 I.GN) (R3 I.CAR) = R2 (I.gts 3 2) :=
  (congrArg (k0_pay136 (F := Ideal)) (r_78 I c a1 h1 a2 h2 a3 h3 a6 h6 a9 h9 a22 h22)).trans (p136 (I.gts 3 2))
theorem r_79 : bodyRunB.sl.r_79 (F := Ideal) c a1 h1 a2 h2 a3 h3 a6 h6 a9 h9 a22 h22 (R2 I.DY) (R2 I.O) (R2 I.Q) (R2 I.G) (R2 I.GN) (R3 I.CAR) = R2 (I.gts 3 3) :=
  (congr (congr (congrArg (k0_pay104 (F := Ideal)) (r_74 I c a1 h1 a2 h2 a6 h6 a9 h9)) (r_75 I c a3 h3)) (ldCAR_3 I a22 h22 _)).trans (p104 I)
theorem r_108 : bodyRunB.sl.r_108 (F := Ideal) c a1 h1 a2 h2 a3 h3 a6 h6 a9 h9 a22 h22 (R2 I.DY) (R2 I.O) (R2 I.Q) (R2 I.G) (R2 I.GN) (R3 I.CAR) = R2 (I.gts 3 3) :=
  (congrArg (k0_pay137 (F := Ideal)) (r_79 I c a1 h1 a2 h2 a3 h3 a6 h6 a9 h9 a22 h22)).trans (p137 (I.gts 3 3))
theorem r_14 : bodyRunB.sl.r_14 (F := Ideal) c a5 h5 (R2 I.V) = R2 I.V :=
  (congrArg (k0_pay27 (F := Ideal)) (ld_S256x1024 a5 h5 I.V _)).trans (p27 I.V)
theorem r_57 : bodyRunB.sl.r_57 (F := Ideal) c a1 h1 a2 h2 a6 h6 a9 h9 (R2 I.DY) (R2 I.O) (R2 I.G) (R2 I.GN) = R2 (I.ddos 0 0) :=
  (congrArg (k0_pay82 (F := Ideal)) (r_22 I c a1 h1 a2 h2 a6 h6 a9 h9)).trans (p82 I)
theorem r_58 : bodyRunB.sl.r_58 (F := Ideal) c a3 h3 (R2 I.Q) = R2 (I.qss 0 0) :=
  (congrArg (k0_pay83 (F := Ideal)) (r_16 I c a3 h3)).trans (p83 I)
theorem r_59 : bodyRunB.sl.r_59 (F := Ideal) c a1 h1 a2 h2 a3 h3 a6 h6 a9 h9 (R2 I.DY) (R2 I.O) (R2 I.Q) (R2 I.G) (R2 I.GN) = R2 (I.own 0 0) :=
  (congr (congrArg (k0_pay84 (F := Ideal)) (r_57 I c a1 h1 a2 h2 a6 h6 a9 h9)) (r_58 I c a3 h3)).trans (p84 I)
theorem r_63 : bodyRunB.sl.r_63 (F := Ideal) c a1 h1 a2 h2 a3 h3 a6 h6 a9 h9 (R2 I.DY) (R2 I.O) (R2 I.Q) (R2 I.G) (R2 I.GN) = R2 (I.own 1 0) :=
  (congr (congrArg (k0_pay88 (F := Ideal)) (r_16 I c a3 h3)) (r_22 I c a1 h1 a2 h2 a6 h6 a9 h9)).trans (p88 I)
theorem r_84 : bodyRunB.sl.r_84 (F := Ideal) c a1 h1 a2 h2 a3 h3 a6 h6 a9 h9 a13 h13 a22 h22 (R2 I.DY) (R2 I.O) (R2 I.Q) (R2 I.G) (R2 I.GN) (R2 I.C) (R3 I.CAR) = R2 (I.gts 1 0) :=
  (congr (congr (congr (congr (congr (congrArg (k0_pay109 (F := Ideal)) (r_10 I c a13 h13)) (r_11 I c a13 h13)) (r_63 I c a1 h1 a2 h2 a3 h3 a6 h6 a9 h9)) (r_67 I c a1 h1 a2 h2 a3 h3 a6 h6 a9 h9)) (r_71 I c a1 h1 a2 h2 a3 h3 a6 h6 a9 h9)) (ldCAR_0 I a22 h22 _)).trans (p109 I)
theorem r_6 : bodyRunB.sl.r_6 (F := Ideal) c a13 h13 (R2 I.C) = R1 (I.cend 1 0) :=
  (congrArg (k0_pay16 (F := Ideal)) (ld_S256x512 a13 h13 I.C _)).trans (p16 I)
theorem r_9 : bodyRunB.sl.r_9 (F := Ideal) c a13 h13 (R2 I.C) = R2 (I.A 1) :=
  (congrArg (k0_pay22 (F := Ideal)) (r_6 I c a13 h13)).trans (p22 I)
theorem r_88 : bodyRunB.sl.r_88 (F := Ideal) c a13 h13 (R2 I.C) = R2 (I.Ab 1 0) :=
  (congrArg (k0_pay113 (F := Ideal)) (r_9 I c a13 h13)).trans (p113 I)
theorem r_93 : bodyRunB.sl.r_93 (F := Ideal) c a1 h1 a2 h2 a3 h3 a6 h6 a9 h9 a13 h13 a22 h22 (R2 I.DY) (R2 I.O) (R2 I.Q) (R2 I.G) (R2 I.GN) (R2 I.C) (R3 I.CAR) = R2 (I.gts 0 0) :=
  (congr (congr (congrArg (k0_pay122 (F := Ideal)) (r_59 I c a1 h1 a2 h2 a3 h3 a6 h6 a9 h9)) (r_84 I c a1 h1 a2 h2 a3 h3 a6 h6 a9 h9 a13 h13 a22 h22)) (r_88 I c a13 h13)).trans (p122 I)
theorem r_60 : bodyRunB.sl.r_60 (F := Ideal) c a1 h1 a2 h2 a3 h3 a6 h6 a9 h9 (R2 I.DY) (R2 I.O) (R2 I.Q) (R2 I.G) (R2 I.GN) = R2 (I.own 0 1) :=
  (congr (congrArg (k0_pay85 (F := Ideal)) (r_16 I c a3 h3)) (r_32 I c a1 h1 a2 h2 a6 h6 a9 h9)).trans (p85 I)
theorem r_64 : bodyRunB.sl.r_64 (F := Ideal) c a1 h1 a2 h2 a3 h3 a6 h6 a9 h9 (R2 I.DY) (R2 I.O) (R2 I.Q) (R2 I.G) (R2 I.GN) = R2 (I.own 1 1) :=
  (congr (congrArg (k0_pay89 (F := Ideal)) (r_16 I c a3 h3)) (r_32 I c a1 h1 a2 h2 a6 h6 a9 h9)).trans (p89 I)
theorem r_85 : bodyRunB.sl.r_85 (F := Ideal) c a1 h1 a2 h2 a3 h3 a6 h6 a9 h9 a13 h13 a22 h22 (R2 I.DY) (R2 I.O) (R2 I.Q) (R2 I.G) (R2 I.GN) (R2 I.C) (R3 I.CAR) = R2 (I.gts 1 1) :=
  (congr (congr (congr (congr (congr (congrArg (k0_pay110 (F := Ideal)) (r_10 I c a13 h13)) (r_11 I c a13 h13)) (r_64 I c a1 h1 a2 h2 a3 h3 a6 h6 a9 h9)) (r_68 I c a1 h1 a2 h2 a3 h3 a6 h6 a9 h9)) (r_72 I c a1 h1 a2 h2 a3 h3 a6 h6 a9 h9)) (ldCAR_1 I a22 h22 _)).trans (p110 I)
theorem r_94 : bodyRunB.sl.r_94 (F := Ideal) c a1 h1 a2 h2 a3 h3 a6 h6 a9 h9 a13 h13 a22 h22 (R2 I.DY) (R2 I.O) (R2 I.Q) (R2 I.G) (R2 I.GN) (R2 I.C) (R3 I.CAR) = R2 (I.gts 0 1) :=
  (congr (congr (congrArg (k0_pay123 (F := Ideal)) (r_9 I c a13 h13)) (r_60 I c a1 h1 a2 h2 a3 h3 a6 h6 a9 h9)) (r_85 I c a1 h1 a2 h2 a3 h3 a6 h6 a9 h9 a13 h13 a22 h22)).trans (p123 I)
theorem r_61 : bodyRunB.sl.r_61 (F := Ideal) c a1 h1 a2 h2 a3 h3 a6 h6 a9 h9 (R2 I.DY) (R2 I.O) (R2 I.Q) (R2 I.G) (R2 I.GN) = R2 (I.own 0 2) :=
  (congr (congrArg (k0_pay86 (F := Ideal)) (r_16 I c a3 h3)) (r_38 I c a1 h1 a2 h2 a6 h6 a9 h9)).trans (p86 I)
theorem r_65 : bodyRunB.sl.r_65 (F := Ideal) c a1 h1 a2 h2 a3 h3 a6 h6 a9 h9 (R2 I.DY) (R2 I.O) (R2 I.Q) (R2 I.G) (R2 I.GN) = R2 (I.own 1 2) :=
  (congr (congrArg (k0_pay90 (F := Ideal)) (r_16 I c a3 h3)) (r_38 I c a1 h1 a2 h2 a6 h6 a9 h9)).trans (p90 I)
theorem r_86 : bodyRunB.sl.r_86 (F := Ideal) c a1 h1 a2 h2 a3 h3 a6 h6 a9 h9 a13 h13 a22 h22 (R2 I.DY) (R2 I.O) (R2 I.Q) (R2 I.G) (R2 I.GN) (R2 I.C) (R3 I.CAR) = R2 (I.gts 1 2) :=
  (congr (congr (congr (congr (congr (congrArg (k0_pay111 (F := Ideal)) (r_10 I c a13 h13)) (r_11 I c a13 h13)) (r_65 I c a1 h1 a2 h2 a3 h3 a6 h6 a9 h9)) (r_69 I c a1 h1 a2 h2 a3 h3 a6 h6 a9 h9)) (r_73 I c a1 h1 a2 h2 a3 h3 a6 h6 a9 h9)) (ldCAR_2 I a22 h22 _)).trans (p111 I)
theorem r_95 : bodyRunB.sl.r_95 (F := Ideal) c a1 h1 a2 h2 a3 h3 a6 h6 a9 h9 a13 h13 a22 h22 (R2 I.DY) (R2 I.O) (R2 I.Q) (R2 I.G) (R2 I.GN) (R2 I.C) (R3 I.CAR) = R2 (I.gts 0 2) :=
  (congr (congr (congrArg (k0_pay124 (F := Ideal)) (r_9 I c a13 h13)) (r_61 I c a1 h1 a2 h2 a3 h3 a6 h6 a9 h9)) (r_86 I c a1 h1 a2 h2 a3 h3 a6 h6 a9 h9 a13 h13 a22 h22)).trans (p124 I)
theorem r_62 : bodyRunB.sl.r_62 (F := Ideal) c a1 h1 a2 h2 a3 h3 a6 h6 a9 h9 (R2 I.DY) (R2 I.O) (R2 I.Q) (R2 I.G) (R2 I.GN) = R2 (I.own 0 3) :=
  (congr (congrArg (k0_pay87 (F := Ideal)) (r_16 I c a3 h3)) (r_48 I c a1 h1 a2 h2 a6 h6 a9 h9)).trans (p87 I)
theorem r_96 : bodyRunB.sl.r_96 (F := Ideal) c a1 h1 a2 h2 a3 h3 a6 h6 a9 h9 a13 h13 a22 h22 (R2 I.DY) (R2 I.O) (R2 I.Q) (R2 I.G) (R2 I.GN) (R2 I.C) (R3 I.CAR) = R2 (I.gts 0 3) :=
  (congr (congr (congrArg (k0_pay125 (F := Ideal)) (r_9 I c a13 h13)) (r_62 I c a1 h1 a2 h2 a3 h3 a6 h6 a9 h9)) (r_87 I c a1 h1 a2 h2 a3 h3 a6 h6 a9 h9 a13 h13 a22 h22)).trans (p125 I)
theorem r_109 : bodyRunB.sl.r_109 (F := Ideal) c a1 h1 a2 h2 a3 h3 a5 h5 a6 h6 a9 h9 a13 h13 a22 h22 (R2 I.DY) (R2 I.O) (R2 I.Q) (R2 I.V) (R2 I.G) (R2 I.GN) (R2 I.C) (R3 I.CAR) = R2 (I.dkdc 0) :=
  (congr (congr (congr (congr (congrArg (k0_pay138 (F := Ideal)) (r_14 I c a5 h5)) (r_93 I c a1 h1 a2 h2 a3 h3 a6 h6 a9 h9 a13 h13 a22 h22)) (r_94 I c a1 h1 a2 h2 a3 h3 a6 h6 a9 h9 a13 h13 a22 h22)) (r_95 I c a1 h1 a2 h2 a3 h3 a6 h6 a9 h9 a13 h13 a22 h22)) (r_96 I c a1 h1 a2 h2 a3 h3 a6 h6 a9 h9 a13 h13 a22 h22)).trans (p138 I)
theorem r_97 : bodyRunB.sl.r_97 (F := Ideal) c a1 h1 a2 h2 a3 h3 a6 h6 a9 h9 a13 h13 a22 h22 (R2 I.DY) (R2 I.O) (R2 I.Q) (R2 I.G) (R2 I.GN) (R2 I.C) (R3 I.CAR) = R2 (I.gts 1 0) :=
  (congrArg (k0_pay126 (F := Ideal)) (r_84 I c a1 h1 a2 h2 a3 h3 a6 h6 a9 h9 a13 h13 a22 h22)).trans (p126 (I.gts 1 0))
theorem r_98 : bodyRunB.sl.r_98 (F := Ideal) c a1 h1 a2 h2 a3 h3 a6 h6 a9 h9 a13 h13 a22 h22 (R2 I.DY) (R2 I.O) (R2 I.Q) (R2 I.G) (R2 I.GN) (R2 I.C) (R3 I.CAR) = R2 (I.gts 1 1) :=
  (congrArg (k0_pay127 (F := Ideal)) (r_85 I c a1 h1 a2 h2 a3 h3 a6 h6 a9 h9 a13 h13 a22 h22)).trans (p127 (I.gts 1 1))
theorem r_110 : bodyRunB.sl.r_110 (F := Ideal) c a1 h1 a2 h2 a3 h3 a5 h5 a6 h6 a9 h9 a13 h13 a22 h22 (R2 I.DY) (R2 I.O) (R2 I.Q) (R2 I.V) (R2 I.G) (R2 I.GN) (R2 I.C) (R3 I.CAR) = R2 (I.dkdc 1) :=
  (congr (congr (congr (congr (congrArg (k0_pay139 (F := Ideal)) (r_14 I c a5 h5)) (r_86 I c a1 h1 a2 h2 a3 h3 a6 h6 a9 h9 a13 h13 a22 h22)) (r_87 I c a1 h1 a2 h2 a3 h3 a6 h6 a9 h9 a13 h13 a22 h22)) (r_97 I c a1 h1 a2 h2 a3 h3 a6 h6 a9 h9 a13 h13 a22 h22)) (r_98 I c a1 h1 a2 h2 a3 h3 a6 h6 a9 h9 a13 h13 a22 h22)).trans (p139 I)
theorem r_111 : bodyRunB.sl.r_111 (F := Ideal) c a1 h1 a2 h2 a3 h3 a5 h5 a6 h6 a9 h9 a13 h13 a22 h22 (R2 I.DY) (R2 I.O) (R2 I.Q) (R2 I.V) (R2 I.G) (R2 I.GN) (R2 I.C) (R3 I.CAR) = R2 (I.dkdc 2) :=
  (congr (congr (congr (congr (congrArg (k0_pay140 (F := Ideal)) (r_14 I c a5 h5)) (r_80 I c a1 h1 a2 h2 a3 h3 a6 h6 a9 h9 a13 h13 a22 h22)) (r_81 I c a1 h1 a2 h2 a3 h3 a6 h6 a9 h9 a13 h13 a22 h22)) (r_82 I c a1 h1 a2 h2 a3 h3 a6 h6 a9 h9 a13 h13 a22 h22)) (r_83 I c a1 h1 a2 h2 a3 h3 a6 h6 a9 h9 a13 h13 a22 h22)).trans (p140 I)
theorem r_112 : bodyRunB.sl.r_112 (F := Ideal) c a1 h1 a2 h2 a3 h3 a5 h5 a6 h6 a9 h9 a22 h22 (R2 I.DY) (R2 I.O) (R2 I.Q) (R2 I.V) (R2 I.G) (R2 I.GN) (R3 I.CAR) = R2 (I.dkdp 3 0) :=
  (congr (congrArg (k0_pay141 (F := Ideal)) (r_14 I c a5 h5)) (r_76 I c a1 h1 a2 h2 a3 h3 a6 h6 a9 h9 a22 h22)).trans (p141 I)
theorem r_113 : bodyRunB.sl.r_113 (F := Ideal) c a1 h1 a2 h2 a3 h3 a5 h5 a6 h6 a9 h9 a22 h22 (R2 I.DY) (R2 I.O) (R2 I.Q) (R2 I.V) (R2 I.G) (R2 I.GN) (R3 I.CAR) = R2 (I.dkdp 3 1) :=
  (congr (congrArg (k0_pay142 (F := Ideal)) (r_14 I c a5 h5)) (r_77 I c a1 h1 a2 h2 a3 h3 a6 h6 a9 h9 a22 h22)).trans (p142 I)
theorem r_114 : bodyRunB.sl.r_114 (F := Ideal) c a1 h1 a2 h2 a3 h3 a5 h5 a6 h6 a9 h9 a22 h22 (R2 I.DY) (R2 I.O) (R2 I.Q) (R2 I.V) (R2 I.G) (R2 I.GN) (R3 I.CAR) = R2 (I.dkdp 3 2) :=
  (congr (congrArg (k0_pay143 (F := Ideal)) (r_14 I c a5 h5)) (r_78 I c a1 h1 a2 h2 a3 h3 a6 h6 a9 h9 a22 h22)).trans (p143 I)
theorem r_115 : bodyRunB.sl.r_115 (F := Ideal) c a5 h5 (R2 I.V) = R2 (I.vs 3 3) :=
  (congrArg (k0_pay144 (F := Ideal)) (r_14 I c a5 h5)).trans (p144 I)
theorem r_116 : bodyRunB.sl.r_116 (F := Ideal) c a1 h1 a2 h2 a3 h3 a5 h5 a6 h6 a9 h9 a13 h13 a22 h22 (R2 I.DY) (R2 I.O) (R2 I.Q) (R2 I.V) (R2 I.G) (R2 I.GN) (R2 I.C) (R3 I.CAR) = R2 I.dkd :=
  (congr (congr (congr (congr (congr (congr (congr (congr (congrArg (k0_pay145 (F := Ideal)) (r_108 I c a1 h1 a2 h2 a3 h3 a6 h6 a9 h9 a22 h22)) (r_109 I c a1 h1 a2 h2 a3 h3 a5 h5 a6 h6 a9 h9 a13 h13 a22 h22)) (r_110 I c a1 h1 a2 h2 a3 h3 a5 h5 a6 h6 a9 h9 a13 h13 a22 h22)) (r_111 I c a1 h1 a2 h2 a3 h3 a5 h5 a6 h6 a9 h9 a13 h13 a22 h22)) (r_112 I c a1 h1 a2 h2 a3 h3 a5 h5 a6 h6 a9 h9 a22 h22)) (r_113 I c a1 h1 a2 h2 a3 h3 a5 h5 a6 h6 a9 h9 a22 h22)) (r_114 I c a1 h1 a2 h2 a3 h3 a5 h5 a6 h6 a9 h9 a22 h22)) (r_115 I c a5 h5)) rfl).trans (p145 I)
theorem r_5 : bodyRunB.sl.r_5 (F := Ideal) c a13 h13 (R2 I.C) = R2 (I.cend 0) :=
  (congrArg (k0_pay15 (F := Ideal)) (ld_S256x512 a13 h13 I.C _)).trans (p15 I)
theorem r_13 : bodyRunB.sl.r_13 (F := Ideal) c a4 h4 a13 h13 (R2 I.K) (R2 I.C) = R2 I.kd :=
  (congr (congr (congr (congr (congrArg (k0_pay26 (F := Ideal)) (r_4 I c a13 h13)) rfl) (r_5 I c a13 h13)) (r_6 I c a13 h13)) (ld_S256x512 a4 h4 I.K _)).trans (p26 I)
theorem r_117 : bodyRunB.sl.r_117 (F := Ideal) c a1 h1 a2 h2 a3 h3 a4 h4 a6 h6 a9 h9 a13 h13 a22 h22 (R2 I.DY) (R2 I.O) (R2 I.Q) (R2 I.K) (R2 I.G) (R2 I.GN) (R2 I.C) (R3 I.CAR) = R2 (I.dvp 0 0) :=
  (congr (congrArg (k0_pay146 (F := Ideal)) (r_13 I c a4 h4 a13 h13)) (r_93 I c a1 h1 a2 h2 a3 h3 a6 h6 a9 h9 a13 h13 a22 h22)).trans (p146 I)
theorem r_118 : bodyRunB.sl.r_118 (F := Ideal) c a1 h1 a2 h2 a3 h3 a4 h4 a6 h6 a9 h9 a13 h13 a22 h22 (R2 I.DY) (R2 I.O) (R2 I.Q) (R2 I.K) (R2 I.G) (R2 I.GN) (R2 I.C) (R3 I.CAR) = R2 (I.dvp 0 1) :=
  (congr (congrArg (k0_pay147 (F := Ideal)) (r_13 I c a4 h4 a13 h13)) (r_94 I c a1 h1 a2 h2 a3 h3 a6 h6 a9 h9 a13 h13 a22 h22)).trans (p147 I)
theorem r_119 : bodyRunB.sl.r_119 (F := Ideal) c a1 h1 a2 h2 a3 h3 a4 h4 a6 h6 a9 h9 a13 h13 a22 h22 (R2 I.DY) (R2 I.O) (R2 I.Q) (R2 I.K) (R2 I.G) (R2 I.GN) (R2 I.C) (R3 I.CAR) = R2 (I.dvp 0 2) :=
  (congr (congrArg (k0_pay148 (F := Ideal)) (r_13 I c a4 h4 a13 h13)) (r_95 I c a1 h1 a2 h2 a3 h3 a6 h6 a9 h9 a13 h13 a22 h22)).trans (p148 I)
theorem r_12 : bodyRunB.sl.r_12 (F := Ideal) c a4 h4 (R2 I.K) = R2 I.K :=
  (congrArg (k0_pay25 (F := Ideal)) (ld_S256x512 a4 h4 I.K _)).trans (p25 I.K)
theorem r_120 : bodyRunB.sl.r_120 (F := Ideal) c a1 h1 a2 h2 a3 h3 a4 h4 a6 h6 a9 h9 a13 h13 a22 h22 (R2 I.DY) (R2 I.O) (R2 I.Q) (R2 I.K) (R2 I.G) (R2 I.GN) (R2 I.C) (R3 I.CAR) = R2 (I.dvp 0 3) :=
  (congr (congrArg (k0_pay149 (F := Ideal)) (r_13 I c a4 h4 a13 h13)) (r_96 I c a1 h1 a2 h2 a3 h3 a6 h6 a9 h9 a13 h13 a22 h22)).trans (p149 I)
theorem r_121 : bodyRunB.sl.r_121 (F := Ideal) c a1 h1 a2 h2 a3 h3 a4 h4 a6 h6 a9 h9 a13 h13 a22 h22 (R2 I.DY) (R2 I.O) (R2 I.Q) (R2 I.K) (R2 I.G) (R2 I.GN) (R2 I.C) (R3 I.CAR) = R2 (I.dvp 1 0) :=
  (congr (congrArg (k0_pay150 (F := Ideal)) (r_13 I c a4 h4 a13 h13)) (r_97 I c a1 h1 a2 h2 a3 h3 a6 h6 a9 h9 a13 h13 a22 h22)).trans (p150 I)
theorem r_122 : bodyRunB.sl.r_122 (F := Ideal) c a1 h1 a2 h2 a3 h3 a4 h4 a6 h6 a9 h9 a13 h13 a22 h22 (R2 I.DY) (R2 I.O) (R2 I.Q) (R2 I.K) (R2 I.G) (R2 I.GN) (R2 I.C) (R3 I.CAR) = R2 (I.dvp 1 1) :=
  (congr (congrArg (k0_pay151 (F := Ideal)) (r_13 I c a4 h4 a13 h13)) (r_98 I c a1 h1 a2 h2 a3 h3 a6 h6 a9 h9 a13 h13 a22 h22)).trans (p151 I)
theorem r_99 : bodyRunB.sl.r_99 (F := Ideal) c a1 h1 a2 h2 a3 h3 a6 h6 a9 h9 a13 h13 a22 h22 (R2 I.DY) (R2 I.O) (R2 I.Q) (R2 I.G) (R2 I.GN) (R2 I.C) (R3 I.CAR) = R2 (I.gts 1 2) :=
  (congrArg (k0_pay128 (F := Ideal)) (r_86 I c a1 h1 a2 h2 a3 h3 a6 h6 a9 h9 a13 h13 a22 h22)).trans (p128 (I.gts 1 2))
theorem r_123 : bodyRunB.sl.r_123 (F := Ideal) c a1 h1 a2 h2 a3 h3 a4 h4 a6 h6 a9 h9 a13 h13 a22 h22 (R2 I.DY) (R2 I.O) (R2 I.Q) (R2 I.K) (R2 I.G) (R2 I.GN) (R2 I.C) (R3 I.CAR) = R2 (I.dvp 1 2) :=
  (congr (congrArg (k0_pay152 (F := Ideal)) (r_13 I c a4 h4 a13 h13)) (r_99 I c a1 h1 a2 h2 a3 h3 a6 h6 a9 h9 a13 h13 a22 h22)).trans (p152 I)
theorem r_124 : bodyRunB.sl.r_124 (F := Ideal) c a1 h1 a2 h2 a3 h3 a4 h4 a6 h6 a9 h9 a13 h13 a22 h22 (R2 I.DY) (R2 I.O) (R2 I.Q) (R2 I.K) (R2 I.G) (R2 I.GN) (R2 I.C) (R3 I.CAR) = R2 (I.dvp 1 3) :=
  (congr (congrArg (k0_pay153 (F := Ideal)) (r_13 I c a4 h4 a13 h13)) (r_100 I c a1 h1 a2 h2 a3 h3 a6 h6 a9 h9 a13 h13 a22 h22)).trans (p153 I)
theorem r_125 : bodyRunB.sl.r_125 (F := Ideal) c a1 h1 a2 h2 a3 h3 a4 h4 a6 h6 a9 h9 a13 h13 a22 h22 (R2 I.DY) (R2 I.O) (R2 I.Q) (R2 I.K) (R2 I.G) (R2 I.GN) (R2 I.C) (R3 I.CAR) = R2 (I.dvp 2 0) :=
  (congr (congrArg (k0_pay154 (F := Ideal)) (r_13 I c a4 h4 a13 h13)) (r_101 I c a1 h1 a2 h2 a3 h3 a6 h6 a9 h9 a13 h13 a22 h22)).trans (p154 I)
theorem r_126 : bodyRunB.sl.r_126 (F := Ideal) c a1 h1 a2 h2 a3 h3 a4 h4 a6 h6 a9 h9 a13 h13 a22 h22 (R2 I.DY) (R2 I.O) (R2 I.Q) (R2 I.K) (R2 I.G) (R2 I.GN) (R2 I.C) (R3 I.CAR) = R2 (I.dvp 2 1) :=
  (congr (congrArg (k0_pay155 (F := Ideal)) (r_13 I c a4 h4 a13 h13)) (r_102 I c a1 h1 a2 h2 a3 h3 a6 h6 a9 h9 a13 h13 a22 h22)).trans (p155 I)
theorem r_127 : bodyRunB.sl.r_127 (F := Ideal) c a1 h1 a2 h2 a3 h3 a4 h4 a6 h6 a9 h9 a13 h13 a22 h22 (R2 I.DY) (R2 I.O) (R2 I.Q) (R2 I.K) (R2 I.G) (R2 I.GN) (R2 I.C) (R3 I.CAR) = R2 (I.dvp 2 2) :=
  (congr (congrArg (k0_pay156 (F := Ideal)) (r_13 I c a4 h4 a13 h13)) (r_103 I c a1 h1 a2 h2 a3 h3 a6 h6 a9 h9 a13 h13 a22 h22)).trans (p156 I)
theorem r_128 : bodyRunB.sl.r_128 (F := Ideal) c a1 h1 a2 h2 a3 h3 a4 h4 a6 h6 a9 h9 a13 h13 a22 h22 (R2 I.DY) (R2 I.O) (R2 I.Q) (R2 I.K) (R2 I.G) (R2 I.GN) (R2 I.C) (R3 I.CAR) = R2 (I.dvp 2 3) :=
  (congr (congrArg (k0_pay157 (F := Ideal)) (r_13 I c a4 h4 a13 h13)) (r_104 I c a1 h1 a2 h2 a3 h3 a6 h6 a9 h9 a13 h13 a22 h22)).trans (p157 I)
theorem r_129 : bodyRunB.sl.r_129 (F := Ideal) c a1 h1 a2 h2 a3 h3 a4 h4 a6 h6 a9 h9 a13 h13 a22 h22 (R2 I.DY) (R2 I.O) (R2 I.Q) (R2 I.K) (R2 I.G) (R2 I.GN) (R2 I.C) (R3 I.CAR) = R2 (I.dvp 3 0) :=
  (congr (congrArg (k0_pay158 (F := Ideal)) (r_13 I c a4 h4 a13 h13)) (r_105 I c a1 h1 a2 h2 a3 h3 a6 h6 a9 h9 a22 h22)).trans (p158 I)
theorem r_130 : bodyRunB.sl.r_130 (F := Ideal) c a1 h1 a2 h2 a3 h3 a4 h4 a6 h6 a9 h9 a13 h13 a22 h22 (R2 I.DY) (R2 I.O) (R2 I.Q) (R2 I.K) (R2 I.G) (R2 I.GN) (R2 I.C) (R3 I.CAR) = R2 (I.dvp 3 1) :=
  (congr (congrArg (k0_pay159 (F := Ideal)) (r_13 I c a4 h4 a13 h13)) (r_106 I c a1 h1 a2 h2 a3 h3 a6 h6 a9 h9 a22 h22)).trans (p159 I)
theorem r_131 : bodyRunB.sl.r_131 (F := Ideal) c a1 h1 a2 h2 a3 h3 a4 h4 a6 h6 a9 h9 a13 h13 a22 h22 (R2 I.DY) (R2 I.O) (R2 I.Q) (R2 I.K) (R2 I.G) (R2 I.GN) (R2 I.C) (R3 I.CAR) = R2 (I.dvp 3 2) :=
  (congr (congrArg (k0_pay160 (F := Ideal)) (r_13 I c a4 h4 a13 h13)) (r_107 I c a1 h1 a2 h2 a3 h3 a6 h6 a9 h9 a22 h22)).trans (p160 I)
theorem r_132 : bodyRunB.sl.r_132 (F := Ideal) c a1 h1 a2 h2 a3 h3 a4 h4 a6 h6 a9 h9 a13 h13 a22 h22 (R2 I.DY) (R2 I.O) (R2 I.Q) (R2 I.K) (R2 I.G) (R2 I.GN) (R2 I.C) (R3 I.CAR) = R2 (I.dvp 3 3) :=
  (congr (congrArg (k0_pay161 (F := Ideal)) (r_13 I c a4 h4 a13 h13)) (r_108 I c a1 h1 a2 h2 a3 h3 a6 h6 a9 h9 a22 h22)).trans (p161 I)
theorem r_89 : bodyRunB.sl.r_89 (F := Ideal) c a1 h1 a2 h2 a3 h3 a6 h6 a9 h9 a13 h13 a22 h22 (R2 I.DY) (R2 I.O) (R2 I.Q) (R2 I.G) (R2 I.GN) (R2 I.C) (R3 I.CAR) = R2 (I.gts 0 0) :=
  (congr (congr (congrArg (k0_pay114 (F := Ideal)) (r_59 I c a1 h1 a2 h2 a3 h3 a6 h6 a9 h9)) (r_84 I c a1 h1 a2 h2 a3 h3 a6 h6 a9 h9 a13 h13 a22 h22)) (r_88 I c a13 h13)).trans (p114 I)
theorem r_133 (hi : k0_pay5 (F := Ideal) i = ((I.hp : ℝ) : EReal)) : bodyRunB.sl.r_133 (F := Ideal) c i a1 h1 a2 h2 a3 h3 a6 h6 a9 h9 a11 h11 a13 h13 a22 h22 (R2 I.DY) (R2 I.O) (R2 I.Q) (R2 I.G) (R2 I.GN) (R4 fun _ => I.STP) (R2 I.C) (R3 I.CAR) = R2 I.gs0 :=
  (congr (congr (congrArg (k0_pay162 (F := Ideal)) hi) (r_89 I c a1 h1 a2 h2 a3 h3 a6 h6 a9 h9 a13 h13 a22 h22)) (ldSTP_0 I a11 h11 _)).trans (p162 I)
theorem r_90 : bodyRunB.sl.r_90 (F := Ideal) c a1 h1 a2 h2 a3 h3 a6 h6 a9 h9 a13 h13 a22 h22 (R2 I.DY) (R2 I.O) (R2 I.Q) (R2 I.G) (R2 I.GN) (R2 I.C) (R3 I.CAR) = R2 (I.gts 0 1) :=
  (congr (congr (congrArg (k0_pay115 (F := Ideal)) (r_9 I c a13 h13)) (r_60 I c a1 h1 a2 h2 a3 h3 a6 h6 a9 h9)) (r_85 I c a1 h1 a2 h2 a3 h3 a6 h6 a9 h9 a13 h13 a22 h22)).trans (p115 I)
theorem r_91 : bodyRunB.sl.r_91 (F := Ideal) c a1 h1 a2 h2 a3 h3 a6 h6 a9 h9 a13 h13 a22 h22 (R2 I.DY) (R2 I.O) (R2 I.Q) (R2 I.G) (R2 I.GN) (R2 I.C) (R3 I.CAR) = R2 (I.gts 0 2) :=
  (congr (congr (congrArg (k0_pay116 (F := Ideal)) (r_9 I c a13 h13)) (r_61 I c a1 h1 a2 h2 a3 h3 a6 h6 a9 h9)) (r_86 I c a1 h1 a2 h2 a3 h3 a6 h6 a9 h9 a13 h13 a22 h22)).trans (p116 I)
theorem r_92 : bodyRunB.sl.r_92 (F := Ideal) c a1 h1 a2 h2 a3 h3 a6 h6 a9 h9 a13 h13 a22 h22 (R2 I.DY) (R2 I.O) (R2 I.Q) (R2 I.G) (R2 I.GN) (R2 I.C) (R3 I.CAR) = R2 (I.gts 0 3) :=
  (congr (congr (congrArg (k0_pay117 (F := Ideal)) (r_9 I c a13 h13)) (r_62 I c a1 h1 a2 h2 a3 h3 a6 h6 a9 h9)) (r_87 I c a1 h1 a2 h2 a3 h3 a6 h6 a9 h9 a13 h13 a22 h22)).trans (p117 I)
theorem r_134 (hi : k0_pay5 (F := Ideal) i = ((I.hp : ℝ) : EReal)) : bodyRunB.sl.r_134 (F := Ideal) c i a1 h1 a2 h2 a3 h3 a6 h6 a9 h9 a11 h11 a13 h13 a22 h22 (R2 I.DY) (R2 I.O) (R2 I.Q) (R2 I.G) (R2 I.GN) (R4 fun _ => I.STP) (R2 I.C) (R3 I.CAR) = R2 (I.da 0) :=
  (congr (congr (congr (congr (congr (congr (congr (congrArg (k0_pay163 (F := Ideal)) hi) (r_90 I c a1 h1 a2 h2 a3 h3 a6 h6 a9 h9 a13 h13 a22 h22)) (r_91 I c a1 h1 a2 h2 a3 h3 a6 h6 a9 h9 a13 h13 a22 h22)) (r_92 I c a1 h1 a2 h2 a3 h3 a6 h6 a9 h9 a13 h13 a22 h22)) (r_133 I c i a1 h1 a2 h2 a3 h3 a6 h6 a9 h9 a11 h11 a13 h13 a22 h22 hi)) (ldSTP_1 I a11 h11 _)) (ldSTP_2 I a11 h11 _)) (ldSTP_3 I a11 h11 _)).trans (p163 I)
theorem r_135 : bodyRunB.sl.r_135 (F := Ideal) c a1 h1 a2 h2 a3 h3 a6 h6 a9 h9 a10 h10 a13 h13 a22 h22 (R2 I.DY) (R2 I.O) (R2 I.Q) (R2 I.G) (R2 I.GN) (R4 I.ST) (R2 I.C) (R3 I.CAR) = R2 (I.dap 1 0) :=
  (congr (congrArg (k0_pay164 (F := Ideal)) (r_84 I c a1 h1 a2 h2 a3 h3 a6 h6 a9 h9 a13 h13 a22 h22)) (ldST_0_0 I a10 h10 _)).trans (p164 I)
theorem r_136 : bodyRunB.sl.r_136 (F := Ideal) c a1 h1 a2 h2 a3 h3 a6 h6 a9 h9 a10 h10 a13 h13 a22 h22 (R2 I.DY) (R2 I.O) (R2 I.Q) (R2 I.G) (R2 I.GN) (R4 I.ST) (R2 I.C) (R3 I.CAR) = R2 (I.dap 1 1) :=
  (congr (congrArg (k0_pay165 (F := Ideal)) (r_85 I c a1 h1 a2 h2 a3 h3 a6 h6 a9 h9 a13 h13 a22 h22)) (ldST_0_1 I a10 h10 _)).trans (p165 I)
theorem r_137 : bodyRunB.sl.r_137 (F := Ideal) c a1 h1 a2 h2 a3 h3 a6 h6 a9 h9 a10 h10 a13 h13 a22 h22 (R2 I.DY) (R2 I.O) (R2 I.Q) (R2 I.G) (R2 I.GN) (R4 I.ST) (R2 I.C) (R3 I.CAR) = R2 (I.da 1) :=
  (congr (congr (congr (congr (congr (congrArg (k0_pay166 (F := Ideal)) (r_86 I c a1 h1 a2 h2 a3 h3 a6 h6 a9 h9 a13 h13 a22 h22)) (r_87 I c a1 h1 a2 h2 a3 h3 a6 h6 a9 h9 a13 h13 a22 h22)) (r_135 I c a1 h1 a2 h2 a3 h3 a6 h6 a9 h9 a10 h10 a13 h13 a22 h22)) (r_136 I c a1 h1 a2 h2 a3 h3 a6 h6 a9 h9 a10 h10 a13 h13 a22 h22)) (ldST_0_2 I a10 h10 _)) (ldST_0_3 I a10 h10 _)).trans (p166 I)
theorem r_138 : bodyRunB.sl.r_138 (F := Ideal) c a1 h1 a2 h2 a3 h3 a6 h6 a9 h9 a10 h10 a13 h13 a22 h22 (R2 I.DY) (R2 I.O) (R2 I.Q) (R2 I.G) (R2 I.GN) (R4 I.ST) (R2 I.C) (R3 I.CAR) = R2 (I.dap 2 0) :=
  (congr (congrArg (k0_pay167 (F := Ideal)) (r_80 I c a1 h1 a2 h2 a3 h3 a6 h6 a9 h9 a13 h13 a22 h22)) (ldST_1_0 I a10 h10 _)).trans (p167 I)
theorem r_139 : bodyRunB.sl.r_139 (F := Ideal) c a1 h1 a2 h2 a3 h3 a6 h6 a9 h9 a10 h10 a13 h13 a22 h22 (R2 I.DY) (R2 I.O) (R2 I.Q) (R2 I.G) (R2 I.GN) (R4 I.ST) (R2 I.C) (R3 I.CAR) = R2 (I.dap 2 1) :=
  (congr (congrArg (k0_pay168 (F := Ideal)) (r_81 I c a1 h1 a2 h2 a3 h3 a6 h6 a9 h9 a13 h13 a22 h22)) (ldST_1_1 I a10 h10 _)).trans (p168 I)
theorem r_140 : bodyRunB.sl.r_140 (F := Ideal) c a1 h1 a2 h2 a3 h3 a6 h6 a9 h9 a10 h10 a13 h13 a22 h22 (R2 I.DY) (R2 I.O) (R2 I.Q) (R2 I.G) (R2 I.GN) (R4 I.ST) (R2 I.C) (R3 I.CAR) = R2 (I.dap 2 2) :=
  (congr (congrArg (k0_pay169 (F := Ideal)) (r_82 I c a1 h1 a2 h2 a3 h3 a6 h6 a9 h9 a13 h13 a22 h22)) (ldST_1_2 I a10 h10 _)).trans (p169 I)
theorem r_141 : bodyRunB.sl.r_141 (F := Ideal) c a1 h1 a2 h2 a3 h3 a6 h6 a9 h9 a10 h10 a13 h13 a22 h22 (R2 I.DY) (R2 I.O) (R2 I.Q) (R2 I.G) (R2 I.GN) (R4 I.ST) (R2 I.C) (R3 I.CAR) = R1 (I.dap 2 3 0) :=
  (congr (congrArg (k0_pay170 (F := Ideal)) (r_83 I c a1 h1 a2 h2 a3 h3 a6 h6 a9 h9 a13 h13 a22 h22)) (ldST_1_3 I a10 h10 _)).trans (p170 I)
theorem r_142 : bodyRunB.sl.r_142 (F := Ideal) c a1 h1 a2 h2 a3 h3 a6 h6 a9 h9 a10 h10 a13 h13 a22 h22 (R2 I.DY) (R2 I.O) (R2 I.Q) (R2 I.G) (R2 I.GN) (R4 I.ST) (R2 I.C) (R3 I.CAR) = R2 (I.da 2) :=
  (congr (congr (congr (congrArg (k0_pay171 (F := Ideal)) (r_138 I c a1 h1 a2 h2 a3 h3 a6 h6 a9 h9 a10 h10 a13 h13 a22 h22)) (r_139 I c a1 h1 a2 h2 a3 h3 a6 h6 a9 h9 a10 h10 a13 h13 a22 h22)) (r_140 I c a1 h1 a2 h2 a3 h3 a6 h6 a9 h9 a10 h10 a13 h13 a22 h22)) (r_141 I c a1 h1 a2 h2 a3 h3 a6 h6 a9 h9 a10 h10 a13 h13 a22 h22)).trans (p171 I)
theorem r_143 : bodyRunB.sl.r_143 (F := Ideal) c a1 h1 a2 h2 a3 h3 a6 h6 a9 h9 a10 h10 a22 h22 (R2 I.DY) (R2 I.O) (R2 I.Q) (R2 I.G) (R2 I.GN) (R4 I.ST) (R3 I.CAR) = R2 (I.da 3) :=
  (congr (congr (congr (congr (congr (congr (congr (congrArg (k0_pay172 (F := Ideal)) (r_76 I c a1 h1 a2 h2 a3 h3 a6 h6 a9 h9 a22 h22)) (r_77 I c a1 h1 a2 h2 a3 h3 a6 h6 a9 h9 a22 h22)) (r_78 I c a1 h1 a2 h2 a3 h3 a6 h6 a9 h9 a22 h22)) (r_79 I c a1 h1 a2 h2 a3 h3 a6 h6 a9 h9 a22 h22)) (ldST_2_0 I a10 h10 _)) (ldST_2_1 I a10 h10 _)) (ldST_2_2 I a10 h10 _)) (ldST_2_3 I a10 h10 _)).trans (p172 I)
theorem r_144 : bodyRunB.sl.r_144 (F := Ideal) c a1 h1 a2 h2 a3 h3 a4 h4 a6 h6 a9 h9 a13 h13 a22 h22 (R2 I.DY) (R2 I.O) (R2 I.Q) (R2 I.K) (R2 I.G) (R2 I.GN) (R2 I.C) (R3 I.CAR) = R2 (I.dvh 2) :=
  (congr (congr (congr (congrArg (k0_pay175 (F := Ideal)) (r_119 I c a1 h1 a2 h2 a3 h3 a4 h4 a6 h6 a9 h9 a13 h13 a22 h22)) (r_123 I c a1 h1 a2 h2 a3 h3 a4 h4 a6 h6 a9 h9 a13 h13 a22 h22)) (r_127 I c a1 h1 a2 h2 a3 h3 a4 h4 a6 h6 a9 h9 a13 h13 a22 h22)) (r_131 I c a1 h1 a2 h2 a3 h3 a4 h4 a6 h6 a9 h9 a13 h13 a22 h22)).trans (p175 I)
theorem r_7 : bodyRunB.sl.r_7 (F := Ideal) c a13 h13 (R2 I.C) = R2 I.E :=
  (congr (congr (congr (congrArg (k0_pay20 (F := Ideal)) (r_4 I c a13 h13)) rfl) (r_5 I c a13 h13)) (r_6 I c a13 h13)).trans (p20 I)
theorem r_145 : bodyRunB.sl.r_145 (F := Ideal) c a1 h1 a2 h2 a3 h3 a4 h4 a5 h5 a6 h6 a9 h9 a13 h13 a22 h22 (R2 I.DY) (R2 I.O) (R2 I.Q) (R2 I.K) (R2 I.V) (R2 I.G) (R2 I.GN) (R2 I.C) (R3 I.CAR) = R2 I.dd :=
  (congr (congr (congrArg (k0_pay178 (F := Ideal)) (r_7 I c a13 h13)) (r_12 I c a4 h4)) (r_116 I c a1 h1 a2 h2 a3 h3 a5 h5 a6 h6 a9 h9 a13 h13 a22 h22)).trans (p178 I)
theorem r_146 : bodyRunB.sl.r_146 (F := Ideal) c a1 h1 a2 h2 a3 h3 a4 h4 a5 h5 a6 h6 a9 h9 a13 h13 a22 h22 (R2 I.DY) (R2 I.O) (R2 I.Q) (R2 I.K) (R2 I.V) (R2 I.G) (R2 I.GN) (R2 I.C) (R3 I.CAR) = R2 (I.dsum 0) :=
  (congr (congr (congrArg (k0_pay179 (F := Ideal)) (r_7 I c a13 h13)) (r_12 I c a4 h4)) (r_116 I c a1 h1 a2 h2 a3 h3 a5 h5 a6 h6 a9 h9 a13 h13 a22 h22)).trans (p179 I)
theorem r_147 : bodyRunB.sl.r_147 (F := Ideal) c a1 h1 a2 h2 a3 h3 a4 h4 a5 h5 a6 h6 a9 h9 a13 h13 a22 h22 (R2 I.DY) (R2 I.O) (R2 I.Q) (R2 I.K) (R2 I.V) (R2 I.G) (R2 I.GN) (R2 I.C) (R3 I.CAR) = R2 (I.dsum 1) :=
  (congr (congr (congrArg (k0_pay180 (F := Ideal)) (r_7 I c a13 h13)) (r_12 I c a4 h4)) (r_116 I c a1 h1 a2 h2 a3 h3 a5 h5 a6 h6 a9 h9 a13 h13 a22 h22)).trans (p180 I)
theorem r_148 : bodyRunB.sl.r_148 (F := Ideal) c a1 h1 a2 h2 a3 h3 a4 h4 a5 h5 a6 h6 a9 h9 a13 h13 a22 h22 (R2 I.DY) (R2 I.O) (R2 I.Q) (R2 I.K) (R2 I.V) (R2 I.G) (R2 I.GN) (R2 I.C) (R3 I.CAR) = R2 (I.dsum 2) :=
  (congr (congr (congrArg (k0_pay181 (F := Ideal)) (r_7 I c a13 h13)) (r_12 I c a4 h4)) (r_116 I c a1 h1 a2 h2 a3 h3 a5 h5 a6 h6 a9 h9 a13 h13 a22 h22)).trans (p181 I)
theorem r_8 : bodyRunB.sl.r_8 (F := Ideal) c a13 h13 (R2 I.C) = R2 (I.A 0) :=
  (congrArg (k0_pay21 (F := Ideal)) (r_5 I c a13 h13)).trans (p21 I)
theorem r_149 (hi : k0_pay5 (F := Ideal) i = ((I.hp : ℝ) : EReal)) : bodyRunB.sl.r_149 (F := Ideal) c i a1 h1 a2 h2 a3 h3 a4 h4 a5 h5 a6 h6 a9 h9 a10 h10 a11 h11 a13 h13 a22 h22 (R2 I.DY) (R2 I.O) (R2 I.Q) (R2 I.K) (R2 I.V) (R2 I.G) (R2 I.GN) (R4 I.ST) (R4 fun _ => I.STP) (R2 I.C) (R3 I.CAR) = R2 I.dla :=
  (congr (congr (congr (congr (congr (congr (congr (congr (congr (congr (congr (congr (congr (congr (congr (congrArg (k0_pay184 (F := Ideal)) (r_1)) (r_8 I c a13 h13)) (r_9 I c a13 h13)) (r_10 I c a13 h13)) (r_11 I c a13 h13)) (r_134 I c i a1 h1 a2 h2 a3 h3 a6 h6 a9 h9 a11 h11 a13 h13 a22 h22 hi)) (r_137 I c a1 h1 a2 h2 a3 h3 a6 h6 a9 h9 a10 h10 a13 h13 a22 h22)) (r_142 I c a1 h1 a2 h2 a3 h3 a6 h6 a9 h9 a10 h10 a13 h13 a22 h22)) (r_143 I c a1 h1 a2 h2 a3 h3 a6 h6 a9 h9 a10 h10 a22 h22)) (r_145 I c a1 h1 a2 h2 a3 h3 a4 h4 a5 h5 a6 h6 a9 h9 a13 h13 a22 h22)) rfl) (r_146 I c a1 h1 a2 h2 a3 h3 a4 h4 a5 h5 a6 h6 a9 h9 a13 h13 a22 h22)) (r_147 I c a1 h1 a2 h2 a3 h3 a4 h4 a5 h5 a6 h6 a9 h9 a13 h13 a22 h22)) (r_148 I c a1 h1 a2 h2 a3 h3 a4 h4 a5 h5 a6 h6 a9 h9 a13 h13 a22 h22)) rfl) rfl).trans (p184 I)
theorem r_3 : bodyRunB.sl.r_3 (F := Ideal) c a12 h12 (R2 I.P) = R2 I.P :=
  (congrArg (k0_pay13 (F := Ideal)) (ld_S256x512 a12 h12 I.P _)).trans (p13 I.P)
theorem r_150 : bodyRunB.sl.r_150 (F := Ideal) c a12 h12 (R2 I.P) = R2 I.eP :=
  (congrArg (k0_pay185 (F := Ideal)) (r_3 I c a12 h12)).trans (p185 I)
theorem r_151 (hi : k0_pay5 (F := Ideal) i = ((I.hp : ℝ) : EReal)) : bodyRunB.sl.r_151 (F := Ideal) c i a1 h1 a2 h2 a3 h3 a4 h4 a5 h5 a6 h6 a9 h9 a10 h10 a11 h11 a12 h12 a13 h13 a20 h20 a22 h22 (R2 I.DY) (R2 I.O) (R2 I.Q) (R2 I.K) (R2 I.V) (R2 I.G) (R2 I.GN) (R4 I.ST) (R4 fun _ => I.STP) (R2 I.P) (R2 I.C) (R2 w19) (R3 I.CAR) = R2 (fun i j => (w19) i j + I.dbp i j) :=
  (congr (congr (congrArg (k0_pay190 (F := Ideal)) (r_149 I c i a1 h1 a2 h2 a3 h3 a4 h4 a5 h5 a6 h6 a9 h9 a10 h10 a11 h11 a13 h13 a22 h22 hi)) (r_150 I c a12 h12)) (ld_S1x512 a20 h20 w19 _)).trans (p190 I w19)
theorem r_2 : bodyRunB.sl.r_2 (F := Ideal) c a8 h8 (R2 I.WA) = R2 I.WA :=
  (congrArg (k0_pay12 (F := Ideal)) (ld_S128x512 a8 h8 I.WA _)).trans (p12 I.WA)
theorem r_21 : bodyRunB.sl.r_21 (F := Ideal) c a1 h1 a2 h2 a6 h6 a9 h9 (R2 I.DY) (R2 I.O) (R2 I.G) (R2 I.GN) = R2 (I.dgg 0) :=
  (congr (congr (congr (congrArg (k0_pay35 (F := Ideal)) (ld_S256x256_0 a2 h2 I.O _)) (ld_S256x256_0 a6 h6 I.G _)) (ld_S1x256_0 a9 h9 I.GN _)) (ld_S256x256_0 a1 h1 I.DY _)).trans (p35 I)
theorem r_37 : bodyRunB.sl.r_37 (F := Ideal) c a1 h1 a2 h2 a6 h6 a9 h9 (R2 I.DY) (R2 I.O) (R2 I.G) (R2 I.GN) = R2 (I.dgg 2) :=
  (congr (congr (congr (congrArg (k0_pay57 (F := Ideal)) (ld_S256x256_2 a2 h2 I.O _)) (ld_S256x256_2 a6 h6 I.G _)) (ld_S1x256_2 a9 h9 I.GN _)) (ld_S256x256_2 a1 h1 I.DY _)).trans (p57 I)
theorem r_49 : bodyRunB.sl.r_49 (F := Ideal) c a1 h1 a2 h2 a6 h6 a9 h9 a10 h10 (R2 I.DY) (R2 I.O) (R2 I.G) (R2 I.GN) (R4 I.ST) = R2 (I.dqh 0) :=
  (congr (congr (congr (congr (congrArg (k0_pay73 (F := Ideal)) (r_22 I c a1 h1 a2 h2 a6 h6 a9 h9)) (ldST_0_0 I a10 h10 _)) (ldST_1_0 I a10 h10 _)) (ldST_2_0 I a10 h10 _)) (ldST_3_0 I a10 h10 _)).trans (p73 I)
theorem r_50 : bodyRunB.sl.r_50 (F := Ideal) c a1 h1 a2 h2 a6 h6 a9 h9 a10 h10 (R2 I.DY) (R2 I.O) (R2 I.G) (R2 I.GN) (R4 I.ST) = R2 (I.dqp 0 1) :=
  (congr (congrArg (k0_pay74 (F := Ideal)) (r_32 I c a1 h1 a2 h2 a6 h6 a9 h9)) (ldST_0_1 I a10 h10 _)).trans (p74 I)
theorem r_51 : bodyRunB.sl.r_51 (F := Ideal) c a1 h1 a2 h2 a6 h6 a9 h9 (R2 I.DY) (R2 I.O) (R2 I.G) (R2 I.GN) = R2 (I.ddos 1 1) :=
  (congrArg (k0_pay75 (F := Ideal)) (r_32 I c a1 h1 a2 h2 a6 h6 a9 h9)).trans (p75 I)
theorem r_52 : bodyRunB.sl.r_52 (F := Ideal) c a1 h1 a2 h2 a6 h6 a9 h9 a10 h10 (R2 I.DY) (R2 I.O) (R2 I.G) (R2 I.GN) (R4 I.ST) = R2 (I.dqh 1) :=
  (congr (congr (congr (congr (congr (congrArg (k0_pay76 (F := Ideal)) (r_32 I c a1 h1 a2 h2 a6 h6 a9 h9)) (r_50 I c a1 h1 a2 h2 a6 h6 a9 h9 a10 h10)) (r_51 I c a1 h1 a2 h2 a6 h6 a9 h9)) (ldST_1_1 I a10 h10 _)) (ldST_2_1 I a10 h10 _)) (ldST_3_1 I a10 h10 _)).trans (p76 I)
theorem r_53 : bodyRunB.sl.r_53 (F := Ideal) c a1 h1 a2 h2 a6 h6 a9 h9 a10 h10 (R2 I.DY) (R2 I.O) (R2 I.G) (R2 I.GN) (R4 I.ST) = R2 (I.dqp 0 2) :=
  (congr (congrArg (k0_pay77 (F := Ideal)) (r_38 I c a1 h1 a2 h2 a6 h6 a9 h9)) (ldST_0_2 I a10 h10 _)).trans (p77 I)
theorem r_54 : bodyRunB.sl.r_54 (F := Ideal) c a1 h1 a2 h2 a6 h6 a9 h9 a10 h10 (R2 I.DY) (R2 I.O) (R2 I.G) (R2 I.GN) (R4 I.ST) = R2 (I.dqp 1 2) :=
  (congr (congrArg (k0_pay78 (F := Ideal)) (r_38 I c a1 h1 a2 h2 a6 h6 a9 h9)) (ldST_1_2 I a10 h10 _)).trans (p78 I)
theorem r_55 : bodyRunB.sl.r_55 (F := Ideal) c a1 h1 a2 h2 a6 h6 a9 h9 a10 h10 (R2 I.DY) (R2 I.O) (R2 I.G) (R2 I.GN) (R4 I.ST) = R2 (I.dqp 2 2) :=
  (congr (congrArg (k0_pay79 (F := Ideal)) (r_38 I c a1 h1 a2 h2 a6 h6 a9 h9)) (ldST_2_2 I a10 h10 _)).trans (p79 I)
theorem r_56 : bodyRunB.sl.r_56 (F := Ideal) c a1 h1 a2 h2 a6 h6 a9 h9 (R2 I.DY) (R2 I.O) (R2 I.G) (R2 I.GN) = R2 (I.ddos 3 2) :=
  (congrArg (k0_pay80 (F := Ideal)) (r_38 I c a1 h1 a2 h2 a6 h6 a9 h9)).trans (p80 I)
theorem v235 : bodyRunB.sl.v235 (F := Ideal) c a21 h21 (R2 w20) = R2 (fun i x => w20 i (256 * 1 + x)) := (ld_S1x256_1 a21 h21 w20 _)
theorem v298 : bodyRunB.sl.v298 (F := Ideal) c a21 h21 (R2 w20) = R2 (fun i x => w20 i (256 * 2 + x)) := (ld_S1x256_2 a21 h21 w20 _)
theorem v361 : bodyRunB.sl.v361 (F := Ideal) c a21 h21 (R2 w20) = R2 (fun i x => w20 i (256 * 3 + x)) := (ld_S1x256_3 a21 h21 w20 _)
end Cert.Mine.WB

end
-- ==== Proof.Mine.Outs.lean ====
/- What the body's runs leave in each output and in the carry, over buffers holding real arrays. -/
module

public import proofs.«01_k».proof.Proof.Mine.WordsA
public import proofs.«01_k».proof.Proof.Mine.WordsB
public import proofs.«01_k».proof.Proof.Mine.Frame

@[expose] public section

set_option pp.maxSteps 600
set_option maxRecDepth 16384

noncomputable section

namespace Cert.Mine

open Idealize.ShloMosaic Idealize.ShloMosaic.Tactic Cert.KernelIdeal Cert.KernelIdeal.Gen Cert.KernelIdeal.Own

section Canon

theorem congr4 {α β γ δ ε : Type} (f : α → β → γ → δ → ε) {a a' : α} {b b' : β} {c c' : γ} {d d' : δ}
    (ha : a = a') (hb : b = b') (hc : c = c') (hd : d = d') : f a b c d = f a' b' c' d' := by
  rw [ha, hb, hc, hd]

/-- An entry of a column block, and the array's entry there. -/
theorem col (f : ℕ → ℕ → ℕ → ℝ) (k i : ℕ) {j : ℕ} (h : j < 256) :
    ((f k i j : ℝ) : EReal) = ((f ((256 * k + 1 * j) / 256) (0 + 1 * i) ((256 * k + 1 * j) % 256) : ℝ) : EReal) := by
  rw [show (256 * k + 1 * j) / 256 = k by omega, show (256 * k + 1 * j) % 256 = j by omega, Nat.zero_add, Nat.one_mul]

/-- An entry of a slab, and the array's entry there. -/
theorem slab (f : ℕ → ℕ → ℕ → ℕ → ℝ) (k : ℕ) {h : ℕ} (i j : ℕ) (h0 : h = 0) :
    ((f k h i j : ℝ) : EReal) = ((f (k + 1 * h) 0 (0 + 1 * i) (0 + 1 * j) : ℝ) : EReal) := by
  rw [h0]; simp only [Nat.zero_add, Nat.one_mul, Nat.mul_zero, Nat.add_zero]

/-- Four column blocks of an array. -/
abbrev parts_S256x1024 (a b d e : Vec Ideal S256x256 .bf16) : List (View.Piece (Elt Ideal) S256x1024 .bf16) :=
  [⟨Rect.unit (s := S256x1024) ![0, 768] S256x256.size inb_S256x1024_S256x256_0_768, a⟩, ⟨Rect.unit (s := S256x1024) ![0, 512] S256x256.size inb_S256x1024_S256x256_0_512, b⟩, ⟨Rect.unit (s := S256x1024) ![0, 256] S256x256.size inb_S256x1024_S256x256_0_256, d⟩, ⟨Rect.unit (s := S256x1024) ![0, 0] S256x256.size inb_S256x1024_S256x256_0_0, e⟩]

theorem canon_S256x1024 (f : ℕ → ℕ → ℕ → ℝ) (L : List (View.Piece (Elt Ideal) S256x1024 .bf16)) :
    View.canon (parts_S256x1024 (R2 (f 3)) (R2 (f 2)) (R2 (f 1)) (R2 (f 0)) ++ L) = R2 (fun i j => f (j / 256) i (j % 256)) := by
  funext y
  refine View.canon_append_of_piecesOf (R2 (fun i j => f (j / 256) i (j % 256))) L (parts_S256x1024 (R2 (f 3)) (R2 (f 2)) (R2 (f 1)) (R2 (f 0)))
    (show View.PiecesOf (Val := Elt Ideal) (e := .bf16) _ (parts_S256x1024 (R2 (f 3)) (R2 (f 2)) (R2 (f 1)) (R2 (f 0))) from
      And.intro (fun x => ?_) (And.intro (fun x => ?_) (And.intro (fun x => ?_) (And.intro (fun x => ?_) trivial)))) y
    (View.cover_of_tiledL (Val := Elt Ideal) (e := .bf16) (parts_S256x1024 (R2 (f 3)) (R2 (f 2)) (R2 (f 1)) (R2 (f 0))) S256x256.size (by sl_kernel_rfl) y)
  · exact col f 3 _ (x 1).isLt
  · exact col f 2 _ (x 1).isLt
  · exact col f 1 _ (x 1).isLt
  · exact col f 0 _ (x 1).isLt

/-- Four column blocks of a row. -/
abbrev parts_S1x1024 (a b d e : Vec Ideal S1x256 .f32) : List (View.Piece (Elt Ideal) S1x1024 .f32) :=
  [⟨Rect.unit (s := S1x1024) ![0, 768] S1x256.size inb_S1x1024_S1x256_0_768, a⟩, ⟨Rect.unit (s := S1x1024) ![0, 512] S1x256.size inb_S1x1024_S1x256_0_512, b⟩, ⟨Rect.unit (s := S1x1024) ![0, 256] S1x256.size inb_S1x1024_S1x256_0_256, d⟩, ⟨Rect.unit (s := S1x1024) ![0, 0] S1x256.size inb_S1x1024_S1x256_0_0, e⟩]

theorem canon_S1x1024 (f : ℕ → ℕ → ℕ → ℝ) (L : List (View.Piece (Elt Ideal) S1x1024 .f32)) :
    View.canon (parts_S1x1024 (R2 (f 3)) (R2 (f 2)) (R2 (f 1)) (R2 (f 0)) ++ L) = R2 (fun i j => f (j / 256) i (j % 256)) := by
  funext y
  refine View.canon_append_of_piecesOf (R2 (fun i j => f (j / 256) i (j % 256))) L (parts_S1x1024 (R2 (f 3)) (R2 (f 2)) (R2 (f 1)) (R2 (f 0)))
    (show View.PiecesOf (Val := Elt Ideal) (e := .f32) _ (parts_S1x1024 (R2 (f 3)) (R2 (f 2)) (R2 (f 1)) (R2 (f 0))) from
      And.intro (fun x => ?_) (And.intro (fun x => ?_) (And.intro (fun x => ?_) (And.intro (fun x => ?_) trivial)))) y
    (View.cover_of_tiledL (Val := Elt Ideal) (e := .f32) (parts_S1x1024 (R2 (f 3)) (R2 (f 2)) (R2 (f 1)) (R2 (f 0))) S1x256.size (by sl_kernel_rfl) y)
  · exact col f 3 _ (x 1).isLt
  · exact col f 2 _ (x 1).isLt
  · exact col f 1 _ (x 1).isLt
  · exact col f 0 _ (x 1).isLt

/-- The four slabs of an array. -/
abbrev parts_S4x256x128 (a b d e : Vec Ideal S1x256x128 .f32) : List (View.Piece (Elt Ideal) S4x256x128 .f32) :=
  [⟨Rect.unit (s := S4x256x128) ![3, 0, 0] S1x256x128.size inb_S4x256x128_S1x256x128_3_0_0, a⟩, ⟨Rect.unit (s := S4x256x128) ![2, 0, 0] S1x256x128.size inb_S4x256x128_S1x256x128_2_0_0, b⟩, ⟨Rect.unit (s := S4x256x128) ![1, 0, 0] S1x256x128.size inb_S4x256x128_S1x256x128_1_0_0, d⟩, ⟨Rect.unit (s := S4x256x128) ![0, 0, 0] S1x256x128.size inb_S4x256x128_S1x256x128_0_0_0, e⟩]

theorem canon_S4x256x128 (f : ℕ → ℕ → ℕ → ℕ → ℝ) (L : List (View.Piece (Elt Ideal) S4x256x128 .f32)) :
    View.canon (parts_S4x256x128 (R3 (f 3)) (R3 (f 2)) (R3 (f 1)) (R3 (f 0)) ++ L) = R3 (fun h v k => f h 0 v k) := by
  funext y
  refine View.canon_append_of_piecesOf (R3 (fun h v k => f h 0 v k)) L (parts_S4x256x128 (R3 (f 3)) (R3 (f 2)) (R3 (f 1)) (R3 (f 0)))
    (show View.PiecesOf (Val := Elt Ideal) (e := .f32) _ (parts_S4x256x128 (R3 (f 3)) (R3 (f 2)) (R3 (f 1)) (R3 (f 0))) from
      And.intro (fun x => ?_) (And.intro (fun x => ?_) (And.intro (fun x => ?_) (And.intro (fun x => ?_) trivial)))) y
    (View.cover_of_tiledL (Val := Elt Ideal) (e := .f32) (parts_S4x256x128 (R3 (f 3)) (R3 (f 2)) (R3 (f 1)) (R3 (f 0))) S1x256x128.size (by sl_kernel_rfl) y)
  · exact slab f 3 _ _ (Fin.val_eq_zero (show Fin 1 from x 0))
  · exact slab f 2 _ _ (Fin.val_eq_zero (show Fin 1 from x 0))
  · exact slab f 1 _ _ (Fin.val_eq_zero (show Fin 1 from x 0))
  · exact slab f 0 _ _ (Fin.val_eq_zero (show Fin 1 from x 0))

end Canon

/-- The blocks a grid point reads hold the real arrays of `I`. -/
structure Inp (I : Blk) (x0 : Vec Ideal S256x1024 .f32) (x1 : Vec Ideal S256x1024 .f32) (x2 : Vec Ideal S256x512 .f32) (x3 : Vec Ideal S256x512 .f32) (x4 : Vec Ideal S256x1024 .f32) (x5 : Vec Ideal S256x1024 .f32) (x6 : Vec Ideal S256x128 .f32) (x7 : Vec Ideal S128x512 .f32) (x8 : Vec Ideal S1x1024 .f32) (x9 : Vec Ideal S4x4x256x128 .f32) (x10 : Vec Ideal S1x4x256x128 .f32) (x11 : Vec Ideal S256x512 .f32) (x12 : Vec Ideal S256x512 .f32) : Prop where
  hx0 : x0 = R2 I.DY
  hx1 : x1 = R2 I.O
  hx2 : x2 = R2 I.Q
  hx3 : x3 = R2 I.K
  hx4 : x4 = R2 I.V
  hx5 : x5 = R2 I.G
  hx6 : x6 = R2 I.GA
  hx7 : x7 = R2 I.WA
  hx8 : x8 = R2 I.GN
  hx9 : x9 = R4 I.ST
  hx10 : x10 = R4 fun _ => I.STP
  hx11 : x11 = R2 I.P
  hx12 : x12 = R2 I.C

namespace WA

variable (I : Blk) (w18 w19 w20 : ℕ → ℕ → ℝ) (c : Dev nD) (i : grid0.Coords)
variable (a1 : Memref sig .tc .vmem S256x1024 .f32) (h1 : a1.IsWhole)
variable (a2 : Memref sig .tc .vmem S256x1024 .f32) (h2 : a2.IsWhole)
variable (a3 : Memref sig .tc .vmem S256x512 .f32) (h3 : a3.IsWhole)
variable (a4 : Memref sig .tc .vmem S256x512 .f32) (h4 : a4.IsWhole)
variable (a5 : Memref sig .tc .vmem S256x1024 .f32) (h5 : a5.IsWhole)
variable (a6 : Memref sig .tc .vmem S256x1024 .f32) (h6 : a6.IsWhole)
variable (a7 : Memref sig .tc .vmem S256x128 .f32) (h7 : a7.IsWhole)
variable (a8 : Memref sig .tc .vmem S128x512 .f32) (h8 : a8.IsWhole)
variable (a9 : Memref sig .tc .vmem S1x1024 .f32) (h9 : a9.IsWhole)
variable (a10 : Memref sig .tc .vmem S4x4x256x128 .f32) (h10 : a10.IsWhole)
variable (a11 : Memref sig .tc .vmem S1x4x256x128 .f32) (h11 : a11.IsWhole)
variable (a12 : Memref sig .tc .vmem S256x512 .f32) (h12 : a12.IsWhole)
variable (a13 : Memref sig .tc .vmem S256x512 .f32) (h13 : a13.IsWhole)
variable (a14 : Memref sig .tc .vmem S256x512 .bf16) (h14 : a14.IsWhole)
variable (a15 : Memref sig .tc .vmem S256x512 .bf16) (h15 : a15.IsWhole)
variable (a16 : Memref sig .tc .vmem S256x1024 .bf16) (h16 : a16.IsWhole)
variable (a17 : Memref sig .tc .vmem S256x1024 .bf16) (h17 : a17.IsWhole)
variable (a18 : Memref sig .tc .vmem S256x128 .bf16) (h18 : a18.IsWhole)
variable (a19 : Memref sig .tc .vmem S128x512 .f32) (h19 : a19.IsWhole)
variable (a20 : Memref sig .tc .vmem S1x512 .f32) (h20 : a20.IsWhole)
variable (a21 : Memref sig .tc .vmem S1x1024 .f32) (h21 : a21.IsWhole)
variable (a22 : Memref sig .tc .vmem S4x256x128 .f32) (h22 : a22.IsWhole)
variable (hc0 : cond0_0 i)
theorem b_13 : View.canon (bodyRunA (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 (R2 I.DY) (R2 I.O) (R2 I.Q) (R2 I.K) (R2 I.V) (R2 I.G) (R2 I.GA) (R2 I.WA) (R2 I.GN) (R4 I.ST) (R4 fun _ => I.STP) (R2 I.P) (R2 I.C)).1 = R2 I.dq :=
  (congrArg (fun a => View.canon ((⟨Rect.unit (s := S256x512) ![0, 0] S256x512.size inb_S256x512_S256x512_0_0, a⟩ :: [] : List (View.Piece (Elt Ideal) S256x512 .bf16)))) ((congr (congr (congr (congr (congr (congr (congr (congr (congr (congr (congr (congrArg (k0_pay81 (F := Ideal)) (r_48 I c a1 h1 a2 h2 a6 h6 a9 h9)) (r_49 I c a1 h1 a2 h2 a6 h6 a9 h9 a10 h10)) (r_52 I c a1 h1 a2 h2 a6 h6 a9 h9 a10 h10)) (r_53 I c a1 h1 a2 h2 a6 h6 a9 h9 a10 h10)) (r_54 I c a1 h1 a2 h2 a6 h6 a9 h9 a10 h10)) (r_55 I c a1 h1 a2 h2 a6 h6 a9 h9 a10 h10)) (r_56 I c a1 h1 a2 h2 a6 h6 a9 h9)) (ldST_3_2 I a10 h10 _)) (ldST_0_3 I a10 h10 _)) (ldST_1_3 I a10 h10 _)) (ldST_2_3 I a10 h10 _)) (ldST_3_3 I a10 h10 _)).trans (p81 I))).trans
    (View.canon_cons_unit_lit (Val := Elt Ideal) _ _ _ (by decide))
theorem b_14 (hcar : ∀ h v k, I.CAR h v k = 0) : View.canon (bodyRunA (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 (R2 I.DY) (R2 I.O) (R2 I.Q) (R2 I.K) (R2 I.V) (R2 I.G) (R2 I.GA) (R2 I.WA) (R2 I.GN) (R4 I.ST) (R4 fun _ => I.STP) (R2 I.P) (R2 I.C)).2.1 = R2 I.dk :=
  (congrArg (fun a => View.canon ((⟨Rect.unit (s := S256x512) ![0, 0] S256x512.size inb_S256x512_S256x512_0_0, a⟩ :: [] : List (View.Piece (Elt Ideal) S256x512 .bf16)))) ((congr (congrArg (k0_pay177 (F := Ideal)) (r_7 I c a13 h13)) (r_116 I c a1 h1 a2 h2 a3 h3 a5 h5 a6 h6 a9 h9 a13 h13 a22 hcar)).trans (p177 I))).trans
    (View.canon_cons_unit_lit (Val := Elt Ideal) _ _ _ (by decide))
theorem b_15 (hcar : ∀ h v k, I.CAR h v k = 0) : View.canon (bodyRunA (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 (R2 I.DY) (R2 I.O) (R2 I.Q) (R2 I.K) (R2 I.V) (R2 I.G) (R2 I.GA) (R2 I.WA) (R2 I.GN) (R4 I.ST) (R4 fun _ => I.STP) (R2 I.P) (R2 I.C)).2.2.1 = R2 (fun i j => I.dvh (j / 256) i (j % 256)) :=
  (congr4 (fun a b d e => View.canon (parts_S256x1024 a b d e ++ []))
    ((congr (congr (congr (congrArg (k0_pay176 (F := Ideal)) (r_120 I c a1 h1 a2 h2 a3 h3 a4 h4 a6 h6 a9 h9 a13 h13 a22 hcar)) (r_124 I c a1 h1 a2 h2 a3 h3 a4 h4 a6 h6 a9 h9 a13 h13 a22 hcar)) (r_128 I c a1 h1 a2 h2 a3 h3 a4 h4 a6 h6 a9 h9 a13 h13 a22 hcar)) (r_132 I c a1 h1 a2 h2 a3 h3 a4 h4 a6 h6 a9 h9 a13 h13 a22 hcar)).trans (p176 I))
    (r_144 I c a1 h1 a2 h2 a3 h3 a4 h4 a6 h6 a9 h9 a13 h13 a22 hcar)
    ((congr (congr (congr (congrArg (k0_pay174 (F := Ideal)) (r_118 I c a1 h1 a2 h2 a3 h3 a4 h4 a6 h6 a9 h9 a13 h13 a22 hcar)) (r_122 I c a1 h1 a2 h2 a3 h3 a4 h4 a6 h6 a9 h9 a13 h13 a22 hcar)) (r_126 I c a1 h1 a2 h2 a3 h3 a4 h4 a6 h6 a9 h9 a13 h13 a22 hcar)) (r_130 I c a1 h1 a2 h2 a3 h3 a4 h4 a6 h6 a9 h9 a13 h13 a22 hcar)).trans (p174 I))
    ((congr (congr (congr (congrArg (k0_pay173 (F := Ideal)) (r_117 I c a1 h1 a2 h2 a3 h3 a4 h4 a6 h6 a9 h9 a13 h13 a22 hcar)) (r_121 I c a1 h1 a2 h2 a3 h3 a4 h4 a6 h6 a9 h9 a13 h13 a22 hcar)) (r_125 I c a1 h1 a2 h2 a3 h3 a4 h4 a6 h6 a9 h9 a13 h13 a22 hcar)) (r_129 I c a1 h1 a2 h2 a3 h3 a4 h4 a6 h6 a9 h9 a13 h13 a22 hcar)).trans (p173 I))).trans
    (canon_S256x1024 I.dvh _)
theorem b_16 : View.canon (bodyRunA (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 (R2 I.DY) (R2 I.O) (R2 I.Q) (R2 I.K) (R2 I.V) (R2 I.G) (R2 I.GA) (R2 I.WA) (R2 I.GN) (R4 I.ST) (R4 fun _ => I.STP) (R2 I.P) (R2 I.C)).2.2.2.1 = R2 (fun i j => I.dgg (j / 256) i (j % 256)) :=
  (congr4 (fun a b d e => View.canon (parts_S256x1024 a b d e ++ []))
    ((congr (congr (congr (congr (congrArg (k0_pay67 (F := Ideal)) (r_39 I c a2 h2)) (r_40 I c a6 h6)) (r_41 I c a9 h9)) (r_42 I c a1 h1)) (r_43 I c a2 h2)).trans (p67 I))
    (r_37 I c a1 h1 a2 h2 a6 h6 a9 h9)
    ((congr (congr (congr (congr (congrArg (k0_pay45 (F := Ideal)) (r_23 I c a2 h2)) (r_24 I c a6 h6)) (r_25 I c a9 h9)) (r_26 I c a1 h1)) (r_27 I c a2 h2)).trans (p45 I))
    (r_21 I c a1 h1 a2 h2 a6 h6 a9 h9)).trans
    (canon_S256x1024 I.dgg _)
theorem b_17 (hcar : ∀ h v k, I.CAR h v k = 0) (hi : k0_pay5 (F := Ideal) i = ((I.hp : ℝ) : EReal)) : View.canon (bodyRunA (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 (R2 I.DY) (R2 I.O) (R2 I.Q) (R2 I.K) (R2 I.V) (R2 I.G) (R2 I.GA) (R2 I.WA) (R2 I.GN) (R4 I.ST) (R4 fun _ => I.STP) (R2 I.P) (R2 I.C)).2.2.2.2.1 = R2 I.dga :=
  (congrArg (fun a => View.canon ((⟨Rect.unit (s := S256x128) ![0, 0] S256x128.size inb_S256x128_S256x128_0_0, a⟩ :: [] : List (View.Piece (Elt Ideal) S256x128 .bf16)))) ((congr (congr (congrArg (k0_pay188 (F := Ideal)) (r_2 I c a8 h8)) (r_149 I c i a1 h1 a2 h2 a3 h3 a4 h4 a5 h5 a6 h6 a9 h9 a10 h10 a11 h11 a13 h13 a22 hcar hi)) (r_150 I c a12 h12)).trans (p188 I))).trans
    (View.canon_cons_unit_lit (Val := Elt Ideal) _ _ _ (by decide))
theorem b_18 (hcar : ∀ h v k, I.CAR h v k = 0) (hi : k0_pay5 (F := Ideal) i = ((I.hp : ℝ) : EReal)) : View.canon (bodyRunA (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 (R2 I.DY) (R2 I.O) (R2 I.Q) (R2 I.K) (R2 I.V) (R2 I.G) (R2 I.GA) (R2 I.WA) (R2 I.GN) (R4 I.ST) (R4 fun _ => I.STP) (R2 I.P) (R2 I.C)).2.2.2.2.2.1 = R2 (fun i j => 0 + I.dwap i j) :=
  (congrArg (fun a => View.canon ((⟨Rect.unit (s := S128x512) ![0, 0] S128x512.size inb_S128x512_S128x512_0_0, a⟩ :: bodyRunA.sl.H18_1 : List (View.Piece (Elt Ideal) S128x512 .f32)))) ((congr (congr (congr (congrArg (k0_pay189 (F := Ideal)) (r I c a7 h7)) (r_149 I c i a1 h1 a2 h2 a3 h3 a4 h4 a5 h5 a6 h6 a9 h9 a10 h10 a11 h11 a13 h13 a22 hcar hi)) (r_150 I c a12 h12)) (v893 c a19)).trans (p189 I (fun _ _ => 0)))).trans
    (View.canon_cons_unit_lit (Val := Elt Ideal) _ _ _ (by decide))
theorem b_19 (hcar : ∀ h v k, I.CAR h v k = 0) (hi : k0_pay5 (F := Ideal) i = ((I.hp : ℝ) : EReal)) : View.canon (bodyRunA (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 (R2 I.DY) (R2 I.O) (R2 I.Q) (R2 I.K) (R2 I.V) (R2 I.G) (R2 I.GA) (R2 I.WA) (R2 I.GN) (R4 I.ST) (R4 fun _ => I.STP) (R2 I.P) (R2 I.C)).2.2.2.2.2.2.1 = R2 (fun i j => 0 + I.dbp i j) :=
  (congrArg (fun a => View.canon ((⟨Rect.unit (s := S1x512) ![0, 0] S1x512.size inb_S1x512_S1x512_0_0, a⟩ :: bodyRunA.sl.H19_1 : List (View.Piece (Elt Ideal) S1x512 .f32)))) (r_151 I c i a1 h1 a2 h2 a3 h3 a4 h4 a5 h5 a6 h6 a9 h9 a10 h10 a11 h11 a12 h12 a13 h13 a20 a22 hcar hi)).trans
    (View.canon_cons_unit_lit (Val := Elt Ideal) _ _ _ (by decide))
theorem b_20 : View.canon (bodyRunA (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 (R2 I.DY) (R2 I.O) (R2 I.Q) (R2 I.K) (R2 I.V) (R2 I.G) (R2 I.GA) (R2 I.WA) (R2 I.GN) (R4 I.ST) (R4 fun _ => I.STP) (R2 I.P) (R2 I.C)).2.2.2.2.2.2.2.1 = R2 (fun i j => (fun h i x => 0 + I.dgp h i x) (j / 256) i (j % 256)) :=
  (congr4 (fun a b d e => View.canon (parts_S1x1024 a b d e ++ bodyRunA.sl.H20_1))
    ((congr (congr (congr (congr (congrArg (k0_pay68 (F := Ideal)) (r_39 I c a2 h2)) (r_40 I c a6 h6)) (r_42 I c a1 h1)) (r_43 I c a2 h2)) (v361 I c a1 h1 a2 h2 a6 h6 a21)).trans (p68 I (fun _ _ => 0)))
    ((congr (congr (congr (congrArg (k0_pay58 (F := Ideal)) (r_33 I c a2 h2)) (r_35 I c a2 h2)) (r_36 I c a1 h1 a6 h6)) (v298 I c a1 h1 a2 h2 a6 h6 a21)).trans (p58 I (fun _ _ => 0)))
    ((congr (congr (congr (congr (congrArg (k0_pay46 (F := Ideal)) (r_23 I c a2 h2)) (r_24 I c a6 h6)) (r_26 I c a1 h1)) (r_27 I c a2 h2)) (v235 I c a1 h1 a2 h2 a6 h6 a21)).trans (p46 I (fun _ _ => 0)))
    ((congr (congr (congr (congrArg (k0_pay36 (F := Ideal)) (r_17 I c a2 h2)) (r_19 I c a2 h2)) (r_20 I c a1 h1 a6 h6)) (v172 c a21)).trans (p36 I (fun _ _ => 0)))).trans
    (canon_S1x1024 (fun h i x => 0 + I.dgp h i x) _)
theorem b_21 (hcar : ∀ h v k, I.CAR h v k = 0) : View.canon (bodyRunA (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 (R2 I.DY) (R2 I.O) (R2 I.Q) (R2 I.K) (R2 I.V) (R2 I.G) (R2 I.GA) (R2 I.WA) (R2 I.GN) (R4 I.ST) (R4 fun _ => I.STP) (R2 I.P) (R2 I.C)).2.2.2.2.2.2.2.2.1 = R3 (fun h v k => I.ncar h 0 v k) :=
  (congr4 (fun a b d e => View.canon (parts_S4x256x128 a b d e ++ bodyRunA.sl.HS0_1))
    ((congr (congr (congr (congrArg (k0_pay121 (F := Ideal)) (r_8 I c a13 h13)) (r_9 I c a13 h13)) (r_62 I c a1 h1 a2 h2 a3 h3 a6 h6 a9 h9)) (r_87 I c a1 h1 a2 h2 a3 h3 a6 h6 a9 h9 a13 h13 a22 hcar)).trans (p121 I))
    ((congr (congr (congr (congrArg (k0_pay120 (F := Ideal)) (r_8 I c a13 h13)) (r_9 I c a13 h13)) (r_61 I c a1 h1 a2 h2 a3 h3 a6 h6 a9 h9)) (r_86 I c a1 h1 a2 h2 a3 h3 a6 h6 a9 h9 a13 h13 a22 hcar)).trans (p120 I))
    ((congr (congr (congr (congrArg (k0_pay119 (F := Ideal)) (r_8 I c a13 h13)) (r_9 I c a13 h13)) (r_60 I c a1 h1 a2 h2 a3 h3 a6 h6 a9 h9)) (r_85 I c a1 h1 a2 h2 a3 h3 a6 h6 a9 h9 a13 h13 a22 hcar)).trans (p119 I))
    ((congr (congr (congr (congrArg (k0_pay118 (F := Ideal)) (r_8 I c a13 h13)) (r_59 I c a1 h1 a2 h2 a3 h3 a6 h6 a9 h9)) (r_84 I c a1 h1 a2 h2 a3 h3 a6 h6 a9 h9 a13 h13 a22 hcar)) (r_88 I c a13 h13)).trans (p118 I))).trans
    (canon_S4x256x128 I.ncar _)

end WA

namespace WB

variable (I : Blk) (w18 w19 w20 : ℕ → ℕ → ℝ) (c : Dev nD) (i : grid0.Coords)
variable (a1 : Memref sig .tc .vmem S256x1024 .f32) (h1 : a1.IsWhole)
variable (a2 : Memref sig .tc .vmem S256x1024 .f32) (h2 : a2.IsWhole)
variable (a3 : Memref sig .tc .vmem S256x512 .f32) (h3 : a3.IsWhole)
variable (a4 : Memref sig .tc .vmem S256x512 .f32) (h4 : a4.IsWhole)
variable (a5 : Memref sig .tc .vmem S256x1024 .f32) (h5 : a5.IsWhole)
variable (a6 : Memref sig .tc .vmem S256x1024 .f32) (h6 : a6.IsWhole)
variable (a7 : Memref sig .tc .vmem S256x128 .f32) (h7 : a7.IsWhole)
variable (a8 : Memref sig .tc .vmem S128x512 .f32) (h8 : a8.IsWhole)
variable (a9 : Memref sig .tc .vmem S1x1024 .f32) (h9 : a9.IsWhole)
variable (a10 : Memref sig .tc .vmem S4x4x256x128 .f32) (h10 : a10.IsWhole)
variable (a11 : Memref sig .tc .vmem S1x4x256x128 .f32) (h11 : a11.IsWhole)
variable (a12 : Memref sig .tc .vmem S256x512 .f32) (h12 : a12.IsWhole)
variable (a13 : Memref sig .tc .vmem S256x512 .f32) (h13 : a13.IsWhole)
variable (a14 : Memref sig .tc .vmem S256x512 .bf16) (h14 : a14.IsWhole)
variable (a15 : Memref sig .tc .vmem S256x512 .bf16) (h15 : a15.IsWhole)
variable (a16 : Memref sig .tc .vmem S256x1024 .bf16) (h16 : a16.IsWhole)
variable (a17 : Memref sig .tc .vmem S256x1024 .bf16) (h17 : a17.IsWhole)
variable (a18 : Memref sig .tc .vmem S256x128 .bf16) (h18 : a18.IsWhole)
variable (a19 : Memref sig .tc .vmem S128x512 .f32) (h19 : a19.IsWhole)
variable (a20 : Memref sig .tc .vmem S1x512 .f32) (h20 : a20.IsWhole)
variable (a21 : Memref sig .tc .vmem S1x1024 .f32) (h21 : a21.IsWhole)
variable (a22 : Memref sig .tc .vmem S4x256x128 .f32) (h22 : a22.IsWhole)
variable (hc0 : ¬cond0_0 i)
theorem b_13 : View.canon (bodyRunB (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 (R2 I.DY) (R2 I.O) (R2 I.Q) (R2 I.K) (R2 I.V) (R2 I.G) (R2 I.GA) (R2 I.WA) (R2 I.GN) (R4 I.ST) (R4 fun _ => I.STP) (R2 I.P) (R2 I.C) (R2 w18) (R2 w19) (R2 w20) (R3 I.CAR)).1 = R2 I.dq :=
  (congrArg (fun a => View.canon ((⟨Rect.unit (s := S256x512) ![0, 0] S256x512.size inb_S256x512_S256x512_0_0, a⟩ :: [] : List (View.Piece (Elt Ideal) S256x512 .bf16)))) ((congr (congr (congr (congr (congr (congr (congr (congr (congr (congr (congr (congrArg (k0_pay81 (F := Ideal)) (r_48 I c a1 h1 a2 h2 a6 h6 a9 h9)) (r_49 I c a1 h1 a2 h2 a6 h6 a9 h9 a10 h10)) (r_52 I c a1 h1 a2 h2 a6 h6 a9 h9 a10 h10)) (r_53 I c a1 h1 a2 h2 a6 h6 a9 h9 a10 h10)) (r_54 I c a1 h1 a2 h2 a6 h6 a9 h9 a10 h10)) (r_55 I c a1 h1 a2 h2 a6 h6 a9 h9 a10 h10)) (r_56 I c a1 h1 a2 h2 a6 h6 a9 h9)) (ldST_3_2 I a10 h10 _)) (ldST_0_3 I a10 h10 _)) (ldST_1_3 I a10 h10 _)) (ldST_2_3 I a10 h10 _)) (ldST_3_3 I a10 h10 _)).trans (p81 I))).trans
    (View.canon_cons_unit_lit (Val := Elt Ideal) _ _ _ (by decide))
theorem b_14 : View.canon (bodyRunB (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 (R2 I.DY) (R2 I.O) (R2 I.Q) (R2 I.K) (R2 I.V) (R2 I.G) (R2 I.GA) (R2 I.WA) (R2 I.GN) (R4 I.ST) (R4 fun _ => I.STP) (R2 I.P) (R2 I.C) (R2 w18) (R2 w19) (R2 w20) (R3 I.CAR)).2.1 = R2 I.dk :=
  (congrArg (fun a => View.canon ((⟨Rect.unit (s := S256x512) ![0, 0] S256x512.size inb_S256x512_S256x512_0_0, a⟩ :: [] : List (View.Piece (Elt Ideal) S256x512 .bf16)))) ((congr (congrArg (k0_pay177 (F := Ideal)) (r_7 I c a13 h13)) (r_116 I c a1 h1 a2 h2 a3 h3 a5 h5 a6 h6 a9 h9 a13 h13 a22 h22)).trans (p177 I))).trans
    (View.canon_cons_unit_lit (Val := Elt Ideal) _ _ _ (by decide))
theorem b_15 : View.canon (bodyRunB (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 (R2 I.DY) (R2 I.O) (R2 I.Q) (R2 I.K) (R2 I.V) (R2 I.G) (R2 I.GA) (R2 I.WA) (R2 I.GN) (R4 I.ST) (R4 fun _ => I.STP) (R2 I.P) (R2 I.C) (R2 w18) (R2 w19) (R2 w20) (R3 I.CAR)).2.2.1 = R2 (fun i j => I.dvh (j / 256) i (j % 256)) :=
  (congr4 (fun a b d e => View.canon (parts_S256x1024 a b d e ++ []))
    ((congr (congr (congr (congrArg (k0_pay176 (F := Ideal)) (r_120 I c a1 h1 a2 h2 a3 h3 a4 h4 a6 h6 a9 h9 a13 h13 a22 h22)) (r_124 I c a1 h1 a2 h2 a3 h3 a4 h4 a6 h6 a9 h9 a13 h13 a22 h22)) (r_128 I c a1 h1 a2 h2 a3 h3 a4 h4 a6 h6 a9 h9 a13 h13 a22 h22)) (r_132 I c a1 h1 a2 h2 a3 h3 a4 h4 a6 h6 a9 h9 a13 h13 a22 h22)).trans (p176 I))
    (r_144 I c a1 h1 a2 h2 a3 h3 a4 h4 a6 h6 a9 h9 a13 h13 a22 h22)
    ((congr (congr (congr (congrArg (k0_pay174 (F := Ideal)) (r_118 I c a1 h1 a2 h2 a3 h3 a4 h4 a6 h6 a9 h9 a13 h13 a22 h22)) (r_122 I c a1 h1 a2 h2 a3 h3 a4 h4 a6 h6 a9 h9 a13 h13 a22 h22)) (r_126 I c a1 h1 a2 h2 a3 h3 a4 h4 a6 h6 a9 h9 a13 h13 a22 h22)) (r_130 I c a1 h1 a2 h2 a3 h3 a4 h4 a6 h6 a9 h9 a13 h13 a22 h22)).trans (p174 I))
    ((congr (congr (congr (congrArg (k0_pay173 (F := Ideal)) (r_117 I c a1 h1 a2 h2 a3 h3 a4 h4 a6 h6 a9 h9 a13 h13 a22 h22)) (r_121 I c a1 h1 a2 h2 a3 h3 a4 h4 a6 h6 a9 h9 a13 h13 a22 h22)) (r_125 I c a1 h1 a2 h2 a3 h3 a4 h4 a6 h6 a9 h9 a13 h13 a22 h22)) (r_129 I c a1 h1 a2 h2 a3 h3 a4 h4 a6 h6 a9 h9 a13 h13 a22 h22)).trans (p173 I))).trans
    (canon_S256x1024 I.dvh _)
theorem b_16 : View.canon (bodyRunB (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 (R2 I.DY) (R2 I.O) (R2 I.Q) (R2 I.K) (R2 I.V) (R2 I.G) (R2 I.GA) (R2 I.WA) (R2 I.GN) (R4 I.ST) (R4 fun _ => I.STP) (R2 I.P) (R2 I.C) (R2 w18) (R2 w19) (R2 w20) (R3 I.CAR)).2.2.2.1 = R2 (fun i j => I.dgg (j / 256) i (j % 256)) :=
  (congr4 (fun a b d e => View.canon (parts_S256x1024 a b d e ++ []))
    ((congr (congr (congr (congr (congrArg (k0_pay67 (F := Ideal)) (r_39 I c a2 h2)) (r_40 I c a6 h6)) (r_41 I c a9 h9)) (r_42 I c a1 h1)) (r_43 I c a2 h2)).trans (p67 I))
    (r_37 I c a1 h1 a2 h2 a6 h6 a9 h9)
    ((congr (congr (congr (congr (congrArg (k0_pay45 (F := Ideal)) (r_23 I c a2 h2)) (r_24 I c a6 h6)) (r_25 I c a9 h9)) (r_26 I c a1 h1)) (r_27 I c a2 h2)).trans (p45 I))
    (r_21 I c a1 h1 a2 h2 a6 h6 a9 h9)).trans
    (canon_S256x1024 I.dgg _)
theorem b_17 (hi : k0_pay5 (F := Ideal) i = ((I.hp : ℝ) : EReal)) : View.canon (bodyRunB (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 (R2 I.DY) (R2 I.O) (R2 I.Q) (R2 I.K) (R2 I.V) (R2 I.G) (R2 I.GA) (R2 I.WA) (R2 I.GN) (R4 I.ST) (R4 fun _ => I.STP) (R2 I.P) (R2 I.C) (R2 w18) (R2 w19) (R2 w20) (R3 I.CAR)).2.2.2.2.1 = R2 I.dga :=
  (congrArg (fun a => View.canon ((⟨Rect.unit (s := S256x128) ![0, 0] S256x128.size inb_S256x128_S256x128_0_0, a⟩ :: [] : List (View.Piece (Elt Ideal) S256x128 .bf16)))) ((congr (congr (congrArg (k0_pay188 (F := Ideal)) (r_2 I c a8 h8)) (r_149 I c i a1 h1 a2 h2 a3 h3 a4 h4 a5 h5 a6 h6 a9 h9 a10 h10 a11 h11 a13 h13 a22 h22 hi)) (r_150 I c a12 h12)).trans (p188 I))).trans
    (View.canon_cons_unit_lit (Val := Elt Ideal) _ _ _ (by decide))
theorem b_18 (hi : k0_pay5 (F := Ideal) i = ((I.hp : ℝ) : EReal)) : View.canon (bodyRunB (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 (R2 I.DY) (R2 I.O) (R2 I.Q) (R2 I.K) (R2 I.V) (R2 I.G) (R2 I.GA) (R2 I.WA) (R2 I.GN) (R4 I.ST) (R4 fun _ => I.STP) (R2 I.P) (R2 I.C) (R2 w18) (R2 w19) (R2 w20) (R3 I.CAR)).2.2.2.2.2.1 = R2 (fun i j => w18 i j + I.dwap i j) :=
  (congrArg (fun a => View.canon ((⟨Rect.unit (s := S128x512) ![0, 0] S128x512.size inb_S128x512_S128x512_0_0, a⟩ :: [] : List (View.Piece (Elt Ideal) S128x512 .f32)))) ((congr (congr (congr (congrArg (k0_pay189 (F := Ideal)) (r I c a7 h7)) (r_149 I c i a1 h1 a2 h2 a3 h3 a4 h4 a5 h5 a6 h6 a9 h9 a10 h10 a11 h11 a13 h13 a22 h22 hi)) (r_150 I c a12 h12)) (ld_S128x512 a19 h19 w18 _)).trans (p189 I w18))).trans
    (View.canon_cons_unit_lit (Val := Elt Ideal) _ _ _ (by decide))
theorem b_19 (hi : k0_pay5 (F := Ideal) i = ((I.hp : ℝ) : EReal)) : View.canon (bodyRunB (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 (R2 I.DY) (R2 I.O) (R2 I.Q) (R2 I.K) (R2 I.V) (R2 I.G) (R2 I.GA) (R2 I.WA) (R2 I.GN) (R4 I.ST) (R4 fun _ => I.STP) (R2 I.P) (R2 I.C) (R2 w18) (R2 w19) (R2 w20) (R3 I.CAR)).2.2.2.2.2.2.1 = R2 (fun i j => w19 i j + I.dbp i j) :=
  (congrArg (fun a => View.canon ((⟨Rect.unit (s := S1x512) ![0, 0] S1x512.size inb_S1x512_S1x512_0_0, a⟩ :: [] : List (View.Piece (Elt Ideal) S1x512 .f32)))) (r_151 I w19 c i a1 h1 a2 h2 a3 h3 a4 h4 a5 h5 a6 h6 a9 h9 a10 h10 a11 h11 a12 h12 a13 h13 a20 h20 a22 h22 hi)).trans
    (View.canon_cons_unit_lit (Val := Elt Ideal) _ _ _ (by decide))
theorem b_20 : View.canon (bodyRunB (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 (R2 I.DY) (R2 I.O) (R2 I.Q) (R2 I.K) (R2 I.V) (R2 I.G) (R2 I.GA) (R2 I.WA) (R2 I.GN) (R4 I.ST) (R4 fun _ => I.STP) (R2 I.P) (R2 I.C) (R2 w18) (R2 w19) (R2 w20) (R3 I.CAR)).2.2.2.2.2.2.2.1 = R2 (fun i j => (fun h i x => w20 i (256 * h + x) + I.dgp h i x) (j / 256) i (j % 256)) :=
  (congr4 (fun a b d e => View.canon (parts_S1x1024 a b d e ++ []))
    ((congr (congr (congr (congr (congrArg (k0_pay68 (F := Ideal)) (r_39 I c a2 h2)) (r_40 I c a6 h6)) (r_42 I c a1 h1)) (r_43 I c a2 h2)) (v361 w20 c a21 h21)).trans (p68 I (fun i x => w20 i (256 * 3 + x))))
    ((congr (congr (congr (congrArg (k0_pay58 (F := Ideal)) (r_33 I c a2 h2)) (r_35 I c a2 h2)) (r_36 I c a1 h1 a6 h6)) (v298 w20 c a21 h21)).trans (p58 I (fun i x => w20 i (256 * 2 + x))))
    ((congr (congr (congr (congr (congrArg (k0_pay46 (F := Ideal)) (r_23 I c a2 h2)) (r_24 I c a6 h6)) (r_26 I c a1 h1)) (r_27 I c a2 h2)) (v235 w20 c a21 h21)).trans (p46 I (fun i x => w20 i (256 * 1 + x))))
    ((congr (congr (congr (congrArg (k0_pay36 (F := Ideal)) (r_17 I c a2 h2)) (r_19 I c a2 h2)) (r_20 I c a1 h1 a6 h6)) (ld_S1x256_0 a21 h21 w20 _)).trans (p36 I (fun i x => w20 i (256 * 0 + x))))).trans
    (canon_S1x1024 (fun h i x => w20 i (256 * h + x) + I.dgp h i x) _)
theorem b_21 : View.canon (bodyRunB (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 (R2 I.DY) (R2 I.O) (R2 I.Q) (R2 I.K) (R2 I.V) (R2 I.G) (R2 I.GA) (R2 I.WA) (R2 I.GN) (R4 I.ST) (R4 fun _ => I.STP) (R2 I.P) (R2 I.C) (R2 w18) (R2 w19) (R2 w20) (R3 I.CAR)).2.2.2.2.2.2.2.2.1 = R3 (fun h v k => I.ncar h 0 v k) :=
  (congr4 (fun a b d e => View.canon (parts_S4x256x128 a b d e ++ []))
    ((congr (congr (congr (congrArg (k0_pay121 (F := Ideal)) (r_8 I c a13 h13)) (r_9 I c a13 h13)) (r_62 I c a1 h1 a2 h2 a3 h3 a6 h6 a9 h9)) (r_87 I c a1 h1 a2 h2 a3 h3 a6 h6 a9 h9 a13 h13 a22 h22)).trans (p121 I))
    ((congr (congr (congr (congrArg (k0_pay120 (F := Ideal)) (r_8 I c a13 h13)) (r_9 I c a13 h13)) (r_61 I c a1 h1 a2 h2 a3 h3 a6 h6 a9 h9)) (r_86 I c a1 h1 a2 h2 a3 h3 a6 h6 a9 h9 a13 h13 a22 h22)).trans (p120 I))
    ((congr (congr (congr (congrArg (k0_pay119 (F := Ideal)) (r_8 I c a13 h13)) (r_9 I c a13 h13)) (r_60 I c a1 h1 a2 h2 a3 h3 a6 h6 a9 h9)) (r_85 I c a1 h1 a2 h2 a3 h3 a6 h6 a9 h9 a13 h13 a22 h22)).trans (p119 I))
    ((congr (congr (congr (congrArg (k0_pay118 (F := Ideal)) (r_8 I c a13 h13)) (r_59 I c a1 h1 a2 h2 a3 h3 a6 h6 a9 h9)) (r_84 I c a1 h1 a2 h2 a3 h3 a6 h6 a9 h9 a13 h13 a22 h22)) (r_88 I c a13 h13)).trans (p118 I))).trans
    (canon_S4x256x128 I.ncar _)

end WB

end Cert.Mine

end
-- ==== Proof.Mine.Net.lean ====
/- The whole gradient over the real numbers, with the indices of the reference: chunk `n`, place `c` in it, head `a`, key `k` or value `v`. -/
module

public import proofs.«01_k».proof.Proof.Mine.Ops

@[expose] public section

set_option maxRecDepth 16384

noncomputable section

namespace Cert.Mine

/-- The five arguments, as real numbers. -/
structure Net where
  Z : ℕ → ℕ → ℝ
  WA : ℕ → ℕ → ℝ
  BA : ℕ → ℝ
  GN : ℕ → ℝ
  DY : ℕ → ℕ → ℝ

namespace Net
variable (N : Net)

/-- The forget gate's pre-activation. -/
def pre (i j : ℕ) : ℝ := (∑ x : Fin 16, N.Z i (3072 + x) * N.WA x j) + N.BA j
/-- The softplus of its negation. -/
def sp (i j : ℕ) : ℝ := max (-N.pre i j) 0 + Real.log (1 + Real.exp (-|-N.pre i j|))
/-- The log decay. -/
def la (i j : ℕ) : ℝ := -N.sp i j / 16
/-- Its running sum inside the chunk. -/
def L (n c a k : ℕ) : ℝ := ∑ x : Fin 64, if x.val ≤ c then N.la (n * 64 + x) (a * 128 + k) else 0
/-- Its sum over the chunk. -/
def Le (n a k : ℕ) : ℝ := N.L n 63 a k
/-- The decay from a place to the chunk's end. -/
def E (n c a k : ℕ) : ℝ := Real.exp (N.Le n a k - N.L n c a k)
/-- The key. -/
def K (n c a k : ℕ) : ℝ := N.Z (n * 64 + c) (512 + (a * 128 + k))
/-- The value. -/
def Vv (n c a v : ℕ) : ℝ := N.Z (n * 64 + c) (1024 + (a * 256 + v))
/-- The scaled query. -/
def qs (n c a k : ℕ) : ℝ := N.Z (n * 64 + c) (a * 128 + k) * kap
/-- The decayed key. -/
def kd (n c a k : ℕ) : ℝ := N.K n c a k * N.E n c a k
/-- What a chunk adds to the state. -/
def U (n a k v : ℕ) : ℝ := ∑ c : Fin 64, N.kd n c a k * N.Vv n c a v
/-- The running sum of the chunks' log decays. -/
def C (n a k : ℕ) : ℝ := ∑ x : Fin 32, if x.val ≤ n then N.Le x a k else 0
/-- The decay between two chunks, whichever comes first. -/
def X (n m a k : ℕ) : ℝ := Real.exp (N.C n a k - N.C m a k)
/-- The decay from an earlier chunk to a later one. -/
def D (n m a k : ℕ) : ℝ := if m ≤ n then N.X n m a k else 0
/-- The state after a chunk. -/
def S (n a k v : ℕ) : ℝ := ∑ m : Fin 32, N.U m a k v * N.D n m a k
/-- The output, by chunk and place. -/
def o4 (n c a v : ℕ) : ℝ := ∑ k : Fin 128, N.S n a k v * N.qs n c a k
/-- The output, by row. -/
def o (i a v : ℕ) : ℝ := N.o4 (i / 64) (i % 64) a v
/-- The row's mean square and the small term. -/
def var (i a : ℕ) : ℝ := (∑ v : Fin 256, N.o i a v * N.o i a v) / 256 + eps
/-- The reciprocal root. -/
def r (i a : ℕ) : ℝ := (Real.sqrt (N.var i a))⁻¹
/-- The gate's logistic function. -/
def sg (i j : ℕ) : ℝ := 1 / (1 + Real.exp (-N.Z i (2048 + j)))
/-- The gate. -/
def si (i j : ℕ) : ℝ := N.Z i (2048 + j) * N.sg i j
/-- The gradient past gate and weight. -/
def w (i a v : ℕ) : ℝ := N.DY i (a * 256 + v) * N.si i (a * 256 + v) * N.GN (a * 256 + v)
/-- The root's part of the norm's gradient. -/
def q (i a : ℕ) : ℝ := (∑ v : Fin 256, N.o i a v * N.w i a v) * (-1 / 2 * (N.r i a / N.var i a)) / 256
/-- The output's gradient. -/
def dO (i a v : ℕ) : ℝ := N.w i a v * N.r i a + N.o i a v * N.q i a + N.q i a * N.o i a v
/-- A chunk's own part of its state's gradient. -/
def T (n a k v : ℕ) : ℝ := ∑ c : Fin 64, N.dO (n * 64 + c) a v * N.qs n c a k
/-- The gradient of what a chunk adds to the state. -/
def Gs (n a k v : ℕ) : ℝ := ∑ p : Fin 32, N.T p a k v * N.D p n a k
/-- The gradient of the decay between two chunks, by the decay. -/
def W (n m a k : ℕ) : ℝ := if m ≤ n then (∑ v : Fin 256, N.T n a k v * N.U m a k v) * N.X n m a k else 0
/-- The decayed key's gradient. -/
def dkd (n c a k : ℕ) : ℝ := ∑ v : Fin 256, N.Gs n a k v * N.Vv n c a v
/-- The gradient of the decay to the chunk's end, by the decay. -/
def dd (n c a k : ℕ) : ℝ := N.K n c a k * N.dkd n c a k * N.E n c a k
/-- The gradient of the running sum over the chunks. -/
def dC (n a k : ℕ) : ℝ := (∑ m : Fin 32, -N.W m n a k) + ∑ m : Fin 32, N.W n m a k
/-- The gradient of the chunk's log decay. -/
def dLe (n a k : ℕ) : ℝ := (∑ x : Fin 32, if n ≤ x.val then N.dC x a k else 0) + ∑ c : Fin 64, N.dd n c a k
/-- The gradient of the log decay. -/
def dl (n c a k : ℕ) : ℝ := ∑ x : Fin 64, if c ≤ x.val then -N.dd n x a k + (if x.val = 63 then N.dLe n a k else 0) else 0
/-- The pre-activation's gradient. -/
def dpre (i j : ℕ) : ℝ := -(-(N.dl (i / 64) (i % 64) (j / 128) (j % 128) / 16) * Real.exp (-N.pre i j - N.sp i j))
/-- The normalised output times its weight. -/
def on (i j : ℕ) : ℝ := N.o i (j / 256) (j % 256) * N.r i (j / 256) * N.GN j
/-- The query's gradient. -/
def dq (n c a k : ℕ) : ℝ := (∑ v : Fin 256, N.dO (n * 64 + c) a v * N.S n a k v) * kap
/-- The key's gradient. -/
def dk (n c a k : ℕ) : ℝ := N.dkd n c a k * N.E n c a k
/-- The value's gradient. -/
def dv (n c a v : ℕ) : ℝ := ∑ k : Fin 128, N.Gs n a k v * N.kd n c a k
/-- The gate's gradient. -/
def dgg (i j : ℕ) : ℝ := N.on i j * N.DY i j * N.sg i j + N.Z i (2048 + j) * (N.on i j * N.DY i j) * (N.sg i j * (1 - N.sg i j))
/-- The low-rank input's gradient. -/
def dga (i j : ℕ) : ℝ := if j < 16 then ∑ x : Fin 512, N.dpre i x * N.WA j x else 0
/-- The low-rank weight's gradient. -/
def dwa (i j : ℕ) : ℝ := if i < 16 then ∑ x : Fin 2048, N.dpre x j * N.Z x (3072 + i) else 0
/-- The bias's gradient. -/
def db (j : ℕ) : ℝ := ∑ i : Fin 2048, N.dpre i j
/-- The norm weight's gradient. -/
def dg (j : ℕ) : ℝ := ∑ i : Fin 2048, N.o i (j / 256) (j % 256) * N.r i (j / 256) * (N.DY i j * N.si i j)

theorem var_pos (i a : ℕ) : 0 < N.var i a := by
  have : 0 ≤ ∑ v : Fin 256, N.o i a v * N.o i a v := Finset.sum_nonneg fun _ _ => mul_self_nonneg _
  have := eps_pos
  unfold var; positivity

end Net

end Cert.Mine

end
-- ==== Proof.Mine.Window.lean ====
/- The running sums of the host's code, forwards and backwards, over real arrays. -/
module

public import proofs.«01_k».proof.Proof.Mine.Ops

@[expose] public section

set_option maxRecDepth 16384

noncomputable section

namespace Cert.Mine

open Idealize.ShloMosaic

/-- A fold by addition is the start plus the sum. -/
theorem foldl_add_eq {n : ℕ} (g : Fin n → EReal) (v : EReal) :
    (List.finRange n).foldl (fun r i => r + g i) v = v + ∑ i, g i := by
  have h : ∀ (l : List (Fin n)) (v : EReal), l.foldl (fun r i => r + g i) v = v + (l.map g).sum := by
    intro l
    induction l with
    | nil => intro v; simp
    | cons a l ih => intro v; rw [List.foldl_cons, ih, List.map_cons, List.sum_cons, add_assoc]
  rw [h, Fin.sum_univ_def]

/-- Positions `lo` before `c` and on, those inside `n`: with `lo = n - 1` the positions not after `c`. -/
theorem sum_upto (n : ℕ) (c : ℕ) (hc : c < n) (f : ℕ → ℝ) :
    (∑ w : Fin n, if n - 1 ≤ c + w.val ∧ c + w.val - (n - 1) < n then f (c + w.val - (n - 1)) else 0)
      = ∑ x : Fin n, if x.val ≤ c then f x.val else 0 := by
  rw [← Finset.sum_filter, ← Finset.sum_filter]
  refine Finset.sum_bij' (fun w _ => (⟨(c + w.val - (n - 1)) % n, Nat.mod_lt _ (by omega)⟩ : Fin n))
    (fun x _ => (⟨(x.val + (n - 1) - c) % n, Nat.mod_lt _ (by omega)⟩ : Fin n)) ?_ ?_ ?_ ?_ ?_
  all_goals
    intro w hw
    have h2 := w.isLt
    simp only [Finset.mem_filter, Finset.mem_univ, true_and] at hw ⊢
  · rw [Nat.mod_eq_of_lt (by omega)]; omega
  · rw [Nat.mod_eq_of_lt (by omega)]; omega
  · apply Fin.ext; show ((c + w.val - (n - 1)) % n + (n - 1) - c) % n = w.val
    rw [Nat.mod_eq_of_lt (a := c + w.val - (n - 1)) (by omega), Nat.mod_eq_of_lt (by omega)]; omega
  · apply Fin.ext; show (c + (w.val + (n - 1) - c) % n - (n - 1)) % n = w.val
    rw [Nat.mod_eq_of_lt (a := w.val + (n - 1) - c) (by omega), Nat.mod_eq_of_lt (by omega)]; omega
  · rw [Nat.mod_eq_of_lt (by omega)]

/-- With nothing before: the positions not before `c`. -/
theorem sum_from (n : ℕ) (c : ℕ) (hc : c < n) (f : ℕ → ℝ) :
    (∑ w : Fin n, if 0 ≤ c + w.val ∧ c + w.val - 0 < n then f (c + w.val - 0) else 0)
      = ∑ x : Fin n, if c ≤ x.val then f x.val else 0 := by
  rw [← Finset.sum_filter, ← Finset.sum_filter]
  refine Finset.sum_bij' (fun w _ => (⟨(c + w.val) % n, Nat.mod_lt _ (by omega)⟩ : Fin n))
    (fun x _ => (⟨(x.val - c) % n, Nat.mod_lt _ (by omega)⟩ : Fin n)) ?_ ?_ ?_ ?_ ?_
  all_goals
    intro w hw
    have h2 := w.isLt
    simp only [Finset.mem_filter, Finset.mem_univ, true_and] at hw ⊢
  · rw [Nat.mod_eq_of_lt (by omega)]; omega
  · rw [Nat.mod_eq_of_lt (by omega)]; omega
  · apply Fin.ext; show ((c + w.val) % n - c) % n = w.val
    rw [Nat.mod_eq_of_lt (a := c + w.val) (by omega), Nat.mod_eq_of_lt (by omega)]; omega
  · apply Fin.ext; show (c + (w.val - c) % n) % n = w.val
    rw [Nat.mod_eq_of_lt (a := w.val - c) (by omega), Nat.mod_eq_of_lt (by omega)]; omega
  · rw [Nat.mod_eq_of_lt (by omega)]; rfl

/-- The positions of a window open along axis 1 alone. -/
def win4 : Fin 64 ≃ (⟨4, ![1, 64, 1, 1]⟩ : Shape).Idx where
  toFun w := fun a => match a with
    | ⟨0, _⟩ => (⟨0, Nat.one_pos⟩ : Fin 1)
    | ⟨1, _⟩ => w
    | ⟨2, _⟩ => (⟨0, Nat.one_pos⟩ : Fin 1)
    | ⟨3, _⟩ => (⟨0, Nat.one_pos⟩ : Fin 1)
  invFun y := y 1
  left_inv w := rfl
  right_inv y := by
    funext a
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _

/-- The positions of a window open along axis 0 alone. -/
def win3 : Fin 32 ≃ (⟨3, ![32, 1, 1]⟩ : Shape).Idx where
  toFun w := fun a => match a with
    | ⟨0, _⟩ => w
    | ⟨1, _⟩ => (⟨0, Nat.one_pos⟩ : Fin 1)
    | ⟨2, _⟩ => (⟨0, Nat.one_pos⟩ : Fin 1)
  invFun y := y 0
  left_inv w := rfl
  right_inv y := by
    funext a
    match a with
    | ⟨0, _⟩ => rfl
    | ⟨1, _⟩ => exact Subsingleton.elim (α := Fin 1) _ _
    | ⟨2, _⟩ => exact Subsingleton.elim (α := Fin 1) _ _

/-- A window sum of the host's code, as a sum over the window's positions. -/
theorem window_sum {s t u : Shape} (window strides lo hi : Fin s.rank → ℕ) (x : FVec Ideal s .f32) (init : u.Idx → EReal) (h) (hu) (j : t.Idx) :
    Host.reduceWindowAdd (F := Ideal) (s := s) (t := t) (u := u) (φ := .f32) window strides lo hi x init h hu j
    = init (Shape.Idx.first hu) + ∑ y : (⟨s.rank, window⟩ : Shape).Idx,
        if hin : ∀ a, lo a ≤ (j (a.cast h.1.symm)).val * strides a + (y a).val ∧ (j (a.cast h.1.symm)).val * strides a + (y a).val - lo a < s.size a
          then x (fun a => ⟨(j (a.cast h.1.symm)).val * strides a + (y a).val - lo a, (hin a).2⟩) else init (Shape.Idx.first hu) := by
  refine (foldl_add_eq (fun i : Fin (⟨s.rank, window⟩ : Shape).numel => _) _).trans (congrArg _ ?_)
  refine Eq.trans (Finset.sum_congr rfl fun n _ => ?_) (Equiv.sum_comp (Shape.rowMajor ⟨s.rank, window⟩).symm (fun y => if hin : ∀ a, lo a ≤ (j (a.cast h.1.symm)).val * strides a + (y a).val ∧ (j (a.cast h.1.symm)).val * strides a + (y a).val - lo a < s.size a
          then x (fun a => ⟨(j (a.cast h.1.symm)).val * strides a + (y a).val - lo a, (hin a).2⟩) else init (Shape.Idx.first hu)))
  by_cases H : ∀ a : Fin s.rank, lo a ≤ (j (a.cast h.1.symm)).val * strides a + ((Shape.rowMajor ⟨s.rank, window⟩).symm n a).val ∧ (j (a.cast h.1.symm)).val * strides a + ((Shape.rowMajor ⟨s.rank, window⟩).symm n a).val - lo a < s.size a
  · refine Eq.trans (dif_pos H) (Eq.symm ?_); exact dif_pos H
  · refine Eq.trans (dif_neg H) (Eq.symm ?_); exact dif_neg H

theorem window4 (lo hi : ℕ) (f : ℕ → ℕ → ℕ → ℕ → ℝ) (init : (⟨0, ![]⟩ : Shape).Idx → EReal) (hi0 : ∀ i, init i = 0) (h) (hu) :
    Host.reduceWindowAdd (F := Ideal) (s := ⟨4, ![32, 64, 4, 128]⟩) (t := ⟨4, ![32, 64, 4, 128]⟩) (u := ⟨0, ![]⟩) (φ := .f32) ![1, 64, 1, 1] ![1, 1, 1, 1]
      ![0, lo, 0, 0] ![0, hi, 0, 0] (R4 f) init h hu
    = R4 (fun n c a k => ∑ w : Fin 64, if lo ≤ c + w.val ∧ c + w.val - lo < 64 then f n (c + w.val - lo) a k else 0) := by
  funext j
  refine (window_sum _ _ _ _ _ _ _ _ _).trans ?_
  rw [hi0, zero_add]
  refine (Equiv.sum_comp win4 _).symm.trans ?_
  refine Eq.trans ?_ (coe_sum _ _)
  refine Finset.sum_congr rfl fun w _ => ?_
  have h0 : (j 0).val < 32 := (j 0).isLt
  have h2 : (j 2).val < 4 := (j 2).isLt
  have h3 : (j 3).val < 128 := (j 3).isLt
  by_cases hw : lo ≤ (j 1).val + w.val ∧ (j 1).val + w.val - lo < 64
  · rw [if_pos hw, dif_pos]
    · show ((f ((j 0).val * 1 + 0 - 0) ((j 1).val * 1 + w.val - lo) ((j 2).val * 1 + 0 - 0) ((j 3).val * 1 + 0 - 0) : ℝ) : EReal) = _
      simp only [Nat.mul_one, Nat.add_zero, Nat.sub_zero]
    · intro a
      match a with
      | ⟨0, _⟩ => show 0 ≤ (j 0).val * 1 + 0 ∧ (j 0).val * 1 + 0 - 0 < 32; omega
      | ⟨1, _⟩ => show lo ≤ (j 1).val * 1 + w.val ∧ (j 1).val * 1 + w.val - lo < 64; omega
      | ⟨2, _⟩ => show 0 ≤ (j 2).val * 1 + 0 ∧ (j 2).val * 1 + 0 - 0 < 4; omega
      | ⟨3, _⟩ => show 0 ≤ (j 3).val * 1 + 0 ∧ (j 3).val * 1 + 0 - 0 < 128; omega
  · rw [if_neg hw, dif_neg]
    · rfl
    · intro H
      have : lo ≤ (j 1).val * 1 + w.val ∧ (j 1).val * 1 + w.val - lo < 64 := H 1
      omega

theorem window3 (lo hi : ℕ) (f : ℕ → ℕ → ℕ → ℝ) (init : (⟨0, ![]⟩ : Shape).Idx → EReal) (hi0 : ∀ i, init i = 0) (h) (hu) :
    Host.reduceWindowAdd (F := Ideal) (s := ⟨3, ![32, 4, 128]⟩) (t := ⟨3, ![32, 4, 128]⟩) (u := ⟨0, ![]⟩) (φ := .f32) ![32, 1, 1] ![1, 1, 1]
      ![lo, 0, 0] ![hi, 0, 0] (R3 f) init h hu
    = R3 (fun n a k => ∑ w : Fin 32, if lo ≤ n + w.val ∧ n + w.val - lo < 32 then f (n + w.val - lo) a k else 0) := by
  funext j
  refine (window_sum _ _ _ _ _ _ _ _ _).trans ?_
  rw [hi0, zero_add]
  refine (Equiv.sum_comp win3 _).symm.trans ?_
  refine Eq.trans ?_ (coe_sum _ _)
  refine Finset.sum_congr rfl fun w _ => ?_
  have h2 : (j 1).val < 4 := (j 1).isLt
  have h3 : (j 2).val < 128 := (j 2).isLt
  by_cases hw : lo ≤ (j 0).val + w.val ∧ (j 0).val + w.val - lo < 32
  · rw [if_pos hw, dif_pos]
    · show ((f ((j 0).val * 1 + w.val - lo) ((j 1).val * 1 + 0 - 0) ((j 2).val * 1 + 0 - 0) : ℝ) : EReal) = _
      simp only [Nat.mul_one, Nat.add_zero, Nat.sub_zero]
    · intro a
      match a with
      | ⟨0, _⟩ => show lo ≤ (j 0).val * 1 + w.val ∧ (j 0).val * 1 + w.val - lo < 32; omega
      | ⟨1, _⟩ => show 0 ≤ (j 1).val * 1 + 0 ∧ (j 1).val * 1 + 0 - 0 < 4; omega
      | ⟨2, _⟩ => show 0 ≤ (j 2).val * 1 + 0 ∧ (j 2).val * 1 + 0 - 0 < 128; omega
  · rw [if_neg hw, dif_neg]
    · rfl
    · intro H
      have : lo ≤ (j 0).val * 1 + w.val ∧ (j 0).val * 1 + w.val - lo < 32 := H 0
      omega

/-- Two real arrays of rank 4 are equal when their elements inside the shape are. -/
theorem R4_congr {a b c d : ℕ} {f g : ℕ → ℕ → ℕ → ℕ → ℝ} (h : ∀ i < a, ∀ j < b, ∀ k < c, ∀ l < d, f i j k l = g i j k l) :
    (R4 f : (⟨4, ![a, b, c, d]⟩ : Shape).Idx → EReal) = R4 g := by
  funext x; exact congrArg _ (h _ (x 0).isLt _ (x 1).isLt _ (x 2).isLt _ (x 3).isLt)

theorem R3_congr' {a b c : ℕ} {f g : ℕ → ℕ → ℕ → ℝ} (h : ∀ i < a, ∀ j < b, ∀ k < c, f i j k = g i j k) :
    (R3 f : (⟨3, ![a, b, c]⟩ : Shape).Idx → EReal) = R3 g := by
  funext x; exact congrArg _ (h _ (x 0).isLt _ (x 1).isLt _ (x 2).isLt)

theorem cum_up4 (f : ℕ → ℕ → ℕ → ℕ → ℝ) (init : (⟨0, ![]⟩ : Shape).Idx → EReal) (hi0 : ∀ i, init i = 0) (h) (hu) :
    Host.reduceWindowAdd (F := Ideal) (s := ⟨4, ![32, 64, 4, 128]⟩) (t := ⟨4, ![32, 64, 4, 128]⟩) (u := ⟨0, ![]⟩) (φ := .f32) ![1, 64, 1, 1] ![1, 1, 1, 1]
      ![0, 63, 0, 0] ![0, 0, 0, 0] (R4 f) init h hu
    = R4 (fun n c a k => ∑ x : Fin 64, if x.val ≤ c then f n x.val a k else 0) :=
  (window4 63 0 f init hi0 h hu).trans (R4_congr fun n _ c hc a _ k _ => sum_upto 64 c hc fun x => f n x a k)
theorem cum_down4 (f : ℕ → ℕ → ℕ → ℕ → ℝ) (init : (⟨0, ![]⟩ : Shape).Idx → EReal) (hi0 : ∀ i, init i = 0) (h) (hu) :
    Host.reduceWindowAdd (F := Ideal) (s := ⟨4, ![32, 64, 4, 128]⟩) (t := ⟨4, ![32, 64, 4, 128]⟩) (u := ⟨0, ![]⟩) (φ := .f32) ![1, 64, 1, 1] ![1, 1, 1, 1]
      ![0, 0, 0, 0] ![0, 63, 0, 0] (R4 f) init h hu
    = R4 (fun n c a k => ∑ x : Fin 64, if c ≤ x.val then f n x.val a k else 0) :=
  (window4 0 63 f init hi0 h hu).trans (R4_congr fun n _ c hc a _ k _ => sum_from 64 c hc fun x => f n x a k)
theorem cum_up3 (f : ℕ → ℕ → ℕ → ℝ) (init : (⟨0, ![]⟩ : Shape).Idx → EReal) (hi0 : ∀ i, init i = 0) (h) (hu) :
    Host.reduceWindowAdd (F := Ideal) (s := ⟨3, ![32, 4, 128]⟩) (t := ⟨3, ![32, 4, 128]⟩) (u := ⟨0, ![]⟩) (φ := .f32) ![32, 1, 1] ![1, 1, 1]
      ![31, 0, 0] ![0, 0, 0] (R3 f) init h hu
    = R3 (fun n a k => ∑ x : Fin 32, if x.val ≤ n then f x.val a k else 0) :=
  (window3 31 0 f init hi0 h hu).trans (R3_congr' fun n hn a _ k _ => sum_upto 32 n hn fun x => f x a k)
theorem cum_down3 (f : ℕ → ℕ → ℕ → ℝ) (init : (⟨0, ![]⟩ : Shape).Idx → EReal) (hi0 : ∀ i, init i = 0) (h) (hu) :
    Host.reduceWindowAdd (F := Ideal) (s := ⟨3, ![32, 4, 128]⟩) (t := ⟨3, ![32, 4, 128]⟩) (u := ⟨0, ![]⟩) (φ := .f32) ![32, 1, 1] ![1, 1, 1]
      ![0, 0, 0] ![31, 0, 0] (R3 f) init h hu
    = R3 (fun n a k => ∑ x : Fin 32, if n ≤ x.val then f x.val a k else 0) :=
  (window3 0 31 f init hi0 h hu).trans (R3_congr' fun n hn a _ k _ => sum_from 32 n hn fun x => f x a k)

end Cert.Mine

end
-- ==== Proof.Mine.RefVal.lean ====
/- The reference's values over real arguments: each is the array of the real gradient's numbers. -/
module

public import proofs.«01_k».proof.Proof.Mine.Net
public import proofs.«01_k».proof.Proof.Mine.Window
public import proofs.«01_k».proof.Proof.Gen.ReferenceIdeal.Run

@[expose] public section

set_option maxRecDepth 16384

noncomputable section

namespace Cert.Mine.Ref

open Idealize.ShloMosaic Cert.ReferenceIdeal Cert.ReferenceIdeal.Gen Cert.ReferenceIdeal.Value

/-- The arguments hold the numbers of `N`. -/
structure At (N : Net) (V0 : Valuation τ sig (Elt Ideal)) : Prop where
  z : V0 (Proc.devRef .tc main_arg0) = R2 (a := 2048) (b := 7184) N.Z
  wa : V0 (Proc.devRef .tc main_arg1) = R2 (a := 16) (b := 512) N.WA
  ba : V0 (Proc.devRef .tc main_arg2) = R1 (a := 512) N.BA
  gn : V0 (Proc.devRef .tc main_arg3) = R1 (a := 1024) N.GN
  dy : V0 (Proc.devRef .tc main_arg4) = R2 (a := 2048) (b := 2048) N.DY

/-- Sixteen. -/
theorem ofBits_16 : Ideal.ofBits .f32 0x41800000#32 = ((16 : ℝ) : EReal) := by
  simp [Ideal.ofBits, Ideal.ieee, -EReal.coe_mul]; norm_num
/-- The infinity. -/
theorem ofBits_inf : Ideal.ofBits .f32 0x7F800000#32 = ⊤ := by
  simp [Ideal.ofBits, Ideal.ieee]
/-- Minus one half. -/
theorem ofBits_mhalf : Ideal.ofBits .f32 0xBF000000#32 = ((-1 / 2 : ℝ) : EReal) := by
  simp [Ideal.ofBits, Ideal.ieee, -EReal.coe_mul]; norm_num
/-- The softplus of a real number. -/
theorem softplus_real (x : ℝ) : max (x : EReal) 0 + Ideal.log1p (Ideal.exp (-FloatOps.absf (F := Ideal) (φ := .f32) (x : EReal))) = ((max x 0 + Real.log (1 + Real.exp (-|x|)) : ℝ) : EReal) := by
  have e : FloatOps.absf (F := Ideal) (φ := .f32) (x : EReal) = ((|x| : ℝ) : EReal) := by
    show max (x : EReal) (-(x : EReal)) = _
    rw [← EReal.coe_neg, abs_eq_max_neg]
    rcases le_total x (-x) with h | h
    · rw [max_eq_right (EReal.coe_le_coe_iff.mpr h), max_eq_right h]
    · rw [max_eq_left (EReal.coe_le_coe_iff.mpr h), max_eq_left h]
  have e' : max (x : EReal) 0 = ((max x 0 : ℝ) : EReal) := by
    rw [← EReal.coe_zero]
    rcases le_total x 0 with h | h
    · rw [max_eq_right (EReal.coe_le_coe_iff.mpr h), max_eq_right h]
    · rw [max_eq_left (EReal.coe_le_coe_iff.mpr h), max_eq_left h]
  rw [e, e', ← EReal.coe_neg, Ideal.exp_coe]
  show _ + Ideal.log (1 + _) = _
  rw [← EReal.coe_one, ← EReal.coe_add, Ideal.log_coe, if_neg (by have := Real.exp_pos (-|x|); linarith), ← EReal.coe_add]

/-- The last step to the pre-activation's gradient. -/
theorem dpre_real (d p s : ℝ) : -(-Ideal.div (d : EReal) (Ideal.ofBits .f32 0x41800000#32) *
      Ideal.exp ((if (p : EReal) = Ideal.ofBits .f32 0x7F800000#32 then 0 else (p : EReal)) - (if (s : EReal) = Ideal.ofBits .f32 0x7F800000#32 then 0 else (s : EReal))))
    = ((-(-(d / 16) * Real.exp (p - s)) : ℝ) : EReal) := by
  rw [ofBits_inf, if_neg (EReal.coe_ne_top _), if_neg (EReal.coe_ne_top _), ofBits_16, div_real _ (show (16 : ℝ) ≠ 0 by norm_num),
    ← EReal.coe_sub, Ideal.exp_coe, ← EReal.coe_neg, ← EReal.coe_mul, ← EReal.coe_neg]
theorem sitofp_0 : (FloatOps.sitofp (F := Ideal) .f32 (0#32) : EReal) = 0 := by
  show (((0#32 : BitVec 32).toInt : ℝ) : EReal) = 0
  simp

/-- A condition moves inside the cast. -/
theorem coe_ite0 (c : Prop) [Decidable c] (x : ℝ) : (if c then ((x : ℝ) : EReal) else 0) = ((if c then x else 0 : ℝ) : EReal) := by
  split <;> rfl
theorem mask_eq {α : Type} (x y : Fin 32) (a b : α) :
    Scalar.select (IntOp.cmpi .sge (BitVec.ofNat 32 x.val) (BitVec.ofNat 32 y.val)) a b = if y.val ≤ x.val then a else b := by
  have key : ∀ x y : Fin 32, IntOp.cmpi .sge (BitVec.ofNat 32 x.val) (BitVec.ofNat 32 y.val) = if y.val ≤ x.val then 1#1 else 0#1 := by decide +kernel
  rw [key]; split <;> rfl

section
variable {N : Net} {V0 : Valuation τ sig (Elt Ideal)} (h : At N V0)
include h

theorem v3 : res_main_v3 V0 = R2 (fun i j => N.Z i (2048 + j)) := by
  unfold res_main_v3; rw [h.z]
  funext x; idx_vars x; pointwise
  rfl
theorem v4 : res_main_v4 V0 = R2 (fun i j => N.Z i (3072 + j)) := by
  unfold res_main_v4; rw [h.z]
  funext x; idx_vars x; pointwise
  rfl
theorem call0_v0 : res_main_call0_v0 V0 = R2 (fun i j => -N.pre i j) := by
  unfold res_main_call0_v0; rw [h.wa, h.ba, v4 h]
  funext x; idx_vars x; pointwise
  simp only [R1, R2, R3, R4, ← EReal.coe_mul, ← EReal.coe_add, ← EReal.coe_sub, ← EReal.coe_neg, coe_sum, Ideal.exp_coe, ofBits_kap]; rfl
theorem call0_call0_v3 : res_main_call0_call0_v3 V0 = R2 (fun i j => -N.pre i j) := by
  unfold res_main_call0_call0_v3; rw [call0_v0 h]
  funext x; idx_vars x; pointwise
  rw [show res_main_call0_call0_cst V0 ix0 = (0 : EReal) from Ideal.ofBits_zero_f32, sub_zero]
theorem call0_v1_0 : res_main_call0_v1_0 V0 = R2 N.sp := by
  unfold res_main_call0_v1_0; rw [call0_v0 h, call0_call0_v3 h]
  funext x; idx_vars x; pointwise
  rw [show res_main_call0_call0_cst V0 ix0 = (0 : EReal) from Ideal.ofBits_zero_f32, if_neg (not_not.mpr rfl)]
  exact softplus_real _
theorem v14 : res_main_v14 V0 = R4 N.qs := by
  unfold res_main_v14; rw [h.z]
  funext x; idx_vars x; pointwise
  simp only [R1, R2, R3, R4, ← EReal.coe_mul, ← EReal.coe_add, ← EReal.coe_sub, ← EReal.coe_neg, coe_sum, Ideal.exp_coe, ofBits_kap]; rfl
theorem v15 : res_main_v15 V0 = R4 N.K := by
  unfold res_main_v15; rw [h.z]
  funext x; idx_vars x; pointwise
  rfl
theorem v16 : res_main_v16 V0 = R4 N.Vv := by
  unfold res_main_v16; rw [h.z]
  funext x; idx_vars x; pointwise
  rfl
theorem v18 : res_main_v18 V0 = R4 N.L := by
  unfold res_main_v18; rw [call0_v1_0 h]
  have e : (shapeCast S32x64x4x128 (Host.divf (Host.negf (R2 N.sp)) (broadcastInDim S2048x512 ![] bcast_S_S2048x512 (constant (F := Ideal) S_ .f32 0x41800000#32))) shapeCasts_S2048x512_S32x64x4x128) = R4 (fun n c a k => N.la (n * 64 + c) (a * 128 + k)) := by
    funext x; idx_vars x; pointwise
    simp only [R2, R4, ← EReal.coe_neg, ofBits_16]
    exact div_real _ (by norm_num)
  rw [e]
  exact cum_up4 (fun n c a k => N.la (n * 64 + c) (a * 128 + k)) _ (fun _ => Ideal.ofBits_zero_f32) _ _
theorem v20 : res_main_v20 V0 = R3 N.Le := by
  unfold res_main_v20; rw [v18 h]
  funext x; idx_vars x; pointwise
  rfl
theorem v24 : res_main_v24 V0 = R4 N.E := by
  unfold res_main_v24; rw [v18 h, v20 h]
  funext x; idx_vars x; pointwise
  simp only [R1, R2, R3, R4, ← EReal.coe_mul, ← EReal.coe_add, ← EReal.coe_sub, ← EReal.coe_neg, coe_sum, Ideal.exp_coe, ofBits_kap]; rfl
theorem v25 : res_main_v25 V0 = R4 N.kd := by
  unfold res_main_v25; rw [v15 h, v24 h]
  funext x; idx_vars x; pointwise
  simp only [R1, R2, R3, R4, ← EReal.coe_mul, ← EReal.coe_add, ← EReal.coe_sub, ← EReal.coe_neg, coe_sum, Ideal.exp_coe, ofBits_kap]; rfl
theorem v26 : res_main_v26 V0 = R4 N.U := by
  unfold res_main_v26; rw [v25 h, v16 h]
  funext x; idx_vars x; pointwise
  simp only [R1, R2, R3, R4, ← EReal.coe_mul, ← EReal.coe_add, ← EReal.coe_sub, ← EReal.coe_neg, coe_sum, Ideal.exp_coe, ofBits_kap]; rfl
theorem v27 : res_main_v27 V0 = R3 N.C := by
  unfold res_main_v27; rw [v20 h]
  exact cum_up3 N.Le _ (fun _ => Ideal.ofBits_zero_f32) _ _
theorem v40 : res_main_v40 V0 = R4 N.X := by
  unfold res_main_v40; rw [v27 h]
  funext x; idx_vars x; pointwise
  simp only [R1, R2, R3, R4, ← EReal.coe_mul, ← EReal.coe_add, ← EReal.coe_sub, ← EReal.coe_neg, coe_sum, Ideal.exp_coe, ofBits_kap]; rfl
theorem v41_0 : res_main_v41_0 V0 = R4 N.D := by
  unfold res_main_v41_0 res_main_v41_1 res_main_v28; rw [v40 h]
  funext x; idx_vars x; pointwise
  rw [mask_eq]; unfold Net.D R4
  exact (congrArg (fun z => if x1.val ≤ x0.val then _ else z) Ideal.ofBits_zero_f32).trans (coe_ite0 _ _)
theorem v43 : res_main_v43 V0 = R4 N.S := by
  unfold res_main_v43; rw [v26 h, v41_0 h]
  funext x; idx_vars x; pointwise
  simp only [R1, R2, R3, R4, ← EReal.coe_mul, ← EReal.coe_add, ← EReal.coe_sub, ← EReal.coe_neg, coe_sum, Ideal.exp_coe, ofBits_kap]; rfl
theorem v46 : res_main_v46 V0 = R3 N.o := by
  unfold res_main_v46; rw [v43 h, v14 h]
  funext x; idx_vars x; pointwise
  simp only [R1, R2, R3, R4, ← EReal.coe_mul, ← EReal.coe_add, ← EReal.coe_sub, ← EReal.coe_neg, coe_sum, Ideal.exp_coe, ofBits_kap]; rfl
theorem v53 : res_main_v53 V0 = R3 (fun i a _ => N.var i a) := by
  unfold res_main_v53; rw [v46 h]
  funext x; idx_vars x; pointwise
  simp only [R3, ← EReal.coe_mul, coe_sum, ofBits_256, ofBits_eps, div_real _ (show (256 : ℝ) ≠ 0 by norm_num), ← EReal.coe_add]; rfl
theorem v54 : res_main_v54 V0 = R3 (fun i a _ => N.r i a) := by
  unfold res_main_v54; rw [v53 h]
  funext x; idx_vars x; pointwise
  exact rsqrt_real (N.var_pos _ _)
theorem v59 : res_main_v59 V0 = R3 (fun i a v => N.o i a v * N.r i a) := by
  unfold res_main_v59; rw [v46 h, v54 h]
  funext x; idx_vars x; pointwise
  simp only [R1, R2, R3, R4, ← EReal.coe_mul, ← EReal.coe_add, ← EReal.coe_sub, ← EReal.coe_neg, coe_sum, Ideal.exp_coe, ofBits_kap]; rfl
theorem v61 : res_main_v61 V0 = R3 (fun _ a v => N.GN (a * 256 + v)) := by
  unfold res_main_v61; rw [h.gn]
  funext x; idx_vars x; pointwise
  rfl
theorem v64 : res_main_v64 V0 = R2 N.on := by
  unfold res_main_v64; rw [v59 h, v61 h]
  funext x; idx_vars x; pointwise
  simp only [R2, R3, ← EReal.coe_mul]
  refine congrArg (fun z : ℝ => (z : EReal)) ?_
  show _ * _ * N.GN (x1.val / 256 * 256 + x1.val % 256) = _
  rw [show x1.val / 256 * 256 + x1.val % 256 = x1.val by omega]; rfl
theorem v65_2 : res_main_v65_2 V0 = R2 N.sg := by
  unfold res_main_v65_2; rw [v3 h]
  funext x; idx_vars x; pointwise
  simp only [R2, ← EReal.coe_neg, Ideal.exp_coe]
  rw [← EReal.coe_one, ← EReal.coe_add]
  exact div_real _ (by positivity)
theorem v65_0 : res_main_v65_0 V0 = R2 N.si := by
  unfold res_main_v65_0; rw [v3 h, v65_2 h]
  funext x; idx_vars x; pointwise
  simp only [R1, R2, R3, R4, ← EReal.coe_mul, ← EReal.coe_add, ← EReal.coe_sub, ← EReal.coe_neg, coe_sum, Ideal.exp_coe, ofBits_kap]; rfl
theorem v67 : res_main_v67 V0 = R2 N.DY := by
  unfold res_main_v67; rw [h.dy]
  funext x; idx_vars x; pointwise
  rfl
theorem v68 : res_main_v68 V0 = R2 (fun i j => N.on i j * N.DY i j) := by
  unfold res_main_v68; rw [v64 h, v67 h]
  funext x; idx_vars x; pointwise
  simp only [R1, R2, R3, R4, ← EReal.coe_mul, ← EReal.coe_add, ← EReal.coe_sub, ← EReal.coe_neg, coe_sum, Ideal.exp_coe, ofBits_kap]
theorem v71 : res_main_v71 V0 = R3 (fun i a v => N.DY i (a * 256 + v) * N.si i (a * 256 + v)) := by
  unfold res_main_v71; rw [v67 h, v65_0 h]
  funext x; idx_vars x; pointwise
  exact (EReal.coe_mul _ _).symm
theorem v76 : res_main_v76 V0 = R3 N.w := by
  unfold res_main_v76; rw [v71 h, v61 h]
  funext x; idx_vars x; pointwise
  simp only [R1, R2, R3, R4, ← EReal.coe_mul, ← EReal.coe_add, ← EReal.coe_sub, ← EReal.coe_neg, coe_sum, Ideal.exp_coe, ofBits_kap]; rfl
theorem v88 : res_main_v88 V0 = R3 (fun i a _ => N.q i a) := by
  unfold res_main_v88; rw [v46 h, v76 h, v54 h, v53 h]
  funext x; idx_vars x; pointwise
  rw [Fin.sum_univ_one, ofBits_mhalf, ofBits_256]
  simp only [R3, ← EReal.coe_mul, coe_sum]
  refine Eq.trans (congrArg (fun z => Ideal.div z ((256 : ℝ) : EReal)) (congrArg (fun z : EReal => _ * (_ * z)) (div_real _ (N.var_pos _ _).ne'))) ?_
  simp only [← EReal.coe_mul]
  exact div_real _ (by norm_num)
theorem v94 : res_main_v94 V0 = R4 (fun n a v c => N.dO (n * 64 + c) a v) := by
  unfold res_main_v94; rw [v76 h, v54 h, v46 h, v88 h]
  funext x; idx_vars x; pointwise
  simp only [R1, R2, R3, R4, ← EReal.coe_mul, ← EReal.coe_add, ← EReal.coe_sub, ← EReal.coe_neg, coe_sum, Ideal.exp_coe, ofBits_kap]; rfl
theorem v99 : res_main_v99 V0 = R4 (fun a k v n => N.T n a k v) := by
  unfold res_main_v99; rw [v94 h, v14 h]
  funext x; idx_vars x; pointwise
  simp only [R1, R2, R3, R4, ← EReal.coe_mul, ← EReal.coe_add, ← EReal.coe_sub, ← EReal.coe_neg, coe_sum, Ideal.exp_coe, ofBits_kap]; rfl
theorem v103 : res_main_v103 V0 = R4 N.Gs := by
  unfold res_main_v103; rw [v99 h, v41_0 h]
  funext x; idx_vars x; pointwise
  simp only [R1, R2, R3, R4, ← EReal.coe_mul, ← EReal.coe_add, ← EReal.coe_sub, ← EReal.coe_neg, coe_sum, Ideal.exp_coe, ofBits_kap]; rfl
theorem v105 : res_main_v105 V0 = R4 N.W := by
  unfold res_main_v105 res_main_v41_1 res_main_v28; rw [v99 h, v26 h, v40 h]
  funext x; idx_vars x; pointwise
  rw [mask_eq]; unfold Net.W
  simp only [R4, ← EReal.coe_mul, coe_sum]
  exact coe_ite0 _ _
theorem v118 : res_main_v118 V0 = R4 N.dkd := by
  unfold res_main_v118; rw [v103 h, v16 h]
  funext x; idx_vars x; pointwise
  simp only [R1, R2, R3, R4, ← EReal.coe_mul, ← EReal.coe_add, ← EReal.coe_sub, ← EReal.coe_neg, coe_sum, Ideal.exp_coe, ofBits_kap]; rfl
theorem v121 : res_main_v121 V0 = R4 N.dd := by
  unfold res_main_v121; rw [v15 h, v118 h, v24 h]
  funext x; idx_vars x; pointwise
  simp only [R1, R2, R3, R4, ← EReal.coe_mul, ← EReal.coe_add, ← EReal.coe_sub, ← EReal.coe_neg, coe_sum, Ideal.exp_coe, ofBits_kap]; rfl
theorem v139 : res_main_v139 V0 = R2 N.dpre := by
  unfold res_main_v139; rw [v121 h, v105 h, call0_v0 h, call0_v1_0 h]
  have e1 : addf (F := Ideal) (Host.reduceAdd (shapeCast S1x32x4x128 (Host.reduceAdd (Host.negf (R4 (a := 32) (b := 32) (c := 4) (d := 128) N.W)) (constant S_ .f32 0x00000000#32) reducesTo_S32x32x4x128_S32x4x128_d0 h_S_) shapeCasts_S32x4x128_S1x32x4x128) (constant S_ .f32 0x00000000#32) reducesTo_S1x32x4x128_S32x4x128_d0 h_S_) (Host.reduceAdd (shapeCast S32x1x4x128 (Host.reduceAdd (R4 (a := 32) (b := 32) (c := 4) (d := 128) N.W) (constant S_ .f32 0x00000000#32) reducesTo_S32x32x4x128_S32x4x128_d1 h_S_) shapeCasts_S32x4x128_S32x1x4x128) (constant S_ .f32 0x00000000#32) reducesTo_S32x1x4x128_S32x4x128_d1 h_S_) = R3 (a := 32) (b := 4) (c := 128) N.dC := by
    funext x; idx_vars x; pointwise
    simp only [Fin.sum_univ_one, R3, R4, ← EReal.coe_neg, coe_sum, ← EReal.coe_add]; rfl
  rw [e1, cum_down3 N.dC (broadcastInDim S_ ![] bcast_S_S_ (constant (F := Ideal) S_ .f32 0x00000000#32)) (fun _ => Ideal.ofBits_zero_f32) _ _]
  have e2 : addf (F := Ideal) (R3 (a := 32) (b := 4) (c := 128) (fun n a k => ∑ x : Fin 32, if n ≤ x.val then N.dC x.val a k else 0)) (Host.reduceAdd (shapeCast S32x1x4x128 (Host.reduceAdd (R4 (a := 32) (b := 64) (c := 4) (d := 128) N.dd) (constant (F := Ideal) S_ .f32 0x00000000#32) reducesTo_S32x64x4x128_S32x4x128_d1 h_S_) shapeCasts_S32x4x128_S32x1x4x128) (constant S_ .f32 0x00000000#32) reducesTo_S32x1x4x128_S32x4x128_d1 h_S_) = R3 (a := 32) (b := 4) (c := 128) N.dLe := by
    funext x; idx_vars x; pointwise
    simp only [Fin.sum_univ_one, R3, R4, coe_sum, ← EReal.coe_add]; rfl
  rw [e2]
  have e3 : addf (F := Ideal) (Host.negf (R4 (a := 32) (b := 64) (c := 4) (d := 128) N.dd)) (pad S32x64x4x128 ![0, 63, 0, 0] ![0, 0, 0, 0] ![0, 0, 0, 0] (broadcastInDim S32x1x4x128 ![0, 2, 3] bcast_S32x4x128_S32x1x4x128_0_2_3 (R3 N.dLe)) (constant (F := Ideal) S_ .f32 0x00000000#32) pads_S32x1x4x128_S32x64x4x128_000_6300_000_000 h_S_) = R4 (a := 32) (b := 64) (c := 4) (d := 128) (fun n x a k => -N.dd n x a k + (if x = 63 then N.dLe n a k else 0)) := by
    funext x; idx_vars x; pointwise
    show _ = ((-N.dd x0.val x1.val x2.val x3.val + (if x1.val = 63 then N.dLe x0.val x2.val x3.val else 0) : ℝ) : EReal)
    by_cases hx : x1.val = 63
    · rw [dif_pos ⟨by omega, by omega⟩, if_pos hx]
      simp only [R3, R4, ← EReal.coe_neg, ← EReal.coe_add]; rfl
    · rw [dif_neg (by have := x1.isLt; omega), if_neg hx]
      simp only [R4, ← EReal.coe_neg]; rw [add_zero, add_zero]; rfl
  rw [e3, cum_down4 (fun n x a k => -N.dd n x a k + (if x = 63 then N.dLe n a k else 0)) (broadcastInDim S_ ![] bcast_S_S_ (constant (F := Ideal) S_ .f32 0x00000000#32)) (fun _ => Ideal.ofBits_zero_f32) _ _]
  funext x; idx_vars x; pointwise
  exact dpre_real (N.dl (x0.val / 64) (x0.val % 64) (x1.val / 128) (x1.val % 128)) (-N.pre x0.val x1.val) (N.sp x0.val x1.val)
theorem out_dq : truncf .bf16 (shapeCast _ (mulf (transpose S32x64x4x128 [0, 2, 1, 3] (Host.dotGeneral (F := Ideal) (φ₁ := .f32) (φ₂ := .f32) dot_S32x4x256x64_S32x4x128x256_S32x4x64x128_2_3_3_2_01_01 none (res_main_v94 V0) (res_main_v43 V0)) transposes_S32x4x64x128_S32x64x4x128_0_2_1_3) (broadcastInDim S32x64x4x128 ![] bcast_S_S32x64x4x128 (constant S_ .f32 0x3DB504F3#32))) shapeCasts_S32x64x4x128_S2048x512) bitsLt_bf16_f32 = R2 (a := 2048) (b := 512) (fun i j => N.dq (i / 64) (i % 64) (j / 128) (j % 128)) := by
  rw [v94 h, v43 h]
  funext x; idx_vars x; pointwise
  simp only [R1, R2, R3, R4, ← EReal.coe_mul, ← EReal.coe_add, ← EReal.coe_sub, ← EReal.coe_neg, coe_sum, Ideal.exp_coe, ofBits_kap]; rfl
theorem out_dk : truncf .bf16 (shapeCast _ (mulf (res_main_v118 V0) (res_main_v24 V0)) shapeCasts_S32x64x4x128_S2048x512) bitsLt_bf16_f32 = R2 (a := 2048) (b := 512) (fun i j => N.dk (i / 64) (i % 64) (j / 128) (j % 128)) := by
  rw [v118 h, v24 h]
  funext x; idx_vars x; pointwise
  simp only [R1, R2, R3, R4, ← EReal.coe_mul, ← EReal.coe_add, ← EReal.coe_sub, ← EReal.coe_neg, coe_sum, Ideal.exp_coe, ofBits_kap]; rfl
theorem out_dv : truncf .bf16 (shapeCast _ (transpose S32x64x4x256 [0, 3, 1, 2] (Host.dotGeneral (F := Ideal) (φ₁ := .f32) (φ₂ := .f32) dot_S32x4x128x256_S32x64x4x128_S32x4x256x64_2_3_3_1_01_02 none (res_main_v103 V0) (res_main_v25 V0)) transposes_S32x4x256x64_S32x64x4x256_0_3_1_2) shapeCasts_S32x64x4x256_S2048x1024) bitsLt_bf16_f32 = R2 (a := 2048) (b := 1024) (fun i j => N.dv (i / 64) (i % 64) (j / 256) (j % 256)) := by
  rw [v103 h, v25 h]
  funext x; idx_vars x; pointwise
  simp only [R1, R2, R3, R4, ← EReal.coe_mul, ← EReal.coe_add, ← EReal.coe_sub, ← EReal.coe_neg, coe_sum, Ideal.exp_coe, ofBits_kap]; rfl
theorem out_dgg : truncf .bf16 (addf (mulf (res_main_v68 V0) (res_main_v65_2 V0)) (mulf (mulf (res_main_v3 V0) (res_main_v68 V0)) (mulf (res_main_v65_2 V0) (subf (broadcastInDim S2048x1024 ![] bcast_S_S2048x1024 (constant S_ .f32 0x3F800000#32)) (res_main_v65_2 V0))))) bitsLt_bf16_f32 = R2 (a := 2048) (b := 1024) N.dgg := by
  rw [v68 h, v65_2 h, v3 h]
  funext x; idx_vars x; pointwise
  simp only [R2, ← EReal.coe_mul]
  rw [← EReal.coe_one, ← EReal.coe_sub, ← EReal.coe_mul, ← EReal.coe_mul, ← EReal.coe_add]; rfl
theorem out_dga : truncf .bf16 (pad S2048x128 ![0, 0] ![0, 112] ![0, 0] (Host.dotGeneral (F := Ideal) (φ₁ := .f32) (φ₂ := .f32) dot_S2048x512_S16x512_S2048x16_1_1_0_0_n_n none (res_main_v139 V0) (V0 (Proc.devRef .tc main_arg1))) (sitofp .f32 (constantI S_ 32 0#32)) pads_S2048x16_S2048x128_000_01120 h_S_) bitsLt_bf16_f32 = R2 (a := 2048) (b := 128) N.dga := by
  rw [v139 h, h.wa]
  funext x; idx_vars x; pointwise
  simp only [R2, ← EReal.coe_mul, coe_sum]
  rw [sitofp_0]; show _ = ((N.dga x0.val x1.val : ℝ) : EReal); unfold Net.dga
  by_cases hx : x1.val < 16
  · rw [dif_pos hx, if_pos hx]; rfl
  · rw [dif_neg hx, if_neg hx]; rfl
theorem out_dwa : pad S128x512 ![0, 0] ![112, 0] ![0, 0] (transpose S16x512 [1, 0] (Host.dotGeneral (F := Ideal) (φ₁ := .f32) (φ₂ := .f32) dot_S2048x512_S2048x16_S512x16_0_0_1_1_n_n none (res_main_v139 V0) (res_main_v4 V0)) transposes_S512x16_S16x512_1_0) (sitofp .f32 (constantI S_ 32 0#32)) pads_S16x512_S128x512_01120_000 h_S_ = R2 (a := 128) (b := 512) N.dwa := by
  rw [v139 h, v4 h]
  funext x; idx_vars x; pointwise
  simp only [R2, ← EReal.coe_mul, coe_sum]
  rw [sitofp_0]; show _ = ((N.dwa x0.val x1.val : ℝ) : EReal); unfold Net.dwa
  by_cases hx : x0.val < 16
  · rw [dif_pos hx, if_pos hx]; rfl
  · rw [dif_neg hx, if_neg hx]; rfl
theorem out_db : broadcastInDim S1x512 ![1] bcast_S512_S1x512_1 (Host.reduceAdd (shapeCast _ (Host.reduceAdd (res_main_v139 V0) (constant S_ .f32 0x00000000#32) reducesTo_S2048x512_S512_d0 h_S_) shapeCasts_S512_S1x512) (constant S_ .f32 0x00000000#32) reducesTo_S1x512_S512_d0 h_S_) = R2 (a := 1) (b := 512) (fun _ j => N.db j) := by
  rw [v139 h]
  funext x; idx_vars x; pointwise
  simp only [R2, Fin.sum_univ_one, coe_sum]; rfl
theorem out_dg : broadcastInDim S1x1024 ![1] bcast_S1024_S1x1024_1 (shapeCast _ (Host.reduceAdd (shapeCast _ (Host.reduceAdd (mulf (res_main_v59 V0) (res_main_v71 V0)) (constant S_ .f32 0x00000000#32) reducesTo_S2048x4x256_S4x256_d0 h_S_) shapeCasts_S4x256_S1x4x256) (constant S_ .f32 0x00000000#32) reducesTo_S1x4x256_S4x256_d0 h_S_) shapeCasts_S4x256_S1024) = R2 (a := 1) (b := 1024) (fun _ j => N.dg j) := by
  rw [v59 h, v71 h]
  funext x; idx_vars x; pointwise
  simp only [R2, R3, Fin.sum_univ_one, ← EReal.coe_mul, coe_sum]
  refine congrArg (fun z : ℝ => (z : EReal)) (Finset.sum_congr rfl fun x _ => ?_)
  show _ * _ * (N.DY x.val (x1.val / 256 * 256 + x1.val % 256) * N.si x.val (x1.val / 256 * 256 + x1.val % 256)) = _
  rw [show x1.val / 256 * 256 + x1.val % 256 = x1.val by omega]; rfl

end

end Cert.Mine.Ref

end
-- ==== Proof.Mine.HostVal.lean ====
/- What the kernel's host lines hand to the call, over real arguments: each array of the forward's numbers. -/
module

public import proofs.«01_k».proof.Proof.Mine.RefVal
public import proofs.«01_k».proof.Proof.Gen.KernelIdeal.Frame.Runs
public import Idealize.ShloMosaic.Lib.StableHlo.RunRead

@[expose] public section

set_option maxRecDepth 16384

noncomputable section

namespace Cert.Mine.Hv

open Idealize.ShloMosaic Idealize.ShloMosaic.TcCoe Idealize.ShloMosaic.StableHlo Cert.KernelIdeal Cert.KernelIdeal.Gen
open Cert.Mine.Ref (ofBits_16 softplus_real sitofp_0 coe_ite0 mask_eq)

variable {N : Net} (W : Valuation τ sig (Elt Ideal))

section
variable (hz : W (Proc.devRef .tc main_arg0) = R2 (a := 2048) (b := 7184) N.Z)
include hz
theorem a0 : after hostOps0 W (Proc.devRef .tc main_v0) = R2 (a := 2048) (b := 512) N.Z := by
  after_reads_simp; rw [hz]
  funext x; idx_vars x; pointwise
  rfl
theorem a1 : after hostOps0 W (Proc.devRef .tc main_v1) = R2 (a := 2048) (b := 512) (fun i j => N.Z i (512 + j)) := by
  after_reads_simp; rw [hz]
  funext x; idx_vars x; pointwise
  rfl
theorem a2 : after hostOps0 W (Proc.devRef .tc main_v2) = R2 (a := 2048) (b := 1024) (fun i j => N.Z i (1024 + j)) := by
  after_reads_simp; rw [hz]
  funext x; idx_vars x; pointwise
  rfl
theorem a4 : after hostOps0 W (Proc.devRef .tc main_v4) = R2 (a := 2048) (b := 16) (fun i j => N.Z i (3072 + j)) := by
  after_reads_simp; rw [hz]
  funext x; idx_vars x; pointwise
  rfl
theorem a8 (hwa : W (Proc.devRef .tc main_arg1) = R2 (a := 16) (b := 512) N.WA) (hba : W (Proc.devRef .tc main_arg2) = R1 (a := 512) N.BA) :
    after hostOps0 W (Proc.devRef .tc main_v8) = R2 (a := 2048) (b := 512) N.pre := by
  after_reads_simp; rw [hz, hwa, hba]
  funext x; idx_vars x; pointwise
  simp only [R1, R2, ← EReal.coe_mul, ← EReal.coe_add, coe_sum]; rfl
end

theorem b12 (h8 : W (Proc.devRef .tc main_v8) = R2 (a := 2048) (b := 512) N.pre) :
    after (hostOps0_1 ++ hostOps0_2) W (Proc.devRef .tc main_v12) = R4 (a := 32) (b := 64) (c := 4) (d := 128) (fun n c a k => N.la (n * 64 + c) (a * 128 + k)) := by
  after_reads_simp
  simp -implicitDefEqProofs only [StableHlo.TRef.toBuf, StableHlo.TRef.ofBuf, cast_cast, cast_eq]
  rw [h8]
  funext x; idx_vars x; pointwise
  rw [if_neg (not_not.mpr rfl)]
  simp only [R2, R4, ← EReal.coe_neg]
  rw [softplus_real, ← EReal.coe_neg, ofBits_16]
  exact div_real _ (by norm_num)
theorem c13 (h : W (Proc.devRef .tc main_v12) = R4 (a := 32) (b := 64) (c := 4) (d := 128) (fun n c a k => N.la (n * 64 + c) (a * 128 + k))) :
    after hostOps0_3 W (Proc.devRef .tc main_v13) = R4 (a := 32) (b := 64) (c := 4) (d := 128) N.L := by
  after_reads_simp
  simp -implicitDefEqProofs only [StableHlo.TRef.toBuf, StableHlo.TRef.ofBuf, cast_cast, cast_eq]
  rw [h]
  exact cum_up4 (fun n c a k => N.la (n * 64 + c) (a * 128 + k)) _ (fun _ => Ideal.ofBits_zero_f32) _ _

section
variable (h13 : W (Proc.devRef .tc main_v13) = R4 (a := 32) (b := 64) (c := 4) (d := 128) N.L)
include h13
theorem d15 : after hostOps0_4 W (Proc.devRef .tc main_v15) = R3 (a := 32) (b := 4) (c := 128) N.Le := by
  after_reads_simp; rw [h13]
  funext x; idx_vars x; pointwise
  rfl
theorem d23 (h1 : W (Proc.devRef .tc main_v1) = R2 (a := 2048) (b := 512) (fun i j => N.Z i (512 + j)))
    (h2 : W (Proc.devRef .tc main_v2) = R2 (a := 2048) (b := 1024) (fun i j => N.Z i (1024 + j))) :
    after hostOps0_4 W (Proc.devRef .tc main_v23) = R4 (a := 32) (b := 4) (c := 128) (d := 256) N.U := by
  after_reads_simp; rw [h13, h1, h2]
  funext x; idx_vars x; pointwise
  simp only [R1, R2, R3, R4, ← EReal.coe_mul, ← EReal.coe_add, ← EReal.coe_sub, ← EReal.coe_neg, coe_sum, Ideal.exp_coe, ofBits_kap]; rfl
end

theorem e24 (h : W (Proc.devRef .tc main_v15) = R3 (a := 32) (b := 4) (c := 128) N.Le) :
    after hostOps0_5 W (Proc.devRef .tc main_v24) = R3 (a := 32) (b := 4) (c := 128) N.C := by
  after_reads_simp
  simp -implicitDefEqProofs only [StableHlo.TRef.toBuf, StableHlo.TRef.ofBuf, cast_cast, cast_eq]
  rw [h]
  exact cum_up3 N.Le _ (fun _ => Ideal.ofBits_zero_f32) _ _

theorem f38 (h : W (Proc.devRef .tc main_v24) = R3 (a := 32) (b := 4) (c := 128) N.C) :
    after (hostOps0_6 ++ hostOps0_7) W (Proc.devRef .tc main_v38) = R4 (a := 32) (b := 32) (c := 4) (d := 128) N.D := by
  after_reads_simp
  simp -implicitDefEqProofs only [StableHlo.TRef.toBuf, StableHlo.TRef.ofBuf, cast_cast, cast_eq]
  rw [h]
  funext x; idx_vars x; pointwise
  rw [mask_eq]; unfold Net.D R4
  exact (congrArg (fun z => if x1.val ≤ x0.val then _ else z) Ideal.ofBits_zero_f32).trans (coe_ite0 _ _)

section
variable (h23 : W (Proc.devRef .tc main_v23) = R4 (a := 32) (b := 4) (c := 128) (d := 256) N.U)
  (h38 : W (Proc.devRef .tc main_v38) = R4 (a := 32) (b := 32) (c := 4) (d := 128) N.D)
include h23 h38
theorem g40 : after (hostOps0_8 ++ hostOps0_9) W (Proc.devRef .tc main_v40) = R4 (a := 32) (b := 4) (c := 128) (d := 256) N.S := by
  after_reads_simp; rw [h23, h38]
  funext x; idx_vars x; pointwise
  simp only [R1, R2, R3, R4, ← EReal.coe_mul, ← EReal.coe_add, ← EReal.coe_sub, ← EReal.coe_neg, coe_sum, Ideal.exp_coe, ofBits_kap]; rfl
theorem g45 (h0 : W (Proc.devRef .tc main_v0) = R2 (a := 2048) (b := 512) N.Z) :
    after (hostOps0_8 ++ hostOps0_9) W (Proc.devRef .tc main_v45) = R4 (a := 32) (b := 64) (c := 4) (d := 256) N.o4 := by
  after_reads_simp; rw [h23, h38, h0]
  funext x; idx_vars x; pointwise
  simp only [R1, R2, R3, R4, ← EReal.coe_mul, ← EReal.coe_add, ← EReal.coe_sub, ← EReal.coe_neg, coe_sum, Ideal.exp_coe, ofBits_kap]; rfl
end
theorem g49 (hz : W (Proc.devRef .tc main_arg0) = R2 (a := 2048) (b := 7184) N.Z) (h4 : W (Proc.devRef .tc main_v4) = R2 (a := 2048) (b := 16) (fun i j => N.Z i (3072 + j))) :
    after (hostOps0_8 ++ hostOps0_9) W (Proc.devRef .tc main_v49) = R2 (a := 2048) (b := 7296) (fun i j => if j < 3072 then N.Z i j else if j < 7168 then N.Z i (j + 16)
      else if j < 7184 then N.Z i (3072 + (j - 7168)) else 0) := by
  have e0 : upto (hostOps0_8 ++ hostOps0_9) W 12 (Proc.devRef .tc main_v46) = R2 (a := 2048) (b := 3072) N.Z := by
    after_reads_simp; rw [hz]
    funext x; idx_vars x; pointwise
    rfl
  have e1 : upto (hostOps0_8 ++ hostOps0_9) W 12 (Proc.devRef .tc main_v47) = R2 (a := 2048) (b := 4096) (fun i j => N.Z i (3088 + j)) := by
    after_reads_simp; rw [hz]
    funext x; idx_vars x; pointwise
    rfl
  have e2 : upto (hostOps0_8 ++ hostOps0_9) W 12 (Proc.devRef .tc main_v4) = R2 (a := 2048) (b := 16) (fun i j => N.Z i (3072 + j)) := by
    after_reads_simp; rw [h4]
  have e3 : upto (hostOps0_8 ++ hostOps0_9) W 12 (Proc.devRef .tc main_v48) = R2 (a := 2048) (b := 112) (fun _ _ => 0) := by
    after_reads_simp
    funext x; idx_vars x; pointwise
    rfl
  after_reads_simp
  show concatenate S2048x7296 1 [⟨S2048x3072, (upto (hostOps0_8 ++ hostOps0_9) W 12 (Proc.devRef .tc main_v46) : S2048x3072.Idx → Elt Ideal .f32)⟩,
    ⟨S2048x4096, (upto (hostOps0_8 ++ hostOps0_9) W 12 (Proc.devRef .tc main_v47) : S2048x4096.Idx → Elt Ideal .f32)⟩,
    ⟨S2048x16, (upto (hostOps0_8 ++ hostOps0_9) W 12 (Proc.devRef .tc main_v4) : S2048x16.Idx → Elt Ideal .f32)⟩,
    ⟨S2048x112, (upto (hostOps0_8 ++ hostOps0_9) W 12 (Proc.devRef .tc main_v48) : S2048x112.Idx → Elt Ideal .f32)⟩] concatenates_S2048x3072_S2048x4096_S2048x16_S2048x112_S2048x7296_d1 = _
  rw [e0, e1, e2, e3]
  funext x; idx_vars x; pointwise
  show _ = ((if x1.val < 3072 then N.Z x0.val x1.val else if x1.val < 7168 then N.Z x0.val (x1.val + 16)
    else if x1.val < 7184 then N.Z x0.val (3072 + (x1.val - 7168)) else 0 : ℝ) : EReal)
  by_cases g1 : x1.val < 3072
  · rw [dif_pos g1, if_pos g1]; rfl
  rw [dif_neg g1, if_neg g1]
  by_cases g2 : x1.val < 7168
  · rw [dif_pos (by omega), if_pos g2]
    exact congrArg (fun j => ((N.Z x0.val j : ℝ) : EReal)) (show 3088 + (x1.val - 3072) = x1.val + 16 by omega)
  rw [dif_neg (by omega), if_neg g2]
  by_cases g3 : x1.val < 7184
  · rw [dif_pos (by omega), if_pos g3]
    exact congrArg (fun j => ((N.Z x0.val j : ℝ) : EReal)) (show 3072 + (x1.val - 3072 - 4096) = 3072 + (x1.val - 7168) by omega)
  rw [dif_neg (by omega), if_neg g3]; rfl
theorem g50 (hwa : W (Proc.devRef .tc main_arg1) = R2 (a := 16) (b := 512) N.WA) :
    after (hostOps0_8 ++ hostOps0_9) W (Proc.devRef .tc main_v50) = R2 (a := 128) (b := 512) (fun i j => if i < 16 then N.WA i j else 0) := by
  after_reads_simp
  simp -implicitDefEqProofs only [StableHlo.TRef.toBuf, StableHlo.TRef.ofBuf, cast_cast, cast_eq]
  rw [hwa]
  funext x; idx_vars x; pointwise
  rw [sitofp_0]; show _ = ((if x0.val < 16 then N.WA x0.val x1.val else 0 : ℝ) : EReal)
  by_cases hx : x0.val < 16
  · rw [dif_pos hx, if_pos hx]; rfl
  · rw [dif_neg hx, if_neg hx]; rfl

theorem h51 (h : W (Proc.devRef .tc main_v45) = R4 (a := 32) (b := 64) (c := 4) (d := 256) N.o4) :
    after hostOps0_10 W (Proc.devRef .tc main_v51) = R2 (a := 2048) (b := 1024) (fun i j => N.o i (j / 256) (j % 256)) := by
  after_reads_simp; rw [h]
  funext x; idx_vars x; pointwise
  rfl
theorem h52 (h : W (Proc.devRef .tc main_arg3) = R1 (a := 1024) N.GN) :
    after hostOps0_10 W (Proc.devRef .tc main_v52) = R2 (a := 1) (b := 1024) (fun _ j => N.GN j) := by
  after_reads_simp; rw [h]
  funext x; idx_vars x; pointwise
  rfl
theorem h53 (h : W (Proc.devRef .tc main_v40) = R4 (a := 32) (b := 4) (c := 128) (d := 256) N.S) :
    after hostOps0_10 W (Proc.devRef .tc main_v53) = R4 (a := 32) (b := 4) (c := 256) (d := 128) (fun n a v k => N.S n a k v) := by
  after_reads_simp; rw [h]
  funext x; idx_vars x; pointwise
  rfl
theorem h54 (h : W (Proc.devRef .tc main_v13) = R4 (a := 32) (b := 64) (c := 4) (d := 128) N.L) :
    after hostOps0_10 W (Proc.devRef .tc main_v54) = R2 (a := 2048) (b := 512) (fun i j => N.L (i / 64) (i % 64) (j / 128) (j % 128)) := by
  after_reads_simp; rw [h]
  funext x; idx_vars x; pointwise
  rfl

/-- The launch's arguments hold the numbers of `N`. -/
structure At (N : Net) (W : Valuation τ sig (Elt Ideal)) : Prop where
  z : W (Proc.devRef .tc main_arg0) = R2 (a := 2048) (b := 7184) N.Z
  wa : W (Proc.devRef .tc main_arg1) = R2 (a := 16) (b := 512) N.WA
  ba : W (Proc.devRef .tc main_arg2) = R1 (a := 512) N.BA
  gn : W (Proc.devRef .tc main_arg3) = R1 (a := 1024) N.GN
  dy : W (Proc.devRef .tc main_arg4) = R2 (a := 2048) (b := 2048) N.DY

/-- The lines up to the decay's logarithm. -/
def W3 : Valuation τ sig (Elt Ideal) := after (hostOps0_1 ++ hostOps0_2) (after hostOps0 W)
/-- The lines up to what a chunk adds. -/
def W5 : Valuation τ sig (Elt Ideal) := after hostOps0_4 (after hostOps0_3 (W3 W))
/-- The lines up to the decays between chunks. -/
def W8 : Valuation τ sig (Elt Ideal) := after (hostOps0_6 ++ hostOps0_7) (after hostOps0_5 (W5 W))
/-- All but the last lines. -/
def W10 : Valuation τ sig (Elt Ideal) := after (hostOps0_8 ++ hostOps0_9) (W8 W)
/-- All of them. -/
def W11 : Valuation τ sig (Elt Ideal) := after hostOps0_10 (W10 W)

variable {W} (h : At N W)
include h

theorem w3_12 : W3 W (Proc.devRef .tc main_v12) = R4 (a := 32) (b := 64) (c := 4) (d := 128) (fun n c a k => N.la (n * 64 + c) (a * 128 + k)) :=
  b12 _ (a8 _ h.z h.wa h.ba)
theorem w5_13 : W5 W (Proc.devRef .tc main_v13) = R4 (a := 32) (b := 64) (c := 4) (d := 128) N.L := by
  have e : after hostOps0_4 (after hostOps0_3 (W3 W)) (Proc.devRef .tc main_v13) = after hostOps0_3 (W3 W) (Proc.devRef .tc main_v13) := by
    generalize W3 W = X; after_reads_simp
  exact e.trans (c13 _ (w3_12 h))
theorem w3_v0 : W3 W (Proc.devRef .tc main_v0) = R2 (a := 2048) (b := 512) N.Z := by
  have e : after (hostOps0_1 ++ hostOps0_2) (after hostOps0 W) (Proc.devRef .tc main_v0) = after hostOps0 W (Proc.devRef .tc main_v0) := by
    generalize after hostOps0 W = X; after_reads_simp
  exact e.trans (a0 _ h.z)
theorem w5_v0 : W5 W (Proc.devRef .tc main_v0) = R2 (a := 2048) (b := 512) N.Z := by
  have e : after hostOps0_4 (after hostOps0_3 (W3 W)) (Proc.devRef .tc main_v0) = W3 W (Proc.devRef .tc main_v0) := by
    generalize W3 W = X; after_reads_simp
  exact e.trans (w3_v0 h)
theorem w8_v0 : W8 W (Proc.devRef .tc main_v0) = R2 (a := 2048) (b := 512) N.Z := by
  have e : after (hostOps0_6 ++ hostOps0_7) (after hostOps0_5 (W5 W)) (Proc.devRef .tc main_v0) = W5 W (Proc.devRef .tc main_v0) := by
    generalize W5 W = X; after_reads_simp
  exact e.trans (w5_v0 h)
theorem w3_v1 : W3 W (Proc.devRef .tc main_v1) = R2 (a := 2048) (b := 512) (fun i j => N.Z i (512 + j)) := by
  have e : after (hostOps0_1 ++ hostOps0_2) (after hostOps0 W) (Proc.devRef .tc main_v1) = after hostOps0 W (Proc.devRef .tc main_v1) := by
    generalize after hostOps0 W = X; after_reads_simp
  exact e.trans (a1 _ h.z)
theorem w3_v2 : W3 W (Proc.devRef .tc main_v2) = R2 (a := 2048) (b := 1024) (fun i j => N.Z i (1024 + j)) := by
  have e : after (hostOps0_1 ++ hostOps0_2) (after hostOps0 W) (Proc.devRef .tc main_v2) = after hostOps0 W (Proc.devRef .tc main_v2) := by
    generalize after hostOps0 W = X; after_reads_simp
  exact e.trans (a2 _ h.z)
theorem w3_v4 : W3 W (Proc.devRef .tc main_v4) = R2 (a := 2048) (b := 16) (fun i j => N.Z i (3072 + j)) := by
  have e : after (hostOps0_1 ++ hostOps0_2) (after hostOps0 W) (Proc.devRef .tc main_v4) = after hostOps0 W (Proc.devRef .tc main_v4) := by
    generalize after hostOps0 W = X; after_reads_simp
  exact e.trans (a4 _ h.z)
theorem w5_v4 : W5 W (Proc.devRef .tc main_v4) = R2 (a := 2048) (b := 16) (fun i j => N.Z i (3072 + j)) := by
  have e : after hostOps0_4 (after hostOps0_3 (W3 W)) (Proc.devRef .tc main_v4) = W3 W (Proc.devRef .tc main_v4) := by
    generalize W3 W = X; after_reads_simp
  exact e.trans (w3_v4 h)
theorem w8_v4 : W8 W (Proc.devRef .tc main_v4) = R2 (a := 2048) (b := 16) (fun i j => N.Z i (3072 + j)) := by
  have e : after (hostOps0_6 ++ hostOps0_7) (after hostOps0_5 (W5 W)) (Proc.devRef .tc main_v4) = W5 W (Proc.devRef .tc main_v4) := by
    generalize W5 W = X; after_reads_simp
  exact e.trans (w5_v4 h)
theorem w3_v8 : W3 W (Proc.devRef .tc main_v8) = R2 (a := 2048) (b := 512) N.pre := by
  have e : after (hostOps0_1 ++ hostOps0_2) (after hostOps0 W) (Proc.devRef .tc main_v8) = after hostOps0 W (Proc.devRef .tc main_v8) := by
    generalize after hostOps0 W = X; after_reads_simp
  exact e.trans (a8 _ h.z h.wa h.ba)
theorem w5_v8 : W5 W (Proc.devRef .tc main_v8) = R2 (a := 2048) (b := 512) N.pre := by
  have e : after hostOps0_4 (after hostOps0_3 (W3 W)) (Proc.devRef .tc main_v8) = W3 W (Proc.devRef .tc main_v8) := by
    generalize W3 W = X; after_reads_simp
  exact e.trans (w3_v8 h)
theorem w8_v8 : W8 W (Proc.devRef .tc main_v8) = R2 (a := 2048) (b := 512) N.pre := by
  have e : after (hostOps0_6 ++ hostOps0_7) (after hostOps0_5 (W5 W)) (Proc.devRef .tc main_v8) = W5 W (Proc.devRef .tc main_v8) := by
    generalize W5 W = X; after_reads_simp
  exact e.trans (w5_v8 h)
theorem w10_v8 : W10 W (Proc.devRef .tc main_v8) = R2 (a := 2048) (b := 512) N.pre := by
  have e : after (hostOps0_8 ++ hostOps0_9) (W8 W) (Proc.devRef .tc main_v8) = W8 W (Proc.devRef .tc main_v8) := by
    generalize W8 W = X; after_reads_simp
  exact e.trans (w8_v8 h)
theorem w11_v8 : W11 W (Proc.devRef .tc main_v8) = R2 (a := 2048) (b := 512) N.pre := by
  have e : after hostOps0_10 (W10 W) (Proc.devRef .tc main_v8) = W10 W (Proc.devRef .tc main_v8) := by
    generalize W10 W = X; after_reads_simp
  exact e.trans (w10_v8 h)
theorem w3_arg0 : W3 W (Proc.devRef .tc main_arg0) = R2 (a := 2048) (b := 7184) N.Z := by
  have e : after (hostOps0_1 ++ hostOps0_2) (after hostOps0 W) (Proc.devRef .tc main_arg0) = W (Proc.devRef .tc main_arg0) := by
    generalize W = X; after_reads_simp
  exact e.trans (h.z)
theorem w5_arg0 : W5 W (Proc.devRef .tc main_arg0) = R2 (a := 2048) (b := 7184) N.Z := by
  have e : after hostOps0_4 (after hostOps0_3 (W3 W)) (Proc.devRef .tc main_arg0) = W3 W (Proc.devRef .tc main_arg0) := by
    generalize W3 W = X; after_reads_simp
  exact e.trans (w3_arg0 h)
theorem w8_arg0 : W8 W (Proc.devRef .tc main_arg0) = R2 (a := 2048) (b := 7184) N.Z := by
  have e : after (hostOps0_6 ++ hostOps0_7) (after hostOps0_5 (W5 W)) (Proc.devRef .tc main_arg0) = W5 W (Proc.devRef .tc main_arg0) := by
    generalize W5 W = X; after_reads_simp
  exact e.trans (w5_arg0 h)
theorem w3_arg1 : W3 W (Proc.devRef .tc main_arg1) = R2 (a := 16) (b := 512) N.WA := by
  have e : after (hostOps0_1 ++ hostOps0_2) (after hostOps0 W) (Proc.devRef .tc main_arg1) = W (Proc.devRef .tc main_arg1) := by
    generalize W = X; after_reads_simp
  exact e.trans (h.wa)
theorem w5_arg1 : W5 W (Proc.devRef .tc main_arg1) = R2 (a := 16) (b := 512) N.WA := by
  have e : after hostOps0_4 (after hostOps0_3 (W3 W)) (Proc.devRef .tc main_arg1) = W3 W (Proc.devRef .tc main_arg1) := by
    generalize W3 W = X; after_reads_simp
  exact e.trans (w3_arg1 h)
theorem w8_arg1 : W8 W (Proc.devRef .tc main_arg1) = R2 (a := 16) (b := 512) N.WA := by
  have e : after (hostOps0_6 ++ hostOps0_7) (after hostOps0_5 (W5 W)) (Proc.devRef .tc main_arg1) = W5 W (Proc.devRef .tc main_arg1) := by
    generalize W5 W = X; after_reads_simp
  exact e.trans (w5_arg1 h)
theorem w3_arg3 : W3 W (Proc.devRef .tc main_arg3) = R1 (a := 1024) N.GN := by
  have e : after (hostOps0_1 ++ hostOps0_2) (after hostOps0 W) (Proc.devRef .tc main_arg3) = W (Proc.devRef .tc main_arg3) := by
    generalize W = X; after_reads_simp
  exact e.trans (h.gn)
theorem w5_arg3 : W5 W (Proc.devRef .tc main_arg3) = R1 (a := 1024) N.GN := by
  have e : after hostOps0_4 (after hostOps0_3 (W3 W)) (Proc.devRef .tc main_arg3) = W3 W (Proc.devRef .tc main_arg3) := by
    generalize W3 W = X; after_reads_simp
  exact e.trans (w3_arg3 h)
theorem w8_arg3 : W8 W (Proc.devRef .tc main_arg3) = R1 (a := 1024) N.GN := by
  have e : after (hostOps0_6 ++ hostOps0_7) (after hostOps0_5 (W5 W)) (Proc.devRef .tc main_arg3) = W5 W (Proc.devRef .tc main_arg3) := by
    generalize W5 W = X; after_reads_simp
  exact e.trans (w5_arg3 h)
theorem w10_arg3 : W10 W (Proc.devRef .tc main_arg3) = R1 (a := 1024) N.GN := by
  have e : after (hostOps0_8 ++ hostOps0_9) (W8 W) (Proc.devRef .tc main_arg3) = W8 W (Proc.devRef .tc main_arg3) := by
    generalize W8 W = X; after_reads_simp
  exact e.trans (w8_arg3 h)
theorem w3_arg4 : W3 W (Proc.devRef .tc main_arg4) = R2 (a := 2048) (b := 2048) N.DY := by
  have e : after (hostOps0_1 ++ hostOps0_2) (after hostOps0 W) (Proc.devRef .tc main_arg4) = W (Proc.devRef .tc main_arg4) := by
    generalize W = X; after_reads_simp
  exact e.trans (h.dy)
theorem w5_arg4 : W5 W (Proc.devRef .tc main_arg4) = R2 (a := 2048) (b := 2048) N.DY := by
  have e : after hostOps0_4 (after hostOps0_3 (W3 W)) (Proc.devRef .tc main_arg4) = W3 W (Proc.devRef .tc main_arg4) := by
    generalize W3 W = X; after_reads_simp
  exact e.trans (w3_arg4 h)
theorem w8_arg4 : W8 W (Proc.devRef .tc main_arg4) = R2 (a := 2048) (b := 2048) N.DY := by
  have e : after (hostOps0_6 ++ hostOps0_7) (after hostOps0_5 (W5 W)) (Proc.devRef .tc main_arg4) = W5 W (Proc.devRef .tc main_arg4) := by
    generalize W5 W = X; after_reads_simp
  exact e.trans (w5_arg4 h)
theorem w10_arg4 : W10 W (Proc.devRef .tc main_arg4) = R2 (a := 2048) (b := 2048) N.DY := by
  have e : after (hostOps0_8 ++ hostOps0_9) (W8 W) (Proc.devRef .tc main_arg4) = W8 W (Proc.devRef .tc main_arg4) := by
    generalize W8 W = X; after_reads_simp
  exact e.trans (w8_arg4 h)
theorem w11_arg4 : W11 W (Proc.devRef .tc main_arg4) = R2 (a := 2048) (b := 2048) N.DY := by
  have e : after hostOps0_10 (W10 W) (Proc.devRef .tc main_arg4) = W10 W (Proc.devRef .tc main_arg4) := by
    generalize W10 W = X; after_reads_simp
  exact e.trans (w10_arg4 h)
theorem w8_13 : W8 W (Proc.devRef .tc main_v13) = R4 (a := 32) (b := 64) (c := 4) (d := 128) N.L := by
  have e : after (hostOps0_6 ++ hostOps0_7) (after hostOps0_5 (W5 W)) (Proc.devRef .tc main_v13) = W5 W (Proc.devRef .tc main_v13) := by
    generalize W5 W = X; after_reads_simp
  exact e.trans (w5_13 h)
theorem w10_13 : W10 W (Proc.devRef .tc main_v13) = R4 (a := 32) (b := 64) (c := 4) (d := 128) N.L := by
  have e : after (hostOps0_8 ++ hostOps0_9) (W8 W) (Proc.devRef .tc main_v13) = W8 W (Proc.devRef .tc main_v13) := by
    generalize W8 W = X; after_reads_simp
  exact e.trans (w8_13 h)
theorem w5_15 : W5 W (Proc.devRef .tc main_v15) = R3 (a := 32) (b := 4) (c := 128) N.Le :=
  d15 _ (c13 _ (w3_12 h))
theorem w5_23 : W5 W (Proc.devRef .tc main_v23) = R4 (a := 32) (b := 4) (c := 128) (d := 256) N.U := by
  refine d23 _ (c13 _ (w3_12 h)) ?_ ?_
  · refine Eq.trans ?_ (w3_v1 h); generalize W3 W = X; after_reads_simp
  · refine Eq.trans ?_ (w3_v2 h); generalize W3 W = X; after_reads_simp
theorem w8_38 : W8 W (Proc.devRef .tc main_v38) = R4 (a := 32) (b := 32) (c := 4) (d := 128) N.D :=
  f38 _ (e24 _ (w5_15 h))
theorem w8_23 : W8 W (Proc.devRef .tc main_v23) = R4 (a := 32) (b := 4) (c := 128) (d := 256) N.U := by
  have e : after (hostOps0_6 ++ hostOps0_7) (after hostOps0_5 (W5 W)) (Proc.devRef .tc main_v23) = W5 W (Proc.devRef .tc main_v23) := by
    generalize W5 W = X; after_reads_simp
  exact e.trans (w5_23 h)
theorem w10_40 : W10 W (Proc.devRef .tc main_v40) = R4 (a := 32) (b := 4) (c := 128) (d := 256) N.S :=
  g40 _ (w8_23 h) (w8_38 h)
theorem w10_45 : W10 W (Proc.devRef .tc main_v45) = R4 (a := 32) (b := 64) (c := 4) (d := 256) N.o4 :=
  g45 _ (w8_23 h) (w8_38 h) (w8_v0 h)
theorem w10_49 : W10 W (Proc.devRef .tc main_v49) = R2 (a := 2048) (b := 7296) (fun i j => if j < 3072 then N.Z i j else if j < 7168 then N.Z i (j + 16)
      else if j < 7184 then N.Z i (3072 + (j - 7168)) else 0) := g49 _ (w8_arg0 h) (w8_v4 h)
theorem w10_50 : W10 W (Proc.devRef .tc main_v50) = R2 (a := 128) (b := 512) (fun i j => if i < 16 then N.WA i j else 0) := g50 _ (w8_arg1 h)
theorem w11_49 : W11 W (Proc.devRef .tc main_v49) = R2 (a := 2048) (b := 7296) (fun i j => if j < 3072 then N.Z i j else if j < 7168 then N.Z i (j + 16)
      else if j < 7184 then N.Z i (3072 + (j - 7168)) else 0) := by
  have e : after hostOps0_10 (W10 W) (Proc.devRef .tc main_v49) = W10 W (Proc.devRef .tc main_v49) := by
    generalize W10 W = X; after_reads_simp
  exact e.trans (w10_49 h)
theorem w11_50 : W11 W (Proc.devRef .tc main_v50) = R2 (a := 128) (b := 512) (fun i j => if i < 16 then N.WA i j else 0) := by
  have e : after hostOps0_10 (W10 W) (Proc.devRef .tc main_v50) = W10 W (Proc.devRef .tc main_v50) := by
    generalize W10 W = X; after_reads_simp
  exact e.trans (w10_50 h)
theorem w11_51 : W11 W (Proc.devRef .tc main_v51) = R2 (a := 2048) (b := 1024) (fun i j => N.o i (j / 256) (j % 256)) := h51 _ (w10_45 h)
theorem w11_52 : W11 W (Proc.devRef .tc main_v52) = R2 (a := 1) (b := 1024) (fun _ j => N.GN j) := h52 _ (w10_arg3 h)
theorem w11_53 : W11 W (Proc.devRef .tc main_v53) = R4 (a := 32) (b := 4) (c := 256) (d := 128) (fun n a v k => N.S n a k v) := h53 _ (w10_40 h)
theorem w11_54 : W11 W (Proc.devRef .tc main_v54) = R2 (a := 2048) (b := 512) (fun i j => N.L (i / 64) (i % 64) (j / 128) (j % 128)) := h54 _ (w10_13 h)

omit h in
/-- The call finds the arrays as the lines left them. -/
theorem V_eq (m : (ℓ : Loc nD τ sig) → Buf (Elt Ideal) ℓ) (c : Dev nD) (b : Ref sig .tc) :
    V m c b = W11 (fun b => m (c, b)) (Proc.devRef .tc b) := rfl

end Cert.Mine.Hv

end
-- ==== Proof.Mine.Ident.lean ====
/- The block's gradient is the whole gradient's part: the identities over the real numbers. -/
module

public import proofs.«01_k».proof.Proof.Mine.Net
public import proofs.«01_k».proof.Proof.Mine.Block

@[expose] public section

set_option maxRecDepth 16384

noncomputable section

namespace Cert.Mine

/-- A sum over rows, block by block. -/
theorem sum_blocks {m n : ℕ} (f : ℕ → ℝ) : ∑ x : Fin (m * n), f x = ∑ b : Fin m, ∑ r : Fin n, f (n * b + r) := by
  rw [← Fintype.sum_prod_type' (f := fun (b : Fin m) (r : Fin n) => f (n * b + r))]
  refine Fintype.sum_equiv finProdFinEquiv.symm _ _ fun x => ?_
  obtain ⟨y, rfl⟩ := finProdFinEquiv.surjective x
  rw [Equiv.symm_apply_apply, finProdFinEquiv_apply_val, add_comm]

/-- The sum over one chunk of a block's rows. -/
theorem sum_chunk (f : ℕ → ℝ) {c : ℕ} (hc : c < 4) :
    ∑ i : Fin 256, (if 64 * c ≤ (i : ℕ) ∧ (i : ℕ) < 64 * c + 64 then f i else 0) = ∑ y : Fin 64, f (64 * c + y) := by
  rw [show (256 : ℕ) = 4 * 64 from rfl, sum_blocks (fun i => if 64 * c ≤ i ∧ i < 64 * c + 64 then f i else 0)]
  rw [Finset.sum_eq_single (⟨c, hc⟩ : Fin 4)]
  · refine Finset.sum_congr rfl fun y _ => if_pos ⟨?_, ?_⟩ <;> simp
  · intro b _ hb
    refine Finset.sum_eq_zero fun y _ => if_neg fun h => hb (Fin.ext ?_)
    have := y.isLt
    show b.val = c
    omega
  · exact fun h => absurd (Finset.mem_univ _) h

/-- A sum with one term singled out. -/
theorem sum_one {n : ℕ} (f : ℕ → ℝ) {c : ℕ} (hc : c < n) : ∑ x : Fin n, (if x.val = c then f x else 0) = f c := by
  rw [Finset.sum_eq_single (⟨c, hc⟩ : Fin n)]
  · exact if_pos rfl
  · exact fun b _ hb => if_neg fun h => hb (Fin.ext h)
  · exact fun h => absurd (Finset.mem_univ _) h

namespace Net
variable (N : Net)

theorem C_succ {n : ℕ} (h : n + 1 < 32) (a k : ℕ) : N.C (n + 1) a k = N.C n a k + N.Le (n + 1) a k := by
  have e := sum_one (fun x => N.Le x a k) h
  rw [C, C, ← e, ← Finset.sum_add_distrib]
  refine Finset.sum_congr rfl fun x _ => ?_
  by_cases h1 : x.val ≤ n
  · rw [if_pos (by omega), if_pos h1, if_neg (by omega), add_zero]
  · by_cases h2 : x.val = n + 1
    · rw [if_pos (by omega), if_neg h1, if_pos h2, zero_add]
    · rw [if_neg (by omega), if_neg h1, if_neg h2, zero_add]

theorem D_succ {p n : ℕ} (hp : p < 32) (a k : ℕ) :
    N.D p n a k = (if p = n then 1 else 0) + N.D p (n + 1) a k * Real.exp (N.Le (n + 1) a k) := by
  unfold D X
  by_cases h1 : n + 1 ≤ p
  · rw [if_pos (by omega), if_neg (by omega), if_pos h1, zero_add, ← Real.exp_add, N.C_succ (by omega)]
    congr 1; ring
  · by_cases h2 : p = n
    · subst h2
      rw [if_pos le_rfl, if_pos rfl, if_neg h1, zero_mul, add_zero, sub_self, Real.exp_zero]
    · rw [if_neg (by omega), if_neg h2, if_neg h1]; ring

theorem Gs_succ {n : ℕ} (hn : n < 32) (a k v : ℕ) :
    N.Gs n a k v = N.T n a k v + N.Gs (n + 1) a k v * Real.exp (N.Le (n + 1) a k) := by
  have e := sum_one (fun x => N.T x a k v) hn
  rw [Gs, Gs, ← e, Finset.sum_mul, ← Finset.sum_add_distrib]
  refine Finset.sum_congr rfl fun p _ => ?_
  rw [N.D_succ p.isLt]
  split <;> ring

theorem Gs_last (a k v : ℕ) : N.Gs 32 a k v = 0 :=
  Finset.sum_eq_zero fun p _ => by rw [D, if_neg (by have := p.isLt; omega), mul_zero]

/-- The chunk decay's gradient: what later chunks' gradients ask of earlier chunks' states. -/
theorem sum_W {n : ℕ} (hn : n + 1 < 32) (a k : ℕ) :
    ∑ p : Fin 32, ∑ m : Fin 32, (if n + 1 ≤ p.val ∧ m.val < n + 1 then N.W p m a k else 0)
      = (∑ v : Fin 256, N.Gs (n + 1) a k v * N.S n a k v) * Real.exp (N.Le (n + 1) a k) := by
  have e : ∀ p m : Fin 32, (if n + 1 ≤ p.val ∧ m.val < n + 1 then N.W p m a k else 0)
      = ∑ v : Fin 256, N.T p a k v * N.D p (n + 1) a k * (N.U m a k v * N.D n m a k) * Real.exp (N.Le (n + 1) a k) := by
    intro p m
    unfold W D
    by_cases h : n + 1 ≤ p.val ∧ m.val < n + 1
    · rw [if_pos h, if_pos (by omega), if_pos h.1, if_pos (by omega)]
      have x : N.X p m a k = N.X p (n + 1) a k * N.X n m a k * Real.exp (N.Le (n + 1) a k) := by
        unfold X
        rw [← Real.exp_add, ← Real.exp_add, N.C_succ hn]
        congr 1; ring
      rw [x, Finset.sum_mul]
      exact Finset.sum_congr rfl fun v _ => by ring
    · rw [if_neg h]
      refine (Finset.sum_eq_zero fun v _ => ?_).symm
      by_cases h1 : n + 1 ≤ p.val
      · rw [if_neg (show ¬ m.val ≤ n by omega)]; ring
      · rw [if_neg h1]; ring
  simp only [e]
  rw [Finset.sum_congr rfl fun p _ => Finset.sum_comm, Finset.sum_comm, Finset.sum_mul]
  refine Finset.sum_congr rfl fun v _ => ?_
  rw [Gs, S, Finset.sum_mul_sum, Finset.sum_mul]
  refine Finset.sum_congr rfl fun p _ => ?_
  rw [Finset.sum_mul]

theorem W_zero {p m : ℕ} (h : p < m) (a k : ℕ) : N.W p m a k = 0 := if_neg (by omega)

/-- The summed gradient of the running sum, as pairs across the chunk's beginning. -/
theorem sum_dC (n a k : ℕ) : (∑ x : Fin 32, if n ≤ x.val then N.dC x a k else 0)
    = ∑ p : Fin 32, ∑ m : Fin 32, (if n ≤ p.val ∧ m.val < n then N.W p m a k else 0) := by
  have e : ∀ x : Fin 32, (if n ≤ x.val then N.dC x a k else 0)
      = (∑ m : Fin 32, if n ≤ x.val then N.W x m a k else 0) - ∑ p : Fin 32, if n ≤ x.val then N.W p x a k else 0 := by
    intro x
    by_cases h : n ≤ x.val
    · simp only [if_pos h, dC, Finset.sum_neg_distrib]; ring
    · simp only [if_neg h, Finset.sum_const_zero, sub_zero]
  simp only [e, Finset.sum_sub_distrib]
  rw [Finset.sum_comm (f := fun (x p : Fin 32) => if n ≤ x.val then N.W p x a k else 0), ← Finset.sum_sub_distrib]
  refine Finset.sum_congr rfl fun p _ => ?_
  rw [← Finset.sum_sub_distrib]
  refine Finset.sum_congr rfl fun m _ => ?_
  by_cases hm : m.val ≤ p.val
  · by_cases h1 : n ≤ m.val
    · rw [if_pos (by omega), if_pos h1, if_neg (by omega), sub_self]
    · by_cases h2 : n ≤ p.val
      · rw [if_pos h2, if_neg h1, if_pos ⟨h2, by omega⟩, sub_zero]
      · rw [if_neg h2, if_neg h1, if_neg (by omega), sub_zero]
  · rw [N.W_zero (by omega)]; simp

theorem sum_dC_zero (a k : ℕ) : (∑ x : Fin 32, if 0 ≤ x.val then N.dC x a k else 0) = 0 := by
  rw [N.sum_dC]
  exact Finset.sum_eq_zero fun p _ => Finset.sum_eq_zero fun m _ => if_neg (by omega)

theorem sum_dC_succ {n : ℕ} (hn : n + 1 < 32) (a k : ℕ) : (∑ x : Fin 32, if n + 1 ≤ x.val then N.dC x a k else 0)
    = (∑ v : Fin 256, N.Gs (n + 1) a k v * N.S n a k v) * Real.exp (N.Le (n + 1) a k) := by
  rw [N.sum_dC, N.sum_W hn]

/-- The log decay's gradient, its last term apart. -/
theorem dl_eq (n a k : ℕ) {c : ℕ} (hc : c < 64) :
    N.dl n c a k = N.dLe n a k - ∑ x : Fin 64, if c ≤ x.val then N.dd n x a k else 0 := by
  have e := sum_one (n := 64) (fun _ => N.dLe n a k) (show 63 < 64 by decide)
  rw [dl, ← e, ← Finset.sum_sub_distrib, e]
  refine Finset.sum_congr rfl fun x _ => ?_
  by_cases h : c ≤ x.val
  · rw [if_pos h, if_pos h]; ring
  · rw [if_neg h, if_neg h, if_neg (by omega)]; ring

theorem exp_sp (i j : ℕ) : Real.exp (N.sp i j) = 1 + Real.exp (-N.pre i j) := by
  have hp : 0 < 1 + Real.exp (-|-N.pre i j|) := by positivity
  rw [sp, Real.exp_add, Real.exp_log hp, mul_add, mul_one, ← Real.exp_add]
  rcases le_total (-N.pre i j) 0 with h | h
  · rw [max_eq_right h, abs_of_nonpos h, Real.exp_zero, zero_add, neg_neg]
  · rw [max_eq_left h, abs_of_nonneg h, add_neg_cancel, Real.exp_zero, add_comm]

theorem exp_pre_sp (i j : ℕ) : Real.exp (-N.pre i j - N.sp i j) = 1 - 1 / (1 + Real.exp (0 - N.pre i j)) := by
  have hp : 0 < 1 + Real.exp (-N.pre i j) := by positivity
  rw [Real.exp_sub, N.exp_sp, zero_sub]
  field_simp
  ring

/-- The numbers of block `b`. -/
def blk (b : ℕ) : Blk where
  O r j := N.o (256 * b + r) (j / 256) (j % 256)
  G r j := N.Z (256 * b + r) (2048 + j)
  K r j := N.Z (256 * b + r) (512 + j)
  V r j := N.Z (256 * b + r) (1024 + j)
  Q r j := N.Z (256 * b + r) j
  GA r j := if j < 16 then N.Z (256 * b + r) (3072 + j) else 0
  WA i j := if i < 16 then N.WA i j else 0
  GN _ j := N.GN j
  P r j := N.pre (256 * b + r) j
  C r j := N.L ((256 * b + r) / 64) ((256 * b + r) % 64) (j / 128) (j % 128)
  DY r j := N.DY (256 * b + r) j
  ST c h v k := N.S (4 * b + c) h k v
  STP h v k := N.S (4 * b - 1) h k v
  CAR h v k := N.Gs (4 * b + 4) h k v * Real.exp (N.Le (4 * b + 4) h k)
  hp := if 0 < b then 1 else 0

theorem row_div (b : ℕ) {c i : ℕ} (hi : i < 64) : (256 * b + (64 * c + i)) / 64 = 4 * b + c := by omega
theorem row_mod (b : ℕ) {c i : ℕ} (hi : i < 64) : (256 * b + (64 * c + i)) % 64 = i := by omega
theorem row_eq (b c i : ℕ) : 256 * b + (64 * c + i) = (4 * b + c) * 64 + i := by ring

section
variable (b : ℕ)

theorem Oh_eq (h r : ℕ) {x : ℕ} (hx : x < 256) : (N.blk b).Oh h r x = N.o (256 * b + r) h x := by
  show N.o _ ((256 * h + x) / 256) ((256 * h + x) % 256) = _
  rw [show (256 * h + x) / 256 = h by omega, show (256 * h + x) % 256 = x by omega]
theorem var_eq (h r x : ℕ) : (N.blk b).var h r x = N.var (256 * b + r) h := by
  unfold Blk.var var
  exact congrArg (· / 256 + eps) (Finset.sum_congr rfl fun x _ => by rw [N.Oh_eq b h r x.isLt])
theorem rr_eq (h r x : ℕ) : (N.blk b).rr h r x = N.r (256 * b + r) h := by
  unfold Blk.rr Net.r; rw [N.var_eq]
theorem sg_eq (h r x : ℕ) : (N.blk b).sg h r x = N.sg (256 * b + r) (h * 256 + x) := by
  unfold Blk.sg sg
  rw [zero_sub, mul_comm h]; rfl
theorem dgn_eq (h r x : ℕ) : (N.blk b).dgn h r x = N.DY (256 * b + r) (h * 256 + x) * N.si (256 * b + r) (h * 256 + x) := by
  unfold Blk.dgn si
  rw [N.sg_eq, mul_comm h]; rfl
theorem W_eq (h r x : ℕ) : (N.blk b).W h r x = N.w (256 * b + r) h x := by
  unfold Blk.W w
  rw [N.dgn_eq, mul_comm h]; rfl
theorem r_sq (i a : ℕ) : N.r i a * N.r i a = 1 / N.var i a := by
  unfold r
  rw [← mul_inv, Real.mul_self_sqrt (N.var_pos i a).le, one_div]
theorem ddo_eq (h r : ℕ) {x : ℕ} (hx : x < 256) : (N.blk b).ddo h r x = N.dO (256 * b + r) h x := by
  have e : (N.blk b).wom h r x = (∑ v : Fin 256, N.o (256 * b + r) h v * N.w (256 * b + r) h v) / 256 := by
    unfold Blk.wom
    exact congrArg (· / 256) (Finset.sum_congr rfl fun x _ => by rw [N.Oh_eq b h r x.isLt, N.W_eq, mul_comm])
  have hv := (N.var_pos (256 * b + r) h).ne'
  unfold Blk.ddo Blk.orr dO q
  rw [e, N.Oh_eq b h r hx, N.W_eq, N.rr_eq, N.r_sq]
  field_simp
  ring

theorem qs_eq (c : ℕ) {i : ℕ} (h k : ℕ) : (N.blk b).qs (64 * c + i) (128 * h + k) = N.qs (4 * b + c) i h k := by
  unfold Blk.qs qs
  rw [← row_eq, mul_comm h]; rfl
theorem own_eq (c h k : ℕ) {v : ℕ} (hv : v < 256) : (N.blk b).own c h v k = N.T (4 * b + c) h k v :=
  Finset.sum_congr rfl fun x _ => by rw [N.ddo_eq b h _ hv, N.qs_eq, row_eq]
theorem cend_eq (c i h : ℕ) {k : ℕ} (hk : k < 128) : (N.blk b).cend c i (128 * h + k) = N.Le (4 * b + c) h k := by
  show N.L ((256 * b + (64 * c + 63)) / 64) ((256 * b + (64 * c + 63)) % 64) ((128 * h + k) / 128) ((128 * h + k) % 128) = _
  rw [row_div b (by decide), row_mod b (by decide), show (128 * h + k) / 128 = h by omega, show (128 * h + k) % 128 = k by omega]
  rfl
theorem A_eq (c i h : ℕ) {k : ℕ} (hk : k < 128) : (N.blk b).A c i (128 * h + k) = Real.exp (N.Le (4 * b + c) h k) := by
  unfold Blk.A; rw [N.cend_eq b c i h hk]

variable {b} (hb : b < 8)
include hb

theorem gts_eq {c : ℕ} (hc : c < 4) (h : ℕ) {k v : ℕ} (hk : k < 128) (hv : v < 256) :
    (N.blk b).gts c h v k = N.Gs (4 * b + c) h k v := by
  have e3 : (N.blk b).gts 3 h v k = N.Gs (4 * b + 3) h k v := by
    rw [Blk.gts_3, N.own_eq b 3 h k hv, N.Gs_succ (by omega)]; rfl
  have e2 : (N.blk b).gts 2 h v k = N.Gs (4 * b + 2) h k v := by
    rw [Blk.gts_2, N.own_eq b 2 h k hv, N.Gs_succ (n := 4 * b + 2) (by omega), e3, N.A_eq b 3 0 h hk]
  have e1 : (N.blk b).gts 1 h v k = N.Gs (4 * b + 1) h k v := by
    rw [Blk.gts_1, N.own_eq b 1 h k hv, N.Gs_succ (n := 4 * b + 1) (by omega), e2, N.A_eq b 2 0 h hk]
  match c, hc with
  | 0, _ => rw [Blk.gts_0, N.own_eq b 0 h k hv, N.Gs_succ (n := 4 * b + 0) (by omega), e1, N.A_eq b 1 0 h hk]
  | 1, _ => exact e1
  | 2, _ => exact e2
  | 3, _ => exact e3

/-- What a block leaves is what the block before it takes up. -/
theorem ncar_eq (h a : ℕ) {k v : ℕ} (hk : k < 128) (hv : v < 256) :
    (N.blk b).ncar h a v k = N.Gs (4 * b) h k v * Real.exp (N.Le (4 * b) h k) := by
  unfold Blk.ncar
  rw [N.gts_eq hb (by decide) h hk hv, N.A_eq b 0 0 h hk]; rfl

theorem dq_eq {r j : ℕ} (hr : r < 256) : (N.blk b).dq r j = N.dq ((256 * b + r) / 64) ((256 * b + r) % 64) (j / 128) (j % 128) := by
  unfold Blk.dq Blk.dqh Blk.dqp dq
  refine congrArg (· * kap) (Finset.sum_congr rfl fun v _ => ?_)
  rw [N.ddo_eq b _ _ v.isLt, row_eq, show (256 * b + r) / 64 = 4 * b + r / 64 by omega, show (256 * b + r) % 64 = r % 64 by omega]
  rfl

theorem E_eq {c i : ℕ} (hi : i < 64) (h : ℕ) {k : ℕ} (hk : k < 128) :
    (N.blk b).E (64 * c + i) (128 * h + k) = N.E (4 * b + c) i h k := by
  unfold Blk.E E
  rw [show (64 * c + i) / 64 = c by omega, N.cend_eq b c 0 h hk]
  show Real.exp (_ - N.L ((256 * b + (64 * c + i)) / 64) ((256 * b + (64 * c + i)) % 64) ((128 * h + k) / 128) ((128 * h + k) % 128)) = _
  rw [row_div b hi, row_mod b hi, show (128 * h + k) / 128 = h by omega, show (128 * h + k) % 128 = k by omega]
theorem K_eq {c : ℕ} (i h k : ℕ) : (N.blk b).K (64 * c + i) (128 * h + k) = N.K (4 * b + c) i h k := by
  unfold K; rw [← row_eq, mul_comm h]; rfl
theorem kd_eq {c i : ℕ} (hi : i < 64) (h : ℕ) {k : ℕ} (hk : k < 128) :
    (N.blk b).kd (64 * c + i) (128 * h + k) = N.kd (4 * b + c) i h k := by
  unfold Blk.kd kd; rw [N.K_eq hb, N.E_eq hb hi h hk]
theorem dkdp_eq {c : ℕ} (hc : c < 4) (i h : ℕ) {k : ℕ} (hk : k < 128) : (N.blk b).dkdp c h i k = N.dkd (4 * b + c) i h k := by
  unfold Blk.dkdp dkd
  refine Finset.sum_congr rfl fun v _ => ?_
  rw [N.gts_eq hb hc h hk v.isLt, mul_comm, Vv, ← row_eq, mul_comm h]; rfl
theorem dkd_eq {c i : ℕ} (hc : c < 4) (hi : i < 64) (h : ℕ) {k : ℕ} (hk : k < 128) :
    (N.blk b).dkd (64 * c + i) (128 * h + k) = N.dkd (4 * b + c) i h k := by
  unfold Blk.dkd Blk.dkdc
  rw [show (64 * c + i) / 64 = c by omega, show (64 * c + i) % 64 = i by omega, show (128 * h + k) / 128 = h by omega,
    show (128 * h + k) % 128 = k by omega, N.dkdp_eq hb hc i h hk]
theorem dd_eq {c i : ℕ} (hc : c < 4) (hi : i < 64) (h : ℕ) {k : ℕ} (hk : k < 128) :
    (N.blk b).dd (64 * c + i) (128 * h + k) = N.dd (4 * b + c) i h k := by
  unfold Blk.dd dd
  rw [N.dkd_eq hb hc hi h hk, N.K_eq hb, N.E_eq hb hi h hk]; ring

theorem dk_eq {r j : ℕ} (hr : r < 256) : (N.blk b).dk r j = N.dk ((256 * b + r) / 64) ((256 * b + r) % 64) (j / 128) (j % 128) := by
  rw [show (256 * b + r) / 64 = 4 * b + r / 64 by omega, show (256 * b + r) % 64 = r % 64 by omega]
  unfold Blk.dk dk
  have hk : j % 128 < 128 := Nat.mod_lt _ (by decide)
  have hi : r % 64 < 64 := Nat.mod_lt _ (by decide)
  rw [← N.dkd_eq hb (by omega) hi _ hk, ← N.E_eq hb hi _ hk, Nat.div_add_mod, Nat.div_add_mod]
theorem dv_eq {r j : ℕ} (hr : r < 256) :
    (N.blk b).dvh (j / 256) r (j % 256) = N.dv ((256 * b + r) / 64) ((256 * b + r) % 64) (j / 256) (j % 256) := by
  rw [show (256 * b + r) / 64 = 4 * b + r / 64 by omega, show (256 * b + r) % 64 = r % 64 by omega]
  unfold Blk.dvh Blk.dvp dv
  refine Finset.sum_congr rfl fun k _ => ?_
  rw [N.kd_eq hb (Nat.mod_lt _ (by decide)) _ k.isLt, N.gts_eq hb (by omega) _ k.isLt (Nat.mod_lt _ (by decide)), mul_comm]
omit hb in
theorem dgg_eq (r j : ℕ) : (N.blk b).dgg (j / 256) r (j % 256) = N.dgg (256 * b + r) j := by
  have hj : j % 256 < 256 := Nat.mod_lt _ (by decide)
  have e : 256 * (j / 256) + j % 256 = j := Nat.div_add_mod _ _
  unfold Blk.dgg dgg on
  rw [N.Oh_eq b _ _ hj, N.rr_eq, N.sg_eq]
  unfold Blk.Dh Blk.gn Blk.Gh
  rw [mul_comm (j / 256) 256, e]
  show N.DY (256 * b + r) j * (_ * _ * N.GN j) * (_ * (1 + N.Z (256 * b + r) (2048 + j) * _)) = _
  ring

/-- The chunk decay's gradient by the decay. -/
theorem daA_eq {c : ℕ} (hc : c < 4) (h : ℕ) {k : ℕ} (hk : k < 128) :
    (N.blk b).da c 0 (128 * h + k) * (N.blk b).A c 0 (128 * h + k)
      = ∑ x : Fin 32, if 4 * b + c ≤ x.val then N.dC x h k else 0 := by
  have e : (N.blk b).da c 0 (128 * h + k) = (N.blk b).dap c h 0 k := by
    unfold Blk.da
    rw [show (128 * h + k) / 128 = h by omega, show (128 * h + k) % 128 = k by omega]
  rw [e, N.A_eq b c 0 h hk]
  match c, hc with
  | 0, _ =>
    by_cases h0 : b = 0
    · subst h0
      show (∑ v : Fin 256, (N.blk 0).gts 0 h v k * ((N.blk 0).STP h v k * (if 0 < 0 then 1 else 0))) * _ = _
      simp only [lt_irrefl, if_false, mul_zero, Finset.sum_const_zero, zero_mul]
      exact (N.sum_dC_zero h k).symm
    · obtain ⟨n, hn⟩ : ∃ n, 4 * b = n + 1 := ⟨4 * b - 1, by omega⟩
      show (∑ v : Fin 256, (N.blk b).gts 0 h v k * (N.S (4 * b - 1) h k v * (if 0 < b then 1 else 0))) * _ = _
      rw [Nat.add_zero, hn, N.sum_dC_succ (by omega)]
      refine congrArg (· * _) (Finset.sum_congr rfl fun v _ => ?_)
      rw [N.gts_eq hb (by decide) h hk v.isLt, if_pos (by omega), mul_one, Nat.add_zero, hn]; rfl
  | c + 1, hc =>
    rw [show 4 * b + (c + 1) = 4 * b + c + 1 from rfl, N.sum_dC_succ (by omega)]
    refine congrArg (· * _) (Finset.sum_congr rfl fun v _ => ?_)
    rw [N.gts_eq hb hc h hk v.isLt]; rfl

theorem dlae_eq {c : ℕ} (hc : c < 4) (h : ℕ) {k : ℕ} (hk : k < 128) :
    (N.blk b).dlae c 0 (128 * h + k) = N.dLe (4 * b + c) h k := by
  unfold Blk.dlae dLe Blk.dsum
  rw [N.daA_eq hb hc h hk, sum_chunk (fun i => (N.blk b).dd i (128 * h + k)) hc, add_comm]
  exact congrArg (_ + ·) (Finset.sum_congr rfl fun y _ => N.dd_eq hb hc y.isLt h hk)

theorem dla_eq {c i : ℕ} (hc : c < 4) (hi : i < 64) (h : ℕ) {k : ℕ} (hk : k < 128) :
    (N.blk b).dla (64 * c + i) (128 * h + k) = N.dl (4 * b + c) i h k / 16 := by
  have e : (∑ x : Fin 256, Blk.tri (64 * c + i) x * (N.blk b).dd x (128 * h + k))
      = ∑ x : Fin 64, if i ≤ x.val then N.dd (4 * b + c) x h k else 0 := by
    have s := sum_chunk (fun x => if 64 * c + i ≤ x then (N.blk b).dd x (128 * h + k) else 0) hc
    refine (Finset.sum_congr rfl fun x _ => ?_).trans (s.trans (Finset.sum_congr rfl fun y _ => ?_))
    · unfold Blk.tri
      by_cases h1 : (64 * c + i) / 64 = x.val / 64
      · rw [if_pos (show 64 * c ≤ x.val ∧ x.val < 64 * c + 64 by omega)]
        by_cases h2 : 64 * c + i ≤ x.val
        · rw [if_pos ⟨h1, h2⟩, if_pos h2, one_mul]
        · rw [if_neg (fun z => h2 z.2), if_neg h2, zero_mul]
      · rw [if_neg (fun z => h1 z.1), if_neg (show ¬ (64 * c ≤ x.val ∧ x.val < 64 * c + 64) by omega), zero_mul]
    · by_cases h1 : i ≤ y.val
      · rw [if_pos (show 64 * c + i ≤ 64 * c + y.val by omega), if_pos h1, N.dd_eq hb hc y.isLt h hk]
      · rw [if_neg (show ¬ 64 * c + i ≤ 64 * c + y.val by omega), if_neg h1]
  unfold Blk.dla
  rw [e, show (64 * c + i) / 64 = c by omega, N.dlae_eq hb hc h hk, N.dl_eq _ _ _ hi]
  ring

theorem dpre_eq {r : ℕ} (hr : r < 256) (j : ℕ) : (N.blk b).dpre r j = N.dpre (256 * b + r) j := by
  have hk : j % 128 < 128 := Nat.mod_lt _ (by decide)
  have hi : r % 64 < 64 := Nat.mod_lt _ (by decide)
  unfold Blk.dpre dpre
  have e := N.dla_eq hb (c := r / 64) (by omega) hi (j / 128) hk
  rw [Nat.div_add_mod, Nat.div_add_mod] at e
  rw [e, show (256 * b + r) / 64 = 4 * b + r / 64 by omega, show (256 * b + r) % 64 = r % 64 by omega, N.exp_pre_sp]
  unfold Blk.eP
  show _ * (1 - 1 / (1 + Real.exp (0 - N.pre (256 * b + r) j))) = _
  ring

theorem dga_eq {r : ℕ} (hr : r < 256) (j : ℕ) : (N.blk b).dga r j = N.dga (256 * b + r) j := by
  unfold Blk.dga dga
  simp only [N.dpre_eq hb hr]
  show (∑ x : Fin 512, N.dpre (256 * b + r) x * (if j < 16 then N.WA j x else 0)) = _
  split
  · rfl
  · simp only [mul_zero, Finset.sum_const_zero]

theorem dwap_eq (i j : ℕ) : (N.blk b).dwap i j = if i < 16 then ∑ r : Fin 256, N.dpre (256 * b + r) j * N.Z (256 * b + r) (3072 + i) else 0 := by
  unfold Blk.dwap
  show (∑ x : Fin 256, (if i < 16 then N.Z (256 * b + x) (3072 + i) else 0) * _) = _
  split
  · exact Finset.sum_congr rfl fun x _ => by rw [N.dpre_eq hb x.isLt, mul_comm]
  · simp only [zero_mul, Finset.sum_const_zero]

theorem dbp_eq (i j : ℕ) : (N.blk b).dbp i j = ∑ r : Fin 256, N.dpre (256 * b + r) j :=
  Finset.sum_congr rfl fun x _ => N.dpre_eq hb x.isLt j

omit hb in
theorem dgp_eq (i j : ℕ) : (N.blk b).dgp (j / 256) i (j % 256)
    = ∑ r : Fin 256, N.o (256 * b + r) (j / 256) (j % 256) * N.r (256 * b + r) (j / 256) * (N.DY (256 * b + r) j * N.si (256 * b + r) j) := by
  refine Finset.sum_congr rfl fun x _ => ?_
  rw [N.dgn_eq, N.Oh_eq b _ _ (Nat.mod_lt _ (by decide)), N.rr_eq, mul_comm (j / 256) 256, Nat.div_add_mod]
  ring

end

/-- The sum over the blocks from the last down, `t + 1` of them. -/
def acc (f : ℕ → ℝ) : ℕ → ℝ
  | 0 => 0 + f 7
  | t + 1 => acc f t + f (7 - (t + 1))

theorem acc_all (f : ℕ → ℝ) : acc f 7 = ∑ b : Fin 8, f b := by
  simp only [acc, Fin.sum_univ_succ, Fin.sum_univ_zero]
  show 0 + f 7 + f 6 + f 5 + f 4 + f 3 + f 2 + f 1 + f 0 = f 0 + (f 1 + (f 2 + (f 3 + (f 4 + (f 5 + (f 6 + (f 7 + 0)))))))
  ring

theorem dwa_eq (i j : ℕ) : acc (fun b => (N.blk b).dwap i j) 7 = N.dwa i j := by
  rw [acc_all]
  unfold dwa
  simp only [fun b : Fin 8 => N.dwap_eq b.isLt i j]
  split
  · rw [show (2048 : ℕ) = 8 * 256 from rfl, sum_blocks (fun x => N.dpre x j * N.Z x (3072 + i))]
  · exact Finset.sum_const_zero

theorem db_eq (i j : ℕ) : acc (fun b => (N.blk b).dbp i j) 7 = N.db j := by
  rw [acc_all]
  unfold db
  simp only [fun b : Fin 8 => N.dbp_eq b.isLt i j]
  rw [show (2048 : ℕ) = 8 * 256 from rfl, sum_blocks (fun x => N.dpre x j)]

theorem dg_eq (i j : ℕ) : acc (fun b => (N.blk b).dgp (j / 256) i (j % 256)) 7 = N.dg j := by
  rw [acc_all]
  unfold dg
  simp only [N.dgp_eq]
  rw [show (2048 : ℕ) = 8 * 256 from rfl, sum_blocks (fun x => N.o x (j / 256) (j % 256) * N.r x (j / 256) * (N.DY x j * N.si x j))]

end Net

end Cert.Mine

end
-- ==== Proof.Mine.Win.lean ====
/- The call's input blocks at a grid point, over real arguments: the numbers of the block the point works on. -/
module

public import proofs.«01_k».proof.Proof.Mine.HostVal
public import proofs.«01_k».proof.Proof.Mine.Ident
public import Idealize.ShloMosaic.Lib.Pipeline.ValueKit

@[expose] public section

set_option maxRecDepth 16384

noncomputable section

namespace Cert.Mine.Hv

open Idealize.ShloMosaic Idealize.ShloMosaic.TcCoe Cert.KernelIdeal Cert.KernelIdeal.Gen

theorem ind0 : ∀ t : Fin cfg0.N, (cfg0.win 0).index t 0 = 7 - t.val ∧ (cfg0.win 0).index t 1 = 0 := by decide +kernel
theorem ind1 : ∀ t : Fin cfg0.N, (cfg0.win 1).index t 0 = 7 - t.val ∧ (cfg0.win 1).index t 1 = 0 := by decide +kernel
theorem ind2 : ∀ t : Fin cfg0.N, (cfg0.win 2).index t 0 = 7 - t.val ∧ (cfg0.win 2).index t 1 = 0 := by decide +kernel
theorem ind3 : ∀ t : Fin cfg0.N, (cfg0.win 3).index t 0 = 7 - t.val ∧ (cfg0.win 3).index t 1 = 1 := by decide +kernel
theorem ind4 : ∀ t : Fin cfg0.N, (cfg0.win 4).index t 0 = 7 - t.val ∧ (cfg0.win 4).index t 1 = 1 := by decide +kernel
theorem ind5 : ∀ t : Fin cfg0.N, (cfg0.win 5).index t 0 = 7 - t.val ∧ (cfg0.win 5).index t 1 = 2 := by decide +kernel
theorem ind6 : ∀ t : Fin cfg0.N, (cfg0.win 6).index t 0 = 7 - t.val ∧ (cfg0.win 6).index t 1 = 56 := by decide +kernel
theorem ind7 : ∀ t : Fin cfg0.N, (cfg0.win 7).index t 0 = 0 ∧ (cfg0.win 7).index t 1 = 0 := by decide +kernel
theorem ind8 : ∀ t : Fin cfg0.N, (cfg0.win 8).index t 0 = 0 ∧ (cfg0.win 8).index t 1 = 0 := by decide +kernel
theorem ind9 : ∀ t : Fin cfg0.N, (cfg0.win 9).index t 0 = 7 - t.val ∧ (cfg0.win 9).index t 1 = 0 ∧ (cfg0.win 9).index t 2 = 0 ∧ (cfg0.win 9).index t 3 = 0 := by decide +kernel
theorem ind10 : ∀ t : Fin cfg0.N, (cfg0.win 10).index t 0 = 4 * (7 - t.val) - 1 ∧ (cfg0.win 10).index t 1 = 0 ∧ (cfg0.win 10).index t 2 = 0 ∧ (cfg0.win 10).index t 3 = 0 := by decide +kernel
theorem ind11 : ∀ t : Fin cfg0.N, (cfg0.win 11).index t 0 = 7 - t.val ∧ (cfg0.win 11).index t 1 = 0 := by decide +kernel
theorem ind12 : ∀ t : Fin cfg0.N, (cfg0.win 12).index t 0 = 7 - t.val ∧ (cfg0.win 12).index t 1 = 0 := by decide +kernel

theorem emb0 (t : Fin cfg0.N) (y : ((cfg0.win 0).xblock (cfg0.grid.coords t)).Idx) : ((((cfg0.win 0).blk t).view.emb y) 0 : ℕ) = 256 * (7 - t.val) + (y 0).val ∧ ((((cfg0.win 0).blk t).view.emb y) 1 : ℕ) = (y 1).val := by
  constructor
  · refine (Pipeline.Window.rect_emb_val (cfg0.win 0) t y 0).trans ?_
    rw [(ind0 t).1]; show (7 - t.val) * 256 + _ = _; omega
  · refine (Pipeline.Window.rect_emb_val (cfg0.win 0) t y 1).trans ?_
    rw [(ind0 t).2]; show 0 * 1024 + _ = _; omega
theorem emb1 (t : Fin cfg0.N) (y : ((cfg0.win 1).xblock (cfg0.grid.coords t)).Idx) : ((((cfg0.win 1).blk t).view.emb y) 0 : ℕ) = 256 * (7 - t.val) + (y 0).val ∧ ((((cfg0.win 1).blk t).view.emb y) 1 : ℕ) = (y 1).val := by
  constructor
  · refine (Pipeline.Window.rect_emb_val (cfg0.win 1) t y 0).trans ?_
    rw [(ind1 t).1]; show (7 - t.val) * 256 + _ = _; omega
  · refine (Pipeline.Window.rect_emb_val (cfg0.win 1) t y 1).trans ?_
    rw [(ind1 t).2]; show 0 * 1024 + _ = _; omega
theorem emb2 (t : Fin cfg0.N) (y : ((cfg0.win 2).xblock (cfg0.grid.coords t)).Idx) : ((((cfg0.win 2).blk t).view.emb y) 0 : ℕ) = 256 * (7 - t.val) + (y 0).val ∧ ((((cfg0.win 2).blk t).view.emb y) 1 : ℕ) = (y 1).val := by
  constructor
  · refine (Pipeline.Window.rect_emb_val (cfg0.win 2) t y 0).trans ?_
    rw [(ind2 t).1]; show (7 - t.val) * 256 + _ = _; omega
  · refine (Pipeline.Window.rect_emb_val (cfg0.win 2) t y 1).trans ?_
    rw [(ind2 t).2]; show 0 * 512 + _ = _; omega
theorem emb3 (t : Fin cfg0.N) (y : ((cfg0.win 3).xblock (cfg0.grid.coords t)).Idx) : ((((cfg0.win 3).blk t).view.emb y) 0 : ℕ) = 256 * (7 - t.val) + (y 0).val ∧ ((((cfg0.win 3).blk t).view.emb y) 1 : ℕ) = 512 + (y 1).val := by
  constructor
  · refine (Pipeline.Window.rect_emb_val (cfg0.win 3) t y 0).trans ?_
    rw [(ind3 t).1]; show (7 - t.val) * 256 + _ = _; omega
  · refine (Pipeline.Window.rect_emb_val (cfg0.win 3) t y 1).trans ?_
    rw [(ind3 t).2]; show 1 * 512 + _ = _; omega
theorem emb4 (t : Fin cfg0.N) (y : ((cfg0.win 4).xblock (cfg0.grid.coords t)).Idx) : ((((cfg0.win 4).blk t).view.emb y) 0 : ℕ) = 256 * (7 - t.val) + (y 0).val ∧ ((((cfg0.win 4).blk t).view.emb y) 1 : ℕ) = 1024 + (y 1).val := by
  constructor
  · refine (Pipeline.Window.rect_emb_val (cfg0.win 4) t y 0).trans ?_
    rw [(ind4 t).1]; show (7 - t.val) * 256 + _ = _; omega
  · refine (Pipeline.Window.rect_emb_val (cfg0.win 4) t y 1).trans ?_
    rw [(ind4 t).2]; show 1 * 1024 + _ = _; omega
theorem emb5 (t : Fin cfg0.N) (y : ((cfg0.win 5).xblock (cfg0.grid.coords t)).Idx) : ((((cfg0.win 5).blk t).view.emb y) 0 : ℕ) = 256 * (7 - t.val) + (y 0).val ∧ ((((cfg0.win 5).blk t).view.emb y) 1 : ℕ) = 2048 + (y 1).val := by
  constructor
  · refine (Pipeline.Window.rect_emb_val (cfg0.win 5) t y 0).trans ?_
    rw [(ind5 t).1]; show (7 - t.val) * 256 + _ = _; omega
  · refine (Pipeline.Window.rect_emb_val (cfg0.win 5) t y 1).trans ?_
    rw [(ind5 t).2]; show 2 * 1024 + _ = _; omega
theorem emb6 (t : Fin cfg0.N) (y : ((cfg0.win 6).xblock (cfg0.grid.coords t)).Idx) : ((((cfg0.win 6).blk t).view.emb y) 0 : ℕ) = 256 * (7 - t.val) + (y 0).val ∧ ((((cfg0.win 6).blk t).view.emb y) 1 : ℕ) = 7168 + (y 1).val := by
  constructor
  · refine (Pipeline.Window.rect_emb_val (cfg0.win 6) t y 0).trans ?_
    rw [(ind6 t).1]; show (7 - t.val) * 256 + _ = _; omega
  · refine (Pipeline.Window.rect_emb_val (cfg0.win 6) t y 1).trans ?_
    rw [(ind6 t).2]; show 56 * 128 + _ = _; omega
theorem emb7 (t : Fin cfg0.N) (y : ((cfg0.win 7).xblock (cfg0.grid.coords t)).Idx) : ((((cfg0.win 7).blk t).view.emb y) 0 : ℕ) = (y 0).val ∧ ((((cfg0.win 7).blk t).view.emb y) 1 : ℕ) = (y 1).val := by
  constructor
  · refine (Pipeline.Window.rect_emb_val (cfg0.win 7) t y 0).trans ?_
    rw [(ind7 t).1]; show 0 * 128 + _ = _; omega
  · refine (Pipeline.Window.rect_emb_val (cfg0.win 7) t y 1).trans ?_
    rw [(ind7 t).2]; show 0 * 512 + _ = _; omega
theorem emb8 (t : Fin cfg0.N) (y : ((cfg0.win 8).xblock (cfg0.grid.coords t)).Idx) : ((((cfg0.win 8).blk t).view.emb y) 0 : ℕ) = (y 0).val ∧ ((((cfg0.win 8).blk t).view.emb y) 1 : ℕ) = (y 1).val := by
  constructor
  · refine (Pipeline.Window.rect_emb_val (cfg0.win 8) t y 0).trans ?_
    rw [(ind8 t).1]; show 0 * 1 + _ = _; omega
  · refine (Pipeline.Window.rect_emb_val (cfg0.win 8) t y 1).trans ?_
    rw [(ind8 t).2]; show 0 * 1024 + _ = _; omega
theorem emb11 (t : Fin cfg0.N) (y : ((cfg0.win 11).xblock (cfg0.grid.coords t)).Idx) : ((((cfg0.win 11).blk t).view.emb y) 0 : ℕ) = 256 * (7 - t.val) + (y 0).val ∧ ((((cfg0.win 11).blk t).view.emb y) 1 : ℕ) = (y 1).val := by
  constructor
  · refine (Pipeline.Window.rect_emb_val (cfg0.win 11) t y 0).trans ?_
    rw [(ind11 t).1]; show (7 - t.val) * 256 + _ = _; omega
  · refine (Pipeline.Window.rect_emb_val (cfg0.win 11) t y 1).trans ?_
    rw [(ind11 t).2]; show 0 * 512 + _ = _; omega
theorem emb12 (t : Fin cfg0.N) (y : ((cfg0.win 12).xblock (cfg0.grid.coords t)).Idx) : ((((cfg0.win 12).blk t).view.emb y) 0 : ℕ) = 256 * (7 - t.val) + (y 0).val ∧ ((((cfg0.win 12).blk t).view.emb y) 1 : ℕ) = (y 1).val := by
  constructor
  · refine (Pipeline.Window.rect_emb_val (cfg0.win 12) t y 0).trans ?_
    rw [(ind12 t).1]; show (7 - t.val) * 256 + _ = _; omega
  · refine (Pipeline.Window.rect_emb_val (cfg0.win 12) t y 1).trans ?_
    rw [(ind12 t).2]; show 0 * 512 + _ = _; omega
theorem emb9 (t : Fin cfg0.N) (y : ((cfg0.win 9).xblock (cfg0.grid.coords t)).Idx) :
    ((((cfg0.win 9).blk t).view.emb y) 0 : ℕ) = 4 * (7 - t.val) + (y 0).val ∧ ((((cfg0.win 9).blk t).view.emb y) 1 : ℕ) = (y 1).val ∧ ((((cfg0.win 9).blk t).view.emb y) 2 : ℕ) = (y 2).val ∧ ((((cfg0.win 9).blk t).view.emb y) 3 : ℕ) = (y 3).val := by
  refine ⟨?_, ?_, ?_, ?_⟩
  · refine (Pipeline.Window.rect_emb_val (cfg0.win 9) t y 0).trans ?_
    rw [(ind9 t).1]; show (7 - t.val) * 4 + _ = _; omega
  · refine (Pipeline.Window.rect_emb_val (cfg0.win 9) t y 1).trans ?_
    rw [(ind9 t).2.1]; show 0 * 4 + _ = _; omega
  · refine (Pipeline.Window.rect_emb_val (cfg0.win 9) t y 2).trans ?_
    rw [(ind9 t).2.2.1]; show 0 * 256 + _ = _; omega
  · refine (Pipeline.Window.rect_emb_val (cfg0.win 9) t y 3).trans ?_
    rw [(ind9 t).2.2.2]; show 0 * 128 + _ = _; omega
theorem emb10 (t : Fin cfg0.N) (y : ((cfg0.win 10).xblock (cfg0.grid.coords t)).Idx) :
    ((((cfg0.win 10).blk t).view.emb y) 0 : ℕ) = 4 * (7 - t.val) - 1 + (y 0).val ∧ ((((cfg0.win 10).blk t).view.emb y) 1 : ℕ) = (y 1).val ∧ ((((cfg0.win 10).blk t).view.emb y) 2 : ℕ) = (y 2).val ∧ ((((cfg0.win 10).blk t).view.emb y) 3 : ℕ) = (y 3).val := by
  refine ⟨?_, ?_, ?_, ?_⟩
  · refine (Pipeline.Window.rect_emb_val (cfg0.win 10) t y 0).trans ?_
    rw [(ind10 t).1]; show (4 * (7 - t.val) - 1) * 1 + _ = _; omega
  · refine (Pipeline.Window.rect_emb_val (cfg0.win 10) t y 1).trans ?_
    rw [(ind10 t).2.1]; show 0 * 4 + _ = _; omega
  · refine (Pipeline.Window.rect_emb_val (cfg0.win 10) t y 2).trans ?_
    rw [(ind10 t).2.2.1]; show 0 * 256 + _ = _; omega
  · refine (Pipeline.Window.rect_emb_val (cfg0.win 10) t y 3).trans ?_
    rw [(ind10 t).2.2.2]; show 0 * 128 + _ = _; omega

variable {N : Net} (m : (ℓ : Loc nD τ sig) → Buf (Elt Ideal) ℓ) (c : Dev nD) (h : At N fun b => m (c, b))
include h

theorem x0 (t : Fin cfg0.N) : iblk m c 0 t = R2 (a := 256) (b := 1024) (N.blk (7 - t.val)).DY := by
  have hV : V m c (Pipeline.arrRef spec0 0) = R2 (a := 2048) (b := 2048) N.DY := (V_eq m c _).trans (w11_arg4 h)
  funext x; idx_vars x
  unfold iblk
  generalize V m c (Pipeline.arrRef spec0 0) = A at hV ⊢
  subst hV
  have e := emb0 t (ix2 x0 x1)
  refine Eq.trans (congrArg₂ (fun i j => (((N.DY : ℕ → ℕ → ℝ) i j : ℝ) : EReal)) e.1 e.2) ?_
  show (((N.DY : ℕ → ℕ → ℝ) (256 * (7 - t.val) + x0.val) (x1.val) : ℝ) : EReal) = _
  rfl
theorem x1 (t : Fin cfg0.N) : iblk m c 1 t = R2 (a := 256) (b := 1024) (N.blk (7 - t.val)).O := by
  have hV : V m c (Pipeline.arrRef spec0 1) = R2 (a := 2048) (b := 1024) (fun i j => N.o i (j / 256) (j % 256)) := (V_eq m c _).trans (w11_51 h)
  funext x; idx_vars x
  unfold iblk
  generalize V m c (Pipeline.arrRef spec0 1) = A at hV ⊢
  subst hV
  have e := emb1 t (ix2 x0 x1)
  refine Eq.trans (congrArg₂ (fun i j => ((((fun i j => N.o i (j / 256) (j % 256)) : ℕ → ℕ → ℝ) i j : ℝ) : EReal)) e.1 e.2) ?_
  show ((((fun i j => N.o i (j / 256) (j % 256)) : ℕ → ℕ → ℝ) (256 * (7 - t.val) + x0.val) (x1.val) : ℝ) : EReal) = _
  rfl
theorem x2 (t : Fin cfg0.N) : X0_2 m c t = R2 (a := 256) (b := 512) (N.blk (7 - t.val)).Q := by
  have hV : V m c (Pipeline.arrRef spec0 2) = R2 (a := 2048) (b := 7296) (fun i j => if j < 3072 then N.Z i j else if j < 7168 then N.Z i (j + 16) else if j < 7184 then N.Z i (3072 + (j - 7168)) else 0) := (V_eq m c _).trans (w11_49 h)
  funext x; idx_vars x
  unfold X0_2 Pipeline.Window.fill
  rw [dif_pos (moved0_2 t (ix2 x0 x1))]
  unfold iblk
  generalize V m c (Pipeline.arrRef spec0 2) = A at hV ⊢
  subst hV
  have e := emb2 t (fun a => ⟨(ix2 x0 x1 a).val, ((cfg0.win 2).moved_iff _ _).mp (moved0_2 t (ix2 x0 x1)) a⟩)
  refine Eq.trans (congrArg₂ (fun i j => ((((fun i j => if j < 3072 then N.Z i j else if j < 7168 then N.Z i (j + 16) else if j < 7184 then N.Z i (3072 + (j - 7168)) else 0) : ℕ → ℕ → ℝ) i j : ℝ) : EReal)) e.1 e.2) ?_
  show ((((fun i j => if j < 3072 then N.Z i j else if j < 7168 then N.Z i (j + 16) else if j < 7184 then N.Z i (3072 + (j - 7168)) else 0) : ℕ → ℕ → ℝ) (256 * (7 - t.val) + x0.val) (x1.val) : ℝ) : EReal) = _
  beta_reduce
  rw [if_pos (by have := x1.isLt; omega)]; rfl
theorem x3 (t : Fin cfg0.N) : X0_3 m c t = R2 (a := 256) (b := 512) (N.blk (7 - t.val)).K := by
  have hV : V m c (Pipeline.arrRef spec0 3) = R2 (a := 2048) (b := 7296) (fun i j => if j < 3072 then N.Z i j else if j < 7168 then N.Z i (j + 16) else if j < 7184 then N.Z i (3072 + (j - 7168)) else 0) := (V_eq m c _).trans (w11_49 h)
  funext x; idx_vars x
  unfold X0_3 Pipeline.Window.fill
  rw [dif_pos (moved0_3 t (ix2 x0 x1))]
  unfold iblk
  generalize V m c (Pipeline.arrRef spec0 3) = A at hV ⊢
  subst hV
  have e := emb3 t (fun a => ⟨(ix2 x0 x1 a).val, ((cfg0.win 3).moved_iff _ _).mp (moved0_3 t (ix2 x0 x1)) a⟩)
  refine Eq.trans (congrArg₂ (fun i j => ((((fun i j => if j < 3072 then N.Z i j else if j < 7168 then N.Z i (j + 16) else if j < 7184 then N.Z i (3072 + (j - 7168)) else 0) : ℕ → ℕ → ℝ) i j : ℝ) : EReal)) e.1 e.2) ?_
  show ((((fun i j => if j < 3072 then N.Z i j else if j < 7168 then N.Z i (j + 16) else if j < 7184 then N.Z i (3072 + (j - 7168)) else 0) : ℕ → ℕ → ℝ) (256 * (7 - t.val) + x0.val) (512 + x1.val) : ℝ) : EReal) = _
  beta_reduce
  rw [if_pos (by have := x1.isLt; omega)]; rfl
theorem x4 (t : Fin cfg0.N) : X0_4 m c t = R2 (a := 256) (b := 1024) (N.blk (7 - t.val)).V := by
  have hV : V m c (Pipeline.arrRef spec0 4) = R2 (a := 2048) (b := 7296) (fun i j => if j < 3072 then N.Z i j else if j < 7168 then N.Z i (j + 16) else if j < 7184 then N.Z i (3072 + (j - 7168)) else 0) := (V_eq m c _).trans (w11_49 h)
  funext x; idx_vars x
  unfold X0_4 Pipeline.Window.fill
  rw [dif_pos (moved0_4 t (ix2 x0 x1))]
  unfold iblk
  generalize V m c (Pipeline.arrRef spec0 4) = A at hV ⊢
  subst hV
  have e := emb4 t (fun a => ⟨(ix2 x0 x1 a).val, ((cfg0.win 4).moved_iff _ _).mp (moved0_4 t (ix2 x0 x1)) a⟩)
  refine Eq.trans (congrArg₂ (fun i j => ((((fun i j => if j < 3072 then N.Z i j else if j < 7168 then N.Z i (j + 16) else if j < 7184 then N.Z i (3072 + (j - 7168)) else 0) : ℕ → ℕ → ℝ) i j : ℝ) : EReal)) e.1 e.2) ?_
  show ((((fun i j => if j < 3072 then N.Z i j else if j < 7168 then N.Z i (j + 16) else if j < 7184 then N.Z i (3072 + (j - 7168)) else 0) : ℕ → ℕ → ℝ) (256 * (7 - t.val) + x0.val) (1024 + x1.val) : ℝ) : EReal) = _
  beta_reduce
  rw [if_pos (by have := x1.isLt; omega)]; rfl
theorem x5 (t : Fin cfg0.N) : X0_5 m c t = R2 (a := 256) (b := 1024) (N.blk (7 - t.val)).G := by
  have hV : V m c (Pipeline.arrRef spec0 5) = R2 (a := 2048) (b := 7296) (fun i j => if j < 3072 then N.Z i j else if j < 7168 then N.Z i (j + 16) else if j < 7184 then N.Z i (3072 + (j - 7168)) else 0) := (V_eq m c _).trans (w11_49 h)
  funext x; idx_vars x
  unfold X0_5 Pipeline.Window.fill
  rw [dif_pos (moved0_5 t (ix2 x0 x1))]
  unfold iblk
  generalize V m c (Pipeline.arrRef spec0 5) = A at hV ⊢
  subst hV
  have e := emb5 t (fun a => ⟨(ix2 x0 x1 a).val, ((cfg0.win 5).moved_iff _ _).mp (moved0_5 t (ix2 x0 x1)) a⟩)
  refine Eq.trans (congrArg₂ (fun i j => ((((fun i j => if j < 3072 then N.Z i j else if j < 7168 then N.Z i (j + 16) else if j < 7184 then N.Z i (3072 + (j - 7168)) else 0) : ℕ → ℕ → ℝ) i j : ℝ) : EReal)) e.1 e.2) ?_
  show ((((fun i j => if j < 3072 then N.Z i j else if j < 7168 then N.Z i (j + 16) else if j < 7184 then N.Z i (3072 + (j - 7168)) else 0) : ℕ → ℕ → ℝ) (256 * (7 - t.val) + x0.val) (2048 + x1.val) : ℝ) : EReal) = _
  beta_reduce
  rw [if_pos (by have := x1.isLt; omega)]; rfl
theorem x6 (t : Fin cfg0.N) : iblk m c 6 t = R2 (a := 256) (b := 128) (N.blk (7 - t.val)).GA := by
  have hV : V m c (Pipeline.arrRef spec0 6) = R2 (a := 2048) (b := 7296) (fun i j => if j < 3072 then N.Z i j else if j < 7168 then N.Z i (j + 16) else if j < 7184 then N.Z i (3072 + (j - 7168)) else 0) := (V_eq m c _).trans (w11_49 h)
  funext x; idx_vars x
  unfold iblk
  generalize V m c (Pipeline.arrRef spec0 6) = A at hV ⊢
  subst hV
  have e := emb6 t (ix2 x0 x1)
  refine Eq.trans (congrArg₂ (fun i j => ((((fun i j => if j < 3072 then N.Z i j else if j < 7168 then N.Z i (j + 16) else if j < 7184 then N.Z i (3072 + (j - 7168)) else 0) : ℕ → ℕ → ℝ) i j : ℝ) : EReal)) e.1 e.2) ?_
  show ((((fun i j => if j < 3072 then N.Z i j else if j < 7168 then N.Z i (j + 16) else if j < 7184 then N.Z i (3072 + (j - 7168)) else 0) : ℕ → ℕ → ℝ) (256 * (7 - t.val) + x0.val) (7168 + x1.val) : ℝ) : EReal) = _
  beta_reduce
  rw [if_neg (by omega), if_neg (by omega)]
  show _ = ((if x1.val < 16 then N.Z (256 * (7 - t.val) + x0.val) (3072 + x1.val) else 0 : ℝ) : EReal)
  by_cases hx : x1.val < 16
  · rw [if_pos (by omega), if_pos hx, Nat.add_sub_cancel_left]
  · rw [if_neg (by omega), if_neg hx]
theorem x7 (t : Fin cfg0.N) : iblk m c 7 t = R2 (a := 128) (b := 512) (N.blk (7 - t.val)).WA := by
  have hV : V m c (Pipeline.arrRef spec0 7) = R2 (a := 128) (b := 512) (fun i j => if i < 16 then N.WA i j else 0) := (V_eq m c _).trans (w11_50 h)
  funext x; idx_vars x
  unfold iblk
  generalize V m c (Pipeline.arrRef spec0 7) = A at hV ⊢
  subst hV
  have e := emb7 t (ix2 x0 x1)
  refine Eq.trans (congrArg₂ (fun i j => ((((fun i j => if i < 16 then N.WA i j else 0) : ℕ → ℕ → ℝ) i j : ℝ) : EReal)) e.1 e.2) ?_
  show ((((fun i j => if i < 16 then N.WA i j else 0) : ℕ → ℕ → ℝ) (x0.val) (x1.val) : ℝ) : EReal) = _
  rfl
theorem x8 (t : Fin cfg0.N) : iblk m c 8 t = R2 (a := 1) (b := 1024) (N.blk (7 - t.val)).GN := by
  have hV : V m c (Pipeline.arrRef spec0 8) = R2 (a := 1) (b := 1024) (fun _ j => N.GN j) := (V_eq m c _).trans (w11_52 h)
  funext x; idx_vars x
  unfold iblk
  generalize V m c (Pipeline.arrRef spec0 8) = A at hV ⊢
  subst hV
  have e := emb8 t (ix2 x0 x1)
  refine Eq.trans (congrArg₂ (fun i j => ((((fun _ j => N.GN j) : ℕ → ℕ → ℝ) i j : ℝ) : EReal)) e.1 e.2) ?_
  show ((((fun _ j => N.GN j) : ℕ → ℕ → ℝ) (x0.val) (x1.val) : ℝ) : EReal) = _
  rfl
theorem x11 (t : Fin cfg0.N) : iblk m c 11 t = R2 (a := 256) (b := 512) (N.blk (7 - t.val)).P := by
  have hV : V m c (Pipeline.arrRef spec0 11) = R2 (a := 2048) (b := 512) N.pre := (V_eq m c _).trans (w11_v8 h)
  funext x; idx_vars x
  unfold iblk
  generalize V m c (Pipeline.arrRef spec0 11) = A at hV ⊢
  subst hV
  have e := emb11 t (ix2 x0 x1)
  refine Eq.trans (congrArg₂ (fun i j => (((N.pre : ℕ → ℕ → ℝ) i j : ℝ) : EReal)) e.1 e.2) ?_
  show (((N.pre : ℕ → ℕ → ℝ) (256 * (7 - t.val) + x0.val) (x1.val) : ℝ) : EReal) = _
  rfl
theorem x12 (t : Fin cfg0.N) : iblk m c 12 t = R2 (a := 256) (b := 512) (N.blk (7 - t.val)).C := by
  have hV : V m c (Pipeline.arrRef spec0 12) = R2 (a := 2048) (b := 512) (fun i j => N.L (i / 64) (i % 64) (j / 128) (j % 128)) := (V_eq m c _).trans (w11_54 h)
  funext x; idx_vars x
  unfold iblk
  generalize V m c (Pipeline.arrRef spec0 12) = A at hV ⊢
  subst hV
  have e := emb12 t (ix2 x0 x1)
  refine Eq.trans (congrArg₂ (fun i j => ((((fun i j => N.L (i / 64) (i % 64) (j / 128) (j % 128)) : ℕ → ℕ → ℝ) i j : ℝ) : EReal)) e.1 e.2) ?_
  show ((((fun i j => N.L (i / 64) (i % 64) (j / 128) (j % 128)) : ℕ → ℕ → ℝ) (256 * (7 - t.val) + x0.val) (x1.val) : ℝ) : EReal) = _
  rfl
theorem x9 (t : Fin cfg0.N) : iblk m c 9 t = R4 (a := 4) (b := 4) (c := 256) (d := 128) (N.blk (7 - t.val)).ST := by
  have hV : V m c (Pipeline.arrRef spec0 9) = R4 (a := 32) (b := 4) (c := 256) (d := 128) (fun n a v k => N.S n a k v) := (V_eq m c _).trans (w11_53 h)
  funext x; idx_vars x
  unfold iblk
  generalize V m c (Pipeline.arrRef spec0 9) = A at hV ⊢
  subst hV
  obtain ⟨e0, e1, e2, e3⟩ := emb9 t (ix4 x0 x1 x2 x3)
  show ((N.S ((((cfg0.win 9).blk t).view.emb (ix4 x0 x1 x2 x3) 0).val) ((((cfg0.win 9).blk t).view.emb (ix4 x0 x1 x2 x3) 1).val) ((((cfg0.win 9).blk t).view.emb (ix4 x0 x1 x2 x3) 3).val) ((((cfg0.win 9).blk t).view.emb (ix4 x0 x1 x2 x3) 2).val) : ℝ) : EReal) = _
  rw [e0, e1, e2, e3]
  show ((N.S (4 * (7 - t.val) + x0.val) x1.val x3.val x2.val : ℝ) : EReal) = _
  rfl
theorem x10 (t : Fin cfg0.N) : iblk m c 10 t = R4 (a := 1) (b := 4) (c := 256) (d := 128) (fun _ => (N.blk (7 - t.val)).STP) := by
  have hV : V m c (Pipeline.arrRef spec0 10) = R4 (a := 32) (b := 4) (c := 256) (d := 128) (fun n a v k => N.S n a k v) := (V_eq m c _).trans (w11_53 h)
  funext x; idx_vars x
  unfold iblk
  generalize V m c (Pipeline.arrRef spec0 10) = A at hV ⊢
  subst hV
  obtain ⟨e0, e1, e2, e3⟩ := emb10 t (ix4 x0 x1 x2 x3)
  show ((N.S ((((cfg0.win 10).blk t).view.emb (ix4 x0 x1 x2 x3) 0).val) ((((cfg0.win 10).blk t).view.emb (ix4 x0 x1 x2 x3) 1).val) ((((cfg0.win 10).blk t).view.emb (ix4 x0 x1 x2 x3) 3).val) ((((cfg0.win 10).blk t).view.emb (ix4 x0 x1 x2 x3) 2).val) : ℝ) : EReal) = _
  rw [e0, e1, e2, e3]
  show ((N.S (4 * (7 - t.val) - 1 + x0.val) x1.val x3.val x2.val : ℝ) : EReal) = _
  rw [Fin.val_eq_zero x0]; rfl

end Cert.Mine.Hv

end
-- ==== Proof.Mine.Gen.lean ====
/- The runs' results, over buffers only known equal to real arrays. -/
module

public import proofs.«01_k».proof.Proof.Mine.Outs
public import proofs.«01_k».proof.Proof.Mine.Win

@[expose] public section

set_option maxRecDepth 16384

noncomputable section

namespace Cert.Mine

open Idealize.ShloMosaic Idealize.ShloMosaic.Tactic Cert.KernelIdeal Cert.KernelIdeal.Gen Cert.KernelIdeal.Own

variable (I : Blk) (w18 w19 w20 : ℕ → ℕ → ℝ) (c : Dev nD) (i : grid0.Coords)
variable (a1 : Memref sig .tc .vmem S256x1024 .f32) (h1 : a1.IsWhole)
variable (a2 : Memref sig .tc .vmem S256x1024 .f32) (h2 : a2.IsWhole)
variable (a3 : Memref sig .tc .vmem S256x512 .f32) (h3 : a3.IsWhole)
variable (a4 : Memref sig .tc .vmem S256x512 .f32) (h4 : a4.IsWhole)
variable (a5 : Memref sig .tc .vmem S256x1024 .f32) (h5 : a5.IsWhole)
variable (a6 : Memref sig .tc .vmem S256x1024 .f32) (h6 : a6.IsWhole)
variable (a7 : Memref sig .tc .vmem S256x128 .f32) (h7 : a7.IsWhole)
variable (a8 : Memref sig .tc .vmem S128x512 .f32) (h8 : a8.IsWhole)
variable (a9 : Memref sig .tc .vmem S1x1024 .f32) (h9 : a9.IsWhole)
variable (a10 : Memref sig .tc .vmem S4x4x256x128 .f32) (h10 : a10.IsWhole)
variable (a11 : Memref sig .tc .vmem S1x4x256x128 .f32) (h11 : a11.IsWhole)
variable (a12 : Memref sig .tc .vmem S256x512 .f32) (h12 : a12.IsWhole)
variable (a13 : Memref sig .tc .vmem S256x512 .f32) (h13 : a13.IsWhole)
variable (a14 : Memref sig .tc .vmem S256x512 .bf16) (h14 : a14.IsWhole)
variable (a15 : Memref sig .tc .vmem S256x512 .bf16) (h15 : a15.IsWhole)
variable (a16 : Memref sig .tc .vmem S256x1024 .bf16) (h16 : a16.IsWhole)
variable (a17 : Memref sig .tc .vmem S256x1024 .bf16) (h17 : a17.IsWhole)
variable (a18 : Memref sig .tc .vmem S256x128 .bf16) (h18 : a18.IsWhole)
variable (a19 : Memref sig .tc .vmem S128x512 .f32) (h19 : a19.IsWhole)
variable (a20 : Memref sig .tc .vmem S1x512 .f32) (h20 : a20.IsWhole)
variable (a21 : Memref sig .tc .vmem S1x1024 .f32) (h21 : a21.IsWhole)
variable (a22 : Memref sig .tc .vmem S4x256x128 .f32) (h22 : a22.IsWhole)
variable (x0 : Vec Ideal S256x1024 .f32) (x1 : Vec Ideal S256x1024 .f32) (x2 : Vec Ideal S256x512 .f32) (x3 : Vec Ideal S256x512 .f32) (x4 : Vec Ideal S256x1024 .f32) (x5 : Vec Ideal S256x1024 .f32) (x6 : Vec Ideal S256x128 .f32) (x7 : Vec Ideal S128x512 .f32) (x8 : Vec Ideal S1x1024 .f32) (x9 : Vec Ideal S4x4x256x128 .f32) (x10 : Vec Ideal S1x4x256x128 .f32) (x11 : Vec Ideal S256x512 .f32) (x12 : Vec Ideal S256x512 .f32)
variable (H : Inp I x0 x1 x2 x3 x4 x5 x6 x7 x8 x9 x10 x11 x12)
include H

/-- The first point's run. -/
theorem gA (hc0 : cond0_0 i) (hcar : ∀ h v k, I.CAR h v k = 0) (hi : k0_pay5 (F := Ideal) i = ((I.hp : ℝ) : EReal)) {r}
    (e : r = bodyRunA (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 x0 x1 x2 x3 x4 x5 x6 x7 x8 x9 x10 x11 x12) :
    View.canon r.1 = R2 I.dq ∧ View.canon r.2.1 = R2 I.dk ∧ View.canon r.2.2.1 = R2 (fun i j => I.dvh (j / 256) i (j % 256)) ∧ View.canon r.2.2.2.1 = R2 (fun i j => I.dgg (j / 256) i (j % 256)) ∧ View.canon r.2.2.2.2.1 = R2 I.dga ∧ View.canon r.2.2.2.2.2.1 = R2 (fun i j => 0 + I.dwap i j) ∧ View.canon r.2.2.2.2.2.2.1 = R2 (fun i j => 0 + I.dbp i j) ∧ View.canon r.2.2.2.2.2.2.2.1 = R2 (fun i j => 0 + I.dgp (j / 256) i (j % 256)) ∧ View.canon r.2.2.2.2.2.2.2.2.1 = R3 (fun h v k => I.ncar h 0 v k) := by
  subst e
  obtain ⟨rfl, rfl, rfl, rfl, rfl, rfl, rfl, rfl, rfl, rfl, rfl, rfl, rfl⟩ := H
  exact ⟨WA.b_13 I c i _ _ _ _ _ _ _ _ _ _ _ _ _ _ _ _ _ _ _ _ _ _ _ _ _ _ _ _ _ _ _ _ _ _ _ _ _ _ _ _ _ _ _ _ hc0,
    WA.b_14 I c i _ _ _ _ _ _ _ _ _ _ _ _ _ _ _ _ _ _ _ _ _ _ _ _ _ _ _ _ _ _ _ _ _ _ _ _ _ _ _ _ _ _ _ _ hc0 hcar,
    WA.b_15 I c i _ _ _ _ _ _ _ _ _ _ _ _ _ _ _ _ _ _ _ _ _ _ _ _ _ _ _ _ _ _ _ _ _ _ _ _ _ _ _ _ _ _ _ _ hc0 hcar,
    WA.b_16 I c i _ _ _ _ _ _ _ _ _ _ _ _ _ _ _ _ _ _ _ _ _ _ _ _ _ _ _ _ _ _ _ _ _ _ _ _ _ _ _ _ _ _ _ _ hc0,
    WA.b_17 I c i _ _ _ _ _ _ _ _ _ _ _ _ _ _ _ _ _ _ _ _ _ _ _ _ _ _ _ _ _ _ _ _ _ _ _ _ _ _ _ _ _ _ _ _ hc0 hcar hi,
    WA.b_18 I c i _ _ _ _ _ _ _ _ _ _ _ _ _ _ _ _ _ _ _ _ _ _ _ _ _ _ _ _ _ _ _ _ _ _ _ _ _ _ _ _ _ _ _ _ hc0 hcar hi,
    WA.b_19 I c i _ _ _ _ _ _ _ _ _ _ _ _ _ _ _ _ _ _ _ _ _ _ _ _ _ _ _ _ _ _ _ _ _ _ _ _ _ _ _ _ _ _ _ _ hc0 hcar hi,
    WA.b_20 I c i _ _ _ _ _ _ _ _ _ _ _ _ _ _ _ _ _ _ _ _ _ _ _ _ _ _ _ _ _ _ _ _ _ _ _ _ _ _ _ _ _ _ _ _ hc0,
    WA.b_21 I c i _ _ _ _ _ _ _ _ _ _ _ _ _ _ _ _ _ _ _ _ _ _ _ _ _ _ _ _ _ _ _ _ _ _ _ _ _ _ _ _ _ _ _ _ hc0 hcar⟩

/-- A later point's run. -/
theorem gB (hc0 : ¬cond0_0 i) (hi : k0_pay5 (F := Ideal) i = ((I.hp : ℝ) : EReal)) {r}
    (e : r = bodyRunB (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 x0 x1 x2 x3 x4 x5 x6 x7 x8 x9 x10 x11 x12 (R2 w18) (R2 w19) (R2 w20) (R3 I.CAR)) :
    View.canon r.1 = R2 I.dq ∧ View.canon r.2.1 = R2 I.dk ∧ View.canon r.2.2.1 = R2 (fun i j => I.dvh (j / 256) i (j % 256)) ∧ View.canon r.2.2.2.1 = R2 (fun i j => I.dgg (j / 256) i (j % 256)) ∧ View.canon r.2.2.2.2.1 = R2 I.dga ∧ View.canon r.2.2.2.2.2.1 = R2 (fun i j => w18 i j + I.dwap i j) ∧ View.canon r.2.2.2.2.2.2.1 = R2 (fun i j => w19 i j + I.dbp i j) ∧ View.canon r.2.2.2.2.2.2.2.1 = R2 (fun i j => w20 i (256 * (j / 256) + j % 256) + I.dgp (j / 256) i (j % 256)) ∧ View.canon r.2.2.2.2.2.2.2.2.1 = R3 (fun h v k => I.ncar h 0 v k) := by
  subst e
  obtain ⟨rfl, rfl, rfl, rfl, rfl, rfl, rfl, rfl, rfl, rfl, rfl, rfl, rfl⟩ := H
  exact ⟨WB.b_13 I w18 w19 w20 c i _ _ _ _ _ _ _ _ _ _ _ _ _ _ _ _ _ _ _ _ _ _ _ _ _ _ _ _ _ _ _ _ _ _ _ _ _ _ _ _ _ _ _ _ hc0,
    WB.b_14 I w18 w19 w20 c i _ _ _ _ _ _ _ _ _ _ _ _ _ _ _ _ _ _ _ _ _ _ _ _ _ _ _ _ _ _ _ _ _ _ _ _ _ _ _ _ _ _ _ _ hc0,
    WB.b_15 I w18 w19 w20 c i _ _ _ _ _ _ _ _ _ _ _ _ _ _ _ _ _ _ _ _ _ _ _ _ _ _ _ _ _ _ _ _ _ _ _ _ _ _ _ _ _ _ _ _ hc0,
    WB.b_16 I w18 w19 w20 c i _ _ _ _ _ _ _ _ _ _ _ _ _ _ _ _ _ _ _ _ _ _ _ _ _ _ _ _ _ _ _ _ _ _ _ _ _ _ _ _ _ _ _ _ hc0,
    WB.b_17 I w18 w19 w20 c i _ _ _ _ _ _ _ _ _ _ _ _ _ _ _ _ _ _ _ _ _ _ _ _ _ _ _ _ _ _ _ _ _ _ _ _ _ _ _ _ _ _ _ _ hc0 hi,
    WB.b_18 I w18 w19 w20 c i _ _ _ _ _ _ _ _ _ _ _ _ _ _ _ _ _ _ _ _ _ _ _ _ _ _ _ _ _ _ _ _ _ _ _ _ _ _ _ _ _ _ _ _ hc0 hi,
    WB.b_19 I w18 w19 w20 c i _ _ _ _ _ _ _ _ _ _ _ _ _ _ _ _ _ _ _ _ _ _ _ _ _ _ _ _ _ _ _ _ _ _ _ _ _ _ _ _ _ _ _ _ hc0 hi,
    WB.b_20 I w18 w19 w20 c i _ _ _ _ _ _ _ _ _ _ _ _ _ _ _ _ _ _ _ _ _ _ _ _ _ _ _ _ _ _ _ _ _ _ _ _ _ _ _ _ _ _ _ _ hc0,
    WB.b_21 I w18 w19 w20 c i _ _ _ _ _ _ _ _ _ _ _ _ _ _ _ _ _ _ _ _ _ _ _ _ _ _ _ _ _ _ _ _ _ _ _ _ _ _ _ _ _ _ _ _ hc0⟩

end Cert.Mine

end
-- ==== Proof.Mine.Points.lean ====
/- What each point leaves in the outputs' buffers and in the carry, in the real numbers. -/
module

public import proofs.«01_k».proof.Proof.Mine.Gen
public import proofs.«01_k».proof.Proof.Mine.Win

@[expose] public section

set_option maxRecDepth 16384

noncomputable section

namespace Cert.Mine.Hv

open Idealize.ShloMosaic Idealize.ShloMosaic.Tactic Cert.KernelIdeal Cert.KernelIdeal.Gen Cert.KernelIdeal.Own

theorem coord0 : ∀ t : Fin cfg0.N, (grid0.coords t 0).val = t.val := by decide +kernel

theorem N8 (t : Fin cfg0.N) : t.val < 8 := t.isLt.trans_le (by decide)

/-- The factor that keeps the first chunk's state out of the last point. -/
theorem hp_eq (N : Net) (t : Fin cfg0.N) : k0_pay5 (F := Ideal) (grid0.coords t) = (((N.blk (7 - t.val)).hp : ℝ) : EReal) := by
  rw [p5, coord0]
  have e : (N.blk (7 - t.val)).hp = if 0 < 7 - t.val then 1 else 0 := rfl
  rw [e]
  by_cases ht : t.val < 7
  · rw [if_pos ht, if_pos (by omega)]
  · rw [if_neg ht, if_neg (by omega)]

theorem car0 (N : Net) (t : Fin cfg0.N) (h0 : t.val % 8 = 0) (h v k : ℕ) : (N.blk (7 - t.val)).CAR h v k = 0 := by
  have := N8 t
  have e : 7 - t.val = 7 := by omega
  rw [e]
  show N.Gs 32 h k v * _ = 0
  rw [N.Gs_last, zero_mul]

variable {N : Net} (m : (ℓ : Loc nD τ sig) → Buf (Elt Ideal) ℓ) (c : Dev nD) (h : At N fun b => m (c, b))
include h

/-- The point's blocks are the real block's arrays. -/
theorem inp (t : Fin cfg0.N) : Inp (N.blk (7 - t.val)) (iblk m c 0 t) (iblk m c 1 t) (X0_2 m c t) (X0_3 m c t) (X0_4 m c t) (X0_5 m c t) (iblk m c 6 t) (iblk m c 7 t) (iblk m c 8 t) (iblk m c 9 t) (iblk m c 10 t) (iblk m c 11 t) (iblk m c 12 t) :=
  ⟨x0 m c h t, x1 m c h t, x2 m c h t, x3 m c h t, x4 m c h t, x5 m c h t, x6 m c h t, x7 m c h t, x8 m c h t, x9 m c h t, x10 m c h t, x11 m c h t, x12 m c h t⟩

theorem oA (t : Fin cfg0.N) (h0 : t.val % 8 = 0) :
    outA_13 m c t h0 = R2 (N.blk (7 - t.val)).dq
    ∧ outA_14 m c t h0 = R2 (N.blk (7 - t.val)).dk
    ∧ outA_15 m c t h0 = R2 (fun i j => (N.blk (7 - t.val)).dvh (j / 256) i (j % 256))
    ∧ outA_16 m c t h0 = R2 (fun i j => (N.blk (7 - t.val)).dgg (j / 256) i (j % 256))
    ∧ outA_17 m c t h0 = R2 (N.blk (7 - t.val)).dga
    ∧ outA_18 m c t h0 = R2 (fun i j => 0 + (N.blk (7 - t.val)).dwap i j)
    ∧ outA_19 m c t h0 = R2 (fun i j => 0 + (N.blk (7 - t.val)).dbp i j)
    ∧ outA_20 m c t h0 = R2 (fun i j => 0 + (N.blk (7 - t.val)).dgp (j / 256) i (j % 256))
    ∧ soutA_0 m c t h0 = R3 (fun h v k => (N.blk (7 - t.val)).ncar h 0 v k) := by
  obtain ⟨e13, e14, e15, e16, e17, e18, e19, e20, e21⟩ := gA (N.blk (7 - t.val)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (iblk m c 0 t) (iblk m c 1 t) (X0_2 m c t) (X0_3 m c t) (X0_4 m c t) (X0_5 m c t) (iblk m c 6 t) (iblk m c 7 t) (iblk m c 8 t) (iblk m c 9 t) (iblk m c 10 t) (iblk m c 11 t) (iblk m c 12 t) (inp m c h t) ((hcond0_0 t).mpr h0) (car0 N t h0) (hp_eq N t) rfl
  unfold outA_13 outA_14 outA_15 outA_16 outA_17 outA_18 outA_19 outA_20 soutA_0
  exact ⟨(View.read_writes_junk_eq_canon _ _).trans e13, (View.read_writes_junk_eq_canon _ _).trans e14, (View.read_writes_junk_eq_canon _ _).trans e15, (View.read_writes_junk_eq_canon _ _).trans e16, (View.read_writes_junk_eq_canon _ _).trans e17, (View.read_writes_junk_eq_canon _ _).trans e18, (View.read_writes_junk_eq_canon _ _).trans e19, (View.read_writes_junk_eq_canon _ _).trans e20, (View.read_writes_junk_eq_canon _ _).trans e21⟩

theorem oB (t : Fin cfg0.N) (h0 : ¬t.val % 8 = 0) (w18 w19 w20 : ℕ → ℕ → ℝ) :
    outB_13 m c t h0 (R2 w18) (R2 w19) (R2 w20) (R3 (N.blk (7 - t.val)).CAR) = R2 (N.blk (7 - t.val)).dq
    ∧ outB_14 m c t h0 (R2 w18) (R2 w19) (R2 w20) (R3 (N.blk (7 - t.val)).CAR) = R2 (N.blk (7 - t.val)).dk
    ∧ outB_15 m c t h0 (R2 w18) (R2 w19) (R2 w20) (R3 (N.blk (7 - t.val)).CAR) = R2 (fun i j => (N.blk (7 - t.val)).dvh (j / 256) i (j % 256))
    ∧ outB_16 m c t h0 (R2 w18) (R2 w19) (R2 w20) (R3 (N.blk (7 - t.val)).CAR) = R2 (fun i j => (N.blk (7 - t.val)).dgg (j / 256) i (j % 256))
    ∧ outB_17 m c t h0 (R2 w18) (R2 w19) (R2 w20) (R3 (N.blk (7 - t.val)).CAR) = R2 (N.blk (7 - t.val)).dga
    ∧ outB_18 m c t h0 (R2 w18) (R2 w19) (R2 w20) (R3 (N.blk (7 - t.val)).CAR) = R2 (fun i j => w18 i j + (N.blk (7 - t.val)).dwap i j)
    ∧ outB_19 m c t h0 (R2 w18) (R2 w19) (R2 w20) (R3 (N.blk (7 - t.val)).CAR) = R2 (fun i j => w19 i j + (N.blk (7 - t.val)).dbp i j)
    ∧ outB_20 m c t h0 (R2 w18) (R2 w19) (R2 w20) (R3 (N.blk (7 - t.val)).CAR) = R2 (fun i j => w20 i (256 * (j / 256) + j % 256) + (N.blk (7 - t.val)).dgp (j / 256) i (j % 256))
    ∧ soutB_0 m c t h0 (R2 w18) (R2 w19) (R2 w20) (R3 (N.blk (7 - t.val)).CAR) = R3 (fun h v k => (N.blk (7 - t.val)).ncar h 0 v k) := by
  obtain ⟨e13, e14, e15, e16, e17, e18, e19, e20, e21⟩ := gB (N.blk (7 - t.val)) w18 w19 w20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (iblk m c 0 t) (iblk m c 1 t) (X0_2 m c t) (X0_3 m c t) (X0_4 m c t) (X0_5 m c t) (iblk m c 6 t) (iblk m c 7 t) (iblk m c 8 t) (iblk m c 9 t) (iblk m c 10 t) (iblk m c 11 t) (iblk m c 12 t) (inp m c h t) (fun h => h0 ((hcond0_0 t).mp h)) (hp_eq N t) rfl
  unfold outB_13 outB_14 outB_15 outB_16 outB_17 outB_18 outB_19 outB_20 soutB_0
  exact ⟨(View.read_writes_junk_eq_canon _ _).trans e13, (View.read_writes_junk_eq_canon _ _).trans e14, (View.read_writes_junk_eq_canon _ _).trans e15, (View.read_writes_junk_eq_canon _ _).trans e16, (View.read_writes_junk_eq_canon _ _).trans e17, (View.read_writes_junk_eq_canon _ _).trans e18, (View.read_writes_junk_eq_canon _ _).trans e19, (View.read_writes_junk_eq_canon _ _).trans e20, (View.read_writes_junk_eq_canon _ _).trans e21⟩

end Cert.Mine.Hv

end
-- ==== Proof.Mine.Final.lean ====
/- The point by point run of the real gradient, and the arrays the call leaves. -/
module

public import proofs.«01_k».proof.Proof.Mine.Points

@[expose] public section

set_option maxRecDepth 16384

noncomputable section

namespace Cert.Mine.Hv

open Idealize.ShloMosaic Idealize.ShloMosaic.Tactic Cert.KernelIdeal Cert.KernelIdeal.Gen Cert.KernelIdeal.Own Cert.Mine.Net

/-- What the outputs' buffers and the carry hold after point `t`. -/
structure St (N : Net) (t : Fin cfg0.N) (o : Vec Ideal S256x512 .bf16 × Vec Ideal S256x512 .bf16 × Vec Ideal S256x1024 .bf16 × Vec Ideal S256x1024 .bf16 × Vec Ideal S256x128 .bf16 × Vec Ideal S128x512 .f32 × Vec Ideal S1x512 .f32 × Vec Ideal S1x1024 .f32 × Vec Ideal S4x256x128 .f32) : Prop where
  c13 : o.1 = R2 (N.blk (7 - t.val)).dq
  c14 : o.2.1 = R2 (N.blk (7 - t.val)).dk
  c15 : o.2.2.1 = R2 (fun i j => (N.blk (7 - t.val)).dvh (j / 256) i (j % 256))
  c16 : o.2.2.2.1 = R2 (fun i j => (N.blk (7 - t.val)).dgg (j / 256) i (j % 256))
  c17 : o.2.2.2.2.1 = R2 (N.blk (7 - t.val)).dga
  c18 : o.2.2.2.2.2.1 = R2 (fun i j => acc (fun b => (N.blk b).dwap i j) t.val)
  c19 : o.2.2.2.2.2.2.1 = R2 (fun i j => acc (fun b => (N.blk b).dbp i j) t.val)
  c20 : o.2.2.2.2.2.2.2.1 = R2 (fun i j => acc (fun b => (N.blk b).dgp (j / 256) i (j % 256)) t.val)
  c21 : o.2.2.2.2.2.2.2.2 = R3 (fun h v k => (N.blk (7 - t.val)).ncar h 0 v k)

theorem St.of (N : Net) (t : Fin cfg0.N) {o13 : Vec Ideal S256x512 .bf16} {o14 : Vec Ideal S256x512 .bf16} {o15 : Vec Ideal S256x1024 .bf16} {o16 : Vec Ideal S256x1024 .bf16} {o17 : Vec Ideal S256x128 .bf16} {o18 : Vec Ideal S128x512 .f32} {o19 : Vec Ideal S1x512 .f32} {o20 : Vec Ideal S1x1024 .f32} {o21 : Vec Ideal S4x256x128 .f32}
    (h13 : o13 = R2 (N.blk (7 - t.val)).dq) (h14 : o14 = R2 (N.blk (7 - t.val)).dk) (h15 : o15 = R2 (fun i j => (N.blk (7 - t.val)).dvh (j / 256) i (j % 256))) (h16 : o16 = R2 (fun i j => (N.blk (7 - t.val)).dgg (j / 256) i (j % 256))) (h17 : o17 = R2 (N.blk (7 - t.val)).dga) (h18 : o18 = R2 (fun i j => acc (fun b => (N.blk b).dwap i j) t.val)) (h19 : o19 = R2 (fun i j => acc (fun b => (N.blk b).dbp i j) t.val)) (h20 : o20 = R2 (fun i j => acc (fun b => (N.blk b).dgp (j / 256) i (j % 256)) t.val)) (h21 : o21 = R3 (fun h v k => (N.blk (7 - t.val)).ncar h 0 v k)) :
    St N t (o13, o14, o15, o16, o17, o18, o19, o20, o21) := ⟨h13, h14, h15, h16, h17, h18, h19, h20, h21⟩

/-- The carry a point leaves is the one the next takes. -/
theorem car_step (N : Net) (t : Fin cfg0.N) (h0 : ¬t.val % 8 = 0) :
    (R3 (fun h v k => (N.blk (7 - (t.val - 1))).ncar h 0 v k) : Vec Ideal S4x256x128 .f32) = R3 (a := 4) (b := 256) (c := 128) (N.blk (7 - t.val)).CAR := by
  have ht := N8 t
  have e : 7 - (t.val - 1) = (7 - t.val) + 1 := by omega
  funext x; idx_vars x
  show (((N.blk (7 - (t.val - 1))).ncar x0.val 0 x1.val x2.val : ℝ) : EReal) = _
  rw [e, N.ncar_eq (b := (7 - t.val) + 1) (by omega) x0.val 0 x2.isLt x1.isLt]
  rfl

variable {N : Net} (m : (ℓ : Loc nD τ sig) → Buf (Elt Ideal) ℓ) (c : Dev nD) (h : At N fun b => m (c, b))
include h

theorem stA (t : Fin cfg0.N) (h0 : t.val % 8 = 0) : St N t (outsAt0 m c t.val t.isLt) := by
  have ht := N8 t
  have e : t.val = 0 := by omega
  rw [outsAt0_A m c t h0]
  refine St.of N t (oA m c h t h0).1 (oA m c h t h0).2.1 (oA m c h t h0).2.2.1 (oA m c h t h0).2.2.2.1 (oA m c h t h0).2.2.2.2.1 ((oA m c h t h0).2.2.2.2.2.1.trans ?_) ((oA m c h t h0).2.2.2.2.2.2.1.trans ?_) ((oA m c h t h0).2.2.2.2.2.2.2.1.trans ?_) (oA m c h t h0).2.2.2.2.2.2.2.2 <;> rw [e] <;> rfl

theorem stB (t : Fin cfg0.N) (h0 : ¬t.val % 8 = 0)
    (ih : St N ⟨t.val - 1, Nat.lt_of_le_of_lt (Nat.sub_le _ _) t.isLt⟩ (outsAt0 m c (t.val - 1) (Nat.lt_of_le_of_lt (Nat.sub_le _ _) t.isLt))) :
    St N t (outsAt0 m c t.val t.isLt) := by
  have e : t.val = (t.val - 1) + 1 := by omega
  have e21 := ih.c21.trans (car_step N t h0)
  refine (outsAt0_B m c t h0).symm ▸ St.of N t ((congr4 (outB_13 m c t h0) ih.c18 ih.c19 ih.c20 e21).trans (oB m c h t h0 _ _ _).1) ((congr4 (outB_14 m c t h0) ih.c18 ih.c19 ih.c20 e21).trans (oB m c h t h0 _ _ _).2.1) ((congr4 (outB_15 m c t h0) ih.c18 ih.c19 ih.c20 e21).trans (oB m c h t h0 _ _ _).2.2.1) ((congr4 (outB_16 m c t h0) ih.c18 ih.c19 ih.c20 e21).trans (oB m c h t h0 _ _ _).2.2.2.1) ((congr4 (outB_17 m c t h0) ih.c18 ih.c19 ih.c20 e21).trans (oB m c h t h0 _ _ _).2.2.2.2.1) ((congr4 (outB_18 m c t h0) ih.c18 ih.c19 ih.c20 e21).trans ((oB m c h t h0 _ _ _).2.2.2.2.2.1.trans ?_)) ((congr4 (outB_19 m c t h0) ih.c18 ih.c19 ih.c20 e21).trans ((oB m c h t h0 _ _ _).2.2.2.2.2.2.1.trans ?_)) ((congr4 (outB_20 m c t h0) ih.c18 ih.c19 ih.c20 e21).trans ((oB m c h t h0 _ _ _).2.2.2.2.2.2.2.1.trans ?_)) ((congr4 (soutB_0 m c t h0) ih.c18 ih.c19 ih.c20 e21).trans (oB m c h t h0 _ _ _).2.2.2.2.2.2.2.2)
  · refine congrArg R2 (funext fun i => funext fun j => ?_)
    show acc _ (t.val - 1) + _ = _
    skip
    conv_rhs => rw [e]
    show _ = acc _ (t.val - 1) + (N.blk (7 - ((t.val - 1) + 1))).dwap i j
    rw [← e]
  · refine congrArg R2 (funext fun i => funext fun j => ?_)
    show acc _ (t.val - 1) + _ = _
    skip
    conv_rhs => rw [e]
    show _ = acc _ (t.val - 1) + (N.blk (7 - ((t.val - 1) + 1))).dbp i j
    rw [← e]
  · refine congrArg R2 (funext fun i => funext fun j => ?_)
    show acc (fun b => (N.blk b).dgp ((256 * (j / 256) + j % 256) / 256) i ((256 * (j / 256) + j % 256) % 256)) (t.val - 1) + _ = _
    rw [Nat.div_add_mod j 256]
    conv_rhs => rw [e]
    show _ = acc _ (t.val - 1) + (N.blk (7 - ((t.val - 1) + 1))).dgp (j / 256) i (j % 256)
    rw [← e]

theorem st : ∀ (n : ℕ) (hn : n < cfg0.N), St N ⟨n, hn⟩ (outsAt0 m c n hn)
  | 0, hn => stA m c h ⟨0, hn⟩ rfl
  | n + 1, hn => stB m c h ⟨n + 1, hn⟩ (by have : n + 1 < 8 := hn.trans_le (by decide); show ¬(n + 1) % 8 = 0; omega) (st n (Nat.lt_of_succ_lt hn))

omit h
theorem ind13 : ∀ t : Fin cfg0.N, (cfg0.win 13).index t 0 = 7 - t.val ∧ (cfg0.win 13).index t 1 = 0 := by decide +kernel
theorem emb13 (t : Fin cfg0.N) (y : ((cfg0.win 13).xblock (cfg0.grid.coords t)).Idx) : ((((cfg0.win 13).blk t).view.emb y) 0 : ℕ) = 256 * (7 - t.val) + (y 0).val ∧ ((((cfg0.win 13).blk t).view.emb y) 1 : ℕ) = (y 1).val := by
  constructor
  · refine (Pipeline.Window.rect_emb_val (cfg0.win 13) t y 0).trans ?_
    rw [(ind13 t).1]; show (7 - t.val) * 256 + _ = _; omega
  · refine (Pipeline.Window.rect_emb_val (cfg0.win 13) t y 1).trans ?_
    rw [(ind13 t).2]; show 0 * 512 + _ = _; omega
theorem ind14 : ∀ t : Fin cfg0.N, (cfg0.win 14).index t 0 = 7 - t.val ∧ (cfg0.win 14).index t 1 = 0 := by decide +kernel
theorem emb14 (t : Fin cfg0.N) (y : ((cfg0.win 14).xblock (cfg0.grid.coords t)).Idx) : ((((cfg0.win 14).blk t).view.emb y) 0 : ℕ) = 256 * (7 - t.val) + (y 0).val ∧ ((((cfg0.win 14).blk t).view.emb y) 1 : ℕ) = (y 1).val := by
  constructor
  · refine (Pipeline.Window.rect_emb_val (cfg0.win 14) t y 0).trans ?_
    rw [(ind14 t).1]; show (7 - t.val) * 256 + _ = _; omega
  · refine (Pipeline.Window.rect_emb_val (cfg0.win 14) t y 1).trans ?_
    rw [(ind14 t).2]; show 0 * 512 + _ = _; omega
theorem ind15 : ∀ t : Fin cfg0.N, (cfg0.win 15).index t 0 = 7 - t.val ∧ (cfg0.win 15).index t 1 = 0 := by decide +kernel
theorem emb15 (t : Fin cfg0.N) (y : ((cfg0.win 15).xblock (cfg0.grid.coords t)).Idx) : ((((cfg0.win 15).blk t).view.emb y) 0 : ℕ) = 256 * (7 - t.val) + (y 0).val ∧ ((((cfg0.win 15).blk t).view.emb y) 1 : ℕ) = (y 1).val := by
  constructor
  · refine (Pipeline.Window.rect_emb_val (cfg0.win 15) t y 0).trans ?_
    rw [(ind15 t).1]; show (7 - t.val) * 256 + _ = _; omega
  · refine (Pipeline.Window.rect_emb_val (cfg0.win 15) t y 1).trans ?_
    rw [(ind15 t).2]; show 0 * 1024 + _ = _; omega
theorem ind16 : ∀ t : Fin cfg0.N, (cfg0.win 16).index t 0 = 7 - t.val ∧ (cfg0.win 16).index t 1 = 0 := by decide +kernel
theorem emb16 (t : Fin cfg0.N) (y : ((cfg0.win 16).xblock (cfg0.grid.coords t)).Idx) : ((((cfg0.win 16).blk t).view.emb y) 0 : ℕ) = 256 * (7 - t.val) + (y 0).val ∧ ((((cfg0.win 16).blk t).view.emb y) 1 : ℕ) = (y 1).val := by
  constructor
  · refine (Pipeline.Window.rect_emb_val (cfg0.win 16) t y 0).trans ?_
    rw [(ind16 t).1]; show (7 - t.val) * 256 + _ = _; omega
  · refine (Pipeline.Window.rect_emb_val (cfg0.win 16) t y 1).trans ?_
    rw [(ind16 t).2]; show 0 * 1024 + _ = _; omega
theorem ind17 : ∀ t : Fin cfg0.N, (cfg0.win 17).index t 0 = 7 - t.val ∧ (cfg0.win 17).index t 1 = 0 := by decide +kernel
theorem emb17 (t : Fin cfg0.N) (y : ((cfg0.win 17).xblock (cfg0.grid.coords t)).Idx) : ((((cfg0.win 17).blk t).view.emb y) 0 : ℕ) = 256 * (7 - t.val) + (y 0).val ∧ ((((cfg0.win 17).blk t).view.emb y) 1 : ℕ) = (y 1).val := by
  constructor
  · refine (Pipeline.Window.rect_emb_val (cfg0.win 17) t y 0).trans ?_
    rw [(ind17 t).1]; show (7 - t.val) * 256 + _ = _; omega
  · refine (Pipeline.Window.rect_emb_val (cfg0.win 17) t y 1).trans ?_
    rw [(ind17 t).2]; show 0 * 128 + _ = _; omega
theorem ind18 : ∀ t : Fin cfg0.N, (cfg0.win 18).index t 0 = 0 ∧ (cfg0.win 18).index t 1 = 0 := by decide +kernel
theorem emb18 (t : Fin cfg0.N) (y : ((cfg0.win 18).xblock (cfg0.grid.coords t)).Idx) : ((((cfg0.win 18).blk t).view.emb y) 0 : ℕ) = (y 0).val ∧ ((((cfg0.win 18).blk t).view.emb y) 1 : ℕ) = (y 1).val := by
  constructor
  · refine (Pipeline.Window.rect_emb_val (cfg0.win 18) t y 0).trans ?_
    rw [(ind18 t).1]; show (0) * 128 + _ = _; omega
  · refine (Pipeline.Window.rect_emb_val (cfg0.win 18) t y 1).trans ?_
    rw [(ind18 t).2]; show 0 * 512 + _ = _; omega
theorem ind19 : ∀ t : Fin cfg0.N, (cfg0.win 19).index t 0 = 0 ∧ (cfg0.win 19).index t 1 = 0 := by decide +kernel
theorem emb19 (t : Fin cfg0.N) (y : ((cfg0.win 19).xblock (cfg0.grid.coords t)).Idx) : ((((cfg0.win 19).blk t).view.emb y) 0 : ℕ) = (y 0).val ∧ ((((cfg0.win 19).blk t).view.emb y) 1 : ℕ) = (y 1).val := by
  constructor
  · refine (Pipeline.Window.rect_emb_val (cfg0.win 19) t y 0).trans ?_
    rw [(ind19 t).1]; show (0) * 1 + _ = _; omega
  · refine (Pipeline.Window.rect_emb_val (cfg0.win 19) t y 1).trans ?_
    rw [(ind19 t).2]; show 0 * 512 + _ = _; omega
theorem ind20 : ∀ t : Fin cfg0.N, (cfg0.win 20).index t 0 = 0 ∧ (cfg0.win 20).index t 1 = 0 := by decide +kernel
theorem emb20 (t : Fin cfg0.N) (y : ((cfg0.win 20).xblock (cfg0.grid.coords t)).Idx) : ((((cfg0.win 20).blk t).view.emb y) 0 : ℕ) = (y 0).val ∧ ((((cfg0.win 20).blk t).view.emb y) 1 : ℕ) = (y 1).val := by
  constructor
  · refine (Pipeline.Window.rect_emb_val (cfg0.win 20) t y 0).trans ?_
    rw [(ind20 t).1]; show (0) * 1 + _ = _; omega
  · refine (Pipeline.Window.rect_emb_val (cfg0.win 20) t y 1).trans ?_
    rw [(ind20 t).2]; show 0 * 1024 + _ = _; omega

theorem last_flush : ∀ t : Fin cfg0.N, ((cfg0.win 18).flush t = true → t.val = 7) ∧ ((cfg0.win 19).flush t = true → t.val = 7) ∧ ((cfg0.win 20).flush t = true → t.val = 7) := by decide +kernel

include h
theorem arr13 : (dats m 0 c).arrAt 13 cfg0.N = R2 (a := 2048) (b := 512) (fun i j => N.dq (i / 64) (i % 64) (j / 128) (j % 128)) := by
  refine (dats m 0 c).arrAt_eq_of_covers 13 _ (by decide +kernel) fun t hf y => ?_
  rw [after0_13, (st m c h t.val t.isLt).c13]
  have hN := N8 t
  have hr : (y 0).val < 256 := ((cfg0.win 13).xinj (cfg0.grid.coords t) y 0).isLt
  have e := emb13 t y
  skip
  refine Eq.trans ?_ (congrArg₂ (fun i j => ((((fun i j => N.dq (i / 64) (i % 64) (j / 128) (j % 128)) : ℕ → ℕ → ℝ) i j : ℝ) : EReal)) e.1.symm e.2.symm)
  show ((((N.blk (7 - t.val)).dq : ℕ → ℕ → ℝ) (y 0).val (y 1).val : ℝ) : EReal) = ((((fun i j => N.dq (i / 64) (i % 64) (j / 128) (j % 128)) : ℕ → ℕ → ℝ) (256 * (7 - t.val) + (y 0).val) (y 1).val : ℝ) : EReal)
  beta_reduce
  skip
  exact congrArg _ (N.dq_eq (b := 7 - t.val) (by omega) hr)

theorem arr14 : (dats m 0 c).arrAt 14 cfg0.N = R2 (a := 2048) (b := 512) (fun i j => N.dk (i / 64) (i % 64) (j / 128) (j % 128)) := by
  refine (dats m 0 c).arrAt_eq_of_covers 14 _ (by decide +kernel) fun t hf y => ?_
  rw [after0_14, (st m c h t.val t.isLt).c14]
  have hN := N8 t
  have hr : (y 0).val < 256 := ((cfg0.win 14).xinj (cfg0.grid.coords t) y 0).isLt
  have e := emb14 t y
  skip
  refine Eq.trans ?_ (congrArg₂ (fun i j => ((((fun i j => N.dk (i / 64) (i % 64) (j / 128) (j % 128)) : ℕ → ℕ → ℝ) i j : ℝ) : EReal)) e.1.symm e.2.symm)
  show ((((N.blk (7 - t.val)).dk : ℕ → ℕ → ℝ) (y 0).val (y 1).val : ℝ) : EReal) = ((((fun i j => N.dk (i / 64) (i % 64) (j / 128) (j % 128)) : ℕ → ℕ → ℝ) (256 * (7 - t.val) + (y 0).val) (y 1).val : ℝ) : EReal)
  beta_reduce
  skip
  exact congrArg _ (N.dk_eq (b := 7 - t.val) (by omega) hr)

theorem arr15 : (dats m 0 c).arrAt 15 cfg0.N = R2 (a := 2048) (b := 1024) (fun i j => N.dv (i / 64) (i % 64) (j / 256) (j % 256)) := by
  refine (dats m 0 c).arrAt_eq_of_covers 15 _ (by decide +kernel) fun t hf y => ?_
  rw [after0_15, (st m c h t.val t.isLt).c15]
  have hN := N8 t
  have hr : (y 0).val < 256 := ((cfg0.win 15).xinj (cfg0.grid.coords t) y 0).isLt
  have e := emb15 t y
  skip
  refine Eq.trans ?_ (congrArg₂ (fun i j => ((((fun i j => N.dv (i / 64) (i % 64) (j / 256) (j % 256)) : ℕ → ℕ → ℝ) i j : ℝ) : EReal)) e.1.symm e.2.symm)
  show ((((fun i j => (N.blk (7 - t.val)).dvh (j / 256) i (j % 256)) : ℕ → ℕ → ℝ) (y 0).val (y 1).val : ℝ) : EReal) = ((((fun i j => N.dv (i / 64) (i % 64) (j / 256) (j % 256)) : ℕ → ℕ → ℝ) (256 * (7 - t.val) + (y 0).val) (y 1).val : ℝ) : EReal)
  beta_reduce
  skip
  exact congrArg _ (N.dv_eq (b := 7 - t.val) (by omega) hr)

theorem arr16 : (dats m 0 c).arrAt 16 cfg0.N = R2 (a := 2048) (b := 1024) N.dgg := by
  refine (dats m 0 c).arrAt_eq_of_covers 16 _ (by decide +kernel) fun t hf y => ?_
  rw [after0_16, (st m c h t.val t.isLt).c16]
  have hN := N8 t
  have hr : (y 0).val < 256 := ((cfg0.win 16).xinj (cfg0.grid.coords t) y 0).isLt
  have e := emb16 t y
  skip
  refine Eq.trans ?_ (congrArg₂ (fun i j => (((N.dgg : ℕ → ℕ → ℝ) i j : ℝ) : EReal)) e.1.symm e.2.symm)
  show ((((fun i j => (N.blk (7 - t.val)).dgg (j / 256) i (j % 256)) : ℕ → ℕ → ℝ) (y 0).val (y 1).val : ℝ) : EReal) = (((N.dgg : ℕ → ℕ → ℝ) (256 * (7 - t.val) + (y 0).val) (y 1).val : ℝ) : EReal)
  beta_reduce
  skip
  exact congrArg _ (N.dgg_eq _ _)

theorem arr17 : (dats m 0 c).arrAt 17 cfg0.N = R2 (a := 2048) (b := 128) N.dga := by
  refine (dats m 0 c).arrAt_eq_of_covers 17 _ (by decide +kernel) fun t hf y => ?_
  rw [after0_17, (st m c h t.val t.isLt).c17]
  have hN := N8 t
  have hr : (y 0).val < 256 := ((cfg0.win 17).xinj (cfg0.grid.coords t) y 0).isLt
  have e := emb17 t y
  skip
  refine Eq.trans ?_ (congrArg₂ (fun i j => (((N.dga : ℕ → ℕ → ℝ) i j : ℝ) : EReal)) e.1.symm e.2.symm)
  show ((((N.blk (7 - t.val)).dga : ℕ → ℕ → ℝ) (y 0).val (y 1).val : ℝ) : EReal) = (((N.dga : ℕ → ℕ → ℝ) (256 * (7 - t.val) + (y 0).val) (y 1).val : ℝ) : EReal)
  beta_reduce
  skip
  exact congrArg _ (N.dga_eq (b := 7 - t.val) (by omega) hr _)

theorem arr18 : (dats m 0 c).arrAt 18 cfg0.N = R2 (a := 128) (b := 512) N.dwa := by
  refine (dats m 0 c).arrAt_eq_of_covers 18 _ (by decide +kernel) fun t hf y => ?_
  rw [after0_18, (st m c h t.val t.isLt).c18]
  have hN := N8 t
  have hr : (y 0).val < 128 := ((cfg0.win 18).xinj (cfg0.grid.coords t) y 0).isLt
  have e := emb18 t y
  have e7 := (last_flush t).1 hf
  refine Eq.trans ?_ (congrArg₂ (fun i j => (((N.dwa : ℕ → ℕ → ℝ) i j : ℝ) : EReal)) e.1.symm e.2.symm)
  show ((((fun i j => acc (fun b => (N.blk b).dwap i j) t.val) : ℕ → ℕ → ℝ) (y 0).val (y 1).val : ℝ) : EReal) = (((N.dwa : ℕ → ℕ → ℝ) ((y 0).val) (y 1).val : ℝ) : EReal)
  beta_reduce
  rw [e7]
  exact congrArg _ (N.dwa_eq _ _)

theorem arr19 : (dats m 0 c).arrAt 19 cfg0.N = R2 (a := 1) (b := 512) (fun _ j => N.db j) := by
  refine (dats m 0 c).arrAt_eq_of_covers 19 _ (by decide +kernel) fun t hf y => ?_
  rw [after0_19, (st m c h t.val t.isLt).c19]
  have hN := N8 t
  have hr : (y 0).val < 1 := ((cfg0.win 19).xinj (cfg0.grid.coords t) y 0).isLt
  have e := emb19 t y
  have e7 := (last_flush t).2.1 hf
  refine Eq.trans ?_ (congrArg₂ (fun i j => ((((fun _ j => N.db j) : ℕ → ℕ → ℝ) i j : ℝ) : EReal)) e.1.symm e.2.symm)
  show ((((fun i j => acc (fun b => (N.blk b).dbp i j) t.val) : ℕ → ℕ → ℝ) (y 0).val (y 1).val : ℝ) : EReal) = ((((fun _ j => N.db j) : ℕ → ℕ → ℝ) ((y 0).val) (y 1).val : ℝ) : EReal)
  beta_reduce
  rw [e7]
  exact congrArg _ (N.db_eq _ _)

theorem arr20 : (dats m 0 c).arrAt 20 cfg0.N = R2 (a := 1) (b := 1024) (fun _ j => N.dg j) := by
  refine (dats m 0 c).arrAt_eq_of_covers 20 _ (by decide +kernel) fun t hf y => ?_
  rw [after0_20, (st m c h t.val t.isLt).c20]
  have hN := N8 t
  have hr : (y 0).val < 1 := ((cfg0.win 20).xinj (cfg0.grid.coords t) y 0).isLt
  have e := emb20 t y
  have e7 := (last_flush t).2.2 hf
  refine Eq.trans ?_ (congrArg₂ (fun i j => ((((fun _ j => N.dg j) : ℕ → ℕ → ℝ) i j : ℝ) : EReal)) e.1.symm e.2.symm)
  show ((((fun i j => acc (fun b => (N.blk b).dgp (j / 256) i (j % 256)) t.val) : ℕ → ℕ → ℝ) (y 0).val (y 1).val : ℝ) : EReal) = ((((fun _ j => N.dg j) : ℕ → ℕ → ℝ) ((y 0).val) (y 1).val : ℝ) : EReal)
  beta_reduce
  rw [e7]
  exact congrArg _ (N.dg_eq _ _)

end Cert.Mine.Hv

end
-- ==== Proof.Mine.Inputs.lean ====
/- Finite arguments are real arrays. -/
module

public import proofs.«01_k».proof.Proof.Mine.RefVal
public import proofs.«01_k».proof.Proof.Mine.HostVal
public import proofs.«01_k».proof.Defs
public import proofs.«01_k».proof.Proof.Gen.Pre_finite

@[expose] public section

set_option maxRecDepth 16384

noncomputable section

namespace Cert.Mine.Inp

open Idealize.ShloMosaic Idealize.ShloMosaic.Tactic

/-- What the precondition's comparison says of one entry. -/
theorem real_of (a : EReal) (h : Ideal.cmp .olt (max a (-a)) (Ideal.ofBits .f32 0x7F800000#32) = 1#1) :
    a = ((a.toReal : ℝ) : EReal) := by
  rw [Cert.Mine.Ref.ofBits_inf] at h
  have hlt : max a (-a) < ⊤ := by
    by_contra hn
    unfold Ideal.cmp at h
    simp [hn] at h
  have h1 : a ≠ ⊤ := fun e => by rw [e] at hlt; simp at hlt
  have h2 : a ≠ ⊥ := fun e => by rw [e] at hlt; simp at hlt
  exact (EReal.coe_toReal h1 h2).symm

/-- The real array under a matrix of reals. -/
def un2 {a b : ℕ} (A : (⟨2, ![a, b]⟩ : Shape).Idx → EReal) (i j : ℕ) : ℝ :=
  if h : i < a ∧ j < b then (A (ix2 ⟨i, h.1⟩ ⟨j, h.2⟩)).toReal else 0
/-- The real array under a vector of reals. -/
def un1 {a : ℕ} (A : (⟨1, ![a]⟩ : Shape).Idx → EReal) (i : ℕ) : ℝ :=
  if h : i < a then (A (ix1 ⟨i, h⟩)).toReal else 0

theorem un2_eq {a b : ℕ} (A : (⟨2, ![a, b]⟩ : Shape).Idx → EReal) (hA : ∀ x, A x = (((A x).toReal : ℝ) : EReal)) :
    A = R2 (a := a) (b := b) (un2 A) := by
  funext x
  have e : x = ix2 (x 0) (x 1) := eq_ix2 x
  rw [hA x]
  show _ = ((un2 A (x 0).val (x 1).val : ℝ) : EReal)
  unfold un2
  rw [dif_pos ⟨(x 0).isLt, (x 1).isLt⟩]
  exact congrArg (fun y => (((A y).toReal : ℝ) : EReal)) e

theorem un1_eq {a : ℕ} (A : (⟨1, ![a]⟩ : Shape).Idx → EReal) (hA : ∀ x, A x = (((A x).toReal : ℝ) : EReal)) :
    A = R1 (a := a) (un1 A) := by
  funext x
  have e : x = ix1 (x 0) := eq_ix1 x
  rw [hA x]
  show _ = ((un1 A (x 0).val : ℝ) : EReal)
  unfold un1
  rw [dif_pos (show (x 0).val < a from (x 0).isLt)]
  exact congrArg (fun y => (((A y).toReal : ℝ) : EReal)) e

/-- The real arguments under arrays of reals. -/
def net (z : (⟨2, ![2048, 7184]⟩ : Shape).Idx → EReal) (wa : (⟨2, ![16, 512]⟩ : Shape).Idx → EReal)
    (ba : (⟨1, ![512]⟩ : Shape).Idx → EReal) (gn : (⟨1, ![1024]⟩ : Shape).Idx → EReal)
    (dy : (⟨2, ![2048, 2048]⟩ : Shape).Idx → EReal) : Net :=
  ⟨un2 z, un2 wa, un1 ba, un1 gn, un2 dy⟩

/-- Each argument is a real array where the precondition holds. -/
theorem reals [Cert.Pre_finite.Facts]
    (z : FVec Ideal ⟨2, ![2048, 7184]⟩ .f32) (wa : FVec Ideal ⟨2, ![16, 512]⟩ .f32) (ba : FVec Ideal ⟨1, ![512]⟩ .f32)
    (gn : FVec Ideal ⟨1, ![1024]⟩ .f32) (dy : FVec Ideal ⟨2, ![2048, 2048]⟩ .f32)
    (h : (Cert.Pre_finite.fn (F := Ideal) z wa ba gn dy).1 = (fun _ => 1#1)
      ∧ (Cert.Pre_finite.fn (F := Ideal) z wa ba gn dy).2.1 = (fun _ => 1#1)
      ∧ (Cert.Pre_finite.fn (F := Ideal) z wa ba gn dy).2.2.1 = (fun _ => 1#1)
      ∧ (Cert.Pre_finite.fn (F := Ideal) z wa ba gn dy).2.2.2.1 = (fun _ => 1#1)
      ∧ (Cert.Pre_finite.fn (F := Ideal) z wa ba gn dy).2.2.2.2 = (fun _ => 1#1)) :
    z = R2 (a := 2048) (b := 7184) (net z wa ba gn dy).Z ∧ wa = R2 (a := 16) (b := 512) (net z wa ba gn dy).WA
      ∧ ba = R1 (a := 512) (net z wa ba gn dy).BA ∧ gn = R1 (a := 1024) (net z wa ba gn dy).GN
      ∧ dy = R2 (a := 2048) (b := 2048) (net z wa ba gn dy).DY := by
  obtain ⟨h0, h1, h2, h3, h4⟩ := h
  exact ⟨un2_eq z fun x => real_of _ (congrFun h0 x), un2_eq wa fun x => real_of _ (congrFun h1 x),
    un1_eq ba fun x => real_of _ (congrFun h2 x), un1_eq gn fun x => real_of _ (congrFun h3 x),
    un2_eq dy fun x => real_of _ (congrFun h4 x)⟩

end Cert.Mine.Inp

end
-- ==== Proof.Prod.Arr.lean ====
/- Arrays of rank 2 over the extended reals, written as functions of two positions, and sums over positions. -/
module

public import Idealize.ShloMosaic.Lib.Pipeline.ValueKit
public import Idealize.ShloMosaic.Lib.ValueIdx
public import Idealize.ShloMosaic.Lib.Pointwise

@[expose] public section

noncomputable section

namespace Cert.Prod

open Idealize.ShloMosaic

/-- An array of rank 2, written as a function of its positions. -/
def E2 {a b : ℕ} (f : ℕ → ℕ → EReal) : (⟨2, ![a, b]⟩ : Shape).Idx → EReal := fun i => f (i 0).val (i 1).val

/-- The function of an array, nothing outside its shape. -/
def un {a b : ℕ} (A : (⟨2, ![a, b]⟩ : Shape).Idx → EReal) (i j : ℕ) : EReal :=
  if h : i < a ∧ j < b then A (ix2 ⟨i, h.1⟩ ⟨j, h.2⟩) else 0

theorem un_eq {a b : ℕ} (A : (⟨2, ![a, b]⟩ : Shape).Idx → EReal) : A = E2 (un A) := by
  funext x
  show A x = un A (x 0).val (x 1).val
  unfold un
  rw [dif_pos ⟨(x 0).isLt, (x 1).isLt⟩]
  exact congrArg A (ValueIdx.eq_ix2 x)

theorem E2_congr {a b : ℕ} {f g : ℕ → ℕ → EReal} (h : ∀ i < a, ∀ j < b, f i j = g i j) :
    (E2 f : (⟨2, ![a, b]⟩ : Shape).Idx → EReal) = E2 g := by
  funext x; exact h _ (x 0).isLt _ (x 1).isLt

/-- A stretch of columns. -/
theorem slice_E2 {a b c d o p : ℕ} (f : ℕ → ℕ → EReal) (h) :
    extractStridedSlice (s := ⟨2, ![a, b]⟩) ⟨2, ![c, d]⟩ ![o, p] (E2 f) h = E2 (fun i j => f (o + i) (p + j)) := by
  funext x; rfl

/-- A block of an array: its positions are the block's number, times the block's extent, onward. -/
theorem block_E2 {a b c d : ℕ} (f : ℕ → ℕ → EReal) {A : (⟨2, ![a, b]⟩ : Shape).Idx → EReal} (hA : A = E2 f)
    (em : (⟨2, ![c, d]⟩ : Shape).Idx → (⟨2, ![a, b]⟩ : Shape).Idx) {q r u v : ℕ} (hq : q = u) (hr : r = v)
    (e0 : ∀ y, (em y 0).val = q * c + (y 0).val) (e1 : ∀ y, (em y 1).val = r * d + (y 1).val) :
    (fun y => A (em y)) = E2 (fun i j => f (u * c + i) (v * d + j)) := by
  subst hA hq hr
  funext y
  exact congrArg₂ f (e0 y) (e1 y)

end Cert.Prod

end
-- ==== Proof.Prod.InDx.lean ====
/- The gradient of the input projection's inputs: the nine stretches of dz's columns, each with its rows of the
   aligned weight, their products added, tile by tile. -/
module

public import proofs.«01_k».proof.Defs
public import proofs.«01_k».proof.Proof.Prod.Arr
public import proofs.«01_k».proof.Proof.Gen.Kernel2Ideal.Value
public import proofs.«01_k».proof.Proof.Gen.Reference2Ideal.Run

@[expose] public section

set_option maxRecDepth 16384

noncomputable section

namespace Cert.Prod.InDx

open Idealize.ShloMosaic Idealize.ShloMosaic.TcCoe Idealize.SL.Sem Cert.Kernel2Ideal Cert.Kernel2Ideal.Gen
open Pipeline.Window (rect_emb_val)

/-- The weight's rows as the kernel holds them: transposed, the gate's sixteen rows behind all others and padded. -/
def al (w : ℕ → ℕ → EReal) (r j : ℕ) : EReal :=
  if r < 3072 then w j r else if r < 7168 then w j (3088 + (r - 3072)) else if r < 7184 then w j (3072 + (r - 7168)) else 0

/-- The gate's sixteen columns of dz, padded. -/
def gz (z : ℕ → ℕ → EReal) (i k : ℕ) : EReal := if k < 16 then z i (3072 + k) else 0

/-- A sum over positions from `o` on, as a sum over an interval. -/
theorem sum_ico (h : ℕ → EReal) (o n : ℕ) : ∑ k : Fin n, h (o + k.val) = ∑ k ∈ Finset.Ico o (o + n), h k := by
  rw [Finset.sum_Ico_eq_sum_range, Nat.add_sub_cancel_left]
  exact Fin.sum_univ_eq_sum_range (fun k => h (o + k)) n

/-- The nine stretches together are the whole sum. -/
theorem regroup (h : ℕ → EReal) :
    (∑ k : Fin 512, h (0 + k.val)) + (∑ k : Fin 512, h (512 + k.val)) + (∑ k : Fin 1024, h (1024 + k.val)) + (∑ k : Fin 1024, h (2048 + k.val)) + (∑ k : Fin 1024, h (3088 + k.val)) + (∑ k : Fin 1024, h (4112 + k.val)) + (∑ k : Fin 1024, h (5136 + k.val)) + (∑ k : Fin 1024, h (6160 + k.val)) + (∑ k : Fin 16, h (3072 + k.val)) = ∑ k : Fin 7184, h k.val := by
  have e : ∑ k : Fin 7184, h k.val = ∑ k ∈ Finset.Ico 0 7184, h k := by
    rw [Fin.sum_univ_eq_sum_range (fun k => h k) 7184, Finset.range_eq_Ico]
  rw [e]
  rw [← Finset.sum_Ico_consecutive h (Nat.zero_le 6160) (show 6160 ≤ 7184 by decide)]
  rw [← Finset.sum_Ico_consecutive h (Nat.zero_le 5136) (show 5136 ≤ 6160 by decide)]
  rw [← Finset.sum_Ico_consecutive h (Nat.zero_le 4112) (show 4112 ≤ 5136 by decide)]
  rw [← Finset.sum_Ico_consecutive h (Nat.zero_le 3088) (show 3088 ≤ 4112 by decide)]
  rw [← Finset.sum_Ico_consecutive h (Nat.zero_le 3072) (show 3072 ≤ 3088 by decide)]
  rw [← Finset.sum_Ico_consecutive h (Nat.zero_le 2048) (show 2048 ≤ 3072 by decide)]
  rw [← Finset.sum_Ico_consecutive h (Nat.zero_le 1024) (show 1024 ≤ 2048 by decide)]
  rw [← Finset.sum_Ico_consecutive h (Nat.zero_le 512) (show 512 ≤ 1024 by decide)]
  simp only [sum_ico]
  ac_rfl

/-- The sum of the nine products. -/
theorem pay (f0 g0 f1 g1 f2 g2 f3 g3 f4 g4 f5 g5 f6 g6 f7 g7 f8 g8 : ℕ → ℕ → EReal) :
    k0_pay1 (F := Ideal) (k0_pay2 (E2 f0) (E2 g0) (E2 f1) (E2 g1) (E2 f2) (E2 g2) (E2 f3) (E2 g3) (E2 f4) (E2 g4)) (k0_pay3 (E2 f5)) (E2 g5) (E2 f6) (E2 g6) (E2 f7) (E2 g7) (E2 f8) (E2 g8)
      = E2 (fun i j => (∑ k : Fin 512, f0 i k * g0 k j) + (∑ k : Fin 512, f1 i k * g1 k j) + (∑ k : Fin 1024, f2 i k * g2 k j) + (∑ k : Fin 1024, f3 i k * g3 k j) + (∑ k : Fin 1024, f4 i k * g4 k j) + (∑ k : Fin 1024, f5 i k * g5 k j) + (∑ k : Fin 1024, f6 i k * g6 k j) + (∑ k : Fin 1024, f7 i k * g7 k j) + (∑ k : Fin 128, f8 i k * g8 k j)) := by
  unfold k0_pay1 k0_pay2 k0_pay3
  simp only [shapeCast_self]
  funext x; idx_vars x; pointwise
  simp only [E2]
  rfl

/-- A load of rows from the block of the weight. -/
theorem ld512 (o : ℕ) (f : ℕ → ℕ → EReal) (inb) :
    View.ld (Val := Elt Ideal) (e' := .bf16) (E2 (a := 7296) (b := 512) f) (Rect.unit (s := S7296x512) ![o, 0] S512x512.size inb) = E2 (a := 512) (b := 512) (fun i j => f (o + i) (0 + j)) := by
  funext x
  exact congrArg₂ f (congrArg (o + ·) (Nat.one_mul _)) (congrArg (0 + ·) (Nat.one_mul _))

theorem ld1024 (o : ℕ) (f : ℕ → ℕ → EReal) (inb) :
    View.ld (Val := Elt Ideal) (e' := .bf16) (E2 (a := 7296) (b := 512) f) (Rect.unit (s := S7296x512) ![o, 0] S1024x512.size inb) = E2 (a := 1024) (b := 512) (fun i j => f (o + i) (0 + j)) := by
  funext x
  exact congrArg₂ f (congrArg (o + ·) (Nat.one_mul _)) (congrArg (0 + ·) (Nat.one_mul _))

theorem ld128 (o : ℕ) (f : ℕ → ℕ → EReal) (inb) :
    View.ld (Val := Elt Ideal) (e' := .bf16) (E2 (a := 7296) (b := 512) f) (Rect.unit (s := S7296x512) ![o, 0] S128x512.size inb) = E2 (a := 128) (b := 512) (fun i j => f (o + i) (0 + j)) := by
  funext x
  exact congrArg₂ f (congrArg (o + ·) (Nat.one_mul _)) (congrArg (0 + ·) (Nat.one_mul _))

/-- What the body leaves in the result's window. -/
theorem out (f0 f1 f2 f3 f4 f5 f6 f7 f8 w : ℕ → ℕ → EReal) :
    out0_10 (F := Ideal) (E2 f0) (E2 f1) (E2 f2) (E2 f3) (E2 f4) (E2 f5) (E2 f6) (E2 f7) (E2 f8) (E2 w)
      = E2 (fun i j => (∑ k : Fin 512, f0 i k * w (0 + k) (0 + j)) + (∑ k : Fin 512, f1 i k * w (512 + k) (0 + j)) + (∑ k : Fin 1024, f2 i k * w (1024 + k) (0 + j)) + (∑ k : Fin 1024, f3 i k * w (2048 + k) (0 + j)) + (∑ k : Fin 1024, f4 i k * w (3072 + k) (0 + j)) + (∑ k : Fin 1024, f5 i k * w (4096 + k) (0 + j)) + (∑ k : Fin 1024, f6 i k * w (5120 + k) (0 + j)) + (∑ k : Fin 1024, f7 i k * w (6144 + k) (0 + j)) + (∑ k : Fin 128, f8 i k * w (7168 + k) (0 + j))) := by
  unfold out0_10
  rw [View.canon_cons_unit_lit _ _ _ (by decide)]
  simp only [ld512, ld1024, ld128]
  iterate 9 rw [View.ld_unit_lit _ _ (by decide)]
  rw [pay]

theorem ind : ∀ t : Fin cfg0.N, ((cfg0.win 0).index t 0 = t.val % 4 ∧ (cfg0.win 0).index t 1 = 0) ∧ ((cfg0.win 1).index t 0 = t.val % 4 ∧ (cfg0.win 1).index t 1 = 0) ∧ ((cfg0.win 2).index t 0 = t.val % 4 ∧ (cfg0.win 2).index t 1 = 0) ∧ ((cfg0.win 3).index t 0 = t.val % 4 ∧ (cfg0.win 3).index t 1 = 0) ∧ ((cfg0.win 4).index t 0 = t.val % 4 ∧ (cfg0.win 4).index t 1 = 0) ∧ ((cfg0.win 5).index t 0 = t.val % 4 ∧ (cfg0.win 5).index t 1 = 0) ∧ ((cfg0.win 6).index t 0 = t.val % 4 ∧ (cfg0.win 6).index t 1 = 0) ∧ ((cfg0.win 7).index t 0 = t.val % 4 ∧ (cfg0.win 7).index t 1 = 0) ∧ ((cfg0.win 8).index t 0 = t.val % 4 ∧ (cfg0.win 8).index t 1 = 0) := by decide +kernel
theorem ind9 : ∀ t : Fin cfg0.N, (cfg0.win 9).index t 0 = 0 ∧ (cfg0.win 9).index t 1 = t.val / 4 := by decide +kernel
theorem ind10 : ∀ t : Fin cfg0.N, (cfg0.win 10).index t 0 = t.val % 4 ∧ (cfg0.win 10).index t 1 = t.val / 4 := by decide +kernel

variable (m : (ℓ : Loc nD τ sig) → Buf (Elt Ideal) ℓ) (c : Dev nD) (f g : ℕ → ℕ → EReal)

/-- The arguments' values. -/
def At : Prop := m ((c : Thread nD τ).loc main_arg1) = E2 (a := 2048) (b := 7184) f ∧ m ((c : Thread nD τ).loc main_arg0) = E2 (a := 2048) (b := 7184) g

theorem V0 (h : At m c f g) : V m c (Pipeline.arrRef spec0 0) = E2 (a := 2048) (b := 512) (fun i j => f (0 + i) (0 + j)) := by
  refine Eq.trans (b := extractStridedSlice S2048x512 ![0, 0] (m ((c : Thread nD τ).loc main_arg1)) slices_S2048x7184_S2048x512_0_0) ?_ ?_
  · show StableHlo.after (List.flatten [hostOps0, hostOps0_1, hostOps0_2]) (fun b => m (c, b)) (Proc.devRef .tc main_v1) = _
    simp only [hostOps0, hostOps0_1, hostOps0_2, List.flatten_cons, List.flatten_nil, List.append_nil, List.cons_append, List.nil_append]
    after_results; rfl
  · rw [h.1]; exact slice_E2 f _

theorem V1 (h : At m c f g) : V m c (Pipeline.arrRef spec0 1) = E2 (a := 2048) (b := 512) (fun i j => f (0 + i) (512 + j)) := by
  refine Eq.trans (b := extractStridedSlice S2048x512 ![0, 512] (m ((c : Thread nD τ).loc main_arg1)) slices_S2048x7184_S2048x512_0_512) ?_ ?_
  · show StableHlo.after (List.flatten [hostOps0, hostOps0_1, hostOps0_2]) (fun b => m (c, b)) (Proc.devRef .tc main_v2) = _
    simp only [hostOps0, hostOps0_1, hostOps0_2, List.flatten_cons, List.flatten_nil, List.append_nil, List.cons_append, List.nil_append]
    after_results; rfl
  · rw [h.1]; exact slice_E2 f _

theorem V2 (h : At m c f g) : V m c (Pipeline.arrRef spec0 2) = E2 (a := 2048) (b := 1024) (fun i j => f (0 + i) (1024 + j)) := by
  refine Eq.trans (b := extractStridedSlice S2048x1024 ![0, 1024] (m ((c : Thread nD τ).loc main_arg1)) slices_S2048x7184_S2048x1024_0_1024) ?_ ?_
  · show StableHlo.after (List.flatten [hostOps0, hostOps0_1, hostOps0_2]) (fun b => m (c, b)) (Proc.devRef .tc main_v3) = _
    simp only [hostOps0, hostOps0_1, hostOps0_2, List.flatten_cons, List.flatten_nil, List.append_nil, List.cons_append, List.nil_append]
    after_results; rfl
  · rw [h.1]; exact slice_E2 f _

theorem V3 (h : At m c f g) : V m c (Pipeline.arrRef spec0 3) = E2 (a := 2048) (b := 1024) (fun i j => f (0 + i) (2048 + j)) := by
  refine Eq.trans (b := extractStridedSlice S2048x1024 ![0, 2048] (m ((c : Thread nD τ).loc main_arg1)) slices_S2048x7184_S2048x1024_0_2048) ?_ ?_
  · show StableHlo.after (List.flatten [hostOps0, hostOps0_1, hostOps0_2]) (fun b => m (c, b)) (Proc.devRef .tc main_v4) = _
    simp only [hostOps0, hostOps0_1, hostOps0_2, List.flatten_cons, List.flatten_nil, List.append_nil, List.cons_append, List.nil_append]
    after_results; rfl
  · rw [h.1]; exact slice_E2 f _

theorem V4 (h : At m c f g) : V m c (Pipeline.arrRef spec0 4) = E2 (a := 2048) (b := 1024) (fun i j => f (0 + i) (3088 + j)) := by
  refine Eq.trans (b := extractStridedSlice S2048x1024 ![0, 3088] (m ((c : Thread nD τ).loc main_arg1)) slices_S2048x7184_S2048x1024_0_3088) ?_ ?_
  · show StableHlo.after (List.flatten [hostOps0, hostOps0_1, hostOps0_2]) (fun b => m (c, b)) (Proc.devRef .tc main_v7) = _
    simp only [hostOps0, hostOps0_1, hostOps0_2, List.flatten_cons, List.flatten_nil, List.append_nil, List.cons_append, List.nil_append]
    after_results; rfl
  · rw [h.1]; exact slice_E2 f _

theorem V5 (h : At m c f g) : V m c (Pipeline.arrRef spec0 5) = E2 (a := 2048) (b := 1024) (fun i j => f (0 + i) (4112 + j)) := by
  refine Eq.trans (b := extractStridedSlice S2048x1024 ![0, 4112] (m ((c : Thread nD τ).loc main_arg1)) slices_S2048x7184_S2048x1024_0_4112) ?_ ?_
  · show StableHlo.after (List.flatten [hostOps0, hostOps0_1, hostOps0_2]) (fun b => m (c, b)) (Proc.devRef .tc main_v8) = _
    simp only [hostOps0, hostOps0_1, hostOps0_2, List.flatten_cons, List.flatten_nil, List.append_nil, List.cons_append, List.nil_append]
    after_results; rfl
  · rw [h.1]; exact slice_E2 f _

theorem V6 (h : At m c f g) : V m c (Pipeline.arrRef spec0 6) = E2 (a := 2048) (b := 1024) (fun i j => f (0 + i) (5136 + j)) := by
  refine Eq.trans (b := extractStridedSlice S2048x1024 ![0, 5136] (m ((c : Thread nD τ).loc main_arg1)) slices_S2048x7184_S2048x1024_0_5136) ?_ ?_
  · show StableHlo.after (List.flatten [hostOps0, hostOps0_1, hostOps0_2]) (fun b => m (c, b)) (Proc.devRef .tc main_v9) = _
    simp only [hostOps0, hostOps0_1, hostOps0_2, List.flatten_cons, List.flatten_nil, List.append_nil, List.cons_append, List.nil_append]
    after_results; rfl
  · rw [h.1]; exact slice_E2 f _

theorem V7 (h : At m c f g) : V m c (Pipeline.arrRef spec0 7) = E2 (a := 2048) (b := 1024) (fun i j => f (0 + i) (6160 + j)) := by
  refine Eq.trans (b := extractStridedSlice S2048x1024 ![0, 6160] (m ((c : Thread nD τ).loc main_arg1)) slices_S2048x7184_S2048x1024_0_6160) ?_ ?_
  · show StableHlo.after (List.flatten [hostOps0, hostOps0_1, hostOps0_2]) (fun b => m (c, b)) (Proc.devRef .tc main_v10) = _
    simp only [hostOps0, hostOps0_1, hostOps0_2, List.flatten_cons, List.flatten_nil, List.append_nil, List.cons_append, List.nil_append]
    after_results; rfl
  · rw [h.1]; exact slice_E2 f _

/-- The number that the padding holds. -/
theorem zero : (FloatOps.sitofp (F := Ideal) .bf16 (0#32 : BitVec 32)) = (0 : EReal) := by
  simp [FloatOps.sitofp]

/-- The gate's columns, padded to a full lane block. -/
theorem V8 (h : At m c f g) : V m c (Pipeline.arrRef spec0 8) = E2 (a := 2048) (b := 128) (fun i j => gz f i j) := by
  refine Eq.trans (b := pad S2048x128 ![0, 0] ![0, 112] ![0, 0] (extractStridedSlice S2048x16 ![0, 3072] (m ((c : Thread nD τ).loc main_arg1)) slices_S2048x7184_S2048x16_0_3072)
    (sitofp (F := Ideal) .bf16 (constantI S_ 32 0#32)) pads_S2048x16_S2048x128_000_01120 h_S_) ?_ ?_
  · show StableHlo.after (List.flatten [hostOps0, hostOps0_1, hostOps0_2]) (fun b => m (c, b)) (Proc.devRef .tc main_v6) = _
    simp only [hostOps0, hostOps0_1, hostOps0_2, List.flatten_cons, List.flatten_nil, List.append_nil, List.cons_append, List.nil_append]
    after_results; rfl
  · rw [h.1]
    funext x; idx_vars x; pointwise
    show _ = if x1.val < 16 then f x0.val (3072 + x1.val) else 0
    split
    · rfl
    · exact zero

/-- The weight as the kernel lays it out. -/
def lay (w : S2048x7184.Idx → EReal) : S7296x2048.Idx → EReal :=
  concatenate S7296x2048 0 [⟨S3072x2048, extractStridedSlice S3072x2048 ![0, 0] (transpose S7184x2048 [1, 0] w transposes_S2048x7184_S7184x2048_1_0) slices_S7184x2048_S3072x2048_0_0⟩,
    ⟨S4096x2048, extractStridedSlice S4096x2048 ![3088, 0] (transpose S7184x2048 [1, 0] w transposes_S2048x7184_S7184x2048_1_0) slices_S7184x2048_S4096x2048_3088_0⟩,
    ⟨S16x2048, extractStridedSlice S16x2048 ![3072, 0] (transpose S7184x2048 [1, 0] w transposes_S2048x7184_S7184x2048_1_0) slices_S7184x2048_S16x2048_3072_0⟩,
    ⟨S112x2048, broadcastInDim S112x2048 ![] bcast_S_S112x2048 (constant (F := Ideal) S_ .bf16 0x0000#16)⟩] concatenates_S3072x2048_S4096x2048_S16x2048_S112x2048_S7296x2048_d0

theorem lay_E2 (g : ℕ → ℕ → EReal) : lay (E2 g) = E2 (al g) := by
  unfold lay
  funext x; idx_vars x; pointwise
  show _ = al g x0.val x1.val
  unfold al
  split
  · rfl
  · split
    · rename_i h1 h2
      exact Eq.trans rfl (if_pos (show x0.val < 7168 by omega)).symm
    · rename_i h1 h2
      refine Eq.trans ?_ (if_neg (show ¬x0.val < 7168 by omega)).symm
      have hx := x0.isLt
      by_cases h3 : x0.val - 3072 - 4096 < 16
      · refine Eq.trans (dif_pos h3) (Eq.trans ?_ (if_pos (show x0.val < 7184 by omega)).symm)
        exact congrArg (g x1.val) (show 3072 + (x0.val - 3072 - 4096) = 3072 + (x0.val - 7168) by omega)
      · exact Eq.trans (dif_neg h3) (if_neg (show ¬x0.val < 7184 by omega)).symm

/-- The weight as the kernel holds it. -/
theorem V9 (h : At m c f g) : V m c (Pipeline.arrRef spec0 9) = E2 (a := 7296) (b := 2048) (al g) := by
  refine Eq.trans (b := lay (m ((c : Thread nD τ).loc main_arg0))) ?_ ((congrArg lay h.2).trans (lay_E2 g))
  show StableHlo.after (List.flatten [hostOps0, hostOps0_1, hostOps0_2]) (fun b => m (c, b)) (Proc.devRef .tc main_v17) = _
  simp only [hostOps0, hostOps0_1, hostOps0_2, List.flatten_cons, List.flatten_nil, List.append_nil, List.cons_append, List.nil_append]
  after_results; rfl

theorem x0 (h : At m c f g) (t : Fin cfg0.N) :
    iblk m c 0 t = E2 (a := 512) (b := 512) (fun i k => f (0 + (t.val % 4 * 512 + i)) (0 + (0 * 512 + k))) :=
  block_E2 _ (V0 m c f g h) _ (ind t).1.1 (ind t).1.2
    (rect_emb_val (cfg0.win 0) t · 0) (rect_emb_val (cfg0.win 0) t · 1)

theorem x1 (h : At m c f g) (t : Fin cfg0.N) :
    iblk m c 1 t = E2 (a := 512) (b := 512) (fun i k => f (0 + (t.val % 4 * 512 + i)) (512 + (0 * 512 + k))) :=
  block_E2 _ (V1 m c f g h) _ (ind t).2.1.1 (ind t).2.1.2
    (rect_emb_val (cfg0.win 1) t · 0) (rect_emb_val (cfg0.win 1) t · 1)

theorem x2 (h : At m c f g) (t : Fin cfg0.N) :
    iblk m c 2 t = E2 (a := 512) (b := 1024) (fun i k => f (0 + (t.val % 4 * 512 + i)) (1024 + (0 * 1024 + k))) :=
  block_E2 _ (V2 m c f g h) _ (ind t).2.2.1.1 (ind t).2.2.1.2
    (rect_emb_val (cfg0.win 2) t · 0) (rect_emb_val (cfg0.win 2) t · 1)

theorem x3 (h : At m c f g) (t : Fin cfg0.N) :
    iblk m c 3 t = E2 (a := 512) (b := 1024) (fun i k => f (0 + (t.val % 4 * 512 + i)) (2048 + (0 * 1024 + k))) :=
  block_E2 _ (V3 m c f g h) _ (ind t).2.2.2.1.1 (ind t).2.2.2.1.2
    (rect_emb_val (cfg0.win 3) t · 0) (rect_emb_val (cfg0.win 3) t · 1)

theorem x4 (h : At m c f g) (t : Fin cfg0.N) :
    iblk m c 4 t = E2 (a := 512) (b := 1024) (fun i k => f (0 + (t.val % 4 * 512 + i)) (3088 + (0 * 1024 + k))) :=
  block_E2 _ (V4 m c f g h) _ (ind t).2.2.2.2.1.1 (ind t).2.2.2.2.1.2
    (rect_emb_val (cfg0.win 4) t · 0) (rect_emb_val (cfg0.win 4) t · 1)

theorem x5 (h : At m c f g) (t : Fin cfg0.N) :
    iblk m c 5 t = E2 (a := 512) (b := 1024) (fun i k => f (0 + (t.val % 4 * 512 + i)) (4112 + (0 * 1024 + k))) :=
  block_E2 _ (V5 m c f g h) _ (ind t).2.2.2.2.2.1.1 (ind t).2.2.2.2.2.1.2
    (rect_emb_val (cfg0.win 5) t · 0) (rect_emb_val (cfg0.win 5) t · 1)

theorem x6 (h : At m c f g) (t : Fin cfg0.N) :
    iblk m c 6 t = E2 (a := 512) (b := 1024) (fun i k => f (0 + (t.val % 4 * 512 + i)) (5136 + (0 * 1024 + k))) :=
  block_E2 _ (V6 m c f g h) _ (ind t).2.2.2.2.2.2.1.1 (ind t).2.2.2.2.2.2.1.2
    (rect_emb_val (cfg0.win 6) t · 0) (rect_emb_val (cfg0.win 6) t · 1)

theorem x7 (h : At m c f g) (t : Fin cfg0.N) :
    iblk m c 7 t = E2 (a := 512) (b := 1024) (fun i k => f (0 + (t.val % 4 * 512 + i)) (6160 + (0 * 1024 + k))) :=
  block_E2 _ (V7 m c f g h) _ (ind t).2.2.2.2.2.2.2.1.1 (ind t).2.2.2.2.2.2.2.1.2
    (rect_emb_val (cfg0.win 7) t · 0) (rect_emb_val (cfg0.win 7) t · 1)

theorem x8 (h : At m c f g) (t : Fin cfg0.N) :
    iblk m c 8 t = E2 (a := 512) (b := 128) (fun i k => gz f (t.val % 4 * 512 + i) (0 * 128 + k)) :=
  block_E2 _ (V8 m c f g h) _ (ind t).2.2.2.2.2.2.2.2.1 (ind t).2.2.2.2.2.2.2.2.2
    (rect_emb_val (cfg0.win 8) t · 0) (rect_emb_val (cfg0.win 8) t · 1)

theorem x9 (h : At m c f g) (t : Fin cfg0.N) :
    iblk m c 9 t = E2 (a := 7296) (b := 512) (fun k j => al g (0 * 7296 + k) (t.val / 4 * 512 + j)) :=
  block_E2 _ (V9 m c f g h) _ (ind9 t).1 (ind9 t).2
    (rect_emb_val (cfg0.win 9) t · 0) (rect_emb_val (cfg0.win 9) t · 1)

/-- The first 3072 rows of the aligned weight. -/
theorem al_lo (g : ℕ → ℕ → EReal) {r : ℕ} (j : ℕ) (h : r < 3072) : al g r j = g j r := if_pos h

/-- The 4096 rows behind them, past the gate's sixteen. -/
theorem al_hi (g : ℕ → ℕ → EReal) {r s : ℕ} (j : ℕ) (h : 3072 ≤ r) (h' : r < 7168) (e : 3088 + (r - 3072) = s) : al g r j = g j s := by
  subst e
  exact (if_neg (by omega)).trans (if_pos h')

/-- The nine products of a row of dz and a column of the aligned weight add up to the whole product. -/
theorem total (i j : ℕ) :
    (∑ k : Fin 512, f i (0 + k) * al g (0 + k) j) + (∑ k : Fin 512, f i (512 + k) * al g (512 + k) j) + (∑ k : Fin 1024, f i (1024 + k) * al g (1024 + k) j) + (∑ k : Fin 1024, f i (2048 + k) * al g (2048 + k) j) + (∑ k : Fin 1024, f i (3088 + k) * al g (3072 + k) j) + (∑ k : Fin 1024, f i (4112 + k) * al g (4096 + k) j) + (∑ k : Fin 1024, f i (5136 + k) * al g (5120 + k) j) + (∑ k : Fin 1024, f i (6160 + k) * al g (6144 + k) j) + (∑ k : Fin 128, gz f i k * al g (7168 + k) j)
      = ∑ k : Fin 7184, f i k * g j k := by
  rw [← regroup (fun k => f i k * g j k)]
  have e8 : (∑ k : Fin 128, gz f i k * al g (7168 + k) j) = ∑ k : Fin 16, f i (3072 + k) * g j (3072 + k) := by
    rw [Fin.sum_univ_add (a := 16) (b := 112) (fun k : Fin (16 + 112) => gz f i k * al g (7168 + k) j)]
    rw [Finset.sum_eq_zero (s := (Finset.univ : Finset (Fin 112))), add_zero]
    · refine Finset.sum_congr rfl fun k _ => ?_
      have hk := k.isLt
      simp only [gz, al, Fin.val_castAdd]
      rw [if_pos hk, if_neg (by omega), if_neg (by omega), if_pos (by omega)]
      exact congrArg (fun n => f i (3072 + k) * g j n) (by omega)
    · intro k _
      simp only [gz, Fin.val_natAdd]
      rw [if_neg (by omega), zero_mul]
  rw [e8]
  refine congrArg₂ (· + ·) ?_ rfl
  refine congrArg₂ (· + ·) ?_ (Finset.sum_congr rfl fun k _ => congrArg (f i (6160 + k) * ·) (al_hi g j (by omega) (by omega) (by omega)))
  refine congrArg₂ (· + ·) ?_ (Finset.sum_congr rfl fun k _ => congrArg (f i (5136 + k) * ·) (al_hi g j (by omega) (by omega) (by omega)))
  refine congrArg₂ (· + ·) ?_ (Finset.sum_congr rfl fun k _ => congrArg (f i (4112 + k) * ·) (al_hi g j (by omega) (by omega) (by omega)))
  refine congrArg₂ (· + ·) ?_ (Finset.sum_congr rfl fun k _ => congrArg (f i (3088 + k) * ·) (al_hi g j (by omega) (by omega) (by omega)))
  refine congrArg₂ (· + ·) ?_ (Finset.sum_congr rfl fun k _ => congrArg (f i (2048 + k) * ·) (al_lo g j (by omega)))
  refine congrArg₂ (· + ·) ?_ (Finset.sum_congr rfl fun k _ => congrArg (f i (1024 + k) * ·) (al_lo g j (by omega)))
  refine congrArg₂ (· + ·) ?_ (Finset.sum_congr rfl fun k _ => congrArg (f i (512 + k) * ·) (al_lo g j (by omega)))
  exact Finset.sum_congr rfl fun k _ => congrArg (f i (0 + k) * ·) (al_lo g j (by omega))

/-- What a point leaves in the result's window. -/
theorem outs (h : At m c f g) (t : Fin cfg0.N) :
    out0_10 (iblk m c 0 t) (iblk m c 1 t) (iblk m c 2 t) (iblk m c 3 t) (iblk m c 4 t) (iblk m c 5 t) (iblk m c 6 t) (iblk m c 7 t) (iblk m c 8 t) (iblk m c 9 t)
      = E2 (a := 512) (b := 512) (fun i j => ∑ k : Fin 7184, f (t.val % 4 * 512 + i) k * g (t.val / 4 * 512 + j) k) := by
  rw [x0 m c f g h, x1 m c f g h, x2 m c f g h, x3 m c f g h, x4 m c f g h, x5 m c f g h, x6 m c f g h, x7 m c f g h, x8 m c f g h, x9 m c f g h, out]
  refine E2_congr fun i _ j _ => ?_
  have h := total f g (t.val % 4 * 512 + i) (t.val / 4 * 512 + j)
  simp only [Nat.zero_add, Nat.zero_mul] at h ⊢
  exact h

/-- The result: row by row products of dz and the weight. -/
theorem arr (h : At m c f g) :
    (dats m 0 c).arrAt 10 cfg0.N = E2 (a := 2048) (b := 2048) (fun i j => ∑ k : Fin 7184, f i k * g j k) := by
  refine (dats m 0 c).arrAt_eq_of_covers 10 _ (by decide +kernel) fun t _ y => ?_
  rw [after0_10, outs m c f g h]
  exact congrFun (block_E2 (fun i j => ∑ k : Fin 7184, f i k * g j k) rfl ((cfg0.win 10).blk t).view.emb (ind10 t).1 (ind10 t).2
    (rect_emb_val (cfg0.win 10) t · 0) (rect_emb_val (cfg0.win 10) t · 1)).symm y

/-- The reference's product, as it is printed. -/
theorem ref : Host.dotGeneral (F := Ideal) (φ₁ := .f32) (φ₂ := .f32) Cert.Reference2Ideal.dot_S2048x7184_S2048x7184_S2048x2048_1_1_0_0_n_n none (E2 f) (E2 g)
    = E2 (fun i j => ∑ k : Fin 7184, f i k * g j k) := by
  funext x; idx_vars x; pointwise; rfl

theorem algebraic : Cert.algebraic_Kernel2Ideal_Reference2Ideal := fun m g m' g' _ he =>
  ⟨_, (θ_run Cert.Kernel2Ideal.defs _ _).mono (fun r h c => by
      obtain ⟨h0, h1, h2⟩ := h c
      exact ⟨h0.trans (arr m c _ _ ⟨un_eq _, un_eq _⟩), h1, h2⟩) (Cert.Kernel2Ideal.Value.run_blocks (F := Ideal) m g),
    (θ_run Cert.Reference2Ideal.defs _ _).mono (fun r h c => by
      obtain ⟨h0, h1, h2⟩ := h c
      refine ⟨h0.trans ?_, h1, h2⟩
      rw [(he c).1, (he c).2]
      refine Eq.trans ?_ (ref (un (m ((c : Thread nD τ).loc main_arg1))) (un (m ((c : Thread nD τ).loc main_arg0))))
      rw [← un_eq, ← un_eq]) (Cert.Reference2Ideal.Value.run (F := Ideal) m' g')⟩

end Cert.Prod.InDx

end
-- ==== Proof.Prod.InDwGla.lean ====
/- The gradient of the input projection's columns of the gated linear attention: dz, transposed, with the inputs, tile by tile. -/
module

public import proofs.«01_k».proof.Defs
public import proofs.«01_k».proof.Proof.Prod.Arr
public import proofs.«01_k».proof.Proof.Gen.Kernel3Ideal.Value
public import proofs.«01_k».proof.Proof.Gen.Reference3Ideal.Run

@[expose] public section

set_option maxRecDepth 16384

noncomputable section

namespace Cert.Prod.InDwGla

open Idealize.ShloMosaic Idealize.ShloMosaic.TcCoe Idealize.SL.Sem Cert.Kernel3Ideal Cert.Kernel3Ideal.Gen
open Pipeline.Window (rect_emb_val)

/-- The product of a tile: columns of the first with columns of the second. -/
theorem pay1 (f g : ℕ → ℕ → EReal) :
    k0_pay1 (F := Ideal) (E2 f) (E2 g) = E2 (fun i j => ∑ k : Fin 2048, f k i * g k j) := by
  unfold k0_pay1
  simp only [shapeCast_self]
  funext x; idx_vars x; pointwise
  simp only [E2]
  rfl

theorem pay2 (f g : ℕ → ℕ → EReal) :
    k0_pay2 (F := Ideal) (E2 f) (E2 g) = E2 (fun i j => ∑ k : Fin 2048, f k i * g k j) := pay1 f g

theorem pay3 (f g : ℕ → ℕ → EReal) :
    k0_pay3 (F := Ideal) (E2 f) (E2 g) = E2 (fun i j => ∑ k : Fin 2048, f k i * g k j) := pay1 f g

theorem pay4 (f g : ℕ → ℕ → EReal) :
    k0_pay4 (F := Ideal) (E2 f) (E2 g) = E2 (fun i j => ∑ k : Fin 2048, f k i * g k j) := pay1 f g

theorem ind0 : ∀ t : Fin cfg0.N, (cfg0.win 0).index t 0 = 0 ∧ (cfg0.win 0).index t 1 = 0 := by decide +kernel
theorem ind1 : ∀ t : Fin cfg0.N, (cfg0.win 1).index t 0 = 0 ∧ (cfg0.win 1).index t 1 = 0 := by decide +kernel
theorem ind2 : ∀ t : Fin cfg0.N, (cfg0.win 2).index t 0 = 0 ∧ (cfg0.win 2).index t 1 = min (t.val - 2) 1 := by decide +kernel
theorem ind3 : ∀ t : Fin cfg0.N, (cfg0.win 3).index t 0 = 0 ∧ (cfg0.win 3).index t 1 = min (t.val - 4) 1 := by decide +kernel
theorem ind4 : ∀ t : Fin cfg0.N, (cfg0.win 4).index t 0 = 0 ∧ (cfg0.win 4).index t 1 = 0 := by decide +kernel
theorem ind5 : ∀ t : Fin cfg0.N, (cfg0.win 5).index t 0 = t.val ∧ (cfg0.win 5).index t 1 = 0 := by decide +kernel

variable (m : (ℓ : Loc nD τ sig) → Buf (Elt Ideal) ℓ) (c : Dev nD) (f g : ℕ → ℕ → EReal)

/-- The arguments' values. -/
def At : Prop := m ((c : Thread nD τ).loc main_arg1) = E2 (a := 2048) (b := 3072) f ∧ m ((c : Thread nD τ).loc main_arg0) = E2 (a := 2048) (b := 2048) g

theorem V0 (h : At m c f g) : V m c (Pipeline.arrRef spec0 0) = E2 (a := 2048) (b := 512) (fun i j => f (0 + i) (0 + j)) := by
  refine Eq.trans (b := extractStridedSlice S2048x512 ![0, 0] (m ((c : Thread nD τ).loc main_arg1)) slices_S2048x3072_S2048x512_0_0) ?_ ?_
  · show StableHlo.after hostOps0 (fun b => m (c, b)) (Proc.devRef .tc main_v1) = _; after_results; rfl
  · rw [h.1]; exact slice_E2 f _

theorem V1 (h : At m c f g) : V m c (Pipeline.arrRef spec0 1) = E2 (a := 2048) (b := 512) (fun i j => f (0 + i) (512 + j)) := by
  refine Eq.trans (b := extractStridedSlice S2048x512 ![0, 512] (m ((c : Thread nD τ).loc main_arg1)) slices_S2048x3072_S2048x512_0_512) ?_ ?_
  · show StableHlo.after hostOps0 (fun b => m (c, b)) (Proc.devRef .tc main_v2) = _; after_results; rfl
  · rw [h.1]; exact slice_E2 f _

theorem V2 (h : At m c f g) : V m c (Pipeline.arrRef spec0 2) = E2 (a := 2048) (b := 1024) (fun i j => f (0 + i) (1024 + j)) := by
  refine Eq.trans (b := extractStridedSlice S2048x1024 ![0, 1024] (m ((c : Thread nD τ).loc main_arg1)) slices_S2048x3072_S2048x1024_0_1024) ?_ ?_
  · show StableHlo.after hostOps0 (fun b => m (c, b)) (Proc.devRef .tc main_v3) = _; after_results; rfl
  · rw [h.1]; exact slice_E2 f _

theorem V3 (h : At m c f g) : V m c (Pipeline.arrRef spec0 3) = E2 (a := 2048) (b := 1024) (fun i j => f (0 + i) (2048 + j)) := by
  refine Eq.trans (b := extractStridedSlice S2048x1024 ![0, 2048] (m ((c : Thread nD τ).loc main_arg1)) slices_S2048x3072_S2048x1024_0_2048) ?_ ?_
  · show StableHlo.after hostOps0 (fun b => m (c, b)) (Proc.devRef .tc main_v4) = _; after_results; rfl
  · rw [h.1]; exact slice_E2 f _

theorem V4 (h : At m c f g) : V m c (Pipeline.arrRef spec0 4) = E2 (a := 2048) (b := 2048) g := by
  refine Eq.trans ?_ h.2
  show StableHlo.after hostOps0 (fun b => m (c, b)) (Proc.devRef .tc main_v5) = _; after_results; rfl

/-- A block of a stretch of dz's columns. -/
theorem x0 (h : At m c f g) (t : Fin cfg0.N) :
    iblk m c 0 t = E2 (a := 2048) (b := 512) (fun k i => f (0 + (0 * 2048 + k)) (0 + ((0) * 512 + i))) :=
  block_E2 _ (V0 m c f g h) _ (ind0 t).1 (ind0 t).2
    (rect_emb_val (cfg0.win 0) t · 0) (rect_emb_val (cfg0.win 0) t · 1)

/-- A block of a stretch of dz's columns. -/
theorem x1 (h : At m c f g) (t : Fin cfg0.N) :
    iblk m c 1 t = E2 (a := 2048) (b := 512) (fun k i => f (0 + (0 * 2048 + k)) (512 + ((0) * 512 + i))) :=
  block_E2 _ (V1 m c f g h) _ (ind1 t).1 (ind1 t).2
    (rect_emb_val (cfg0.win 1) t · 0) (rect_emb_val (cfg0.win 1) t · 1)

/-- A block of a stretch of dz's columns. -/
theorem x2 (h : At m c f g) (t : Fin cfg0.N) :
    iblk m c 2 t = E2 (a := 2048) (b := 512) (fun k i => f (0 + (0 * 2048 + k)) (1024 + ((min (t.val - 2) 1) * 512 + i))) :=
  block_E2 _ (V2 m c f g h) _ (ind2 t).1 (ind2 t).2
    (rect_emb_val (cfg0.win 2) t · 0) (rect_emb_val (cfg0.win 2) t · 1)

/-- A block of a stretch of dz's columns. -/
theorem x3 (h : At m c f g) (t : Fin cfg0.N) :
    iblk m c 3 t = E2 (a := 2048) (b := 512) (fun k i => f (0 + (0 * 2048 + k)) (2048 + ((min (t.val - 4) 1) * 512 + i))) :=
  block_E2 _ (V3 m c f g h) _ (ind3 t).1 (ind3 t).2
    (rect_emb_val (cfg0.win 3) t · 0) (rect_emb_val (cfg0.win 3) t · 1)

/-- The block of the inputs: all of them. -/
theorem x4 (h : At m c f g) (t : Fin cfg0.N) :
    iblk m c 4 t = E2 (a := 2048) (b := 2048) (fun i j => g (0 * 2048 + i) (0 * 2048 + j)) :=
  block_E2 _ (V4 m c f g h) _ (ind4 t).1 (ind4 t).2
    (rect_emb_val (cfg0.win 4) t · 0) (rect_emb_val (cfg0.win 4) t · 1)

/-- What a point leaves in the result's window. -/
theorem outs (h : At m c f g) (t : Fin cfg0.N) :
    outsAt0 m c t.val t.isLt = E2 (a := 512) (b := 2048) (fun i j => ∑ k : Fin 2048, f k (t.val * 512 + i) * g k (0 * 2048 + j)) := by
  have ht : t.val < 6 := t.isLt
  by_cases h0 : t.val < 1
  · have e : 0 + (0) * 512 = t.val * 512 := by omega
    rw [outsAt0_A m c t (by omega) (by omega) (by omega) (by omega)]
    frame_out
    rw [x0 m c f g h, x4 m c f g h, pay1, ← e]
    simp only [Nat.zero_add, Nat.zero_mul, Nat.add_assoc]
  by_cases h1 : t.val < 2
  · have e : 512 + (0) * 512 = t.val * 512 := by omega
    rw [outsAt0_B m c t (by omega) (by omega) (by omega) (by omega)]
    frame_out
    rw [x1 m c f g h, x4 m c f g h, pay2, ← e]
    simp only [Nat.zero_add, Nat.zero_mul, Nat.add_assoc]
  by_cases h2 : t.val < 4
  · have e : 1024 + (min (t.val - 2) 1) * 512 = t.val * 512 := by omega
    rw [outsAt0_C m c t (by omega) (by omega) (by omega) (by omega)]
    frame_out
    rw [x2 m c f g h, x4 m c f g h, pay3, ← e]
    simp only [Nat.zero_add, Nat.zero_mul, Nat.add_assoc]
  have e : 2048 + (min (t.val - 4) 1) * 512 = t.val * 512 := by omega
  rw [outsAt0_D m c t (by omega) (by omega) (by omega) (by omega)]
  frame_out
  rw [x3 m c f g h, x4 m c f g h, pay4, ← e]
  simp only [Nat.zero_add, Nat.zero_mul, Nat.add_assoc]

/-- The result: column by column products of dz and the inputs. -/
theorem arr (h : At m c f g) :
    (dats m 0 c).arrAt 5 cfg0.N = E2 (a := 3072) (b := 2048) (fun i j => ∑ k : Fin 2048, f k i * g k j) := by
  refine (dats m 0 c).arrAt_eq_of_covers 5 _ (by decide +kernel) fun t _ y => ?_
  rw [after0_5, outs m c f g h]
  exact congrFun (block_E2 (fun i j => ∑ k : Fin 2048, f k i * g k j) rfl ((cfg0.win 5).blk t).view.emb (ind5 t).1 (ind5 t).2
    (rect_emb_val (cfg0.win 5) t · 0) (rect_emb_val (cfg0.win 5) t · 1)).symm y

/-- The reference's product, transposed twice, as it is printed. -/
theorem ref : truncf (F := Ideal) (φ := .f32) .bf16 (transpose S3072x2048 [1, 0] (transpose S2048x3072 [1, 0] (Host.dotGeneral (F := Ideal) (φ₁ := .f32) (φ₂ := .f32)
      Cert.Reference3Ideal.dot_S2048x3072_S2048x2048_S3072x2048_0_0_1_1_n_n none (E2 f) (E2 g))
      Cert.Reference3Ideal.Gen.transposes_S3072x2048_S2048x3072_1_0) Cert.Reference3Ideal.Gen.transposes_S2048x3072_S3072x2048_1_0) Cert.Reference3Ideal.Gen.bitsLt_bf16_f32
    = E2 (fun i j => ∑ k : Fin 2048, f k i * g k j) := by
  funext x; idx_vars x; pointwise; rfl

theorem algebraic : Cert.algebraic_Kernel3Ideal_Reference3Ideal := fun m g m' g' _ he =>
  ⟨_, (θ_run Cert.Kernel3Ideal.defs _ _).mono (fun r h c => by
      obtain ⟨h0, h1, h2⟩ := h c
      exact ⟨h0.trans (arr m c _ _ ⟨un_eq _, un_eq _⟩), h1, h2⟩) (Cert.Kernel3Ideal.Value.run_blocks (F := Ideal) m g),
    (θ_run Cert.Reference3Ideal.defs _ _).mono (fun r h c => by
      obtain ⟨h0, h1, h2⟩ := h c
      refine ⟨h0.trans ?_, h1, h2⟩
      rw [(he c).1, (he c).2]
      refine Eq.trans ?_ (ref (un (m ((c : Thread nD τ).loc main_arg1))) (un (m ((c : Thread nD τ).loc main_arg0))))
      rw [← un_eq, ← un_eq]) (Cert.Reference3Ideal.Value.run (F := Ideal) m' g')⟩

end Cert.Prod.InDwGla

end
-- ==== Proof.Prod.InDwAtt.lean ====
/- The gradient of the input projection's columns of the attention: dz, transposed, with the inputs, tile by tile. -/
module

public import proofs.«01_k».proof.Defs
public import proofs.«01_k».proof.Proof.Prod.Arr
public import proofs.«01_k».proof.Proof.Gen.Kernel4Ideal.Value
public import proofs.«01_k».proof.Proof.Gen.Reference4Ideal.Run

@[expose] public section

set_option maxRecDepth 16384

noncomputable section

namespace Cert.Prod.InDwAtt

open Idealize.ShloMosaic Idealize.ShloMosaic.TcCoe Idealize.SL.Sem Cert.Kernel4Ideal Cert.Kernel4Ideal.Gen
open Pipeline.Window (rect_emb_val)

/-- The product of a tile: columns of the first with columns of the second. -/
theorem pay1 (f g : ℕ → ℕ → EReal) :
    k0_pay1 (F := Ideal) (E2 f) (E2 g) = E2 (fun i j => ∑ k : Fin 2048, f k i * g k j) := by
  unfold k0_pay1
  simp only [shapeCast_self]
  funext x; idx_vars x; pointwise
  simp only [E2]
  rfl

theorem pay2 (f g : ℕ → ℕ → EReal) :
    k0_pay2 (F := Ideal) (E2 f) (E2 g) = E2 (fun i j => ∑ k : Fin 2048, f k i * g k j) := pay1 f g

theorem pay3 (f g : ℕ → ℕ → EReal) :
    k0_pay3 (F := Ideal) (E2 f) (E2 g) = E2 (fun i j => ∑ k : Fin 2048, f k i * g k j) := pay1 f g

theorem pay4 (f g : ℕ → ℕ → EReal) :
    k0_pay4 (F := Ideal) (E2 f) (E2 g) = E2 (fun i j => ∑ k : Fin 2048, f k i * g k j) := pay1 f g

theorem ind0 : ∀ t : Fin cfg0.N, (cfg0.win 0).index t 0 = 0 ∧ (cfg0.win 0).index t 1 = min (t.val - 0) 1 := by decide +kernel
theorem ind1 : ∀ t : Fin cfg0.N, (cfg0.win 1).index t 0 = 0 ∧ (cfg0.win 1).index t 1 = min (t.val - 2) 1 := by decide +kernel
theorem ind2 : ∀ t : Fin cfg0.N, (cfg0.win 2).index t 0 = 0 ∧ (cfg0.win 2).index t 1 = min (t.val - 4) 1 := by decide +kernel
theorem ind3 : ∀ t : Fin cfg0.N, (cfg0.win 3).index t 0 = 0 ∧ (cfg0.win 3).index t 1 = min (t.val - 6) 1 := by decide +kernel
theorem ind4 : ∀ t : Fin cfg0.N, (cfg0.win 4).index t 0 = 0 ∧ (cfg0.win 4).index t 1 = 0 := by decide +kernel
theorem ind5 : ∀ t : Fin cfg0.N, (cfg0.win 5).index t 0 = t.val ∧ (cfg0.win 5).index t 1 = 0 := by decide +kernel

variable (m : (ℓ : Loc nD τ sig) → Buf (Elt Ideal) ℓ) (c : Dev nD) (f g : ℕ → ℕ → EReal)

/-- The arguments' values. -/
def At : Prop := m ((c : Thread nD τ).loc main_arg1) = E2 (a := 2048) (b := 4096) f ∧ m ((c : Thread nD τ).loc main_arg0) = E2 (a := 2048) (b := 2048) g

theorem V0 (h : At m c f g) : V m c (Pipeline.arrRef spec0 0) = E2 (a := 2048) (b := 1024) (fun i j => f (0 + i) (0 + j)) := by
  refine Eq.trans (b := extractStridedSlice S2048x1024 ![0, 0] (m ((c : Thread nD τ).loc main_arg1)) slices_S2048x4096_S2048x1024_0_0) ?_ ?_
  · show StableHlo.after hostOps0 (fun b => m (c, b)) (Proc.devRef .tc main_v1) = _; after_results; rfl
  · rw [h.1]; exact slice_E2 f _

theorem V1 (h : At m c f g) : V m c (Pipeline.arrRef spec0 1) = E2 (a := 2048) (b := 1024) (fun i j => f (0 + i) (1024 + j)) := by
  refine Eq.trans (b := extractStridedSlice S2048x1024 ![0, 1024] (m ((c : Thread nD τ).loc main_arg1)) slices_S2048x4096_S2048x1024_0_1024) ?_ ?_
  · show StableHlo.after hostOps0 (fun b => m (c, b)) (Proc.devRef .tc main_v2) = _; after_results; rfl
  · rw [h.1]; exact slice_E2 f _

theorem V2 (h : At m c f g) : V m c (Pipeline.arrRef spec0 2) = E2 (a := 2048) (b := 1024) (fun i j => f (0 + i) (2048 + j)) := by
  refine Eq.trans (b := extractStridedSlice S2048x1024 ![0, 2048] (m ((c : Thread nD τ).loc main_arg1)) slices_S2048x4096_S2048x1024_0_2048) ?_ ?_
  · show StableHlo.after hostOps0 (fun b => m (c, b)) (Proc.devRef .tc main_v3) = _; after_results; rfl
  · rw [h.1]; exact slice_E2 f _

theorem V3 (h : At m c f g) : V m c (Pipeline.arrRef spec0 3) = E2 (a := 2048) (b := 1024) (fun i j => f (0 + i) (3072 + j)) := by
  refine Eq.trans (b := extractStridedSlice S2048x1024 ![0, 3072] (m ((c : Thread nD τ).loc main_arg1)) slices_S2048x4096_S2048x1024_0_3072) ?_ ?_
  · show StableHlo.after hostOps0 (fun b => m (c, b)) (Proc.devRef .tc main_v4) = _; after_results; rfl
  · rw [h.1]; exact slice_E2 f _

theorem V4 (h : At m c f g) : V m c (Pipeline.arrRef spec0 4) = E2 (a := 2048) (b := 2048) g := by
  refine Eq.trans ?_ h.2
  show StableHlo.after hostOps0 (fun b => m (c, b)) (Proc.devRef .tc main_v5) = _; after_results; rfl

/-- A block of a stretch of dz's columns. -/
theorem x0 (h : At m c f g) (t : Fin cfg0.N) :
    iblk m c 0 t = E2 (a := 2048) (b := 512) (fun k i => f (0 + (0 * 2048 + k)) (0 + ((min (t.val - 0) 1) * 512 + i))) :=
  block_E2 _ (V0 m c f g h) _ (ind0 t).1 (ind0 t).2
    (rect_emb_val (cfg0.win 0) t · 0) (rect_emb_val (cfg0.win 0) t · 1)

/-- A block of a stretch of dz's columns. -/
theorem x1 (h : At m c f g) (t : Fin cfg0.N) :
    iblk m c 1 t = E2 (a := 2048) (b := 512) (fun k i => f (0 + (0 * 2048 + k)) (1024 + ((min (t.val - 2) 1) * 512 + i))) :=
  block_E2 _ (V1 m c f g h) _ (ind1 t).1 (ind1 t).2
    (rect_emb_val (cfg0.win 1) t · 0) (rect_emb_val (cfg0.win 1) t · 1)

/-- A block of a stretch of dz's columns. -/
theorem x2 (h : At m c f g) (t : Fin cfg0.N) :
    iblk m c 2 t = E2 (a := 2048) (b := 512) (fun k i => f (0 + (0 * 2048 + k)) (2048 + ((min (t.val - 4) 1) * 512 + i))) :=
  block_E2 _ (V2 m c f g h) _ (ind2 t).1 (ind2 t).2
    (rect_emb_val (cfg0.win 2) t · 0) (rect_emb_val (cfg0.win 2) t · 1)

/-- A block of a stretch of dz's columns. -/
theorem x3 (h : At m c f g) (t : Fin cfg0.N) :
    iblk m c 3 t = E2 (a := 2048) (b := 512) (fun k i => f (0 + (0 * 2048 + k)) (3072 + ((min (t.val - 6) 1) * 512 + i))) :=
  block_E2 _ (V3 m c f g h) _ (ind3 t).1 (ind3 t).2
    (rect_emb_val (cfg0.win 3) t · 0) (rect_emb_val (cfg0.win 3) t · 1)

/-- The block of the inputs: all of them. -/
theorem x4 (h : At m c f g) (t : Fin cfg0.N) :
    iblk m c 4 t = E2 (a := 2048) (b := 2048) (fun i j => g (0 * 2048 + i) (0 * 2048 + j)) :=
  block_E2 _ (V4 m c f g h) _ (ind4 t).1 (ind4 t).2
    (rect_emb_val (cfg0.win 4) t · 0) (rect_emb_val (cfg0.win 4) t · 1)

/-- What a point leaves in the result's window. -/
theorem outs (h : At m c f g) (t : Fin cfg0.N) :
    outsAt0 m c t.val t.isLt = E2 (a := 512) (b := 2048) (fun i j => ∑ k : Fin 2048, f k (t.val * 512 + i) * g k (0 * 2048 + j)) := by
  have ht : t.val < 8 := t.isLt
  by_cases h0 : t.val < 2
  · have e : 0 + (min (t.val - 0) 1) * 512 = t.val * 512 := by omega
    rw [outsAt0_A m c t (by omega) (by omega) (by omega) (by omega)]
    frame_out
    rw [x0 m c f g h, x4 m c f g h, pay1, ← e]
    simp only [Nat.zero_add, Nat.zero_mul, Nat.add_assoc]
  by_cases h1 : t.val < 4
  · have e : 1024 + (min (t.val - 2) 1) * 512 = t.val * 512 := by omega
    rw [outsAt0_B m c t (by omega) (by omega) (by omega) (by omega)]
    frame_out
    rw [x1 m c f g h, x4 m c f g h, pay2, ← e]
    simp only [Nat.zero_add, Nat.zero_mul, Nat.add_assoc]
  by_cases h2 : t.val < 6
  · have e : 2048 + (min (t.val - 4) 1) * 512 = t.val * 512 := by omega
    rw [outsAt0_C m c t (by omega) (by omega) (by omega) (by omega)]
    frame_out
    rw [x2 m c f g h, x4 m c f g h, pay3, ← e]
    simp only [Nat.zero_add, Nat.zero_mul, Nat.add_assoc]
  have e : 3072 + (min (t.val - 6) 1) * 512 = t.val * 512 := by omega
  rw [outsAt0_D m c t (by omega) (by omega) (by omega) (by omega)]
  frame_out
  rw [x3 m c f g h, x4 m c f g h, pay4, ← e]
  simp only [Nat.zero_add, Nat.zero_mul, Nat.add_assoc]

/-- The result: column by column products of dz and the inputs. -/
theorem arr (h : At m c f g) :
    (dats m 0 c).arrAt 5 cfg0.N = E2 (a := 4096) (b := 2048) (fun i j => ∑ k : Fin 2048, f k i * g k j) := by
  refine (dats m 0 c).arrAt_eq_of_covers 5 _ (by decide +kernel) fun t _ y => ?_
  rw [after0_5, outs m c f g h]
  exact congrFun (block_E2 (fun i j => ∑ k : Fin 2048, f k i * g k j) rfl ((cfg0.win 5).blk t).view.emb (ind5 t).1 (ind5 t).2
    (rect_emb_val (cfg0.win 5) t · 0) (rect_emb_val (cfg0.win 5) t · 1)).symm y

/-- The reference's product, transposed twice, as it is printed. -/
theorem ref : truncf (F := Ideal) (φ := .f32) .bf16 (transpose S4096x2048 [1, 0] (transpose S2048x4096 [1, 0] (Host.dotGeneral (F := Ideal) (φ₁ := .f32) (φ₂ := .f32)
      Cert.Reference4Ideal.dot_S2048x4096_S2048x2048_S4096x2048_0_0_1_1_n_n none (E2 f) (E2 g))
      Cert.Reference4Ideal.Gen.transposes_S4096x2048_S2048x4096_1_0) Cert.Reference4Ideal.Gen.transposes_S2048x4096_S4096x2048_1_0) Cert.Reference4Ideal.Gen.bitsLt_bf16_f32
    = E2 (fun i j => ∑ k : Fin 2048, f k i * g k j) := by
  funext x; idx_vars x; pointwise; rfl

theorem algebraic : Cert.algebraic_Kernel4Ideal_Reference4Ideal := fun m g m' g' _ he =>
  ⟨_, (θ_run Cert.Kernel4Ideal.defs _ _).mono (fun r h c => by
      obtain ⟨h0, h1, h2⟩ := h c
      exact ⟨h0.trans (arr m c _ _ ⟨un_eq _, un_eq _⟩), h1, h2⟩) (Cert.Kernel4Ideal.Value.run_blocks (F := Ideal) m g),
    (θ_run Cert.Reference4Ideal.defs _ _).mono (fun r h c => by
      obtain ⟨h0, h1, h2⟩ := h c
      refine ⟨h0.trans ?_, h1, h2⟩
      rw [(he c).1, (he c).2]
      refine Eq.trans ?_ (ref (un (m ((c : Thread nD τ).loc main_arg1))) (un (m ((c : Thread nD τ).loc main_arg0))))
      rw [← un_eq, ← un_eq]) (Cert.Reference4Ideal.Value.run (F := Ideal) m' g')⟩

end Cert.Prod.InDwAtt

end
-- ==== Proof.Prod.OutDw.lean ====
/- The gradient of the output projection's weight: the two groups' outputs, transposed, with dy, tile by tile. -/
module

public import proofs.«01_k».proof.Defs
public import proofs.«01_k».proof.Proof.Prod.Arr
public import proofs.«01_k».proof.Proof.Gen.Kernel5Ideal.Value
public import proofs.«01_k».proof.Proof.Gen.Reference5Ideal.Run

@[expose] public section

set_option maxRecDepth 16384

noncomputable section

namespace Cert.Prod.OutDw

open Idealize.ShloMosaic Idealize.ShloMosaic.TcCoe Idealize.SL.Sem Cert.Kernel5Ideal Cert.Kernel5Ideal.Gen
open Pipeline.Window (rect_emb_val)

/-- The product of a tile: columns of the first with columns of the second. -/
theorem pay1 (f g : ℕ → ℕ → EReal) :
    k0_pay1 (F := Ideal) (E2 f) (E2 g) = E2 (fun i j => ∑ k : Fin 2048, f k i * g k j) := by
  unfold k0_pay1
  simp only [shapeCast_self]
  funext x; idx_vars x; pointwise
  simp only [E2]
  rfl

theorem pay2 (f g : ℕ → ℕ → EReal) :
    k0_pay2 (F := Ideal) (E2 f) (E2 g) = E2 (fun i j => ∑ k : Fin 2048, f k i * g k j) := pay1 f g

theorem ind0 : ∀ t : Fin cfg0.N, (cfg0.win 0).index t 0 = 0 ∧ (cfg0.win 0).index t 1 = 0 := by decide +kernel
theorem ind1 : ∀ t : Fin cfg0.N, (cfg0.win 1).index t 0 = 0 ∧ (cfg0.win 1).index t 1 = 0 := by decide +kernel
theorem ind2 : ∀ t : Fin cfg0.N, (cfg0.win 2).index t 0 = 0 ∧ (cfg0.win 2).index t 1 = t.val % 2 := by decide +kernel
theorem ind3 : ∀ t : Fin cfg0.N, (cfg0.win 3).index t 0 = t.val / 2 ∧ (cfg0.win 3).index t 1 = t.val % 2 := by decide +kernel

variable (m : (ℓ : Loc nD τ sig) → Buf (Elt Ideal) ℓ) (c : Dev nD) (f g : ℕ → ℕ → EReal)

/-- The arguments' values. -/
def At : Prop := m ((c : Thread nD τ).loc main_arg0) = E2 (a := 2048) (b := 2048) f ∧ m ((c : Thread nD τ).loc main_arg1) = E2 (a := 2048) (b := 2048) g

theorem V0 (h : At m c f g) : V m c (Pipeline.arrRef spec0 0) = E2 (a := 2048) (b := 1024) (fun i j => f (0 + i) (0 + j)) := by
  refine Eq.trans (b := extractStridedSlice S2048x1024 ![0, 0] (m ((c : Thread nD τ).loc main_arg0)) slices_S2048x2048_S2048x1024_0_0) ?_ ?_
  · show StableHlo.after hostOps0 (fun b => m (c, b)) (Proc.devRef .tc main_v1) = _; after_results; rfl
  · rw [h.1]; exact slice_E2 f _

theorem V1 (h : At m c f g) : V m c (Pipeline.arrRef spec0 1) = E2 (a := 2048) (b := 1024) (fun i j => f (0 + i) (1024 + j)) := by
  refine Eq.trans (b := extractStridedSlice S2048x1024 ![0, 1024] (m ((c : Thread nD τ).loc main_arg0)) slices_S2048x2048_S2048x1024_0_1024) ?_ ?_
  · show StableHlo.after hostOps0 (fun b => m (c, b)) (Proc.devRef .tc main_v2) = _; after_results; rfl
  · rw [h.1]; exact slice_E2 f _

theorem V2 (h : At m c f g) : V m c (Pipeline.arrRef spec0 2) = E2 (a := 2048) (b := 2048) g := by
  refine Eq.trans ?_ h.2
  show StableHlo.after hostOps0 (fun b => m (c, b)) (Proc.devRef .tc main_v3) = _; after_results; rfl

/-- A block of the first group's outputs: all of them. -/
theorem x0 (h : At m c f g) (t : Fin cfg0.N) :
    iblk m c 0 t = E2 (a := 2048) (b := 1024) (fun k i => f (0 + (0 * 2048 + k)) (0 + (0 * 1024 + i))) :=
  block_E2 _ (V0 m c f g h) _ (ind0 t).1 (ind0 t).2
    (rect_emb_val (cfg0.win 0) t · 0) (rect_emb_val (cfg0.win 0) t · 1)

/-- A block of the second group's outputs: all of them. -/
theorem x1 (h : At m c f g) (t : Fin cfg0.N) :
    iblk m c 1 t = E2 (a := 2048) (b := 1024) (fun k i => f (0 + (0 * 2048 + k)) (1024 + (0 * 1024 + i))) :=
  block_E2 _ (V1 m c f g h) _ (ind1 t).1 (ind1 t).2
    (rect_emb_val (cfg0.win 1) t · 0) (rect_emb_val (cfg0.win 1) t · 1)

theorem x2 (h : At m c f g) (t : Fin cfg0.N) :
    iblk m c 2 t = E2 (a := 2048) (b := 1024) (fun k j => g (0 * 2048 + k) (t.val % 2 * 1024 + j)) :=
  block_E2 _ (V2 m c f g h) _ (ind2 t).1 (ind2 t).2
    (rect_emb_val (cfg0.win 2) t · 0) (rect_emb_val (cfg0.win 2) t · 1)

/-- What a point leaves in the result's window. -/
theorem outs (h : At m c f g) (t : Fin cfg0.N) :
    outsAt0 m c t.val t.isLt = E2 (a := 1024) (b := 1024)
      (fun i j => ∑ k : Fin 2048, f k (t.val / 2 * 1024 + i) * g k (t.val % 2 * 1024 + j)) := by
  have h4 : t.val < 4 := t.isLt
  by_cases ht : t.val < 2
  · have e : t.val / 2 = 0 := by omega
    rw [outsAt0_A m c t ht (by omega)]
    frame_out
    rw [x0 m c f g h, x2 m c f g h, pay1, e]
    simp only [Nat.zero_mul, Nat.zero_add]
  · have e : t.val / 2 = 1 := by omega
    rw [outsAt0_B m c t ht (by omega)]
    frame_out
    rw [x1 m c f g h, x2 m c f g h, pay2, e]
    simp only [Nat.zero_mul, Nat.zero_add, Nat.one_mul]

/-- The result: column by column products of the two arguments. -/
theorem arr (h : At m c f g) :
    (dats m 0 c).arrAt 3 cfg0.N = E2 (a := 2048) (b := 2048) (fun i j => ∑ k : Fin 2048, f k i * g k j) := by
  refine (dats m 0 c).arrAt_eq_of_covers 3 _ (by decide +kernel) fun t _ y => ?_
  rw [after0_3, outs m c f g h]
  exact congrFun (block_E2 (fun i j => ∑ k : Fin 2048, f k i * g k j) rfl ((cfg0.win 3).blk t).view.emb
    (ind3 t).1 (ind3 t).2 (rect_emb_val (cfg0.win 3) t · 0) (rect_emb_val (cfg0.win 3) t · 1)).symm y

/-- The reference's product, transposed, as it is printed. -/
theorem ref : truncf (F := Ideal) (φ := .f32) .bf16 (transpose S2048x2048 [1, 0] (Host.dotGeneral (F := Ideal) (φ₁ := .f32) (φ₂ := .f32)
      Cert.Reference5Ideal.dot_S2048x2048_S2048x2048_S2048x2048_0_0_1_1_n_n none (E2 g) (E2 f))
      Cert.Reference5Ideal.Gen.transposes_S2048x2048_S2048x2048_1_0) Cert.Reference5Ideal.Gen.bitsLt_bf16_f32
    = E2 (fun i j => ∑ k : Fin 2048, f k i * g k j) := by
  funext x; idx_vars x; pointwise
  exact Finset.sum_congr rfl fun k _ => mul_comm _ _

theorem algebraic : Cert.algebraic_Kernel5Ideal_Reference5Ideal := fun m g m' g' _ he =>
  ⟨_, (θ_run Cert.Kernel5Ideal.defs _ _).mono (fun r h c => by
      obtain ⟨h0, h1, h2⟩ := h c
      exact ⟨h0.trans (arr m c _ _ ⟨un_eq _, un_eq _⟩), h1, h2⟩) (Cert.Kernel5Ideal.Value.run_blocks (F := Ideal) m g),
    (θ_run Cert.Reference5Ideal.defs _ _).mono (fun r h c => by
      obtain ⟨h0, h1, h2⟩ := h c
      refine ⟨h0.trans ?_, h1, h2⟩
      rw [(he c).1, (he c).2]
      refine Eq.trans ?_ (ref (un (m ((c : Thread nD τ).loc main_arg0))) (un (m ((c : Thread nD τ).loc main_arg1))))
      rw [← un_eq, ← un_eq]) (Cert.Reference5Ideal.Value.run (F := Ideal) m' g')⟩

end Cert.Prod.OutDw

end
-- ==== Proof.Prod.OutDx.lean ====
/- The gradient of the two groups' outputs: the product of dy with the transposed weight, tile by tile. -/
module

public import proofs.«01_k».proof.Defs
public import proofs.«01_k».proof.Proof.Prod.Arr
public import proofs.«01_k».proof.Proof.Gen.Kernel6Ideal.Value
public import proofs.«01_k».proof.Proof.Gen.Reference6Ideal.Run

@[expose] public section

set_option maxRecDepth 16384

noncomputable section

namespace Cert.Prod.OutDx

open Idealize.ShloMosaic Idealize.ShloMosaic.TcCoe Idealize.SL.Sem Cert.Kernel6Ideal Cert.Kernel6Ideal.Gen
open Pipeline.Window (rect_emb_val)

/-- The product of a tile: rows of the first with rows of the second. -/
theorem pay (f g : ℕ → ℕ → EReal) :
    k0_pay1 (F := Ideal) (E2 f) (E2 g) = E2 (fun i j => ∑ k : Fin 2048, f i k * g j k) := by
  unfold k0_pay1
  simp only [shapeCast_self]
  funext x; idx_vars x; pointwise
  simp only [E2]
  rfl

/-- What the body leaves in the result's window. -/
theorem out (f g : ℕ → ℕ → EReal) :
    out0_2 (F := Ideal) (E2 f) (E2 g) = E2 (fun i j => ∑ k : Fin 2048, f i k * g j k) := by
  unfold out0_2
  rw [View.canon_cons_unit_lit _ _ _ (by decide), View.ld_unit_lit _ _ (by decide), View.ld_unit_lit _ _ (by decide), pay]

theorem ind0 : ∀ t : Fin cfg0.N, (cfg0.win 0).index t 0 = t.val % 4 ∧ (cfg0.win 0).index t 1 = 0 := by decide +kernel
theorem ind1 : ∀ t : Fin cfg0.N, (cfg0.win 1).index t 0 = t.val / 4 ∧ (cfg0.win 1).index t 1 = 0 := by decide +kernel
theorem ind2 : ∀ t : Fin cfg0.N, (cfg0.win 2).index t 0 = t.val % 4 ∧ (cfg0.win 2).index t 1 = t.val / 4 := by decide +kernel

variable (m : (ℓ : Loc nD τ sig) → Buf (Elt Ideal) ℓ) (c : Dev nD) (f g : ℕ → ℕ → EReal)

/-- The arguments' values. -/
def At : Prop := m ((c : Thread nD τ).loc main_arg1) = E2 (a := 2048) (b := 2048) f ∧ m ((c : Thread nD τ).loc main_arg0) = E2 (a := 2048) (b := 2048) g

theorem V0 (h : At m c f g) : V m c (Pipeline.arrRef spec0 0) = E2 (a := 2048) (b := 2048) f := by
  refine Eq.trans ?_ h.1
  show StableHlo.after hostOps0 (fun b => m (c, b)) (Proc.devRef .tc main_v0) = _; after_results; rfl
theorem V1 (h : At m c f g) : V m c (Pipeline.arrRef spec0 1) = E2 (a := 2048) (b := 2048) g := by
  refine Eq.trans ?_ h.2
  show StableHlo.after hostOps0 (fun b => m (c, b)) (Proc.devRef .tc main_v1) = _; after_results; rfl

theorem x0 (h : At m c f g) (t : Fin cfg0.N) :
    iblk m c 0 t = E2 (a := 512) (b := 2048) (fun i k => f (t.val % 4 * 512 + i) (0 * 2048 + k)) :=
  block_E2 _ (V0 m c f g h) _ (ind0 t).1 (ind0 t).2
    (rect_emb_val (cfg0.win 0) t · 0) (rect_emb_val (cfg0.win 0) t · 1)

theorem x1 (h : At m c f g) (t : Fin cfg0.N) :
    iblk m c 1 t = E2 (a := 1024) (b := 2048) (fun j k => g (t.val / 4 * 1024 + j) (0 * 2048 + k)) :=
  block_E2 _ (V1 m c f g h) _ (ind1 t).1 (ind1 t).2
    (rect_emb_val (cfg0.win 1) t · 0) (rect_emb_val (cfg0.win 1) t · 1)

/-- The result: row by row products of the two arguments. -/
theorem arr (h : At m c f g) :
    (dats m 0 c).arrAt 2 cfg0.N = E2 (a := 2048) (b := 2048) (fun i j => ∑ k : Fin 2048, f i k * g j k) := by
  refine (dats m 0 c).arrAt_eq_of_covers 2 _ (by decide +kernel) fun t _ y => ?_
  rw [after0_2, x0 m c f g h, x1 m c f g h, out]
  simp only [Nat.zero_mul, Nat.zero_add]
  exact congrFun (block_E2 (fun i j => ∑ k : Fin 2048, f i k * g j k) rfl ((cfg0.win 2).blk t).view.emb
    (ind2 t).1 (ind2 t).2 (rect_emb_val (cfg0.win 2) t · 0) (rect_emb_val (cfg0.win 2) t · 1)).symm y

/-- The reference's product, as it is printed. -/
theorem ref : Host.dotGeneral (F := Ideal) (φ₁ := .f32) (φ₂ := .f32) Cert.Reference6Ideal.dot_S2048x2048_S2048x2048_S2048x2048_1_1_0_0_n_n none (E2 f) (E2 g)
    = E2 (fun i j => ∑ k : Fin 2048, f i k * g j k) := by
  funext x; idx_vars x; pointwise; rfl

theorem algebraic : Cert.algebraic_Kernel6Ideal_Reference6Ideal := fun m g m' g' _ he =>
  ⟨_, (θ_run Cert.Kernel6Ideal.defs _ _).mono (fun r h c => by
      obtain ⟨h0, h1, h2⟩ := h c
      exact ⟨h0.trans (arr m c _ _ ⟨un_eq _, un_eq _⟩), h1, h2⟩) (Cert.Kernel6Ideal.Value.run_blocks (F := Ideal) m g),
    (θ_run Cert.Reference6Ideal.defs _ _).mono (fun r h c => by
      obtain ⟨h0, h1, h2⟩ := h c
      refine ⟨h0.trans ?_, h1, h2⟩
      rw [(he c).1, (he c).2]
      exact (congrArg₂ (Host.dotGeneral (F := Ideal) (φ₁ := .f32) (φ₂ := .f32) Cert.Reference6Ideal.dot_S2048x2048_S2048x2048_S2048x2048_1_1_0_0_n_n none) (un_eq _) (un_eq _)).trans (ref _ _)) (Cert.Reference6Ideal.Value.run (F := Ideal) m' g')⟩

end Cert.Prod.OutDx

end
-- ==== Proof.Prod.InProj.lean ====
/- The input projection: the normed rows with the aligned weight's rows, tile by tile. -/
module

public import proofs.«01_k».proof.Proof.Prod.InDx
public import proofs.«01_k».proof.Proof.Gen.Kernel7Ideal.Value
public import proofs.«01_k».proof.Proof.Gen.Reference7Ideal.Run

@[expose] public section

set_option maxRecDepth 16384

noncomputable section

namespace Cert.Prod.InProj

open Idealize.ShloMosaic Idealize.ShloMosaic.TcCoe Idealize.SL.Sem
open Pipeline.Window (rect_emb_val)

section Layout

open Cert.Reference7Ideal

/-- The reference's layout of the columns. -/
def lay (z : S2048x7184.Idx → EReal) : S2048x7296.Idx → EReal :=
  concatenate S2048x7296 1 [⟨S2048x3072, extractStridedSlice S2048x3072 ![0, 0] z Gen.slices_S2048x7184_S2048x3072_0_0⟩,
    ⟨S2048x4096, extractStridedSlice S2048x4096 ![0, 3088] z Gen.slices_S2048x7184_S2048x4096_0_3088⟩,
    ⟨S2048x16, extractStridedSlice S2048x16 ![0, 3072] z Gen.slices_S2048x7184_S2048x16_0_3072⟩,
    ⟨S2048x112, broadcastInDim S2048x112 ![] Gen.bcast_S_S2048x112 (constant (F := Ideal) S_ .f32 0x00000000#32)⟩] Gen.concatenates_S2048x3072_S2048x4096_S2048x16_S2048x112_S2048x7296_d1

theorem lay_E2 (z : ℕ → ℕ → EReal) : lay (E2 z) = E2 (fun i j => InDx.al z j i) := by
  unfold lay
  funext x; idx_vars x; pointwise
  show _ = InDx.al z x1.val x0.val
  unfold InDx.al
  split
  · rfl
  · split
    · rename_i h1 h2
      exact Eq.trans rfl (if_pos (show x1.val < 7168 by omega)).symm
    · rename_i h1 h2
      refine Eq.trans ?_ (if_neg (show ¬x1.val < 7168 by omega)).symm
      by_cases h3 : x1.val - 3072 - 4096 < 16
      · refine Eq.trans (dif_pos h3) (Eq.trans ?_ (if_pos (show x1.val < 7184 by omega)).symm)
        exact congrArg (z x0.val) (show 3072 + (x1.val - 3072 - 4096) = 3072 + (x1.val - 7168) by omega)
      · exact Eq.trans (dif_neg h3) (if_neg (show ¬x1.val < 7184 by omega)).symm

end Layout

open Cert.Kernel7Ideal Cert.Kernel7Ideal.Gen

/-- The product of a tile: rows of the first with rows of the second. -/
theorem pay (f g : ℕ → ℕ → EReal) :
    k0_pay1 (F := Ideal) (E2 f) (E2 g) = E2 (fun i j => ∑ k : Fin 2048, f i k * g j k) := by
  unfold k0_pay1
  simp only [shapeCast_self]
  funext x; idx_vars x; pointwise
  simp only [E2]
  rfl

/-- What the body leaves in the result's window. -/
theorem out (f g : ℕ → ℕ → EReal) :
    out0_2 (F := Ideal) (E2 f) (E2 g) = E2 (fun i j => ∑ k : Fin 2048, f i k * g j k) := by
  unfold out0_2
  rw [View.canon_cons_unit_lit _ _ _ (by decide), View.ld_unit_lit _ _ (by decide), View.ld_unit_lit _ _ (by decide), pay]

theorem ind0 : ∀ t : Fin cfg0.N, (cfg0.win 0).index t 0 = t.val % 4 ∧ (cfg0.win 0).index t 1 = 0 := by decide +kernel
theorem ind1 : ∀ t : Fin cfg0.N, (cfg0.win 1).index t 0 = t.val / 4 ∧ (cfg0.win 1).index t 1 = 0 := by decide +kernel
theorem ind2 : ∀ t : Fin cfg0.N, (cfg0.win 2).index t 0 = t.val % 4 ∧ (cfg0.win 2).index t 1 = t.val / 4 := by decide +kernel

variable (m : (ℓ : Loc nD τ sig) → Buf (Elt Ideal) ℓ) (c : Dev nD) (f g : ℕ → ℕ → EReal)

/-- The arguments' values. -/
def At : Prop := m ((c : Thread nD τ).loc main_arg1) = E2 (a := 2048) (b := 2048) f ∧ m ((c : Thread nD τ).loc main_arg0) = E2 (a := 2048) (b := 7184) g

theorem V0 (h : At m c f g) : V m c (Pipeline.arrRef spec0 0) = E2 (a := 2048) (b := 2048) f := by
  refine Eq.trans ?_ h.1
  show StableHlo.after hostOps0 (fun b => m (c, b)) (Proc.devRef .tc main_v0) = _; after_results; rfl

theorem V1 (h : At m c f g) : V m c (Pipeline.arrRef spec0 1) = E2 (a := 7296) (b := 2048) (InDx.al g) := by
  refine Eq.trans (b := InDx.lay (m ((c : Thread nD τ).loc main_arg0))) ?_ ((congrArg InDx.lay h.2).trans (InDx.lay_E2 g))
  show StableHlo.after hostOps0 (fun b => m (c, b)) (Proc.devRef .tc main_v7) = _; after_results; rfl

theorem x0 (h : At m c f g) (t : Fin cfg0.N) :
    iblk m c 0 t = E2 (a := 512) (b := 2048) (fun i k => f (t.val % 4 * 512 + i) (0 * 2048 + k)) :=
  block_E2 _ (V0 m c f g h) _ (ind0 t).1 (ind0 t).2
    (rect_emb_val (cfg0.win 0) t · 0) (rect_emb_val (cfg0.win 0) t · 1)

theorem x1 (h : At m c f g) (t : Fin cfg0.N) :
    iblk m c 1 t = E2 (a := 2432) (b := 2048) (fun j k => InDx.al g (t.val / 4 * 2432 + j) (0 * 2048 + k)) :=
  block_E2 _ (V1 m c f g h) _ (ind1 t).1 (ind1 t).2
    (rect_emb_val (cfg0.win 1) t · 0) (rect_emb_val (cfg0.win 1) t · 1)

/-- A sum of products with the aligned weight: the product's columns in the same order. -/
theorem al_sum (i j : ℕ) :
    ∑ k : Fin 2048, f i k * InDx.al g j k = InDx.al (fun i j => ∑ k : Fin 2048, f i k * g k j) j i := by
  unfold InDx.al
  split
  · rfl
  · split
    · rfl
    · split
      · rfl
      · exact Finset.sum_eq_zero fun k _ => mul_zero _

/-- What a point leaves in the result's window. -/
theorem outs (h : At m c f g) (t : Fin cfg0.N) :
    out0_2 (iblk m c 0 t) (iblk m c 1 t) = E2 (a := 512) (b := 2432)
      (fun i j => InDx.al (fun i j => ∑ k : Fin 2048, f i k * g k j) (t.val / 4 * 2432 + j) (t.val % 4 * 512 + i)) := by
  rw [x0 m c f g h, x1 m c f g h, out]
  simp only [Nat.zero_mul, Nat.zero_add, al_sum]

/-- The result: the product, its columns in the calls' order. -/
theorem arr (h : At m c f g) :
    (dats m 0 c).arrAt 2 cfg0.N = E2 (a := 2048) (b := 7296) (fun i j => InDx.al (fun i j => ∑ k : Fin 2048, f i k * g k j) j i) := by
  refine (dats m 0 c).arrAt_eq_of_covers 2 _ (by decide +kernel) fun t _ y => ?_
  rw [after0_2, outs m c f g h]
  exact congrFun (block_E2 (fun i j => InDx.al (fun i j => ∑ k : Fin 2048, f i k * g k j) j i) rfl ((cfg0.win 2).blk t).view.emb
    (ind2 t).1 (ind2 t).2 (rect_emb_val (cfg0.win 2) t · 0) (rect_emb_val (cfg0.win 2) t · 1)).symm y

/-- The reference's product, as it is printed. -/
theorem ref : Host.dotGeneral (F := Ideal) (φ₁ := .f32) (φ₂ := .f32) Cert.Reference7Ideal.dot_S2048x2048_S2048x7184_S2048x7184_1_0_0_1_n_n none (E2 f) (E2 g)
    = E2 (fun i j => ∑ k : Fin 2048, f i k * g k j) := by
  funext x; idx_vars x; pointwise; rfl

theorem algebraic : Cert.algebraic_Kernel7Ideal_Reference7Ideal := fun m g m' g' _ he =>
  ⟨_, (θ_run Cert.Kernel7Ideal.defs _ _).mono (fun r h c => by
      obtain ⟨h0, h1, h2⟩ := h c
      exact ⟨h0.trans (arr m c _ _ ⟨un_eq _, un_eq _⟩), h1, h2⟩) (Cert.Kernel7Ideal.Value.run_blocks (F := Ideal) m g),
    (θ_run Cert.Reference7Ideal.defs _ _).mono (fun r h c => by
      obtain ⟨h0, h1, h2⟩ := h c
      refine ⟨h0.trans ?_, h1, h2⟩
      rw [(he c).1, (he c).2]
      refine Eq.trans ?_ ((congrArg lay (ref (un (m ((c : Thread nD τ).loc main_arg1))) (un (m ((c : Thread nD τ).loc main_arg0))))).trans (lay_E2 _))
      rw [← un_eq, ← un_eq]; rfl) (Cert.Reference7Ideal.Value.run (F := Ideal) m' g')⟩

end Cert.Prod.InProj

end
-- ==== Proof.Prod.OutProj.lean ====
/- The output projection: the two groups' outputs, each with its rows of the weight, their products added, tile by tile. -/
module

public import proofs.«01_k».proof.Defs
public import proofs.«01_k».proof.Proof.Prod.Arr
public import proofs.«01_k».proof.Proof.Gen.Kernel8Ideal.Value
public import proofs.«01_k».proof.Proof.Gen.Reference8Ideal.Run

@[expose] public section

set_option maxRecDepth 16384

noncomputable section

namespace Cert.Prod.OutProj

open Idealize.ShloMosaic Idealize.ShloMosaic.TcCoe Idealize.SL.Sem Cert.Kernel8Ideal Cert.Kernel8Ideal.Gen
open Pipeline.Window (rect_emb_val)

/-- The sum of the two products. -/
theorem pay (f0 g0 f1 g1 : ℕ → ℕ → EReal) :
    k0_pay1 (F := Ideal) (E2 f0) (E2 g0) (E2 f1) (E2 g1)
      = E2 (fun i j => (∑ k : Fin 1024, f0 i k * g0 k j) + (∑ k : Fin 1024, f1 i k * g1 k j)) := by
  unfold k0_pay1
  simp only [shapeCast_self]
  funext x; idx_vars x; pointwise
  simp only [E2]
  rfl

/-- A load of rows from the block of the weight. -/
theorem ld (o : ℕ) (f : ℕ → ℕ → EReal) (inb) :
    View.ld (Val := Elt Ideal) (e' := .bf16) (E2 (a := 2048) (b := 1024) f) (Rect.unit (s := S2048x1024) ![o, 0] S1024x1024.size inb) = E2 (a := 1024) (b := 1024) (fun i j => f (o + i) (0 + j)) := by
  funext x
  exact congrArg₂ f (congrArg (o + ·) (Nat.one_mul _)) (congrArg (0 + ·) (Nat.one_mul _))

/-- What the body leaves in the result's window. -/
theorem out (f0 f1 w : ℕ → ℕ → EReal) :
    out0_3 (F := Ideal) (E2 f0) (E2 f1) (E2 w)
      = E2 (fun i j => (∑ k : Fin 1024, f0 i k * w (0 + k) (0 + j)) + (∑ k : Fin 1024, f1 i k * w (1024 + k) (0 + j))) := by
  unfold out0_3
  rw [View.canon_cons_unit_lit _ _ _ (by decide)]
  simp only [ld]
  rw [View.ld_unit_lit _ _ (by decide), View.ld_unit_lit _ _ (by decide), pay]

theorem ind0 : ∀ t : Fin cfg0.N, (cfg0.win 0).index t 0 = t.val % 4 ∧ (cfg0.win 0).index t 1 = 0 := by decide +kernel
theorem ind1 : ∀ t : Fin cfg0.N, (cfg0.win 1).index t 0 = t.val % 4 ∧ (cfg0.win 1).index t 1 = 0 := by decide +kernel
theorem ind2 : ∀ t : Fin cfg0.N, (cfg0.win 2).index t 0 = 0 ∧ (cfg0.win 2).index t 1 = t.val / 4 := by decide +kernel
theorem ind3 : ∀ t : Fin cfg0.N, (cfg0.win 3).index t 0 = t.val % 4 ∧ (cfg0.win 3).index t 1 = t.val / 4 := by decide +kernel

variable (m : (ℓ : Loc nD τ sig) → Buf (Elt Ideal) ℓ) (c : Dev nD) (f g : ℕ → ℕ → EReal)

/-- The arguments' values. -/
def At : Prop := m ((c : Thread nD τ).loc main_arg1) = E2 (a := 2048) (b := 2048) f ∧ m ((c : Thread nD τ).loc main_arg0) = E2 (a := 2048) (b := 2048) g

theorem V0 (h : At m c f g) : V m c (Pipeline.arrRef spec0 0) = E2 (a := 2048) (b := 1024) (fun i j => f (0 + i) (0 + j)) := by
  refine Eq.trans (b := extractStridedSlice S2048x1024 ![0, 0] (m ((c : Thread nD τ).loc main_arg1)) slices_S2048x2048_S2048x1024_0_0) ?_ ?_
  · show StableHlo.after hostOps0 (fun b => m (c, b)) (Proc.devRef .tc main_v1) = _; after_results; rfl
  · rw [h.1]; exact slice_E2 f _

theorem V1 (h : At m c f g) : V m c (Pipeline.arrRef spec0 1) = E2 (a := 2048) (b := 1024) (fun i j => f (0 + i) (1024 + j)) := by
  refine Eq.trans (b := extractStridedSlice S2048x1024 ![0, 1024] (m ((c : Thread nD τ).loc main_arg1)) slices_S2048x2048_S2048x1024_0_1024) ?_ ?_
  · show StableHlo.after hostOps0 (fun b => m (c, b)) (Proc.devRef .tc main_v2) = _; after_results; rfl
  · rw [h.1]; exact slice_E2 f _

theorem V2 (h : At m c f g) : V m c (Pipeline.arrRef spec0 2) = E2 (a := 2048) (b := 2048) g := by
  refine Eq.trans ?_ h.2
  show StableHlo.after hostOps0 (fun b => m (c, b)) (Proc.devRef .tc main_v3) = _; after_results; rfl

theorem x0 (h : At m c f g) (t : Fin cfg0.N) :
    iblk m c 0 t = E2 (a := 512) (b := 1024) (fun i k => f (0 + (t.val % 4 * 512 + i)) (0 + (0 * 1024 + k))) :=
  block_E2 _ (V0 m c f g h) _ (ind0 t).1 (ind0 t).2
    (rect_emb_val (cfg0.win 0) t · 0) (rect_emb_val (cfg0.win 0) t · 1)

theorem x1 (h : At m c f g) (t : Fin cfg0.N) :
    iblk m c 1 t = E2 (a := 512) (b := 1024) (fun i k => f (0 + (t.val % 4 * 512 + i)) (1024 + (0 * 1024 + k))) :=
  block_E2 _ (V1 m c f g h) _ (ind1 t).1 (ind1 t).2
    (rect_emb_val (cfg0.win 1) t · 0) (rect_emb_val (cfg0.win 1) t · 1)

theorem x2 (h : At m c f g) (t : Fin cfg0.N) :
    iblk m c 2 t = E2 (a := 2048) (b := 1024) (fun k j => g (0 * 2048 + k) (t.val / 4 * 1024 + j)) :=
  block_E2 _ (V2 m c f g h) _ (ind2 t).1 (ind2 t).2
    (rect_emb_val (cfg0.win 2) t · 0) (rect_emb_val (cfg0.win 2) t · 1)

/-- What a point leaves in the result's window. -/
theorem outs (h : At m c f g) (t : Fin cfg0.N) :
    out0_3 (iblk m c 0 t) (iblk m c 1 t) (iblk m c 2 t) = E2 (a := 512) (b := 1024)
      (fun i j => ∑ k : Fin 2048, f (t.val % 4 * 512 + i) k * g k (t.val / 4 * 1024 + j)) := by
  rw [x0 m c f g h, x1 m c f g h, x2 m c f g h, out]
  refine E2_congr fun i _ j _ => ?_
  simp only [Nat.zero_mul, Nat.zero_add]
  exact (Fin.sum_univ_add (a := 1024) (b := 1024) (fun k : Fin (1024 + 1024) => f (t.val % 4 * 512 + i) k * g k (t.val / 4 * 1024 + j))).symm

/-- The result: the product. -/
theorem arr (h : At m c f g) :
    (dats m 0 c).arrAt 3 cfg0.N = E2 (a := 2048) (b := 2048) (fun i j => ∑ k : Fin 2048, f i k * g k j) := by
  refine (dats m 0 c).arrAt_eq_of_covers 3 _ (by decide +kernel) fun t _ y => ?_
  rw [after0_3, outs m c f g h]
  exact congrFun (block_E2 (fun i j => ∑ k : Fin 2048, f i k * g k j) rfl ((cfg0.win 3).blk t).view.emb
    (ind3 t).1 (ind3 t).2 (rect_emb_val (cfg0.win 3) t · 0) (rect_emb_val (cfg0.win 3) t · 1)).symm y

/-- The reference's product, as it is printed. -/
theorem ref : Host.dotGeneral (F := Ideal) (φ₁ := .f32) (φ₂ := .f32) Cert.Reference8Ideal.dot_S2048x2048_S2048x2048_S2048x2048_1_0_0_1_n_n none (E2 f) (E2 g)
    = E2 (fun i j => ∑ k : Fin 2048, f i k * g k j) := by
  funext x; idx_vars x; pointwise; rfl

theorem algebraic : Cert.algebraic_Kernel8Ideal_Reference8Ideal := fun m g m' g' _ he =>
  ⟨_, (θ_run Cert.Kernel8Ideal.defs _ _).mono (fun r h c => by
      obtain ⟨h0, h1, h2⟩ := h c
      exact ⟨h0.trans (arr m c _ _ ⟨un_eq _, un_eq _⟩), h1, h2⟩) (Cert.Kernel8Ideal.Value.run_blocks (F := Ideal) m g),
    (θ_run Cert.Reference8Ideal.defs _ _).mono (fun r h c => by
      obtain ⟨h0, h1, h2⟩ := h c
      refine ⟨h0.trans ?_, h1, h2⟩
      rw [(he c).1, (he c).2]
      refine Eq.trans ?_ (ref (un (m ((c : Thread nD τ).loc main_arg1))) (un (m ((c : Thread nD τ).loc main_arg0))))
      rw [← un_eq, ← un_eq]) (Cert.Reference8Ideal.Value.run (F := Ideal) m' g')⟩

end Cert.Prod.OutProj

end
-- ==== Proof.Prod.InDwGate.lean ====
/- The gradient of the input projection's columns of the decay's input: dz, padded and transposed, with the inputs. -/
module

public import proofs.«01_k».proof.Proof.Prod.InDx
public import proofs.«01_k».proof.Proof.Gen.Kernel9Ideal.Value
public import proofs.«01_k».proof.Proof.Gen.Reference9Ideal.Run

@[expose] public section

set_option maxRecDepth 16384

noncomputable section

namespace Cert.Prod.InDwGate

open Idealize.ShloMosaic Idealize.ShloMosaic.TcCoe Idealize.SL.Sem
open Pipeline.Window (rect_emb_val)

/-- Zero behind the first sixteen. -/
def low (f : ℕ → ℕ → EReal) (i j : ℕ) : EReal := if j < 16 then f i j else 0

/-- The product's rows, with zero rows behind. -/
def rows (f g : ℕ → ℕ → EReal) (i j : ℕ) : EReal := if i < 16 then ∑ k : Fin 2048, f k i * g k j else 0

theorem low_sum (f g : ℕ → ℕ → EReal) (i j : ℕ) : ∑ k : Fin 2048, low f k i * g k j = rows f g i j := by
  unfold low rows
  split
  · rfl
  · exact Finset.sum_eq_zero fun k _ => zero_mul _

section Layout

open Cert.Reference9Ideal

/-- The reference's rows, with zero rows behind. -/
def lay (z : S16x2048.Idx → EReal) : S128x2048.Idx → EReal :=
  concatenate S128x2048 0 [⟨S16x2048, z⟩, ⟨S112x2048, broadcastInDim S112x2048 ![] Gen.bcast_S_S112x2048 (constant (F := Ideal) S_ .bf16 0x0000#16)⟩]
    Gen.concatenates_S16x2048_S112x2048_S128x2048_d0

theorem ref (f g : ℕ → ℕ → EReal) : lay (truncf (F := Ideal) (φ := .f32) .bf16 (transpose S16x2048 [1, 0] (transpose S2048x16 [1, 0] (Host.dotGeneral (F := Ideal) (φ₁ := .f32) (φ₂ := .f32)
      dot_S2048x16_S2048x2048_S16x2048_0_0_1_1_n_n none (E2 f) (E2 g))
      Gen.transposes_S16x2048_S2048x16_1_0) Gen.transposes_S2048x16_S16x2048_1_0) Gen.bitsLt_bf16_f32) = E2 (rows f g) := by
  have e : truncf (F := Ideal) (φ := .f32) .bf16 (transpose S16x2048 [1, 0] (transpose S2048x16 [1, 0] (Host.dotGeneral (F := Ideal) (φ₁ := .f32) (φ₂ := .f32)
      dot_S2048x16_S2048x2048_S16x2048_0_0_1_1_n_n none (E2 f) (E2 g))
      Gen.transposes_S16x2048_S2048x16_1_0) Gen.transposes_S2048x16_S16x2048_1_0) Gen.bitsLt_bf16_f32
      = E2 (fun i j => ∑ k : Fin 2048, f k i * g k j) := by
    funext x; idx_vars x; pointwise; rfl
  rw [e]
  unfold lay
  funext x; idx_vars x; pointwise
  show _ = rows f g x0.val x1.val
  unfold rows
  split <;> rfl

end Layout

open Cert.Kernel9Ideal Cert.Kernel9Ideal.Gen

/-- The product of the tile: columns of the first with columns of the second. -/
theorem pay (f g : ℕ → ℕ → EReal) :
    k0_pay1 (F := Ideal) (E2 f) (E2 g) = E2 (fun i j => ∑ k : Fin 2048, f k i * g k j) := by
  unfold k0_pay1
  simp only [shapeCast_self]
  funext x; idx_vars x; pointwise
  simp only [E2]
  rfl

/-- dz's columns, padded to a full lane block. -/
def wide (z : S2048x16.Idx → EReal) : S2048x128.Idx → EReal :=
  pad S2048x128 ![0, 0] ![0, 112] ![0, 0] z (sitofp (F := Ideal) .bf16 (constantI S_ 32 0#32)) pads_S2048x16_S2048x128_000_01120 h_S_

theorem wide_E2 (f : ℕ → ℕ → EReal) : wide (E2 f) = E2 (low f) := by
  unfold wide
  funext x; idx_vars x; pointwise
  show _ = if x1.val < 16 then f x0.val x1.val else 0
  split
  · rfl
  · exact InDx.zero

theorem ind0 : ∀ t : Fin cfg0.N, (cfg0.win 0).index t 0 = 0 ∧ (cfg0.win 0).index t 1 = 0 := by decide +kernel
theorem ind1 : ∀ t : Fin cfg0.N, (cfg0.win 1).index t 0 = 0 ∧ (cfg0.win 1).index t 1 = 0 := by decide +kernel
theorem ind2 : ∀ t : Fin cfg0.N, (cfg0.win 2).index t 0 = 0 ∧ (cfg0.win 2).index t 1 = 0 := by decide +kernel

variable (m : (ℓ : Loc nD τ sig) → Buf (Elt Ideal) ℓ) (c : Dev nD) (f g : ℕ → ℕ → EReal)

/-- The arguments' values. -/
def At : Prop := m ((c : Thread nD τ).loc main_arg1) = E2 (a := 2048) (b := 16) f ∧ m ((c : Thread nD τ).loc main_arg0) = E2 (a := 2048) (b := 2048) g

theorem V0 (h : At m c f g) : V m c (Pipeline.arrRef spec0 0) = E2 (a := 2048) (b := 128) (low f) := by
  refine Eq.trans (b := wide (m ((c : Thread nD τ).loc main_arg1))) ?_ ((congrArg wide h.1).trans (wide_E2 f))
  show StableHlo.after (List.flatten [hostOps0, hostOps0_1, hostOps0_2]) (fun b => m (c, b)) (Proc.devRef .tc main_v1) = _
  simp only [hostOps0, hostOps0_1, hostOps0_2, List.flatten_cons, List.flatten_nil, List.append_nil, List.cons_append, List.nil_append]
  after_results; rfl

theorem V1 (h : At m c f g) : V m c (Pipeline.arrRef spec0 1) = E2 (a := 2048) (b := 2048) g := by
  refine Eq.trans ?_ h.2
  show StableHlo.after (List.flatten [hostOps0, hostOps0_1, hostOps0_2]) (fun b => m (c, b)) (Proc.devRef .tc main_v2) = _
  simp only [hostOps0, hostOps0_1, hostOps0_2, List.flatten_cons, List.flatten_nil, List.append_nil, List.cons_append, List.nil_append]
  after_results; rfl

theorem x0 (h : At m c f g) (t : Fin cfg0.N) :
    iblk m c 0 t = E2 (a := 2048) (b := 128) (fun i k => low f (0 * 2048 + i) (0 * 128 + k)) :=
  block_E2 _ (V0 m c f g h) _ (ind0 t).1 (ind0 t).2
    (rect_emb_val (cfg0.win 0) t · 0) (rect_emb_val (cfg0.win 0) t · 1)

theorem x1 (h : At m c f g) (t : Fin cfg0.N) :
    iblk m c 1 t = E2 (a := 2048) (b := 2048) (fun i k => g (0 * 2048 + i) (0 * 2048 + k)) :=
  block_E2 _ (V1 m c f g h) _ (ind1 t).1 (ind1 t).2
    (rect_emb_val (cfg0.win 1) t · 0) (rect_emb_val (cfg0.win 1) t · 1)

/-- What the one point leaves in the result's window. -/
theorem outs (h : At m c f g) (t : Fin cfg0.N) :
    outsAt0 m c t = E2 (a := 128) (b := 2048) (fun i j => rows f g (0 * 128 + i) (0 * 2048 + j)) := by
  unfold outsAt0
  frame_out
  rw [x0 m c f g h, x1 m c f g h, pay]
  simp only [Nat.zero_mul, Nat.zero_add, low_sum]

/-- The result: the product's rows, with zero rows behind. -/
theorem arr (h : At m c f g) :
    (dats m 0 c).arrAt 2 cfg0.N = E2 (a := 128) (b := 2048) (rows f g) := by
  refine (dats m 0 c).arrAt_eq_of_covers 2 _ (by decide +kernel) fun t _ y => ?_
  rw [after0_2, outs m c f g h]
  exact congrFun (block_E2 (rows f g) rfl ((cfg0.win 2).blk t).view.emb
    (ind2 t).1 (ind2 t).2 (rect_emb_val (cfg0.win 2) t · 0) (rect_emb_val (cfg0.win 2) t · 1)).symm y

theorem algebraic : Cert.algebraic_Kernel9Ideal_Reference9Ideal := fun m g m' g' _ he =>
  ⟨_, (θ_run Cert.Kernel9Ideal.defs _ _).mono (fun r h c => by
      obtain ⟨h0, h1, h2⟩ := h c
      exact ⟨h0.trans (arr m c _ _ ⟨un_eq _, un_eq _⟩), h1, h2⟩) (Cert.Kernel9Ideal.Value.run_blocks (F := Ideal) m g),
    (θ_run Cert.Reference9Ideal.defs _ _).mono (fun r h c => by
      obtain ⟨h0, h1, h2⟩ := h c
      refine ⟨h0.trans ?_, h1, h2⟩
      rw [(he c).1, (he c).2]
      refine Eq.trans ?_ (ref (un (m ((c : Thread nD τ).loc main_arg1))) (un (m ((c : Thread nD τ).loc main_arg0))))
      rw [← un_eq, ← un_eq]; rfl) (Cert.Reference9Ideal.Value.run (F := Ideal) m' g')⟩

end Cert.Prod.InDwGate

end
-- ==== Proof.Prod.Norm.lean ====
/- The norm of a row, times a weight per column, as the kernel and the reference both compute it. -/
module

public import proofs.«01_k».proof.Proof.Prod.Arr

@[expose] public section

noncomputable section

namespace Cert.Prod

open Idealize.ShloMosaic

/-- An array of rank 1, written as a function of its position. -/
def E1 {a : ℕ} (f : ℕ → EReal) : (⟨1, ![a]⟩ : Shape).Idx → EReal := fun i => f (i 0).val

/-- The function of an array of rank 1, nothing outside its shape. -/
def un1 {a : ℕ} (A : (⟨1, ![a]⟩ : Shape).Idx → EReal) (i : ℕ) : EReal := if h : i < a then A (ix1 ⟨i, h⟩) else 0

theorem un1_eq {a : ℕ} (A : (⟨1, ![a]⟩ : Shape).Idx → EReal) : A = E1 (un1 A) := by
  funext x
  show A x = un1 A (x 0).val
  unfold un1
  rw [dif_pos (show (x 0).val < a from (x 0).isLt)]
  exact congrArg A (ValueIdx.eq_ix1 x)

theorem un_val {a b : ℕ} (A : (⟨2, ![a, b]⟩ : Shape).Idx → EReal) (i : Fin a) (j : Fin b) : un A i.val j.val = A (ix2 i j) :=
  dif_pos ⟨i.isLt, j.isLt⟩

theorem un1_val {a : ℕ} (A : (⟨1, ![a]⟩ : Shape).Idx → EReal) (i : Fin a) : un1 A i.val = A (ix1 i) := dif_pos i.isLt

/-- The norm: each entry times the reciprocal root of its row's mean square, times its column's weight. -/
def nrm (x : ℕ → ℕ → EReal) (g : ℕ → EReal) (i j : ℕ) : EReal :=
  x i j * FloatOps.rsqrt (F := Ideal) (φ := .f32) (FloatOps.addf (F := Ideal) (φ := .f32)
    (FloatOps.divf (F := Ideal) (φ := .f32) (∑ k : Fin 2048, x i k * x i k) (Scalar.ofBits .f32 0x45000000#32)) (Scalar.ofBits .f32 0x358637BD#32)) * g j

end Cert.Prod

end
-- ==== Proof.Prod.RmsFwd.lean ====
/- The norm before the mixer, 512 rows at a time. -/
module

public import proofs.«01_k».proof.Defs
public import proofs.«01_k».proof.Proof.Prod.Norm
public import proofs.«01_k».proof.Proof.Gen.Kernel10Ideal.Value
public import proofs.«01_k».proof.Proof.Gen.Reference10Ideal.Run

@[expose] public section

set_option maxRecDepth 16384

noncomputable section

namespace Cert.Prod.RmsFwd

open Idealize.ShloMosaic Idealize.ShloMosaic.TcCoe Idealize.SL.Sem Cert.Kernel10Ideal Cert.Kernel10Ideal.Gen
open Pipeline.Window (rect_emb_val)

/-- The norm of a block's rows. -/
theorem pay (f : ℕ → ℕ → EReal) (w : ℕ → EReal) : k0_pay1 (F := Ideal) (E2 f) (E2 fun _ j => w j) = E2 (nrm f w) := by
  unfold k0_pay1
  simp only [shapeCast_self]
  funext x; idx_vars x; pointwise
  simp only [E2]
  rfl

/-- What the body leaves in the result's window. -/
theorem out (f : ℕ → ℕ → EReal) (w : ℕ → EReal) : out0_2 (F := Ideal) (E2 f) (E2 fun _ j => w j) = E2 (nrm f w) := by
  unfold out0_2
  rw [View.canon_cons_unit_lit _ _ _ (by decide), View.ld_unit_lit _ _ (by decide), View.ld_unit_lit _ _ (by decide), pay]

theorem ind : ∀ t : Fin cfg0.N, ((cfg0.win 0).index t 0 = t.val ∧ (cfg0.win 0).index t 1 = 0) ∧ ((cfg0.win 1).index t 0 = 0 ∧ (cfg0.win 1).index t 1 = 0) ∧ (cfg0.win 2).index t 0 = t.val ∧ (cfg0.win 2).index t 1 = 0 := by decide +kernel

variable (m : (ℓ : Loc nD τ sig) → Buf (Elt Ideal) ℓ) (c : Dev nD) (f : ℕ → ℕ → EReal) (w : ℕ → EReal)

/-- The arguments' values. -/
def At : Prop := m ((c : Thread nD τ).loc main_arg0) = E2 (a := 2048) (b := 2048) f ∧ m ((c : Thread nD τ).loc main_arg1) = E1 (a := 2048) w

/-- The weight, as a row. -/
theorem V1 (h : At m c f w) : V m c (Pipeline.arrRef spec0 1) = E2 (a := 1) (b := 2048) (fun _ j => w j) := by
  refine Eq.trans (b := broadcastInDim S1x2048 ![1] bcast_S2048_S1x2048_1 (m ((c : Thread nD τ).loc main_arg1))) ?_ ?_
  · show StableHlo.after hostOps0 (fun b => m (c, b)) (Proc.devRef .tc main_v0) = _
    simp only [hostOps0]
    after_results
  · rw [h.2]; funext x; idx_vars x; pointwise; rfl

theorem x0 (h : At m c f w) (t : Fin cfg0.N) : iblk m c 0 t = E2 (a := 512) (b := 2048) (fun i k => f (t.val * 512 + i) (0 * 2048 + k)) :=
  block_E2 _ ((V_main_arg0 m c).trans h.1) _ (ind t).1.1 (ind t).1.2 (rect_emb_val (cfg0.win 0) t · 0) (rect_emb_val (cfg0.win 0) t · 1)

theorem x1 (h : At m c f w) (t : Fin cfg0.N) : iblk m c 1 t = E2 (a := 1) (b := 2048) (fun _ k => w (0 * 2048 + k)) :=
  block_E2 (fun _ j => w j) (V1 m c f w h) _ (ind t).2.1.1 (ind t).2.1.2 (rect_emb_val (cfg0.win 1) t · 0) (rect_emb_val (cfg0.win 1) t · 1)

/-- What a point leaves in the result's window. -/
theorem outs (h : At m c f w) (t : Fin cfg0.N) :
    out0_2 (iblk m c 0 t) (iblk m c 1 t) = E2 (a := 512) (b := 2048) (fun i j => nrm f w (t.val * 512 + i) (0 * 2048 + j)) := by
  rw [x0 m c f w h, x1 m c f w h, out]
  simp only [Nat.zero_mul, Nat.zero_add]; rfl

/-- The result: the norm of every row. -/
theorem arr (h : At m c f w) : (dats m 0 c).arrAt 2 cfg0.N = E2 (a := 2048) (b := 2048) (nrm f w) := by
  refine (dats m 0 c).arrAt_eq_of_covers 2 _ (by decide +kernel) fun t _ y => ?_
  rw [after0_2, outs m c f w h]
  exact congrFun (block_E2 (nrm f w) rfl ((cfg0.win 2).blk t).view.emb (ind t).2.2.1 (ind t).2.2.2
    (rect_emb_val (cfg0.win 2) t · 0) (rect_emb_val (cfg0.win 2) t · 1)).symm y

theorem algebraic : Cert.algebraic_Kernel10Ideal_Reference10Ideal := fun m g m' g' _ he =>
  ⟨_, (θ_run Cert.Kernel10Ideal.defs _ _).mono (fun r h c => by
      obtain ⟨h0, h1, h2⟩ := h c
      exact ⟨h0.trans (arr m c _ _ ⟨un_eq _, un1_eq _⟩), h1, h2⟩) (Cert.Kernel10Ideal.Value.run_blocks (F := Ideal) m g),
    (θ_run Cert.Reference10Ideal.defs _ _).mono (fun r h c => by
      obtain ⟨h0, h1, h2⟩ := h c
      refine ⟨h0.trans ?_, h1, h2⟩
      rw [(he c).1, (he c).2]
      generalize hA : m ((c : Thread nD τ).loc main_arg0) = A
      generalize hB : m ((c : Thread nD τ).loc main_arg1) = B
      funext x; idx_vars x; pointwise
      show _ = nrm (un A) (un1 B) x0.val x1.val
      simp only [nrm, un_val, un1_val]; rfl) (Cert.Reference10Ideal.Value.run (F := Ideal) m' g')⟩

end Cert.Prod.RmsFwd

end
-- ==== Proof.Prod.PostFwd.lean ====
/- The norm behind the mixer, added to the residual, and the norm of that sum for the next layer, 512 rows at a time. -/
module

public import proofs.«01_k».proof.Defs
public import proofs.«01_k».proof.Proof.Prod.Norm
public import proofs.«01_k».proof.Proof.Gen.Kernel11Ideal.Value
public import proofs.«01_k».proof.Proof.Gen.Reference11Ideal.Run

@[expose] public section

set_option maxRecDepth 16384

noncomputable section

namespace Cert.Prod.PostFwd

open Idealize.ShloMosaic Idealize.ShloMosaic.TcCoe Idealize.SL.Sem Cert.Kernel11Ideal Cert.Kernel11Ideal.Gen
open Pipeline.Window (rect_emb_val)

/-- The residual and the norm. -/
def post (x y : ℕ → ℕ → EReal) (g : ℕ → EReal) (i j : ℕ) : EReal := x i j + nrm y g i j

/-- The sum of a block's rows and the norm. -/
theorem pay1 (x y : ℕ → ℕ → EReal) (g : ℕ → EReal) : k0_pay1 (F := Ideal) (E2 y) (E2 x) (E2 fun _ j => g j) = E2 (post x y g) := by
  unfold k0_pay1
  simp only [shapeCast_self]
  funext x; idx_vars x; pointwise
  simp only [E2]
  rfl

/-- The norm of that sum. -/
theorem pay2 (x y : ℕ → ℕ → EReal) (g w : ℕ → EReal) :
    k0_pay2 (F := Ideal) (E2 y) (E2 x) (E2 fun _ j => g j) (E2 fun _ j => w j) = E2 (nrm (post x y g) w) := by
  unfold k0_pay2
  simp only [shapeCast_self, pay1]
  funext x; idx_vars x; pointwise
  simp only [E2]
  rfl

/-- What the body leaves in the first result's window. -/
theorem out4 (x y : ℕ → ℕ → EReal) (g w : ℕ → EReal) :
    out0_4 (F := Ideal) (E2 x) (E2 y) (E2 fun _ j => g j) (E2 fun _ j => w j) = E2 (post x y g) := by
  unfold out0_4
  rw [View.canon_cons_unit_lit _ _ _ (by decide)]
  iterate 3 rw [View.ld_unit_lit _ _ (by decide)]
  rw [pay1]

/-- What the body leaves in the second result's window. -/
theorem out5 (x y : ℕ → ℕ → EReal) (g w : ℕ → EReal) :
    out0_5 (F := Ideal) (E2 x) (E2 y) (E2 fun _ j => g j) (E2 fun _ j => w j) = E2 (nrm (post x y g) w) := by
  unfold out0_5
  rw [View.canon_cons_unit_lit _ _ _ (by decide)]
  iterate 4 rw [View.ld_unit_lit _ _ (by decide)]
  rw [pay2]

theorem ind : ∀ t : Fin cfg0.N, ((cfg0.win 0).index t 0 = t.val ∧ (cfg0.win 0).index t 1 = 0) ∧ ((cfg0.win 1).index t 0 = t.val ∧ (cfg0.win 1).index t 1 = 0)
    ∧ ((cfg0.win 2).index t 0 = 0 ∧ (cfg0.win 2).index t 1 = 0) ∧ ((cfg0.win 3).index t 0 = 0 ∧ (cfg0.win 3).index t 1 = 0)
    ∧ ((cfg0.win 4).index t 0 = t.val ∧ (cfg0.win 4).index t 1 = 0) ∧ (cfg0.win 5).index t 0 = t.val ∧ (cfg0.win 5).index t 1 = 0 := by decide +kernel

variable (m : (ℓ : Loc nD τ sig) → Buf (Elt Ideal) ℓ) (c : Dev nD) (x y : ℕ → ℕ → EReal) (g w : ℕ → EReal)

/-- The arguments' values. -/
def At : Prop := m ((c : Thread nD τ).loc main_arg0) = E2 (a := 2048) (b := 2048) x ∧ m ((c : Thread nD τ).loc main_arg1) = E2 (a := 2048) (b := 2048) y
  ∧ m ((c : Thread nD τ).loc main_arg2) = E1 (a := 2048) g ∧ m ((c : Thread nD τ).loc main_arg3) = E1 (a := 2048) w

/-- A weight, as a row. -/
theorem row (g : ℕ → EReal) : broadcastInDim S1x2048 ![1] bcast_S2048_S1x2048_1 (E1 (a := 2048) g) = E2 (a := 1) (b := 2048) (fun _ j => g j) := by
  funext x; idx_vars x; pointwise; rfl

theorem V2 (h : At m c x y g w) : V m c (Pipeline.arrRef spec0 2) = E2 (a := 1) (b := 2048) (fun _ j => g j) := by
  refine Eq.trans (b := broadcastInDim S1x2048 ![1] bcast_S2048_S1x2048_1 (m ((c : Thread nD τ).loc main_arg2))) ?_ ?_
  · show StableHlo.after hostOps0 (fun b => m (c, b)) (Proc.devRef .tc main_v0) = _
    simp only [hostOps0]
    after_results
  · rw [h.2.2.1]; exact row g

theorem V3 (h : At m c x y g w) : V m c (Pipeline.arrRef spec0 3) = E2 (a := 1) (b := 2048) (fun _ j => w j) := by
  refine Eq.trans (b := broadcastInDim S1x2048 ![1] bcast_S2048_S1x2048_1 (m ((c : Thread nD τ).loc main_arg3))) ?_ ?_
  · show StableHlo.after hostOps0 (fun b => m (c, b)) (Proc.devRef .tc main_v1) = _
    simp only [hostOps0]
    after_results
  · rw [h.2.2.2]; exact row w

theorem x0 (h : At m c x y g w) (t : Fin cfg0.N) : iblk m c 0 t = E2 (a := 512) (b := 2048) (fun i k => x (t.val * 512 + i) (0 * 2048 + k)) :=
  block_E2 _ ((V_main_arg0 m c).trans h.1) _ (ind t).1.1 (ind t).1.2 (rect_emb_val (cfg0.win 0) t · 0) (rect_emb_val (cfg0.win 0) t · 1)

theorem x1 (h : At m c x y g w) (t : Fin cfg0.N) : iblk m c 1 t = E2 (a := 512) (b := 2048) (fun i k => y (t.val * 512 + i) (0 * 2048 + k)) :=
  block_E2 _ ((V_main_arg1 m c).trans h.2.1) _ (ind t).2.1.1 (ind t).2.1.2 (rect_emb_val (cfg0.win 1) t · 0) (rect_emb_val (cfg0.win 1) t · 1)

theorem x2 (h : At m c x y g w) (t : Fin cfg0.N) : iblk m c 2 t = E2 (a := 1) (b := 2048) (fun _ k => g (0 * 2048 + k)) :=
  block_E2 (fun _ j => g j) (V2 m c x y g w h) _ (ind t).2.2.1.1 (ind t).2.2.1.2 (rect_emb_val (cfg0.win 2) t · 0) (rect_emb_val (cfg0.win 2) t · 1)

theorem x3 (h : At m c x y g w) (t : Fin cfg0.N) : iblk m c 3 t = E2 (a := 1) (b := 2048) (fun _ k => w (0 * 2048 + k)) :=
  block_E2 (fun _ j => w j) (V3 m c x y g w h) _ (ind t).2.2.2.1.1 (ind t).2.2.2.1.2 (rect_emb_val (cfg0.win 3) t · 0) (rect_emb_val (cfg0.win 3) t · 1)

/-- What a point leaves in the first result's window. -/
theorem outs4 (h : At m c x y g w) (t : Fin cfg0.N) : out0_4 (iblk m c 0 t) (iblk m c 1 t) (iblk m c 2 t) (iblk m c 3 t)
    = E2 (a := 512) (b := 2048) (fun i j => post x y g (t.val * 512 + i) (0 * 2048 + j)) := by
  rw [x0 m c x y g w h, x1 m c x y g w h, x2 m c x y g w h, x3 m c x y g w h, out4]
  simp only [Nat.zero_mul, Nat.zero_add]; rfl

/-- What a point leaves in the second result's window. -/
theorem outs5 (h : At m c x y g w) (t : Fin cfg0.N) : out0_5 (iblk m c 0 t) (iblk m c 1 t) (iblk m c 2 t) (iblk m c 3 t)
    = E2 (a := 512) (b := 2048) (fun i j => nrm (post x y g) w (t.val * 512 + i) (0 * 2048 + j)) := by
  rw [x0 m c x y g w h, x1 m c x y g w h, x2 m c x y g w h, x3 m c x y g w h, out5]
  simp only [Nat.zero_mul, Nat.zero_add]; rfl

/-- The first result. -/
theorem arr4 (h : At m c x y g w) : (dats m 0 c).arrAt 4 cfg0.N = E2 (a := 2048) (b := 2048) (post x y g) := by
  refine (dats m 0 c).arrAt_eq_of_covers 4 _ (by decide +kernel) fun t _ z => ?_
  rw [after0_4, outs4 m c x y g w h]
  exact congrFun (block_E2 (post x y g) rfl ((cfg0.win 4).blk t).view.emb (ind t).2.2.2.2.1.1 (ind t).2.2.2.2.1.2
    (rect_emb_val (cfg0.win 4) t · 0) (rect_emb_val (cfg0.win 4) t · 1)).symm z

/-- The second result. -/
theorem arr5 (h : At m c x y g w) : (dats m 0 c).arrAt 5 cfg0.N = E2 (a := 2048) (b := 2048) (nrm (post x y g) w) := by
  refine (dats m 0 c).arrAt_eq_of_covers 5 _ (by decide +kernel) fun t _ z => ?_
  rw [after0_5, outs5 m c x y g w h]
  exact congrFun (block_E2 (nrm (post x y g) w) rfl ((cfg0.win 5).blk t).view.emb (ind t).2.2.2.2.2.1 (ind t).2.2.2.2.2.2
    (rect_emb_val (cfg0.win 5) t · 0) (rect_emb_val (cfg0.win 5) t · 1)).symm z

theorem algebraic : Cert.algebraic_Kernel11Ideal_Reference11Ideal := fun m g m' g' _ he =>
  ⟨_, _, (θ_run Cert.Kernel11Ideal.defs _ _).mono (fun r h c => by
      obtain ⟨h0, h1, hs⟩ := h c
      have a := (⟨un_eq _, un_eq _, un1_eq _, un1_eq _⟩ : At m c _ _ _ _)
      exact ⟨h0.trans (arr4 m c _ _ _ _ a), h1.trans (arr5 m c _ _ _ _ a), hs⟩) (Cert.Kernel11Ideal.Value.run_blocks (F := Ideal) m g),
    (θ_run Cert.Reference11Ideal.defs _ _).mono (fun r h c => by
      obtain ⟨h0, h1, hs⟩ := h c
      rw [(he c).1, (he c).2.1, (he c).2.2.1] at h0
      rw [(he c).1, (he c).2.1, (he c).2.2.1, (he c).2.2.2] at h1
      refine ⟨h0.trans ?_, h1.trans ?_, hs⟩
      · generalize m ((c : Thread nD τ).loc main_arg0) = A
        generalize m ((c : Thread nD τ).loc main_arg1) = B
        generalize m ((c : Thread nD τ).loc main_arg2) = C
        funext x; idx_vars x; pointwise
        show _ = post (un A) (un B) (un1 C) x0.val x1.val
        simp only [post, nrm, un_val, un1_val]; rfl
      · generalize m ((c : Thread nD τ).loc main_arg0) = A
        generalize m ((c : Thread nD τ).loc main_arg1) = B
        generalize m ((c : Thread nD τ).loc main_arg2) = C
        generalize m ((c : Thread nD τ).loc main_arg3) = D
        funext x; idx_vars x; pointwise
        show _ = nrm (post (un A) (un B) (un1 C)) (un1 D) x0.val x1.val
        simp only [post, nrm, un_val, un1_val]; rfl) (Cert.Reference11Ideal.Value.run (F := Ideal) m' g')⟩

end Cert.Prod.PostFwd

end
-- ==== Proof.Prod.AdamWOut.lean ====
/- The optimiser's step of w_out: the sum of the devices' parts of its gradient, layer by layer, and the new weights' change,
   mean and mean square. -/
module

public import proofs.«01_k».proof.Defs
public import proofs.«01_k».proof.Proof.Prod.Arr
public import proofs.«01_k».proof.Proof.Gen.Kernel12Ideal.Value
public import proofs.«01_k».proof.Proof.Gen.Reference12Ideal.Run

@[expose] public section

set_option maxRecDepth 16384

noncomputable section

namespace Cert.Prod.AdamWOut

open Idealize.ShloMosaic Idealize.ShloMosaic.TcCoe Idealize.SL.Sem Cert.Kernel12Ideal Cert.Kernel12Ideal.Gen
open Pipeline.Window (rect_emb_val)

/-- An array of rank 3, written as a function of its positions. -/
def E3 {a b c : ℕ} (f : ℕ → ℕ → ℕ → EReal) : (⟨3, ![a, b, c]⟩ : Shape).Idx → EReal := fun i => f (i 0).val (i 1).val (i 2).val

/-- The function of an array of rank 3, nothing outside its shape. -/
def un3 {a b c : ℕ} (A : (⟨3, ![a, b, c]⟩ : Shape).Idx → EReal) (i j k : ℕ) : EReal :=
  if h : i < a ∧ j < b ∧ k < c then A (ix3 ⟨i, h.1⟩ ⟨j, h.2.1⟩ ⟨k, h.2.2⟩) else 0

theorem un3_eq {a b c : ℕ} (A : (⟨3, ![a, b, c]⟩ : Shape).Idx → EReal) : A = E3 (un3 A) := by
  funext x
  show A x = un3 A (x 0).val (x 1).val (x 2).val
  unfold un3
  rw [dif_pos ⟨(x 0).isLt, (x 1).isLt, (x 2).isLt⟩]
  exact congrArg A (ValueIdx.eq_ix3 x)

/-- A block of one layer's rows. -/
theorem lay (f : ℕ → ℕ → ℕ → EReal) {A : (⟨3, ![4, 256, 2048]⟩ : Shape).Idx → EReal} (hA : A = E3 f)
    (em : (⟨3, ![1, 64, 2048]⟩ : Shape).Idx → (⟨3, ![4, 256, 2048]⟩ : Shape).Idx) {p q r u v : ℕ} (h : p = u ∧ q = v ∧ r = 0)
    (e0 : ∀ y, (em y 0).val = p * 1 + (y 0).val) (e1 : ∀ y, (em y 1).val = q * 64 + (y 1).val) (e2 : ∀ y, (em y 2).val = r * 2048 + (y 2).val) :
    (fun y => A (em y)) = E3 (fun _ j l => f u (v * 64 + j) l) := by
  obtain ⟨rfl, rfl, rfl⟩ := h
  subst hA
  funext y
  show f (em y 0).val (em y 1).val (em y 2).val = _
  have := (y 0).isLt
  rw [e0 y, e1 y, e2 y, show p * 1 + (y 0).val = p by change (y 0).val < 1 at this; omega, Nat.zero_mul, Nat.zero_add]; rfl

/-- A block of all devices' rows. -/
theorem prt (f : ℕ → ℕ → ℕ → EReal) {A : (⟨3, ![8, 256, 2048]⟩ : Shape).Idx → EReal} (hA : A = E3 f)
    (em : (⟨3, ![8, 64, 2048]⟩ : Shape).Idx → (⟨3, ![8, 256, 2048]⟩ : Shape).Idx) {p q r v : ℕ} (h : p = 0 ∧ q = v ∧ r = 0)
    (e0 : ∀ y, (em y 0).val = p * 8 + (y 0).val) (e1 : ∀ y, (em y 1).val = q * 64 + (y 1).val) (e2 : ∀ y, (em y 2).val = r * 2048 + (y 2).val) :
    (fun y => A (em y)) = E3 (fun i j l => f i (v * 64 + j) l) := by
  obtain ⟨rfl, rfl, rfl⟩ := h
  subst hA
  funext y
  show f (em y 0).val (em y 1).val (em y 2).val = _
  rw [e0 y, e1 y, e2 y]
  simp only [Nat.zero_mul, Nat.zero_add]; rfl

/-- The new running mean. -/
def nm (g m : EReal) : EReal := FloatOps.addf (F := Ideal) (φ := .f32) (FloatOps.mulf (F := Ideal) (φ := .f32) (Scalar.ofBits .f32 0x3F666666#32) m)
  (FloatOps.mulf (F := Ideal) (φ := .f32) (Scalar.ofBits .f32 0x3DCCCCCD#32) g)

/-- The new running mean square. -/
def nv (g v : EReal) : EReal := FloatOps.addf (F := Ideal) (φ := .f32) (FloatOps.mulf (F := Ideal) (φ := .f32) (Scalar.ofBits .f32 0x3F7FBE77#32) v)
  (FloatOps.mulf (F := Ideal) (φ := .f32) (Scalar.ofBits .f32 0x3A83126F#32) (FloatOps.mulf (F := Ideal) (φ := .f32) g g))

/-- The weight's change. -/
def dl (w g m v : EReal) : EReal :=
  FloatOps.mulf (F := Ideal) (φ := .f32) (Scalar.ofBits .f32 0xBA83126F#32) (FloatOps.addf (F := Ideal) (φ := .f32)
    (FloatOps.divf (F := Ideal) (φ := .f32) (FloatOps.divf (F := Ideal) (φ := .f32) (nm g m) (Scalar.ofBits .f32 0x3F26BD02#32))
      (FloatOps.addf (F := Ideal) (φ := .f32) (FloatOps.sqrt (F := Ideal) (φ := .f32)
        (FloatOps.divf (F := Ideal) (φ := .f32) (nv g v) (Scalar.ofBits .f32 0x3C231ACC#32))) (Scalar.ofBits .f32 0x322BCC77#32)))
    (FloatOps.mulf (F := Ideal) (φ := .f32) (Scalar.ofBits .f32 0x3C23D70A#32) w))

/-- The sum of the devices' parts. -/
def tot (b : ℕ → ℕ → ℕ → EReal) (i j : ℕ) : EReal := b 0 i j + b 1 i j + b 2 i j + b 3 i j + b 4 i j + b 5 i j + b 6 i j + b 7 i j

/-- A device's part, out of a block of all devices' parts. -/
theorem ld (k : ℕ) (f : ℕ → ℕ → ℕ → EReal) (inb) :
    View.ld (Val := Elt Ideal) (e' := .bf16) (E3 (a := 8) (b := 64) (c := 2048) f) (Rect.unit (s := S8x64x2048) ![k, 0, 0] ![1, 64, 2048] inb)
      = E3 (a := 1) (b := 64) (c := 2048) (fun l i j => f (k + l) (0 + i) (0 + j)) := by
  funext x
  show f (k + 1 * (x 0).val) (0 + 1 * (x 1).val) (0 + 1 * (x 2).val) = _
  simp only [Nat.one_mul]; rfl

/-- The sum of the devices' parts. -/
theorem pay9 (f0 f1 f2 f3 f4 f5 f6 f7 : ℕ → ℕ → ℕ → EReal) :
    k0_pay9 (F := Ideal) (E3 f0) (E3 f1) (E3 f2) (E3 f3) (E3 f4) (E3 f5) (E3 f6) (E3 f7)
      = E2 (fun i j => f0 0 i j + f1 0 i j + f2 0 i j + f3 0 i j + f4 0 i j + f5 0 i j + f6 0 i j + f7 0 i j) := by
  unfold k0_pay9
  funext x; idx_vars x; pointwise
  rfl

theorem pay10 (w : ℕ → ℕ → ℕ → EReal) : k0_pay10 (F := Ideal) (E3 w) = E2 (fun i j => w 0 i j) := by
  unfold k0_pay10
  funext x; idx_vars x; pointwise
  rfl

theorem pay11 (g : ℕ → ℕ → EReal) (m : ℕ → ℕ → ℕ → EReal) : k0_pay11 (F := Ideal) (E2 g) (E3 m) = E2 (fun i j => nm (g i j) (m 0 i j)) := by
  unfold k0_pay11
  funext x; idx_vars x; pointwise
  rfl

theorem pay12 (g : ℕ → ℕ → EReal) (v : ℕ → ℕ → ℕ → EReal) : k0_pay12 (F := Ideal) (E2 g) (E3 v) = E2 (fun i j => nv (g i j) (v 0 i j)) := by
  unfold k0_pay12
  funext x; idx_vars x; pointwise
  rfl

theorem pay13 (g : ℕ → ℕ → EReal) : k0_pay13 (F := Ideal) (E2 g) = E3 (fun _ i j => g i j) := by
  unfold k0_pay13
  funext x; idx_vars x; pointwise
  rfl

theorem pay14 (g w : ℕ → ℕ → EReal) (m v : ℕ → ℕ → ℕ → EReal) :
    k0_pay14 (F := Ideal) (E2 g) (E2 w) (E3 m) (E3 v) = E3 (fun _ i j => dl (w i j) (g i j) (m 0 i j) (v 0 i j)) := by
  unfold k0_pay14
  rw [pay11, pay12]
  funext x; idx_vars x; pointwise
  rfl

theorem pay1 (g : ℕ → ℕ → EReal) : k0_pay1 (F := Ideal) (E2 g) = E3 (fun _ i j => g i j) := by
  unfold k0_pay1
  funext x; idx_vars x; pointwise
  rfl

theorem pay2 (g : ℕ → ℕ → EReal) : k0_pay2 (F := Ideal) (E2 g) = E3 (fun _ i j => g i j) := by
  unfold k0_pay2
  funext x; idx_vars x; pointwise
  rfl

/-- The four results of a point, out of the devices' parts and the blocks of the weight, its mean and mean square. -/
def four (b : ℕ → ℕ → ℕ → EReal) (w u v : ℕ → ℕ → EReal) : Vec Ideal S1x64x2048 .f32 × Vec Ideal S1x64x2048 .f32 × Vec Ideal S1x64x2048 .f32 × Vec Ideal S1x64x2048 .f32 :=
  (E3 fun _ i j => tot b i j, E3 fun _ i j => dl (w i j) (tot b i j) (u i j) (v i j), E3 fun _ i j => nm (tot b i j) (u i j), E3 fun _ i j => nv (tot b i j) (v i j))

theorem body (b w u v : ℕ → ℕ → ℕ → EReal) :
    (let l := fun k inb => View.ld (Val := Elt Ideal) (e' := .bf16) (E3 (a := 8) (b := 64) (c := 2048) b) (Rect.unit (s := S8x64x2048) ![k, 0, 0] ![1, 64, 2048] inb)
     let s := k0_pay9 (F := Ideal) (l 0 inb_S8x64x2048_S1x64x2048_0_0_0) (l 1 inb_S8x64x2048_S1x64x2048_1_0_0) (l 2 inb_S8x64x2048_S1x64x2048_2_0_0)
       (l 3 inb_S8x64x2048_S1x64x2048_3_0_0) (l 4 inb_S8x64x2048_S1x64x2048_4_0_0) (l 5 inb_S8x64x2048_S1x64x2048_5_0_0)
       (l 6 inb_S8x64x2048_S1x64x2048_6_0_0) (l 7 inb_S8x64x2048_S1x64x2048_7_0_0)
     (k0_pay13 s, k0_pay14 s (k0_pay10 (E3 w)) (E3 u) (E3 v), k0_pay1 (k0_pay11 s (E3 u)), k0_pay2 (k0_pay12 s (E3 v))))
      = four b (w 0) (u 0) (v 0) := by
  dsimp only
  simp only [ld, pay9, pay10, pay11, pay12, pay13, pay14, pay1, pay2, Nat.zero_add, Nat.add_zero]
  rfl

variable (m : (ℓ : Loc nD τ sig) → Buf (Elt Ideal) ℓ) (c : Dev nD)

/-- A block's position. -/
abbrev Is (ix : Fin 3 → ℕ) (p q : ℕ) : Prop := ix 0 = p ∧ ix 1 = q ∧ ix 2 = 0

/-- The parts' blocks: the rows' block at the part's own layer. -/
theorem indp : ∀ t : Fin cfg0.N, (t.val / 4 = 0 → Is ((cfg0.win 0).index t) 0 (t.val % 4)) ∧ (t.val / 4 = 1 → Is ((cfg0.win 1).index t) 0 (t.val % 4))
    ∧ (t.val / 4 = 2 → Is ((cfg0.win 2).index t) 0 (t.val % 4)) ∧ (t.val / 4 = 3 → Is ((cfg0.win 3).index t) 0 (t.val % 4)) := by decide +kernel

/-- The other blocks: the layer, then the rows' block. -/
theorem ind : ∀ t : Fin cfg0.N, Is ((cfg0.win 4).index t) (t.val / 4) (t.val % 4) ∧ Is ((cfg0.win 5).index t) (t.val / 4) (t.val % 4)
    ∧ Is ((cfg0.win 6).index t) (t.val / 4) (t.val % 4) ∧ Is ((cfg0.win 7).index t) (t.val / 4) (t.val % 4) ∧ Is ((cfg0.win 8).index t) (t.val / 4) (t.val % 4)
    ∧ Is ((cfg0.win 9).index t) (t.val / 4) (t.val % 4) ∧ Is ((cfg0.win 10).index t) (t.val / 4) (t.val % 4) := by decide +kernel

theorem outA (t : Fin cfg0.N) (h : t.val / 4 = 0) (b w u v) (hb : iblk m c 0 t = E3 (a := 8) (b := 64) (c := 2048) b)
    (hw : iblk m c 4 t = E3 (a := 1) (b := 64) (c := 2048) w) (hu : iblk m c 5 t = E3 (a := 1) (b := 64) (c := 2048) u)
    (hv : iblk m c 6 t = E3 (a := 1) (b := 64) (c := 2048) v) : outsAt0 m c t.val t.isLt = four b (w 0) (u 0) (v 0) := by
  rw [outsAt0_A m c t (by omega) (by omega) (by omega) (by omega)]
  frame_out
  rw [hb, hw, hu, hv]
  exact body b w u v

theorem outB (t : Fin cfg0.N) (h : t.val / 4 = 1) (b w u v) (hb : iblk m c 1 t = E3 (a := 8) (b := 64) (c := 2048) b)
    (hw : iblk m c 4 t = E3 (a := 1) (b := 64) (c := 2048) w) (hu : iblk m c 5 t = E3 (a := 1) (b := 64) (c := 2048) u)
    (hv : iblk m c 6 t = E3 (a := 1) (b := 64) (c := 2048) v) : outsAt0 m c t.val t.isLt = four b (w 0) (u 0) (v 0) := by
  rw [outsAt0_B m c t (by omega) (by omega) (by omega) (by omega)]
  frame_out
  rw [hb, hw, hu, hv]
  exact body b w u v

theorem outC (t : Fin cfg0.N) (h : t.val / 4 = 2) (b w u v) (hb : iblk m c 2 t = E3 (a := 8) (b := 64) (c := 2048) b)
    (hw : iblk m c 4 t = E3 (a := 1) (b := 64) (c := 2048) w) (hu : iblk m c 5 t = E3 (a := 1) (b := 64) (c := 2048) u)
    (hv : iblk m c 6 t = E3 (a := 1) (b := 64) (c := 2048) v) : outsAt0 m c t.val t.isLt = four b (w 0) (u 0) (v 0) := by
  rw [outsAt0_C m c t (by omega) (by omega) (by omega) (by omega)]
  frame_out
  rw [hb, hw, hu, hv]
  exact body b w u v

theorem outD (t : Fin cfg0.N) (h : t.val / 4 = 3) (b w u v) (hb : iblk m c 3 t = E3 (a := 8) (b := 64) (c := 2048) b)
    (hw : iblk m c 4 t = E3 (a := 1) (b := 64) (c := 2048) w) (hu : iblk m c 5 t = E3 (a := 1) (b := 64) (c := 2048) u)
    (hv : iblk m c 6 t = E3 (a := 1) (b := 64) (c := 2048) v) : outsAt0 m c t.val t.isLt = four b (w 0) (u 0) (v 0) := by
  rw [outsAt0_D m c t (by omega) (by omega) (by omega) (by omega)]
  frame_out
  rw [hb, hw, hu, hv]
  exact body b w u v

variable (p : ℕ → ℕ → ℕ → ℕ → EReal) (w u v : ℕ → ℕ → ℕ → EReal)

/-- The arguments' values. -/
structure At : Prop where
  p0 : m ((c : Thread nD τ).loc main_arg0) = E3 (a := 8) (b := 256) (c := 2048) (p 0)
  p1 : m ((c : Thread nD τ).loc main_arg1) = E3 (a := 8) (b := 256) (c := 2048) (p 1)
  p2 : m ((c : Thread nD τ).loc main_arg2) = E3 (a := 8) (b := 256) (c := 2048) (p 2)
  p3 : m ((c : Thread nD τ).loc main_arg3) = E3 (a := 8) (b := 256) (c := 2048) (p 3)
  w : m ((c : Thread nD τ).loc main_arg4) = E3 (a := 4) (b := 256) (c := 2048) w
  u : m ((c : Thread nD τ).loc main_arg5) = E3 (a := 4) (b := 256) (c := 2048) u
  v : m ((c : Thread nD τ).loc main_arg6) = E3 (a := 4) (b := 256) (c := 2048) v

theorem V0 (h : At m c p w u v) : V m c (Pipeline.arrRef spec0 0) = E3 (a := 8) (b := 256) (c := 2048) (p 0) := by
  refine Eq.trans (b := m ((c : Thread nD τ).loc main_arg0)) ?_ h.p0
  show StableHlo.after hostOps0 (fun b => m (c, b)) (Proc.devRef .tc main_v0) = _
  simp only [hostOps0]
  after_results; rfl

theorem V1 (h : At m c p w u v) : V m c (Pipeline.arrRef spec0 1) = E3 (a := 8) (b := 256) (c := 2048) (p 1) := by
  refine Eq.trans (b := m ((c : Thread nD τ).loc main_arg1)) ?_ h.p1
  show StableHlo.after hostOps0 (fun b => m (c, b)) (Proc.devRef .tc main_v1) = _
  simp only [hostOps0]
  after_results; rfl

theorem V2 (h : At m c p w u v) : V m c (Pipeline.arrRef spec0 2) = E3 (a := 8) (b := 256) (c := 2048) (p 2) := by
  refine Eq.trans (b := m ((c : Thread nD τ).loc main_arg2)) ?_ h.p2
  show StableHlo.after hostOps0 (fun b => m (c, b)) (Proc.devRef .tc main_v2) = _
  simp only [hostOps0]
  after_results; rfl

theorem V3 (h : At m c p w u v) : V m c (Pipeline.arrRef spec0 3) = E3 (a := 8) (b := 256) (c := 2048) (p 3) := by
  refine Eq.trans (b := m ((c : Thread nD τ).loc main_arg3)) ?_ h.p3
  show StableHlo.after hostOps0 (fun b => m (c, b)) (Proc.devRef .tc main_v3) = _
  simp only [hostOps0]
  after_results; rfl

/-- The four results, layer by layer. -/
theorem outs (h : At m c p w u v) (t : Fin cfg0.N) : outsAt0 m c t.val t.isLt = four (fun i j l => p (t.val / 4) i (t.val % 4 * 64 + j) l)
    (fun j l => w (t.val / 4) (t.val % 4 * 64 + j) l) (fun j l => u (t.val / 4) (t.val % 4 * 64 + j) l) (fun j l => v (t.val / 4) (t.val % 4 * 64 + j) l) := by
  have hw := lay w ((V_main_arg4 m c).trans h.w) ((cfg0.win 4).blk t).view.emb (ind t).1 (rect_emb_val (cfg0.win 4) t · 0) (rect_emb_val (cfg0.win 4) t · 1) (rect_emb_val (cfg0.win 4) t · 2)
  have hu := lay u ((V_main_arg5 m c).trans h.u) ((cfg0.win 5).blk t).view.emb (ind t).2.1 (rect_emb_val (cfg0.win 5) t · 0) (rect_emb_val (cfg0.win 5) t · 1) (rect_emb_val (cfg0.win 5) t · 2)
  have hv := lay v ((V_main_arg6 m c).trans h.v) ((cfg0.win 6).blk t).view.emb (ind t).2.2.1 (rect_emb_val (cfg0.win 6) t · 0) (rect_emb_val (cfg0.win 6) t · 1) (rect_emb_val (cfg0.win 6) t · 2)
  have ht : t.val / 4 = 0 ∨ t.val / 4 = 1 ∨ t.val / 4 = 2 ∨ t.val / 4 = 3 := by
    have := lt_of_lt_of_eq t.isLt (show cfg0.N = 16 from N_0); omega
  rcases ht with k | k | k | k
  · have hp := prt (p 0) (V0 m c p w u v h) ((cfg0.win 0).blk t).view.emb ((indp t).1 k) (rect_emb_val (cfg0.win 0) t · 0) (rect_emb_val (cfg0.win 0) t · 1) (rect_emb_val (cfg0.win 0) t · 2)
    rw [outA m c t k _ _ _ _ hp hw hu hv, k]
  · have hp := prt (p 1) (V1 m c p w u v h) ((cfg0.win 1).blk t).view.emb ((indp t).2.1 k) (rect_emb_val (cfg0.win 1) t · 0) (rect_emb_val (cfg0.win 1) t · 1) (rect_emb_val (cfg0.win 1) t · 2)
    rw [outB m c t k _ _ _ _ hp hw hu hv, k]
  · have hp := prt (p 2) (V2 m c p w u v h) ((cfg0.win 2).blk t).view.emb ((indp t).2.2.1 k) (rect_emb_val (cfg0.win 2) t · 0) (rect_emb_val (cfg0.win 2) t · 1) (rect_emb_val (cfg0.win 2) t · 2)
    rw [outC m c t k _ _ _ _ hp hw hu hv, k]
  · have hp := prt (p 3) (V3 m c p w u v h) ((cfg0.win 3).blk t).view.emb ((indp t).2.2.2 k) (rect_emb_val (cfg0.win 3) t · 0) (rect_emb_val (cfg0.win 3) t · 1) (rect_emb_val (cfg0.win 3) t · 2)
    rw [outD m c t k _ _ _ _ hp hw hu hv, k]

theorem arr7 (h : At m c p w u v) : (dats m 0 c).arrAt 7 cfg0.N = E3 (a := 4) (b := 256) (c := 2048) (fun l i j => tot (p l) i j) := by
  refine (dats m 0 c).arrAt_eq_of_covers 7 _ (by decide +kernel) fun t _ z => ?_
  rw [after0_7, outs m c p w u v h]
  exact congrFun (lay (fun l i j => tot (p l) i j) rfl ((cfg0.win 7).blk t).view.emb (ind t).2.2.2.1 (rect_emb_val (cfg0.win 7) t · 0) (rect_emb_val (cfg0.win 7) t · 1) (rect_emb_val (cfg0.win 7) t · 2)).symm z

theorem arr8 (h : At m c p w u v) : (dats m 0 c).arrAt 8 cfg0.N = E3 (a := 4) (b := 256) (c := 2048) (fun l i j => dl (w l i j) (tot (p l) i j) (u l i j) (v l i j)) := by
  refine (dats m 0 c).arrAt_eq_of_covers 8 _ (by decide +kernel) fun t _ z => ?_
  rw [after0_8, outs m c p w u v h]
  exact congrFun (lay (fun l i j => dl (w l i j) (tot (p l) i j) (u l i j) (v l i j)) rfl ((cfg0.win 8).blk t).view.emb (ind t).2.2.2.2.1 (rect_emb_val (cfg0.win 8) t · 0) (rect_emb_val (cfg0.win 8) t · 1) (rect_emb_val (cfg0.win 8) t · 2)).symm z

theorem arr9 (h : At m c p w u v) : (dats m 0 c).arrAt 9 cfg0.N = E3 (a := 4) (b := 256) (c := 2048) (fun l i j => nm (tot (p l) i j) (u l i j)) := by
  refine (dats m 0 c).arrAt_eq_of_covers 9 _ (by decide +kernel) fun t _ z => ?_
  rw [after0_9, outs m c p w u v h]
  exact congrFun (lay (fun l i j => nm (tot (p l) i j) (u l i j)) rfl ((cfg0.win 9).blk t).view.emb (ind t).2.2.2.2.2.1 (rect_emb_val (cfg0.win 9) t · 0) (rect_emb_val (cfg0.win 9) t · 1) (rect_emb_val (cfg0.win 9) t · 2)).symm z

theorem arr10 (h : At m c p w u v) : (dats m 0 c).arrAt 10 cfg0.N = E3 (a := 4) (b := 256) (c := 2048) (fun l i j => nv (tot (p l) i j) (v l i j)) := by
  refine (dats m 0 c).arrAt_eq_of_covers 10 _ (by decide +kernel) fun t _ z => ?_
  rw [after0_10, outs m c p w u v h]
  exact congrFun (lay (fun l i j => nv (tot (p l) i j) (v l i j)) rfl ((cfg0.win 10).blk t).view.emb (ind t).2.2.2.2.2.2 (rect_emb_val (cfg0.win 10) t · 0) (rect_emb_val (cfg0.win 10) t · 1) (rect_emb_val (cfg0.win 10) t · 2)).symm z

open Cert.Reference12Ideal.Gen in
/-- The sums over the devices, the layers one after another. -/
theorem sums (p : ℕ → ℕ → ℕ → ℕ → EReal) {A B C D : (⟨3, ![8, 256, 2048]⟩ : Shape).Idx → EReal} (hA : A = E3 (p 0)) (hB : B = E3 (p 1)) (hC : C = E3 (p 2)) (hD : D = E3 (p 3)) :
    (let s := fun A => broadcastInDim Cert.Reference12Ideal.S1x256x2048 ![1, 2] bcast_S256x2048_S1x256x2048_1_2
       (Host.reduceAdd (F := Ideal) A (constant Cert.Reference12Ideal.S_ .f32 0x00000000#32) reducesTo_S8x256x2048_S256x2048_d0 h_S_)
     (concatenate S4x256x2048 0 [⟨Cert.Reference12Ideal.S1x256x2048, s A⟩, ⟨Cert.Reference12Ideal.S1x256x2048, s B⟩, ⟨Cert.Reference12Ideal.S1x256x2048, s C⟩, ⟨Cert.Reference12Ideal.S1x256x2048, s D⟩]
       concatenates_S1x256x2048_S1x256x2048_S1x256x2048_S1x256x2048_S4x256x2048_d0)) = E3 (a := 4) (b := 256) (c := 2048) fun l i j => tot (p l) i j := by
  subst hA hB hC hD
  dsimp only
  funext x; idx_vars x; pointwise
  simp only [Fin.sum_univ_eight]
  match x0 with
  | 0 | 1 | 2 | 3 => rfl

/-- The devices' parts of every layer. -/
def parts (m : (ℓ : Loc nD τ sig) → Buf (Elt Ideal) ℓ) (c : Dev nD) : ℕ → ℕ → ℕ → ℕ → EReal
  | 0 => un3 (m ((c : Thread nD τ).loc main_arg0))
  | 1 => un3 (m ((c : Thread nD τ).loc main_arg1))
  | 2 => un3 (m ((c : Thread nD τ).loc main_arg2))
  | _ => un3 (m ((c : Thread nD τ).loc main_arg3))

theorem algebraic : Cert.algebraic_Kernel12Ideal_Reference12Ideal := fun m g m' g' _ he => by
  have a : ∀ c : Dev nD, At m c (parts m c)
      (un3 (m ((c : Thread nD τ).loc main_arg4))) (un3 (m ((c : Thread nD τ).loc main_arg5))) (un3 (m ((c : Thread nD τ).loc main_arg6))) :=
    fun c => ⟨un3_eq _, un3_eq _, un3_eq _, un3_eq _, un3_eq _, un3_eq _, un3_eq _⟩
  exact ⟨_, _, _, _, (θ_run Cert.Kernel12Ideal.defs _ _).mono (fun r h c => by
      obtain ⟨h0, h1, h2, h3, hs⟩ := h c
      exact ⟨h0.trans (arr7 m c _ _ _ _ (a c)), h1.trans (arr8 m c _ _ _ _ (a c)), h2.trans (arr9 m c _ _ _ _ (a c)), h3.trans (arr10 m c _ _ _ _ (a c)), hs⟩)
      (Cert.Kernel12Ideal.Value.run_blocks (F := Ideal) m g),
    (θ_run Cert.Reference12Ideal.defs _ _).mono (fun r h c => by
      obtain ⟨h0, h1, h2, h3, hs⟩ := h c
      obtain ⟨e0, e1, e2, e3, e4, e5, e6⟩ := he c
      have e := sums (parts m c) (e0.trans (a c).p0) (e1.trans (a c).p1) (e2.trans (a c).p2) (e3.trans (a c).p3)
      dsimp only at e
      have ew := e4.trans (a c).w
      have eu := e5.trans (a c).u
      have ev := e6.trans (a c).v
      refine ⟨h0.trans e, h1.trans ?_, h2.trans ?_, h3.trans ?_, hs⟩
      · unfold Cert.Reference12Ideal.Value.res_main_v32
        rw [e, ew, eu, ev]
        funext x; idx_vars x; pointwise
        rfl
      · rw [e, eu]
        funext x; idx_vars x; pointwise
        rfl
      · rw [e, ev]
        funext x; idx_vars x; pointwise
        rfl) (Cert.Reference12Ideal.Value.run (F := Ideal) m' g')⟩

end Cert.Prod.AdamWOut

end
-- ==== Proof.Prod.PostLoss.lean ====
/- The norm behind the last mixer with the residual, the error against the target, its sum of squares over the rows' blocks, and
   the loss's gradient. -/
module

public import proofs.«01_k».proof.Defs
public import proofs.«01_k».proof.Proof.Prod.PostFwd
public import proofs.«01_k».proof.Proof.Gen.Kernel13Ideal.Value
public import proofs.«01_k».proof.Proof.Gen.Reference13Ideal.Run

@[expose] public section

set_option maxRecDepth 16384

noncomputable section

namespace Cert.Prod.PostLoss

open Idealize.ShloMosaic Idealize.ShloMosaic.TcCoe Idealize.SL.Sem Cert.Kernel13Ideal Cert.Kernel13Ideal.Gen
open Pipeline.Window (rect_emb_val)
open Cert.Prod.PostFwd (post)

/-- The error. -/
def err (x y : ℕ → ℕ → EReal) (g : ℕ → EReal) (u : ℕ → ℕ → EReal) (i j : ℕ) : EReal := post x y g i j - u i j

/-- A row's sum of squares. -/
def sq (e : ℕ → ℕ → EReal) (i : ℕ) : EReal := ∑ j : Fin 2048, e i j * e i j

theorem pay2 (x y : ℕ → ℕ → EReal) (g : ℕ → EReal) (u : ℕ → ℕ → EReal) :
    k0_pay2 (F := Ideal) (E2 y) (E2 x) (E2 fun _ j => g j) (E2 u) = E2 (err x y g u) := by
  unfold k0_pay2
  simp only [shapeCast_self]
  funext x; idx_vars x; pointwise
  simp only [E2]
  rfl

/-- The gradient of a block's rows. -/
theorem pay3 (x y : ℕ → ℕ → EReal) (g : ℕ → EReal) (u : ℕ → ℕ → EReal) :
    k0_pay3 (F := Ideal) (E2 y) (E2 x) (E2 fun _ j => g j) (E2 u)
      = E2 (fun i j => err x y g u i j * Scalar.ofBits (F := Ideal) .f32 0x3A000000#32) := by
  unfold k0_pay3
  simp only [pay2]
  funext x; idx_vars x; pointwise
  rfl

/-- The sum of squares so far and a block's. -/
theorem pay4 (x y : ℕ → ℕ → EReal) (g : ℕ → EReal) (u : ℕ → ℕ → EReal) (a : EReal) :
    k0_pay4 (F := Ideal) (E2 y) (E2 x) (E2 fun _ j => g j) (E2 u) (E2 fun _ _ => a)
      = E2 (fun _ _ => a + ∑ i : Fin 512, sq (err x y g u) i) := by
  unfold k0_pay4
  simp only [pay2, shapeCast_self]
  funext x; idx_vars x; pointwise
  rfl

theorem pay1 : k0_pay1 (F := Ideal) = E2 (fun _ _ => 0) := by
  unfold k0_pay1
  funext x; idx_vars x; pointwise
  rfl

variable (m : (ℓ : Loc nD τ sig) → Buf (Elt Ideal) ℓ) (c : Dev nD) (x y : ℕ → ℕ → EReal) (g : ℕ → EReal) (u : ℕ → ℕ → EReal)

/-- The arguments' values. -/
def At : Prop := m ((c : Thread nD τ).loc main_arg0) = E2 (a := 2048) (b := 2048) x ∧ m ((c : Thread nD τ).loc main_arg1) = E2 (a := 2048) (b := 2048) y
  ∧ m ((c : Thread nD τ).loc main_arg2) = E1 (a := 2048) g ∧ m ((c : Thread nD τ).loc main_arg3) = E2 (a := 2048) (b := 2048) u

theorem ind : ∀ t : Fin cfg0.N, ((cfg0.win 0).index t 0 = t.val ∧ (cfg0.win 0).index t 1 = 0) ∧ ((cfg0.win 1).index t 0 = t.val ∧ (cfg0.win 1).index t 1 = 0)
    ∧ ((cfg0.win 2).index t 0 = 0 ∧ (cfg0.win 2).index t 1 = 0) ∧ ((cfg0.win 3).index t 0 = t.val ∧ (cfg0.win 3).index t 1 = 0)
    ∧ ((cfg0.win 4).index t 0 = t.val ∧ (cfg0.win 4).index t 1 = 0) := by decide +kernel

theorem V2 (h : At m c x y g u) : V m c (Pipeline.arrRef spec0 2) = E2 (a := 1) (b := 2048) (fun _ j => g j) := by
  refine Eq.trans (b := broadcastInDim S1x2048 ![1] bcast_S2048_S1x2048_1 (m ((c : Thread nD τ).loc main_arg2))) ?_ ?_
  · show StableHlo.after hostOps0 (fun b => m (c, b)) (Proc.devRef .tc main_v0) = _
    simp only [hostOps0]
    after_results
  · rw [h.2.2.1]; funext x; idx_vars x; pointwise; rfl

theorem x0 (h : At m c x y g u) (t : Fin cfg0.N) : iblk m c 0 t = E2 (a := 512) (b := 2048) (fun i k => x (t.val * 512 + i) (0 * 2048 + k)) :=
  block_E2 _ ((V_main_arg0 m c).trans h.1) _ (ind t).1.1 (ind t).1.2 (rect_emb_val (cfg0.win 0) t · 0) (rect_emb_val (cfg0.win 0) t · 1)

theorem x1 (h : At m c x y g u) (t : Fin cfg0.N) : iblk m c 1 t = E2 (a := 512) (b := 2048) (fun i k => y (t.val * 512 + i) (0 * 2048 + k)) :=
  block_E2 _ ((V_main_arg1 m c).trans h.2.1) _ (ind t).2.1.1 (ind t).2.1.2 (rect_emb_val (cfg0.win 1) t · 0) (rect_emb_val (cfg0.win 1) t · 1)

theorem x2 (h : At m c x y g u) (t : Fin cfg0.N) : iblk m c 2 t = E2 (a := 1) (b := 2048) (fun _ k => g (0 * 2048 + k)) :=
  block_E2 (fun _ j => g j) (V2 m c x y g u h) _ (ind t).2.2.1.1 (ind t).2.2.1.2 (rect_emb_val (cfg0.win 2) t · 0) (rect_emb_val (cfg0.win 2) t · 1)

theorem x3 (h : At m c x y g u) (t : Fin cfg0.N) : iblk m c 3 t = E2 (a := 512) (b := 2048) (fun i k => u (t.val * 512 + i) (0 * 2048 + k)) :=
  block_E2 _ ((V_main_arg3 m c).trans h.2.2.2) _ (ind t).2.2.2.1.1 (ind t).2.2.2.1.2 (rect_emb_val (cfg0.win 3) t · 0) (rect_emb_val (cfg0.win 3) t · 1)

/-- The sum over the rows after a point. -/
def acc (f : ℕ → EReal) (n : ℕ) : EReal := ∑ b ∈ Finset.range n, ∑ i : Fin 512, f (b * 512 + i)

/-- The sum over the blocks of rows is the sum over the rows. -/
theorem acc_eq (f : ℕ → EReal) (n : ℕ) : acc f n = ∑ i ∈ Finset.range (n * 512), f i := by
  induction n with
  | zero => simp only [acc, Nat.zero_mul, Finset.sum_range_zero]
  | succ n ih =>
    rw [Nat.succ_mul, Finset.sum_range_add, ← ih, acc, Finset.sum_range_succ, ← acc, ← Fin.sum_univ_eq_sum_range (fun i => f (n * 512 + i))]

/-- What the body leaves at a point: the gradient of its rows, and the sum of squares so far. -/
theorem outs (h : At m c x y g u) (n : ℕ) (hn : n < cfg0.N) : outsAt0 m c n hn
    = (E2 (a := 512) (b := 2048) (fun i j => err x y g u (n * 512 + i) (0 * 2048 + j) * Scalar.ofBits (F := Ideal) .f32 0x3A000000#32),
      E2 (a := 1) (b := 1) (fun _ _ => acc (sq (err x y g u)) (n + 1))) := by
  have h4 : n < 4 := lt_of_lt_of_eq hn (show cfg0.N = 4 from N_0)
  induction n with
  | zero =>
    refine (outsAt0_A m c ⟨0, hn⟩ rfl).trans ?_
    frame_out
    rw [x0 m c x y g u h, x1 m c x y g u h, x2 m c x y g u h, x3 m c x y g u h, pay1, pay3, pay4]
    simp only [acc, Finset.sum_range_succ, Finset.sum_range_zero, Nat.zero_mul, Nat.zero_add]
  | succ n ih =>
    refine (outsAt0_B m c ⟨n + 1, hn⟩ (show ¬ (n + 1) % 4 = 0 by omega)).trans ?_
    frame_out
    rw [x0 m c x y g u h, x1 m c x y g u h, x2 m c x y g u h, x3 m c x y g u h, pay3]
    simp only [Nat.add_sub_cancel, ih (by omega) (by omega)]
    rw [pay4]
    simp only [acc, Finset.sum_range_succ _ (n + 1), Nat.zero_mul, Nat.zero_add]
    rfl

/-- The gradient. -/
theorem arr4 (h : At m c x y g u) : (dats m 0 c).arrAt 4 cfg0.N
    = E2 (a := 2048) (b := 2048) (fun i j => err x y g u i j * Scalar.ofBits (F := Ideal) .f32 0x3A000000#32) := by
  refine (dats m 0 c).arrAt_eq_of_covers 4 _ (by decide +kernel) fun t _ z => ?_
  rw [after0_4, outs m c x y g u h]
  exact congrFun (block_E2 (fun i j => err x y g u i j * Scalar.ofBits (F := Ideal) .f32 0x3A000000#32) rfl ((cfg0.win 4).blk t).view.emb
    (ind t).2.2.2.2.1 (ind t).2.2.2.2.2 (rect_emb_val (cfg0.win 4) t · 0) (rect_emb_val (cfg0.win 4) t · 1)).symm z

theorem last_flush : ∀ t : Fin cfg0.N, (cfg0.win 5).flush t = true → t.val = 3 := by decide +kernel

/-- The sum of squares over the rows. -/
theorem arr5 (h : At m c x y g u) : (dats m 0 c).arrAt 5 cfg0.N
    = E2 (a := 1) (b := 1) (fun _ _ => ∑ i : Fin 2048, sq (err x y g u) i) := by
  refine (dats m 0 c).arrAt_eq_of_covers 5 _ (by decide +kernel) fun t hf z => ?_
  rw [after0_5, outs m c x y g u h, last_flush t hf, Fin.sum_univ_eq_sum_range (fun i => sq (err x y g u) i), ← acc_eq _ 4]
  rfl

/-- The loss's factor, as a derivative makes it and as the kernel writes it. -/
theorem scale : Ideal.div (Ideal.ofBits .f32 0x3F000000#32) (Ideal.ofBits .f32 0x45000000#32) * Ideal.ofBits .f32 0x40000000#32
    = Ideal.ofBits .f32 0x3A000000#32 := by
  have h1 : Ideal.ofBits .f32 0x3F000000#32 = ((1 / 2 : ℝ) : EReal) := by simp [Ideal.ofBits, Ideal.ieee, -EReal.coe_mul]; norm_num
  have h2 : Ideal.ofBits .f32 0x45000000#32 = ((2048 : ℝ) : EReal) := by simp [Ideal.ofBits, Ideal.ieee, -EReal.coe_mul]; norm_num
  have h3 : Ideal.ofBits .f32 0x40000000#32 = ((2 : ℝ) : EReal) := by simp [Ideal.ofBits, Ideal.ieee, -EReal.coe_mul]; norm_num
  have h4 : Ideal.ofBits .f32 0x3A000000#32 = ((1 / 2048 : ℝ) : EReal) := by simp [Ideal.ofBits, Ideal.ieee, -EReal.coe_mul]; norm_num
  rw [h1, h2, h3, h4, Ideal.div_coe (by norm_num), ← EReal.coe_mul, ← EReal.coe_mul]
  norm_num

theorem algebraic : Cert.algebraic_Kernel13Ideal_Reference13Ideal := fun m g m' g' _ he =>
  ⟨_, _, (θ_run Cert.Kernel13Ideal.defs _ _).mono (fun r h c => by
      obtain ⟨h0, h1, hs⟩ := h c
      have a := (⟨un_eq _, un_eq _, un1_eq _, un_eq _⟩ : At m c _ _ _ _)
      exact ⟨h0.trans (arr4 m c _ _ _ _ a), h1.trans (arr5 m c _ _ _ _ a), hs⟩) (Cert.Kernel13Ideal.Value.run_blocks (F := Ideal) m g),
    (θ_run Cert.Reference13Ideal.defs _ _).mono (fun r h c => by
      obtain ⟨h0, h1, hs⟩ := h c
      rw [(he c).1, (he c).2.1, (he c).2.2.1, (he c).2.2.2] at h0 h1
      refine ⟨h0.trans ?_, h1.trans ?_, hs⟩
      · generalize m ((c : Thread nD τ).loc main_arg0) = A
        generalize m ((c : Thread nD τ).loc main_arg1) = B
        generalize m ((c : Thread nD τ).loc main_arg2) = C
        generalize m ((c : Thread nD τ).loc main_arg3) = D
        funext x; idx_vars x; pointwise
        show _ = err (un A) (un B) (un1 C) (un D) x0.val x1.val * _
        unfold err Cert.Prod.PostFwd.post nrm
        simp only [un_val, un1_val]
        rw [← mul_assoc, scale, mul_comm]
        rfl
      · generalize m ((c : Thread nD τ).loc main_arg0) = A
        generalize m ((c : Thread nD τ).loc main_arg1) = B
        generalize m ((c : Thread nD τ).loc main_arg2) = C
        generalize m ((c : Thread nD τ).loc main_arg3) = D
        funext x; idx_vars x; pointwise
        show _ = ∑ i : Fin 2048, sq (err (un A) (un B) (un1 C) (un D)) i
        simp only [sq, err, Cert.Prod.PostFwd.post, nrm, un_val, un1_val]
        rfl) (Cert.Reference13Ideal.Value.run (F := Ideal) m' g')⟩

end Cert.Prod.PostLoss

end
-- ==== Proof.Prod.PostBwd.lean ====
/- The gradient past the norm behind the mixer, by the rows and by the weight. -/
module

public import proofs.«01_k».proof.Defs
public import proofs.«01_k».proof.Proof.Mine.Ops
public import proofs.«01_k».proof.Proof.Prod.PostLoss
public import proofs.«01_k».proof.Proof.Gen.Kernel14Ideal.Value
public import proofs.«01_k».proof.Proof.Gen.Reference14Ideal.Run

@[expose] public section

set_option maxRecDepth 16384

noncomputable section

namespace Cert.Prod.PostBwd

open Idealize.ShloMosaic Idealize.ShloMosaic.TcCoe Idealize.SL.Sem Cert.Kernel14Ideal Cert.Kernel14Ideal.Gen
open Pipeline.Window (rect_emb_val)
open Cert.Prod.PostLoss (acc acc_eq)

/-- A row's mean square and the small constant. -/
def vr (y : ℕ → ℕ → EReal) (i : ℕ) : EReal :=
  Ideal.div (∑ k : Fin 2048, y i k * y i k) (Ideal.ofBits .f32 0x45000000#32) + Ideal.ofBits .f32 0x358637BD#32

/-- The gradient by an entry of the rows. -/
def dy (d y : ℕ → ℕ → EReal) (g : ℕ → EReal) (i j : ℕ) : EReal :=
  Ideal.rsqrt (vr y i) * (d i j * g j - y i j * (Ideal.rsqrt (vr y i) * Ideal.rsqrt (vr y i))
    * Ideal.div (∑ k : Fin 2048, d i k * g k * y i k) (Ideal.ofBits .f32 0x45000000#32))

/-- A row's part of the gradient by a column's weight. -/
def dg (d y : ℕ → ℕ → EReal) (j i : ℕ) : EReal := d i j * y i j * Ideal.rsqrt (vr y i)

theorem pay3 (y : ℕ → ℕ → EReal) : k0_pay3 (F := Ideal) (E2 y) = E2 (fun i _ => Ideal.rsqrt (vr y i)) := by
  unfold k0_pay3
  funext x; idx_vars x; pointwise
  rfl

theorem pay5 (d y : ℕ → ℕ → EReal) (g : ℕ → EReal) : k0_pay1 (k0_pay5 (F := Ideal) (E2 y) (E2 d) (E2 fun _ j => g j)) = E2 (dy d y g) := by
  unfold k0_pay1 k0_pay5
  simp only [pay3, shapeCast_self]
  funext x; idx_vars x; pointwise
  rfl

/-- The sum so far and a block's. -/
theorem pay4 (d y : ℕ → ℕ → EReal) (a : ℕ → EReal) :
    k0_pay4 (F := Ideal) (E2 y) (E2 d) (E2 fun _ j => a j) = E2 (fun _ j => a j + ∑ i : Fin 512, dg d y j i) := by
  unfold k0_pay4
  simp only [pay3, shapeCast_self]
  funext x; idx_vars x; pointwise
  rfl

theorem pay2 : k0_pay2 (F := Ideal) = E2 (fun _ _ => 0) := by
  unfold k0_pay2
  funext x; idx_vars x; pointwise
  rfl

variable (m : (ℓ : Loc nD τ sig) → Buf (Elt Ideal) ℓ) (c : Dev nD) (d y : ℕ → ℕ → EReal) (g : ℕ → EReal)

/-- The arguments' values. -/
def At : Prop := m ((c : Thread nD τ).loc main_arg0) = E2 (a := 2048) (b := 2048) d ∧ m ((c : Thread nD τ).loc main_arg1) = E2 (a := 2048) (b := 2048) y
  ∧ m ((c : Thread nD τ).loc main_arg2) = E1 (a := 2048) g

theorem ind : ∀ t : Fin cfg0.N, ((cfg0.win 0).index t 0 = t.val ∧ (cfg0.win 0).index t 1 = 0) ∧ ((cfg0.win 1).index t 0 = t.val ∧ (cfg0.win 1).index t 1 = 0)
    ∧ ((cfg0.win 2).index t 0 = 0 ∧ (cfg0.win 2).index t 1 = 0) ∧ ((cfg0.win 3).index t 0 = t.val ∧ (cfg0.win 3).index t 1 = 0)
    ∧ ((cfg0.win 4).index t 0 = 0 ∧ (cfg0.win 4).index t 1 = 0) := by decide +kernel

theorem V2 (h : At m c d y g) : V m c (Pipeline.arrRef spec0 2) = E2 (a := 1) (b := 2048) (fun _ j => g j) := by
  refine Eq.trans (b := broadcastInDim S1x2048 ![1] bcast_S2048_S1x2048_1 (m ((c : Thread nD τ).loc main_arg2))) ?_ ?_
  · show StableHlo.after hostOps0 (fun b => m (c, b)) (Proc.devRef .tc main_v0) = _
    simp only [hostOps0]
    after_results
  · rw [h.2.2]; funext x; idx_vars x; pointwise; rfl

theorem x0 (h : At m c d y g) (t : Fin cfg0.N) : iblk m c 0 t = E2 (a := 512) (b := 2048) (fun i k => d (t.val * 512 + i) (0 * 2048 + k)) :=
  block_E2 _ ((V_main_arg0 m c).trans h.1) _ (ind t).1.1 (ind t).1.2 (rect_emb_val (cfg0.win 0) t · 0) (rect_emb_val (cfg0.win 0) t · 1)

theorem x1 (h : At m c d y g) (t : Fin cfg0.N) : iblk m c 1 t = E2 (a := 512) (b := 2048) (fun i k => y (t.val * 512 + i) (0 * 2048 + k)) :=
  block_E2 _ ((V_main_arg1 m c).trans h.2.1) _ (ind t).2.1.1 (ind t).2.1.2 (rect_emb_val (cfg0.win 1) t · 0) (rect_emb_val (cfg0.win 1) t · 1)

theorem x2 (h : At m c d y g) (t : Fin cfg0.N) : iblk m c 2 t = E2 (a := 1) (b := 2048) (fun _ k => g (0 * 2048 + k)) :=
  block_E2 (fun _ j => g j) (V2 m c d y g h) _ (ind t).2.2.1.1 (ind t).2.2.1.2 (rect_emb_val (cfg0.win 2) t · 0) (rect_emb_val (cfg0.win 2) t · 1)

/-- What the body leaves at a point: its rows' gradient, and the weight's so far. -/
theorem outs (h : At m c d y g) (n : ℕ) (hn : n < cfg0.N) : outsAt0 m c n hn
    = (E2 (a := 512) (b := 2048) (fun i j => dy d y g (n * 512 + i) (0 * 2048 + j)),
      E2 (a := 1) (b := 2048) (fun _ j => acc (dg d y j) (n + 1))) := by
  have h4 : n < 4 := lt_of_lt_of_eq hn (show cfg0.N = 4 from N_0)
  induction n with
  | zero =>
    refine (outsAt0_A m c ⟨0, hn⟩ rfl).trans ?_
    frame_out
    rw [x0 m c d y g h, x1 m c d y g h, x2 m c d y g h, pay2, pay5, pay4]
    simp only [acc, Finset.sum_range_succ, Finset.sum_range_zero, Nat.zero_mul, Nat.zero_add]
  | succ n ih =>
    refine (outsAt0_B m c ⟨n + 1, hn⟩ (show ¬ (n + 1) % 4 = 0 by omega)).trans ?_
    frame_out
    rw [x0 m c d y g h, x1 m c d y g h, x2 m c d y g h, pay5]
    simp only [Nat.add_sub_cancel, ih (by omega) (by omega)]
    rw [pay4]
    simp only [acc, Finset.sum_range_succ _ (n + 1), Nat.zero_mul, Nat.zero_add]
    rfl

theorem arr3 (h : At m c d y g) : (dats m 0 c).arrAt 3 cfg0.N = E2 (a := 2048) (b := 2048) (dy d y g) := by
  refine (dats m 0 c).arrAt_eq_of_covers 3 _ (by decide +kernel) fun t _ z => ?_
  rw [after0_3, outs m c d y g h]
  exact congrFun (block_E2 (dy d y g) rfl ((cfg0.win 3).blk t).view.emb
    (ind t).2.2.2.1.1 (ind t).2.2.2.1.2 (rect_emb_val (cfg0.win 3) t · 0) (rect_emb_val (cfg0.win 3) t · 1)).symm z

theorem last_flush : ∀ t : Fin cfg0.N, (cfg0.win 4).flush t = true → t.val = 3 := by decide +kernel

theorem arr4 (h : At m c d y g) : (dats m 0 c).arrAt 4 cfg0.N = E2 (a := 1) (b := 2048) (fun _ j => ∑ i : Fin 2048, dg d y j i) := by
  refine (dats m 0 c).arrAt_eq_of_covers 4 _ (by decide +kernel) fun t hf z => ?_
  have e : ∀ j, acc (dg d y j) 4 = ∑ i : Fin 2048, dg d y j i := fun j => by
    rw [acc_eq, Fin.sum_univ_eq_sum_range (fun i => dg d y j i)]
  rw [after0_4, outs m c d y g h, last_flush t hf]
  simp only [e]
  refine Eq.trans ?_ (congrFun (block_E2 (fun _ j => ∑ i : Fin 2048, dg d y j i) rfl ((cfg0.win 4).blk t).view.emb
    (ind t).2.2.2.2.1 (ind t).2.2.2.2.2 (rect_emb_val (cfg0.win 4) t · 0) (rect_emb_val (cfg0.win 4) t · 1)).symm z)
  simp only [Nat.zero_mul, Nat.zero_add]
  rfl

theorem ofBits_2048 : Ideal.ofBits .f32 0x45000000#32 = ((2048 : ℝ) : EReal) := by
  simp [Ideal.ofBits, Ideal.ieee, -EReal.coe_mul]; norm_num

theorem ofBits_mhalf : Ideal.ofBits .f32 0xBF000000#32 = ((-(1 / 2) : ℝ) : EReal) := by
  simp [Ideal.ofBits, Ideal.ieee, -EReal.coe_mul]; norm_num

theorem sq_nonneg (x : EReal) : 0 ≤ x * x := by
  induction x with
  | bot => simp
  | coe a => exact_mod_cast mul_self_nonneg a
  | top => simp

/-- A row's mean square is infinite, or it is a positive number and so is every entry of the row a number. -/
theorem vr_or (y : ℕ → ℕ → EReal) (i : ℕ) (j : Fin 2048) : vr y i = ⊤ ∨ ∃ a b : ℝ, 0 < a ∧ vr y i = a ∧ y i j = b := by
  unfold vr
  rw [ofBits_2048, Cert.Mine.ofBits_eps, Ideal.div_coe (by norm_num)]
  have h0 : 0 ≤ ∑ k : Fin 2048, y i k * y i k := Finset.sum_nonneg fun k _ => sq_nonneg _
  have h1 : y i j * y i j ≤ ∑ k : Fin 2048, y i k * y i k :=
    Finset.single_le_sum (f := fun k : Fin 2048 => y i k * y i k) (fun k _ => sq_nonneg _) (Finset.mem_univ j)
  generalize (∑ k : Fin 2048, y i k * y i k) = q at h0 h1
  generalize y i j = z at h1
  induction q with
  | bot => simp at h0
  | top => left; rw [EReal.top_mul_coe_of_pos (by norm_num)]; rfl
  | coe q =>
    right
    have hq : 0 ≤ q := by exact_mod_cast h0
    have hz : z ≠ ⊤ ∧ z ≠ ⊥ := ⟨fun e => by subst e; simp at h1, fun e => by subst e; simp at h1⟩
    exact ⟨q * (1 / 2048) + Cert.Mine.eps, z.toReal, add_pos_of_nonneg_of_pos (by positivity) Cert.Mine.eps_pos,
      by rw [EReal.coe_add, EReal.coe_mul], (EReal.coe_toReal hz.1 hz.2).symm⟩

theorem twice (a : EReal) : a + a = ((2 : ℝ) : EReal) * a := by
  have h := EReal.right_distrib_of_nonneg (a := 1) (b := 1) (c := a) zero_le_one zero_le_one
  rw [one_mul] at h
  rw [← h, show (2 : ℝ) = 1 + 1 by norm_num, EReal.coe_add]
  rfl

/-- The kernel's formula is the derivative's. -/
theorem key (v s w z : EReal) (hv : v = ⊤ ∨ ∃ a b : ℝ, 0 < a ∧ v = a ∧ z = b) :
    w * Ideal.rsqrt v + z * Ideal.div (s * (((-(1 / 2) : ℝ) : EReal) * Ideal.div (Ideal.rsqrt v) v)) ((2048 : ℝ) : EReal)
        + Ideal.div (s * (((-(1 / 2) : ℝ) : EReal) * Ideal.div (Ideal.rsqrt v) v)) ((2048 : ℝ) : EReal) * z
      = Ideal.rsqrt v * (w - z * (Ideal.rsqrt v * Ideal.rsqrt v) * Ideal.div s ((2048 : ℝ) : EReal)) := by
  rcases hv with rfl | ⟨a, b, ha, rfl, rfl⟩
  · have e : Ideal.div 0 ⊤ = 0 := by simp [Ideal.div]
    have e' : Ideal.div 0 ((2048 : ℝ) : EReal) = 0 := by rw [Ideal.div_coe (by norm_num), zero_mul]
    simp only [Ideal.rsqrt_top, e, e', mul_zero, zero_mul, add_zero]
  · rw [Cert.Mine.rsqrt_real ha, Cert.Mine.div_real _ ha.ne', Ideal.div_coe (by norm_num), Ideal.div_coe (by norm_num)]
    generalize hr : (Real.sqrt a)⁻¹ = r
    have r0 : 0 ≤ r := by rw [← hr]; positivity
    have r2 : r * r = 1 / a := by rw [← hr, ← mul_inv, Real.mul_self_sqrt ha.le, one_div]
    rw [sub_eq_add_neg, EReal.left_distrib_of_nonneg_of_ne_top (by exact_mod_cast r0) (EReal.coe_ne_top r), mul_comm w, add_assoc]
    congr 1
    have e1 : (b : EReal) * (s * (((-(1 / 2) : ℝ) : EReal) * ((r / a : ℝ) : EReal)) * ((1 / 2048 : ℝ) : EReal))
        = ((b * (-(1 / 2) * (r / a)) * (1 / 2048) : ℝ) : EReal) * s := by
      simp only [EReal.coe_mul]; ac_rfl
    have e2 : (r : EReal) * -((b : EReal) * ((r : EReal) * (r : EReal)) * (s * ((1 / 2048 : ℝ) : EReal)))
        = ((-(r * b * (r * r) * (1 / 2048)) : ℝ) : EReal) * s := by
      rw [EReal.coe_neg, EReal.neg_mul, mul_neg]; simp only [EReal.coe_mul]
      congr 1; ac_rfl
    rw [mul_comm _ (b : EReal), e1, e2, twice, ← mul_assoc, ← EReal.coe_mul, r2]
    congr 2
    ring

theorem algebraic : Cert.algebraic_Kernel14Ideal_Reference14Ideal := fun m g m' g' _ he =>
  ⟨_, _, (θ_run Cert.Kernel14Ideal.defs _ _).mono (fun r h c => by
      obtain ⟨h0, h1, hs⟩ := h c
      have a := (⟨un_eq _, un_eq _, un1_eq _⟩ : At m c _ _ _)
      exact ⟨h0.trans (arr3 m c _ _ _ a), h1.trans (arr4 m c _ _ _ a), hs⟩) (Cert.Kernel14Ideal.Value.run_blocks (F := Ideal) m g),
    (θ_run Cert.Reference14Ideal.defs _ _).mono (fun r h c => by
      obtain ⟨h0, h1, hs⟩ := h c
      rw [(he c).1, (he c).2.1, (he c).2.2] at h0
      rw [(he c).1, (he c).2.1] at h1
      refine ⟨h0.trans ?_, h1.trans ?_, hs⟩
      · generalize m ((c : Thread nD τ).loc main_arg0) = A
        generalize m ((c : Thread nD τ).loc main_arg1) = B
        generalize m ((c : Thread nD τ).loc main_arg2) = C
        clear h0 h1 hs he
        funext x; idx_vars x; pointwise
        simp only [Fin.sum_univ_one]
        show _ = dy (un A) (un B) (un1 C) x0.val x1.val
        have k := key (vr (un B) x0) (∑ k : Fin 2048, un A x0 k * un1 C k * un B x0 k) (un A x0 x1 * un1 C x1) (un B x0 x1)
          (vr_or _ _ x1)
        rw [← ofBits_2048, ← ofBits_mhalf] at k
        refine Eq.trans ?_ k
        rw [show (∑ k : Fin 2048, un A x0 k * un1 C k * un B x0 k) = ∑ k : Fin 2048, un B x0 k * (un A x0 k * un1 C k) from
          Finset.sum_congr rfl fun k _ => mul_comm _ _]
        unfold vr
        simp only [un_val, un1_val]
      · generalize m ((c : Thread nD τ).loc main_arg0) = A
        generalize m ((c : Thread nD τ).loc main_arg1) = B
        clear h0 h1 hs he
        funext x; idx_vars x; pointwise
        rw [Fin.sum_univ_one]
        show _ = ∑ i : Fin 2048, dg (un A) (un B) x1 i
        refine Finset.sum_congr rfl fun i _ => ?_
        unfold dg vr
        simp only [un_val]
        rw [mul_comm, mul_assoc]) (Cert.Reference14Ideal.Value.run (F := Ideal) m' g')⟩

end Cert.Prod.PostBwd

end
-- ==== Proof.lean ====
/- The claim's proof: each program's frame, and the kernel's values against the reference's. -/
module

public import proofs.«01_k».proof.Defs
public import proofs.«01_k».proof.Proof.Mine.Same
public import proofs.«01_k».proof.Proof.Mine.Frame
public import proofs.«01_k».proof.Proof.Mine.Final
public import proofs.«01_k».proof.Proof.Mine.RefVal
public import proofs.«01_k».proof.Proof.Mine.Inputs
public import proofs.«01_k».proof.Proof.Gen.ReferenceIdeal.Run
public import proofs.«01_k».proof.Proof.Gen.Pre_finite
public import proofs.«01_k».proof.Proof.Prod.InDx
public import proofs.«01_k».proof.Proof.Prod.InDwGla
public import proofs.«01_k».proof.Proof.Prod.InDwAtt
public import proofs.«01_k».proof.Proof.Prod.OutDw
public import proofs.«01_k».proof.Proof.Prod.OutDx
public import proofs.«01_k».proof.Proof.Prod.InProj
public import proofs.«01_k».proof.Proof.Prod.OutProj
public import proofs.«01_k».proof.Proof.Prod.InDwGate
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Prod.RmsFwd
public import proofs.«01_k».proof.Proof.Prod.PostFwd
public import proofs.«01_k».proof.Proof.Prod.AdamWOut
public import proofs.«01_k».proof.Proof.Prod.PostLoss
public import proofs.«01_k».proof.Proof.Prod.PostBwd
public import proofs.«01_k».proof.Proof.Gen.Kernel10.Frame
public import proofs.«01_k».proof.Proof.Gen.Kernel10Ideal.Frame
public import proofs.«01_k».proof.Proof.Gen.Kernel11.Frame
public import proofs.«01_k».proof.Proof.Gen.Kernel11Ideal.Frame
public import proofs.«01_k».proof.Proof.Gen.Kernel12.Frame
public import proofs.«01_k».proof.Proof.Gen.Kernel12Ideal.Frame
public import proofs.«01_k».proof.Proof.Gen.Kernel13.Frame
public import proofs.«01_k».proof.Proof.Gen.Kernel13Ideal.Frame
public import proofs.«01_k».proof.Proof.Gen.Kernel14.Frame
public import proofs.«01_k».proof.Proof.Gen.Kernel14Ideal.Frame
public import Idealize.ShloMosaic.Adequacy
public import Idealize.ShloMosaic.Init

@[expose] public section

set_option maxRecDepth 16384

noncomputable section

namespace Cert.Proof

open Idealize.ShloMosaic Idealize.SL.Sem Cert.Mine

theorem frame_kernel : Cert.quiescent_Kernel := Cert.Mine.frame_kernel

theorem frame_kernelIdeal : Cert.quiescent_KernelIdeal := fun m ρ _ => Cert.KernelIdeal.Own.frame m ρ

theorem frame_kernelIdeal_finite : Cert.quiescent_KernelIdeal_pre_finite := fun m ρ _ => Cert.KernelIdeal.Own.frame m ρ

theorem frame_referenceIdeal : Cert.quiescent_ReferenceIdeal := fun m ρ _ =>
  (θ_run Cert.ReferenceIdeal.defs _ _).mono (fun r h => ⟨fun c => (h c).2.2.2.2.2.2.2.2,
      Idealize.ShloMosaic.sem_eq_zero_of_no_sems (by decide) r.2⟩)
    (Cert.ReferenceIdeal.Value.run (F := Ideal) m ρ)

theorem frame_referenceIdeal_finite : Cert.quiescent_ReferenceIdeal_pre_finite := fun m ρ _ => frame_referenceIdeal m ρ trivial

open Cert.KernelIdeal in
/-- The real arguments of a device. -/
def netOf (m : (ℓ : Loc nD τ sig) → Buf (Elt Ideal) ℓ) (c : Dev nD) : Net :=
  Inp.net (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

open Cert.KernelIdeal in
theorem at_kernel (m : (ℓ : Loc nD τ sig) → Buf (Elt Ideal) ℓ) (hp : Cert.Pre_KernelIdeal_finite m) (c : Dev nD) :
    Hv.At (netOf m c) fun b => m (c, b) := by
  obtain ⟨h0, h1, h2, h3, h4⟩ := Inp.reals _ _ _ _ _ (hp c)
  exact ⟨h0, h1, h2, h3, h4⟩

section Posts
open Cert.KernelIdeal Cert.KernelIdeal.Gen Cert.KernelIdeal.Own
variable {N : Net} (m : (ℓ : Loc nD τ sig) → Buf (Elt Ideal) ℓ) {r : PUnit × MemSt nD τ sig (Elt Ideal)}
  (h : Pipeline.FramePost cfgs (dats m) 0 (V m) r) (c : Dev nD) (hA : Hv.At N fun b => m (c, b))
include h hA

theorem post13 : r.2.mem ((c.tc : Thread nD τ).loc main_v55_0) = R2 (a := 2048) (b := 512) (fun i j => N.dq (i / 64) (i % 64) (j / 128) (j % 128)) :=
  (h.out_eq c 13).trans (Hv.arr13 m c hA)

theorem post14 : r.2.mem ((c.tc : Thread nD τ).loc main_v55_1) = R2 (a := 2048) (b := 512) (fun i j => N.dk (i / 64) (i % 64) (j / 128) (j % 128)) :=
  (h.out_eq c 14).trans (Hv.arr14 m c hA)

theorem post15 : r.2.mem ((c.tc : Thread nD τ).loc main_v55_2) = R2 (a := 2048) (b := 1024) (fun i j => N.dv (i / 64) (i % 64) (j / 256) (j % 256)) :=
  (h.out_eq c 15).trans (Hv.arr15 m c hA)

theorem post16 : r.2.mem ((c.tc : Thread nD τ).loc main_v55_3) = R2 (a := 2048) (b := 1024) N.dgg :=
  (h.out_eq c 16).trans (Hv.arr16 m c hA)

theorem post17 : r.2.mem ((c.tc : Thread nD τ).loc main_v55_4) = R2 (a := 2048) (b := 128) N.dga :=
  (h.out_eq c 17).trans (Hv.arr17 m c hA)

theorem post18 : r.2.mem ((c.tc : Thread nD τ).loc main_v55_5) = R2 (a := 128) (b := 512) N.dwa :=
  (h.out_eq c 18).trans (Hv.arr18 m c hA)

theorem post19 : r.2.mem ((c.tc : Thread nD τ).loc main_v55_6) = R2 (a := 1) (b := 512) (fun _ j => N.db j) :=
  (h.out_eq c 19).trans (Hv.arr19 m c hA)

theorem post20 : r.2.mem ((c.tc : Thread nD τ).loc main_v55_7) = R2 (a := 1) (b := 1024) (fun _ j => N.dg j) :=
  (h.out_eq c 20).trans (Hv.arr20 m c hA)

end Posts

open Cert.KernelIdeal Cert.KernelIdeal.Gen Cert.KernelIdeal.Own in
/-- What the kernel's call leaves, and the arguments kept. -/
theorem run_kernel (m : (ℓ : Loc nD τ sig) → Buf (Elt Ideal) ℓ) (g : Dev nD → PrngReg) (hp : Cert.Pre_KernelIdeal_finite m) :
    θ_run (defs (F := Ideal)) (onTc (τ := τ) (main (F := Ideal))) ⟨m, fun _ => 0, g⟩ (fun r => ∀ c : Dev nD,
      r.2.mem ((c.tc : Thread nD τ).loc main_v55_0) = R2 (a := 2048) (b := 512) (fun i j => (netOf m c).dq (i / 64) (i % 64) (j / 128) (j % 128))
      ∧ r.2.mem ((c.tc : Thread nD τ).loc main_v55_1) = R2 (a := 2048) (b := 512) (fun i j => (netOf m c).dk (i / 64) (i % 64) (j / 128) (j % 128))
      ∧ r.2.mem ((c.tc : Thread nD τ).loc main_v55_2) = R2 (a := 2048) (b := 1024) (fun i j => (netOf m c).dv (i / 64) (i % 64) (j / 256) (j % 256))
      ∧ r.2.mem ((c.tc : Thread nD τ).loc main_v55_3) = R2 (a := 2048) (b := 1024) (netOf m c).dgg
      ∧ r.2.mem ((c.tc : Thread nD τ).loc main_v55_4) = R2 (a := 2048) (b := 128) (netOf m c).dga
      ∧ r.2.mem ((c.tc : Thread nD τ).loc main_v55_5) = R2 (a := 128) (b := 512) (netOf m c).dwa
      ∧ r.2.mem ((c.tc : Thread nD τ).loc main_v55_6) = R2 (a := 1) (b := 512) (fun _ j => (netOf m c).db j)
      ∧ r.2.mem ((c.tc : Thread nD τ).loc main_v55_7) = R2 (a := 1) (b := 1024) (fun _ j => (netOf m c).dg j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
    have hA := at_kernel m hp c
    have hk := h.2 c
    refine ⟨?_, ?_, ?_, ?_, ?_, ?_, ?_, ?_, hk⟩
    · exact post13 m h.1 c hA
    · exact post14 m h.1 c hA
    · exact post15 m h.1 c hA
    · exact post16 m h.1 c hA
    · exact post17 m h.1 c hA
    · exact post18 m h.1 c hA
    · exact post19 m h.1 c hA
    · exact post20 m h.1 c hA)
    (θ_run_and (run_main m g) (unchanged m g))

theorem at_reference (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal_finite m) (c : Dev Cert.ReferenceIdeal.nD)
    (he : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Ref.At (netOf m c) (StableHlo.launchContents m' c) := by
  obtain ⟨h0, h1, h2, h3, h4⟩ := at_kernel m hp c
  obtain ⟨e0, e1, e2, e3, e4⟩ := he
  exact ⟨e0.trans h0, e1.trans h1, e2.trans h2, e3.trans h3, e4.trans h4⟩

theorem algebraic : Cert.algebraic_KernelIdeal_ReferenceIdeal_pre_finite := fun m g m' g' hp he =>
  ⟨_, _, _, _, _, _, _, _, run_kernel m g hp,
    (θ_run Cert.ReferenceIdeal.defs _ _).mono (fun r h c => by
      have hA := at_reference m m' hp c (he c)
      obtain ⟨r0, r1, r2, r3, r4, r5, r6, r7, ra⟩ := h c
      exact ⟨r0.trans (Ref.out_dq hA), r1.trans (Ref.out_dk hA), r2.trans (Ref.out_dv hA), r3.trans (Ref.out_dgg hA),
        r4.trans (Ref.out_dga hA), r5.trans (Ref.out_dwa hA), r6.trans (Ref.out_db hA), r7.trans (Ref.out_dg hA), ra⟩)
      (Cert.ReferenceIdeal.Value.run (F := Ideal) m' g')⟩

/-! The other references run to their ends with their arguments unchanged. -/

theorem frame_reference2Ideal : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem frame_reference3Ideal : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem frame_reference4Ideal : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem frame_reference5Ideal : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem frame_reference6Ideal : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

theorem frame_reference7Ideal : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

theorem frame_reference8Ideal : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

theorem frame_reference9Ideal : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

theorem frame_reference10Ideal : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

theorem frame_reference11Ideal : Cert.quiescent_Reference11Ideal := fun m ρ _ =>
  (θ_run Cert.Reference11Ideal.defs _ _).mono (fun r h => ⟨fun c => (h c).2.2, Idealize.ShloMosaic.sem_eq_zero_of_no_sems (by decide) r.2⟩)
    (Cert.Reference11Ideal.Value.run (F := Ideal) m ρ)

theorem frame_reference12Ideal : Cert.quiescent_Reference12Ideal := fun m ρ _ =>
  (θ_run Cert.Reference12Ideal.defs _ _).mono (fun r h => ⟨fun c => (h c).2.2.2.2, Idealize.ShloMosaic.sem_eq_zero_of_no_sems (by decide) r.2⟩)
    (Cert.Reference12Ideal.Value.run (F := Ideal) m ρ)

theorem frame_reference13Ideal : Cert.quiescent_Reference13Ideal := fun m ρ _ =>
  (θ_run Cert.Reference13Ideal.defs _ _).mono (fun r h => ⟨fun c => (h c).2.2, Idealize.ShloMosaic.sem_eq_zero_of_no_sems (by decide) r.2⟩)
    (Cert.Reference13Ideal.Value.run (F := Ideal) m ρ)

theorem frame_reference14Ideal : Cert.quiescent_Reference14Ideal := fun m ρ _ =>
  (θ_run Cert.Reference14Ideal.defs _ _).mono (fun r h => ⟨fun c => (h c).2.2, Idealize.ShloMosaic.sem_eq_zero_of_no_sems (by decide) r.2⟩)
    (Cert.Reference14Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Pre_finite.Gen.facts,
  frame_kernel, frame_kernelIdeal, frame_kernelIdeal_finite, frame_referenceIdeal, frame_referenceIdeal_finite,
  fun m ρ _ => Cert.Kernel2.Gen.frame m ρ, fun m ρ _ => Cert.Kernel2Ideal.Gen.frame m ρ, frame_reference2Ideal,
  fun m ρ _ => Cert.Kernel3.Gen.frame m ρ, fun m ρ _ => Cert.Kernel3Ideal.Gen.frame m ρ, frame_reference3Ideal,
  fun m ρ _ => Cert.Kernel4.Gen.frame m ρ, fun m ρ _ => Cert.Kernel4Ideal.Gen.frame m ρ, frame_reference4Ideal,
  fun m ρ _ => Cert.Kernel5.Gen.frame m ρ, fun m ρ _ => Cert.Kernel5Ideal.Gen.frame m ρ, frame_reference5Ideal,
  fun m ρ _ => Cert.Kernel6.Gen.frame m ρ, fun m ρ _ => Cert.Kernel6Ideal.Gen.frame m ρ, frame_reference6Ideal,
  fun m ρ _ => Cert.Kernel7.Gen.frame m ρ, fun m ρ _ => Cert.Kernel7Ideal.Gen.frame m ρ, frame_reference7Ideal,
  fun m ρ _ => Cert.Kernel8.Gen.frame m ρ, fun m ρ _ => Cert.Kernel8Ideal.Gen.frame m ρ, frame_reference8Ideal,
  fun m ρ _ => Cert.Kernel9.Gen.frame m ρ, fun m ρ _ => Cert.Kernel9Ideal.Gen.frame m ρ, frame_reference9Ideal,
  fun m ρ _ => Cert.Kernel10.Gen.frame m ρ, fun m ρ _ => Cert.Kernel10Ideal.Gen.frame m ρ, frame_reference10Ideal,
  fun m ρ _ => Cert.Kernel11.Gen.frame m ρ, fun m ρ _ => Cert.Kernel11Ideal.Gen.frame m ρ, frame_reference11Ideal,
  fun m ρ _ => Cert.Kernel12.Gen.frame m ρ, fun m ρ _ => Cert.Kernel12Ideal.Gen.frame m ρ, frame_reference12Ideal,
  fun m ρ _ => Cert.Kernel13.Gen.frame m ρ, fun m ρ _ => Cert.Kernel13Ideal.Gen.frame m ρ, frame_reference13Ideal,
  fun m ρ _ => Cert.Kernel14.Gen.frame m ρ, fun m ρ _ => Cert.Kernel14Ideal.Gen.frame m ρ, frame_reference14Ideal,
  trivial, algebraic,
  trivial, Cert.Prod.InDx.algebraic,
  trivial, Cert.Prod.InDwGla.algebraic,
  trivial, Cert.Prod.InDwAtt.algebraic,
  trivial, Cert.Prod.OutDw.algebraic,
  trivial, Cert.Prod.OutDx.algebraic,
  trivial, Cert.Prod.InProj.algebraic,
  trivial, Cert.Prod.OutProj.algebraic,
  trivial, Cert.Prod.InDwGate.algebraic,
  trivial, Cert.Prod.RmsFwd.algebraic,
  trivial, Cert.Prod.PostFwd.algebraic,
  trivial, Cert.Prod.AdamWOut.algebraic,
  trivial, Cert.Prod.PostLoss.algebraic,
  trivial, Cert.Prod.PostBwd.algebraic⟩

end Cert.Proof

end
